-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_SsdConv (m : (ℓ : Loc Cert.SsdConv.nD Cert.SsdConv.τ Cert.SsdConv.sig) → Buf (Elt Bits) ℓ) : Prop :=
  True

def Pre_SsdConvIdeal (m : (ℓ : Loc Cert.SsdConvIdeal.nD Cert.SsdConvIdeal.τ Cert.SsdConvIdeal.sig) → Buf (Elt Ideal) ℓ) : Prop :=
  True

def Pre_SsdConvRefIdeal (m : (ℓ : Loc Cert.SsdConvRefIdeal.nD Cert.SsdConvRefIdeal.τ Cert.SsdConvRefIdeal.sig) → Buf (Elt Ideal) ℓ) : Prop :=
  True

def Pre_ConvV (m : (ℓ : Loc Cert.ConvV.nD Cert.ConvV.τ Cert.ConvV.sig) → Buf (Elt Bits) ℓ) : Prop :=
  True

def Pre_ConvVIdeal (m : (ℓ : Loc Cert.ConvVIdeal.nD Cert.ConvVIdeal.τ Cert.ConvVIdeal.sig) → Buf (Elt Ideal) ℓ) : Prop :=
  True

def Pre_ConvVRefIdeal (m : (ℓ : Loc Cert.ConvVRefIdeal.nD Cert.ConvVRefIdeal.τ Cert.ConvVRefIdeal.sig) → Buf (Elt Ideal) ℓ) : Prop :=
  True

def Pre_ConvK (m : (ℓ : Loc Cert.ConvK.nD Cert.ConvK.τ Cert.ConvK.sig) → Buf (Elt Bits) ℓ) : Prop :=
  True

def Pre_ConvKIdeal (m : (ℓ : Loc Cert.ConvKIdeal.nD Cert.ConvKIdeal.τ Cert.ConvKIdeal.sig) → Buf (Elt Ideal) ℓ) : Prop :=
  True

def Pre_ConvKRefIdeal (m : (ℓ : Loc Cert.ConvKRefIdeal.nD Cert.ConvKRefIdeal.τ Cert.ConvKRefIdeal.sig) → Buf (Elt Ideal) ℓ) : Prop :=
  True

def Pre_ConvQ (m : (ℓ : Loc Cert.ConvQ.nD Cert.ConvQ.τ Cert.ConvQ.sig) → Buf (Elt Bits) ℓ) : Prop :=
  True

def Pre_ConvQIdeal (m : (ℓ : Loc Cert.ConvQIdeal.nD Cert.ConvQIdeal.τ Cert.ConvQIdeal.sig) → Buf (Elt Ideal) ℓ) : Prop :=
  True

def Pre_ConvQRefIdeal (m : (ℓ : Loc Cert.ConvQRefIdeal.nD Cert.ConvQRefIdeal.τ Cert.ConvQRefIdeal.sig) → Buf (Elt Ideal) ℓ) : Prop :=
  True

def Pre_InSmall (m : (ℓ : Loc Cert.InSmall.nD Cert.InSmall.τ Cert.InSmall.sig) → Buf (Elt Bits) ℓ) : Prop :=
  True

def Pre_InSmallIdeal (m : (ℓ : Loc Cert.InSmallIdeal.nD Cert.InSmallIdeal.τ Cert.InSmallIdeal.sig) → Buf (Elt Ideal) ℓ) : Prop :=
  True

def Pre_InSmallRefIdeal (m : (ℓ : Loc Cert.InSmallRefIdeal.nD Cert.InSmallRefIdeal.τ Cert.InSmallRefIdeal.sig) → Buf (Elt Ideal) ℓ) : Prop :=
  True

def Pre_InSmallDx (m : (ℓ : Loc Cert.InSmallDx.nD Cert.InSmallDx.τ Cert.InSmallDx.sig) → Buf (Elt Bits) ℓ) : Prop :=
  True

def Pre_InSmallDxIdeal (m : (ℓ : Loc Cert.InSmallDxIdeal.nD Cert.InSmallDxIdeal.τ Cert.InSmallDxIdeal.sig) → Buf (Elt Ideal) ℓ) : Prop :=
  True

def Pre_InSmallDxRefIdeal (m : (ℓ : Loc Cert.InSmallDxRefIdeal.nD Cert.InSmallDxRefIdeal.τ Cert.InSmallDxRefIdeal.sig) → Buf (Elt Ideal) ℓ) : Prop :=
  True

def Pre_InSmallDw (m : (ℓ : Loc Cert.InSmallDw.nD Cert.InSmallDw.τ Cert.InSmallDw.sig) → Buf (Elt Bits) ℓ) : Prop :=
  True

def Pre_InSmallDwIdeal (m : (ℓ : Loc Cert.InSmallDwIdeal.nD Cert.InSmallDwIdeal.τ Cert.InSmallDwIdeal.sig) → Buf (Elt Ideal) ℓ) : Prop :=
  True

def Pre_InSmallDwRefIdeal (m : (ℓ : Loc Cert.InSmallDwRefIdeal.nD Cert.InSmallDwRefIdeal.τ Cert.InSmallDwRefIdeal.sig) → Buf (Elt Ideal) ℓ) : Prop :=
  True

def Pre_ConvVFwd (m : (ℓ : Loc Cert.ConvVFwd.nD Cert.ConvVFwd.τ Cert.ConvVFwd.sig) → Buf (Elt Bits) ℓ) : Prop :=
  True

def Pre_ConvVFwdIdeal (m : (ℓ : Loc Cert.ConvVFwdIdeal.nD Cert.ConvVFwdIdeal.τ Cert.ConvVFwdIdeal.sig) → Buf (Elt Ideal) ℓ) : Prop :=
  True

def Pre_ConvVFwdRefIdeal (m : (ℓ : Loc Cert.ConvVFwdRefIdeal.nD Cert.ConvVFwdRefIdeal.τ Cert.ConvVFwdRefIdeal.sig) → Buf (Elt Ideal) ℓ) : Prop :=
  True

def Pre_ConvKFwd (m : (ℓ : Loc Cert.ConvKFwd.nD Cert.ConvKFwd.τ Cert.ConvKFwd.sig) → Buf (Elt Bits) ℓ) : Prop :=
  True

def Pre_ConvKFwdIdeal (m : (ℓ : Loc Cert.ConvKFwdIdeal.nD Cert.ConvKFwdIdeal.τ Cert.ConvKFwdIdeal.sig) → Buf (Elt Ideal) ℓ) : Prop :=
  True

def Pre_ConvKFwdRefIdeal (m : (ℓ : Loc Cert.ConvKFwdRefIdeal.nD Cert.ConvKFwdRefIdeal.τ Cert.ConvKFwdRefIdeal.sig) → Buf (Elt Ideal) ℓ) : Prop :=
  True

def Pre_ConvQFwd (m : (ℓ : Loc Cert.ConvQFwd.nD Cert.ConvQFwd.τ Cert.ConvQFwd.sig) → Buf (Elt Bits) ℓ) : Prop :=
  True

def Pre_ConvQFwdIdeal (m : (ℓ : Loc Cert.ConvQFwdIdeal.nD Cert.ConvQFwdIdeal.τ Cert.ConvQFwdIdeal.sig) → Buf (Elt Ideal) ℓ) : Prop :=
  True

def Pre_ConvQFwdRefIdeal (m : (ℓ : Loc Cert.ConvQFwdRefIdeal.nD Cert.ConvQFwdRefIdeal.τ Cert.ConvQFwdRefIdeal.sig) → Buf (Elt Ideal) ℓ) : Prop :=
  True

def Pre_SsdConvFwd (m : (ℓ : Loc Cert.SsdConvFwd.nD Cert.SsdConvFwd.τ Cert.SsdConvFwd.sig) → Buf (Elt Bits) ℓ) : Prop :=
  True

def Pre_SsdConvFwdIdeal (m : (ℓ : Loc Cert.SsdConvFwdIdeal.nD Cert.SsdConvFwdIdeal.τ Cert.SsdConvFwdIdeal.sig) → Buf (Elt Ideal) ℓ) : Prop :=
  True

def Pre_SsdConvFwdRefIdeal (m : (ℓ : Loc Cert.SsdConvFwdRefIdeal.nD Cert.SsdConvFwdRefIdeal.τ Cert.SsdConvFwdRefIdeal.sig) → Buf (Elt Ideal) ℓ) : Prop :=
  True

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutRefIdeal (m : (ℓ : Loc Cert.SsdOutRefIdeal.nD Cert.SsdOutRefIdeal.τ Cert.SsdOutRefIdeal.sig) → Buf (Elt Ideal) ℓ) : Prop :=
  True

def Pre_SsdOutFwd (m : (ℓ : Loc Cert.SsdOutFwd.nD Cert.SsdOutFwd.τ Cert.SsdOutFwd.sig) → Buf (Elt Bits) ℓ) : Prop :=
  True

def Pre_SsdOutFwdIdeal (m : (ℓ : Loc Cert.SsdOutFwdIdeal.nD Cert.SsdOutFwdIdeal.τ Cert.SsdOutFwdIdeal.sig) → Buf (Elt Ideal) ℓ) : Prop :=
  True

def Pre_SsdOutFwdRefIdeal (m : (ℓ : Loc Cert.SsdOutFwdRefIdeal.nD Cert.SsdOutFwdRefIdeal.τ Cert.SsdOutFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_SsdConv [hSsdConv : Cert.SsdConv.Facts] : Prop :=
  ∀ (m : (ℓ : Loc Cert.SsdConv.nD Cert.SsdConv.τ Cert.SsdConv.sig) → Buf (Elt Bits) ℓ) (g : Dev Cert.SsdConv.nD → PrngReg), Pre_SsdConv m →
    θ_run (Cert.SsdConv.defs (F := Bits)) (onTc (τ := Cert.SsdConv.τ) (Cert.SsdConv.main (F := Bits))) ⟨m, fun _ => 0, g⟩ (fun r => (∀ c : Dev Cert.SsdConv.nD,
      r.2.mem ((c.tc : Thread Cert.SsdConv.nD Cert.SsdConv.τ).loc Cert.SsdConv.main_arg0) = m ((c.tc : Thread Cert.SsdConv.nD Cert.SsdConv.τ).loc Cert.SsdConv.main_arg0)
      ∧ r.2.mem ((c.tc : Thread Cert.SsdConv.nD Cert.SsdConv.τ).loc Cert.SsdConv.main_arg1) = m ((c.tc : Thread Cert.SsdConv.nD Cert.SsdConv.τ).loc Cert.SsdConv.main_arg1)
      ∧ r.2.mem ((c.tc : Thread Cert.SsdConv.nD Cert.SsdConv.τ).loc Cert.SsdConv.main_arg2) = m ((c.tc : Thread Cert.SsdConv.nD Cert.SsdConv.τ).loc Cert.SsdConv.main_arg2)
      ∧ r.2.mem ((c.tc : Thread Cert.SsdConv.nD Cert.SsdConv.τ).loc Cert.SsdConv.main_arg3) = m ((c.tc : Thread Cert.SsdConv.nD Cert.SsdConv.τ).loc Cert.SsdConv.main_arg3)
      ∧ r.2.mem ((c.tc : Thread Cert.SsdConv.nD Cert.SsdConv.τ).loc Cert.SsdConv.main_arg4) = m ((c.tc : Thread Cert.SsdConv.nD Cert.SsdConv.τ).loc Cert.SsdConv.main_arg4))
      ∧ r.2.sem = fun _ => 0)

def quiescent_SsdConvIdeal [hSsdConvIdeal : Cert.SsdConvIdeal.Facts] : Prop :=
  ∀ (m : (ℓ : Loc Cert.SsdConvIdeal.nD Cert.SsdConvIdeal.τ Cert.SsdConvIdeal.sig) → Buf (Elt Ideal) ℓ) (g : Dev Cert.SsdConvIdeal.nD → PrngReg), Pre_SsdConvIdeal m →
    θ_run (Cert.SsdConvIdeal.defs (F := Ideal)) (onTc (τ := Cert.SsdConvIdeal.τ) (Cert.SsdConvIdeal.main (F := Ideal))) ⟨m, fun _ => 0, g⟩ (fun r => (∀ c : Dev Cert.SsdConvIdeal.nD,
      r.2.mem ((c.tc : Thread Cert.SsdConvIdeal.nD Cert.SsdConvIdeal.τ).loc Cert.SsdConvIdeal.main_arg0) = m ((c.tc : Thread Cert.SsdConvIdeal.nD Cert.SsdConvIdeal.τ).loc Cert.SsdConvIdeal.main_arg0)
      ∧ r.2.mem ((c.tc : Thread Cert.SsdConvIdeal.nD Cert.SsdConvIdeal.τ).loc Cert.SsdConvIdeal.main_arg1) = m ((c.tc : Thread Cert.SsdConvIdeal.nD Cert.SsdConvIdeal.τ).loc Cert.SsdConvIdeal.main_arg1)
      ∧ r.2.mem ((c.tc : Thread Cert.SsdConvIdeal.nD Cert.SsdConvIdeal.τ).loc Cert.SsdConvIdeal.main_arg2) = m ((c.tc : Thread Cert.SsdConvIdeal.nD Cert.SsdConvIdeal.τ).loc Cert.SsdConvIdeal.main_arg2)
      ∧ r.2.mem ((c.tc : Thread Cert.SsdConvIdeal.nD Cert.SsdConvIdeal.τ).loc Cert.SsdConvIdeal.main_arg3) = m ((c.tc : Thread Cert.SsdConvIdeal.nD Cert.SsdConvIdeal.τ).loc Cert.SsdConvIdeal.main_arg3)
      ∧ r.2.mem ((c.tc : Thread Cert.SsdConvIdeal.nD Cert.SsdConvIdeal.τ).loc Cert.SsdConvIdeal.main_arg4) = m ((c.tc : Thread Cert.SsdConvIdeal.nD Cert.SsdConvIdeal.τ).loc Cert.SsdConvIdeal.main_arg4))
      ∧ r.2.sem = fun _ => 0)

def quiescent_SsdConvRefIdeal [hSsdConvRefIdeal : Cert.SsdConvRefIdeal.Facts] : Prop :=
  ∀ (m : (ℓ : Loc Cert.SsdConvRefIdeal.nD Cert.SsdConvRefIdeal.τ Cert.SsdConvRefIdeal.sig) → Buf (Elt Ideal) ℓ) (g : Dev Cert.SsdConvRefIdeal.nD → PrngReg), Pre_SsdConvRefIdeal m →
    θ_run (Cert.SsdConvRefIdeal.defs (F := Ideal)) (onTc (τ := Cert.SsdConvRefIdeal.τ) (Cert.SsdConvRefIdeal.main (F := Ideal))) ⟨m, fun _ => 0, g⟩ (fun r => (∀ c : Dev Cert.SsdConvRefIdeal.nD,
      r.2.mem ((c.tc : Thread Cert.SsdConvRefIdeal.nD Cert.SsdConvRefIdeal.τ).loc Cert.SsdConvRefIdeal.main_arg0) = m ((c.tc : Thread Cert.SsdConvRefIdeal.nD Cert.SsdConvRefIdeal.τ).loc Cert.SsdConvRefIdeal.main_arg0)
      ∧ r.2.mem ((c.tc : Thread Cert.SsdConvRefIdeal.nD Cert.SsdConvRefIdeal.τ).loc Cert.SsdConvRefIdeal.main_arg1) = m ((c.tc : Thread Cert.SsdConvRefIdeal.nD Cert.SsdConvRefIdeal.τ).loc Cert.SsdConvRefIdeal.main_arg1)
      ∧ r.2.mem ((c.tc : Thread Cert.SsdConvRefIdeal.nD Cert.SsdConvRefIdeal.τ).loc Cert.SsdConvRefIdeal.main_arg2) = m ((c.tc : Thread Cert.SsdConvRefIdeal.nD Cert.SsdConvRefIdeal.τ).loc Cert.SsdConvRefIdeal.main_arg2)
      ∧ r.2.mem ((c.tc : Thread Cert.SsdConvRefIdeal.nD Cert.SsdConvRefIdeal.τ).loc Cert.SsdConvRefIdeal.main_arg3) = m ((c.tc : Thread Cert.SsdConvRefIdeal.nD Cert.SsdConvRefIdeal.τ).loc Cert.SsdConvRefIdeal.main_arg3)
      ∧ r.2.mem ((c.tc : Thread Cert.SsdConvRefIdeal.nD Cert.SsdConvRefIdeal.τ).loc Cert.SsdConvRefIdeal.main_arg4) = m ((c.tc : Thread Cert.SsdConvRefIdeal.nD Cert.SsdConvRefIdeal.τ).loc Cert.SsdConvRefIdeal.main_arg4))
      ∧ r.2.sem = fun _ => 0)

def quiescent_ConvV [hConvV : Cert.ConvV.Facts] : Prop :=
  ∀ (m : (ℓ : Loc Cert.ConvV.nD Cert.ConvV.τ Cert.ConvV.sig) → Buf (Elt Bits) ℓ) (g : Dev Cert.ConvV.nD → PrngReg), Pre_ConvV m →
    θ_run (Cert.ConvV.defs (F := Bits)) (onTc (τ := Cert.ConvV.τ) (Cert.ConvV.main (F := Bits))) ⟨m, fun _ => 0, g⟩ (fun r => (∀ c : Dev Cert.ConvV.nD,
      r.2.mem ((c.tc : Thread Cert.ConvV.nD Cert.ConvV.τ).loc Cert.ConvV.main_arg0) = m ((c.tc : Thread Cert.ConvV.nD Cert.ConvV.τ).loc Cert.ConvV.main_arg0)
      ∧ r.2.mem ((c.tc : Thread Cert.ConvV.nD Cert.ConvV.τ).loc Cert.ConvV.main_arg1) = m ((c.tc : Thread Cert.ConvV.nD Cert.ConvV.τ).loc Cert.ConvV.main_arg1)
      ∧ r.2.mem ((c.tc : Thread Cert.ConvV.nD Cert.ConvV.τ).loc Cert.ConvV.main_arg2) = m ((c.tc : Thread Cert.ConvV.nD Cert.ConvV.τ).loc Cert.ConvV.main_arg2)
      ∧ r.2.mem ((c.tc : Thread Cert.ConvV.nD Cert.ConvV.τ).loc Cert.ConvV.main_arg3) = m ((c.tc : Thread Cert.ConvV.nD Cert.ConvV.τ).loc Cert.ConvV.main_arg3))
      ∧ r.2.sem = fun _ => 0)

def quiescent_ConvVIdeal [hConvVIdeal : Cert.ConvVIdeal.Facts] : Prop :=
  ∀ (m : (ℓ : Loc Cert.ConvVIdeal.nD Cert.ConvVIdeal.τ Cert.ConvVIdeal.sig) → Buf (Elt Ideal) ℓ) (g : Dev Cert.ConvVIdeal.nD → PrngReg), Pre_ConvVIdeal m →
    θ_run (Cert.ConvVIdeal.defs (F := Ideal)) (onTc (τ := Cert.ConvVIdeal.τ) (Cert.ConvVIdeal.main (F := Ideal))) ⟨m, fun _ => 0, g⟩ (fun r => (∀ c : Dev Cert.ConvVIdeal.nD,
      r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
      ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1)
      ∧ r.2.mem ((c.tc : Thread Cert.ConvVIdeal.nD Cert.ConvVIdeal.τ).loc Cert.ConvVIdeal.main_arg2) = m ((c.tc : Thread Cert.ConvVIdeal.nD Cert.ConvVIdeal.τ).loc Cert.ConvVIdeal.main_arg2)
      ∧ r.2.mem ((c.tc : Thread Cert.ConvVIdeal.nD Cert.ConvVIdeal.τ).loc Cert.ConvVIdeal.main_arg3) = m ((c.tc : Thread Cert.ConvVIdeal.nD Cert.ConvVIdeal.τ).loc Cert.ConvVIdeal.main_arg3))
      ∧ r.2.sem = fun _ => 0)

def quiescent_ConvVRefIdeal [hConvVRefIdeal : Cert.ConvVRefIdeal.Facts] : Prop :=
  ∀ (m : (ℓ : Loc Cert.ConvVRefIdeal.nD Cert.ConvVRefIdeal.τ Cert.ConvVRefIdeal.sig) → Buf (Elt Ideal) ℓ) (g : Dev Cert.ConvVRefIdeal.nD → PrngReg), Pre_ConvVRefIdeal m →
    θ_run (Cert.ConvVRefIdeal.defs (F := Ideal)) (onTc (τ := Cert.ConvVRefIdeal.τ) (Cert.ConvVRefIdeal.main (F := Ideal))) ⟨m, fun _ => 0, g⟩ (fun r => (∀ c : Dev Cert.ConvVRefIdeal.nD,
      r.2.mem ((c.tc : Thread Cert.ConvVRefIdeal.nD Cert.ConvVRefIdeal.τ).loc Cert.ConvVRefIdeal.main_arg0) = m ((c.tc : Thread Cert.ConvVRefIdeal.nD Cert.ConvVRefIdeal.τ).loc Cert.ConvVRefIdeal.main_arg0)
      ∧ r.2.mem ((c.tc : Thread Cert.ConvVRefIdeal.nD Cert.ConvVRefIdeal.τ).loc Cert.ConvVRefIdeal.main_arg1) = m ((c.tc : Thread Cert.ConvVRefIdeal.nD Cert.ConvVRefIdeal.τ).loc Cert.ConvVRefIdeal.main_arg1)
      ∧ r.2.mem ((c.tc : Thread Cert.ConvVRefIdeal.nD Cert.ConvVRefIdeal.τ).loc Cert.ConvVRefIdeal.main_arg2) = m ((c.tc : Thread Cert.ConvVRefIdeal.nD Cert.ConvVRefIdeal.τ).loc Cert.ConvVRefIdeal.main_arg2)
      ∧ r.2.mem ((c.tc : Thread Cert.ConvVRefIdeal.nD Cert.ConvVRefIdeal.τ).loc Cert.ConvVRefIdeal.main_arg3) = m ((c.tc : Thread Cert.ConvVRefIdeal.nD Cert.ConvVRefIdeal.τ).loc Cert.ConvVRefIdeal.main_arg3))
      ∧ r.2.sem = fun _ => 0)

def quiescent_ConvK [hConvK : Cert.ConvK.Facts] : Prop :=
  ∀ (m : (ℓ : Loc Cert.ConvK.nD Cert.ConvK.τ Cert.ConvK.sig) → Buf (Elt Bits) ℓ) (g : Dev Cert.ConvK.nD → PrngReg), Pre_ConvK m →
    θ_run (Cert.ConvK.defs (F := Bits)) (onTc (τ := Cert.ConvK.τ) (Cert.ConvK.main (F := Bits))) ⟨m, fun _ => 0, g⟩ (fun r => (∀ c : Dev Cert.ConvK.nD,
      r.2.mem ((c.tc : Thread Cert.ConvK.nD Cert.ConvK.τ).loc Cert.ConvK.main_arg0) = m ((c.tc : Thread Cert.ConvK.nD Cert.ConvK.τ).loc Cert.ConvK.main_arg0)
      ∧ r.2.mem ((c.tc : Thread Cert.ConvK.nD Cert.ConvK.τ).loc Cert.ConvK.main_arg1) = m ((c.tc : Thread Cert.ConvK.nD Cert.ConvK.τ).loc Cert.ConvK.main_arg1)
      ∧ r.2.mem ((c.tc : Thread Cert.ConvK.nD Cert.ConvK.τ).loc Cert.ConvK.main_arg2) = m ((c.tc : Thread Cert.ConvK.nD Cert.ConvK.τ).loc Cert.ConvK.main_arg2)
      ∧ r.2.mem ((c.tc : Thread Cert.ConvK.nD Cert.ConvK.τ).loc Cert.ConvK.main_arg3) = m ((c.tc : Thread Cert.ConvK.nD Cert.ConvK.τ).loc Cert.ConvK.main_arg3))
      ∧ r.2.sem = fun _ => 0)

def quiescent_ConvKIdeal [hConvKIdeal : Cert.ConvKIdeal.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
      ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
      ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3))
      ∧ r.2.sem = fun _ => 0)

def quiescent_ConvKRefIdeal [hConvKRefIdeal : Cert.ConvKRefIdeal.Facts] : Prop :=
  ∀ (m : (ℓ : Loc Cert.ConvKRefIdeal.nD Cert.ConvKRefIdeal.τ Cert.ConvKRefIdeal.sig) → Buf (Elt Ideal) ℓ) (g : Dev Cert.ConvKRefIdeal.nD → PrngReg), Pre_ConvKRefIdeal m →
    θ_run (Cert.ConvKRefIdeal.defs (F := Ideal)) (onTc (τ := Cert.ConvKRefIdeal.τ) (Cert.ConvKRefIdeal.main (F := Ideal))) ⟨m, fun _ => 0, g⟩ (fun r => (∀ c : Dev Cert.ConvKRefIdeal.nD,
      r.2.mem ((c.tc : Thread Cert.ConvKRefIdeal.nD Cert.ConvKRefIdeal.τ).loc Cert.ConvKRefIdeal.main_arg0) = m ((c.tc : Thread Cert.ConvKRefIdeal.nD Cert.ConvKRefIdeal.τ).loc Cert.ConvKRefIdeal.main_arg0)
      ∧ r.2.mem ((c.tc : Thread Cert.ConvKRefIdeal.nD Cert.ConvKRefIdeal.τ).loc Cert.ConvKRefIdeal.main_arg1) = m ((c.tc : Thread Cert.ConvKRefIdeal.nD Cert.ConvKRefIdeal.τ).loc Cert.ConvKRefIdeal.main_arg1)
      ∧ r.2.mem ((c.tc : Thread Cert.ConvKRefIdeal.nD Cert.ConvKRefIdeal.τ).loc Cert.ConvKRefIdeal.main_arg2) = m ((c.tc : Thread Cert.ConvKRefIdeal.nD Cert.ConvKRefIdeal.τ).loc Cert.ConvKRefIdeal.main_arg2)
      ∧ r.2.mem ((c.tc : Thread Cert.ConvKRefIdeal.nD Cert.ConvKRefIdeal.τ).loc Cert.ConvKRefIdeal.main_arg3) = m ((c.tc : Thread Cert.ConvKRefIdeal.nD Cert.ConvKRefIdeal.τ).loc Cert.ConvKRefIdeal.main_arg3))
      ∧ r.2.sem = fun _ => 0)

def quiescent_ConvQ [hConvQ : Cert.ConvQ.Facts] : Prop :=
  ∀ (m : (ℓ : Loc Cert.ConvQ.nD Cert.ConvQ.τ Cert.ConvQ.sig) → Buf (Elt Bits) ℓ) (g : Dev Cert.ConvQ.nD → PrngReg), Pre_ConvQ m →
    θ_run (Cert.ConvQ.defs (F := Bits)) (onTc (τ := Cert.ConvQ.τ) (Cert.ConvQ.main (F := Bits))) ⟨m, fun _ => 0, g⟩ (fun r => (∀ c : Dev Cert.ConvQ.nD,
      r.2.mem ((c.tc : Thread Cert.ConvQ.nD Cert.ConvQ.τ).loc Cert.ConvQ.main_arg0) = m ((c.tc : Thread Cert.ConvQ.nD Cert.ConvQ.τ).loc Cert.ConvQ.main_arg0)
      ∧ r.2.mem ((c.tc : Thread Cert.ConvQ.nD Cert.ConvQ.τ).loc Cert.ConvQ.main_arg1) = m ((c.tc : Thread Cert.ConvQ.nD Cert.ConvQ.τ).loc Cert.ConvQ.main_arg1)
      ∧ r.2.mem ((c.tc : Thread Cert.ConvQ.nD Cert.ConvQ.τ).loc Cert.ConvQ.main_arg2) = m ((c.tc : Thread Cert.ConvQ.nD Cert.ConvQ.τ).loc Cert.ConvQ.main_arg2)
      ∧ r.2.mem ((c.tc : Thread Cert.ConvQ.nD Cert.ConvQ.τ).loc Cert.ConvQ.main_arg3) = m ((c.tc : Thread Cert.ConvQ.nD Cert.ConvQ.τ).loc Cert.ConvQ.main_arg3))
      ∧ r.2.sem = fun _ => 0)

def quiescent_ConvQIdeal [hConvQIdeal : Cert.ConvQIdeal.Facts] : Prop :=
  ∀ (m : (ℓ : Loc Cert.ConvQIdeal.nD Cert.ConvQIdeal.τ Cert.ConvQIdeal.sig) → Buf (Elt Ideal) ℓ) (g : Dev Cert.ConvQIdeal.nD → PrngReg), Pre_ConvQIdeal m →
    θ_run (Cert.ConvQIdeal.defs (F := Ideal)) (onTc (τ := Cert.ConvQIdeal.τ) (Cert.ConvQIdeal.main (F := Ideal))) ⟨m, fun _ => 0, g⟩ (fun r => (∀ c : Dev Cert.ConvQIdeal.nD,
      r.2.mem ((c.tc : Thread Cert.ConvQIdeal.nD Cert.ConvQIdeal.τ).loc Cert.ConvQIdeal.main_arg0) = m ((c.tc : Thread Cert.ConvQIdeal.nD Cert.ConvQIdeal.τ).loc Cert.ConvQIdeal.main_arg0)
      ∧ r.2.mem ((c.tc : Thread Cert.ConvQIdeal.nD Cert.ConvQIdeal.τ).loc Cert.ConvQIdeal.main_arg1) = m ((c.tc : Thread Cert.ConvQIdeal.nD Cert.ConvQIdeal.τ).loc Cert.ConvQIdeal.main_arg1)
      ∧ r.2.mem ((c.tc : Thread Cert.ConvQIdeal.nD Cert.ConvQIdeal.τ).loc Cert.ConvQIdeal.main_arg2) = m ((c.tc : Thread Cert.ConvQIdeal.nD Cert.ConvQIdeal.τ).loc Cert.ConvQIdeal.main_arg2)
      ∧ r.2.mem ((c.tc : Thread Cert.ConvQIdeal.nD Cert.ConvQIdeal.τ).loc Cert.ConvQIdeal.main_arg3) = m ((c.tc : Thread Cert.ConvQIdeal.nD Cert.ConvQIdeal.τ).loc Cert.ConvQIdeal.main_arg3))
      ∧ r.2.sem = fun _ => 0)

def quiescent_ConvQRefIdeal [hConvQRefIdeal : Cert.ConvQRefIdeal.Facts] : Prop :=
  ∀ (m : (ℓ : Loc Cert.ConvQRefIdeal.nD Cert.ConvQRefIdeal.τ Cert.ConvQRefIdeal.sig) → Buf (Elt Ideal) ℓ) (g : Dev Cert.ConvQRefIdeal.nD → PrngReg), Pre_ConvQRefIdeal m →
    θ_run (Cert.ConvQRefIdeal.defs (F := Ideal)) (onTc (τ := Cert.ConvQRefIdeal.τ) (Cert.ConvQRefIdeal.main (F := Ideal))) ⟨m, fun _ => 0, g⟩ (fun r => (∀ c : Dev Cert.ConvQRefIdeal.nD,
      r.2.mem ((c.tc : Thread Cert.ConvQRefIdeal.nD Cert.ConvQRefIdeal.τ).loc Cert.ConvQRefIdeal.main_arg0) = m ((c.tc : Thread Cert.ConvQRefIdeal.nD Cert.ConvQRefIdeal.τ).loc Cert.ConvQRefIdeal.main_arg0)
      ∧ r.2.mem ((c.tc : Thread Cert.ConvQRefIdeal.nD Cert.ConvQRefIdeal.τ).loc Cert.ConvQRefIdeal.main_arg1) = m ((c.tc : Thread Cert.ConvQRefIdeal.nD Cert.ConvQRefIdeal.τ).loc Cert.ConvQRefIdeal.main_arg1)
      ∧ r.2.mem ((c.tc : Thread Cert.ConvQRefIdeal.nD Cert.ConvQRefIdeal.τ).loc Cert.ConvQRefIdeal.main_arg2) = m ((c.tc : Thread Cert.ConvQRefIdeal.nD Cert.ConvQRefIdeal.τ).loc Cert.ConvQRefIdeal.main_arg2)
      ∧ r.2.mem ((c.tc : Thread Cert.ConvQRefIdeal.nD Cert.ConvQRefIdeal.τ).loc Cert.ConvQRefIdeal.main_arg3) = m ((c.tc : Thread Cert.ConvQRefIdeal.nD Cert.ConvQRefIdeal.τ).loc Cert.ConvQRefIdeal.main_arg3))
      ∧ r.2.sem = fun _ => 0)

def quiescent_InSmall [hInSmall : Cert.InSmall.Facts] : Prop :=
  ∀ (m : (ℓ : Loc Cert.InSmall.nD Cert.InSmall.τ Cert.InSmall.sig) → Buf (Elt Bits) ℓ) (g : Dev Cert.InSmall.nD → PrngReg), Pre_InSmall m →
    θ_run (Cert.InSmall.defs (F := Bits)) (onTc (τ := Cert.InSmall.τ) (Cert.InSmall.main (F := Bits))) ⟨m, fun _ => 0, g⟩ (fun r => (∀ c : Dev Cert.InSmall.nD,
      r.2.mem ((c.tc : Thread Cert.InSmall.nD Cert.InSmall.τ).loc Cert.InSmall.main_arg0) = m ((c.tc : Thread Cert.InSmall.nD Cert.InSmall.τ).loc Cert.InSmall.main_arg0)
      ∧ r.2.mem ((c.tc : Thread Cert.InSmall.nD Cert.InSmall.τ).loc Cert.InSmall.main_arg1) = m ((c.tc : Thread Cert.InSmall.nD Cert.InSmall.τ).loc Cert.InSmall.main_arg1))
      ∧ r.2.sem = fun _ => 0)

def quiescent_InSmallIdeal [hInSmallIdeal : Cert.InSmallIdeal.Facts] : Prop :=
  ∀ (m : (ℓ : Loc Cert.InSmallIdeal.nD Cert.InSmallIdeal.τ Cert.InSmallIdeal.sig) → Buf (Elt Ideal) ℓ) (g : Dev Cert.InSmallIdeal.nD → PrngReg), Pre_InSmallIdeal m →
    θ_run (Cert.InSmallIdeal.defs (F := Ideal)) (onTc (τ := Cert.InSmallIdeal.τ) (Cert.InSmallIdeal.main (F := Ideal))) ⟨m, fun _ => 0, g⟩ (fun r => (∀ c : Dev Cert.InSmallIdeal.nD,
      r.2.mem ((c.tc : Thread Cert.InSmallIdeal.nD Cert.InSmallIdeal.τ).loc Cert.InSmallIdeal.main_arg0) = m ((c.tc : Thread Cert.InSmallIdeal.nD Cert.InSmallIdeal.τ).loc Cert.InSmallIdeal.main_arg0)
      ∧ r.2.mem ((c.tc : Thread Cert.InSmallIdeal.nD Cert.InSmallIdeal.τ).loc Cert.InSmallIdeal.main_arg1) = m ((c.tc : Thread Cert.InSmallIdeal.nD Cert.InSmallIdeal.τ).loc Cert.InSmallIdeal.main_arg1))
      ∧ r.2.sem = fun _ => 0)

def quiescent_InSmallRefIdeal [hInSmallRefIdeal : Cert.InSmallRefIdeal.Facts] : Prop :=
  ∀ (m : (ℓ : Loc Cert.InSmallRefIdeal.nD Cert.InSmallRefIdeal.τ Cert.InSmallRefIdeal.sig) → Buf (Elt Ideal) ℓ) (g : Dev Cert.InSmallRefIdeal.nD → PrngReg), Pre_InSmallRefIdeal m →
    θ_run (Cert.InSmallRefIdeal.defs (F := Ideal)) (onTc (τ := Cert.InSmallRefIdeal.τ) (Cert.InSmallRefIdeal.main (F := Ideal))) ⟨m, fun _ => 0, g⟩ (fun r => (∀ c : Dev Cert.InSmallRefIdeal.nD,
      r.2.mem ((c.tc : Thread Cert.InSmallRefIdeal.nD Cert.InSmallRefIdeal.τ).loc Cert.InSmallRefIdeal.main_arg0) = m ((c.tc : Thread Cert.InSmallRefIdeal.nD Cert.InSmallRefIdeal.τ).loc Cert.InSmallRefIdeal.main_arg0)
      ∧ r.2.mem ((c.tc : Thread Cert.InSmallRefIdeal.nD Cert.InSmallRefIdeal.τ).loc Cert.InSmallRefIdeal.main_arg1) = m ((c.tc : Thread Cert.InSmallRefIdeal.nD Cert.InSmallRefIdeal.τ).loc Cert.InSmallRefIdeal.main_arg1))
      ∧ r.2.sem = fun _ => 0)

def quiescent_InSmallDx [hInSmallDx : Cert.InSmallDx.Facts] : Prop :=
  ∀ (m : (ℓ : Loc Cert.InSmallDx.nD Cert.InSmallDx.τ Cert.InSmallDx.sig) → Buf (Elt Bits) ℓ) (g : Dev Cert.InSmallDx.nD → PrngReg), Pre_InSmallDx m →
    θ_run (Cert.InSmallDx.defs (F := Bits)) (onTc (τ := Cert.InSmallDx.τ) (Cert.InSmallDx.main (F := Bits))) ⟨m, fun _ => 0, g⟩ (fun r => (∀ c : Dev Cert.InSmallDx.nD,
      r.2.mem ((c.tc : Thread Cert.InSmallDx.nD Cert.InSmallDx.τ).loc Cert.InSmallDx.main_arg0) = m ((c.tc : Thread Cert.InSmallDx.nD Cert.InSmallDx.τ).loc Cert.InSmallDx.main_arg0)
      ∧ r.2.mem ((c.tc : Thread Cert.InSmallDx.nD Cert.InSmallDx.τ).loc Cert.InSmallDx.main_arg1) = m ((c.tc : Thread Cert.InSmallDx.nD Cert.InSmallDx.τ).loc Cert.InSmallDx.main_arg1))
      ∧ r.2.sem = fun _ => 0)

def quiescent_InSmallDxIdeal [hInSmallDxIdeal : Cert.InSmallDxIdeal.Facts] : Prop :=
  ∀ (m : (ℓ : Loc Cert.InSmallDxIdeal.nD Cert.InSmallDxIdeal.τ Cert.InSmallDxIdeal.sig) → Buf (Elt Ideal) ℓ) (g : Dev Cert.InSmallDxIdeal.nD → PrngReg), Pre_InSmallDxIdeal m →
    θ_run (Cert.InSmallDxIdeal.defs (F := Ideal)) (onTc (τ := Cert.InSmallDxIdeal.τ) (Cert.InSmallDxIdeal.main (F := Ideal))) ⟨m, fun _ => 0, g⟩ (fun r => (∀ c : Dev Cert.InSmallDxIdeal.nD,
      r.2.mem ((c.tc : Thread Cert.InSmallDxIdeal.nD Cert.InSmallDxIdeal.τ).loc Cert.InSmallDxIdeal.main_arg0) = m ((c.tc : Thread Cert.InSmallDxIdeal.nD Cert.InSmallDxIdeal.τ).loc Cert.InSmallDxIdeal.main_arg0)
      ∧ r.2.mem ((c.tc : Thread Cert.InSmallDxIdeal.nD Cert.InSmallDxIdeal.τ).loc Cert.InSmallDxIdeal.main_arg1) = m ((c.tc : Thread Cert.InSmallDxIdeal.nD Cert.InSmallDxIdeal.τ).loc Cert.InSmallDxIdeal.main_arg1))
      ∧ r.2.sem = fun _ => 0)

def quiescent_InSmallDxRefIdeal [hInSmallDxRefIdeal : Cert.InSmallDxRefIdeal.Facts] : Prop :=
  ∀ (m : (ℓ : Loc Cert.InSmallDxRefIdeal.nD Cert.InSmallDxRefIdeal.τ Cert.InSmallDxRefIdeal.sig) → Buf (Elt Ideal) ℓ) (g : Dev Cert.InSmallDxRefIdeal.nD → PrngReg), Pre_InSmallDxRefIdeal m →
    θ_run (Cert.InSmallDxRefIdeal.defs (F := Ideal)) (onTc (τ := Cert.InSmallDxRefIdeal.τ) (Cert.InSmallDxRefIdeal.main (F := Ideal))) ⟨m, fun _ => 0, g⟩ (fun r => (∀ c : Dev Cert.InSmallDxRefIdeal.nD,
      r.2.mem ((c.tc : Thread Cert.InSmallDxRefIdeal.nD Cert.InSmallDxRefIdeal.τ).loc Cert.InSmallDxRefIdeal.main_arg0) = m ((c.tc : Thread Cert.InSmallDxRefIdeal.nD Cert.InSmallDxRefIdeal.τ).loc Cert.InSmallDxRefIdeal.main_arg0)
      ∧ r.2.mem ((c.tc : Thread Cert.InSmallDxRefIdeal.nD Cert.InSmallDxRefIdeal.τ).loc Cert.InSmallDxRefIdeal.main_arg1) = m ((c.tc : Thread Cert.InSmallDxRefIdeal.nD Cert.InSmallDxRefIdeal.τ).loc Cert.InSmallDxRefIdeal.main_arg1))
      ∧ r.2.sem = fun _ => 0)

def quiescent_InSmallDw [hInSmallDw : Cert.InSmallDw.Facts] : Prop :=
  ∀ (m : (ℓ : Loc Cert.InSmallDw.nD Cert.InSmallDw.τ Cert.InSmallDw.sig) → Buf (Elt Bits) ℓ) (g : Dev Cert.InSmallDw.nD → PrngReg), Pre_InSmallDw m →
    θ_run (Cert.InSmallDw.defs (F := Bits)) (onTc (τ := Cert.InSmallDw.τ) (Cert.InSmallDw.main (F := Bits))) ⟨m, fun _ => 0, g⟩ (fun r => (∀ c : Dev Cert.InSmallDw.nD,
      r.2.mem ((c.tc : Thread Cert.InSmallDw.nD Cert.InSmallDw.τ).loc Cert.InSmallDw.main_arg0) = m ((c.tc : Thread Cert.InSmallDw.nD Cert.InSmallDw.τ).loc Cert.InSmallDw.main_arg0)
      ∧ r.2.mem ((c.tc : Thread Cert.InSmallDw.nD Cert.InSmallDw.τ).loc Cert.InSmallDw.main_arg1) = m ((c.tc : Thread Cert.InSmallDw.nD Cert.InSmallDw.τ).loc Cert.InSmallDw.main_arg1))
      ∧ r.2.sem = fun _ => 0)

def quiescent_InSmallDwIdeal [hInSmallDwIdeal : Cert.InSmallDwIdeal.Facts] : Prop :=
  ∀ (m : (ℓ : Loc Cert.InSmallDwIdeal.nD Cert.InSmallDwIdeal.τ Cert.InSmallDwIdeal.sig) → Buf (Elt Ideal) ℓ) (g : Dev Cert.InSmallDwIdeal.nD → PrngReg), Pre_InSmallDwIdeal m →
    θ_run (Cert.InSmallDwIdeal.defs (F := Ideal)) (onTc (τ := Cert.InSmallDwIdeal.τ) (Cert.InSmallDwIdeal.main (F := Ideal))) ⟨m, fun _ => 0, g⟩ (fun r => (∀ c : Dev Cert.InSmallDwIdeal.nD,
      r.2.mem ((c.tc : Thread Cert.InSmallDwIdeal.nD Cert.InSmallDwIdeal.τ).loc Cert.InSmallDwIdeal.main_arg0) = m ((c.tc : Thread Cert.InSmallDwIdeal.nD Cert.InSmallDwIdeal.τ).loc Cert.InSmallDwIdeal.main_arg0)
      ∧ r.2.mem ((c.tc : Thread Cert.InSmallDwIdeal.nD Cert.InSmallDwIdeal.τ).loc Cert.InSmallDwIdeal.main_arg1) = m ((c.tc : Thread Cert.InSmallDwIdeal.nD Cert.InSmallDwIdeal.τ).loc Cert.InSmallDwIdeal.main_arg1))
      ∧ r.2.sem = fun _ => 0)

def quiescent_InSmallDwRefIdeal [hInSmallDwRefIdeal : Cert.InSmallDwRefIdeal.Facts] : Prop :=
  ∀ (m : (ℓ : Loc Cert.InSmallDwRefIdeal.nD Cert.InSmallDwRefIdeal.τ Cert.InSmallDwRefIdeal.sig) → Buf (Elt Ideal) ℓ) (g : Dev Cert.InSmallDwRefIdeal.nD → PrngReg), Pre_InSmallDwRefIdeal m →
    θ_run (Cert.InSmallDwRefIdeal.defs (F := Ideal)) (onTc (τ := Cert.InSmallDwRefIdeal.τ) (Cert.InSmallDwRefIdeal.main (F := Ideal))) ⟨m, fun _ => 0, g⟩ (fun r => (∀ c : Dev Cert.InSmallDwRefIdeal.nD,
      r.2.mem ((c.tc : Thread Cert.InSmallDwRefIdeal.nD Cert.InSmallDwRefIdeal.τ).loc Cert.InSmallDwRefIdeal.main_arg0) = m ((c.tc : Thread Cert.InSmallDwRefIdeal.nD Cert.InSmallDwRefIdeal.τ).loc Cert.InSmallDwRefIdeal.main_arg0)
      ∧ r.2.mem ((c.tc : Thread Cert.InSmallDwRefIdeal.nD Cert.InSmallDwRefIdeal.τ).loc Cert.InSmallDwRefIdeal.main_arg1) = m ((c.tc : Thread Cert.InSmallDwRefIdeal.nD Cert.InSmallDwRefIdeal.τ).loc Cert.InSmallDwRefIdeal.main_arg1))
      ∧ r.2.sem = fun _ => 0)

def quiescent_ConvVFwd [hConvVFwd : Cert.ConvVFwd.Facts] : Prop :=
  ∀ (m : (ℓ : Loc Cert.ConvVFwd.nD Cert.ConvVFwd.τ Cert.ConvVFwd.sig) → Buf (Elt Bits) ℓ) (g : Dev Cert.ConvVFwd.nD → PrngReg), Pre_ConvVFwd m →
    θ_run (Cert.ConvVFwd.defs (F := Bits)) (onTc (τ := Cert.ConvVFwd.τ) (Cert.ConvVFwd.main (F := Bits))) ⟨m, fun _ => 0, g⟩ (fun r => (∀ c : Dev Cert.ConvVFwd.nD,
      r.2.mem ((c.tc : Thread Cert.ConvVFwd.nD Cert.ConvVFwd.τ).loc Cert.ConvVFwd.main_arg0) = m ((c.tc : Thread Cert.ConvVFwd.nD Cert.ConvVFwd.τ).loc Cert.ConvVFwd.main_arg0)
      ∧ r.2.mem ((c.tc : Thread Cert.ConvVFwd.nD Cert.ConvVFwd.τ).loc Cert.ConvVFwd.main_arg1) = m ((c.tc : Thread Cert.ConvVFwd.nD Cert.ConvVFwd.τ).loc Cert.ConvVFwd.main_arg1))
      ∧ r.2.sem = fun _ => 0)

def quiescent_ConvVFwdIdeal [hConvVFwdIdeal : Cert.ConvVFwdIdeal.Facts] : Prop :=
  ∀ (m : (ℓ : Loc Cert.ConvVFwdIdeal.nD Cert.ConvVFwdIdeal.τ Cert.ConvVFwdIdeal.sig) → Buf (Elt Ideal) ℓ) (g : Dev Cert.ConvVFwdIdeal.nD → PrngReg), Pre_ConvVFwdIdeal m →
    θ_run (Cert.ConvVFwdIdeal.defs (F := Ideal)) (onTc (τ := Cert.ConvVFwdIdeal.τ) (Cert.ConvVFwdIdeal.main (F := Ideal))) ⟨m, fun _ => 0, g⟩ (fun r => (∀ c : Dev Cert.ConvVFwdIdeal.nD,
      r.2.mem ((c.tc : Thread Cert.ConvVFwdIdeal.nD Cert.ConvVFwdIdeal.τ).loc Cert.ConvVFwdIdeal.main_arg0) = m ((c.tc : Thread Cert.ConvVFwdIdeal.nD Cert.ConvVFwdIdeal.τ).loc Cert.ConvVFwdIdeal.main_arg0)
      ∧ r.2.mem ((c.tc : Thread Cert.ConvVFwdIdeal.nD Cert.ConvVFwdIdeal.τ).loc Cert.ConvVFwdIdeal.main_arg1) = m ((c.tc : Thread Cert.ConvVFwdIdeal.nD Cert.ConvVFwdIdeal.τ).loc Cert.ConvVFwdIdeal.main_arg1))
      ∧ r.2.sem = fun _ => 0)

def quiescent_ConvVFwdRefIdeal [hConvVFwdRefIdeal : Cert.ConvVFwdRefIdeal.Facts] : Prop :=
  ∀ (m : (ℓ : Loc Cert.ConvVFwdRefIdeal.nD Cert.ConvVFwdRefIdeal.τ Cert.ConvVFwdRefIdeal.sig) → Buf (Elt Ideal) ℓ) (g : Dev Cert.ConvVFwdRefIdeal.nD → PrngReg), Pre_ConvVFwdRefIdeal m →
    θ_run (Cert.ConvVFwdRefIdeal.defs (F := Ideal)) (onTc (τ := Cert.ConvVFwdRefIdeal.τ) (Cert.ConvVFwdRefIdeal.main (F := Ideal))) ⟨m, fun _ => 0, g⟩ (fun r => (∀ c : Dev Cert.ConvVFwdRefIdeal.nD,
      r.2.mem ((c.tc : Thread Cert.ConvVFwdRefIdeal.nD Cert.ConvVFwdRefIdeal.τ).loc Cert.ConvVFwdRefIdeal.main_arg0) = m ((c.tc : Thread Cert.ConvVFwdRefIdeal.nD Cert.ConvVFwdRefIdeal.τ).loc Cert.ConvVFwdRefIdeal.main_arg0)
      ∧ r.2.mem ((c.tc : Thread Cert.ConvVFwdRefIdeal.nD Cert.ConvVFwdRefIdeal.τ).loc Cert.ConvVFwdRefIdeal.main_arg1) = m ((c.tc : Thread Cert.ConvVFwdRefIdeal.nD Cert.ConvVFwdRefIdeal.τ).loc Cert.ConvVFwdRefIdeal.main_arg1))
      ∧ r.2.sem = fun _ => 0)

def quiescent_ConvKFwd [hConvKFwd : Cert.ConvKFwd.Facts] : Prop :=
  ∀ (m : (ℓ : Loc Cert.ConvKFwd.nD Cert.ConvKFwd.τ Cert.ConvKFwd.sig) → Buf (Elt Bits) ℓ) (g : Dev Cert.ConvKFwd.nD → PrngReg), Pre_ConvKFwd m →
    θ_run (Cert.ConvKFwd.defs (F := Bits)) (onTc (τ := Cert.ConvKFwd.τ) (Cert.ConvKFwd.main (F := Bits))) ⟨m, fun _ => 0, g⟩ (fun r => (∀ c : Dev Cert.ConvKFwd.nD,
      r.2.mem ((c.tc : Thread Cert.ConvKFwd.nD Cert.ConvKFwd.τ).loc Cert.ConvKFwd.main_arg0) = m ((c.tc : Thread Cert.ConvKFwd.nD Cert.ConvKFwd.τ).loc Cert.ConvKFwd.main_arg0)
      ∧ r.2.mem ((c.tc : Thread Cert.ConvKFwd.nD Cert.ConvKFwd.τ).loc Cert.ConvKFwd.main_arg1) = m ((c.tc : Thread Cert.ConvKFwd.nD Cert.ConvKFwd.τ).loc Cert.ConvKFwd.main_arg1))
      ∧ r.2.sem = fun _ => 0)

def quiescent_ConvKFwdIdeal [hConvKFwdIdeal : Cert.ConvKFwdIdeal.Facts] : Prop :=
  ∀ (m : (ℓ : Loc Cert.ConvKFwdIdeal.nD Cert.ConvKFwdIdeal.τ Cert.ConvKFwdIdeal.sig) → Buf (Elt Ideal) ℓ) (g : Dev Cert.ConvKFwdIdeal.nD → PrngReg), Pre_ConvKFwdIdeal m →
    θ_run (Cert.ConvKFwdIdeal.defs (F := Ideal)) (onTc (τ := Cert.ConvKFwdIdeal.τ) (Cert.ConvKFwdIdeal.main (F := Ideal))) ⟨m, fun _ => 0, g⟩ (fun r => (∀ c : Dev Cert.ConvKFwdIdeal.nD,
      r.2.mem ((c.tc : Thread Cert.ConvKFwdIdeal.nD Cert.ConvKFwdIdeal.τ).loc Cert.ConvKFwdIdeal.main_arg0) = m ((c.tc : Thread Cert.ConvKFwdIdeal.nD Cert.ConvKFwdIdeal.τ).loc Cert.ConvKFwdIdeal.main_arg0)
      ∧ r.2.mem ((c.tc : Thread Cert.ConvKFwdIdeal.nD Cert.ConvKFwdIdeal.τ).loc Cert.ConvKFwdIdeal.main_arg1) = m ((c.tc : Thread Cert.ConvKFwdIdeal.nD Cert.ConvKFwdIdeal.τ).loc Cert.ConvKFwdIdeal.main_arg1))
      ∧ r.2.sem = fun _ => 0)

def quiescent_ConvKFwdRefIdeal [hConvKFwdRefIdeal : Cert.ConvKFwdRefIdeal.Facts] : Prop :=
  ∀ (m : (ℓ : Loc Cert.ConvKFwdRefIdeal.nD Cert.ConvKFwdRefIdeal.τ Cert.ConvKFwdRefIdeal.sig) → Buf (Elt Ideal) ℓ) (g : Dev Cert.ConvKFwdRefIdeal.nD → PrngReg), Pre_ConvKFwdRefIdeal m →
    θ_run (Cert.ConvKFwdRefIdeal.defs (F := Ideal)) (onTc (τ := Cert.ConvKFwdRefIdeal.τ) (Cert.ConvKFwdRefIdeal.main (F := Ideal))) ⟨m, fun _ => 0, g⟩ (fun r => (∀ c : Dev Cert.ConvKFwdRefIdeal.nD,
      r.2.mem ((c.tc : Thread Cert.ConvKFwdRefIdeal.nD Cert.ConvKFwdRefIdeal.τ).loc Cert.ConvKFwdRefIdeal.main_arg0) = m ((c.tc : Thread Cert.ConvKFwdRefIdeal.nD Cert.ConvKFwdRefIdeal.τ).loc Cert.ConvKFwdRefIdeal.main_arg0)
      ∧ r.2.mem ((c.tc : Thread Cert.ConvKFwdRefIdeal.nD Cert.ConvKFwdRefIdeal.τ).loc Cert.ConvKFwdRefIdeal.main_arg1) = m ((c.tc : Thread Cert.ConvKFwdRefIdeal.nD Cert.ConvKFwdRefIdeal.τ).loc Cert.ConvKFwdRefIdeal.main_arg1))
      ∧ r.2.sem = fun _ => 0)

def quiescent_ConvQFwd [hConvQFwd : Cert.ConvQFwd.Facts] : Prop :=
  ∀ (m : (ℓ : Loc Cert.ConvQFwd.nD Cert.ConvQFwd.τ Cert.ConvQFwd.sig) → Buf (Elt Bits) ℓ) (g : Dev Cert.ConvQFwd.nD → PrngReg), Pre_ConvQFwd m →
    θ_run (Cert.ConvQFwd.defs (F := Bits)) (onTc (τ := Cert.ConvQFwd.τ) (Cert.ConvQFwd.main (F := Bits))) ⟨m, fun _ => 0, g⟩ (fun r => (∀ c : Dev Cert.ConvQFwd.nD,
      r.2.mem ((c.tc : Thread Cert.ConvQFwd.nD Cert.ConvQFwd.τ).loc Cert.ConvQFwd.main_arg0) = m ((c.tc : Thread Cert.ConvQFwd.nD Cert.ConvQFwd.τ).loc Cert.ConvQFwd.main_arg0)
      ∧ r.2.mem ((c.tc : Thread Cert.ConvQFwd.nD Cert.ConvQFwd.τ).loc Cert.ConvQFwd.main_arg1) = m ((c.tc : Thread Cert.ConvQFwd.nD Cert.ConvQFwd.τ).loc Cert.ConvQFwd.main_arg1))
      ∧ r.2.sem = fun _ => 0)

def quiescent_ConvQFwdIdeal [hConvQFwdIdeal : Cert.ConvQFwdIdeal.Facts] : Prop :=
  ∀ (m : (ℓ : Loc Cert.ConvQFwdIdeal.nD Cert.ConvQFwdIdeal.τ Cert.ConvQFwdIdeal.sig) → Buf (Elt Ideal) ℓ) (g : Dev Cert.ConvQFwdIdeal.nD → PrngReg), Pre_ConvQFwdIdeal m →
    θ_run (Cert.ConvQFwdIdeal.defs (F := Ideal)) (onTc (τ := Cert.ConvQFwdIdeal.τ) (Cert.ConvQFwdIdeal.main (F := Ideal))) ⟨m, fun _ => 0, g⟩ (fun r => (∀ c : Dev Cert.ConvQFwdIdeal.nD,
      r.2.mem ((c.tc : Thread Cert.ConvQFwdIdeal.nD Cert.ConvQFwdIdeal.τ).loc Cert.ConvQFwdIdeal.main_arg0) = m ((c.tc : Thread Cert.ConvQFwdIdeal.nD Cert.ConvQFwdIdeal.τ).loc Cert.ConvQFwdIdeal.main_arg0)
      ∧ r.2.mem ((c.tc : Thread Cert.ConvQFwdIdeal.nD Cert.ConvQFwdIdeal.τ).loc Cert.ConvQFwdIdeal.main_arg1) = m ((c.tc : Thread Cert.ConvQFwdIdeal.nD Cert.ConvQFwdIdeal.τ).loc Cert.ConvQFwdIdeal.main_arg1))
      ∧ r.2.sem = fun _ => 0)

def quiescent_ConvQFwdRefIdeal [hConvQFwdRefIdeal : Cert.ConvQFwdRefIdeal.Facts] : Prop :=
  ∀ (m : (ℓ : Loc Cert.ConvQFwdRefIdeal.nD Cert.ConvQFwdRefIdeal.τ Cert.ConvQFwdRefIdeal.sig) → Buf (Elt Ideal) ℓ) (g : Dev Cert.ConvQFwdRefIdeal.nD → PrngReg), Pre_ConvQFwdRefIdeal m →
    θ_run (Cert.ConvQFwdRefIdeal.defs (F := Ideal)) (onTc (τ := Cert.ConvQFwdRefIdeal.τ) (Cert.ConvQFwdRefIdeal.main (F := Ideal))) ⟨m, fun _ => 0, g⟩ (fun r => (∀ c : Dev Cert.ConvQFwdRefIdeal.nD,
      r.2.mem ((c.tc : Thread Cert.ConvQFwdRefIdeal.nD Cert.ConvQFwdRefIdeal.τ).loc Cert.ConvQFwdRefIdeal.main_arg0) = m ((c.tc : Thread Cert.ConvQFwdRefIdeal.nD Cert.ConvQFwdRefIdeal.τ).loc Cert.ConvQFwdRefIdeal.main_arg0)
      ∧ r.2.mem ((c.tc : Thread Cert.ConvQFwdRefIdeal.nD Cert.ConvQFwdRefIdeal.τ).loc Cert.ConvQFwdRefIdeal.main_arg1) = m ((c.tc : Thread Cert.ConvQFwdRefIdeal.nD Cert.ConvQFwdRefIdeal.τ).loc Cert.ConvQFwdRefIdeal.main_arg1))
      ∧ r.2.sem = fun _ => 0)

def quiescent_SsdConvFwd [hSsdConvFwd : Cert.SsdConvFwd.Facts] : Prop :=
  ∀ (m : (ℓ : Loc Cert.SsdConvFwd.nD Cert.SsdConvFwd.τ Cert.SsdConvFwd.sig) → Buf (Elt Bits) ℓ) (g : Dev Cert.SsdConvFwd.nD → PrngReg), Pre_SsdConvFwd m →
    θ_run (Cert.SsdConvFwd.defs (F := Bits)) (onTc (τ := Cert.SsdConvFwd.τ) (Cert.SsdConvFwd.main (F := Bits))) ⟨m, fun _ => 0, g⟩ (fun r => (∀ c : Dev Cert.SsdConvFwd.nD,
      r.2.mem ((c.tc : Thread Cert.SsdConvFwd.nD Cert.SsdConvFwd.τ).loc Cert.SsdConvFwd.main_arg0) = m ((c.tc : Thread Cert.SsdConvFwd.nD Cert.SsdConvFwd.τ).loc Cert.SsdConvFwd.main_arg0)
      ∧ r.2.mem ((c.tc : Thread Cert.SsdConvFwd.nD Cert.SsdConvFwd.τ).loc Cert.SsdConvFwd.main_arg1) = m ((c.tc : Thread Cert.SsdConvFwd.nD Cert.SsdConvFwd.τ).loc Cert.SsdConvFwd.main_arg1)
      ∧ r.2.mem ((c.tc : Thread Cert.SsdConvFwd.nD Cert.SsdConvFwd.τ).loc Cert.SsdConvFwd.main_arg2) = m ((c.tc : Thread Cert.SsdConvFwd.nD Cert.SsdConvFwd.τ).loc Cert.SsdConvFwd.main_arg2))
      ∧ r.2.sem = fun _ => 0)

def quiescent_SsdConvFwdIdeal [hSsdConvFwdIdeal : Cert.SsdConvFwdIdeal.Facts] : Prop :=
  ∀ (m : (ℓ : Loc Cert.SsdConvFwdIdeal.nD Cert.SsdConvFwdIdeal.τ Cert.SsdConvFwdIdeal.sig) → Buf (Elt Ideal) ℓ) (g : Dev Cert.SsdConvFwdIdeal.nD → PrngReg), Pre_SsdConvFwdIdeal m →
    θ_run (Cert.SsdConvFwdIdeal.defs (F := Ideal)) (onTc (τ := Cert.SsdConvFwdIdeal.τ) (Cert.SsdConvFwdIdeal.main (F := Ideal))) ⟨m, fun _ => 0, g⟩ (fun r => (∀ c : Dev Cert.SsdConvFwdIdeal.nD,
      r.2.mem ((c.tc : Thread Cert.SsdConvFwdIdeal.nD Cert.SsdConvFwdIdeal.τ).loc Cert.SsdConvFwdIdeal.main_arg0) = m ((c.tc : Thread Cert.SsdConvFwdIdeal.nD Cert.SsdConvFwdIdeal.τ).loc Cert.SsdConvFwdIdeal.main_arg0)
      ∧ r.2.mem ((c.tc : Thread Cert.SsdConvFwdIdeal.nD Cert.SsdConvFwdIdeal.τ).loc Cert.SsdConvFwdIdeal.main_arg1) = m ((c.tc : Thread Cert.SsdConvFwdIdeal.nD Cert.SsdConvFwdIdeal.τ).loc Cert.SsdConvFwdIdeal.main_arg1)
      ∧ r.2.mem ((c.tc : Thread Cert.SsdConvFwdIdeal.nD Cert.SsdConvFwdIdeal.τ).loc Cert.SsdConvFwdIdeal.main_arg2) = m ((c.tc : Thread Cert.SsdConvFwdIdeal.nD Cert.SsdConvFwdIdeal.τ).loc Cert.SsdConvFwdIdeal.main_arg2))
      ∧ r.2.sem = fun _ => 0)

def quiescent_SsdConvFwdRefIdeal [hSsdConvFwdRefIdeal : Cert.SsdConvFwdRefIdeal.Facts] : Prop :=
  ∀ (m : (ℓ : Loc Cert.SsdConvFwdRefIdeal.nD Cert.SsdConvFwdRefIdeal.τ Cert.SsdConvFwdRefIdeal.sig) → Buf (Elt Ideal) ℓ) (g : Dev Cert.SsdConvFwdRefIdeal.nD → PrngReg), Pre_SsdConvFwdRefIdeal m →
    θ_run (Cert.SsdConvFwdRefIdeal.defs (F := Ideal)) (onTc (τ := Cert.SsdConvFwdRefIdeal.τ) (Cert.SsdConvFwdRefIdeal.main (F := Ideal))) ⟨m, fun _ => 0, g⟩ (fun r => (∀ c : Dev Cert.SsdConvFwdRefIdeal.nD,
      r.2.mem ((c.tc : Thread Cert.SsdConvFwdRefIdeal.nD Cert.SsdConvFwdRefIdeal.τ).loc Cert.SsdConvFwdRefIdeal.main_arg0) = m ((c.tc : Thread Cert.SsdConvFwdRefIdeal.nD Cert.SsdConvFwdRefIdeal.τ).loc Cert.SsdConvFwdRefIdeal.main_arg0)
      ∧ r.2.mem ((c.tc : Thread Cert.SsdConvFwdRefIdeal.nD Cert.SsdConvFwdRefIdeal.τ).loc Cert.SsdConvFwdRefIdeal.main_arg1) = m ((c.tc : Thread Cert.SsdConvFwdRefIdeal.nD Cert.SsdConvFwdRefIdeal.τ).loc Cert.SsdConvFwdRefIdeal.main_arg1)
      ∧ r.2.mem ((c.tc : Thread Cert.SsdConvFwdRefIdeal.nD Cert.SsdConvFwdRefIdeal.τ).loc Cert.SsdConvFwdRefIdeal.main_arg2) = m ((c.tc : Thread Cert.SsdConvFwdRefIdeal.nD Cert.SsdConvFwdRefIdeal.τ).loc Cert.SsdConvFwdRefIdeal.main_arg2))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2)
      ∧ r.2.mem ((c.tc : Thread Cert.Res.nD Cert.Res.τ).loc Cert.Res.main_arg3) = m ((c.tc : Thread Cert.Res.nD Cert.Res.τ).loc Cert.Res.main_arg3))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
      ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2)
      ∧ r.2.mem ((c.tc : Thread Cert.ResRefIdeal.nD Cert.ResRefIdeal.τ).loc Cert.ResRefIdeal.main_arg3) = m ((c.tc : Thread Cert.ResRefIdeal.nD Cert.ResRefIdeal.τ).loc Cert.ResRefIdeal.main_arg3))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2)
      ∧ r.2.mem ((c.tc : Thread Cert.SsdOut.nD Cert.SsdOut.τ).loc Cert.SsdOut.main_arg3) = m ((c.tc : Thread Cert.SsdOut.nD Cert.SsdOut.τ).loc Cert.SsdOut.main_arg3)
      ∧ r.2.mem ((c.tc : Thread Cert.SsdOut.nD Cert.SsdOut.τ).loc Cert.SsdOut.main_arg4) = m ((c.tc : Thread Cert.SsdOut.nD Cert.SsdOut.τ).loc Cert.SsdOut.main_arg4)
      ∧ r.2.mem ((c.tc : Thread Cert.SsdOut.nD Cert.SsdOut.τ).loc Cert.SsdOut.main_arg5) = m ((c.tc : Thread Cert.SsdOut.nD Cert.SsdOut.τ).loc Cert.SsdOut.main_arg5)
      ∧ r.2.mem ((c.tc : Thread Cert.SsdOut.nD Cert.SsdOut.τ).loc Cert.SsdOut.main_arg6) = m ((c.tc : Thread Cert.SsdOut.nD Cert.SsdOut.τ).loc Cert.SsdOut.main_arg6))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
      ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
      ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4)
      ∧ r.2.mem ((c.tc : Thread Cert.SsdOutIdeal.nD Cert.SsdOutIdeal.τ).loc Cert.SsdOutIdeal.main_arg5) = m ((c.tc : Thread Cert.SsdOutIdeal.nD Cert.SsdOutIdeal.τ).loc Cert.SsdOutIdeal.main_arg5)
      ∧ r.2.mem ((c.tc : Thread Cert.SsdOutIdeal.nD Cert.SsdOutIdeal.τ).loc Cert.SsdOutIdeal.main_arg6) = m ((c.tc : Thread Cert.SsdOutIdeal.nD Cert.SsdOutIdeal.τ).loc Cert.SsdOutIdeal.main_arg6))
      ∧ r.2.sem = fun _ => 0)

def quiescent_SsdOutRefIdeal [hSsdOutRefIdeal : Cert.SsdOutRefIdeal.Facts] : Prop :=
  ∀ (m : (ℓ : Loc Cert.SsdOutRefIdeal.nD Cert.SsdOutRefIdeal.τ Cert.SsdOutRefIdeal.sig) → Buf (Elt Ideal) ℓ) (g : Dev Cert.SsdOutRefIdeal.nD → PrngReg), Pre_SsdOutRefIdeal m →
    θ_run (Cert.SsdOutRefIdeal.defs (F := Ideal)) (onTc (τ := Cert.SsdOutRefIdeal.τ) (Cert.SsdOutRefIdeal.main (F := Ideal))) ⟨m, fun _ => 0, g⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1)
      ∧ r.2.mem ((c.tc : Thread Cert.SsdOutRefIdeal.nD Cert.SsdOutRefIdeal.τ).loc Cert.SsdOutRefIdeal.main_arg2) = m ((c.tc : Thread Cert.SsdOutRefIdeal.nD Cert.SsdOutRefIdeal.τ).loc Cert.SsdOutRefIdeal.main_arg2)
      ∧ r.2.mem ((c.tc : Thread Cert.SsdOutRefIdeal.nD Cert.SsdOutRefIdeal.τ).loc Cert.SsdOutRefIdeal.main_arg3) = m ((c.tc : Thread Cert.SsdOutRefIdeal.nD Cert.SsdOutRefIdeal.τ).loc Cert.SsdOutRefIdeal.main_arg3)
      ∧ r.2.mem ((c.tc : Thread Cert.SsdOutRefIdeal.nD Cert.SsdOutRefIdeal.τ).loc Cert.SsdOutRefIdeal.main_arg4) = m ((c.tc : Thread Cert.SsdOutRefIdeal.nD Cert.SsdOutRefIdeal.τ).loc Cert.SsdOutRefIdeal.main_arg4)
      ∧ r.2.mem ((c.tc : Thread Cert.SsdOutRefIdeal.nD Cert.SsdOutRefIdeal.τ).loc Cert.SsdOutRefIdeal.main_arg5) = m ((c.tc : Thread Cert.SsdOutRefIdeal.nD Cert.SsdOutRefIdeal.τ).loc Cert.SsdOutRefIdeal.main_arg5)
      ∧ r.2.mem ((c.tc : Thread Cert.SsdOutRefIdeal.nD Cert.SsdOutRefIdeal.τ).loc Cert.SsdOutRefIdeal.main_arg6) = m ((c.tc : Thread Cert.SsdOutRefIdeal.nD Cert.SsdOutRefIdeal.τ).loc Cert.SsdOutRefIdeal.main_arg6))
      ∧ r.2.sem = fun _ => 0)

def quiescent_SsdOutFwd [hSsdOutFwd : Cert.SsdOutFwd.Facts] : Prop :=
  ∀ (m : (ℓ : Loc Cert.SsdOutFwd.nD Cert.SsdOutFwd.τ Cert.SsdOutFwd.sig) → Buf (Elt Bits) ℓ) (g : Dev Cert.SsdOutFwd.nD → PrngReg), Pre_SsdOutFwd m →
    θ_run (Cert.SsdOutFwd.defs (F := Bits)) (onTc (τ := Cert.SsdOutFwd.τ) (Cert.SsdOutFwd.main (F := Bits))) ⟨m, fun _ => 0, g⟩ (fun r => (∀ c : Dev Cert.SsdOutFwd.nD,
      r.2.mem ((c.tc : Thread Cert.SsdOutFwd.nD Cert.SsdOutFwd.τ).loc Cert.SsdOutFwd.main_arg0) = m ((c.tc : Thread Cert.SsdOutFwd.nD Cert.SsdOutFwd.τ).loc Cert.SsdOutFwd.main_arg0)
      ∧ r.2.mem ((c.tc : Thread Cert.SsdOutFwd.nD Cert.SsdOutFwd.τ).loc Cert.SsdOutFwd.main_arg1) = m ((c.tc : Thread Cert.SsdOutFwd.nD Cert.SsdOutFwd.τ).loc Cert.SsdOutFwd.main_arg1)
      ∧ r.2.mem ((c.tc : Thread Cert.SsdOutFwd.nD Cert.SsdOutFwd.τ).loc Cert.SsdOutFwd.main_arg2) = m ((c.tc : Thread Cert.SsdOutFwd.nD Cert.SsdOutFwd.τ).loc Cert.SsdOutFwd.main_arg2)
      ∧ r.2.mem ((c.tc : Thread Cert.SsdOutFwd.nD Cert.SsdOutFwd.τ).loc Cert.SsdOutFwd.main_arg3) = m ((c.tc : Thread Cert.SsdOutFwd.nD Cert.SsdOutFwd.τ).loc Cert.SsdOutFwd.main_arg3)
      ∧ r.2.mem ((c.tc : Thread Cert.SsdOutFwd.nD Cert.SsdOutFwd.τ).loc Cert.SsdOutFwd.main_arg4) = m ((c.tc : Thread Cert.SsdOutFwd.nD Cert.SsdOutFwd.τ).loc Cert.SsdOutFwd.main_arg4)
      ∧ r.2.mem ((c.tc : Thread Cert.SsdOutFwd.nD Cert.SsdOutFwd.τ).loc Cert.SsdOutFwd.main_arg5) = m ((c.tc : Thread Cert.SsdOutFwd.nD Cert.SsdOutFwd.τ).loc Cert.SsdOutFwd.main_arg5))
      ∧ r.2.sem = fun _ => 0)

def quiescent_SsdOutFwdIdeal [hSsdOutFwdIdeal : Cert.SsdOutFwdIdeal.Facts] : Prop :=
  ∀ (m : (ℓ : Loc Cert.SsdOutFwdIdeal.nD Cert.SsdOutFwdIdeal.τ Cert.SsdOutFwdIdeal.sig) → Buf (Elt Ideal) ℓ) (g : Dev Cert.SsdOutFwdIdeal.nD → PrngReg), Pre_SsdOutFwdIdeal m →
    θ_run (Cert.SsdOutFwdIdeal.defs (F := Ideal)) (onTc (τ := Cert.SsdOutFwdIdeal.τ) (Cert.SsdOutFwdIdeal.main (F := Ideal))) ⟨m, fun _ => 0, g⟩ (fun r => (∀ c : Dev Cert.SsdOutFwdIdeal.nD,
      r.2.mem ((c.tc : Thread Cert.SsdOutFwdIdeal.nD Cert.SsdOutFwdIdeal.τ).loc Cert.SsdOutFwdIdeal.main_arg0) = m ((c.tc : Thread Cert.SsdOutFwdIdeal.nD Cert.SsdOutFwdIdeal.τ).loc Cert.SsdOutFwdIdeal.main_arg0)
      ∧ r.2.mem ((c.tc : Thread Cert.SsdOutFwdIdeal.nD Cert.SsdOutFwdIdeal.τ).loc Cert.SsdOutFwdIdeal.main_arg1) = m ((c.tc : Thread Cert.SsdOutFwdIdeal.nD Cert.SsdOutFwdIdeal.τ).loc Cert.SsdOutFwdIdeal.main_arg1)
      ∧ r.2.mem ((c.tc : Thread Cert.SsdOutFwdIdeal.nD Cert.SsdOutFwdIdeal.τ).loc Cert.SsdOutFwdIdeal.main_arg2) = m ((c.tc : Thread Cert.SsdOutFwdIdeal.nD Cert.SsdOutFwdIdeal.τ).loc Cert.SsdOutFwdIdeal.main_arg2)
      ∧ r.2.mem ((c.tc : Thread Cert.SsdOutFwdIdeal.nD Cert.SsdOutFwdIdeal.τ).loc Cert.SsdOutFwdIdeal.main_arg3) = m ((c.tc : Thread Cert.SsdOutFwdIdeal.nD Cert.SsdOutFwdIdeal.τ).loc Cert.SsdOutFwdIdeal.main_arg3)
      ∧ r.2.mem ((c.tc : Thread Cert.SsdOutFwdIdeal.nD Cert.SsdOutFwdIdeal.τ).loc Cert.SsdOutFwdIdeal.main_arg4) = m ((c.tc : Thread Cert.SsdOutFwdIdeal.nD Cert.SsdOutFwdIdeal.τ).loc Cert.SsdOutFwdIdeal.main_arg4)
      ∧ r.2.mem ((c.tc : Thread Cert.SsdOutFwdIdeal.nD Cert.SsdOutFwdIdeal.τ).loc Cert.SsdOutFwdIdeal.main_arg5) = m ((c.tc : Thread Cert.SsdOutFwdIdeal.nD Cert.SsdOutFwdIdeal.τ).loc Cert.SsdOutFwdIdeal.main_arg5))
      ∧ r.2.sem = fun _ => 0)

def quiescent_SsdOutFwdRefIdeal [hSsdOutFwdRefIdeal : Cert.SsdOutFwdRefIdeal.Facts] : Prop :=
  ∀ (m : (ℓ : Loc Cert.SsdOutFwdRefIdeal.nD Cert.SsdOutFwdRefIdeal.τ Cert.SsdOutFwdRefIdeal.sig) → Buf (Elt Ideal) ℓ) (g : Dev Cert.SsdOutFwdRefIdeal.nD → PrngReg), Pre_SsdOutFwdRefIdeal m →
    θ_run (Cert.SsdOutFwdRefIdeal.defs (F := Ideal)) (onTc (τ := Cert.SsdOutFwdRefIdeal.τ) (Cert.SsdOutFwdRefIdeal.main (F := Ideal))) ⟨m, fun _ => 0, g⟩ (fun r => (∀ c : Dev Cert.SsdOutFwdRefIdeal.nD,
      r.2.mem ((c.tc : Thread Cert.SsdOutFwdRefIdeal.nD Cert.SsdOutFwdRefIdeal.τ).loc Cert.SsdOutFwdRefIdeal.main_arg0) = m ((c.tc : Thread Cert.SsdOutFwdRefIdeal.nD Cert.SsdOutFwdRefIdeal.τ).loc Cert.SsdOutFwdRefIdeal.main_arg0)
      ∧ r.2.mem ((c.tc : Thread Cert.SsdOutFwdRefIdeal.nD Cert.SsdOutFwdRefIdeal.τ).loc Cert.SsdOutFwdRefIdeal.main_arg1) = m ((c.tc : Thread Cert.SsdOutFwdRefIdeal.nD Cert.SsdOutFwdRefIdeal.τ).loc Cert.SsdOutFwdRefIdeal.main_arg1)
      ∧ r.2.mem ((c.tc : Thread Cert.SsdOutFwdRefIdeal.nD Cert.SsdOutFwdRefIdeal.τ).loc Cert.SsdOutFwdRefIdeal.main_arg2) = m ((c.tc : Thread Cert.SsdOutFwdRefIdeal.nD Cert.SsdOutFwdRefIdeal.τ).loc Cert.SsdOutFwdRefIdeal.main_arg2)
      ∧ r.2.mem ((c.tc : Thread Cert.SsdOutFwdRefIdeal.nD Cert.SsdOutFwdRefIdeal.τ).loc Cert.SsdOutFwdRefIdeal.main_arg3) = m ((c.tc : Thread Cert.SsdOutFwdRefIdeal.nD Cert.SsdOutFwdRefIdeal.τ).loc Cert.SsdOutFwdRefIdeal.main_arg3)
      ∧ r.2.mem ((c.tc : Thread Cert.SsdOutFwdRefIdeal.nD Cert.SsdOutFwdRefIdeal.τ).loc Cert.SsdOutFwdRefIdeal.main_arg4) = m ((c.tc : Thread Cert.SsdOutFwdRefIdeal.nD Cert.SsdOutFwdRefIdeal.τ).loc Cert.SsdOutFwdRefIdeal.main_arg4)
      ∧ r.2.mem ((c.tc : Thread Cert.SsdOutFwdRefIdeal.nD Cert.SsdOutFwdRefIdeal.τ).loc Cert.SsdOutFwdRefIdeal.main_arg5) = m ((c.tc : Thread Cert.SsdOutFwdRefIdeal.nD Cert.SsdOutFwdRefIdeal.τ).loc Cert.SsdOutFwdRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_v83) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v5) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v1)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v1) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v35) = v0 c
          ∧ r.2.mem ((c.tc : Thread Cert.NormRefIdeal.nD Cert.NormRefIdeal.τ).loc Cert.NormRefIdeal.main_v18) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)) (v3 : (c : Dev Cert.HeadIdeal.nD) → Buf (Elt Ideal) ((c.tc : Thread Cert.HeadIdeal.nD Cert.HeadIdeal.τ).loc Cert.HeadIdeal.main_v0_3)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_v0_3) = v3 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v50) = v0 c
          ∧ r.2.mem ((c.tc : Thread Cert.HeadRefIdeal.nD Cert.HeadRefIdeal.τ).loc Cert.HeadRefIdeal.main_v30) = v1 c
          ∧ r.2.mem ((c.tc : Thread Cert.HeadRefIdeal.nD Cert.HeadRefIdeal.τ).loc Cert.HeadRefIdeal.main_v51) = v2 c
          ∧ r.2.mem ((c.tc : Thread Cert.HeadRefIdeal.nD Cert.HeadRefIdeal.τ).loc Cert.HeadRefIdeal.main_v33) = v3 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v34) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_SsdConv_SsdConvIdeal : Prop :=
  True

def algebraic_SsdConvIdeal_SsdConvRefIdeal [hSsdConvIdeal : Cert.SsdConvIdeal.Facts] [hSsdConvRefIdeal : Cert.SsdConvRefIdeal.Facts] : Prop :=
  ∀ (m : (ℓ : Loc Cert.SsdConvIdeal.nD Cert.SsdConvIdeal.τ Cert.SsdConvIdeal.sig) → Buf (Elt Ideal) ℓ) (g : Dev Cert.SsdConvIdeal.nD → PrngReg)
    (m' : (ℓ : Loc Cert.SsdConvRefIdeal.nD Cert.SsdConvRefIdeal.τ Cert.SsdConvRefIdeal.sig) → Buf (Elt Ideal) ℓ) (g' : Dev Cert.SsdConvRefIdeal.nD → PrngReg), Pre_SsdConvIdeal m →
    (∀ c : Dev Cert.SsdConvIdeal.nD,
      m' ((c.tc : Thread Cert.SsdConvRefIdeal.nD Cert.SsdConvRefIdeal.τ).loc Cert.SsdConvRefIdeal.main_arg0) = m ((c.tc : Thread Cert.SsdConvIdeal.nD Cert.SsdConvIdeal.τ).loc Cert.SsdConvIdeal.main_arg0)
      ∧ m' ((c.tc : Thread Cert.SsdConvRefIdeal.nD Cert.SsdConvRefIdeal.τ).loc Cert.SsdConvRefIdeal.main_arg1) = m ((c.tc : Thread Cert.SsdConvIdeal.nD Cert.SsdConvIdeal.τ).loc Cert.SsdConvIdeal.main_arg1)
      ∧ m' ((c.tc : Thread Cert.SsdConvRefIdeal.nD Cert.SsdConvRefIdeal.τ).loc Cert.SsdConvRefIdeal.main_arg2) = m ((c.tc : Thread Cert.SsdConvIdeal.nD Cert.SsdConvIdeal.τ).loc Cert.SsdConvIdeal.main_arg2)
      ∧ m' ((c.tc : Thread Cert.SsdConvRefIdeal.nD Cert.SsdConvRefIdeal.τ).loc Cert.SsdConvRefIdeal.main_arg3) = m ((c.tc : Thread Cert.SsdConvIdeal.nD Cert.SsdConvIdeal.τ).loc Cert.SsdConvIdeal.main_arg3)
      ∧ m' ((c.tc : Thread Cert.SsdConvRefIdeal.nD Cert.SsdConvRefIdeal.τ).loc Cert.SsdConvRefIdeal.main_arg4) = m ((c.tc : Thread Cert.SsdConvIdeal.nD Cert.SsdConvIdeal.τ).loc Cert.SsdConvIdeal.main_arg4)) →
    ∃ (v0 : (c : Dev Cert.SsdConvIdeal.nD) → Buf (Elt Ideal) ((c.tc : Thread Cert.SsdConvIdeal.nD Cert.SsdConvIdeal.τ).loc Cert.SsdConvIdeal.main_v0_0)) (v1 : (c : Dev Cert.SsdConvIdeal.nD) → Buf (Elt Ideal) ((c.tc : Thread Cert.SsdConvIdeal.nD Cert.SsdConvIdeal.τ).loc Cert.SsdConvIdeal.main_v0_1)) (v2 : (c : Dev Cert.SsdConvIdeal.nD) → Buf (Elt Ideal) ((c.tc : Thread Cert.SsdConvIdeal.nD Cert.SsdConvIdeal.τ).loc Cert.SsdConvIdeal.main_v0_2)),
      θ_run (Cert.SsdConvIdeal.defs (F := Ideal)) (onTc (τ := Cert.SsdConvIdeal.τ) (Cert.SsdConvIdeal.main (F := Ideal))) ⟨m, fun _ => 0, g⟩ (fun r => ∀ c : Dev Cert.SsdConvIdeal.nD,
          r.2.mem ((c.tc : Thread Cert.SsdConvIdeal.nD Cert.SsdConvIdeal.τ).loc Cert.SsdConvIdeal.main_v0_0) = v0 c
          ∧ r.2.mem ((c.tc : Thread Cert.SsdConvIdeal.nD Cert.SsdConvIdeal.τ).loc Cert.SsdConvIdeal.main_v0_1) = v1 c
          ∧ r.2.mem ((c.tc : Thread Cert.SsdConvIdeal.nD Cert.SsdConvIdeal.τ).loc Cert.SsdConvIdeal.main_v0_2) = v2 c
          ∧ r.2.mem ((c.tc : Thread Cert.SsdConvIdeal.nD Cert.SsdConvIdeal.τ).loc Cert.SsdConvIdeal.main_arg0) = m ((c.tc : Thread Cert.SsdConvIdeal.nD Cert.SsdConvIdeal.τ).loc Cert.SsdConvIdeal.main_arg0)
          ∧ r.2.mem ((c.tc : Thread Cert.SsdConvIdeal.nD Cert.SsdConvIdeal.τ).loc Cert.SsdConvIdeal.main_arg1) = m ((c.tc : Thread Cert.SsdConvIdeal.nD Cert.SsdConvIdeal.τ).loc Cert.SsdConvIdeal.main_arg1)
          ∧ r.2.mem ((c.tc : Thread Cert.SsdConvIdeal.nD Cert.SsdConvIdeal.τ).loc Cert.SsdConvIdeal.main_arg2) = m ((c.tc : Thread Cert.SsdConvIdeal.nD Cert.SsdConvIdeal.τ).loc Cert.SsdConvIdeal.main_arg2)
          ∧ r.2.mem ((c.tc : Thread Cert.SsdConvIdeal.nD Cert.SsdConvIdeal.τ).loc Cert.SsdConvIdeal.main_arg3) = m ((c.tc : Thread Cert.SsdConvIdeal.nD Cert.SsdConvIdeal.τ).loc Cert.SsdConvIdeal.main_arg3)
          ∧ r.2.mem ((c.tc : Thread Cert.SsdConvIdeal.nD Cert.SsdConvIdeal.τ).loc Cert.SsdConvIdeal.main_arg4) = m ((c.tc : Thread Cert.SsdConvIdeal.nD Cert.SsdConvIdeal.τ).loc Cert.SsdConvIdeal.main_arg4))
      ∧ θ_run (Cert.SsdConvRefIdeal.defs (F := Ideal)) (onTc (τ := Cert.SsdConvRefIdeal.τ) (Cert.SsdConvRefIdeal.main (F := Ideal))) ⟨m', fun _ => 0, g'⟩ (fun r => ∀ c : Dev Cert.SsdConvRefIdeal.nD,
          r.2.mem ((c.tc : Thread Cert.SsdConvRefIdeal.nD Cert.SsdConvRefIdeal.τ).loc Cert.SsdConvRefIdeal.main_v92) = v0 c
          ∧ r.2.mem ((c.tc : Thread Cert.SsdConvRefIdeal.nD Cert.SsdConvRefIdeal.τ).loc Cert.SsdConvRefIdeal.main_v86) = v1 c
          ∧ r.2.mem ((c.tc : Thread Cert.SsdConvRefIdeal.nD Cert.SsdConvRefIdeal.τ).loc Cert.SsdConvRefIdeal.main_v44) = v2 c
          ∧ r.2.mem ((c.tc : Thread Cert.SsdConvRefIdeal.nD Cert.SsdConvRefIdeal.τ).loc Cert.SsdConvRefIdeal.main_arg0) = m' ((c.tc : Thread Cert.SsdConvRefIdeal.nD Cert.SsdConvRefIdeal.τ).loc Cert.SsdConvRefIdeal.main_arg0)
          ∧ r.2.mem ((c.tc : Thread Cert.SsdConvRefIdeal.nD Cert.SsdConvRefIdeal.τ).loc Cert.SsdConvRefIdeal.main_arg1) = m' ((c.tc : Thread Cert.SsdConvRefIdeal.nD Cert.SsdConvRefIdeal.τ).loc Cert.SsdConvRefIdeal.main_arg1)
          ∧ r.2.mem ((c.tc : Thread Cert.SsdConvRefIdeal.nD Cert.SsdConvRefIdeal.τ).loc Cert.SsdConvRefIdeal.main_arg2) = m' ((c.tc : Thread Cert.SsdConvRefIdeal.nD Cert.SsdConvRefIdeal.τ).loc Cert.SsdConvRefIdeal.main_arg2)
          ∧ r.2.mem ((c.tc : Thread Cert.SsdConvRefIdeal.nD Cert.SsdConvRefIdeal.τ).loc Cert.SsdConvRefIdeal.main_arg3) = m' ((c.tc : Thread Cert.SsdConvRefIdeal.nD Cert.SsdConvRefIdeal.τ).loc Cert.SsdConvRefIdeal.main_arg3)
          ∧ r.2.mem ((c.tc : Thread Cert.SsdConvRefIdeal.nD Cert.SsdConvRefIdeal.τ).loc Cert.SsdConvRefIdeal.main_arg4) = m' ((c.tc : Thread Cert.SsdConvRefIdeal.nD Cert.SsdConvRefIdeal.τ).loc Cert.SsdConvRefIdeal.main_arg4))

def preserves_ConvV_ConvVIdeal : Prop :=
  True

def algebraic_ConvVIdeal_ConvVRefIdeal [hConvVIdeal : Cert.ConvVIdeal.Facts] [hConvVRefIdeal : Cert.ConvVRefIdeal.Facts] : Prop :=
  ∀ (m : (ℓ : Loc Cert.ConvVIdeal.nD Cert.ConvVIdeal.τ Cert.ConvVIdeal.sig) → Buf (Elt Ideal) ℓ) (g : Dev Cert.ConvVIdeal.nD → PrngReg)
    (m' : (ℓ : Loc Cert.ConvVRefIdeal.nD Cert.ConvVRefIdeal.τ Cert.ConvVRefIdeal.sig) → Buf (Elt Ideal) ℓ) (g' : Dev Cert.ConvVRefIdeal.nD → PrngReg), Pre_ConvVIdeal m →
    (∀ c : Dev Cert.ConvVIdeal.nD,
      m' ((c.tc : Thread Cert.ConvVRefIdeal.nD Cert.ConvVRefIdeal.τ).loc Cert.ConvVRefIdeal.main_arg0) = m ((c.tc : Thread Cert.ConvVIdeal.nD Cert.ConvVIdeal.τ).loc Cert.ConvVIdeal.main_arg0)
      ∧ m' ((c.tc : Thread Cert.ConvVRefIdeal.nD Cert.ConvVRefIdeal.τ).loc Cert.ConvVRefIdeal.main_arg1) = m ((c.tc : Thread Cert.ConvVIdeal.nD Cert.ConvVIdeal.τ).loc Cert.ConvVIdeal.main_arg1)
      ∧ m' ((c.tc : Thread Cert.ConvVRefIdeal.nD Cert.ConvVRefIdeal.τ).loc Cert.ConvVRefIdeal.main_arg2) = m ((c.tc : Thread Cert.ConvVIdeal.nD Cert.ConvVIdeal.τ).loc Cert.ConvVIdeal.main_arg2)
      ∧ m' ((c.tc : Thread Cert.ConvVRefIdeal.nD Cert.ConvVRefIdeal.τ).loc Cert.ConvVRefIdeal.main_arg3) = m ((c.tc : Thread Cert.ConvVIdeal.nD Cert.ConvVIdeal.τ).loc Cert.ConvVIdeal.main_arg3)) →
    ∃ (v0 : (c : Dev Cert.ConvVIdeal.nD) → Buf (Elt Ideal) ((c.tc : Thread Cert.ConvVIdeal.nD Cert.ConvVIdeal.τ).loc Cert.ConvVIdeal.main_v0_0)) (v1 : (c : Dev Cert.ConvVIdeal.nD) → Buf (Elt Ideal) ((c.tc : Thread Cert.ConvVIdeal.nD Cert.ConvVIdeal.τ).loc Cert.ConvVIdeal.main_v0_1)),
      θ_run (Cert.ConvVIdeal.defs (F := Ideal)) (onTc (τ := Cert.ConvVIdeal.τ) (Cert.ConvVIdeal.main (F := Ideal))) ⟨m, fun _ => 0, g⟩ (fun r => ∀ c : Dev Cert.ConvVIdeal.nD,
          r.2.mem ((c.tc : Thread Cert.ConvVIdeal.nD Cert.ConvVIdeal.τ).loc Cert.ConvVIdeal.main_v0_0) = v0 c
          ∧ r.2.mem ((c.tc : Thread Cert.ConvVIdeal.nD Cert.ConvVIdeal.τ).loc Cert.ConvVIdeal.main_v0_1) = v1 c
          ∧ r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
          ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1)
          ∧ r.2.mem ((c.tc : Thread Cert.ConvVIdeal.nD Cert.ConvVIdeal.τ).loc Cert.ConvVIdeal.main_arg2) = m ((c.tc : Thread Cert.ConvVIdeal.nD Cert.ConvVIdeal.τ).loc Cert.ConvVIdeal.main_arg2)
          ∧ r.2.mem ((c.tc : Thread Cert.ConvVIdeal.nD Cert.ConvVIdeal.τ).loc Cert.ConvVIdeal.main_arg3) = m ((c.tc : Thread Cert.ConvVIdeal.nD Cert.ConvVIdeal.τ).loc Cert.ConvVIdeal.main_arg3))
      ∧ θ_run (Cert.ConvVRefIdeal.defs (F := Ideal)) (onTc (τ := Cert.ConvVRefIdeal.τ) (Cert.ConvVRefIdeal.main (F := Ideal))) ⟨m', fun _ => 0, g'⟩ (fun r => ∀ c : Dev Cert.ConvVRefIdeal.nD,
          r.2.mem ((c.tc : Thread Cert.ConvVRefIdeal.nD Cert.ConvVRefIdeal.τ).loc Cert.ConvVRefIdeal.main_v89) = v0 c
          ∧ r.2.mem ((c.tc : Thread Cert.ConvVRefIdeal.nD Cert.ConvVRefIdeal.τ).loc Cert.ConvVRefIdeal.main_v82) = v1 c
          ∧ r.2.mem ((c.tc : Thread Cert.ConvVRefIdeal.nD Cert.ConvVRefIdeal.τ).loc Cert.ConvVRefIdeal.main_arg0) = m' ((c.tc : Thread Cert.ConvVRefIdeal.nD Cert.ConvVRefIdeal.τ).loc Cert.ConvVRefIdeal.main_arg0)
          ∧ r.2.mem ((c.tc : Thread Cert.ConvVRefIdeal.nD Cert.ConvVRefIdeal.τ).loc Cert.ConvVRefIdeal.main_arg1) = m' ((c.tc : Thread Cert.ConvVRefIdeal.nD Cert.ConvVRefIdeal.τ).loc Cert.ConvVRefIdeal.main_arg1)
          ∧ r.2.mem ((c.tc : Thread Cert.ConvVRefIdeal.nD Cert.ConvVRefIdeal.τ).loc Cert.ConvVRefIdeal.main_arg2) = m' ((c.tc : Thread Cert.ConvVRefIdeal.nD Cert.ConvVRefIdeal.τ).loc Cert.ConvVRefIdeal.main_arg2)
          ∧ r.2.mem ((c.tc : Thread Cert.ConvVRefIdeal.nD Cert.ConvVRefIdeal.τ).loc Cert.ConvVRefIdeal.main_arg3) = m' ((c.tc : Thread Cert.ConvVRefIdeal.nD Cert.ConvVRefIdeal.τ).loc Cert.ConvVRefIdeal.main_arg3))

def preserves_ConvK_ConvKIdeal : Prop :=
  True

def algebraic_ConvKIdeal_ConvKRefIdeal [hConvKIdeal : Cert.ConvKIdeal.Facts] [hConvKRefIdeal : Cert.ConvKRefIdeal.Facts] : Prop :=
  ∀ (m : (ℓ : Loc Cert.ConvKIdeal.nD Cert.ConvKIdeal.τ Cert.ConvKIdeal.sig) → Buf (Elt Ideal) ℓ) (g : Dev Cert.ConvKIdeal.nD → PrngReg)
    (m' : (ℓ : Loc Cert.ConvKRefIdeal.nD Cert.ConvKRefIdeal.τ Cert.ConvKRefIdeal.sig) → Buf (Elt Ideal) ℓ) (g' : Dev Cert.ConvKRefIdeal.nD → PrngReg), Pre_ConvKIdeal m →
    (∀ c : Dev Cert.ConvKIdeal.nD,
      m' ((c.tc : Thread Cert.ConvKRefIdeal.nD Cert.ConvKRefIdeal.τ).loc Cert.ConvKRefIdeal.main_arg0) = m ((c.tc : Thread Cert.ConvKIdeal.nD Cert.ConvKIdeal.τ).loc Cert.ConvKIdeal.main_arg0)
      ∧ m' ((c.tc : Thread Cert.ConvKRefIdeal.nD Cert.ConvKRefIdeal.τ).loc Cert.ConvKRefIdeal.main_arg1) = m ((c.tc : Thread Cert.ConvKIdeal.nD Cert.ConvKIdeal.τ).loc Cert.ConvKIdeal.main_arg1)
      ∧ m' ((c.tc : Thread Cert.ConvKRefIdeal.nD Cert.ConvKRefIdeal.τ).loc Cert.ConvKRefIdeal.main_arg2) = m ((c.tc : Thread Cert.ConvKIdeal.nD Cert.ConvKIdeal.τ).loc Cert.ConvKIdeal.main_arg2)
      ∧ m' ((c.tc : Thread Cert.ConvKRefIdeal.nD Cert.ConvKRefIdeal.τ).loc Cert.ConvKRefIdeal.main_arg3) = m ((c.tc : Thread Cert.ConvKIdeal.nD Cert.ConvKIdeal.τ).loc Cert.ConvKIdeal.main_arg3)) →
    ∃ (v0 : (c : Dev Cert.ConvKIdeal.nD) → Buf (Elt Ideal) ((c.tc : Thread Cert.ConvKIdeal.nD Cert.ConvKIdeal.τ).loc Cert.ConvKIdeal.main_v0_0)) (v1 : (c : Dev Cert.ConvKIdeal.nD) → Buf (Elt Ideal) ((c.tc : Thread Cert.ConvKIdeal.nD Cert.ConvKIdeal.τ).loc Cert.ConvKIdeal.main_v0_1)),
      θ_run (Cert.ConvKIdeal.defs (F := Ideal)) (onTc (τ := Cert.ConvKIdeal.τ) (Cert.ConvKIdeal.main (F := Ideal))) ⟨m, fun _ => 0, g⟩ (fun r => ∀ c : Dev Cert.ConvKIdeal.nD,
          r.2.mem ((c.tc : Thread Cert.ConvKIdeal.nD Cert.ConvKIdeal.τ).loc Cert.ConvKIdeal.main_v0_0) = v0 c
          ∧ r.2.mem ((c.tc : Thread Cert.ConvKIdeal.nD Cert.ConvKIdeal.τ).loc Cert.ConvKIdeal.main_v0_1) = v1 c
          ∧ r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
          ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
          ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
          ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3))
      ∧ θ_run (Cert.ConvKRefIdeal.defs (F := Ideal)) (onTc (τ := Cert.ConvKRefIdeal.τ) (Cert.ConvKRefIdeal.main (F := Ideal))) ⟨m', fun _ => 0, g'⟩ (fun r => ∀ c : Dev Cert.ConvKRefIdeal.nD,
          r.2.mem ((c.tc : Thread Cert.ConvKRefIdeal.nD Cert.ConvKRefIdeal.τ).loc Cert.ConvKRefIdeal.main_v112) = v0 c
          ∧ r.2.mem ((c.tc : Thread Cert.ConvKRefIdeal.nD Cert.ConvKRefIdeal.τ).loc Cert.ConvKRefIdeal.main_v105) = v1 c
          ∧ r.2.mem ((c.tc : Thread Cert.ConvKRefIdeal.nD Cert.ConvKRefIdeal.τ).loc Cert.ConvKRefIdeal.main_arg0) = m' ((c.tc : Thread Cert.ConvKRefIdeal.nD Cert.ConvKRefIdeal.τ).loc Cert.ConvKRefIdeal.main_arg0)
          ∧ r.2.mem ((c.tc : Thread Cert.ConvKRefIdeal.nD Cert.ConvKRefIdeal.τ).loc Cert.ConvKRefIdeal.main_arg1) = m' ((c.tc : Thread Cert.ConvKRefIdeal.nD Cert.ConvKRefIdeal.τ).loc Cert.ConvKRefIdeal.main_arg1)
          ∧ r.2.mem ((c.tc : Thread Cert.ConvKRefIdeal.nD Cert.ConvKRefIdeal.τ).loc Cert.ConvKRefIdeal.main_arg2) = m' ((c.tc : Thread Cert.ConvKRefIdeal.nD Cert.ConvKRefIdeal.τ).loc Cert.ConvKRefIdeal.main_arg2)
          ∧ r.2.mem ((c.tc : Thread Cert.ConvKRefIdeal.nD Cert.ConvKRefIdeal.τ).loc Cert.ConvKRefIdeal.main_arg3) = m' ((c.tc : Thread Cert.ConvKRefIdeal.nD Cert.ConvKRefIdeal.τ).loc Cert.ConvKRefIdeal.main_arg3))

def preserves_ConvQ_ConvQIdeal : Prop :=
  True

def algebraic_ConvQIdeal_ConvQRefIdeal [hConvQIdeal : Cert.ConvQIdeal.Facts] [hConvQRefIdeal : Cert.ConvQRefIdeal.Facts] : Prop :=
  ∀ (m : (ℓ : Loc Cert.ConvQIdeal.nD Cert.ConvQIdeal.τ Cert.ConvQIdeal.sig) → Buf (Elt Ideal) ℓ) (g : Dev Cert.ConvQIdeal.nD → PrngReg)
    (m' : (ℓ : Loc Cert.ConvQRefIdeal.nD Cert.ConvQRefIdeal.τ Cert.ConvQRefIdeal.sig) → Buf (Elt Ideal) ℓ) (g' : Dev Cert.ConvQRefIdeal.nD → PrngReg), Pre_ConvQIdeal m →
    (∀ c : Dev Cert.ConvQIdeal.nD,
      m' ((c.tc : Thread Cert.ConvQRefIdeal.nD Cert.ConvQRefIdeal.τ).loc Cert.ConvQRefIdeal.main_arg0) = m ((c.tc : Thread Cert.ConvQIdeal.nD Cert.ConvQIdeal.τ).loc Cert.ConvQIdeal.main_arg0)
      ∧ m' ((c.tc : Thread Cert.ConvQRefIdeal.nD Cert.ConvQRefIdeal.τ).loc Cert.ConvQRefIdeal.main_arg1) = m ((c.tc : Thread Cert.ConvQIdeal.nD Cert.ConvQIdeal.τ).loc Cert.ConvQIdeal.main_arg1)
      ∧ m' ((c.tc : Thread Cert.ConvQRefIdeal.nD Cert.ConvQRefIdeal.τ).loc Cert.ConvQRefIdeal.main_arg2) = m ((c.tc : Thread Cert.ConvQIdeal.nD Cert.ConvQIdeal.τ).loc Cert.ConvQIdeal.main_arg2)
      ∧ m' ((c.tc : Thread Cert.ConvQRefIdeal.nD Cert.ConvQRefIdeal.τ).loc Cert.ConvQRefIdeal.main_arg3) = m ((c.tc : Thread Cert.ConvQIdeal.nD Cert.ConvQIdeal.τ).loc Cert.ConvQIdeal.main_arg3)) →
    ∃ (v0 : (c : Dev Cert.ConvQIdeal.nD) → Buf (Elt Ideal) ((c.tc : Thread Cert.ConvQIdeal.nD Cert.ConvQIdeal.τ).loc Cert.ConvQIdeal.main_v0_0)) (v1 : (c : Dev Cert.ConvQIdeal.nD) → Buf (Elt Ideal) ((c.tc : Thread Cert.ConvQIdeal.nD Cert.ConvQIdeal.τ).loc Cert.ConvQIdeal.main_v0_1)),
      θ_run (Cert.ConvQIdeal.defs (F := Ideal)) (onTc (τ := Cert.ConvQIdeal.τ) (Cert.ConvQIdeal.main (F := Ideal))) ⟨m, fun _ => 0, g⟩ (fun r => ∀ c : Dev Cert.ConvQIdeal.nD,
          r.2.mem ((c.tc : Thread Cert.ConvQIdeal.nD Cert.ConvQIdeal.τ).loc Cert.ConvQIdeal.main_v0_0) = v0 c
          ∧ r.2.mem ((c.tc : Thread Cert.ConvQIdeal.nD Cert.ConvQIdeal.τ).loc Cert.ConvQIdeal.main_v0_1) = v1 c
          ∧ r.2.mem ((c.tc : Thread Cert.ConvQIdeal.nD Cert.ConvQIdeal.τ).loc Cert.ConvQIdeal.main_arg0) = m ((c.tc : Thread Cert.ConvQIdeal.nD Cert.ConvQIdeal.τ).loc Cert.ConvQIdeal.main_arg0)
          ∧ r.2.mem ((c.tc : Thread Cert.ConvQIdeal.nD Cert.ConvQIdeal.τ).loc Cert.ConvQIdeal.main_arg1) = m ((c.tc : Thread Cert.ConvQIdeal.nD Cert.ConvQIdeal.τ).loc Cert.ConvQIdeal.main_arg1)
          ∧ r.2.mem ((c.tc : Thread Cert.ConvQIdeal.nD Cert.ConvQIdeal.τ).loc Cert.ConvQIdeal.main_arg2) = m ((c.tc : Thread Cert.ConvQIdeal.nD Cert.ConvQIdeal.τ).loc Cert.ConvQIdeal.main_arg2)
          ∧ r.2.mem ((c.tc : Thread Cert.ConvQIdeal.nD Cert.ConvQIdeal.τ).loc Cert.ConvQIdeal.main_arg3) = m ((c.tc : Thread Cert.ConvQIdeal.nD Cert.ConvQIdeal.τ).loc Cert.ConvQIdeal.main_arg3))
      ∧ θ_run (Cert.ConvQRefIdeal.defs (F := Ideal)) (onTc (τ := Cert.ConvQRefIdeal.τ) (Cert.ConvQRefIdeal.main (F := Ideal))) ⟨m', fun _ => 0, g'⟩ (fun r => ∀ c : Dev Cert.ConvQRefIdeal.nD,
          r.2.mem ((c.tc : Thread Cert.ConvQRefIdeal.nD Cert.ConvQRefIdeal.τ).loc Cert.ConvQRefIdeal.main_v116) = v0 c
          ∧ r.2.mem ((c.tc : Thread Cert.ConvQRefIdeal.nD Cert.ConvQRefIdeal.τ).loc Cert.ConvQRefIdeal.main_v109) = v1 c
          ∧ r.2.mem ((c.tc : Thread Cert.ConvQRefIdeal.nD Cert.ConvQRefIdeal.τ).loc Cert.ConvQRefIdeal.main_arg0) = m' ((c.tc : Thread Cert.ConvQRefIdeal.nD Cert.ConvQRefIdeal.τ).loc Cert.ConvQRefIdeal.main_arg0)
          ∧ r.2.mem ((c.tc : Thread Cert.ConvQRefIdeal.nD Cert.ConvQRefIdeal.τ).loc Cert.ConvQRefIdeal.main_arg1) = m' ((c.tc : Thread Cert.ConvQRefIdeal.nD Cert.ConvQRefIdeal.τ).loc Cert.ConvQRefIdeal.main_arg1)
          ∧ r.2.mem ((c.tc : Thread Cert.ConvQRefIdeal.nD Cert.ConvQRefIdeal.τ).loc Cert.ConvQRefIdeal.main_arg2) = m' ((c.tc : Thread Cert.ConvQRefIdeal.nD Cert.ConvQRefIdeal.τ).loc Cert.ConvQRefIdeal.main_arg2)
          ∧ r.2.mem ((c.tc : Thread Cert.ConvQRefIdeal.nD Cert.ConvQRefIdeal.τ).loc Cert.ConvQRefIdeal.main_arg3) = m' ((c.tc : Thread Cert.ConvQRefIdeal.nD Cert.ConvQRefIdeal.τ).loc Cert.ConvQRefIdeal.main_arg3))

def preserves_InSmall_InSmallIdeal : Prop :=
  True

def algebraic_InSmallIdeal_InSmallRefIdeal [hInSmallIdeal : Cert.InSmallIdeal.Facts] [hInSmallRefIdeal : Cert.InSmallRefIdeal.Facts] : Prop :=
  ∀ (m : (ℓ : Loc Cert.InSmallIdeal.nD Cert.InSmallIdeal.τ Cert.InSmallIdeal.sig) → Buf (Elt Ideal) ℓ) (g : Dev Cert.InSmallIdeal.nD → PrngReg)
    (m' : (ℓ : Loc Cert.InSmallRefIdeal.nD Cert.InSmallRefIdeal.τ Cert.InSmallRefIdeal.sig) → Buf (Elt Ideal) ℓ) (g' : Dev Cert.InSmallRefIdeal.nD → PrngReg), Pre_InSmallIdeal m →
    (∀ c : Dev Cert.InSmallIdeal.nD,
      m' ((c.tc : Thread Cert.InSmallRefIdeal.nD Cert.InSmallRefIdeal.τ).loc Cert.InSmallRefIdeal.main_arg0) = m ((c.tc : Thread Cert.InSmallIdeal.nD Cert.InSmallIdeal.τ).loc Cert.InSmallIdeal.main_arg0)
      ∧ m' ((c.tc : Thread Cert.InSmallRefIdeal.nD Cert.InSmallRefIdeal.τ).loc Cert.InSmallRefIdeal.main_arg1) = m ((c.tc : Thread Cert.InSmallIdeal.nD Cert.InSmallIdeal.τ).loc Cert.InSmallIdeal.main_arg1)) →
    ∃ (v0 : (c : Dev Cert.InSmallIdeal.nD) → Buf (Elt Ideal) ((c.tc : Thread Cert.InSmallIdeal.nD Cert.InSmallIdeal.τ).loc Cert.InSmallIdeal.main_v0)),
      θ_run (Cert.InSmallIdeal.defs (F := Ideal)) (onTc (τ := Cert.InSmallIdeal.τ) (Cert.InSmallIdeal.main (F := Ideal))) ⟨m, fun _ => 0, g⟩ (fun r => ∀ c : Dev Cert.InSmallIdeal.nD,
          r.2.mem ((c.tc : Thread Cert.InSmallIdeal.nD Cert.InSmallIdeal.τ).loc Cert.InSmallIdeal.main_v0) = v0 c
          ∧ r.2.mem ((c.tc : Thread Cert.InSmallIdeal.nD Cert.InSmallIdeal.τ).loc Cert.InSmallIdeal.main_arg0) = m ((c.tc : Thread Cert.InSmallIdeal.nD Cert.InSmallIdeal.τ).loc Cert.InSmallIdeal.main_arg0)
          ∧ r.2.mem ((c.tc : Thread Cert.InSmallIdeal.nD Cert.InSmallIdeal.τ).loc Cert.InSmallIdeal.main_arg1) = m ((c.tc : Thread Cert.InSmallIdeal.nD Cert.InSmallIdeal.τ).loc Cert.InSmallIdeal.main_arg1))
      ∧ θ_run (Cert.InSmallRefIdeal.defs (F := Ideal)) (onTc (τ := Cert.InSmallRefIdeal.τ) (Cert.InSmallRefIdeal.main (F := Ideal))) ⟨m', fun _ => 0, g'⟩ (fun r => ∀ c : Dev Cert.InSmallRefIdeal.nD,
          r.2.mem ((c.tc : Thread Cert.InSmallRefIdeal.nD Cert.InSmallRefIdeal.τ).loc Cert.InSmallRefIdeal.main_v2) = v0 c
          ∧ r.2.mem ((c.tc : Thread Cert.InSmallRefIdeal.nD Cert.InSmallRefIdeal.τ).loc Cert.InSmallRefIdeal.main_arg0) = m' ((c.tc : Thread Cert.InSmallRefIdeal.nD Cert.InSmallRefIdeal.τ).loc Cert.InSmallRefIdeal.main_arg0)
          ∧ r.2.mem ((c.tc : Thread Cert.InSmallRefIdeal.nD Cert.InSmallRefIdeal.τ).loc Cert.InSmallRefIdeal.main_arg1) = m' ((c.tc : Thread Cert.InSmallRefIdeal.nD Cert.InSmallRefIdeal.τ).loc Cert.InSmallRefIdeal.main_arg1))

def preserves_InSmallDx_InSmallDxIdeal : Prop :=
  True

def algebraic_InSmallDxIdeal_InSmallDxRefIdeal [hInSmallDxIdeal : Cert.InSmallDxIdeal.Facts] [hInSmallDxRefIdeal : Cert.InSmallDxRefIdeal.Facts] : Prop :=
  ∀ (m : (ℓ : Loc Cert.InSmallDxIdeal.nD Cert.InSmallDxIdeal.τ Cert.InSmallDxIdeal.sig) → Buf (Elt Ideal) ℓ) (g : Dev Cert.InSmallDxIdeal.nD → PrngReg)
    (m' : (ℓ : Loc Cert.InSmallDxRefIdeal.nD Cert.InSmallDxRefIdeal.τ Cert.InSmallDxRefIdeal.sig) → Buf (Elt Ideal) ℓ) (g' : Dev Cert.InSmallDxRefIdeal.nD → PrngReg), Pre_InSmallDxIdeal m →
    (∀ c : Dev Cert.InSmallDxIdeal.nD,
      m' ((c.tc : Thread Cert.InSmallDxRefIdeal.nD Cert.InSmallDxRefIdeal.τ).loc Cert.InSmallDxRefIdeal.main_arg0) = m ((c.tc : Thread Cert.InSmallDxIdeal.nD Cert.InSmallDxIdeal.τ).loc Cert.InSmallDxIdeal.main_arg0)
      ∧ m' ((c.tc : Thread Cert.InSmallDxRefIdeal.nD Cert.InSmallDxRefIdeal.τ).loc Cert.InSmallDxRefIdeal.main_arg1) = m ((c.tc : Thread Cert.InSmallDxIdeal.nD Cert.InSmallDxIdeal.τ).loc Cert.InSmallDxIdeal.main_arg1)) →
    ∃ (v0 : (c : Dev Cert.InSmallDxIdeal.nD) → Buf (Elt Ideal) ((c.tc : Thread Cert.InSmallDxIdeal.nD Cert.InSmallDxIdeal.τ).loc Cert.InSmallDxIdeal.main_v0)),
      θ_run (Cert.InSmallDxIdeal.defs (F := Ideal)) (onTc (τ := Cert.InSmallDxIdeal.τ) (Cert.InSmallDxIdeal.main (F := Ideal))) ⟨m, fun _ => 0, g⟩ (fun r => ∀ c : Dev Cert.InSmallDxIdeal.nD,
          r.2.mem ((c.tc : Thread Cert.InSmallDxIdeal.nD Cert.InSmallDxIdeal.τ).loc Cert.InSmallDxIdeal.main_v0) = v0 c
          ∧ r.2.mem ((c.tc : Thread Cert.InSmallDxIdeal.nD Cert.InSmallDxIdeal.τ).loc Cert.InSmallDxIdeal.main_arg0) = m ((c.tc : Thread Cert.InSmallDxIdeal.nD Cert.InSmallDxIdeal.τ).loc Cert.InSmallDxIdeal.main_arg0)
          ∧ r.2.mem ((c.tc : Thread Cert.InSmallDxIdeal.nD Cert.InSmallDxIdeal.τ).loc Cert.InSmallDxIdeal.main_arg1) = m ((c.tc : Thread Cert.InSmallDxIdeal.nD Cert.InSmallDxIdeal.τ).loc Cert.InSmallDxIdeal.main_arg1))
      ∧ θ_run (Cert.InSmallDxRefIdeal.defs (F := Ideal)) (onTc (τ := Cert.InSmallDxRefIdeal.τ) (Cert.InSmallDxRefIdeal.main (F := Ideal))) ⟨m', fun _ => 0, g'⟩ (fun r => ∀ c : Dev Cert.InSmallDxRefIdeal.nD,
          r.2.mem ((c.tc : Thread Cert.InSmallDxRefIdeal.nD Cert.InSmallDxRefIdeal.τ).loc Cert.InSmallDxRefIdeal.main_v4) = v0 c
          ∧ r.2.mem ((c.tc : Thread Cert.InSmallDxRefIdeal.nD Cert.InSmallDxRefIdeal.τ).loc Cert.InSmallDxRefIdeal.main_arg0) = m' ((c.tc : Thread Cert.InSmallDxRefIdeal.nD Cert.InSmallDxRefIdeal.τ).loc Cert.InSmallDxRefIdeal.main_arg0)
          ∧ r.2.mem ((c.tc : Thread Cert.InSmallDxRefIdeal.nD Cert.InSmallDxRefIdeal.τ).loc Cert.InSmallDxRefIdeal.main_arg1) = m' ((c.tc : Thread Cert.InSmallDxRefIdeal.nD Cert.InSmallDxRefIdeal.τ).loc Cert.InSmallDxRefIdeal.main_arg1))

def preserves_InSmallDw_InSmallDwIdeal : Prop :=
  True

def algebraic_InSmallDwIdeal_InSmallDwRefIdeal [hInSmallDwIdeal : Cert.InSmallDwIdeal.Facts] [hInSmallDwRefIdeal : Cert.InSmallDwRefIdeal.Facts] : Prop :=
  ∀ (m : (ℓ : Loc Cert.InSmallDwIdeal.nD Cert.InSmallDwIdeal.τ Cert.InSmallDwIdeal.sig) → Buf (Elt Ideal) ℓ) (g : Dev Cert.InSmallDwIdeal.nD → PrngReg)
    (m' : (ℓ : Loc Cert.InSmallDwRefIdeal.nD Cert.InSmallDwRefIdeal.τ Cert.InSmallDwRefIdeal.sig) → Buf (Elt Ideal) ℓ) (g' : Dev Cert.InSmallDwRefIdeal.nD → PrngReg), Pre_InSmallDwIdeal m →
    (∀ c : Dev Cert.InSmallDwIdeal.nD,
      m' ((c.tc : Thread Cert.InSmallDwRefIdeal.nD Cert.InSmallDwRefIdeal.τ).loc Cert.InSmallDwRefIdeal.main_arg0) = m ((c.tc : Thread Cert.InSmallDwIdeal.nD Cert.InSmallDwIdeal.τ).loc Cert.InSmallDwIdeal.main_arg0)
      ∧ m' ((c.tc : Thread Cert.InSmallDwRefIdeal.nD Cert.InSmallDwRefIdeal.τ).loc Cert.InSmallDwRefIdeal.main_arg1) = m ((c.tc : Thread Cert.InSmallDwIdeal.nD Cert.InSmallDwIdeal.τ).loc Cert.InSmallDwIdeal.main_arg1)) →
    ∃ (v0 : (c : Dev Cert.InSmallDwIdeal.nD) → Buf (Elt Ideal) ((c.tc : Thread Cert.InSmallDwIdeal.nD Cert.InSmallDwIdeal.τ).loc Cert.InSmallDwIdeal.main_v0)),
      θ_run (Cert.InSmallDwIdeal.defs (F := Ideal)) (onTc (τ := Cert.InSmallDwIdeal.τ) (Cert.InSmallDwIdeal.main (F := Ideal))) ⟨m, fun _ => 0, g⟩ (fun r => ∀ c : Dev Cert.InSmallDwIdeal.nD,
          r.2.mem ((c.tc : Thread Cert.InSmallDwIdeal.nD Cert.InSmallDwIdeal.τ).loc Cert.InSmallDwIdeal.main_v0) = v0 c
          ∧ r.2.mem ((c.tc : Thread Cert.InSmallDwIdeal.nD Cert.InSmallDwIdeal.τ).loc Cert.InSmallDwIdeal.main_arg0) = m ((c.tc : Thread Cert.InSmallDwIdeal.nD Cert.InSmallDwIdeal.τ).loc Cert.InSmallDwIdeal.main_arg0)
          ∧ r.2.mem ((c.tc : Thread Cert.InSmallDwIdeal.nD Cert.InSmallDwIdeal.τ).loc Cert.InSmallDwIdeal.main_arg1) = m ((c.tc : Thread Cert.InSmallDwIdeal.nD Cert.InSmallDwIdeal.τ).loc Cert.InSmallDwIdeal.main_arg1))
      ∧ θ_run (Cert.InSmallDwRefIdeal.defs (F := Ideal)) (onTc (τ := Cert.InSmallDwRefIdeal.τ) (Cert.InSmallDwRefIdeal.main (F := Ideal))) ⟨m', fun _ => 0, g'⟩ (fun r => ∀ c : Dev Cert.InSmallDwRefIdeal.nD,
          r.2.mem ((c.tc : Thread Cert.InSmallDwRefIdeal.nD Cert.InSmallDwRefIdeal.τ).loc Cert.InSmallDwRefIdeal.main_v5) = v0 c
          ∧ r.2.mem ((c.tc : Thread Cert.InSmallDwRefIdeal.nD Cert.InSmallDwRefIdeal.τ).loc Cert.InSmallDwRefIdeal.main_arg0) = m' ((c.tc : Thread Cert.InSmallDwRefIdeal.nD Cert.InSmallDwRefIdeal.τ).loc Cert.InSmallDwRefIdeal.main_arg0)
          ∧ r.2.mem ((c.tc : Thread Cert.InSmallDwRefIdeal.nD Cert.InSmallDwRefIdeal.τ).loc Cert.InSmallDwRefIdeal.main_arg1) = m' ((c.tc : Thread Cert.InSmallDwRefIdeal.nD Cert.InSmallDwRefIdeal.τ).loc Cert.InSmallDwRefIdeal.main_arg1))

def preserves_ConvVFwd_ConvVFwdIdeal : Prop :=
  True

def algebraic_ConvVFwdIdeal_ConvVFwdRefIdeal [hConvVFwdIdeal : Cert.ConvVFwdIdeal.Facts] [hConvVFwdRefIdeal : Cert.ConvVFwdRefIdeal.Facts] : Prop :=
  ∀ (m : (ℓ : Loc Cert.ConvVFwdIdeal.nD Cert.ConvVFwdIdeal.τ Cert.ConvVFwdIdeal.sig) → Buf (Elt Ideal) ℓ) (g : Dev Cert.ConvVFwdIdeal.nD → PrngReg)
    (m' : (ℓ : Loc Cert.ConvVFwdRefIdeal.nD Cert.ConvVFwdRefIdeal.τ Cert.ConvVFwdRefIdeal.sig) → Buf (Elt Ideal) ℓ) (g' : Dev Cert.ConvVFwdRefIdeal.nD → PrngReg), Pre_ConvVFwdIdeal m →
    (∀ c : Dev Cert.ConvVFwdIdeal.nD,
      m' ((c.tc : Thread Cert.ConvVFwdRefIdeal.nD Cert.ConvVFwdRefIdeal.τ).loc Cert.ConvVFwdRefIdeal.main_arg0) = m ((c.tc : Thread Cert.ConvVFwdIdeal.nD Cert.ConvVFwdIdeal.τ).loc Cert.ConvVFwdIdeal.main_arg0)
      ∧ m' ((c.tc : Thread Cert.ConvVFwdRefIdeal.nD Cert.ConvVFwdRefIdeal.τ).loc Cert.ConvVFwdRefIdeal.main_arg1) = m ((c.tc : Thread Cert.ConvVFwdIdeal.nD Cert.ConvVFwdIdeal.τ).loc Cert.ConvVFwdIdeal.main_arg1)) →
    ∃ (v0 : (c : Dev Cert.ConvVFwdIdeal.nD) → Buf (Elt Ideal) ((c.tc : Thread Cert.ConvVFwdIdeal.nD Cert.ConvVFwdIdeal.τ).loc Cert.ConvVFwdIdeal.main_v0)),
      θ_run (Cert.ConvVFwdIdeal.defs (F := Ideal)) (onTc (τ := Cert.ConvVFwdIdeal.τ) (Cert.ConvVFwdIdeal.main (F := Ideal))) ⟨m, fun _ => 0, g⟩ (fun r => ∀ c : Dev Cert.ConvVFwdIdeal.nD,
          r.2.mem ((c.tc : Thread Cert.ConvVFwdIdeal.nD Cert.ConvVFwdIdeal.τ).loc Cert.ConvVFwdIdeal.main_v0) = v0 c
          ∧ r.2.mem ((c.tc : Thread Cert.ConvVFwdIdeal.nD Cert.ConvVFwdIdeal.τ).loc Cert.ConvVFwdIdeal.main_arg0) = m ((c.tc : Thread Cert.ConvVFwdIdeal.nD Cert.ConvVFwdIdeal.τ).loc Cert.ConvVFwdIdeal.main_arg0)
          ∧ r.2.mem ((c.tc : Thread Cert.ConvVFwdIdeal.nD Cert.ConvVFwdIdeal.τ).loc Cert.ConvVFwdIdeal.main_arg1) = m ((c.tc : Thread Cert.ConvVFwdIdeal.nD Cert.ConvVFwdIdeal.τ).loc Cert.ConvVFwdIdeal.main_arg1))
      ∧ θ_run (Cert.ConvVFwdRefIdeal.defs (F := Ideal)) (onTc (τ := Cert.ConvVFwdRefIdeal.τ) (Cert.ConvVFwdRefIdeal.main (F := Ideal))) ⟨m', fun _ => 0, g'⟩ (fun r => ∀ c : Dev Cert.ConvVFwdRefIdeal.nD,
          r.2.mem ((c.tc : Thread Cert.ConvVFwdRefIdeal.nD Cert.ConvVFwdRefIdeal.τ).loc Cert.ConvVFwdRefIdeal.main_v37) = v0 c
          ∧ r.2.mem ((c.tc : Thread Cert.ConvVFwdRefIdeal.nD Cert.ConvVFwdRefIdeal.τ).loc Cert.ConvVFwdRefIdeal.main_arg0) = m' ((c.tc : Thread Cert.ConvVFwdRefIdeal.nD Cert.ConvVFwdRefIdeal.τ).loc Cert.ConvVFwdRefIdeal.main_arg0)
          ∧ r.2.mem ((c.tc : Thread Cert.ConvVFwdRefIdeal.nD Cert.ConvVFwdRefIdeal.τ).loc Cert.ConvVFwdRefIdeal.main_arg1) = m' ((c.tc : Thread Cert.ConvVFwdRefIdeal.nD Cert.ConvVFwdRefIdeal.τ).loc Cert.ConvVFwdRefIdeal.main_arg1))

def preserves_ConvKFwd_ConvKFwdIdeal : Prop :=
  True

def algebraic_ConvKFwdIdeal_ConvKFwdRefIdeal [hConvKFwdIdeal : Cert.ConvKFwdIdeal.Facts] [hConvKFwdRefIdeal : Cert.ConvKFwdRefIdeal.Facts] : Prop :=
  ∀ (m : (ℓ : Loc Cert.ConvKFwdIdeal.nD Cert.ConvKFwdIdeal.τ Cert.ConvKFwdIdeal.sig) → Buf (Elt Ideal) ℓ) (g : Dev Cert.ConvKFwdIdeal.nD → PrngReg)
    (m' : (ℓ : Loc Cert.ConvKFwdRefIdeal.nD Cert.ConvKFwdRefIdeal.τ Cert.ConvKFwdRefIdeal.sig) → Buf (Elt Ideal) ℓ) (g' : Dev Cert.ConvKFwdRefIdeal.nD → PrngReg), Pre_ConvKFwdIdeal m →
    (∀ c : Dev Cert.ConvKFwdIdeal.nD,
      m' ((c.tc : Thread Cert.ConvKFwdRefIdeal.nD Cert.ConvKFwdRefIdeal.τ).loc Cert.ConvKFwdRefIdeal.main_arg0) = m ((c.tc : Thread Cert.ConvKFwdIdeal.nD Cert.ConvKFwdIdeal.τ).loc Cert.ConvKFwdIdeal.main_arg0)
      ∧ m' ((c.tc : Thread Cert.ConvKFwdRefIdeal.nD Cert.ConvKFwdRefIdeal.τ).loc Cert.ConvKFwdRefIdeal.main_arg1) = m ((c.tc : Thread Cert.ConvKFwdIdeal.nD Cert.ConvKFwdIdeal.τ).loc Cert.ConvKFwdIdeal.main_arg1)) →
    ∃ (v0 : (c : Dev Cert.ConvKFwdIdeal.nD) → Buf (Elt Ideal) ((c.tc : Thread Cert.ConvKFwdIdeal.nD Cert.ConvKFwdIdeal.τ).loc Cert.ConvKFwdIdeal.main_v0)),
      θ_run (Cert.ConvKFwdIdeal.defs (F := Ideal)) (onTc (τ := Cert.ConvKFwdIdeal.τ) (Cert.ConvKFwdIdeal.main (F := Ideal))) ⟨m, fun _ => 0, g⟩ (fun r => ∀ c : Dev Cert.ConvKFwdIdeal.nD,
          r.2.mem ((c.tc : Thread Cert.ConvKFwdIdeal.nD Cert.ConvKFwdIdeal.τ).loc Cert.ConvKFwdIdeal.main_v0) = v0 c
          ∧ r.2.mem ((c.tc : Thread Cert.ConvKFwdIdeal.nD Cert.ConvKFwdIdeal.τ).loc Cert.ConvKFwdIdeal.main_arg0) = m ((c.tc : Thread Cert.ConvKFwdIdeal.nD Cert.ConvKFwdIdeal.τ).loc Cert.ConvKFwdIdeal.main_arg0)
          ∧ r.2.mem ((c.tc : Thread Cert.ConvKFwdIdeal.nD Cert.ConvKFwdIdeal.τ).loc Cert.ConvKFwdIdeal.main_arg1) = m ((c.tc : Thread Cert.ConvKFwdIdeal.nD Cert.ConvKFwdIdeal.τ).loc Cert.ConvKFwdIdeal.main_arg1))
      ∧ θ_run (Cert.ConvKFwdRefIdeal.defs (F := Ideal)) (onTc (τ := Cert.ConvKFwdRefIdeal.τ) (Cert.ConvKFwdRefIdeal.main (F := Ideal))) ⟨m', fun _ => 0, g'⟩ (fun r => ∀ c : Dev Cert.ConvKFwdRefIdeal.nD,
          r.2.mem ((c.tc : Thread Cert.ConvKFwdRefIdeal.nD Cert.ConvKFwdRefIdeal.τ).loc Cert.ConvKFwdRefIdeal.main_v45) = v0 c
          ∧ r.2.mem ((c.tc : Thread Cert.ConvKFwdRefIdeal.nD Cert.ConvKFwdRefIdeal.τ).loc Cert.ConvKFwdRefIdeal.main_arg0) = m' ((c.tc : Thread Cert.ConvKFwdRefIdeal.nD Cert.ConvKFwdRefIdeal.τ).loc Cert.ConvKFwdRefIdeal.main_arg0)
          ∧ r.2.mem ((c.tc : Thread Cert.ConvKFwdRefIdeal.nD Cert.ConvKFwdRefIdeal.τ).loc Cert.ConvKFwdRefIdeal.main_arg1) = m' ((c.tc : Thread Cert.ConvKFwdRefIdeal.nD Cert.ConvKFwdRefIdeal.τ).loc Cert.ConvKFwdRefIdeal.main_arg1))

def preserves_ConvQFwd_ConvQFwdIdeal : Prop :=
  True

def algebraic_ConvQFwdIdeal_ConvQFwdRefIdeal [hConvQFwdIdeal : Cert.ConvQFwdIdeal.Facts] [hConvQFwdRefIdeal : Cert.ConvQFwdRefIdeal.Facts] : Prop :=
  ∀ (m : (ℓ : Loc Cert.ConvQFwdIdeal.nD Cert.ConvQFwdIdeal.τ Cert.ConvQFwdIdeal.sig) → Buf (Elt Ideal) ℓ) (g : Dev Cert.ConvQFwdIdeal.nD → PrngReg)
    (m' : (ℓ : Loc Cert.ConvQFwdRefIdeal.nD Cert.ConvQFwdRefIdeal.τ Cert.ConvQFwdRefIdeal.sig) → Buf (Elt Ideal) ℓ) (g' : Dev Cert.ConvQFwdRefIdeal.nD → PrngReg), Pre_ConvQFwdIdeal m →
    (∀ c : Dev Cert.ConvQFwdIdeal.nD,
      m' ((c.tc : Thread Cert.ConvQFwdRefIdeal.nD Cert.ConvQFwdRefIdeal.τ).loc Cert.ConvQFwdRefIdeal.main_arg0) = m ((c.tc : Thread Cert.ConvQFwdIdeal.nD Cert.ConvQFwdIdeal.τ).loc Cert.ConvQFwdIdeal.main_arg0)
      ∧ m' ((c.tc : Thread Cert.ConvQFwdRefIdeal.nD Cert.ConvQFwdRefIdeal.τ).loc Cert.ConvQFwdRefIdeal.main_arg1) = m ((c.tc : Thread Cert.ConvQFwdIdeal.nD Cert.ConvQFwdIdeal.τ).loc Cert.ConvQFwdIdeal.main_arg1)) →
    ∃ (v0 : (c : Dev Cert.ConvQFwdIdeal.nD) → Buf (Elt Ideal) ((c.tc : Thread Cert.ConvQFwdIdeal.nD Cert.ConvQFwdIdeal.τ).loc Cert.ConvQFwdIdeal.main_v0)),
      θ_run (Cert.ConvQFwdIdeal.defs (F := Ideal)) (onTc (τ := Cert.ConvQFwdIdeal.τ) (Cert.ConvQFwdIdeal.main (F := Ideal))) ⟨m, fun _ => 0, g⟩ (fun r => ∀ c : Dev Cert.ConvQFwdIdeal.nD,
          r.2.mem ((c.tc : Thread Cert.ConvQFwdIdeal.nD Cert.ConvQFwdIdeal.τ).loc Cert.ConvQFwdIdeal.main_v0) = v0 c
          ∧ r.2.mem ((c.tc : Thread Cert.ConvQFwdIdeal.nD Cert.ConvQFwdIdeal.τ).loc Cert.ConvQFwdIdeal.main_arg0) = m ((c.tc : Thread Cert.ConvQFwdIdeal.nD Cert.ConvQFwdIdeal.τ).loc Cert.ConvQFwdIdeal.main_arg0)
          ∧ r.2.mem ((c.tc : Thread Cert.ConvQFwdIdeal.nD Cert.ConvQFwdIdeal.τ).loc Cert.ConvQFwdIdeal.main_arg1) = m ((c.tc : Thread Cert.ConvQFwdIdeal.nD Cert.ConvQFwdIdeal.τ).loc Cert.ConvQFwdIdeal.main_arg1))
      ∧ θ_run (Cert.ConvQFwdRefIdeal.defs (F := Ideal)) (onTc (τ := Cert.ConvQFwdRefIdeal.τ) (Cert.ConvQFwdRefIdeal.main (F := Ideal))) ⟨m', fun _ => 0, g'⟩ (fun r => ∀ c : Dev Cert.ConvQFwdRefIdeal.nD,
          r.2.mem ((c.tc : Thread Cert.ConvQFwdRefIdeal.nD Cert.ConvQFwdRefIdeal.τ).loc Cert.ConvQFwdRefIdeal.main_v47) = v0 c
          ∧ r.2.mem ((c.tc : Thread Cert.ConvQFwdRefIdeal.nD Cert.ConvQFwdRefIdeal.τ).loc Cert.ConvQFwdRefIdeal.main_arg0) = m' ((c.tc : Thread Cert.ConvQFwdRefIdeal.nD Cert.ConvQFwdRefIdeal.τ).loc Cert.ConvQFwdRefIdeal.main_arg0)
          ∧ r.2.mem ((c.tc : Thread Cert.ConvQFwdRefIdeal.nD Cert.ConvQFwdRefIdeal.τ).loc Cert.ConvQFwdRefIdeal.main_arg1) = m' ((c.tc : Thread Cert.ConvQFwdRefIdeal.nD Cert.ConvQFwdRefIdeal.τ).loc Cert.ConvQFwdRefIdeal.main_arg1))

def preserves_SsdConvFwd_SsdConvFwdIdeal : Prop :=
  True

def algebraic_SsdConvFwdIdeal_SsdConvFwdRefIdeal [hSsdConvFwdIdeal : Cert.SsdConvFwdIdeal.Facts] [hSsdConvFwdRefIdeal : Cert.SsdConvFwdRefIdeal.Facts] : Prop :=
  ∀ (m : (ℓ : Loc Cert.SsdConvFwdIdeal.nD Cert.SsdConvFwdIdeal.τ Cert.SsdConvFwdIdeal.sig) → Buf (Elt Ideal) ℓ) (g : Dev Cert.SsdConvFwdIdeal.nD → PrngReg)
    (m' : (ℓ : Loc Cert.SsdConvFwdRefIdeal.nD Cert.SsdConvFwdRefIdeal.τ Cert.SsdConvFwdRefIdeal.sig) → Buf (Elt Ideal) ℓ) (g' : Dev Cert.SsdConvFwdRefIdeal.nD → PrngReg), Pre_SsdConvFwdIdeal m →
    (∀ c : Dev Cert.SsdConvFwdIdeal.nD,
      m' ((c.tc : Thread Cert.SsdConvFwdRefIdeal.nD Cert.SsdConvFwdRefIdeal.τ).loc Cert.SsdConvFwdRefIdeal.main_arg0) = m ((c.tc : Thread Cert.SsdConvFwdIdeal.nD Cert.SsdConvFwdIdeal.τ).loc Cert.SsdConvFwdIdeal.main_arg0)
      ∧ m' ((c.tc : Thread Cert.SsdConvFwdRefIdeal.nD Cert.SsdConvFwdRefIdeal.τ).loc Cert.SsdConvFwdRefIdeal.main_arg1) = m ((c.tc : Thread Cert.SsdConvFwdIdeal.nD Cert.SsdConvFwdIdeal.τ).loc Cert.SsdConvFwdIdeal.main_arg1)
      ∧ m' ((c.tc : Thread Cert.SsdConvFwdRefIdeal.nD Cert.SsdConvFwdRefIdeal.τ).loc Cert.SsdConvFwdRefIdeal.main_arg2) = m ((c.tc : Thread Cert.SsdConvFwdIdeal.nD Cert.SsdConvFwdIdeal.τ).loc Cert.SsdConvFwdIdeal.main_arg2)) →
    ∃ (v0 : (c : Dev Cert.SsdConvFwdIdeal.nD) → Buf (Elt Ideal) ((c.tc : Thread Cert.SsdConvFwdIdeal.nD Cert.SsdConvFwdIdeal.τ).loc Cert.SsdConvFwdIdeal.main_v0)),
      θ_run (Cert.SsdConvFwdIdeal.defs (F := Ideal)) (onTc (τ := Cert.SsdConvFwdIdeal.τ) (Cert.SsdConvFwdIdeal.main (F := Ideal))) ⟨m, fun _ => 0, g⟩ (fun r => ∀ c : Dev Cert.SsdConvFwdIdeal.nD,
          r.2.mem ((c.tc : Thread Cert.SsdConvFwdIdeal.nD Cert.SsdConvFwdIdeal.τ).loc Cert.SsdConvFwdIdeal.main_v0) = v0 c
          ∧ r.2.mem ((c.tc : Thread Cert.SsdConvFwdIdeal.nD Cert.SsdConvFwdIdeal.τ).loc Cert.SsdConvFwdIdeal.main_arg0) = m ((c.tc : Thread Cert.SsdConvFwdIdeal.nD Cert.SsdConvFwdIdeal.τ).loc Cert.SsdConvFwdIdeal.main_arg0)
          ∧ r.2.mem ((c.tc : Thread Cert.SsdConvFwdIdeal.nD Cert.SsdConvFwdIdeal.τ).loc Cert.SsdConvFwdIdeal.main_arg1) = m ((c.tc : Thread Cert.SsdConvFwdIdeal.nD Cert.SsdConvFwdIdeal.τ).loc Cert.SsdConvFwdIdeal.main_arg1)
          ∧ r.2.mem ((c.tc : Thread Cert.SsdConvFwdIdeal.nD Cert.SsdConvFwdIdeal.τ).loc Cert.SsdConvFwdIdeal.main_arg2) = m ((c.tc : Thread Cert.SsdConvFwdIdeal.nD Cert.SsdConvFwdIdeal.τ).loc Cert.SsdConvFwdIdeal.main_arg2))
      ∧ θ_run (Cert.SsdConvFwdRefIdeal.defs (F := Ideal)) (onTc (τ := Cert.SsdConvFwdRefIdeal.τ) (Cert.SsdConvFwdRefIdeal.main (F := Ideal))) ⟨m', fun _ => 0, g'⟩ (fun r => ∀ c : Dev Cert.SsdConvFwdRefIdeal.nD,
          r.2.mem ((c.tc : Thread Cert.SsdConvFwdRefIdeal.nD Cert.SsdConvFwdRefIdeal.τ).loc Cert.SsdConvFwdRefIdeal.main_v38) = v0 c
          ∧ r.2.mem ((c.tc : Thread Cert.SsdConvFwdRefIdeal.nD Cert.SsdConvFwdRefIdeal.τ).loc Cert.SsdConvFwdRefIdeal.main_arg0) = m' ((c.tc : Thread Cert.SsdConvFwdRefIdeal.nD Cert.SsdConvFwdRefIdeal.τ).loc Cert.SsdConvFwdRefIdeal.main_arg0)
          ∧ r.2.mem ((c.tc : Thread Cert.SsdConvFwdRefIdeal.nD Cert.SsdConvFwdRefIdeal.τ).loc Cert.SsdConvFwdRefIdeal.main_arg1) = m' ((c.tc : Thread Cert.SsdConvFwdRefIdeal.nD Cert.SsdConvFwdRefIdeal.τ).loc Cert.SsdConvFwdRefIdeal.main_arg1)
          ∧ r.2.mem ((c.tc : Thread Cert.SsdConvFwdRefIdeal.nD Cert.SsdConvFwdRefIdeal.τ).loc Cert.SsdConvFwdRefIdeal.main_arg2) = m' ((c.tc : Thread Cert.SsdConvFwdRefIdeal.nD Cert.SsdConvFwdRefIdeal.τ).loc Cert.SsdConvFwdRefIdeal.main_arg2))

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)
      ∧ m' ((c.tc : Thread Cert.ResRefIdeal.nD Cert.ResRefIdeal.τ).loc Cert.ResRefIdeal.main_arg3) = m ((c.tc : Thread Cert.ResIdeal.nD Cert.ResIdeal.τ).loc Cert.ResIdeal.main_arg3)) →
    ∃ (v0 : (c : Dev Cert.ResIdeal.nD) → Buf (Elt Ideal) ((c.tc : Thread Cert.ResIdeal.nD Cert.ResIdeal.τ).loc Cert.ResIdeal.main_v0_0)) (v1 : (c : Dev Cert.ResIdeal.nD) → Buf (Elt Ideal) ((c.tc : Thread Cert.ResIdeal.nD Cert.ResIdeal.τ).loc Cert.ResIdeal.main_v0_1)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v0_0) = v0 c
          ∧ r.2.mem ((c.tc : Thread Cert.ResIdeal.nD Cert.ResIdeal.τ).loc Cert.ResIdeal.main_v0_1) = v1 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
          ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v12) = v0 c
          ∧ r.2.mem ((c.tc : Thread Cert.ResRefIdeal.nD Cert.ResRefIdeal.τ).loc Cert.ResRefIdeal.main_v25) = v1 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2)
          ∧ r.2.mem ((c.tc : Thread Cert.ResRefIdeal.nD Cert.ResRefIdeal.τ).loc Cert.ResRefIdeal.main_arg3) = m' ((c.tc : Thread Cert.ResRefIdeal.nD Cert.ResRefIdeal.τ).loc Cert.ResRefIdeal.main_arg3))

def preserves_SsdOut_SsdOutIdeal : Prop :=
  True

def algebraic_SsdOutIdeal_SsdOutRefIdeal [hSsdOutIdeal : Cert.SsdOutIdeal.Facts] [hSsdOutRefIdeal : Cert.SsdOutRefIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutRefIdeal.nD Cert.SsdOutRefIdeal.τ Cert.SsdOutRefIdeal.sig) → Buf (Elt Ideal) ℓ) (g' : Dev Cert.SsdOutRefIdeal.nD → PrngReg), Pre_SsdOutIdeal m →
    (∀ c : Dev Cert.SsdOutIdeal.nD,
      m' ((c.tc : Thread Cert.SsdOutRefIdeal.nD Cert.SsdOutRefIdeal.τ).loc Cert.SsdOutRefIdeal.main_arg0) = m ((c.tc : Thread Cert.SsdOutIdeal.nD Cert.SsdOutIdeal.τ).loc Cert.SsdOutIdeal.main_arg0)
      ∧ m' ((c.tc : Thread Cert.SsdOutRefIdeal.nD Cert.SsdOutRefIdeal.τ).loc Cert.SsdOutRefIdeal.main_arg1) = m ((c.tc : Thread Cert.SsdOutIdeal.nD Cert.SsdOutIdeal.τ).loc Cert.SsdOutIdeal.main_arg1)
      ∧ m' ((c.tc : Thread Cert.SsdOutRefIdeal.nD Cert.SsdOutRefIdeal.τ).loc Cert.SsdOutRefIdeal.main_arg2) = m ((c.tc : Thread Cert.SsdOutIdeal.nD Cert.SsdOutIdeal.τ).loc Cert.SsdOutIdeal.main_arg2)
      ∧ m' ((c.tc : Thread Cert.SsdOutRefIdeal.nD Cert.SsdOutRefIdeal.τ).loc Cert.SsdOutRefIdeal.main_arg3) = m ((c.tc : Thread Cert.SsdOutIdeal.nD Cert.SsdOutIdeal.τ).loc Cert.SsdOutIdeal.main_arg3)
      ∧ m' ((c.tc : Thread Cert.SsdOutRefIdeal.nD Cert.SsdOutRefIdeal.τ).loc Cert.SsdOutRefIdeal.main_arg4) = m ((c.tc : Thread Cert.SsdOutIdeal.nD Cert.SsdOutIdeal.τ).loc Cert.SsdOutIdeal.main_arg4)
      ∧ m' ((c.tc : Thread Cert.SsdOutRefIdeal.nD Cert.SsdOutRefIdeal.τ).loc Cert.SsdOutRefIdeal.main_arg5) = m ((c.tc : Thread Cert.SsdOutIdeal.nD Cert.SsdOutIdeal.τ).loc Cert.SsdOutIdeal.main_arg5)
      ∧ m' ((c.tc : Thread Cert.SsdOutRefIdeal.nD Cert.SsdOutRefIdeal.τ).loc Cert.SsdOutRefIdeal.main_arg6) = m ((c.tc : Thread Cert.SsdOutIdeal.nD Cert.SsdOutIdeal.τ).loc Cert.SsdOutIdeal.main_arg6)) →
    ∃ (v0 : (c : Dev Cert.SsdOutIdeal.nD) → Buf (Elt Ideal) ((c.tc : Thread Cert.SsdOutIdeal.nD Cert.SsdOutIdeal.τ).loc Cert.SsdOutIdeal.main_v0_0)) (v1 : (c : Dev Cert.SsdOutIdeal.nD) → Buf (Elt Ideal) ((c.tc : Thread Cert.SsdOutIdeal.nD Cert.SsdOutIdeal.τ).loc Cert.SsdOutIdeal.main_v0_1)) (v2 : (c : Dev Cert.SsdOutIdeal.nD) → Buf (Elt Ideal) ((c.tc : Thread Cert.SsdOutIdeal.nD Cert.SsdOutIdeal.τ).loc Cert.SsdOutIdeal.main_v0_2)) (v3 : (c : Dev Cert.SsdOutIdeal.nD) → Buf (Elt Ideal) ((c.tc : Thread Cert.SsdOutIdeal.nD Cert.SsdOutIdeal.τ).loc Cert.SsdOutIdeal.main_v0_3)) (v4 : (c : Dev Cert.SsdOutIdeal.nD) → Buf (Elt Ideal) ((c.tc : Thread Cert.SsdOutIdeal.nD Cert.SsdOutIdeal.τ).loc Cert.SsdOutIdeal.main_v0_4)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v0_0) = v0 c
          ∧ r.2.mem ((c.tc : Thread Cert.SsdOutIdeal.nD Cert.SsdOutIdeal.τ).loc Cert.SsdOutIdeal.main_v0_1) = v1 c
          ∧ r.2.mem ((c.tc : Thread Cert.SsdOutIdeal.nD Cert.SsdOutIdeal.τ).loc Cert.SsdOutIdeal.main_v0_2) = v2 c
          ∧ r.2.mem ((c.tc : Thread Cert.SsdOutIdeal.nD Cert.SsdOutIdeal.τ).loc Cert.SsdOutIdeal.main_v0_3) = v3 c
          ∧ r.2.mem ((c.tc : Thread Cert.SsdOutIdeal.nD Cert.SsdOutIdeal.τ).loc Cert.SsdOutIdeal.main_v0_4) = v4 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
          ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
          ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4)
          ∧ r.2.mem ((c.tc : Thread Cert.SsdOutIdeal.nD Cert.SsdOutIdeal.τ).loc Cert.SsdOutIdeal.main_arg5) = m ((c.tc : Thread Cert.SsdOutIdeal.nD Cert.SsdOutIdeal.τ).loc Cert.SsdOutIdeal.main_arg5)
          ∧ r.2.mem ((c.tc : Thread Cert.SsdOutIdeal.nD Cert.SsdOutIdeal.τ).loc Cert.SsdOutIdeal.main_arg6) = m ((c.tc : Thread Cert.SsdOutIdeal.nD Cert.SsdOutIdeal.τ).loc Cert.SsdOutIdeal.main_arg6))
      ∧ θ_run (Cert.SsdOutRefIdeal.defs (F := Ideal)) (onTc (τ := Cert.SsdOutRefIdeal.τ) (Cert.SsdOutRefIdeal.main (F := Ideal))) ⟨m', fun _ => 0, g'⟩ (fun r => ∀ c : Dev Cert.SsdOutRefIdeal.nD,
          r.2.mem ((c.tc : Thread Cert.SsdOutRefIdeal.nD Cert.SsdOutRefIdeal.τ).loc Cert.SsdOutRefIdeal.main_v52) = v0 c
          ∧ r.2.mem ((c.tc : Thread Cert.SsdOutRefIdeal.nD Cert.SsdOutRefIdeal.τ).loc Cert.SsdOutRefIdeal.main_v55) = v1 c
          ∧ r.2.mem ((c.tc : Thread Cert.SsdOutRefIdeal.nD Cert.SsdOutRefIdeal.τ).loc Cert.SsdOutRefIdeal.main_v62) = v2 c
          ∧ r.2.mem ((c.tc : Thread Cert.SsdOutRefIdeal.nD Cert.SsdOutRefIdeal.τ).loc Cert.SsdOutRefIdeal.main_v58) = v3 c
          ∧ r.2.mem ((c.tc : Thread Cert.SsdOutRefIdeal.nD Cert.SsdOutRefIdeal.τ).loc Cert.SsdOutRefIdeal.main_v49) = v4 c
          ∧ r.2.mem ((c.tc : Thread Cert.SsdOutRefIdeal.nD Cert.SsdOutRefIdeal.τ).loc Cert.SsdOutRefIdeal.main_arg0) = m' ((c.tc : Thread Cert.SsdOutRefIdeal.nD Cert.SsdOutRefIdeal.τ).loc Cert.SsdOutRefIdeal.main_arg0)
          ∧ r.2.mem ((c.tc : Thread Cert.SsdOutRefIdeal.nD Cert.SsdOutRefIdeal.τ).loc Cert.SsdOutRefIdeal.main_arg1) = m' ((c.tc : Thread Cert.SsdOutRefIdeal.nD Cert.SsdOutRefIdeal.τ).loc Cert.SsdOutRefIdeal.main_arg1)
          ∧ r.2.mem ((c.tc : Thread Cert.SsdOutRefIdeal.nD Cert.SsdOutRefIdeal.τ).loc Cert.SsdOutRefIdeal.main_arg2) = m' ((c.tc : Thread Cert.SsdOutRefIdeal.nD Cert.SsdOutRefIdeal.τ).loc Cert.SsdOutRefIdeal.main_arg2)
          ∧ r.2.mem ((c.tc : Thread Cert.SsdOutRefIdeal.nD Cert.SsdOutRefIdeal.τ).loc Cert.SsdOutRefIdeal.main_arg3) = m' ((c.tc : Thread Cert.SsdOutRefIdeal.nD Cert.SsdOutRefIdeal.τ).loc Cert.SsdOutRefIdeal.main_arg3)
          ∧ r.2.mem ((c.tc : Thread Cert.SsdOutRefIdeal.nD Cert.SsdOutRefIdeal.τ).loc Cert.SsdOutRefIdeal.main_arg4) = m' ((c.tc : Thread Cert.SsdOutRefIdeal.nD Cert.SsdOutRefIdeal.τ).loc Cert.SsdOutRefIdeal.main_arg4)
          ∧ r.2.mem ((c.tc : Thread Cert.SsdOutRefIdeal.nD Cert.SsdOutRefIdeal.τ).loc Cert.SsdOutRefIdeal.main_arg5) = m' ((c.tc : Thread Cert.SsdOutRefIdeal.nD Cert.SsdOutRefIdeal.τ).loc Cert.SsdOutRefIdeal.main_arg5)
          ∧ r.2.mem ((c.tc : Thread Cert.SsdOutRefIdeal.nD Cert.SsdOutRefIdeal.τ).loc Cert.SsdOutRefIdeal.main_arg6) = m' ((c.tc : Thread Cert.SsdOutRefIdeal.nD Cert.SsdOutRefIdeal.τ).loc Cert.SsdOutRefIdeal.main_arg6))

def preserves_SsdOutFwd_SsdOutFwdIdeal : Prop :=
  True

def algebraic_SsdOutFwdIdeal_SsdOutFwdRefIdeal [hSsdOutFwdIdeal : Cert.SsdOutFwdIdeal.Facts] [hSsdOutFwdRefIdeal : Cert.SsdOutFwdRefIdeal.Facts] : Prop :=
  ∀ (m : (ℓ : Loc Cert.SsdOutFwdIdeal.nD Cert.SsdOutFwdIdeal.τ Cert.SsdOutFwdIdeal.sig) → Buf (Elt Ideal) ℓ) (g : Dev Cert.SsdOutFwdIdeal.nD → PrngReg)
    (m' : (ℓ : Loc Cert.SsdOutFwdRefIdeal.nD Cert.SsdOutFwdRefIdeal.τ Cert.SsdOutFwdRefIdeal.sig) → Buf (Elt Ideal) ℓ) (g' : Dev Cert.SsdOutFwdRefIdeal.nD → PrngReg), Pre_SsdOutFwdIdeal m →
    (∀ c : Dev Cert.SsdOutFwdIdeal.nD,
      m' ((c.tc : Thread Cert.SsdOutFwdRefIdeal.nD Cert.SsdOutFwdRefIdeal.τ).loc Cert.SsdOutFwdRefIdeal.main_arg0) = m ((c.tc : Thread Cert.SsdOutFwdIdeal.nD Cert.SsdOutFwdIdeal.τ).loc Cert.SsdOutFwdIdeal.main_arg0)
      ∧ m' ((c.tc : Thread Cert.SsdOutFwdRefIdeal.nD Cert.SsdOutFwdRefIdeal.τ).loc Cert.SsdOutFwdRefIdeal.main_arg1) = m ((c.tc : Thread Cert.SsdOutFwdIdeal.nD Cert.SsdOutFwdIdeal.τ).loc Cert.SsdOutFwdIdeal.main_arg1)
      ∧ m' ((c.tc : Thread Cert.SsdOutFwdRefIdeal.nD Cert.SsdOutFwdRefIdeal.τ).loc Cert.SsdOutFwdRefIdeal.main_arg2) = m ((c.tc : Thread Cert.SsdOutFwdIdeal.nD Cert.SsdOutFwdIdeal.τ).loc Cert.SsdOutFwdIdeal.main_arg2)
      ∧ m' ((c.tc : Thread Cert.SsdOutFwdRefIdeal.nD Cert.SsdOutFwdRefIdeal.τ).loc Cert.SsdOutFwdRefIdeal.main_arg3) = m ((c.tc : Thread Cert.SsdOutFwdIdeal.nD Cert.SsdOutFwdIdeal.τ).loc Cert.SsdOutFwdIdeal.main_arg3)
      ∧ m' ((c.tc : Thread Cert.SsdOutFwdRefIdeal.nD Cert.SsdOutFwdRefIdeal.τ).loc Cert.SsdOutFwdRefIdeal.main_arg4) = m ((c.tc : Thread Cert.SsdOutFwdIdeal.nD Cert.SsdOutFwdIdeal.τ).loc Cert.SsdOutFwdIdeal.main_arg4)
      ∧ m' ((c.tc : Thread Cert.SsdOutFwdRefIdeal.nD Cert.SsdOutFwdRefIdeal.τ).loc Cert.SsdOutFwdRefIdeal.main_arg5) = m ((c.tc : Thread Cert.SsdOutFwdIdeal.nD Cert.SsdOutFwdIdeal.τ).loc Cert.SsdOutFwdIdeal.main_arg5)) →
    ∃ (v0 : (c : Dev Cert.SsdOutFwdIdeal.nD) → Buf (Elt Ideal) ((c.tc : Thread Cert.SsdOutFwdIdeal.nD Cert.SsdOutFwdIdeal.τ).loc Cert.SsdOutFwdIdeal.main_v0)),
      θ_run (Cert.SsdOutFwdIdeal.defs (F := Ideal)) (onTc (τ := Cert.SsdOutFwdIdeal.τ) (Cert.SsdOutFwdIdeal.main (F := Ideal))) ⟨m, fun _ => 0, g⟩ (fun r => ∀ c : Dev Cert.SsdOutFwdIdeal.nD,
          r.2.mem ((c.tc : Thread Cert.SsdOutFwdIdeal.nD Cert.SsdOutFwdIdeal.τ).loc Cert.SsdOutFwdIdeal.main_v0) = v0 c
          ∧ r.2.mem ((c.tc : Thread Cert.SsdOutFwdIdeal.nD Cert.SsdOutFwdIdeal.τ).loc Cert.SsdOutFwdIdeal.main_arg0) = m ((c.tc : Thread Cert.SsdOutFwdIdeal.nD Cert.SsdOutFwdIdeal.τ).loc Cert.SsdOutFwdIdeal.main_arg0)
          ∧ r.2.mem ((c.tc : Thread Cert.SsdOutFwdIdeal.nD Cert.SsdOutFwdIdeal.τ).loc Cert.SsdOutFwdIdeal.main_arg1) = m ((c.tc : Thread Cert.SsdOutFwdIdeal.nD Cert.SsdOutFwdIdeal.τ).loc Cert.SsdOutFwdIdeal.main_arg1)
          ∧ r.2.mem ((c.tc : Thread Cert.SsdOutFwdIdeal.nD Cert.SsdOutFwdIdeal.τ).loc Cert.SsdOutFwdIdeal.main_arg2) = m ((c.tc : Thread Cert.SsdOutFwdIdeal.nD Cert.SsdOutFwdIdeal.τ).loc Cert.SsdOutFwdIdeal.main_arg2)
          ∧ r.2.mem ((c.tc : Thread Cert.SsdOutFwdIdeal.nD Cert.SsdOutFwdIdeal.τ).loc Cert.SsdOutFwdIdeal.main_arg3) = m ((c.tc : Thread Cert.SsdOutFwdIdeal.nD Cert.SsdOutFwdIdeal.τ).loc Cert.SsdOutFwdIdeal.main_arg3)
          ∧ r.2.mem ((c.tc : Thread Cert.SsdOutFwdIdeal.nD Cert.SsdOutFwdIdeal.τ).loc Cert.SsdOutFwdIdeal.main_arg4) = m ((c.tc : Thread Cert.SsdOutFwdIdeal.nD Cert.SsdOutFwdIdeal.τ).loc Cert.SsdOutFwdIdeal.main_arg4)
          ∧ r.2.mem ((c.tc : Thread Cert.SsdOutFwdIdeal.nD Cert.SsdOutFwdIdeal.τ).loc Cert.SsdOutFwdIdeal.main_arg5) = m ((c.tc : Thread Cert.SsdOutFwdIdeal.nD Cert.SsdOutFwdIdeal.τ).loc Cert.SsdOutFwdIdeal.main_arg5))
      ∧ θ_run (Cert.SsdOutFwdRefIdeal.defs (F := Ideal)) (onTc (τ := Cert.SsdOutFwdRefIdeal.τ) (Cert.SsdOutFwdRefIdeal.main (F := Ideal))) ⟨m', fun _ => 0, g'⟩ (fun r => ∀ c : Dev Cert.SsdOutFwdRefIdeal.nD,
          r.2.mem ((c.tc : Thread Cert.SsdOutFwdRefIdeal.nD Cert.SsdOutFwdRefIdeal.τ).loc Cert.SsdOutFwdRefIdeal.main_v26) = v0 c
          ∧ r.2.mem ((c.tc : Thread Cert.SsdOutFwdRefIdeal.nD Cert.SsdOutFwdRefIdeal.τ).loc Cert.SsdOutFwdRefIdeal.main_arg0) = m' ((c.tc : Thread Cert.SsdOutFwdRefIdeal.nD Cert.SsdOutFwdRefIdeal.τ).loc Cert.SsdOutFwdRefIdeal.main_arg0)
          ∧ r.2.mem ((c.tc : Thread Cert.SsdOutFwdRefIdeal.nD Cert.SsdOutFwdRefIdeal.τ).loc Cert.SsdOutFwdRefIdeal.main_arg1) = m' ((c.tc : Thread Cert.SsdOutFwdRefIdeal.nD Cert.SsdOutFwdRefIdeal.τ).loc Cert.SsdOutFwdRefIdeal.main_arg1)
          ∧ r.2.mem ((c.tc : Thread Cert.SsdOutFwdRefIdeal.nD Cert.SsdOutFwdRefIdeal.τ).loc Cert.SsdOutFwdRefIdeal.main_arg2) = m' ((c.tc : Thread Cert.SsdOutFwdRefIdeal.nD Cert.SsdOutFwdRefIdeal.τ).loc Cert.SsdOutFwdRefIdeal.main_arg2)
          ∧ r.2.mem ((c.tc : Thread Cert.SsdOutFwdRefIdeal.nD Cert.SsdOutFwdRefIdeal.τ).loc Cert.SsdOutFwdRefIdeal.main_arg3) = m' ((c.tc : Thread Cert.SsdOutFwdRefIdeal.nD Cert.SsdOutFwdRefIdeal.τ).loc Cert.SsdOutFwdRefIdeal.main_arg3)
          ∧ r.2.mem ((c.tc : Thread Cert.SsdOutFwdRefIdeal.nD Cert.SsdOutFwdRefIdeal.τ).loc Cert.SsdOutFwdRefIdeal.main_arg4) = m' ((c.tc : Thread Cert.SsdOutFwdRefIdeal.nD Cert.SsdOutFwdRefIdeal.τ).loc Cert.SsdOutFwdRefIdeal.main_arg4)
          ∧ r.2.mem ((c.tc : Thread Cert.SsdOutFwdRefIdeal.nD Cert.SsdOutFwdRefIdeal.τ).loc Cert.SsdOutFwdRefIdeal.main_arg5) = m' ((c.tc : Thread Cert.SsdOutFwdRefIdeal.nD Cert.SsdOutFwdRefIdeal.τ).loc Cert.SsdOutFwdRefIdeal.main_arg5))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hInDw : Cert.InDw.Facts) (hInDwIdeal : Cert.InDwIdeal.Facts) (hInDwRefIdeal : Cert.InDwRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hNorm : Cert.Norm.Facts) (hNormIdeal : Cert.NormIdeal.Facts) (hNormRefIdeal : Cert.NormRefIdeal.Facts) (hHead : Cert.Head.Facts) (hHeadIdeal : Cert.HeadIdeal.Facts) (hHeadRefIdeal : Cert.HeadRefIdeal.Facts) (hAct : Cert.Act.Facts) (hActIdeal : Cert.ActIdeal.Facts) (hActRefIdeal : Cert.ActRefIdeal.Facts) (hSsdConv : Cert.SsdConv.Facts) (hSsdConvIdeal : Cert.SsdConvIdeal.Facts) (hSsdConvRefIdeal : Cert.SsdConvRefIdeal.Facts) (hConvV : Cert.ConvV.Facts) (hConvVIdeal : Cert.ConvVIdeal.Facts) (hConvVRefIdeal : Cert.ConvVRefIdeal.Facts) (hConvK : Cert.ConvK.Facts) (hConvKIdeal : Cert.ConvKIdeal.Facts) (hConvKRefIdeal : Cert.ConvKRefIdeal.Facts) (hConvQ : Cert.ConvQ.Facts) (hConvQIdeal : Cert.ConvQIdeal.Facts) (hConvQRefIdeal : Cert.ConvQRefIdeal.Facts) (hInSmall : Cert.InSmall.Facts) (hInSmallIdeal : Cert.InSmallIdeal.Facts) (hInSmallRefIdeal : Cert.InSmallRefIdeal.Facts) (hInSmallDx : Cert.InSmallDx.Facts) (hInSmallDxIdeal : Cert.InSmallDxIdeal.Facts) (hInSmallDxRefIdeal : Cert.InSmallDxRefIdeal.Facts) (hInSmallDw : Cert.InSmallDw.Facts) (hInSmallDwIdeal : Cert.InSmallDwIdeal.Facts) (hInSmallDwRefIdeal : Cert.InSmallDwRefIdeal.Facts) (hConvVFwd : Cert.ConvVFwd.Facts) (hConvVFwdIdeal : Cert.ConvVFwdIdeal.Facts) (hConvVFwdRefIdeal : Cert.ConvVFwdRefIdeal.Facts) (hConvKFwd : Cert.ConvKFwd.Facts) (hConvKFwdIdeal : Cert.ConvKFwdIdeal.Facts) (hConvKFwdRefIdeal : Cert.ConvKFwdRefIdeal.Facts) (hConvQFwd : Cert.ConvQFwd.Facts) (hConvQFwdIdeal : Cert.ConvQFwdIdeal.Facts) (hConvQFwdRefIdeal : Cert.ConvQFwdRefIdeal.Facts) (hSsdConvFwd : Cert.SsdConvFwd.Facts) (hSsdConvFwdIdeal : Cert.SsdConvFwdIdeal.Facts) (hSsdConvFwdRefIdeal : Cert.SsdConvFwdRefIdeal.Facts) (hRes : Cert.Res.Facts) (hResIdeal : Cert.ResIdeal.Facts) (hResRefIdeal : Cert.ResRefIdeal.Facts) (hSsdOut : Cert.SsdOut.Facts) (hSsdOutIdeal : Cert.SsdOutIdeal.Facts) (hSsdOutRefIdeal : Cert.SsdOutRefIdeal.Facts) (hSsdOutFwd : Cert.SsdOutFwd.Facts) (hSsdOutFwdIdeal : Cert.SsdOutFwdIdeal.Facts) (hSsdOutFwdRefIdeal : Cert.SsdOutFwdRefIdeal.Facts),
    quiescent_Kernel (hKernel := hKernel)
    ∧ quiescent_KernelIdeal (hKernelIdeal := hKernelIdeal)
    ∧ quiescent_ReferenceIdeal (hReferenceIdeal := hReferenceIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Norm (hNorm := hNorm)
    ∧ quiescent_NormIdeal (hNormIdeal := hNormIdeal)
    ∧ quiescent_NormRefIdeal (hNormRefIdeal := hNormRefIdeal)
    ∧ quiescent_Head (hHead := hHead)
    ∧ quiescent_HeadIdeal (hHeadIdeal := hHeadIdeal)
    ∧ quiescent_HeadRefIdeal (hHeadRefIdeal := hHeadRefIdeal)
    ∧ quiescent_Act (hAct := hAct)
    ∧ quiescent_ActIdeal (hActIdeal := hActIdeal)
    ∧ quiescent_ActRefIdeal (hActRefIdeal := hActRefIdeal)
    ∧ quiescent_SsdConv (hSsdConv := hSsdConv)
    ∧ quiescent_SsdConvIdeal (hSsdConvIdeal := hSsdConvIdeal)
    ∧ quiescent_SsdConvRefIdeal (hSsdConvRefIdeal := hSsdConvRefIdeal)
    ∧ quiescent_ConvV (hConvV := hConvV)
    ∧ quiescent_ConvVIdeal (hConvVIdeal := hConvVIdeal)
    ∧ quiescent_ConvVRefIdeal (hConvVRefIdeal := hConvVRefIdeal)
    ∧ quiescent_ConvK (hConvK := hConvK)
    ∧ quiescent_ConvKIdeal (hConvKIdeal := hConvKIdeal)
    ∧ quiescent_ConvKRefIdeal (hConvKRefIdeal := hConvKRefIdeal)
    ∧ quiescent_ConvQ (hConvQ := hConvQ)
    ∧ quiescent_ConvQIdeal (hConvQIdeal := hConvQIdeal)
    ∧ quiescent_ConvQRefIdeal (hConvQRefIdeal := hConvQRefIdeal)
    ∧ quiescent_InSmall (hInSmall := hInSmall)
    ∧ quiescent_InSmallIdeal (hInSmallIdeal := hInSmallIdeal)
    ∧ quiescent_InSmallRefIdeal (hInSmallRefIdeal := hInSmallRefIdeal)
    ∧ quiescent_InSmallDx (hInSmallDx := hInSmallDx)
    ∧ quiescent_InSmallDxIdeal (hInSmallDxIdeal := hInSmallDxIdeal)
    ∧ quiescent_InSmallDxRefIdeal (hInSmallDxRefIdeal := hInSmallDxRefIdeal)
    ∧ quiescent_InSmallDw (hInSmallDw := hInSmallDw)
    ∧ quiescent_InSmallDwIdeal (hInSmallDwIdeal := hInSmallDwIdeal)
    ∧ quiescent_InSmallDwRefIdeal (hInSmallDwRefIdeal := hInSmallDwRefIdeal)
    ∧ quiescent_ConvVFwd (hConvVFwd := hConvVFwd)
    ∧ quiescent_ConvVFwdIdeal (hConvVFwdIdeal := hConvVFwdIdeal)
    ∧ quiescent_ConvVFwdRefIdeal (hConvVFwdRefIdeal := hConvVFwdRefIdeal)
    ∧ quiescent_ConvKFwd (hConvKFwd := hConvKFwd)
    ∧ quiescent_ConvKFwdIdeal (hConvKFwdIdeal := hConvKFwdIdeal)
    ∧ quiescent_ConvKFwdRefIdeal (hConvKFwdRefIdeal := hConvKFwdRefIdeal)
    ∧ quiescent_ConvQFwd (hConvQFwd := hConvQFwd)
    ∧ quiescent_ConvQFwdIdeal (hConvQFwdIdeal := hConvQFwdIdeal)
    ∧ quiescent_ConvQFwdRefIdeal (hConvQFwdRefIdeal := hConvQFwdRefIdeal)
    ∧ quiescent_SsdConvFwd (hSsdConvFwd := hSsdConvFwd)
    ∧ quiescent_SsdConvFwdIdeal (hSsdConvFwdIdeal := hSsdConvFwdIdeal)
    ∧ quiescent_SsdConvFwdRefIdeal (hSsdConvFwdRefIdeal := hSsdConvFwdRefIdeal)
    ∧ quiescent_Res (hRes := hRes)
    ∧ quiescent_ResIdeal (hResIdeal := hResIdeal)
    ∧ quiescent_ResRefIdeal (hResRefIdeal := hResRefIdeal)
    ∧ quiescent_SsdOut (hSsdOut := hSsdOut)
    ∧ quiescent_SsdOutIdeal (hSsdOutIdeal := hSsdOutIdeal)
    ∧ quiescent_SsdOutRefIdeal (hSsdOutRefIdeal := hSsdOutRefIdeal)
    ∧ quiescent_SsdOutFwd (hSsdOutFwd := hSsdOutFwd)
    ∧ quiescent_SsdOutFwdIdeal (hSsdOutFwdIdeal := hSsdOutFwdIdeal)
    ∧ quiescent_SsdOutFwdRefIdeal (hSsdOutFwdRefIdeal := hSsdOutFwdRefIdeal)
    ∧ preserves_Kernel_KernelIdeal
    ∧ algebraic_KernelIdeal_ReferenceIdeal (hKernelIdeal := hKernelIdeal) (hReferenceIdeal := hReferenceIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_InDw_InDwIdeal
    ∧ algebraic_InDwIdeal_InDwRefIdeal (hInDwIdeal := hInDwIdeal) (hInDwRefIdeal := hInDwRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Norm_NormIdeal
    ∧ algebraic_NormIdeal_NormRefIdeal (hNormIdeal := hNormIdeal) (hNormRefIdeal := hNormRefIdeal)
    ∧ preserves_Head_HeadIdeal
    ∧ algebraic_HeadIdeal_HeadRefIdeal (hHeadIdeal := hHeadIdeal) (hHeadRefIdeal := hHeadRefIdeal)
    ∧ preserves_Act_ActIdeal
    ∧ algebraic_ActIdeal_ActRefIdeal (hActIdeal := hActIdeal) (hActRefIdeal := hActRefIdeal)
    ∧ preserves_SsdConv_SsdConvIdeal
    ∧ algebraic_SsdConvIdeal_SsdConvRefIdeal (hSsdConvIdeal := hSsdConvIdeal) (hSsdConvRefIdeal := hSsdConvRefIdeal)
    ∧ preserves_ConvV_ConvVIdeal
    ∧ algebraic_ConvVIdeal_ConvVRefIdeal (hConvVIdeal := hConvVIdeal) (hConvVRefIdeal := hConvVRefIdeal)
    ∧ preserves_ConvK_ConvKIdeal
    ∧ algebraic_ConvKIdeal_ConvKRefIdeal (hConvKIdeal := hConvKIdeal) (hConvKRefIdeal := hConvKRefIdeal)
    ∧ preserves_ConvQ_ConvQIdeal
    ∧ algebraic_ConvQIdeal_ConvQRefIdeal (hConvQIdeal := hConvQIdeal) (hConvQRefIdeal := hConvQRefIdeal)
    ∧ preserves_InSmall_InSmallIdeal
    ∧ algebraic_InSmallIdeal_InSmallRefIdeal (hInSmallIdeal := hInSmallIdeal) (hInSmallRefIdeal := hInSmallRefIdeal)
    ∧ preserves_InSmallDx_InSmallDxIdeal
    ∧ algebraic_InSmallDxIdeal_InSmallDxRefIdeal (hInSmallDxIdeal := hInSmallDxIdeal) (hInSmallDxRefIdeal := hInSmallDxRefIdeal)
    ∧ preserves_InSmallDw_InSmallDwIdeal
    ∧ algebraic_InSmallDwIdeal_InSmallDwRefIdeal (hInSmallDwIdeal := hInSmallDwIdeal) (hInSmallDwRefIdeal := hInSmallDwRefIdeal)
    ∧ preserves_ConvVFwd_ConvVFwdIdeal
    ∧ algebraic_ConvVFwdIdeal_ConvVFwdRefIdeal (hConvVFwdIdeal := hConvVFwdIdeal) (hConvVFwdRefIdeal := hConvVFwdRefIdeal)
    ∧ preserves_ConvKFwd_ConvKFwdIdeal
    ∧ algebraic_ConvKFwdIdeal_ConvKFwdRefIdeal (hConvKFwdIdeal := hConvKFwdIdeal) (hConvKFwdRefIdeal := hConvKFwdRefIdeal)
    ∧ preserves_ConvQFwd_ConvQFwdIdeal
    ∧ algebraic_ConvQFwdIdeal_ConvQFwdRefIdeal (hConvQFwdIdeal := hConvQFwdIdeal) (hConvQFwdRefIdeal := hConvQFwdRefIdeal)
    ∧ preserves_SsdConvFwd_SsdConvFwdIdeal
    ∧ algebraic_SsdConvFwdIdeal_SsdConvFwdRefIdeal (hSsdConvFwdIdeal := hSsdConvFwdIdeal) (hSsdConvFwdRefIdeal := hSsdConvFwdRefIdeal)
    ∧ preserves_Res_ResIdeal
    ∧ algebraic_ResIdeal_ResRefIdeal (hResIdeal := hResIdeal) (hResRefIdeal := hResRefIdeal)
    ∧ preserves_SsdOut_SsdOutIdeal
    ∧ algebraic_SsdOutIdeal_SsdOutRefIdeal (hSsdOutIdeal := hSsdOutIdeal) (hSsdOutRefIdeal := hSsdOutRefIdeal)
    ∧ preserves_SsdOutFwd_SsdOutFwdIdeal
    ∧ algebraic_SsdOutFwdIdeal_SsdOutFwdRefIdeal (hSsdOutFwdIdeal := hSsdOutFwdIdeal) (hSsdOutFwdRefIdeal := hSsdOutFwdRefIdeal)
-- ==== Kernel.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S3x2816 : Shape := ⟨2, ![3, 2816]⟩
abbrev S1x2816 : Shape := ⟨2, ![1, 2816]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 10
  | .vmem => 26
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S8192x2816, .f32⟩
  | .hbm, ⟨4, _⟩ => ⟨S8192x2816, .bf16⟩
  | .hbm, ⟨5, _⟩ => ⟨S8192x2816, .bf16⟩
  | .hbm, ⟨6, _⟩ => ⟨S3x2816, .f32⟩
  | .hbm, ⟨7, _⟩ => ⟨S3x2816, .f32⟩
  | .hbm, ⟨8, _⟩ => ⟨S1x2816, .f32⟩
  | .hbm, ⟨9, _⟩ => ⟨S1x2816, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S3x256, .f32⟩
  | .local _ .vmem, ⟨19, _⟩ => ⟨S3x256, .f32⟩
  | .local _ .vmem, ⟨20, _⟩ => ⟨S3x256, .f32⟩
  | .local _ .vmem, ⟨21, _⟩ => ⟨S3x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S4x2048x5632 : Shape := ⟨3, ![4, 2048, 5632]⟩
abbrev S_ : Shape := ⟨0, ![]⟩
abbrev S4x2x5632 : Shape := ⟨3, ![4, 2, 5632]⟩
abbrev S4x2050x5632 : Shape := ⟨3, ![4, 2050, 5632]⟩
abbrev S5632 : Shape := ⟨1, ![5632]⟩
abbrev S1x1x5632 : Shape := ⟨3, ![1, 1, 5632]⟩
abbrev S4x2048x2816 : Shape := ⟨3, ![4, 2048, 2816]⟩
abbrev S3x2816 : Shape := ⟨2, ![3, 2816]⟩
abbrev S1x2816 : Shape := ⟨2, ![1, 2816]⟩

abbrev nBuf : Space → Nat
  | .hbm => 120
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S8192x2816, .f32⟩
  | .hbm, ⟨4, _⟩ => ⟨S8192x5632, .f32⟩
  | .hbm, ⟨5, _⟩ => ⟨S4x2048x5632, .f32⟩
  | .hbm, ⟨6, _⟩ => ⟨S_, .f32⟩
  | .hbm, ⟨7, _⟩ => ⟨S4x2x5632, .f32⟩
  | .hbm, ⟨8, _⟩ => ⟨S4x2050x5632, .f32⟩
  | .hbm, ⟨9, _⟩ => ⟨S_, .f32⟩
  | .hbm, ⟨10, _⟩ => ⟨S4x2x5632, .f32⟩
  | .hbm, ⟨11, _⟩ => ⟨S1x5632, .f32⟩
  | .hbm, ⟨12, _⟩ => ⟨S5632, .f32⟩
  | .hbm, ⟨13, _⟩ => ⟨S4x2048x5632, .f32⟩
  | .hbm, ⟨14, _⟩ => ⟨S1x1x5632, .f32⟩
  | .hbm, ⟨15, _⟩ => ⟨S4x2048x5632, .f32⟩
  | .hbm, ⟨16, _⟩ => ⟨S4x2048x5632, .f32⟩
  | .hbm, ⟨17, _⟩ => ⟨S_, .f32⟩
  | .hbm, ⟨18, _⟩ => ⟨S4x2048x5632, .f32⟩
  | .hbm, ⟨19, _⟩ => ⟨S4x2048x5632, .f32⟩
  | .hbm, ⟨20, _⟩ => ⟨S1x5632, .f32⟩
  | .hbm, ⟨21, _⟩ => ⟨S5632, .f32⟩
  | .hbm, ⟨22, _⟩ => ⟨S4x2048x5632, .f32⟩
  | .hbm, ⟨23, _⟩ => ⟨S1x1x5632, .f32⟩
  | .hbm, ⟨24, _⟩ => ⟨S4x2048x5632, .f32⟩
  | .hbm, ⟨25, _⟩ => ⟨S4x2048x5632, .f32⟩
  | .hbm, ⟨26, _⟩ => ⟨S4x2048x5632, .f32⟩
  | .hbm, ⟨27, _⟩ => ⟨S1x5632, .f32⟩
  | .hbm, ⟨28, _⟩ => ⟨S5632, .f32⟩
  | .hbm, ⟨29, _⟩ => ⟨S4x2048x5632, .f32⟩
  | .hbm, ⟨30, _⟩ => ⟨S1x1x5632, .f32⟩
  | .hbm, ⟨31, _⟩ => ⟨S4x2048x5632, .f32⟩
  | .hbm, ⟨32, _⟩ => ⟨S4x2048x5632, .f32⟩
  | .hbm, ⟨33, _⟩ => ⟨S4x2048x5632, .f32⟩
  | .hbm, ⟨34, _⟩ => ⟨S1x1x5632, .f32⟩
  | .hbm, ⟨35, _⟩ => ⟨S4x2048x5632, .f32⟩
  | .hbm, ⟨36, _⟩ => ⟨S4x2048x5632, .f32⟩
  | .hbm, ⟨37, _⟩ => ⟨S4x2048x2816, .f32⟩
  | .hbm, ⟨38, _⟩ => ⟨S4x2048x2816, .f32⟩
  | .hbm, ⟨39, _⟩ => ⟨S4x2048x2816, .f32⟩
  | .hbm, ⟨40, _⟩ => ⟨S4x2048x2816, .f32⟩
  | .hbm, ⟨41, _⟩ => ⟨S_, .f32⟩
  | .hbm, ⟨42, _⟩ => ⟨S4x2048x2816, .f32⟩
  | .hbm, ⟨43, _⟩ => ⟨S4x2048x2816, .f32⟩
  | .hbm, ⟨44, _⟩ => ⟨S_, .f32⟩
  | .hbm, ⟨45, _⟩ => ⟨S4x2048x2816, .f32⟩
  | .hbm, ⟨46, _⟩ => ⟨S4x2048x2816, .f32⟩
  | .hbm, ⟨47, _⟩ => ⟨S_, .f32⟩
  | .hbm, ⟨48, _⟩ => ⟨S4x2048x2816, .f32⟩
  | .hbm, ⟨49, _⟩ => ⟨S4x2048x2816, .f32⟩
  | .hbm, ⟨50, _⟩ => ⟨S4x2048x2816, .f32⟩
  | .hbm, ⟨51, _⟩ => ⟨S4x2048x2816, .f32⟩
  | .hbm, ⟨52, _⟩ => ⟨S4x2048x2816, .f32⟩
  | .hbm, ⟨53, _⟩ => ⟨S4x2048x2816, .f32⟩
  | .hbm, ⟨54, _⟩ => ⟨S4x2048x2816, .f32⟩
  | .hbm, ⟨55, _⟩ => ⟨S4x2048x2816, .f32⟩
  | .hbm, ⟨56, _⟩ => ⟨S4x2048x2816, .f32⟩
  | .hbm, ⟨57, _⟩ => ⟨S4x2048x2816, .f32⟩
  | .hbm, ⟨58, _⟩ => ⟨S4x2048x2816, .f32⟩
  | .hbm, ⟨59, _⟩ => ⟨S4x2048x2816, .f32⟩
  | .hbm, ⟨60, _⟩ => ⟨S4x2048x5632, .f32⟩
  | .hbm, ⟨61, _⟩ => ⟨S_, .f32⟩
  | .hbm, ⟨62, _⟩ => ⟨S5632, .f32⟩
  | .hbm, ⟨63, _⟩ => ⟨S1x1x5632, .f32⟩
  | .hbm, ⟨64, _⟩ => ⟨S_, .f32⟩
  | .hbm, ⟨65, _⟩ => ⟨S5632, .f32⟩
  | .hbm, ⟨66, _⟩ => ⟨S1x5632, .f32⟩
  | .hbm, ⟨67, _⟩ => ⟨S4x2048x5632, .f32⟩
  | .hbm, ⟨68, _⟩ => ⟨S4x2048x5632, .f32⟩
  | .hbm, ⟨69, _⟩ => ⟨S4x2048x5632, .f32⟩
  | .hbm, ⟨70, _⟩ => ⟨S_, .f32⟩
  | .hbm, ⟨71, _⟩ => ⟨S5632, .f32⟩
  | .hbm, ⟨72, _⟩ => ⟨S1x1x5632, .f32⟩
  | .hbm, ⟨73, _⟩ => ⟨S_, .f32⟩
  | .hbm, ⟨74, _⟩ => ⟨S5632, .f32⟩
  | .hbm, ⟨75, _⟩ => ⟨S_, .f32⟩
  | .hbm, ⟨76, _⟩ => ⟨S4x2050x5632, .f32⟩
  | .hbm, ⟨77, _⟩ => ⟨S1x5632, .f32⟩
  | .hbm, ⟨78, _⟩ => ⟨S_, .f32⟩
  | .hbm, ⟨79, _⟩ => ⟨S3x5632, .f32⟩
  | .hbm, ⟨80, _⟩ => ⟨S4x2048x5632, .f32⟩
  | .hbm, ⟨81, _⟩ => ⟨S4x2048x5632, .f32⟩
  | .hbm, ⟨82, _⟩ => ⟨S4x2048x5632, .f32⟩
  | .hbm, ⟨83, _⟩ => ⟨S_, .f32⟩
  | .hbm, ⟨84, _⟩ => ⟨S5632, .f32⟩
  | .hbm, ⟨85, _⟩ => ⟨S1x1x5632, .f32⟩
  | .hbm, ⟨86, _⟩ => ⟨S_, .f32⟩
  | .hbm, ⟨87, _⟩ => ⟨S5632, .f32⟩
  | .hbm, ⟨88, _⟩ => ⟨S_, .f32⟩
  | .hbm, ⟨89, _⟩ => ⟨S4x2050x5632, .f32⟩
  | .hbm, ⟨90, _⟩ => ⟨S4x2050x5632, .f32⟩
  | .hbm, ⟨91, _⟩ => ⟨S1x5632, .f32⟩
  | .hbm, ⟨92, _⟩ => ⟨S_, .f32⟩
  | .hbm, ⟨93, _⟩ => ⟨S3x5632, .f32⟩
  | .hbm, ⟨94, _⟩ => ⟨S3x5632, .f32⟩
  | .hbm, ⟨95, _⟩ => ⟨S4x2048x5632, .f32⟩
  | .hbm, ⟨96, _⟩ => ⟨S4x2048x5632, .f32⟩
  | .hbm, ⟨97, _⟩ => ⟨S4x2048x5632, .f32⟩
  | .hbm, ⟨98, _⟩ => ⟨S_, .f32⟩
  | .hbm, ⟨99, _⟩ => ⟨S5632, .f32⟩
  | .hbm, ⟨100, _⟩ => ⟨S1x1x5632, .f32⟩
  | .hbm, ⟨101, _⟩ => ⟨S_, .f32⟩
  | .hbm, ⟨102, _⟩ => ⟨S5632, .f32⟩
  | .hbm, ⟨103, _⟩ => ⟨S_, .f32⟩
  | .hbm, ⟨104, _⟩ => ⟨S4x2050x5632, .f32⟩
  | .hbm, ⟨105, _⟩ => ⟨S4x2050x5632, .f32⟩
  | .hbm, ⟨106, _⟩ => ⟨S1x5632, .f32⟩
  | .hbm, ⟨107, _⟩ => ⟨S_, .f32⟩
  | .hbm, ⟨108, _⟩ => ⟨S3x5632, .f32⟩
  | .hbm, ⟨109, _⟩ => ⟨S3x5632, .f32⟩
  | .hbm, ⟨110, _⟩ => ⟨S4x2x5632, .f32⟩
  | .hbm, ⟨111, _⟩ => ⟨S4x2048x5632, .f32⟩
  | .hbm, ⟨112, _⟩ => ⟨S8192x5632, .f32⟩
  | .hbm, ⟨113, _⟩ => ⟨S8192x5632, .bf16⟩
  | .hbm, ⟨114, _⟩ => ⟨S8192x2816, .bf16⟩
  | .hbm, ⟨115, _⟩ => ⟨S8192x2816, .bf16⟩
  | .hbm, ⟨116, _⟩ => ⟨S3x2816, .f32⟩
  | .hbm, ⟨117, _⟩ => ⟨S3x2816, .f32⟩
  | .hbm, ⟨118, _⟩ => ⟨S1x2816, .f32⟩
  | .hbm, ⟨119, _⟩ => ⟨S1x2816, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v32_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v32_1 : Ref sig .tc := ⟨.hbm, 50, rfl⟩
abbrev main_v32_0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1024x2816 : Shape := ⟨2, ![1024, 2816]⟩
abbrev S256x1024 : Shape := ⟨2, ![256, 1024]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .f32⟩
  | .local _ .vmem, ⟨4, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDxRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩
abbrev S2816x512 : Shape := ⟨2, ![2816, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDx.lean ====
abbrev S8192x2816 : Shape := ⟨2, ![8192, 2816]⟩
abbrev S1024x5632 : Shape := ⟨2, ![1024, 5632]⟩
abbrev S8192x1024 : Shape := ⟨2, ![8192, 1024]⟩
abbrev S512x2816 : Shape := ⟨2, ![512, 2816]⟩
abbrev S512x1024 : Shape := ⟨2, ![512, 1024]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x5632, .bf16⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== UpDxRefIdeal.lean ====
abbrev S8192x2816 : Shape := ⟨2, ![8192, 2816]⟩
abbrev S1024x5632 : Shape := ⟨2, ![1024, 5632]⟩
abbrev S8192x5632 : Shape := ⟨2, ![8192, 5632]⟩
abbrev S_ : Shape := ⟨0, ![]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x5632, .bf16⟩
  | .hbm, ⟨4, _⟩ => ⟨S_, .f32⟩
  | .hbm, ⟨5, _⟩ => ⟨S8192x1024, .f32⟩
  | .hbm, ⟨6, _⟩ => ⟨S1024x5632, .f32⟩
  | .hbm, ⟨7, _⟩ => ⟨S8192x5632, .f32⟩
  | .hbm, ⟨8, _⟩ => ⟨S8192x5632, .f32⟩
  | .hbm, ⟨9, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== UpDw.lean ====
abbrev S8192x1024 : Shape := ⟨2, ![8192, 1024]⟩
abbrev S8192x2816 : Shape := ⟨2, ![8192, 2816]⟩
abbrev S4x1024x1408 : Shape := ⟨3, ![4, 1024, 1408]⟩
abbrev S1024x1024 : Shape := ⟨2, ![1024, 1024]⟩
abbrev S1024x2816 : Shape := ⟨2, ![1024, 2816]⟩
abbrev S2x1024x1408 : Shape := ⟨3, ![2, 1024, 1408]⟩
abbrev S1x1024x1408 : Shape := ⟨3, ![1, 1024, 1408]⟩
abbrev S1024x1408 : Shape := ⟨2, ![1024, 1408]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S4x1024x1408, .f32⟩
  | .hbm, ⟨4, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2x1024x1408, .f32⟩
  | .local _ .vmem, ⟨5, _⟩ => ⟨S1024x1024, .bf16⟩
  | .local _ .vmem, ⟨6, _⟩ => ⟨S1024x1024, .bf16⟩
  | .local _ .vmem, ⟨7, _⟩ => ⟨S1024x2816, .bf16⟩
  | .local _ .vmem, ⟨8, _⟩ => ⟨S1024x2816, .bf16⟩
  | .local _ .vmem, ⟨9, _⟩ => ⟨S2x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2x1024x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev grid1 : Pipeline.Grid := ⟨3, ![1, 1, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  let c0_i32_0 : BitVec 32 := 0#32
  ![v0.toNat, arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S2x1024x1408 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]
-- ==== UpDwRefIdeal.lean ====
abbrev S8192x1024 : Shape := ⟨2, ![8192, 1024]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S8192x5632, .bf16⟩
  | .hbm, ⟨4, _⟩ => ⟨S_, .f32⟩
  | .hbm, ⟨5, _⟩ => ⟨S1024x5632, .f32⟩
  | .hbm, ⟨6, _⟩ => ⟨S8192x1024, .f32⟩
  | .hbm, ⟨7, _⟩ => ⟨S8192x5632, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== OutDx.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩
abbrev S1024x2048 : Shape := ⟨2, ![1024, 2048]⟩
abbrev S512x1024 : Shape := ⟨2, ![512, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDxRefIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S8192x2048 : Shape := ⟨2, ![8192, 2048]⟩
abbrev S8192x1024 : Shape := ⟨2, ![8192, 1024]⟩
abbrev S2048x1024 : Shape := ⟨2, ![2048, 1024]⟩
abbrev S1024x2048 : Shape := ⟨2, ![1024, 2048]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDw.lean ====
abbrev S8192x1024 : Shape := ⟨2, ![8192, 1024]⟩
abbrev S8192x6656 : Shape := ⟨2, ![8192, 6656]⟩
abbrev S1024x6656 : Shape := ⟨2, ![1024, 6656]⟩
abbrev S1024x1024 : Shape := ⟨2, ![1024, 1024]⟩
abbrev S1024x3328 : Shape := ⟨2, ![1024, 3328]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x6656, .bf16⟩
  | .hbm, ⟨2, _⟩ => ⟨S1024x6656, .f32⟩
  | .local _ .vmem, ⟨0, _⟩ => ⟨S1024x1024, .bf16⟩
  | .local _ .vmem, ⟨1, _⟩ => ⟨S1024x1024, .bf16⟩
  | .local _ .vmem, ⟨2, _⟩ => ⟨S1024x3328, .bf16⟩
  | .local _ .vmem, ⟨3, _⟩ => ⟨S1024x3328, .bf16⟩
  | .local _ .vmem, ⟨4, _⟩ => ⟨S1024x3328, .f32⟩
  | .local _ .vmem, ⟨5, _⟩ => ⟨S1024x3328, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3328 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x1024 : Shape := ⟨2, ![8192, 1024]⟩
abbrev S8192x6656 : Shape := ⟨2, ![8192, 6656]⟩
abbrev S_ : Shape := ⟨0, ![]⟩
abbrev S1024x6656 : Shape := ⟨2, ![1024, 6656]⟩
abbrev S6656x1024 : Shape := ⟨2, ![6656, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6656, .bf16⟩
  | .hbm, ⟨2, _⟩ => ⟨S_, .f32⟩
  | .hbm, ⟨3, _⟩ => ⟨S1024x6656, .f32⟩
  | .hbm, ⟨4, _⟩ => ⟨S8192x1024, .f32⟩
  | .hbm, ⟨5, _⟩ => ⟨S8192x6656, .f32⟩
  | .hbm, ⟨6, _⟩ => ⟨S8192x6656, .f32⟩
  | .hbm, ⟨7, _⟩ => ⟨S6656x1024, .f32⟩
  | .hbm, ⟨8, _⟩ => ⟨S1024x6656, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x2816 : Shape := ⟨2, ![1024, 2816]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩
abbrev S2816x512 : Shape := ⟨2, ![2816, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Head.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8x128, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== HeadRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8x128, .f32⟩
  | .hbm, ⟨71, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Act.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S2048x256 : Shape := ⟨2, ![2048, 256]⟩
abbrev S3x256 : Shape := ⟨2, ![3, 256]⟩
abbrev S1x256 : Shape := ⟨2, ![1, 256]⟩

abbrev nBuf : Space → Nat
  | .hbm => 4
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S8192x2816, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ActRefIdeal.lean ====
abbrev S8192x5632 : Shape := ⟨2, ![8192, 5632]⟩
abbrev S3x5632 : Shape := ⟨2, ![3, 5632]⟩
abbrev S1x5632 : Shape := ⟨2, ![1, 5632]⟩
abbrev S4x2048x5632 : Shape := ⟨3, ![4, 2048, 5632]⟩
abbrev S_ : Shape := ⟨0, ![]⟩
abbrev S4x2x5632 : Shape := ⟨3, ![4, 2, 5632]⟩
abbrev S4x2050x5632 : Shape := ⟨3, ![4, 2050, 5632]⟩
abbrev S5632 : Shape := ⟨1, ![5632]⟩
abbrev S1x1x5632 : Shape := ⟨3, ![1, 1, 5632]⟩
abbrev S4x2048x2816 : Shape := ⟨3, ![4, 2048, 2816]⟩
abbrev S8192x2816 : Shape := ⟨2, ![8192, 2816]⟩

abbrev nBuf : Space → Nat
  | .hbm => 48
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S8192x5632, .f32⟩
  | .hbm, ⟨4, _⟩ => ⟨S4x2048x5632, .f32⟩
  | .hbm, ⟨5, _⟩ => ⟨S_, .f32⟩
  | .hbm, ⟨6, _⟩ => ⟨S4x2x5632, .f32⟩
  | .hbm, ⟨7, _⟩ => ⟨S4x2050x5632, .f32⟩
  | .hbm, ⟨8, _⟩ => ⟨S1x5632, .f32⟩
  | .hbm, ⟨9, _⟩ => ⟨S5632, .f32⟩
  | .hbm, ⟨10, _⟩ => ⟨S4x2048x5632, .f32⟩
  | .hbm, ⟨11, _⟩ => ⟨S1x1x5632, .f32⟩
  | .hbm, ⟨12, _⟩ => ⟨S4x2048x5632, .f32⟩
  | .hbm, ⟨13, _⟩ => ⟨S4x2048x5632, .f32⟩
  | .hbm, ⟨14, _⟩ => ⟨S_, .f32⟩
  | .hbm, ⟨15, _⟩ => ⟨S4x2048x5632, .f32⟩
  | .hbm, ⟨16, _⟩ => ⟨S4x2048x5632, .f32⟩
  | .hbm, ⟨17, _⟩ => ⟨S1x5632, .f32⟩
  | .hbm, ⟨18, _⟩ => ⟨S5632, .f32⟩
  | .hbm, ⟨19, _⟩ => ⟨S4x2048x5632, .f32⟩
  | .hbm, ⟨20, _⟩ => ⟨S1x1x5632, .f32⟩
  | .hbm, ⟨21, _⟩ => ⟨S4x2048x5632, .f32⟩
  | .hbm, ⟨22, _⟩ => ⟨S4x2048x5632, .f32⟩
  | .hbm, ⟨23, _⟩ => ⟨S4x2048x5632, .f32⟩
  | .hbm, ⟨24, _⟩ => ⟨S1x5632, .f32⟩
  | .hbm, ⟨25, _⟩ => ⟨S5632, .f32⟩
  | .hbm, ⟨26, _⟩ => ⟨S4x2048x5632, .f32⟩
  | .hbm, ⟨27, _⟩ => ⟨S1x1x5632, .f32⟩
  | .hbm, ⟨28, _⟩ => ⟨S4x2048x5632, .f32⟩
  | .hbm, ⟨29, _⟩ => ⟨S4x2048x5632, .f32⟩
  | .hbm, ⟨30, _⟩ => ⟨S4x2048x5632, .f32⟩
  | .hbm, ⟨31, _⟩ => ⟨S1x1x5632, .f32⟩
  | .hbm, ⟨32, _⟩ => ⟨S4x2048x5632, .f32⟩
  | .hbm, ⟨33, _⟩ => ⟨S4x2048x5632, .f32⟩
  | .hbm, ⟨34, _⟩ => ⟨S4x2048x2816, .f32⟩
  | .hbm, ⟨35, _⟩ => ⟨S4x2048x2816, .f32⟩
  | .hbm, ⟨36, _⟩ => ⟨S4x2048x2816, .f32⟩
  | .hbm, ⟨37, _⟩ => ⟨S4x2048x2816, .f32⟩
  | .hbm, ⟨38, _⟩ => ⟨S_, .f32⟩
  | .hbm, ⟨39, _⟩ => ⟨S4x2048x2816, .f32⟩
  | .hbm, ⟨40, _⟩ => ⟨S4x2048x2816, .f32⟩
  | .hbm, ⟨41, _⟩ => ⟨S_, .f32⟩
  | .hbm, ⟨42, _⟩ => ⟨S4x2048x2816, .f32⟩
  | .hbm, ⟨43, _⟩ => ⟨S4x2048x2816, .f32⟩
  | .hbm, ⟨44, _⟩ => ⟨S4x2048x2816, .f32⟩
  | .hbm, ⟨45, _⟩ => ⟨S4x2048x2816, .f32⟩
  | .hbm, ⟨46, _⟩ => ⟨S8192x2816, .f32⟩
  | .hbm, ⟨47, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== SsdConv.lean ====
abbrev S8192x6656 : Shape := ⟨2, ![8192, 6656]⟩
abbrev S4x1536 : Shape := ⟨2, ![4, 1536]⟩
abbrev S1x1536 : Shape := ⟨2, ![1, 1536]⟩
abbrev S8192x1536 : Shape := ⟨2, ![8192, 1536]⟩
abbrev S2048x128 : Shape := ⟨2, ![2048, 128]⟩
abbrev S4x128 : Shape := ⟨2, ![4, 128]⟩
abbrev S1x128 : Shape := ⟨2, ![1, 128]⟩
abbrev S128 : Shape := ⟨1, ![128]⟩

abbrev nBuf : Space → Nat
  | .hbm => 8
  | .vmem => 14
  | .smem => 0
  | _ => 0

abbrev bufTy : (tb : Table) → Fin (tcTables nBuf tb) → BufTy
  | .hbm, ⟨0, _⟩ => ⟨S8192x6656, .bf16⟩
  | .hbm, ⟨1, _⟩ => ⟨S4x1536, .f32⟩
  | .hbm, ⟨2, _⟩ => ⟨S1x1536, .f32⟩
  | .hbm, ⟨3, _⟩ => ⟨S8192x1536, .f32⟩
  | .hbm, ⟨4, _⟩ => ⟨S8192x6656, .bf16⟩
  | .hbm, ⟨5, _⟩ => ⟨S8192x6656, .bf16⟩
  | .hbm, ⟨6, _⟩ => ⟨S4x1536, .f32⟩
  | .hbm, ⟨7, _⟩ => ⟨S1x1536, .f32⟩
  | .local _ .vmem, ⟨0, _⟩ => ⟨S2048x128, .bf16⟩
  | .local _ .vmem, ⟨1, _⟩ => ⟨S2048x128, .bf16⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 4], ![false, false]⟩

def cc0_transform_0 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== SsdConvRefIdeal.lean ====
abbrev S8192x6656 : Shape := ⟨2, ![8192, 6656]⟩
abbrev S4x1536 : Shape := ⟨2, ![4, 1536]⟩
abbrev S1x1536 : Shape := ⟨2, ![1, 1536]⟩
abbrev S8192x1536 : Shape := ⟨2, ![8192, 1536]⟩
abbrev S4x2048x1536 : Shape := ⟨3, ![4, 2048, 1536]⟩
abbrev S_ : Shape := ⟨0, ![]⟩
abbrev S4x3x1536 : Shape := ⟨3, ![4, 3, 1536]⟩
abbrev S4x2051x1536 : Shape := ⟨3, ![4, 2051, 1536]⟩
abbrev S1536 : Shape := ⟨1, ![1536]⟩
abbrev S1x1x1536 : Shape := ⟨3, ![1, 1, 1536]⟩
abbrev S8192x5120 : Shape := ⟨2, ![8192, 5120]⟩

abbrev nBuf : Space → Nat
  | .hbm => 134
  | .vmem => 0
  | .smem => 0
  | _ => 0

abbrev hbmTy0_0 (i : Nat) : BufTy := match i % 128 with
  | 0 => ⟨S8192x6656, .bf16⟩
  | 1 => ⟨S4x1536, .f32⟩
  | 2 => ⟨S1x1536, .f32⟩
  | 3 => ⟨S8192x1536, .f32⟩
  | 4 => ⟨S8192x6656, .bf16⟩
  | 5 => ⟨S8192x1536, .bf16⟩
  | 6 => ⟨S8192x1536, .f32⟩
  | 7 => ⟨S4x2048x1536, .f32⟩
  | 8 => ⟨S_, .f32⟩
  | 9 => ⟨S4x3x1536, .f32⟩
  | 10 => ⟨S4x2051x1536, .f32⟩
  | 11 => ⟨S_, .f32⟩
  | 12 => ⟨S4x3x1536, .f32⟩
  | 13 => ⟨S1x1536, .f32⟩
  | 14 => ⟨S1536, .f32⟩
  | 15 => ⟨S4x2048x1536, .f32⟩
  | 16 => ⟨S1x1x1536, .f32⟩
  | 17 => ⟨S4x2048x1536, .f32⟩
  | 18 => ⟨S4x2048x1536, .f32⟩
  | 19 => ⟨S_, .f32⟩
  | 20 => ⟨S4x2048x1536, .f32⟩
  | 21 => ⟨S4x2048x1536, .f32⟩
  | 22 => ⟨S1x1536, .f32⟩
  | 23 => ⟨S1536, .f32⟩
  | 24 => ⟨S4x2048x1536, .f32⟩
  | 25 => ⟨S1x1x1536, .f32⟩
  | 26 => ⟨S4x2048x1536, .f32⟩
  | 27 => ⟨S4x2048x1536, .f32⟩
  | 28 => ⟨S4x2048x1536, .f32⟩
  | 29 => ⟨S1x1536, .f32⟩
  | 30 => ⟨S1536, .f32⟩
  | 31 => ⟨S4x2048x1536, .f32⟩
  | 32 => ⟨S1x1x1536, .f32⟩
  | 33 => ⟨S4x2048x1536, .f32⟩
  | 34 => ⟨S4x2048x1536, .f32⟩
  | 35 => ⟨S4x2048x1536, .f32⟩
  | 36 => ⟨S1x1536, .f32⟩
  | 37 => ⟨S1536, .f32⟩
  | 38 => ⟨S4x2048x1536, .f32⟩
  | 39 => ⟨S1x1x1536, .f32⟩
  | 40 => ⟨S4x2048x1536, .f32⟩
  | 41 => ⟨S4x2048x1536, .f32⟩
  | 42 => ⟨S4x2048x1536, .f32⟩
  | 43 => ⟨S1x1x1536, .f32⟩
  | 44 => ⟨S4x2048x1536, .f32⟩
  | 45 => ⟨S4x2048x1536, .f32⟩
  | 46 => ⟨S4x2048x1536, .f32⟩
  | 47 => ⟨S4x2048x1536, .f32⟩
  | 48 => ⟨S_, .f32⟩
  | 49 => ⟨S4x2048x1536, .f32⟩
  | 50 => ⟨S4x2048x1536, .f32⟩
  | 51 => ⟨S_, .f32⟩
  | 52 => ⟨S4x2048x1536, .f32⟩
  | 53 => ⟨S4x2048x1536, .f32⟩
  | 54 => ⟨S_, .f32⟩
  | 55 => ⟨S4x2048x1536, .f32⟩
  | 56 => ⟨S4x2048x1536, .f32⟩
  | 57 => ⟨S4x2048x1536, .f32⟩
  | 58 => ⟨S4x2048x1536, .f32⟩
  | 59 => ⟨S4x2048x1536, .f32⟩
  | 60 => ⟨S4x2048x1536, .f32⟩
  | 61 => ⟨S4x2048x1536, .f32⟩
  | 62 => ⟨S4x2048x1536, .f32⟩
  | 63 => ⟨S4x2048x1536, .f32⟩
  | 64 => ⟨S_, .f32⟩
  | 65 => ⟨S1536, .f32⟩
  | 66 => ⟨S1x1x1536, .f32⟩
  | 67 => ⟨S_, .f32⟩
  | 68 => ⟨S1536, .f32⟩
  | 69 => ⟨S1x1536, .f32⟩
  | 70 => ⟨S4x2048x1536, .f32⟩
  | 71 => ⟨S4x2048x1536, .f32⟩
  | 72 => ⟨S4x2048x1536, .f32⟩
  | 73 => ⟨S_, .f32⟩
  | 74 => ⟨S1536, .f32⟩
  | 75 => ⟨S1x1x1536, .f32⟩
  | 76 => ⟨S_, .f32⟩
  | 77 => ⟨S1536, .f32⟩
  | 78 => ⟨S_, .f32⟩
  | 79 => ⟨S4x2051x1536, .f32⟩
  | 80 => ⟨S1x1536, .f32⟩
  | 81 => ⟨S_, .f32⟩
  | 82 => ⟨S4x1536, .f32⟩
  | 83 => ⟨S4x2048x1536, .f32⟩
  | 84 => ⟨S4x2048x1536, .f32⟩
  | 85 => ⟨S4x2048x1536, .f32⟩
  | 86 => ⟨S_, .f32⟩
  | 87 => ⟨S1536, .f32⟩
  | 88 => ⟨S1x1x1536, .f32⟩
  | 89 => ⟨S_, .f32⟩
  | 90 => ⟨S1536, .f32⟩
  | 91 => ⟨S_, .f32⟩
  | 92 => ⟨S4x2051x1536, .f32⟩
  | 93 => ⟨S4x2051x1536, .f32⟩
  | 94 => ⟨S1x1536, .f32⟩
  | 95 => ⟨S_, .f32⟩
  | 96 => ⟨S4x1536, .f32⟩
  | 97 => ⟨S4x1536, .f32⟩
  | 98 => ⟨S4x2048x1536, .f32⟩
  | 99 => ⟨S4x2048x1536, .f32⟩
  | 100 => ⟨S4x2048x1536, .f32⟩
  | 101 => ⟨S_, .f32⟩
  | 102 => ⟨S1536, .f32⟩
  | 103 => ⟨S1x1x1536, .f32⟩
  | 104 => ⟨S_, .f32⟩
  | 105 => ⟨S1536, .f32⟩
  | 106 => ⟨S_, .f32⟩
  | 107 => ⟨S4x2051x1536, .f32⟩
  | 108 => ⟨S4x2051x1536, .f32⟩
  | 109 => ⟨S1x1536, .f32⟩
  | 110 => ⟨S_, .f32⟩
  | 111 => ⟨S4x1536, .f32⟩
  | 112 => ⟨S4x1536, .f32⟩
  | 113 => ⟨S4x2048x1536, .f32⟩
  | 114 => ⟨S4x2048x1536, .f32⟩
  | 115 => ⟨S4x2048x1536, .f32⟩
  | 116 => ⟨S_, .f32⟩
  | 117 => ⟨S1536, .f32⟩
  | 118 => ⟨S1x1x1536, .f32⟩
  | 119 => ⟨S_, .f32⟩
  | 120 => ⟨S1536, .f32⟩
  | 121 => ⟨S_, .f32⟩
  | 122 => ⟨S4x2051x1536, .f32⟩
  | 123 => ⟨S4x2051x1536, .f32⟩
  | 124 => ⟨S1x1536, .f32⟩
  | 125 => ⟨S_, .f32⟩
  | 126 => ⟨S4x1536, .f32⟩
  | 127 => ⟨S4x1536, .f32⟩
  | _ => ⟨S8192x6656, .bf16⟩

abbrev hbmTy0_1 (i : Nat) : BufTy := match i % 128 with
  | 0 => ⟨S4x3x1536, .f32⟩
  | 1 => ⟨S4x2048x1536, .f32⟩
  | 2 => ⟨S8192x5120, .bf16⟩
  | 3 => ⟨S8192x1536, .f32⟩
  | 4 => ⟨S8192x1536, .bf16⟩
  | 5 => ⟨S8192x6656, .bf16⟩
  | _ => ⟨S8192x6656, .bf16⟩

abbrev hbmTy (i : Nat) : BufTy := match i / 128 with
  | 0 => hbmTy0_0 i
  | 1 => hbmTy0_1 i
  | _ => ⟨S8192x6656, .bf16⟩

abbrev bufTy : (tb : Table) → Fin (tcTables nBuf tb) → BufTy
  | .hbm, ⟨i, _⟩ => hbmTy i
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v38_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v38_1 : Ref sig .tc := ⟨.hbm, 57, rfl⟩
abbrev main_v38_0 : Ref sig .tc := ⟨.hbm, 58, rfl⟩
abbrev main_v39 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v40 : Ref sig .tc := ⟨.hbm, 63, rfl⟩
abbrev main_cst_2 : Ref sig .tc := ⟨.hbm, 64, rfl⟩
abbrev main_v41 : Ref sig .tc := ⟨.hbm, 65, rfl⟩
abbrev main_v42 : Ref sig .tc := ⟨.hbm, 66, rfl⟩
abbrev main_cst_3 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_4 : Ref sig .tc := ⟨.hbm, 73, rfl⟩
abbrev main_v48 : Ref sig .tc := ⟨.hbm, 74, rfl⟩
abbrev main_v49 : Ref sig .tc := ⟨.hbm, 75, rfl⟩
abbrev main_cst_5 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_12 : Ref sig .tc := ⟨.hbm, 101, rfl⟩
abbrev main_v68 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_cst_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_15 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_cst_17 : Ref sig .tc := ⟨.hbm, 119, rfl⟩
abbrev main_v81 : Ref sig .tc := ⟨.hbm, 120, rfl⟩
abbrev main_cst_18 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_19 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩

abbrev nD : Nat := 1
abbrev τ : Topo := Topo.v7x

variable {F : FTy → Type} [FloatOps F]
-- ==== ConvV.lean ====
abbrev S8192x6656 : Shape := ⟨2, ![8192, 6656]⟩
abbrev S4x3072 : Shape := ⟨2, ![4, 3072]⟩
abbrev S8192x1024 : Shape := ⟨2, ![8192, 1024]⟩
abbrev S4x1024 : Shape := ⟨2, ![4, 1024]⟩
abbrev S2048x128 : Shape := ⟨2, ![2048, 128]⟩
abbrev S4x128 : Shape := ⟨2, ![4, 128]⟩
abbrev S1x128 : Shape := ⟨2, ![1, 128]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S8192x6656, .bf16⟩
  | .hbm, ⟨1, _⟩ => ⟨S4x3072, .f32⟩
  | .hbm, ⟨2, _⟩ => ⟨S8192x1024, .f32⟩
  | .hbm, ⟨3, _⟩ => ⟨S8192x6656, .bf16⟩
  | .hbm, ⟨4, _⟩ => ⟨S8192x6656, .bf16⟩
  | .hbm, ⟨5, _⟩ => ⟨S4x1024, .f32⟩
  | .local _ .vmem, ⟨0, _⟩ => ⟨S2048x128, .bf16⟩
  | .local _ .vmem, ⟨1, _⟩ => ⟨S2048x128, .bf16⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvVRefIdeal.lean ====
abbrev S8192x6656 : Shape := ⟨2, ![8192, 6656]⟩
abbrev S4x3072 : Shape := ⟨2, ![4, 3072]⟩
abbrev S8192x1024 : Shape := ⟨2, ![8192, 1024]⟩
abbrev S4x2048x1024 : Shape := ⟨3, ![4, 2048, 1024]⟩
abbrev S4x1024 : Shape := ⟨2, ![4, 1024]⟩
abbrev S_ : Shape := ⟨0, ![]⟩
abbrev S4x3x1024 : Shape := ⟨3, ![4, 3, 1024]⟩
abbrev S4x2051x1024 : Shape := ⟨3, ![4, 2051, 1024]⟩
abbrev S1x1024 : Shape := ⟨2, ![1, 1024]⟩
abbrev S1024 : Shape := ⟨1, ![1024]⟩
abbrev S1x1x1024 : Shape := ⟨3, ![1, 1, 1024]⟩
abbrev S4x2048x8x128 : Shape := ⟨4, ![4, 2048, 8, 128]⟩
abbrev S8192x2048 : Shape := ⟨2, ![8192, 2048]⟩
abbrev S8192x3584 : Shape := ⟨2, ![8192, 3584]⟩

abbrev nBuf : Space → Nat
  | .hbm => 128
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S4x3072, .f32⟩
  | .hbm, ⟨2, _⟩ => ⟨S8192x1024, .f32⟩
  | .hbm, ⟨3, _⟩ => ⟨S8192x6656, .bf16⟩
  | .hbm, ⟨4, _⟩ => ⟨S8192x1024, .bf16⟩
  | .hbm, ⟨5, _⟩ => ⟨S8192x1024, .f32⟩
  | .hbm, ⟨6, _⟩ => ⟨S4x2048x1024, .f32⟩
  | .hbm, ⟨7, _⟩ => ⟨S4x1024, .f32⟩
  | .hbm, ⟨8, _⟩ => ⟨S_, .f32⟩
  | .hbm, ⟨9, _⟩ => ⟨S4x3x1024, .f32⟩
  | .hbm, ⟨10, _⟩ => ⟨S4x2051x1024, .f32⟩
  | .hbm, ⟨11, _⟩ => ⟨S_, .f32⟩
  | .hbm, ⟨12, _⟩ => ⟨S4x3x1024, .f32⟩
  | .hbm, ⟨13, _⟩ => ⟨S1x1024, .f32⟩
  | .hbm, ⟨14, _⟩ => ⟨S1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048x1024, .f32⟩
  | .hbm, ⟨21, _⟩ => ⟨S4x2048x1024, .f32⟩
  | .hbm, ⟨22, _⟩ => ⟨S1x1024, .f32⟩
  | .hbm, ⟨23, _⟩ => ⟨S1024, .f32⟩
  | .hbm, ⟨24, _⟩ => ⟨S4x2048x1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S1x1024, .f32⟩
  | .hbm, ⟨30, _⟩ => ⟨S1024, .f32⟩
  | .hbm, ⟨31, _⟩ => ⟨S4x2048x1024, .f32⟩
  | .hbm, ⟨32, _⟩ => ⟨S1x1x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S1x1024, .f32⟩
  | .hbm, ⟨37, _⟩ => ⟨S1024, .f32⟩
  | .hbm, ⟨38, _⟩ => ⟨S4x2048x1024, .f32⟩
  | .hbm, ⟨39, _⟩ => ⟨S1x1x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S4x2048x1024, .f32⟩
  | .hbm, ⟨47, _⟩ => ⟨S4x2048x1024, .f32⟩
  | .hbm, ⟨48, _⟩ => ⟨S_, .f32⟩
  | .hbm, ⟨49, _⟩ => ⟨S4x2048x1024, .f32⟩
  | .hbm, ⟨50, _⟩ => ⟨S4x2048x1024, .f32⟩
  | .hbm, ⟨51, _⟩ => ⟨S_, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S4x2048x8x128, .f32⟩
  | .hbm, ⟨57, _⟩ => ⟨S4x2048x8x128, .f32⟩
  | .hbm, ⟨58, _⟩ => ⟨S4x2048x1024, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S4x2048x1024, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S_, .f32⟩
  | .hbm, ⟨67, _⟩ => ⟨S1024, .f32⟩
  | .hbm, ⟨68, _⟩ => ⟨S1x1x1024, .f32⟩
  | .hbm, ⟨69, _⟩ => ⟨S_, .f32⟩
  | .hbm, ⟨70, _⟩ => ⟨S1024, .f32⟩
  | .hbm, ⟨71, _⟩ => ⟨S_, .f32⟩
  | .hbm, ⟨72, _⟩ => ⟨S4x2051x1024, .f32⟩
  | .hbm, ⟨73, _⟩ => ⟨S1x1024, .f32⟩
  | .hbm, ⟨74, _⟩ => ⟨S_, .f32⟩
  | .hbm, ⟨75, _⟩ => ⟨S4x1024, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S_, .f32⟩
  | .hbm, ⟨80, _⟩ => ⟨S1024, .f32⟩
  | .hbm, ⟨81, _⟩ => ⟨S1x1x1024, .f32⟩
  | .hbm, ⟨82, _⟩ => ⟨S_, .f32⟩
  | .hbm, ⟨83, _⟩ => ⟨S1024, .f32⟩
  | .hbm, ⟨84, _⟩ => ⟨S_, .f32⟩
  | .hbm, ⟨85, _⟩ => ⟨S4x2051x1024, .f32⟩
  | .hbm, ⟨86, _⟩ => ⟨S4x2051x1024, .f32⟩
  | .hbm, ⟨87, _⟩ => ⟨S1x1024, .f32⟩
  | .hbm, ⟨88, _⟩ => ⟨S_, .f32⟩
  | .hbm, ⟨89, _⟩ => ⟨S4x1024, .f32⟩
  | .hbm, ⟨90, _⟩ => ⟨S4x1024, .f32⟩
  | .hbm, ⟨91, _⟩ => ⟨S4x2048x1024, .f32⟩
  | .hbm, ⟨92, _⟩ => ⟨S4x2048x1024, .f32⟩
  | .hbm, ⟨93, _⟩ => ⟨S4x2048x1024, .f32⟩
  | .hbm, ⟨94, _⟩ => ⟨S_, .f32⟩
  | .hbm, ⟨95, _⟩ => ⟨S1024, .f32⟩
  | .hbm, ⟨96, _⟩ => ⟨S1x1x1024, .f32⟩
  | .hbm, ⟨97, _⟩ => ⟨S_, .f32⟩
  | .hbm, ⟨98, _⟩ => ⟨S1024, .f32⟩
  | .hbm, ⟨99, _⟩ => ⟨S_, .f32⟩
  | .hbm, ⟨100, _⟩ => ⟨S4x2051x1024, .f32⟩
  | .hbm, ⟨101, _⟩ => ⟨S4x2051x1024, .f32⟩
  | .hbm, ⟨102, _⟩ => ⟨S1x1024, .f32⟩
  | .hbm, ⟨103, _⟩ => ⟨S_, .f32⟩
  | .hbm, ⟨104, _⟩ => ⟨S4x1024, .f32⟩
  | .hbm, ⟨105, _⟩ => ⟨S4x1024, .f32⟩
  | .hbm, ⟨106, _⟩ => ⟨S4x2048x1024, .f32⟩
  | .hbm, ⟨107, _⟩ => ⟨S4x2048x1024, .f32⟩
  | .hbm, ⟨108, _⟩ => ⟨S4x2048x1024, .f32⟩
  | .hbm, ⟨109, _⟩ => ⟨S_, .f32⟩
  | .hbm, ⟨110, _⟩ => ⟨S1024, .f32⟩
  | .hbm, ⟨111, _⟩ => ⟨S1x1x1024, .f32⟩
  | .hbm, ⟨112, _⟩ => ⟨S_, .f32⟩
  | .hbm, ⟨113, _⟩ => ⟨S1024, .f32⟩
  | .hbm, ⟨114, _⟩ => ⟨S_, .f32⟩
  | .hbm, ⟨115, _⟩ => ⟨S4x2051x1024, .f32⟩
  | .hbm, ⟨116, _⟩ => ⟨S4x2051x1024, .f32⟩
  | .hbm, ⟨117, _⟩ => ⟨S1x1024, .f32⟩
  | .hbm, ⟨118, _⟩ => ⟨S_, .f32⟩
  | .hbm, ⟨119, _⟩ => ⟨S4x1024, .f32⟩
  | .hbm, ⟨120, _⟩ => ⟨S4x1024, .f32⟩
  | .hbm, ⟨121, _⟩ => ⟨S4x3x1024, .f32⟩
  | .hbm, ⟨122, _⟩ => ⟨S4x2048x1024, .f32⟩
  | .hbm, ⟨123, _⟩ => ⟨S8192x1024, .f32⟩
  | .hbm, ⟨124, _⟩ => ⟨S8192x1024, .bf16⟩
  | .hbm, ⟨125, _⟩ => ⟨S8192x2048, .bf16⟩
  | .hbm, ⟨126, _⟩ => ⟨S8192x3584, .bf16⟩
  | .hbm, ⟨127, _⟩ => ⟨S8192x6656, .bf16⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v36_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v36_1 : Ref sig .tc := ⟨.hbm, 54, rfl⟩
abbrev main_v36_0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_2 : Ref sig .tc := ⟨.hbm, 66, rfl⟩
abbrev main_v44 : Ref sig .tc := ⟨.hbm, 67, rfl⟩
abbrev main_v45 : Ref sig .tc := ⟨.hbm, 68, rfl⟩
abbrev main_cst_3 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_cst_11 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_14 : Ref sig .tc := ⟨.hbm, 109, rfl⟩
abbrev main_v75 : Ref sig .tc := ⟨.hbm, 110, rfl⟩
abbrev main_v76 : Ref sig .tc := ⟨.hbm, 111, rfl⟩
abbrev main_cst_15 : Ref sig .tc := ⟨.hbm, 112, rfl⟩
abbrev main_v77 : Ref sig .tc := ⟨.hbm, 113, rfl⟩
abbrev main_cst_16 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_17 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩

abbrev nD : Nat := 1
abbrev τ : Topo := Topo.v7x

variable {F : FTy → Type} [FloatOps F]
-- ==== ConvK.lean ====
abbrev S8192x6656 : Shape := ⟨2, ![8192, 6656]⟩
abbrev S4x3072 : Shape := ⟨2, ![4, 3072]⟩
abbrev S8192x1024 : Shape := ⟨2, ![8192, 1024]⟩
abbrev S4x1024 : Shape := ⟨2, ![4, 1024]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S8192x6656, .bf16⟩
  | .hbm, ⟨1, _⟩ => ⟨S4x3072, .f32⟩
  | .hbm, ⟨2, _⟩ => ⟨S8192x1024, .f32⟩
  | .hbm, ⟨3, _⟩ => ⟨S8192x6656, .bf16⟩
  | .hbm, ⟨4, _⟩ => ⟨S8192x6656, .bf16⟩
  | .hbm, ⟨5, _⟩ => ⟨S4x1024, .f32⟩
  | .local _ .vmem, ⟨0, _⟩ => ⟨S2048x128, .bf16⟩
  | .local _ .vmem, ⟨1, _⟩ => ⟨S2048x128, .bf16⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvKRefIdeal.lean ====
abbrev S8192x6656 : Shape := ⟨2, ![8192, 6656]⟩
abbrev S4x3072 : Shape := ⟨2, ![4, 3072]⟩
abbrev S8192x1024 : Shape := ⟨2, ![8192, 1024]⟩
abbrev S4x2048x1024 : Shape := ⟨3, ![4, 2048, 1024]⟩
abbrev S4x1024 : Shape := ⟨2, ![4, 1024]⟩
abbrev S_ : Shape := ⟨0, ![]⟩
abbrev S4x3x1024 : Shape := ⟨3, ![4, 3, 1024]⟩
abbrev S4x2051x1024 : Shape := ⟨3, ![4, 2051, 1024]⟩
abbrev S1x1024 : Shape := ⟨2, ![1, 1024]⟩
abbrev S1024 : Shape := ⟨1, ![1024]⟩
abbrev S1x1x1024 : Shape := ⟨3, ![1, 1, 1024]⟩
abbrev S4x2048x8x128 : Shape := ⟨4, ![4, 2048, 8, 128]⟩
abbrev S4x2048x8 : Shape := ⟨3, ![4, 2048, 8]⟩
abbrev S4x2048x8x1 : Shape := ⟨4, ![4, 2048, 8, 1]⟩
abbrev S8192x4608 : Shape := ⟨2, ![8192, 4608]⟩

abbrev nBuf : Space → Nat
  | .hbm => 156
  | .vmem => 0
  | .smem => 0
  | _ => 0

abbrev hbmTy0_0 (i : Nat) : BufTy := match i % 128 with
  | 0 => ⟨S8192x6656, .bf16⟩
  | 1 => ⟨S4x3072, .f32⟩
  | 2 => ⟨S8192x1024, .f32⟩
  | 3 => ⟨S8192x6656, .bf16⟩
  | 4 => ⟨S8192x1024, .bf16⟩
  | 5 => ⟨S8192x1024, .f32⟩
  | 6 => ⟨S4x2048x1024, .f32⟩
  | 7 => ⟨S4x1024, .f32⟩
  | 8 => ⟨S_, .f32⟩
  | 9 => ⟨S4x3x1024, .f32⟩
  | 10 => ⟨S4x2051x1024, .f32⟩
  | 11 => ⟨S_, .f32⟩
  | 12 => ⟨S4x3x1024, .f32⟩
  | 13 => ⟨S1x1024, .f32⟩
  | 14 => ⟨S1024, .f32⟩
  | 15 => ⟨S4x2048x1024, .f32⟩
  | 16 => ⟨S1x1x1024, .f32⟩
  | 17 => ⟨S4x2048x1024, .f32⟩
  | 18 => ⟨S4x2048x1024, .f32⟩
  | 19 => ⟨S_, .f32⟩
  | 20 => ⟨S4x2048x1024, .f32⟩
  | 21 => ⟨S4x2048x1024, .f32⟩
  | 22 => ⟨S1x1024, .f32⟩
  | 23 => ⟨S1024, .f32⟩
  | 24 => ⟨S4x2048x1024, .f32⟩
  | 25 => ⟨S1x1x1024, .f32⟩
  | 26 => ⟨S4x2048x1024, .f32⟩
  | 27 => ⟨S4x2048x1024, .f32⟩
  | 28 => ⟨S4x2048x1024, .f32⟩
  | 29 => ⟨S1x1024, .f32⟩
  | 30 => ⟨S1024, .f32⟩
  | 31 => ⟨S4x2048x1024, .f32⟩
  | 32 => ⟨S1x1x1024, .f32⟩
  | 33 => ⟨S4x2048x1024, .f32⟩
  | 34 => ⟨S4x2048x1024, .f32⟩
  | 35 => ⟨S4x2048x1024, .f32⟩
  | 36 => ⟨S1x1024, .f32⟩
  | 37 => ⟨S1024, .f32⟩
  | 38 => ⟨S4x2048x1024, .f32⟩
  | 39 => ⟨S1x1x1024, .f32⟩
  | 40 => ⟨S4x2048x1024, .f32⟩
  | 41 => ⟨S4x2048x1024, .f32⟩
  | 42 => ⟨S4x2048x1024, .f32⟩
  | 43 => ⟨S4x2048x1024, .f32⟩
  | 44 => ⟨S4x2048x1024, .f32⟩
  | 45 => ⟨S_, .f32⟩
  | 46 => ⟨S4x2048x1024, .f32⟩
  | 47 => ⟨S4x2048x1024, .f32⟩
  | 48 => ⟨S_, .f32⟩
  | 49 => ⟨S4x2048x1024, .f32⟩
  | 50 => ⟨S4x2048x1024, .f32⟩
  | 51 => ⟨S_, .f32⟩
  | 52 => ⟨S4x2048x1024, .f32⟩
  | 53 => ⟨S4x2048x1024, .f32⟩
  | 54 => ⟨S4x2048x1024, .f32⟩
  | 55 => ⟨S4x2048x1024, .f32⟩
  | 56 => ⟨S4x2048x8x128, .f32⟩
  | 57 => ⟨S4x2048x8x128, .f32⟩
  | 58 => ⟨S_, .f32⟩
  | 59 => ⟨S4x2048x8, .f32⟩
  | 60 => ⟨S4x2048x8x1, .f32⟩
  | 61 => ⟨S_, .f32⟩
  | 62 => ⟨S4x2048x8x1, .f32⟩
  | 63 => ⟨S4x2048x8x1, .f32⟩
  | 64 => ⟨S4x2048x8x1, .f32⟩
  | 65 => ⟨S4x2048x8x1, .f32⟩
  | 66 => ⟨S_, .f32⟩
  | 67 => ⟨S4x2048x8x1, .f32⟩
  | 68 => ⟨S4x2048x8x1, .f32⟩
  | 69 => ⟨S4x2048x8x128, .f32⟩
  | 70 => ⟨S4x2048x8x128, .f32⟩
  | 71 => ⟨S4x2048x8x128, .f32⟩
  | 72 => ⟨S4x2048x8x128, .f32⟩
  | 73 => ⟨S_, .f32⟩
  | 74 => ⟨S4x2048x8, .f32⟩
  | 75 => ⟨S4x2048x8x1, .f32⟩
  | 76 => ⟨S4x2048x8x128, .f32⟩
  | 77 => ⟨S4x2048x8x128, .f32⟩
  | 78 => ⟨S4x2048x8x1, .f32⟩
  | 79 => ⟨S_, .f32⟩
  | 80 => ⟨S4x2048x8, .f32⟩
  | 81 => ⟨S4x2048x8x128, .f32⟩
  | 82 => ⟨S4x2048x8x128, .f32⟩
  | 83 => ⟨S4x2048x8x128, .f32⟩
  | 84 => ⟨S4x2048x8x128, .f32⟩
  | 85 => ⟨S4x2048x8x128, .f32⟩
  | 86 => ⟨S4x2048x1024, .f32⟩
  | 87 => ⟨S4x2048x1024, .f32⟩
  | 88 => ⟨S4x2048x1024, .f32⟩
  | 89 => ⟨S4x2048x1024, .f32⟩
  | 90 => ⟨S4x2048x1024, .f32⟩
  | 91 => ⟨S4x2048x1024, .f32⟩
  | 92 => ⟨S4x2048x1024, .f32⟩
  | 93 => ⟨S4x2048x1024, .f32⟩
  | 94 => ⟨S_, .f32⟩
  | 95 => ⟨S1024, .f32⟩
  | 96 => ⟨S1x1x1024, .f32⟩
  | 97 => ⟨S_, .f32⟩
  | 98 => ⟨S1024, .f32⟩
  | 99 => ⟨S_, .f32⟩
  | 100 => ⟨S4x2051x1024, .f32⟩
  | 101 => ⟨S1x1024, .f32⟩
  | 102 => ⟨S_, .f32⟩
  | 103 => ⟨S4x1024, .f32⟩
  | 104 => ⟨S4x2048x1024, .f32⟩
  | 105 => ⟨S4x2048x1024, .f32⟩
  | 106 => ⟨S4x2048x1024, .f32⟩
  | 107 => ⟨S_, .f32⟩
  | 108 => ⟨S1024, .f32⟩
  | 109 => ⟨S1x1x1024, .f32⟩
  | 110 => ⟨S_, .f32⟩
  | 111 => ⟨S1024, .f32⟩
  | 112 => ⟨S_, .f32⟩
  | 113 => ⟨S4x2051x1024, .f32⟩
  | 114 => ⟨S4x2051x1024, .f32⟩
  | 115 => ⟨S1x1024, .f32⟩
  | 116 => ⟨S_, .f32⟩
  | 117 => ⟨S4x1024, .f32⟩
  | 118 => ⟨S4x1024, .f32⟩
  | 119 => ⟨S4x2048x1024, .f32⟩
  | 120 => ⟨S4x2048x1024, .f32⟩
  | 121 => ⟨S4x2048x1024, .f32⟩
  | 122 => ⟨S_, .f32⟩
  | 123 => ⟨S1024, .f32⟩
  | 124 => ⟨S1x1x1024, .f32⟩
  | 125 => ⟨S_, .f32⟩
  | 126 => ⟨S1024, .f32⟩
  | 127 => ⟨S_, .f32⟩
  | _ => ⟨S8192x6656, .bf16⟩

abbrev hbmTy0_1 (i : Nat) : BufTy := match i % 128 with
  | 0 => ⟨S4x2051x1024, .f32⟩
  | 1 => ⟨S4x2051x1024, .f32⟩
  | 2 => ⟨S1x1024, .f32⟩
  | 3 => ⟨S_, .f32⟩
  | 4 => ⟨S4x1024, .f32⟩
  | 5 => ⟨S4x1024, .f32⟩
  | 6 => ⟨S4x2048x1024, .f32⟩
  | 7 => ⟨S4x2048x1024, .f32⟩
  | 8 => ⟨S4x2048x1024, .f32⟩
  | 9 => ⟨S_, .f32⟩
  | 10 => ⟨S1024, .f32⟩
  | 11 => ⟨S1x1x1024, .f32⟩
  | 12 => ⟨S_, .f32⟩
  | 13 => ⟨S1024, .f32⟩
  | 14 => ⟨S_, .f32⟩
  | 15 => ⟨S4x2051x1024, .f32⟩
  | 16 => ⟨S4x2051x1024, .f32⟩
  | 17 => ⟨S1x1024, .f32⟩
  | 18 => ⟨S_, .f32⟩
  | 19 => ⟨S4x1024, .f32⟩
  | 20 => ⟨S4x1024, .f32⟩
  | 21 => ⟨S4x3x1024, .f32⟩
  | 22 => ⟨S4x2048x1024, .f32⟩
  | 23 => ⟨S8192x1024, .f32⟩
  | 24 => ⟨S8192x1024, .bf16⟩
  | 25 => ⟨S8192x1024, .bf16⟩
  | 26 => ⟨S8192x4608, .bf16⟩
  | 27 => ⟨S8192x6656, .bf16⟩
  | _ => ⟨S8192x6656, .bf16⟩

abbrev hbmTy (i : Nat) : BufTy := match i / 128 with
  | 0 => hbmTy0_0 i
  | 1 => hbmTy0_1 i
  | _ => ⟨S8192x6656, .bf16⟩

abbrev bufTy : (tb : Table) → Fin (tcTables nBuf tb) → BufTy
  | .hbm, ⟨i, _⟩ => hbmTy i
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v36_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v36_1 : Ref sig .tc := ⟨.hbm, 54, rfl⟩
abbrev main_v36_0 : Ref sig .tc := ⟨.hbm, 55, rfl⟩
abbrev main_v37 : Ref sig .tc := ⟨.hbm, 56, rfl⟩
abbrev main_v38 : Ref sig .tc := ⟨.hbm, 57, rfl⟩
abbrev main_cst_2 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_4 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_6 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_7 : Ref sig .tc := ⟨.hbm, 94, rfl⟩
abbrev main_v67 : Ref sig .tc := ⟨.hbm, 95, rfl⟩
abbrev main_v68 : Ref sig .tc := ⟨.hbm, 96, rfl⟩
abbrev main_cst_8 : Ref sig .tc := ⟨.hbm, 97, rfl⟩
abbrev main_v69 : Ref sig .tc := ⟨.hbm, 98, rfl⟩
abbrev main_cst_9 : Ref sig .tc := ⟨.hbm, 99, rfl⟩
abbrev main_v70 : Ref sig .tc := ⟨.hbm, 100, rfl⟩
abbrev main_v71 : Ref sig .tc := ⟨.hbm, 101, rfl⟩
abbrev main_cst_10 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_11 : Ref sig .tc := ⟨.hbm, 107, rfl⟩
abbrev main_v76 : Ref sig .tc := ⟨.hbm, 108, rfl⟩
abbrev main_v77 : Ref sig .tc := ⟨.hbm, 109, rfl⟩
abbrev main_cst_12 : Ref sig .tc := ⟨.hbm, 110, rfl⟩
abbrev main_v78 : Ref sig .tc := ⟨.hbm, 111, rfl⟩
abbrev main_cst_13 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_14 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_15 : Ref sig .tc := ⟨.hbm, 122, rfl⟩
abbrev main_v87 : Ref sig .tc := ⟨.hbm, 123, rfl⟩
abbrev main_v88 : Ref sig .tc := ⟨.hbm, 124, rfl⟩
abbrev main_cst_16 : Ref sig .tc := ⟨.hbm, 125, rfl⟩
abbrev main_v89 : Ref sig .tc := ⟨.hbm, 126, rfl⟩
abbrev main_cst_17 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_18 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_19 : Ref sig .tc := ⟨.hbm, 137, rfl⟩
abbrev main_v98 : Ref sig .tc := ⟨.hbm, 138, rfl⟩
abbrev main_v99 : Ref sig .tc := ⟨.hbm, 139, rfl⟩
abbrev main_cst_20 : Ref sig .tc := ⟨.hbm, 140, rfl⟩
abbrev main_v100 : Ref sig .tc := ⟨.hbm, 141, rfl⟩
abbrev main_cst_21 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_22 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩

abbrev nD : Nat := 1
abbrev τ : Topo := Topo.v7x

variable {F : FTy → Type} [FloatOps F]
-- ==== ConvQ.lean ====
abbrev S8192x6656 : Shape := ⟨2, ![8192, 6656]⟩
abbrev S4x3072 : Shape := ⟨2, ![4, 3072]⟩
abbrev S8192x1024 : Shape := ⟨2, ![8192, 1024]⟩
abbrev S4x1024 : Shape := ⟨2, ![4, 1024]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S8192x6656, .bf16⟩
  | .hbm, ⟨1, _⟩ => ⟨S4x3072, .f32⟩
  | .hbm, ⟨2, _⟩ => ⟨S8192x1024, .f32⟩
  | .hbm, ⟨3, _⟩ => ⟨S8192x6656, .bf16⟩
  | .hbm, ⟨4, _⟩ => ⟨S8192x6656, .bf16⟩
  | .hbm, ⟨5, _⟩ => ⟨S4x1024, .f32⟩
  | .local _ .vmem, ⟨0, _⟩ => ⟨S2048x128, .bf16⟩
  | .local _ .vmem, ⟨1, _⟩ => ⟨S2048x128, .bf16⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvQRefIdeal.lean ====
abbrev S8192x6656 : Shape := ⟨2, ![8192, 6656]⟩
abbrev S4x3072 : Shape := ⟨2, ![4, 3072]⟩
abbrev S8192x1024 : Shape := ⟨2, ![8192, 1024]⟩
abbrev S4x2048x1024 : Shape := ⟨3, ![4, 2048, 1024]⟩
abbrev S4x1024 : Shape := ⟨2, ![4, 1024]⟩
abbrev S_ : Shape := ⟨0, ![]⟩
abbrev S4x3x1024 : Shape := ⟨3, ![4, 3, 1024]⟩
abbrev S4x2051x1024 : Shape := ⟨3, ![4, 2051, 1024]⟩
abbrev S1x1024 : Shape := ⟨2, ![1, 1024]⟩
abbrev S1024 : Shape := ⟨1, ![1024]⟩
abbrev S1x1x1024 : Shape := ⟨3, ![1, 1, 1024]⟩
abbrev S4x2048x8x128 : Shape := ⟨4, ![4, 2048, 8, 128]⟩
abbrev S4x2048x8 : Shape := ⟨3, ![4, 2048, 8]⟩
abbrev S4x2048x8x1 : Shape := ⟨4, ![4, 2048, 8, 1]⟩
abbrev S8192x0 : Shape := ⟨2, ![8192, 0]⟩
abbrev S8192x5632 : Shape := ⟨2, ![8192, 5632]⟩

abbrev nBuf : Space → Nat
  | .hbm => 162
  | .vmem => 0
  | .smem => 0
  | _ => 0

abbrev hbmTy0_0 (i : Nat) : BufTy := match i % 128 with
  | 0 => ⟨S8192x6656, .bf16⟩
  | 1 => ⟨S4x3072, .f32⟩
  | 2 => ⟨S8192x1024, .f32⟩
  | 3 => ⟨S8192x6656, .bf16⟩
  | 4 => ⟨S8192x1024, .bf16⟩
  | 5 => ⟨S8192x1024, .f32⟩
  | 6 => ⟨S4x2048x1024, .f32⟩
  | 7 => ⟨S4x1024, .f32⟩
  | 8 => ⟨S_, .f32⟩
  | 9 => ⟨S4x3x1024, .f32⟩
  | 10 => ⟨S4x2051x1024, .f32⟩
  | 11 => ⟨S_, .f32⟩
  | 12 => ⟨S4x3x1024, .f32⟩
  | 13 => ⟨S1x1024, .f32⟩
  | 14 => ⟨S1024, .f32⟩
  | 15 => ⟨S4x2048x1024, .f32⟩
  | 16 => ⟨S1x1x1024, .f32⟩
  | 17 => ⟨S4x2048x1024, .f32⟩
  | 18 => ⟨S4x2048x1024, .f32⟩
  | 19 => ⟨S_, .f32⟩
  | 20 => ⟨S4x2048x1024, .f32⟩
  | 21 => ⟨S4x2048x1024, .f32⟩
  | 22 => ⟨S1x1024, .f32⟩
  | 23 => ⟨S1024, .f32⟩
  | 24 => ⟨S4x2048x1024, .f32⟩
  | 25 => ⟨S1x1x1024, .f32⟩
  | 26 => ⟨S4x2048x1024, .f32⟩
  | 27 => ⟨S4x2048x1024, .f32⟩
  | 28 => ⟨S4x2048x1024, .f32⟩
  | 29 => ⟨S1x1024, .f32⟩
  | 30 => ⟨S1024, .f32⟩
  | 31 => ⟨S4x2048x1024, .f32⟩
  | 32 => ⟨S1x1x1024, .f32⟩
  | 33 => ⟨S4x2048x1024, .f32⟩
  | 34 => ⟨S4x2048x1024, .f32⟩
  | 35 => ⟨S4x2048x1024, .f32⟩
  | 36 => ⟨S1x1024, .f32⟩
  | 37 => ⟨S1024, .f32⟩
  | 38 => ⟨S4x2048x1024, .f32⟩
  | 39 => ⟨S1x1x1024, .f32⟩
  | 40 => ⟨S4x2048x1024, .f32⟩
  | 41 => ⟨S4x2048x1024, .f32⟩
  | 42 => ⟨S4x2048x1024, .f32⟩
  | 43 => ⟨S4x2048x1024, .f32⟩
  | 44 => ⟨S4x2048x1024, .f32⟩
  | 45 => ⟨S_, .f32⟩
  | 46 => ⟨S4x2048x1024, .f32⟩
  | 47 => ⟨S4x2048x1024, .f32⟩
  | 48 => ⟨S_, .f32⟩
  | 49 => ⟨S4x2048x1024, .f32⟩
  | 50 => ⟨S4x2048x1024, .f32⟩
  | 51 => ⟨S_, .f32⟩
  | 52 => ⟨S4x2048x1024, .f32⟩
  | 53 => ⟨S4x2048x1024, .f32⟩
  | 54 => ⟨S4x2048x1024, .f32⟩
  | 55 => ⟨S4x2048x1024, .f32⟩
  | 56 => ⟨S4x2048x8x128, .f32⟩
  | 57 => ⟨S4x2048x8x128, .f32⟩
  | 58 => ⟨S_, .f32⟩
  | 59 => ⟨S4x2048x8, .f32⟩
  | 60 => ⟨S4x2048x8x1, .f32⟩
  | 61 => ⟨S_, .f32⟩
  | 62 => ⟨S4x2048x8x1, .f32⟩
  | 63 => ⟨S4x2048x8x1, .f32⟩
  | 64 => ⟨S4x2048x8x1, .f32⟩
  | 65 => ⟨S4x2048x8x1, .f32⟩
  | 66 => ⟨S_, .f32⟩
  | 67 => ⟨S4x2048x8x1, .f32⟩
  | 68 => ⟨S4x2048x8x1, .f32⟩
  | 69 => ⟨S4x2048x8x128, .f32⟩
  | 70 => ⟨S4x2048x8x128, .f32⟩
  | 71 => ⟨S_, .f32⟩
  | 72 => ⟨S4x2048x8x128, .f32⟩
  | 73 => ⟨S4x2048x8x128, .f32⟩
  | 74 => ⟨S4x2048x8x128, .f32⟩
  | 75 => ⟨S_, .f32⟩
  | 76 => ⟨S4x2048x8x128, .f32⟩
  | 77 => ⟨S4x2048x8x128, .f32⟩
  | 78 => ⟨S4x2048x8x128, .f32⟩
  | 79 => ⟨S_, .f32⟩
  | 80 => ⟨S4x2048x8, .f32⟩
  | 81 => ⟨S4x2048x8x1, .f32⟩
  | 82 => ⟨S4x2048x8x128, .f32⟩
  | 83 => ⟨S4x2048x8x128, .f32⟩
  | 84 => ⟨S4x2048x8x1, .f32⟩
  | 85 => ⟨S_, .f32⟩
  | 86 => ⟨S4x2048x8, .f32⟩
  | 87 => ⟨S4x2048x8x128, .f32⟩
  | 88 => ⟨S4x2048x8x128, .f32⟩
  | 89 => ⟨S4x2048x8x128, .f32⟩
  | 90 => ⟨S4x2048x8x128, .f32⟩
  | 91 => ⟨S4x2048x8x128, .f32⟩
  | 92 => ⟨S4x2048x1024, .f32⟩
  | 93 => ⟨S4x2048x1024, .f32⟩
  | 94 => ⟨S4x2048x1024, .f32⟩
  | 95 => ⟨S4x2048x1024, .f32⟩
  | 96 => ⟨S4x2048x1024, .f32⟩
  | 97 => ⟨S4x2048x1024, .f32⟩
  | 98 => ⟨S4x2048x1024, .f32⟩
  | 99 => ⟨S4x2048x1024, .f32⟩
  | 100 => ⟨S_, .f32⟩
  | 101 => ⟨S1024, .f32⟩
  | 102 => ⟨S1x1x1024, .f32⟩
  | 103 => ⟨S_, .f32⟩
  | 104 => ⟨S1024, .f32⟩
  | 105 => ⟨S_, .f32⟩
  | 106 => ⟨S4x2051x1024, .f32⟩
  | 107 => ⟨S1x1024, .f32⟩
  | 108 => ⟨S_, .f32⟩
  | 109 => ⟨S4x1024, .f32⟩
  | 110 => ⟨S4x2048x1024, .f32⟩
  | 111 => ⟨S4x2048x1024, .f32⟩
  | 112 => ⟨S4x2048x1024, .f32⟩
  | 113 => ⟨S_, .f32⟩
  | 114 => ⟨S1024, .f32⟩
  | 115 => ⟨S1x1x1024, .f32⟩
  | 116 => ⟨S_, .f32⟩
  | 117 => ⟨S1024, .f32⟩
  | 118 => ⟨S_, .f32⟩
  | 119 => ⟨S4x2051x1024, .f32⟩
  | 120 => ⟨S4x2051x1024, .f32⟩
  | 121 => ⟨S1x1024, .f32⟩
  | 122 => ⟨S_, .f32⟩
  | 123 => ⟨S4x1024, .f32⟩
  | 124 => ⟨S4x1024, .f32⟩
  | 125 => ⟨S4x2048x1024, .f32⟩
  | 126 => ⟨S4x2048x1024, .f32⟩
  | 127 => ⟨S4x2048x1024, .f32⟩
  | _ => ⟨S8192x6656, .bf16⟩

abbrev hbmTy0_1 (i : Nat) : BufTy := match i % 128 with
  | 0 => ⟨S_, .f32⟩
  | 1 => ⟨S1024, .f32⟩
  | 2 => ⟨S1x1x1024, .f32⟩
  | 3 => ⟨S_, .f32⟩
  | 4 => ⟨S1024, .f32⟩
  | 5 => ⟨S_, .f32⟩
  | 6 => ⟨S4x2051x1024, .f32⟩
  | 7 => ⟨S4x2051x1024, .f32⟩
  | 8 => ⟨S1x1024, .f32⟩
  | 9 => ⟨S_, .f32⟩
  | 10 => ⟨S4x1024, .f32⟩
  | 11 => ⟨S4x1024, .f32⟩
  | 12 => ⟨S4x2048x1024, .f32⟩
  | 13 => ⟨S4x2048x1024, .f32⟩
  | 14 => ⟨S4x2048x1024, .f32⟩
  | 15 => ⟨S_, .f32⟩
  | 16 => ⟨S1024, .f32⟩
  | 17 => ⟨S1x1x1024, .f32⟩
  | 18 => ⟨S_, .f32⟩
  | 19 => ⟨S1024, .f32⟩
  | 20 => ⟨S_, .f32⟩
  | 21 => ⟨S4x2051x1024, .f32⟩
  | 22 => ⟨S4x2051x1024, .f32⟩
  | 23 => ⟨S1x1024, .f32⟩
  | 24 => ⟨S_, .f32⟩
  | 25 => ⟨S4x1024, .f32⟩
  | 26 => ⟨S4x1024, .f32⟩
  | 27 => ⟨S4x3x1024, .f32⟩
  | 28 => ⟨S4x2048x1024, .f32⟩
  | 29 => ⟨S8192x1024, .f32⟩
  | 30 => ⟨S8192x1024, .bf16⟩
  | 31 => ⟨S8192x0, .bf16⟩
  | 32 => ⟨S8192x5632, .bf16⟩
  | 33 => ⟨S8192x6656, .bf16⟩
  | _ => ⟨S8192x6656, .bf16⟩

abbrev hbmTy (i : Nat) : BufTy := match i / 128 with
  | 0 => hbmTy0_0 i
  | 1 => hbmTy0_1 i
  | _ => ⟨S8192x6656, .bf16⟩

abbrev bufTy : (tb : Table) → Fin (tcTables nBuf tb) → BufTy
  | .hbm, ⟨i, _⟩ => hbmTy i
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v36_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v36_1 : Ref sig .tc := ⟨.hbm, 54, rfl⟩
abbrev main_v36_0 : Ref sig .tc := ⟨.hbm, 55, rfl⟩
abbrev main_v37 : Ref sig .tc := ⟨.hbm, 56, rfl⟩
abbrev main_v38 : Ref sig .tc := ⟨.hbm, 57, rfl⟩
abbrev main_cst_2 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_4 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_9 : Ref sig .tc := ⟨.hbm, 100, rfl⟩
abbrev main_v71 : Ref sig .tc := ⟨.hbm, 101, rfl⟩
abbrev main_v72 : Ref sig .tc := ⟨.hbm, 102, rfl⟩
abbrev main_cst_10 : Ref sig .tc := ⟨.hbm, 103, rfl⟩
abbrev main_v73 : Ref sig .tc := ⟨.hbm, 104, rfl⟩
abbrev main_cst_11 : Ref sig .tc := ⟨.hbm, 105, rfl⟩
abbrev main_v74 : Ref sig .tc := ⟨.hbm, 106, rfl⟩
abbrev main_v75 : Ref sig .tc := ⟨.hbm, 107, rfl⟩
abbrev main_cst_12 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_13 : Ref sig .tc := ⟨.hbm, 113, rfl⟩
abbrev main_v80 : Ref sig .tc := ⟨.hbm, 114, rfl⟩
abbrev main_v81 : Ref sig .tc := ⟨.hbm, 115, rfl⟩
abbrev main_cst_14 : Ref sig .tc := ⟨.hbm, 116, rfl⟩
abbrev main_v82 : Ref sig .tc := ⟨.hbm, 117, rfl⟩
abbrev main_cst_15 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_16 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_17 : Ref sig .tc := ⟨.hbm, 128, rfl⟩
abbrev main_v91 : Ref sig .tc := ⟨.hbm, 129, rfl⟩
abbrev main_v92 : Ref sig .tc := ⟨.hbm, 130, rfl⟩
abbrev main_cst_18 : Ref sig .tc := ⟨.hbm, 131, rfl⟩
abbrev main_v93 : Ref sig .tc := ⟨.hbm, 132, rfl⟩
abbrev main_cst_19 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_20 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_21 : Ref sig .tc := ⟨.hbm, 143, rfl⟩
abbrev main_v102 : Ref sig .tc := ⟨.hbm, 144, rfl⟩
abbrev main_v103 : Ref sig .tc := ⟨.hbm, 145, rfl⟩
abbrev main_cst_22 : Ref sig .tc := ⟨.hbm, 146, rfl⟩
abbrev main_v104 : Ref sig .tc := ⟨.hbm, 147, rfl⟩
abbrev main_cst_23 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_24 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩

abbrev nD : Nat := 1
abbrev τ : Topo := Topo.v7x

variable {F : FTy → Type} [FloatOps F]
-- ==== InSmall.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InSmallRefIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InSmallDx.lean ====
abbrev S8192x128 : Shape := ⟨2, ![8192, 128]⟩
abbrev S1024x128 : Shape := ⟨2, ![1024, 128]⟩
abbrev S8192x1024 : Shape := ⟨2, ![8192, 1024]⟩
abbrev S1024x1024 : Shape := ⟨2, ![1024, 1024]⟩
abbrev S512x128 : Shape := ⟨2, ![512, 128]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InSmallDxRefIdeal.lean ====
abbrev S8192x128 : Shape := ⟨2, ![8192, 128]⟩
abbrev S1024x128 : Shape := ⟨2, ![1024, 128]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S_, .f32⟩
  | .hbm, ⟨3, _⟩ => ⟨S8192x1024, .f32⟩
  | .hbm, ⟨4, _⟩ => ⟨S1024x128, .f32⟩
  | .hbm, ⟨5, _⟩ => ⟨S8192x128, .f32⟩
  | .hbm, ⟨6, _⟩ => ⟨S8192x128, .f32⟩
  | .hbm, ⟨7, _⟩ => ⟨S8192x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InSmallDw.lean ====
abbrev S8192x1024 : Shape := ⟨2, ![8192, 1024]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InSmallDwRefIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S128x1024, .f32⟩
  | .hbm, ⟨8, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvVFwd.lean ====
abbrev S8192x6656 : Shape := ⟨2, ![8192, 6656]⟩
abbrev S4x3072 : Shape := ⟨2, ![4, 3072]⟩
abbrev S8192x1024 : Shape := ⟨2, ![8192, 1024]⟩
abbrev S2048x128 : Shape := ⟨2, ![2048, 128]⟩
abbrev S4x128 : Shape := ⟨2, ![4, 128]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x6656, .bf16⟩
  | .hbm, ⟨1, _⟩ => ⟨S4x3072, .f32⟩
  | .hbm, ⟨2, _⟩ => ⟨S8192x1024, .f32⟩
  | .local _ .vmem, ⟨0, _⟩ => ⟨S2048x128, .bf16⟩
  | .local _ .vmem, ⟨1, _⟩ => ⟨S2048x128, .bf16⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvVFwdRefIdeal.lean ====
abbrev S8192x6656 : Shape := ⟨2, ![8192, 6656]⟩
abbrev S4x3072 : Shape := ⟨2, ![4, 3072]⟩
abbrev S8192x1024 : Shape := ⟨2, ![8192, 1024]⟩
abbrev S4x2048x1024 : Shape := ⟨3, ![4, 2048, 1024]⟩
abbrev S4x1024 : Shape := ⟨2, ![4, 1024]⟩
abbrev S_ : Shape := ⟨0, ![]⟩
abbrev S4x3x1024 : Shape := ⟨3, ![4, 3, 1024]⟩
abbrev S4x2051x1024 : Shape := ⟨3, ![4, 2051, 1024]⟩
abbrev S1x1024 : Shape := ⟨2, ![1, 1024]⟩
abbrev S1024 : Shape := ⟨1, ![1024]⟩
abbrev S1x1x1024 : Shape := ⟨3, ![1, 1, 1024]⟩
abbrev S4x2048x8x128 : Shape := ⟨4, ![4, 2048, 8, 128]⟩

abbrev nBuf : Space → Nat
  | .hbm => 50
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S4x3072, .f32⟩
  | .hbm, ⟨2, _⟩ => ⟨S8192x1024, .bf16⟩
  | .hbm, ⟨3, _⟩ => ⟨S8192x1024, .f32⟩
  | .hbm, ⟨4, _⟩ => ⟨S4x2048x1024, .f32⟩
  | .hbm, ⟨5, _⟩ => ⟨S4x1024, .f32⟩
  | .hbm, ⟨6, _⟩ => ⟨S_, .f32⟩
  | .hbm, ⟨7, _⟩ => ⟨S4x3x1024, .f32⟩
  | .hbm, ⟨8, _⟩ => ⟨S4x2051x1024, .f32⟩
  | .hbm, ⟨9, _⟩ => ⟨S1x1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x2048x1024, .f32⟩
  | .hbm, ⟨17, _⟩ => ⟨S4x2048x1024, .f32⟩
  | .hbm, ⟨18, _⟩ => ⟨S1x1024, .f32⟩
  | .hbm, ⟨19, _⟩ => ⟨S1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S1x1024, .f32⟩
  | .hbm, ⟨26, _⟩ => ⟨S1024, .f32⟩
  | .hbm, ⟨27, _⟩ => ⟨S4x2048x1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S1x1024, .f32⟩
  | .hbm, ⟨33, _⟩ => ⟨S1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S_, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x8x128, .f32⟩
  | .hbm, ⟨49, _⟩ => ⟨S8192x1024, .f32⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== ConvKFwd.lean ====
abbrev S8192x6656 : Shape := ⟨2, ![8192, 6656]⟩
abbrev S4x3072 : Shape := ⟨2, ![4, 3072]⟩
abbrev S8192x1024 : Shape := ⟨2, ![8192, 1024]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x6656, .bf16⟩
  | .hbm, ⟨1, _⟩ => ⟨S4x3072, .f32⟩
  | .hbm, ⟨2, _⟩ => ⟨S8192x1024, .f32⟩
  | .local _ .vmem, ⟨0, _⟩ => ⟨S2048x128, .bf16⟩
  | .local _ .vmem, ⟨1, _⟩ => ⟨S2048x128, .bf16⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvKFwdRefIdeal.lean ====
abbrev S8192x6656 : Shape := ⟨2, ![8192, 6656]⟩
abbrev S4x3072 : Shape := ⟨2, ![4, 3072]⟩
abbrev S8192x1024 : Shape := ⟨2, ![8192, 1024]⟩
abbrev S4x2048x1024 : Shape := ⟨3, ![4, 2048, 1024]⟩
abbrev S4x1024 : Shape := ⟨2, ![4, 1024]⟩
abbrev S_ : Shape := ⟨0, ![]⟩
abbrev S4x3x1024 : Shape := ⟨3, ![4, 3, 1024]⟩
abbrev S4x2051x1024 : Shape := ⟨3, ![4, 2051, 1024]⟩
abbrev S1x1024 : Shape := ⟨2, ![1, 1024]⟩
abbrev S1024 : Shape := ⟨1, ![1024]⟩
abbrev S1x1x1024 : Shape := ⟨3, ![1, 1, 1024]⟩
abbrev S4x2048x8x128 : Shape := ⟨4, ![4, 2048, 8, 128]⟩
abbrev S4x2048x8 : Shape := ⟨3, ![4, 2048, 8]⟩
abbrev S4x2048x8x1 : Shape := ⟨4, ![4, 2048, 8, 1]⟩

abbrev nBuf : Space → Nat
  | .hbm => 60
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S4x3072, .f32⟩
  | .hbm, ⟨2, _⟩ => ⟨S8192x1024, .bf16⟩
  | .hbm, ⟨3, _⟩ => ⟨S8192x1024, .f32⟩
  | .hbm, ⟨4, _⟩ => ⟨S4x2048x1024, .f32⟩
  | .hbm, ⟨5, _⟩ => ⟨S4x1024, .f32⟩
  | .hbm, ⟨6, _⟩ => ⟨S_, .f32⟩
  | .hbm, ⟨7, _⟩ => ⟨S4x3x1024, .f32⟩
  | .hbm, ⟨8, _⟩ => ⟨S4x2051x1024, .f32⟩
  | .hbm, ⟨9, _⟩ => ⟨S1x1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x2048x1024, .f32⟩
  | .hbm, ⟨17, _⟩ => ⟨S4x2048x1024, .f32⟩
  | .hbm, ⟨18, _⟩ => ⟨S1x1024, .f32⟩
  | .hbm, ⟨19, _⟩ => ⟨S1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S1x1024, .f32⟩
  | .hbm, ⟨26, _⟩ => ⟨S1024, .f32⟩
  | .hbm, ⟨27, _⟩ => ⟨S4x2048x1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S1x1024, .f32⟩
  | .hbm, ⟨33, _⟩ => ⟨S1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S_, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x8x128, .f32⟩
  | .hbm, ⟨49, _⟩ => ⟨S4x2048x8x128, .f32⟩
  | .hbm, ⟨50, _⟩ => ⟨S_, .f32⟩
  | .hbm, ⟨51, _⟩ => ⟨S4x2048x8, .f32⟩
  | .hbm, ⟨52, _⟩ => ⟨S4x2048x8x1, .f32⟩
  | .hbm, ⟨53, _⟩ => ⟨S_, .f32⟩
  | .hbm, ⟨54, _⟩ => ⟨S4x2048x8x1, .f32⟩
  | .hbm, ⟨55, _⟩ => ⟨S4x2048x8x1, .f32⟩
  | .hbm, ⟨56, _⟩ => ⟨S4x2048x8x1, .f32⟩
  | .hbm, ⟨57, _⟩ => ⟨S4x2048x8x128, .f32⟩
  | .hbm, ⟨58, _⟩ => ⟨S4x2048x8x128, .f32⟩
  | .hbm, ⟨59, _⟩ => ⟨S8192x1024, .f32⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_1 : Ref sig .tc := ⟨.hbm, 50, rfl⟩
abbrev main_v38 : Ref sig .tc := ⟨.hbm, 51, rfl⟩
abbrev main_v39 : Ref sig .tc := ⟨.hbm, 52, rfl⟩
abbrev main_cst_2 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== ConvQFwd.lean ====
abbrev S8192x6656 : Shape := ⟨2, ![8192, 6656]⟩
abbrev S4x3072 : Shape := ⟨2, ![4, 3072]⟩
abbrev S8192x1024 : Shape := ⟨2, ![8192, 1024]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x6656, .bf16⟩
  | .hbm, ⟨1, _⟩ => ⟨S4x3072, .f32⟩
  | .hbm, ⟨2, _⟩ => ⟨S8192x1024, .f32⟩
  | .local _ .vmem, ⟨0, _⟩ => ⟨S2048x128, .bf16⟩
  | .local _ .vmem, ⟨1, _⟩ => ⟨S2048x128, .bf16⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvQFwdRefIdeal.lean ====
abbrev S8192x6656 : Shape := ⟨2, ![8192, 6656]⟩
abbrev S4x3072 : Shape := ⟨2, ![4, 3072]⟩
abbrev S8192x1024 : Shape := ⟨2, ![8192, 1024]⟩
abbrev S4x2048x1024 : Shape := ⟨3, ![4, 2048, 1024]⟩
abbrev S4x1024 : Shape := ⟨2, ![4, 1024]⟩
abbrev S_ : Shape := ⟨0, ![]⟩
abbrev S4x3x1024 : Shape := ⟨3, ![4, 3, 1024]⟩
abbrev S4x2051x1024 : Shape := ⟨3, ![4, 2051, 1024]⟩
abbrev S1x1024 : Shape := ⟨2, ![1, 1024]⟩
abbrev S1024 : Shape := ⟨1, ![1024]⟩
abbrev S1x1x1024 : Shape := ⟨3, ![1, 1, 1024]⟩
abbrev S4x2048x8x128 : Shape := ⟨4, ![4, 2048, 8, 128]⟩
abbrev S4x2048x8 : Shape := ⟨3, ![4, 2048, 8]⟩
abbrev S4x2048x8x1 : Shape := ⟨4, ![4, 2048, 8, 1]⟩

abbrev nBuf : Space → Nat
  | .hbm => 63
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S4x3072, .f32⟩
  | .hbm, ⟨2, _⟩ => ⟨S8192x1024, .bf16⟩
  | .hbm, ⟨3, _⟩ => ⟨S8192x1024, .f32⟩
  | .hbm, ⟨4, _⟩ => ⟨S4x2048x1024, .f32⟩
  | .hbm, ⟨5, _⟩ => ⟨S4x1024, .f32⟩
  | .hbm, ⟨6, _⟩ => ⟨S_, .f32⟩
  | .hbm, ⟨7, _⟩ => ⟨S4x3x1024, .f32⟩
  | .hbm, ⟨8, _⟩ => ⟨S4x2051x1024, .f32⟩
  | .hbm, ⟨9, _⟩ => ⟨S1x1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x2048x1024, .f32⟩
  | .hbm, ⟨17, _⟩ => ⟨S4x2048x1024, .f32⟩
  | .hbm, ⟨18, _⟩ => ⟨S1x1024, .f32⟩
  | .hbm, ⟨19, _⟩ => ⟨S1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S1x1024, .f32⟩
  | .hbm, ⟨26, _⟩ => ⟨S1024, .f32⟩
  | .hbm, ⟨27, _⟩ => ⟨S4x2048x1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S1x1024, .f32⟩
  | .hbm, ⟨33, _⟩ => ⟨S1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S_, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x8x128, .f32⟩
  | .hbm, ⟨49, _⟩ => ⟨S4x2048x8x128, .f32⟩
  | .hbm, ⟨50, _⟩ => ⟨S_, .f32⟩
  | .hbm, ⟨51, _⟩ => ⟨S4x2048x8, .f32⟩
  | .hbm, ⟨52, _⟩ => ⟨S4x2048x8x1, .f32⟩
  | .hbm, ⟨53, _⟩ => ⟨S_, .f32⟩
  | .hbm, ⟨54, _⟩ => ⟨S4x2048x8x1, .f32⟩
  | .hbm, ⟨55, _⟩ => ⟨S4x2048x8x1, .f32⟩
  | .hbm, ⟨56, _⟩ => ⟨S4x2048x8x1, .f32⟩
  | .hbm, ⟨57, _⟩ => ⟨S4x2048x8x128, .f32⟩
  | .hbm, ⟨58, _⟩ => ⟨S4x2048x8x128, .f32⟩
  | .hbm, ⟨59, _⟩ => ⟨S_, .f32⟩
  | .hbm, ⟨60, _⟩ => ⟨S4x2048x8x128, .f32⟩
  | .hbm, ⟨61, _⟩ => ⟨S4x2048x8x128, .f32⟩
  | .hbm, ⟨62, _⟩ => ⟨S8192x1024, .f32⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_1 : Ref sig .tc := ⟨.hbm, 50, rfl⟩
abbrev main_v38 : Ref sig .tc := ⟨.hbm, 51, rfl⟩
abbrev main_v39 : Ref sig .tc := ⟨.hbm, 52, rfl⟩
abbrev main_cst_2 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== SsdConvFwd.lean ====
abbrev S8192x6656 : Shape := ⟨2, ![8192, 6656]⟩
abbrev S4x1536 : Shape := ⟨2, ![4, 1536]⟩
abbrev S1x1536 : Shape := ⟨2, ![1, 1536]⟩
abbrev S8192x1536 : Shape := ⟨2, ![8192, 1536]⟩
abbrev S2048x128 : Shape := ⟨2, ![2048, 128]⟩
abbrev S4x128 : Shape := ⟨2, ![4, 128]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x6656, .bf16⟩
  | .hbm, ⟨1, _⟩ => ⟨S4x1536, .f32⟩
  | .hbm, ⟨2, _⟩ => ⟨S1x1536, .f32⟩
  | .hbm, ⟨3, _⟩ => ⟨S8192x1536, .f32⟩
  | .local _ .vmem, ⟨0, _⟩ => ⟨S2048x128, .bf16⟩
  | .local _ .vmem, ⟨1, _⟩ => ⟨S2048x128, .bf16⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 4], ![false, false]⟩

def cc0_transform_0 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdConvFwdRefIdeal.lean ====
abbrev S8192x6656 : Shape := ⟨2, ![8192, 6656]⟩
abbrev S4x1536 : Shape := ⟨2, ![4, 1536]⟩
abbrev S1x1536 : Shape := ⟨2, ![1, 1536]⟩
abbrev S8192x1536 : Shape := ⟨2, ![8192, 1536]⟩
abbrev S4x2048x1536 : Shape := ⟨3, ![4, 2048, 1536]⟩
abbrev S_ : Shape := ⟨0, ![]⟩
abbrev S4x3x1536 : Shape := ⟨3, ![4, 3, 1536]⟩
abbrev S4x2051x1536 : Shape := ⟨3, ![4, 2051, 1536]⟩
abbrev S1536 : Shape := ⟨1, ![1536]⟩
abbrev S1x1x1536 : Shape := ⟨3, ![1, 1, 1536]⟩

abbrev nBuf : Space → Nat
  | .hbm => 52
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S4x1536, .f32⟩
  | .hbm, ⟨2, _⟩ => ⟨S1x1536, .f32⟩
  | .hbm, ⟨3, _⟩ => ⟨S8192x1536, .bf16⟩
  | .hbm, ⟨4, _⟩ => ⟨S8192x1536, .f32⟩
  | .hbm, ⟨5, _⟩ => ⟨S4x2048x1536, .f32⟩
  | .hbm, ⟨6, _⟩ => ⟨S_, .f32⟩
  | .hbm, ⟨7, _⟩ => ⟨S4x3x1536, .f32⟩
  | .hbm, ⟨8, _⟩ => ⟨S4x2051x1536, .f32⟩
  | .hbm, ⟨9, _⟩ => ⟨S1x1536, .f32⟩
  | .hbm, ⟨10, _⟩ => ⟨S1536, .f32⟩
  | .hbm, ⟨11, _⟩ => ⟨S4x2048x1536, .f32⟩
  | .hbm, ⟨12, _⟩ => ⟨S1x1x1536, .f32⟩
  | .hbm, ⟨13, _⟩ => ⟨S4x2048x1536, .f32⟩
  | .hbm, ⟨14, _⟩ => ⟨S4x2048x1536, .f32⟩
  | .hbm, ⟨15, _⟩ => ⟨S_, .f32⟩
  | .hbm, ⟨16, _⟩ => ⟨S4x2048x1536, .f32⟩
  | .hbm, ⟨17, _⟩ => ⟨S4x2048x1536, .f32⟩
  | .hbm, ⟨18, _⟩ => ⟨S1x1536, .f32⟩
  | .hbm, ⟨19, _⟩ => ⟨S1536, .f32⟩
  | .hbm, ⟨20, _⟩ => ⟨S4x2048x1536, .f32⟩
  | .hbm, ⟨21, _⟩ => ⟨S1x1x1536, .f32⟩
  | .hbm, ⟨22, _⟩ => ⟨S4x2048x1536, .f32⟩
  | .hbm, ⟨23, _⟩ => ⟨S4x2048x1536, .f32⟩
  | .hbm, ⟨24, _⟩ => ⟨S4x2048x1536, .f32⟩
  | .hbm, ⟨25, _⟩ => ⟨S1x1536, .f32⟩
  | .hbm, ⟨26, _⟩ => ⟨S1536, .f32⟩
  | .hbm, ⟨27, _⟩ => ⟨S4x2048x1536, .f32⟩
  | .hbm, ⟨28, _⟩ => ⟨S1x1x1536, .f32⟩
  | .hbm, ⟨29, _⟩ => ⟨S4x2048x1536, .f32⟩
  | .hbm, ⟨30, _⟩ => ⟨S4x2048x1536, .f32⟩
  | .hbm, ⟨31, _⟩ => ⟨S4x2048x1536, .f32⟩
  | .hbm, ⟨32, _⟩ => ⟨S1x1536, .f32⟩
  | .hbm, ⟨33, _⟩ => ⟨S1536, .f32⟩
  | .hbm, ⟨34, _⟩ => ⟨S4x2048x1536, .f32⟩
  | .hbm, ⟨35, _⟩ => ⟨S1x1x1536, .f32⟩
  | .hbm, ⟨36, _⟩ => ⟨S4x2048x1536, .f32⟩
  | .hbm, ⟨37, _⟩ => ⟨S4x2048x1536, .f32⟩
  | .hbm, ⟨38, _⟩ => ⟨S4x2048x1536, .f32⟩
  | .hbm, ⟨39, _⟩ => ⟨S1x1x1536, .f32⟩
  | .hbm, ⟨40, _⟩ => ⟨S4x2048x1536, .f32⟩
  | .hbm, ⟨41, _⟩ => ⟨S4x2048x1536, .f32⟩
  | .hbm, ⟨42, _⟩ => ⟨S4x2048x1536, .f32⟩
  | .hbm, ⟨43, _⟩ => ⟨S4x2048x1536, .f32⟩
  | .hbm, ⟨44, _⟩ => ⟨S_, .f32⟩
  | .hbm, ⟨45, _⟩ => ⟨S4x2048x1536, .f32⟩
  | .hbm, ⟨46, _⟩ => ⟨S4x2048x1536, .f32⟩
  | .hbm, ⟨47, _⟩ => ⟨S_, .f32⟩
  | .hbm, ⟨48, _⟩ => ⟨S4x2048x1536, .f32⟩
  | .hbm, ⟨49, _⟩ => ⟨S4x2048x1536, .f32⟩
  | .hbm, ⟨50, _⟩ => ⟨S4x2048x1536, .f32⟩
  | .hbm, ⟨51, _⟩ => ⟨S8192x1536, .f32⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Res.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== SsdOut.lean ====
abbrev S8192x1024 : Shape := ⟨2, ![8192, 1024]⟩
abbrev S8192x1536 : Shape := ⟨2, ![8192, 1536]⟩
abbrev S8192x6656 : Shape := ⟨2, ![8192, 6656]⟩
abbrev S1x1024 : Shape := ⟨2, ![1, 1024]⟩
abbrev S8192x2048 : Shape := ⟨2, ![8192, 2048]⟩
abbrev S512x1024 : Shape := ⟨2, ![512, 1024]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S8192x6656, .bf16⟩
  | .hbm, ⟨3, _⟩ => ⟨S1x1024, .f32⟩
  | .hbm, ⟨4, _⟩ => ⟨S1x1024, .f32⟩
  | .hbm, ⟨5, _⟩ => ⟨S8192x2048, .f32⟩
  | .hbm, ⟨6, _⟩ => ⟨S8192x6656, .bf16⟩
  | .hbm, ⟨7, _⟩ => ⟨S8192x1024, .f32⟩
  | .hbm, ⟨8, _⟩ => ⟨S8192x1024, .f32⟩
  | .hbm, ⟨9, _⟩ => ⟨S8192x6656, .bf16⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SsdOutRefIdeal.lean ====
abbrev S8192x1024 : Shape := ⟨2, ![8192, 1024]⟩
abbrev S8192x1536 : Shape := ⟨2, ![8192, 1536]⟩
abbrev S8192x6656 : Shape := ⟨2, ![8192, 6656]⟩
abbrev S1x1024 : Shape := ⟨2, ![1, 1024]⟩
abbrev S8192x2048 : Shape := ⟨2, ![8192, 2048]⟩
abbrev S_ : Shape := ⟨0, ![]⟩
abbrev S8192x2x512 : Shape := ⟨3, ![8192, 2, 512]⟩
abbrev S2x512 : Shape := ⟨2, ![2, 512]⟩
abbrev S8192x2 : Shape := ⟨2, ![8192, 2]⟩
abbrev S8192x2x1 : Shape := ⟨3, ![8192, 2, 1]⟩
abbrev S1x2x512 : Shape := ⟨3, ![1, 2, 512]⟩
abbrev S1024 : Shape := ⟨1, ![1024]⟩
abbrev S8192x4096 : Shape := ⟨2, ![8192, 4096]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S8192x6656, .bf16⟩
  | .hbm, ⟨3, _⟩ => ⟨S1x1024, .f32⟩
  | .hbm, ⟨4, _⟩ => ⟨S1x1024, .f32⟩
  | .hbm, ⟨5, _⟩ => ⟨S8192x2048, .f32⟩
  | .hbm, ⟨6, _⟩ => ⟨S8192x6656, .bf16⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x2x512, .f32⟩
  | .hbm, ⟨28, _⟩ => ⟨S2x512, .f32⟩
  | .hbm, ⟨29, _⟩ => ⟨S8192x2x512, .f32⟩
  | .hbm, ⟨30, _⟩ => ⟨S_, .f32⟩
  | .hbm, ⟨31, _⟩ => ⟨S8192x2, .f32⟩
  | .hbm, ⟨32, _⟩ => ⟨S8192x2x1, .f32⟩
  | .hbm, ⟨33, _⟩ => ⟨S_, .f32⟩
  | .hbm, ⟨34, _⟩ => ⟨S8192x2x1, .f32⟩
  | .hbm, ⟨35, _⟩ => ⟨S8192x2x1, .f32⟩
  | .hbm, ⟨36, _⟩ => ⟨S_, .f32⟩
  | .hbm, ⟨37, _⟩ => ⟨S8192x2x1, .f32⟩
  | .hbm, ⟨38, _⟩ => ⟨S8192x2x1, .f32⟩
  | .hbm, ⟨39, _⟩ => ⟨S8192x2x1, .f32⟩
  | .hbm, ⟨40, _⟩ => ⟨S8192x2x1, .f32⟩
  | .hbm, ⟨41, _⟩ => ⟨S_, .f32⟩
  | .hbm, ⟨42, _⟩ => ⟨S8192x2x1, .f32⟩
  | .hbm, ⟨43, _⟩ => ⟨S8192x2x1, .f32⟩
  | .hbm, ⟨44, _⟩ => ⟨S8192x2x512, .f32⟩
  | .hbm, ⟨45, _⟩ => ⟨S8192x2x512, .f32⟩
  | .hbm, ⟨46, _⟩ => ⟨S1x2x512, .f32⟩
  | .hbm, ⟨47, _⟩ => ⟨S8192x2x512, .f32⟩
  | .hbm, ⟨48, _⟩ => ⟨S8192x2x512, .f32⟩
  | .hbm, ⟨49, _⟩ => ⟨S8192x1024, .f32⟩
  | .hbm, ⟨50, _⟩ => ⟨S8192x1024, .f32⟩
  | .hbm, ⟨51, _⟩ => ⟨S8192x2x512, .f32⟩
  | .hbm, ⟨52, _⟩ => ⟨S8192x2x512, .f32⟩
  | .hbm, ⟨53, _⟩ => ⟨S_, .f32⟩
  | .hbm, ⟨54, _⟩ => ⟨S2x512, .f32⟩
  | .hbm, ⟨55, _⟩ => ⟨S1x2x512, .f32⟩
  | .hbm, ⟨56, _⟩ => ⟨S8192x2x512, .f32⟩
  | .hbm, ⟨57, _⟩ => ⟨S8192x2x512, .f32⟩
  | .hbm, ⟨58, _⟩ => ⟨S_, .f32⟩
  | .hbm, ⟨59, _⟩ => ⟨S2x512, .f32⟩
  | .hbm, ⟨60, _⟩ => ⟨S8192x2x512, .f32⟩
  | .hbm, ⟨61, _⟩ => ⟨S_, .f32⟩
  | .hbm, ⟨62, _⟩ => ⟨S8192x2, .f32⟩
  | .hbm, ⟨63, _⟩ => ⟨S8192x2x1, .f32⟩
  | .hbm, ⟨64, _⟩ => ⟨S8192x2x512, .f32⟩
  | .hbm, ⟨65, _⟩ => ⟨S8192x2x512, .f32⟩
  | .hbm, ⟨66, _⟩ => ⟨S8192x2x1, .f32⟩
  | .hbm, ⟨67, _⟩ => ⟨S_, .f32⟩
  | .hbm, ⟨68, _⟩ => ⟨S8192x2x1, .f32⟩
  | .hbm, ⟨69, _⟩ => ⟨S8192x2x1, .f32⟩
  | .hbm, ⟨70, _⟩ => ⟨S_, .f32⟩
  | .hbm, ⟨71, _⟩ => ⟨S8192x2, .f32⟩
  | .hbm, ⟨72, _⟩ => ⟨S8192x2x512, .f32⟩
  | .hbm, ⟨73, _⟩ => ⟨S8192x2x512, .f32⟩
  | .hbm, ⟨74, _⟩ => ⟨S8192x2x512, .f32⟩
  | .hbm, ⟨75, _⟩ => ⟨S8192x2x512, .f32⟩
  | .hbm, ⟨76, _⟩ => ⟨S8192x2x512, .f32⟩
  | .hbm, ⟨77, _⟩ => ⟨S1x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S8192x4096, .bf16⟩
  | .hbm, ⟨92, _⟩ => ⟨S8192x1024, .bf16⟩
  | .hbm, ⟨93, _⟩ => ⟨S8192x1536, .bf16⟩
  | .hbm, ⟨94, _⟩ => ⟨S8192x6656, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v6_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v6_1 : Ref sig .tc := ⟨.hbm, 24, rfl⟩
abbrev main_v6_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_cst_0 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_8 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩

abbrev nD : Nat := 1
abbrev τ : Topo := Topo.v7x

variable {F : FTy → Type} [FloatOps F]
-- ==== SsdOutFwd.lean ====
abbrev S8192x1024 : Shape := ⟨2, ![8192, 1024]⟩
abbrev S8192x1536 : Shape := ⟨2, ![8192, 1536]⟩
abbrev S8192x6656 : Shape := ⟨2, ![8192, 6656]⟩
abbrev S1x1024 : Shape := ⟨2, ![1, 1024]⟩
abbrev S8192x2048 : Shape := ⟨2, ![8192, 2048]⟩
abbrev S512x1024 : Shape := ⟨2, ![512, 1024]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S8192x6656, .bf16⟩
  | .hbm, ⟨3, _⟩ => ⟨S1x1024, .f32⟩
  | .hbm, ⟨4, _⟩ => ⟨S1x1024, .f32⟩
  | .hbm, ⟨5, _⟩ => ⟨S8192x2048, .bf16⟩
  | .hbm, ⟨6, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SsdOutFwdRefIdeal.lean ====
abbrev S8192x1024 : Shape := ⟨2, ![8192, 1024]⟩
abbrev S8192x1536 : Shape := ⟨2, ![8192, 1536]⟩
abbrev S8192x6656 : Shape := ⟨2, ![8192, 6656]⟩
abbrev S1x1024 : Shape := ⟨2, ![1, 1024]⟩
abbrev S8192x2048 : Shape := ⟨2, ![8192, 2048]⟩
abbrev S_ : Shape := ⟨0, ![]⟩
abbrev S8192x2x512 : Shape := ⟨3, ![8192, 2, 512]⟩
abbrev S2x512 : Shape := ⟨2, ![2, 512]⟩
abbrev S8192x2 : Shape := ⟨2, ![8192, 2]⟩
abbrev S8192x2x1 : Shape := ⟨3, ![8192, 2, 1]⟩
abbrev S1x2x512 : Shape := ⟨3, ![1, 2, 512]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S8192x6656, .bf16⟩
  | .hbm, ⟨3, _⟩ => ⟨S1x1024, .f32⟩
  | .hbm, ⟨4, _⟩ => ⟨S1x1024, .f32⟩
  | .hbm, ⟨5, _⟩ => ⟨S8192x2048, .bf16⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x2x512, .f32⟩
  | .hbm, ⟨23, _⟩ => ⟨S2x512, .f32⟩
  | .hbm, ⟨24, _⟩ => ⟨S8192x2x512, .f32⟩
  | .hbm, ⟨25, _⟩ => ⟨S_, .f32⟩
  | .hbm, ⟨26, _⟩ => ⟨S8192x2, .f32⟩
  | .hbm, ⟨27, _⟩ => ⟨S8192x2x1, .f32⟩
  | .hbm, ⟨28, _⟩ => ⟨S_, .f32⟩
  | .hbm, ⟨29, _⟩ => ⟨S8192x2x1, .f32⟩
  | .hbm, ⟨30, _⟩ => ⟨S8192x2x1, .f32⟩
  | .hbm, ⟨31, _⟩ => ⟨S_, .f32⟩
  | .hbm, ⟨32, _⟩ => ⟨S8192x2x1, .f32⟩
  | .hbm, ⟨33, _⟩ => ⟨S8192x2x1, .f32⟩
  | .hbm, ⟨34, _⟩ => ⟨S8192x2x1, .f32⟩
  | .hbm, ⟨35, _⟩ => ⟨S8192x2x512, .f32⟩
  | .hbm, ⟨36, _⟩ => ⟨S8192x2x512, .f32⟩
  | .hbm, ⟨37, _⟩ => ⟨S1x2x512, .f32⟩
  | .hbm, ⟨38, _⟩ => ⟨S8192x2x512, .f32⟩
  | .hbm, ⟨39, _⟩ => ⟨S8192x2x512, .f32⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Proof.FfnSpec.lean ====
/-
  The gated convolution's gradient, one channel of one sequence at a time, over the extended reals.

  A channel of one sequence is a function of the row, `x : ℕ → EReal`, read at the rows below 2048. The causal
  three-tap convolution reads a row and the two before it (`sh`, zero before the first row); its transpose reads a row
  and the two after it (`ahead`, zero after the last row). Everything the two programs compute is a sum over sequences
  of what is stated here.
-/
module

public import Idealize.ShloMosaic.Lib.Pointwise

@[expose] public section

noncomputable section

namespace Cert.Ffn

open Idealize.ShloMosaic

/-- The channel delayed by `s` rows, zero before the first. -/
def sh (s : ℕ) (x : ℕ → EReal) (r : ℕ) : EReal := if s ≤ r then x (r - s) else 0

/-- The channel advanced by `s` rows, zero after the last of the 2048. -/
def ahead (s : ℕ) (x : ℕ → EReal) (r : ℕ) : EReal := if r + s < 2048 then x (r + s) else 0

/-- The convolution with its bias. -/
def pre (w0 w1 w2 b : EReal) (x : ℕ → EReal) (r : ℕ) : EReal :=
  ((w2 * x r + w0 * sh 2 x r) + w1 * sh 1 x r) + b

/-- The cotangent of the convolved second half: `silu g` times the incoming cotangent. -/
def dUp (g a : EReal) : EReal := g * Ideal.logistic g * a

/-- The cotangent of the convolved first half: the incoming cotangent through `silu`'s derivative. -/
def dGate (g u a : EReal) : EReal :=
  a * u * Ideal.logistic g + g * (a * u) * (Ideal.logistic g * (1 - Ideal.logistic g))

/-- The gradient of the channel from the cotangent `D` of its convolution. -/
def dx (w0 w1 w2 : EReal) (D : ℕ → EReal) (r : ℕ) : EReal :=
  (w1 * ahead 1 D r + w0 * ahead 2 D r) + w2 * D r

/-- The gradient of the tap that reads `s` rows back. -/
def dw (s : ℕ) (D x : ℕ → EReal) : EReal := ∑ r : Fin 2048, D r.val * sh s x r.val

/-- The gradient of the bias. -/
def db (D : ℕ → EReal) : EReal := ∑ r : Fin 2048, D r.val

theorem sh_zero (x : ℕ → EReal) (r : ℕ) : sh 0 x r = x r := by simp [sh]

/-- A select on the signed comparison "row at least `n`", for small rows. -/
theorem select_sge {α : Type} (r n : ℕ) (hr : r < 2048) (hn : n < 2048) (a b : α) :
    Scalar.select (IntOp.cmpi CmpIPredicate.sge (BitVec.ofNat 32 r) (BitVec.ofNat 32 n)) a b = if n ≤ r then a else b := by
  have h1 : (BitVec.ofNat 32 r).toInt = r := by
    rw [BitVec.toInt_eq_toNat_cond, BitVec.toNat_ofNat]; have : r % 2 ^ 32 = r := Nat.mod_eq_of_lt (by omega)
    rw [this, if_pos (by omega)]
  have h2 : (BitVec.ofNat 32 n).toInt = n := by
    rw [BitVec.toInt_eq_toNat_cond, BitVec.toNat_ofNat]; have : n % 2 ^ 32 = n := Nat.mod_eq_of_lt (by omega)
    rw [this, if_pos (by omega)]
  by_cases h : n ≤ r <;> simp [Scalar.select, IntOp.cmpi, BitVec.sle, h1, h2, h]

/-- A select on the signed comparison "row below `n`", for small rows. -/
theorem select_slt {α : Type} (r n : ℕ) (hr : r < 2048) (hn : n < 2048) (a b : α) :
    Scalar.select (IntOp.cmpi CmpIPredicate.slt (BitVec.ofNat 32 r) (BitVec.ofNat 32 n)) a b = if r < n then a else b := by
  have h1 : (BitVec.ofNat 32 r).toInt = r := by
    rw [BitVec.toInt_eq_toNat_cond, BitVec.toNat_ofNat]; have : r % 2 ^ 32 = r := Nat.mod_eq_of_lt (by omega)
    rw [this, if_pos (by omega)]
  have h2 : (BitVec.ofNat 32 n).toInt = n := by
    rw [BitVec.toInt_eq_toNat_cond, BitVec.toNat_ofNat]; have : n % 2 ^ 32 = n := Nat.mod_eq_of_lt (by omega)
    rw [this, if_pos (by omega)]
  by_cases h : r < n <;> simp [Scalar.select, IntOp.cmpi, BitVec.slt, h1, h2, h]

/-- Column `c` of a matrix of at most `n` rows, as a function of the row. -/
def col {n m : ℕ} (X : (⟨2, ![n, m]⟩ : Shape).Idx → EReal) (j : Fin m) (r : ℕ) : EReal :=
  if h : r < n then X (ix2 ⟨r, h⟩ j) else 0

theorem col_val {n m : ℕ} (X : (⟨2, ![n, m]⟩ : Shape).Idx → EReal) (j : Fin m) (r : Fin n) :
    col X j r.val = X (ix2 r j) := by rw [col, dif_pos r.isLt]

theorem col_of {n m : ℕ} (X : (⟨2, ![n, m]⟩ : Shape).Idx → EReal) (j : Fin m) (r : ℕ) (s : Fin n) (h : r = s.val) :
    col X j r = X (ix2 s j) := by subst h; exact col_val X j s

/-- A rotation by `s` rows, kept from row `s` on, is the delayed channel. -/
theorem roll_sh {m : ℕ} (X : (⟨2, ![2048, m]⟩ : Shape).Idx → EReal) (j : Fin m) (r : Fin 2048) (s : ℕ) (hs : s < 2048)
    (h : (r.val + 2048 - s) % 2048 < 2048) :
    (if s ≤ r.val then X (ix2 ⟨(r.val + 2048 - s) % 2048, h⟩ j) else 0) = sh s (col X j) r.val := by
  unfold sh
  by_cases hr : s ≤ r.val
  · rw [if_pos hr, if_pos hr, col_of X j (r.val - s) ⟨(r.val + 2048 - s) % 2048, h⟩]
    show r.val - s = (r.val + 2048 - s) % 2048
    have := r.isLt; omega
  · rw [if_neg hr, if_neg hr]

/-- A rotation by `2048 - s` rows, kept below row `2048 - s`, is the advanced channel. -/
theorem roll_ahead {m : ℕ} (X : (⟨2, ![2048, m]⟩ : Shape).Idx → EReal) (j : Fin m) (r : Fin 2048) (s n : ℕ) (hs : s + n = 2048)
    (hn : 0 < s) (h : (r.val + 2048 - n) % 2048 < 2048) :
    (if r.val < n then X (ix2 ⟨(r.val + 2048 - n) % 2048, h⟩ j) else 0) = ahead s (col X j) r.val := by
  unfold ahead
  by_cases hr : r.val < n
  · rw [if_pos hr, if_pos (by omega), col_of X j (r.val + s) ⟨(r.val + 2048 - n) % 2048, h⟩]
    show r.val + s = (r.val + 2048 - n) % 2048
    have := r.isLt; omega
  · rw [if_neg hr, if_neg (by omega)]

/-- The same of a channel multiplied by a tap. -/
theorem mul_roll_ahead {m : ℕ} (w : EReal) (X : (⟨2, ![2048, m]⟩ : Shape).Idx → EReal) (j : Fin m) (r : Fin 2048) (s n : ℕ)
    (hs : s + n = 2048) (hn : 0 < s) (h : (r.val + 2048 - n) % 2048 < 2048) :
    (if r.val < n then w * X (ix2 ⟨(r.val + 2048 - n) % 2048, h⟩ j) else 0) = w * ahead s (col X j) r.val := by
  rw [← roll_ahead X j r s n hs hn h]
  split <;> simp

/-- The column of the gate, of a channel of the first half. -/
def lo (c : Fin 2816) : Fin 5632 := ⟨c.val, by have := c.isLt; omega⟩

/-- The column of the gated value, of a channel of the first half. -/
def hi (c : Fin 2816) : Fin 5632 := ⟨2816 + c.val, by have := c.isLt; omega⟩

/-- Row `r` of sequence `b` in the stacked rows. -/
def row (b : Fin 4) (r : Fin 2048) : Fin 8192 := ⟨b.val * 2048 + r.val, by have := b.isLt; have := r.isLt; omega⟩

theorem row_surj (i : Fin 8192) : ∃ b r, i = row b r :=
  ⟨⟨i.val / 2048, by have := i.isLt; omega⟩, ⟨i.val % 2048, by omega⟩, by apply Fin.ext; show i.val = i.val / 2048 * 2048 + i.val % 2048; omega⟩

theorem lo_or_hi (c : Fin 5632) : (∃ d, c = lo d) ∨ ∃ d, c = hi d := by
  by_cases h : c.val < 2816
  · exact Or.inl ⟨⟨c.val, h⟩, rfl⟩
  · exact Or.inr ⟨⟨c.val - 2816, by have := c.isLt; omega⟩, by apply Fin.ext; show c.val = 2816 + (c.val - 2816); omega⟩

/-- Column `c` of sequence `b`, of a matrix of stacked sequences, as a function of the row. -/
def chan {m : ℕ} (X : (⟨2, ![8192, m]⟩ : Shape).Idx → EReal) (b : Fin 4) (c : Fin m) (r : ℕ) : EReal :=
  if h : r < 2048 then X (ix2 (row b ⟨r, h⟩) c) else 0

theorem chan_val {m : ℕ} (X : (⟨2, ![8192, m]⟩ : Shape).Idx → EReal) (b : Fin 4) (c : Fin m) (r : Fin 2048) :
    chan X b c r.val = X (ix2 (row b r) c) := by rw [chan, dif_pos r.isLt]

section whole

variable (U : (⟨2, ![8192, 5632]⟩ : Shape).Idx → EReal) (W : (⟨2, ![3, 5632]⟩ : Shape).Idx → EReal)
  (B : (⟨2, ![1, 5632]⟩ : Shape).Idx → EReal) (A : (⟨2, ![8192, 2816]⟩ : Shape).Idx → EReal)

/-- The convolved channel `c` of sequence `b`. -/
def act (b : Fin 4) (c : Fin 5632) (r : ℕ) : EReal :=
  pre (W (ix2 0 c)) (W (ix2 1 c)) (W (ix2 2 c)) (B (ix2 0 c)) (chan U b c) r

/-- The cotangent of the convolved gate. -/
def gateD (b : Fin 4) (c : Fin 2816) (r : ℕ) : EReal :=
  if r < 2048 then dGate (act U W B b (lo c) r) (act U W B b (hi c) r) (chan A b c r) else 0

/-- The cotangent of the convolved gated value. -/
def upD (b : Fin 4) (c : Fin 2816) (r : ℕ) : EReal :=
  if r < 2048 then dUp (act U W B b (lo c) r) (chan A b c r) else 0

/-- The gradient of the gate's columns. -/
def gateX (b : Fin 4) (c : Fin 2816) (r : ℕ) : EReal :=
  dx (W (ix2 0 (lo c))) (W (ix2 1 (lo c))) (W (ix2 2 (lo c))) (gateD U W B A b c) r

/-- The gradient of the gated value's columns. -/
def upX (b : Fin 4) (c : Fin 2816) (r : ℕ) : EReal :=
  dx (W (ix2 0 (hi c))) (W (ix2 1 (hi c))) (W (ix2 2 (hi c))) (upD U W B A b c) r

/-- The gradient of the gate's taps: tap `k` reads `2 - k` rows back. -/
def gateW (k : Fin 3) (c : Fin 2816) : EReal := ∑ b : Fin 4, dw (2 - k.val) (gateD U W B A b c) (chan U b (lo c))

/-- The gradient of the gated value's taps. -/
def upW (k : Fin 3) (c : Fin 2816) : EReal := ∑ b : Fin 4, dw (2 - k.val) (upD U W B A b c) (chan U b (hi c))

/-- The gradient of the gate's bias. -/
def gateB (c : Fin 2816) : EReal := ∑ b : Fin 4, db (gateD U W B A b c)

/-- The gradient of the gated value's bias. -/
def upB (c : Fin 2816) : EReal := ∑ b : Fin 4, db (upD U W B A b c)

end whole

end Cert.Ffn

end
-- ==== Proof.FfnPay.lean ====
/-
  What the gradient kernel's body computes for one block of 256 channels of one sequence, read at an element, in terms
  of the channel functions of `FfnSpec`.
-/
module

public import proofs.«01_k».proof.Proof.Gen.KernelIdeal.Skeleton
public import proofs.«01_k».proof.Proof.FfnSpec

@[expose] public section

set_option maxRecDepth 16384

noncomputable section

namespace Cert.KernelIdeal.Ffn

open Cert.KernelIdeal Cert.KernelIdeal.Gen Cert.Ffn Idealize.ShloMosaic Idealize.ShloMosaic.TcCoe Idealize.SL.Sem

variable (w0 w1 w2 b u0 u1 u2 ub : Vec Ideal S1x256 .f32) (x y : Vec Ideal S2048x256 .bf16) (da : Vec Ideal S2048x256 .f32)
  (D : FVec Ideal S2048x256 .f32)

/-- The first half's channel before the gate. -/
abbrev gateAt (j : Fin 256) : ℕ → EReal := pre (w0 (ix2 0 j)) (w1 (ix2 0 j)) (w2 (ix2 0 j)) (b (ix2 0 j)) (col x j)

theorem pay11_eq (r : Fin 2048) (j : Fin 256) : k0_pay11 (F := Ideal) x (ix2 r j) = sh 2 (col x j) r.val := by
  pointwise [k0_pay11, k0_pay9]
  rw [select_sge r.val 2 r.isLt (by omega), roll_sh x j r 2 (by omega)]

theorem pay15_eq (r : Fin 2048) (j : Fin 256) :
    k0_pay15 (F := Ideal) (k0_pay13 x) k0_pay14 (ix2 r j) = sh 1 (col x j) r.val := by
  pointwise [k0_pay15, k0_pay13, k0_pay14, k0_pay9]
  rw [select_sge r.val 1 r.isLt (by omega), roll_sh x j r 1 (by omega)]

theorem pay17_eq (r : Fin 2048) (j : Fin 256) : k0_pay17 (F := Ideal) (k0_pay10 y) (ix2 r j) = sh 2 (col y j) r.val := by
  pointwise [k0_pay17, k0_pay10]
  rw [select_sge r.val 2 r.isLt (by omega), roll_sh y j r 2 (by omega)]

theorem pay18_eq (r : Fin 2048) (j : Fin 256) : k0_pay18 (F := Ideal) (k0_pay10 y) (ix2 r j) = sh 1 (col y j) r.val := by
  pointwise [k0_pay18, k0_pay10]
  rw [select_sge r.val 1 r.isLt (by omega), roll_sh y j r 1 (by omega)]

theorem pay12_eq (r : Fin 2048) (j : Fin 256) :
    k0_pay12 (F := Ideal) w0 w2 x (ix2 r j) = w2 (ix2 0 j) * col x j r.val + w0 (ix2 0 j) * sh 2 (col x j) r.val := by
  rw [← pay11_eq, col_val]
  unfold k0_pay12
  generalize k0_pay11 x = z
  pointwise [k0_pay9]

theorem pay16_eq (r : Fin 2048) (j : Fin 256) :
    k0_pay16 (F := Ideal) w1 b (k0_pay12 w0 w2 x) (k0_pay13 x) k0_pay14 (ix2 r j) = gateAt w0 w1 w2 b x j r.val := by
  unfold gateAt pre
  rw [← pay12_eq, ← pay15_eq]
  unfold k0_pay16
  generalize k0_pay12 w0 w2 x = z
  generalize k0_pay15 (k0_pay13 x) k0_pay14 = z'
  pointwise

theorem pay20_eq (r : Fin 2048) (j : Fin 256) :
    k0_pay20 (F := Ideal) w1 b (k0_pay12 w0 w2 x) (k0_pay13 x) k0_pay14 da (ix2 r j)
      = dUp (gateAt w0 w1 w2 b x j r.val) (da (ix2 r j)) := by
  unfold dUp
  rw [← pay16_eq]
  unfold k0_pay20 k0_pay19
  generalize k0_pay16 (F := Ideal) _ _ _ _ _ = z
  pointwise

theorem pay21_eq (r : Fin 2048) (j : Fin 256) :
    k0_pay21 (F := Ideal) w1 u0 u1 u2 (k0_pay10 y) b ub (k0_pay12 w0 w2 x) (k0_pay13 x) k0_pay14 da (ix2 r j)
      = dGate (gateAt w0 w1 w2 b x j r.val) (gateAt u0 u1 u2 ub y j r.val) (da (ix2 r j)) := by
  unfold dGate
  rw [← pay16_eq w0 w1 w2 b x]
  unfold gateAt pre
  rw [← pay17_eq, ← pay18_eq, col_val]
  unfold k0_pay21 k0_pay19
  generalize k0_pay16 (F := Ideal) _ _ _ _ _ = z
  generalize k0_pay17 (F := Ideal) _ = z1
  generalize k0_pay18 (F := Ideal) _ = z2
  pointwise [k0_pay10]

/-- The second half's tap gradients, the first half's, and the two bias gradients: a row of column sums. -/
theorem pay25_eq (q : Fin 1) (j : Fin 256) :
    k0_pay25 (F := Ideal) (k0_pay17 (k0_pay10 y)) D (ix2 q j) = dw 2 (col D j) (col y j) := by
  unfold dw
  simp only [← pay17_eq, col_val]
  unfold k0_pay25
  generalize k0_pay17 (F := Ideal) _ = z
  pointwise

theorem pay24_eq (q : Fin 1) (j : Fin 256) :
    k0_pay24 (F := Ideal) w1 (k0_pay10 y) b (k0_pay12 w0 w2 x) (k0_pay13 x) k0_pay14 da (ix2 q j)
      = dw 1 (col (k0_pay20 w1 b (k0_pay12 w0 w2 x) (k0_pay13 x) k0_pay14 da) j) (col y j) := by
  unfold dw
  simp only [← pay18_eq, col_val]
  unfold k0_pay24
  generalize k0_pay18 (F := Ideal) _ = z
  generalize k0_pay20 (F := Ideal) _ _ _ _ _ _ = z'
  pointwise

theorem pay27_eq (q : Fin 1) (j : Fin 256) : k0_pay27 (F := Ideal) (k0_pay10 y) D (ix2 q j) = dw 0 (col D j) (col y j) := by
  unfold dw
  simp only [sh_zero, col_val]
  pointwise [k0_pay27, k0_pay10]

theorem pay22_eq (q : Fin 1) (j : Fin 256) :
    k0_pay22 (F := Ideal) w1 b (k0_pay12 w0 w2 x) (k0_pay13 x) k0_pay14 da (ix2 q j)
      = db (col (k0_pay20 w1 b (k0_pay12 w0 w2 x) (k0_pay13 x) k0_pay14 da) j) := by
  unfold db
  simp only [col_val]
  unfold k0_pay22
  generalize k0_pay20 (F := Ideal) _ _ _ _ _ _ = z'
  pointwise

theorem pay31_eq (q : Fin 1) (j : Fin 256) : k0_pay31 (F := Ideal) (k0_pay11 x) D (ix2 q j) = dw 2 (col D j) (col x j) := by
  unfold dw
  simp only [← pay11_eq, col_val]
  unfold k0_pay31
  generalize k0_pay11 (F := Ideal) _ = z
  pointwise

theorem pay29_eq (q : Fin 1) (j : Fin 256) :
    k0_pay29 (F := Ideal) (k0_pay15 (k0_pay13 x) k0_pay14) D (ix2 q j) = dw 1 (col D j) (col x j) := by
  unfold dw
  simp only [← pay15_eq, col_val]
  unfold k0_pay29
  generalize k0_pay15 (F := Ideal) _ _ = z
  pointwise

theorem pay33_eq (q : Fin 1) (j : Fin 256) : k0_pay33 (F := Ideal) (k0_pay9 x) D (ix2 q j) = dw 0 (col D j) (col x j) := by
  unfold dw
  simp only [sh_zero, col_val]
  pointwise [k0_pay33, k0_pay9]

theorem pay28_eq (q : Fin 1) (j : Fin 256) : k0_pay28 (F := Ideal) D (ix2 q j) = db (col D j) := by
  unfold db
  simp only [col_val]
  pointwise [k0_pay28]

/-- The gradient of the first half's channel. -/
theorem pay34_eq (r : Fin 2048) (j : Fin 256) :
    k0_pay34 (F := Ideal) w2 D (k0_pay30 w1 D) (k0_pay32 w0 D) (iota .tc S2048x256 32 [0] iota_S2048x256_d0_w32) 2046#32 (ix2 r j)
      = dx (w0 (ix2 0 j)) (w1 (ix2 0 j)) (w2 (ix2 0 j)) (col D j) r.val := by
  unfold dx
  pointwise [k0_pay34, k0_pay30, k0_pay32]
  rw [select_slt r.val 2047 r.isLt (by omega), select_slt r.val 2046 r.isLt (by omega)]
  rw [mul_roll_ahead _ D j r 1 2047 rfl (by omega), mul_roll_ahead _ D j r 2 2046 rfl (by omega), col_val]

/-- The gradient of the second half's channel. -/
theorem pay35_eq (r : Fin 2048) (j : Fin 256) :
    k0_pay35 (F := Ideal) (k0_pay26 u0 u2 (k0_pay20 w1 b (k0_pay12 w0 w2 x) (k0_pay13 x) k0_pay14 da)
        (k0_pay23 w1 u1 b (k0_pay12 w0 w2 x) (k0_pay13 x) k0_pay14 da)) (ix2 r j)
      = dx (u0 (ix2 0 j)) (u1 (ix2 0 j)) (u2 (ix2 0 j)) (col (k0_pay20 w1 b (k0_pay12 w0 w2 x) (k0_pay13 x) k0_pay14 da) j) r.val := by
  unfold k0_pay35 k0_pay26 k0_pay23
  generalize k0_pay20 (F := Ideal) _ _ _ _ _ _ = z
  unfold dx
  pointwise
  rw [select_slt r.val 2047 r.isLt (by omega), select_slt r.val 2046 r.isLt (by omega)]
  rw [mul_roll_ahead _ z j r 1 2047 rfl (by omega), mul_roll_ahead _ z j r 2 2046 rfl (by omega), col_val]

end Cert.KernelIdeal.Ffn

end
-- ==== Proof.FfnBlk.lean ====
/-
  What the gradient kernel leaves in its six outputs: the blocks its grid points read are channels of whole sequences
  (point `t` takes sequence `t % 4` and the block of 256 channels `t / 4`), the two activation gradients are written
  block by block, and the parameter gradients are summed over the four points of a block of channels.
-/
module

public import proofs.«01_k».proof.Proof.Gen.KernelIdeal.Value
public import proofs.«01_k».proof.Proof.FfnPay
public import Idealize.ShloMosaic.Lib.Pipeline.ValueKit

@[expose] public section

set_option maxRecDepth 16384

noncomputable section

namespace Cert.KernelIdeal.Ffn

open Cert.KernelIdeal Cert.KernelIdeal.Gen Cert.Ffn Idealize.ShloMosaic Idealize.ShloMosaic.TcCoe Idealize.SL.Sem

variable (m : (ℓ : Loc nD τ sig) → Buf (Elt Ideal) ℓ) (c : Dev nD)

/-- The arguments as launched. -/
abbrev argU : (⟨2, ![8192, 5632]⟩ : Shape).Idx → EReal := m ((c.tc : Thread nD τ).loc main_arg0)
abbrev argW : (⟨2, ![3, 5632]⟩ : Shape).Idx → EReal := m ((c.tc : Thread nD τ).loc main_arg1)
abbrev argB : (⟨2, ![1, 5632]⟩ : Shape).Idx → EReal := m ((c.tc : Thread nD τ).loc main_arg2)
abbrev argA : (⟨2, ![8192, 2816]⟩ : Shape).Idx → EReal := m ((c.tc : Thread nD τ).loc main_arg3)

/-! ### Where each point's blocks lie -/

theorem idx0 : ∀ t : Fin cfg0.N, win0_0.index t = ![t.val % 4, t.val / 4] := (by decide +kernel : ∀ t : Fin grid0.N, _)
theorem idx1 : ∀ t : Fin cfg0.N, win0_1.index t = ![t.val % 4, 11 + t.val / 4] := (by decide +kernel : ∀ t : Fin grid0.N, _)
theorem idx2 : ∀ t : Fin cfg0.N, win0_2.index t = ![0, t.val / 4] := (by decide +kernel : ∀ t : Fin grid0.N, _)
theorem idx3 : ∀ t : Fin cfg0.N, win0_3.index t = ![0, 11 + t.val / 4] := (by decide +kernel : ∀ t : Fin grid0.N, _)
theorem idx4 : ∀ t : Fin cfg0.N, win0_4.index t = ![0, t.val / 4] := (by decide +kernel : ∀ t : Fin grid0.N, _)
theorem idx5 : ∀ t : Fin cfg0.N, win0_5.index t = ![0, 11 + t.val / 4] := (by decide +kernel : ∀ t : Fin grid0.N, _)
theorem idx6 : ∀ t : Fin cfg0.N, win0_6.index t = ![t.val % 4, t.val / 4] := (by decide +kernel : ∀ t : Fin grid0.N, _)
theorem idx7 : ∀ t : Fin cfg0.N, win0_7.index t = ![t.val % 4, t.val / 4] := (by decide +kernel : ∀ t : Fin grid0.N, _)
theorem idx8 : ∀ t : Fin cfg0.N, win0_8.index t = ![t.val % 4, t.val / 4] := (by decide +kernel : ∀ t : Fin grid0.N, _)
theorem idx9 : ∀ t : Fin cfg0.N, win0_9.index t = ![0, t.val / 4] := (by decide +kernel : ∀ t : Fin grid0.N, _)
theorem idx10 : ∀ t : Fin cfg0.N, win0_10.index t = ![0, t.val / 4] := (by decide +kernel : ∀ t : Fin grid0.N, _)
theorem idx11 : ∀ t : Fin cfg0.N, win0_11.index t = ![0, t.val / 4] := (by decide +kernel : ∀ t : Fin grid0.N, _)
theorem idx12 : ∀ t : Fin cfg0.N, win0_12.index t = ![0, t.val / 4] := (by decide +kernel : ∀ t : Fin grid0.N, _)

/-- The sequence of a point. -/
def bat (t : Fin cfg0.N) : Fin 4 := ⟨t.val % 4, by omega⟩

theorem lt44 (t : Fin cfg0.N) : t.val < 44 := t.isLt

/-- Channel `j` of a point's block. -/
def ch (t : Fin cfg0.N) (j : Fin 256) : Fin 2816 := ⟨t.val / 4 * 256 + j.val, by have := lt44 t; have := j.isLt; omega⟩

theorem blk0 (t : Fin cfg0.N) (j : Fin 256) : col (n := 2048) (iblk m c 0 t) j = chan (argU m c) (bat t) (lo (ch t j)) := by
  funext r
  unfold col chan
  by_cases h : r < 2048
  · rw [dif_pos h, dif_pos h]
    unfold row lo ch bat
    blk_ext [iblk, V, idx0 t]
  · rw [dif_neg h, dif_neg h]

theorem blk1 (t : Fin cfg0.N) (j : Fin 256) : col (n := 2048) (iblk m c 1 t) j = chan (argU m c) (bat t) (hi (ch t j)) := by
  funext r
  unfold col chan
  by_cases h : r < 2048
  · rw [dif_pos h, dif_pos h]
    unfold row hi ch bat
    blk_ext [iblk, V, idx1 t]
  · rw [dif_neg h, dif_neg h]

theorem blk6 (t : Fin cfg0.N) (r : Fin 2048) (j : Fin 256) :
    iblk m c 6 t (ix2 r j) = chan (argA m c) (bat t) (ch t j) r.val := by
  rw [chan_val]
  unfold row ch bat
  blk_ext [iblk, V, idx6 t]

theorem blk4 (t : Fin cfg0.N) (q : Fin 1) (j : Fin 256) : iblk m c 4 t (ix2 q j) = argB m c (ix2 0 (lo (ch t j))) := by
  unfold lo ch
  blk_ext [iblk, V, idx4 t]

theorem blk5 (t : Fin cfg0.N) (q : Fin 1) (j : Fin 256) : iblk m c 5 t (ix2 q j) = argB m c (ix2 0 (hi (ch t j))) := by
  unfold hi ch
  blk_ext [iblk, V, idx5 t]

/-- A row of a three-row buffer, loaded alone. -/
theorem ld_row (X : Vec Ideal S3x256 .f32) (k : ℕ) (hk : k < 3)
    (h : ∀ a, (![k, 0] : Fin 2 → ℕ) a + (![1, 256] : Fin 2 → ℕ) a ≤ S3x256.size a) (q : Fin 1) (j : Fin 256) :
    View.ld X (Rect.unit (s := S3x256) ![k, 0] ![1, 256] h) (ix2 q j) = X (ix2 ⟨k, hk⟩ j) := by
  rw [View.ld_apply]
  congr 1
  funext a; apply Fin.ext
  rw [Rect.idx_unit_val]
  match a with
  | ⟨0, _⟩ => show k + q.val = k; omega
  | ⟨1, _⟩ => show 0 + j.val = j.val; omega

theorem tap2 (t : Fin cfg0.N) (k : Fin 3) (j : Fin 256) : iblk m c 2 t (ix2 k j) = argW m c (ix2 k (lo (ch t j))) := by
  unfold lo ch
  blk_ext [iblk, V, idx2 t]

theorem tap3 (t : Fin cfg0.N) (k : Fin 3) (j : Fin 256) : iblk m c 3 t (ix2 k j) = argW m c (ix2 k (hi (ch t j))) := by
  unfold hi ch
  blk_ext [iblk, V, idx3 t]

/-! ### The two cotangents at a point -/

/-- The channels of the cotangent of the convolved gate at a point. -/
theorem gate_col (t : Fin cfg0.N) (j : Fin 256) (w0 w1 w2 u0 u1 u2 : Vec Ideal S1x256 .f32)
    (hw0 : w0 (ix2 0 j) = argW m c (ix2 0 (lo (ch t j)))) (hw1 : w1 (ix2 0 j) = argW m c (ix2 1 (lo (ch t j))))
    (hw2 : w2 (ix2 0 j) = argW m c (ix2 2 (lo (ch t j)))) (hu0 : u0 (ix2 0 j) = argW m c (ix2 0 (hi (ch t j))))
    (hu1 : u1 (ix2 0 j) = argW m c (ix2 1 (hi (ch t j)))) (hu2 : u2 (ix2 0 j) = argW m c (ix2 2 (hi (ch t j)))) :
    col (n := 2048) (k0_pay21 (F := Ideal) w1 u0 u1 u2 (k0_pay10 (iblk m c 1 t)) (iblk m c 4 t) (iblk m c 5 t)
      (k0_pay12 w0 w2 (iblk m c 0 t)) (k0_pay13 (iblk m c 0 t)) k0_pay14 (iblk m c 6 t)) j
      = gateD (argU m c) (argW m c) (argB m c) (argA m c) (bat t) (ch t j) := by
  funext r
  unfold gateD
  by_cases h : r < 2048
  · rw [if_pos h, col, dif_pos h, pay21_eq, blk6 m c t ⟨r, h⟩ j]
    unfold gateAt act
    rw [blk0, blk1, blk4, blk5, hw0, hw1, hw2, hu0, hu1, hu2]
  · rw [if_neg h, col, dif_neg h]

/-- The channels of the cotangent of the convolved gated value at a point. -/
theorem up_col (t : Fin cfg0.N) (j : Fin 256) (w0 w1 w2 : Vec Ideal S1x256 .f32)
    (hw0 : w0 (ix2 0 j) = argW m c (ix2 0 (lo (ch t j)))) (hw1 : w1 (ix2 0 j) = argW m c (ix2 1 (lo (ch t j))))
    (hw2 : w2 (ix2 0 j) = argW m c (ix2 2 (lo (ch t j)))) :
    col (n := 2048) (k0_pay20 (F := Ideal) w1 (iblk m c 4 t) (k0_pay12 w0 w2 (iblk m c 0 t)) (k0_pay13 (iblk m c 0 t)) k0_pay14
      (iblk m c 6 t)) j = upD (argU m c) (argW m c) (argB m c) (argA m c) (bat t) (ch t j) := by
  funext r
  unfold upD
  by_cases h : r < 2048
  · rw [if_pos h, col, dif_pos h, pay20_eq, blk6 m c t ⟨r, h⟩ j]
    unfold gateAt act
    rw [blk0, blk4, hw0, hw1, hw2]
  · rw [if_neg h, col, dif_neg h]

/-- The cotangent of the convolved gate, of a point's block. -/
abbrev blkG (t : Fin cfg0.N) : FVec Ideal S2048x256 .f32 :=
  k0_pay21 (F := Ideal) (View.ld (iblk m c 2 t) (Rect.unit ![1, 0] ![1, 256] inb_S3x256_S1x256_1_0))
    (View.ld (iblk m c 3 t) (Rect.unit ![0, 0] ![1, 256] inb_S3x256_S1x256_0_0))
    (View.ld (iblk m c 3 t) (Rect.unit ![1, 0] ![1, 256] inb_S3x256_S1x256_1_0))
    (View.ld (iblk m c 3 t) (Rect.unit ![2, 0] ![1, 256] inb_S3x256_S1x256_2_0)) (k0_pay10 (iblk m c 1 t))
    (iblk m c 4 t) (iblk m c 5 t)
    (k0_pay12 (View.ld (iblk m c 2 t) (Rect.unit ![0, 0] ![1, 256] inb_S3x256_S1x256_0_0))
      (View.ld (iblk m c 2 t) (Rect.unit ![2, 0] ![1, 256] inb_S3x256_S1x256_2_0)) (iblk m c 0 t))
    (k0_pay13 (iblk m c 0 t)) k0_pay14 (iblk m c 6 t)

theorem blkG_col (t : Fin cfg0.N) (j : Fin 256) :
    col (n := 2048) (blkG m c t) j = gateD (argU m c) (argW m c) (argB m c) (argA m c) (bat t) (ch t j) :=
  gate_col m c t j _ _ _ _ _ _ ((ld_row _ 0 (by omega) _ _ _).trans (tap2 m c t 0 j)) ((ld_row _ 1 (by omega) _ _ _).trans (tap2 m c t 1 j))
    ((ld_row _ 2 (by omega) _ _ _).trans (tap2 m c t 2 j)) ((ld_row _ 0 (by omega) _ _ _).trans (tap3 m c t 0 j))
    ((ld_row _ 1 (by omega) _ _ _).trans (tap3 m c t 1 j)) ((ld_row _ 2 (by omega) _ _ _).trans (tap3 m c t 2 j))

/-- The cotangent of the convolved gated value, of a point's block. -/
abbrev blkU (t : Fin cfg0.N) : FVec Ideal S2048x256 .f32 :=
  k0_pay20 (F := Ideal) (View.ld (iblk m c 2 t) (Rect.unit ![1, 0] ![1, 256] inb_S3x256_S1x256_1_0)) (iblk m c 4 t)
    (k0_pay12 (View.ld (iblk m c 2 t) (Rect.unit ![0, 0] ![1, 256] inb_S3x256_S1x256_0_0))
      (View.ld (iblk m c 2 t) (Rect.unit ![2, 0] ![1, 256] inb_S3x256_S1x256_2_0)) (iblk m c 0 t))
    (k0_pay13 (iblk m c 0 t)) k0_pay14 (iblk m c 6 t)

theorem blkU_col (t : Fin cfg0.N) (j : Fin 256) :
    col (n := 2048) (blkU m c t) j = upD (argU m c) (argW m c) (argB m c) (argA m c) (bat t) (ch t j) :=
  up_col m c t j _ _ _ ((ld_row _ 0 (by omega) _ _ _).trans (tap2 m c t 0 j)) ((ld_row _ 1 (by omega) _ _ _).trans (tap2 m c t 1 j))
    ((ld_row _ 2 (by omega) _ _ _).trans (tap2 m c t 2 j))

end Cert.KernelIdeal.Ffn
end
-- ==== Proof.FfnRun.lean ====
/-
  What the gradient kernel leaves in its output blocks at each grid point.
-/
module

public import proofs.«01_k».proof.Proof.FfnBlk

@[expose] public section

set_option maxRecDepth 16384

noncomputable section

namespace Cert.KernelIdeal.Ffn

open Cert.KernelIdeal Cert.KernelIdeal.Gen Cert.Ffn Idealize.ShloMosaic Idealize.ShloMosaic.TcCoe Idealize.SL.Sem

variable (m : (ℓ : Loc nD τ sig) → Buf (Elt Ideal) ℓ) (c : Dev nD)

theorem dx_congr {a0 a1 a2 b0 b1 b2 : EReal} {D E : ℕ → EReal} (r : ℕ) (h0 : a0 = b0) (h1 : a1 = b1) (h2 : a2 = b2) (h : D = E) :
    dx a0 a1 a2 D r = dx b0 b1 b2 E r := by rw [h0, h1, h2, h]

theorem add_dw {a b : EReal} {D E x y : ℕ → EReal} (s : ℕ) (h : a = b) (hD : D = E) (hx : x = y) :
    a + dw s D x = b + dw s E y := by rw [h, hD, hx]

theorem add_db {a b : EReal} {D E : ℕ → EReal} (h : a = b) (hD : D = E) : a + db D = b + db E := by rw [h, hD]

theorem out7 (t : Fin cfg0.N) (r : Fin 2048) (j : Fin 256) : (outsAt0 m c t.val t.isLt).1 (ix2 r j) =
    gateX (argU m c) (argW m c) (argB m c) (argA m c) (bat t) (ch t j) r.val := by
  unfold gateX
  by_cases h : t.val % 4 = 0
  · rw [outsAt0_A m c t h]; frame_out
    rw [pay34_eq]
    exact dx_congr _ ((ld_row _ 0 (by omega) _ _ _).trans (tap2 m c t 0 j)) ((ld_row _ 1 (by omega) _ _ _).trans (tap2 m c t 1 j))
      ((ld_row _ 2 (by omega) _ _ _).trans (tap2 m c t 2 j)) (blkG_col m c t j)
  · rw [outsAt0_B m c t h]; frame_out
    rw [pay34_eq]
    exact dx_congr _ ((ld_row _ 0 (by omega) _ _ _).trans (tap2 m c t 0 j)) ((ld_row _ 1 (by omega) _ _ _).trans (tap2 m c t 1 j))
      ((ld_row _ 2 (by omega) _ _ _).trans (tap2 m c t 2 j)) (blkG_col m c t j)

theorem out8 (t : Fin cfg0.N) (r : Fin 2048) (j : Fin 256) : (outsAt0 m c t.val t.isLt).2.1 (ix2 r j) =
    upX (argU m c) (argW m c) (argB m c) (argA m c) (bat t) (ch t j) r.val := by
  unfold upX
  by_cases h : t.val % 4 = 0
  · rw [outsAt0_A m c t h]; frame_out
    rw [pay35_eq]
    exact dx_congr _ ((ld_row _ 0 (by omega) _ _ _).trans (tap3 m c t 0 j)) ((ld_row _ 1 (by omega) _ _ _).trans (tap3 m c t 1 j))
      ((ld_row _ 2 (by omega) _ _ _).trans (tap3 m c t 2 j)) (blkU_col m c t j)
  · rw [outsAt0_B m c t h]; frame_out
    rw [pay35_eq]
    exact dx_congr _ ((ld_row _ 0 (by omega) _ _ _).trans (tap3 m c t 0 j)) ((ld_row _ 1 (by omega) _ _ _).trans (tap3 m c t 1 j))
      ((ld_row _ 2 (by omega) _ _ _).trans (tap3 m c t 2 j)) (blkU_col m c t j)

/-! ### The sums over a run of four points -/

/-- The newest piece is the row read. -/
theorem canon_row (k : Fin 3) (n : ℕ) (hn : n = k.val)
    (h : ∀ a, (![n, 0] : Fin 2 → ℕ) a + (![1, 256] : Fin 2 → ℕ) a ≤ S3x256.size a) (w : (⟨2, ![1, 256]⟩ : Shape).Idx → EReal)
    (L : List (View.Piece (Elt Ideal) S3x256 .f32)) (j : Fin 256) :
    View.canon ((⟨Rect.unit (s := S3x256) ![n, 0] ![1, 256] h, w⟩ : View.Piece (Elt Ideal) S3x256 .f32) :: L) (ix2 k j) = w (ix2 0 j) := by
  have he : (Rect.unit (s := S3x256) ![n, 0] ![1, 256] h).emb (ix2 0 j) = ix2 k j := by
    funext a; apply Fin.ext
    match a with
    | ⟨0, _⟩ => show n + 1 * 0 = k.val; omega
    | ⟨1, _⟩ => show 0 + 1 * j.val = j.val; omega
  rw [← he]
  exact View.canon_cons_emb (Rect.unit (s := S3x256) ![n, 0] ![1, 256] h) w L _

/-- The newest piece is another row. -/
theorem canon_row_ne (k : Fin 3) (n : ℕ) (hn : n ≠ k.val)
    (h : ∀ a, (![n, 0] : Fin 2 → ℕ) a + (![1, 256] : Fin 2 → ℕ) a ≤ S3x256.size a) (w : (⟨2, ![1, 256]⟩ : Shape).Idx → EReal)
    (L : List (View.Piece (Elt Ideal) S3x256 .f32)) (j : Fin 256) :
    View.canon ((⟨Rect.unit (s := S3x256) ![n, 0] ![1, 256] h, w⟩ : View.Piece (Elt Ideal) S3x256 .f32) :: L) (ix2 k j) = View.canon L (ix2 k j) := by
  refine View.canon_cons_of_not_mem _ L fun hm => ?_
  obtain ⟨i, hi, he⟩ := (LoadRect.mem_set _).mp hm (0 : Fin 2)
  have hi1 : i < 1 := hi
  have he' : k.val = n + 1 * i := he
  omega

/-- A row loaded of what stores left. -/
theorem readCov_row {sig : RefSig} {κ : Kind} {sp : Space} (v : View sig κ sp S3x256 .f32) (L : List (View.Piece (Elt Ideal) S3x256 .f32))
    (k : Fin 3) (n : ℕ) (hn : n = k.val) (h : ∀ a, (![n, 0] : Fin 2 → ℕ) a + (![1, 256] : Fin 2 → ℕ) a ≤ S3x256.size a) (q : Fin 1) (j : Fin 256) :
    v.readCov L (Rect.unit (s := S3x256) ![n, 0] ![1, 256] h).toLoadRect (ix2 q j) = View.canon L (ix2 k j) := by
  rw [View.readCov_eq_canon']
  show View.canon L _ = _
  congr 1
  funext a; apply Fin.ext
  match a with
  | ⟨0, _⟩ => show n + 1 * q.val = k.val; omega
  | ⟨1, _⟩ => show 0 + 1 * j.val = j.val; omega

/-- The zero fill. -/
theorem canon_fill (h : ∀ a, (![0, 0] : Fin 2 → ℕ) a + (![3, 256] : Fin 2 → ℕ) a ≤ S3x256.size a)
    (w : (⟨2, ![3, 256]⟩ : Shape).Idx → EReal) (k : Fin 3) (j : Fin 256) :
    View.canon [(⟨Rect.unit (s := S3x256) ![0, 0] ![3, 256] h, w⟩ : View.Piece (Elt Ideal) S3x256 .f32)] (ix2 k j) = w (ix2 k j) := by
  have he : (Rect.unit (s := S3x256) ![0, 0] ![3, 256] h).emb (ix2 k j) = ix2 k j := by
    funext a; apply Fin.ext
    match a with
    | ⟨0, _⟩ => show 0 + 1 * k.val = k.val; omega
    | ⟨1, _⟩ => show 0 + 1 * j.val = j.val; omega
  conv_lhs => rw [← he]
  exact View.canon_cons_emb (Val := Elt Ideal) (e := .f32) (Rect.unit (s := S3x256) ![0, 0] ![3, 256] h) w [] _

theorem pay1_eq (v a : FVec Ideal S1x256 .f32) (q : Fin 1) (j : Fin 256) : k0_pay1 (F := Ideal) v a (ix2 q j) = a (ix2 q j) + v (ix2 q j) := by
  pointwise [k0_pay1]

theorem pay2_eq (v a : FVec Ideal S1x256 .f32) (q : Fin 1) (j : Fin 256) : k0_pay2 (F := Ideal) v a (ix2 q j) = a (ix2 q j) + v (ix2 q j) := by
  pointwise [k0_pay2]

theorem pay3_eq (v a : FVec Ideal S1x256 .f32) (q : Fin 1) (j : Fin 256) : k0_pay3 (F := Ideal) v a (ix2 q j) = a (ix2 q j) + v (ix2 q j) := by
  pointwise [k0_pay3]

theorem pay4_eq (v a : FVec Ideal S1x256 .f32) (q : Fin 1) (j : Fin 256) : k0_pay4 (F := Ideal) v a (ix2 q j) = a (ix2 q j) + v (ix2 q j) := by
  pointwise [k0_pay4]

theorem pay38_eq (v a : FVec Ideal S1x256 .f32) (q : Fin 1) (j : Fin 256) : k0_pay38 (F := Ideal) v a (ix2 q j) = a (ix2 q j) + v (ix2 q j) := by
  pointwise [k0_pay38]

theorem pay39_eq (v a : FVec Ideal S1x256 .f32) (q : Fin 1) (j : Fin 256) : k0_pay39 (F := Ideal) v a (ix2 q j) = a (ix2 q j) + v (ix2 q j) := by
  pointwise [k0_pay39]

theorem pay36_eq (v a : FVec Ideal S1x256 .f32) (q : Fin 1) (j : Fin 256) : k0_pay36 (F := Ideal) v a (ix2 q j) = a (ix2 q j) + v (ix2 q j) := by
  pointwise [k0_pay36]

theorem pay37_eq (v a : FVec Ideal S1x256 .f32) (q : Fin 1) (j : Fin 256) : k0_pay37 (F := Ideal) v a (ix2 q j) = a (ix2 q j) + v (ix2 q j) := by
  pointwise [k0_pay37]

theorem pay5_eq (k : Fin 3) (j : Fin 256) : k0_pay5 (F := Ideal) (ix2 k j) = 0 := by
  pointwise [k0_pay5]

theorem pay6_eq (k : Fin 3) (j : Fin 256) : k0_pay6 (F := Ideal) (ix2 k j) = 0 := by
  pointwise [k0_pay6]

theorem pay7_eq (q : Fin 1) (j : Fin 256) : k0_pay7 (F := Ideal) (ix2 q j) = 0 := by
  pointwise [k0_pay7]

theorem pay8_eq (q : Fin 1) (j : Fin 256) : k0_pay8 (F := Ideal) (ix2 q j) = 0 := by
  pointwise [k0_pay8]

theorem out9_A (t : Fin cfg0.N) (h : t.val % 4 = 0) (k : Fin 3) (j : Fin 256) :
    (outsAt0 m c t.val t.isLt).2.2.1 (ix2 k j) = 0 + dw (2 - k.val) (gateD (argU m c) (argW m c) (argB m c) (argA m c) (bat t) (ch t j)) (chan (argU m c) (bat t) (lo (ch t j))) := by
  rw [outsAt0_A m c t h]; frame_out
  obtain rfl | rfl | rfl : k = 0 ∨ k = 1 ∨ k = 2 := by omega
  · rw [canon_row_ne 0 2 (by decide), canon_row_ne 0 1 (by decide), canon_row 0 0 rfl, pay38_eq, pay31_eq]
    exact add_dw _ (by rw [readCov_row _ _ 0 0 rfl, canon_fill, pay5_eq]) (blkG_col m c t j) (blk0 m c t j)
  · rw [canon_row_ne 1 2 (by decide), canon_row 1 1 rfl, pay1_eq, pay29_eq]
    exact add_dw _ (by rw [readCov_row _ _ 1 1 rfl, canon_row_ne 1 0 (by decide), canon_fill, pay5_eq]) (blkG_col m c t j) (blk0 m c t j)
  · rw [canon_row 2 2 rfl, pay3_eq, pay33_eq]
    exact add_dw _ (by rw [readCov_row _ _ 2 2 rfl, canon_row_ne 2 1 (by decide), canon_row_ne 2 0 (by decide), canon_fill, pay5_eq]) (blkG_col m c t j) (blk0 m c t j)

theorem out9_B (t : Fin cfg0.N) (h : ¬t.val % 4 = 0) (k : Fin 3) (j : Fin 256) :
    (outsAt0 m c t.val t.isLt).2.2.1 (ix2 k j) = (outsAt0 m c (t.val - 1) (Nat.lt_of_le_of_lt (Nat.sub_le _ _) t.isLt)).2.2.1 (ix2 k j) + dw (2 - k.val) (gateD (argU m c) (argW m c) (argB m c) (argA m c) (bat t) (ch t j)) (chan (argU m c) (bat t) (lo (ch t j))) := by
  rw [outsAt0_B m c t h]; frame_out
  obtain rfl | rfl | rfl : k = 0 ∨ k = 1 ∨ k = 2 := by omega
  · rw [canon_row_ne 0 2 (by decide), canon_row_ne 0 1 (by decide), canon_row 0 0 rfl, pay38_eq, pay31_eq]
    exact add_dw _ (ld_row _ 0 (by omega) _ _ _) (blkG_col m c t j) (blk0 m c t j)
  · rw [canon_row_ne 1 2 (by decide), canon_row 1 1 rfl, pay1_eq, pay29_eq]
    exact add_dw _ (ld_row _ 1 (by omega) _ _ _) (blkG_col m c t j) (blk0 m c t j)
  · rw [canon_row 2 2 rfl, pay3_eq, pay33_eq]
    exact add_dw _ (ld_row _ 2 (by omega) _ _ _) (blkG_col m c t j) (blk0 m c t j)

theorem out10_A (t : Fin cfg0.N) (h : t.val % 4 = 0) (k : Fin 3) (j : Fin 256) :
    (outsAt0 m c t.val t.isLt).2.2.2.1 (ix2 k j) = 0 + dw (2 - k.val) (upD (argU m c) (argW m c) (argB m c) (argA m c) (bat t) (ch t j)) (chan (argU m c) (bat t) (hi (ch t j))) := by
  rw [outsAt0_A m c t h]; frame_out
  obtain rfl | rfl | rfl : k = 0 ∨ k = 1 ∨ k = 2 := by omega
  · rw [canon_row_ne 0 2 (by decide), canon_row_ne 0 1 (by decide), canon_row 0 0 rfl, pay39_eq, pay25_eq]
    exact add_dw _ (by rw [readCov_row _ _ 0 0 rfl, canon_fill, pay6_eq]) (blkU_col m c t j) (blk1 m c t j)
  · rw [canon_row_ne 1 2 (by decide), canon_row 1 1 rfl, pay2_eq, pay24_eq]
    exact add_dw _ (by rw [readCov_row _ _ 1 1 rfl, canon_row_ne 1 0 (by decide), canon_fill, pay6_eq]) (blkU_col m c t j) (blk1 m c t j)
  · rw [canon_row 2 2 rfl, pay4_eq, pay27_eq]
    exact add_dw _ (by rw [readCov_row _ _ 2 2 rfl, canon_row_ne 2 1 (by decide), canon_row_ne 2 0 (by decide), canon_fill, pay6_eq]) (blkU_col m c t j) (blk1 m c t j)

theorem out10_B (t : Fin cfg0.N) (h : ¬t.val % 4 = 0) (k : Fin 3) (j : Fin 256) :
    (outsAt0 m c t.val t.isLt).2.2.2.1 (ix2 k j) = (outsAt0 m c (t.val - 1) (Nat.lt_of_le_of_lt (Nat.sub_le _ _) t.isLt)).2.2.2.1 (ix2 k j) + dw (2 - k.val) (upD (argU m c) (argW m c) (argB m c) (argA m c) (bat t) (ch t j)) (chan (argU m c) (bat t) (hi (ch t j))) := by
  rw [outsAt0_B m c t h]; frame_out
  obtain rfl | rfl | rfl : k = 0 ∨ k = 1 ∨ k = 2 := by omega
  · rw [canon_row_ne 0 2 (by decide), canon_row_ne 0 1 (by decide), canon_row 0 0 rfl, pay39_eq, pay25_eq]
    exact add_dw _ (ld_row _ 0 (by omega) _ _ _) (blkU_col m c t j) (blk1 m c t j)
  · rw [canon_row_ne 1 2 (by decide), canon_row 1 1 rfl, pay2_eq, pay24_eq]
    exact add_dw _ (ld_row _ 1 (by omega) _ _ _) (blkU_col m c t j) (blk1 m c t j)
  · rw [canon_row 2 2 rfl, pay4_eq, pay27_eq]
    exact add_dw _ (ld_row _ 2 (by omega) _ _ _) (blkU_col m c t j) (blk1 m c t j)

theorem out11_A (t : Fin cfg0.N) (h : t.val % 4 = 0) (q : Fin 1) (j : Fin 256) :
    (outsAt0 m c t.val t.isLt).2.2.2.2.1 (ix2 q j) = 0 + db (gateD (argU m c) (argW m c) (argB m c) (argA m c) (bat t) (ch t j)) := by
  rw [outsAt0_A m c t h]; frame_out
  rw [pay36_eq, pay28_eq]
  exact add_db (pay7_eq q j) (blkG_col m c t j)

theorem out11_B (t : Fin cfg0.N) (h : ¬t.val % 4 = 0) (q : Fin 1) (j : Fin 256) :
    (outsAt0 m c t.val t.isLt).2.2.2.2.1 (ix2 q j) = (outsAt0 m c (t.val - 1) (Nat.lt_of_le_of_lt (Nat.sub_le _ _) t.isLt)).2.2.2.2.1 (ix2 q j) + db (gateD (argU m c) (argW m c) (argB m c) (argA m c) (bat t) (ch t j)) := by
  rw [outsAt0_B m c t h]; frame_out
  rw [pay36_eq, pay28_eq]
  exact add_db rfl (blkG_col m c t j)

theorem out12_A (t : Fin cfg0.N) (h : t.val % 4 = 0) (q : Fin 1) (j : Fin 256) :
    (outsAt0 m c t.val t.isLt).2.2.2.2.2 (ix2 q j) = 0 + db (upD (argU m c) (argW m c) (argB m c) (argA m c) (bat t) (ch t j)) := by
  rw [outsAt0_A m c t h]; frame_out
  rw [pay37_eq, pay22_eq]
  exact add_db (pay8_eq q j) (blkU_col m c t j)

theorem out12_B (t : Fin cfg0.N) (h : ¬t.val % 4 = 0) (q : Fin 1) (j : Fin 256) :
    (outsAt0 m c t.val t.isLt).2.2.2.2.2 (ix2 q j) = (outsAt0 m c (t.val - 1) (Nat.lt_of_le_of_lt (Nat.sub_le _ _) t.isLt)).2.2.2.2.2 (ix2 q j) + db (upD (argU m c) (argW m c) (argB m c) (argA m c) (bat t) (ch t j)) := by
  rw [outsAt0_B m c t h]; frame_out
  rw [pay37_eq, pay22_eq]
  exact add_db rfl (blkU_col m c t j)

end Cert.KernelIdeal.Ffn
end
-- ==== Proof.FfnRef.lean ====
/-
  The reference, stage by stage, as the channels of FfnSpec: the padded input is the delayed channels, the cotangent of
  the convolution is the two gradients side by side, and each result of the transposed convolution is a sum over the
  sequences of one channel's.
-/
module

public import proofs.«01_k».proof.Proof.Gen.ReferenceIdeal.Read
public import proofs.«01_k».proof.Proof.FfnSpec

@[expose] public section

set_option maxRecDepth 16384

noncomputable section

namespace Cert.ReferenceIdeal.Ffn
open Cert.ReferenceIdeal Cert.ReferenceIdeal.Gen Cert.ReferenceIdeal.Read Cert.Ffn Idealize.ShloMosaic Idealize.ShloMosaic.TcCoe Idealize.SL.Sem

/-- A sum over the first two axes of three. -/
theorem hostReduceAdd_01 {n0 n1 n2 : ℕ} (h : (⟨3, ![n0, n1, n2]⟩ : Shape).ReducesTo [0, 1] ⟨1, ![n2]⟩)
    (x : (⟨3, ![n0, n1, n2]⟩ : Shape).Idx → EReal) (z : EReal) (c : Fin n2) :
    Ideal.hostReduceAdd h x z (ix1 c) = z + ∑ b : Fin n0, ∑ r : Fin n1, x (ix3 b r c) := by
  show z + _ = _
  congr 1
  refine (Finset.sum_filter_eq_sum_of_fiber _ (fun k : Fin n0 × Fin n1 => ix3 k.1 k.2 c)
    (fun k l e => Prod.ext (congrFun e 0) (congrFun e 1)) (fun i => ⟨fun e => ⟨(i 0, i 1), ?_⟩, ?_⟩) x).trans ?_
  · funext a; apply Fin.ext
    match a with
    | ⟨0, _⟩ => rfl
    | ⟨1, _⟩ => rfl
    | ⟨2, _⟩ => exact (congrArg Fin.val (congrFun e ⟨0, Nat.one_pos⟩)).symm
  · rintro ⟨k, rfl⟩
    funext a; apply Fin.ext
    match a with
    | ⟨0, _⟩ => rfl
  · simp only [Fintype.sum_prod_type]

variable (U : FVec Ideal S8192x5632 .bf16) (W : FVec Ideal S3x5632 .f32) (B : FVec Ideal S1x5632 .f32) (DA : FVec Ideal S8192x2816 .f32)

theorem v3_eq (b : Fin 4) (r : Fin 2050) (c : Fin 5632) :
    val_main_v3 (F := Ideal) U (ix3 b r c) = if r.val < 2 then 0 else chan U b c (r.val - 2) := by
  pointwise [val_main_v3, val_main_v2, val_main_cst, val_main_v1, val_main_v0]
  by_cases h : r.val < 2
  · rw [dif_pos h, if_pos h]
  · rw [dif_neg h, if_neg h, chan, dif_pos (by have := r.isLt; omega)]
    rfl

/-- The padded channel read `k` rows further is the channel delayed by the rest of the pad. -/
theorem pad_sh (x : ℕ → EReal) (r n s : ℕ) (h : n + s = r + 2) : (if n < 2 then 0 else x (n - 2)) = sh s x r := by
  unfold sh
  by_cases h2 : n < 2
  · rw [if_pos h2, if_neg (by omega)]
  · rw [if_neg h2, if_pos (by omega)]; congr 1; omega

theorem v29_eq (b : Fin 4) (r : Fin 2048) (c : Fin 5632) :
    val_main_v29 (F := Ideal) U W B (ix3 b r c) = act U W B b c r.val := by
  have h0 := v3_eq U b
  unfold val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_cst_1
  generalize val_main_v3 (F := Ideal) U = z at h0 ⊢
  pointwise
  simp only [h0]
  rw [pad_sh _ r.val r.val 2 rfl, pad_sh _ r.val (1 + r.val) 1 (by omega), pad_sh _ r.val (2 + r.val) 0 (by omega), sh_zero]
  unfold act pre
  rw [add_comm (_ + _) (W (ix2 2 c) * _), ← add_assoc]

theorem v35_eq (b : Fin 4) (r : Fin 2048) (c : Fin 2816) :
    val_main_v35 (F := Ideal) U W B DA (ix3 b r c) = upD U W B DA b c r.val := by
  have h0 := v29_eq U W B b
  unfold val_main_v35 val_main_v34 val_main_v32_0 val_main_v32_2 val_main_call0_v3 val_main_call0_v4 val_main_call0_cst_0 val_main_call0_v2 val_main_call0_cst val_main_call0_v1 val_main_call0_v0 val_main_v30
  generalize val_main_v29 (F := Ideal) U W B = z at h0 ⊢
  pointwise
  simp only [h0]
  rw [upD, if_pos r.isLt, chan_val]
  rfl

theorem v37_eq (b : Fin 4) (r : Fin 2048) (c : Fin 2816) :
    val_main_v37 (F := Ideal) U W B DA (ix3 b r c) = gateD U W B DA b c r.val := by
  have h0 := v29_eq U W B b
  unfold val_main_v37 val_main_call1_v2 val_main_call1_v1 val_main_call1_v0 val_main_v36 val_main_v34 val_main_v32_1 val_main_call0_v7 val_main_call0_v6 val_main_call0_cst_1 val_main_v32_2 val_main_call0_v3 val_main_call0_v4 val_main_call0_cst_0 val_main_call0_v2 val_main_call0_cst val_main_call0_v1 val_main_call0_v0 val_main_v31 val_main_v30
  generalize val_main_v29 (F := Ideal) U W B = z at h0 ⊢
  pointwise
  simp only [h0]
  rw [gateD, if_pos r.isLt, chan_val]
  rfl

/-- A channel of the cotangent of the convolution. -/
def cot (b : Fin 4) (c : Fin 5632) (r : ℕ) : EReal :=
  if h : r < 2048 then val_main_v38 (F := Ideal) U W B DA (ix3 b ⟨r, h⟩ c) else 0

theorem v38_eq (b : Fin 4) (r : Fin 2048) (c : Fin 5632) :
    val_main_v38 (F := Ideal) U W B DA (ix3 b r c) = cot U W B DA b c r.val := by rw [cot, dif_pos r.isLt]

theorem cot_lo (b : Fin 4) (c : Fin 2816) : cot U W B DA b (lo c) = gateD U W B DA b c := by
  funext r
  unfold cot
  by_cases h : r < 2048
  · rw [dif_pos h, ← v37_eq U W B DA b ⟨r, h⟩ c]
    unfold val_main_v38
    generalize val_main_v37 (F := Ideal) U W B DA = z
    generalize val_main_v35 (F := Ideal) U W B DA = z1
    unfold lo
    pointwise
  · rw [dif_neg h, gateD, if_neg h]

theorem cot_hi (b : Fin 4) (c : Fin 2816) : cot U W B DA b (hi c) = upD U W B DA b c := by
  funext r
  unfold cot
  by_cases h : r < 2048
  · rw [dif_pos h, ← v35_eq U W B DA b ⟨r, h⟩ c]
    unfold val_main_v38
    generalize val_main_v37 (F := Ideal) U W B DA = z
    generalize val_main_v35 (F := Ideal) U W B DA = z1
    unfold hi
    pointwise
  · rw [dif_neg h, upD, if_neg h]

theorem v48_eq (c : Fin 5632) :
    val_main_v48 (F := Ideal) U W B DA (ix1 c) = ∑ b : Fin 4, dw 0 (cot U W B DA b c) (chan U b c) := by
  have h0 := fun b r => v3_eq U b r c
  have h1 := fun b r => v38_eq U W B DA b r c
  unfold val_main_v48 val_main_cst_5 val_main_v47 val_main_v46 val_main_cst_4 val_main_v45 val_main_v22
  generalize val_main_v38 (F := Ideal) U W B DA = z at h1 ⊢
  generalize val_main_v3 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  congr 1
  exact pad_sh _ r.val (2 + r.val) 0 (by omega)

theorem v57_eq (c : Fin 5632) :
    val_main_v57 (F := Ideal) U W B DA (ix1 c) = ∑ b : Fin 4, dw 1 (cot U W B DA b c) (chan U b c) := by
  have h0 := fun b r => v3_eq U b r c
  have h1 := fun b r => v38_eq U W B DA b r c
  unfold val_main_v57 val_main_cst_9 val_main_v56 val_main_v55 val_main_cst_8 val_main_v54 val_main_v15
  generalize val_main_v38 (F := Ideal) U W B DA = z at h1 ⊢
  generalize val_main_v3 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  congr 1
  exact pad_sh _ r.val (1 + r.val) 1 (by omega)

theorem v68_eq (c : Fin 5632) :
    val_main_v68 (F := Ideal) U W B DA (ix1 c) = ∑ b : Fin 4, dw 2 (cot U W B DA b c) (chan U b c) := by
  have h0 := fun b r => v3_eq U b r c
  have h1 := fun b r => v38_eq U W B DA b r c
  unfold val_main_v68 val_main_cst_13 val_main_v67 val_main_v66 val_main_cst_12 val_main_v65 val_main_v7
  generalize val_main_v38 (F := Ideal) U W B DA = z at h1 ⊢
  generalize val_main_v3 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  congr 1
  exact pad_sh _ r.val r.val 2 (by omega)

theorem v41_eq (c : Fin 5632) : val_main_v41 (F := Ideal) U W B DA (ix1 c) = ∑ b : Fin 4, db (cot U W B DA b c) := by
  have h1 := fun b r => v38_eq U W B DA b r c
  unfold val_main_v41 val_main_cst_3 val_main_v40 val_main_v39 val_main_cst_2
  generalize val_main_v38 (F := Ideal) U W B DA = z at h1 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h1]

theorem v77_eq (b : Fin 4) (r : Fin 2048) (c : Fin 5632) : val_main_v77 (F := Ideal) U W B DA (ix2 (row b r) c) =
    dx (W (ix2 0 c)) (W (ix2 1 c)) (W (ix2 2 c)) (cot U W B DA b c) r.val := by
  have h1 := fun b r => v38_eq U W B DA b r c
  unfold val_main_v77 val_main_v76 val_main_v75 val_main_v70 val_main_v69 val_main_cst_14 val_main_v64 val_main_v63 val_main_v59 val_main_v58 val_main_v53 val_main_cst_10 val_main_v49 val_main_v52 val_main_v44 val_main_v43 val_main_cst_6 val_main_v23 val_main_v21 val_main_v20 val_main_v16 val_main_v14 val_main_v13 val_main_v8 val_main_v6 val_main_v5
  generalize val_main_v38 (F := Ideal) U W B DA = z at h1 ⊢
  unfold row
  pointwise
  simp only [h1]
  unfold dx ahead
  have e1 : (1 ≤ 2 + r.val ∧ r.val + 1 < 2048) = (r.val + 1 < 2048) := propext (by omega)
  have e2 : (2 + r.val < 2048) = (r.val + 2 < 2048) := propext (by omega)
  have e3 : 2 + r.val - 1 = r.val + 1 := by omega
  have e4 : 2 + r.val = r.val + 2 := by omega
  simp only [dite_eq_ite, e3, e1, e2]
  rw [e4]
  rw [mul_ite, mul_ite, mul_zero, mul_zero]
  ac_rfl

theorem v73_eq (k : Fin 3) (c : Fin 5632) : val_main_v73 (F := Ideal) U W B DA (ix2 k c) =
    if k.val = 2 then val_main_v48 (F := Ideal) U W B DA (ix1 c) else if k.val = 1 then val_main_v57 (F := Ideal) U W B DA (ix1 c) else
      val_main_v68 (F := Ideal) U W B DA (ix1 c) := by
  unfold val_main_v73 val_main_v72 val_main_v71 val_main_cst_15 val_main_v62 val_main_v61 val_main_v60 val_main_cst_11 val_main_v51 val_main_v50 val_main_cst_7
  generalize val_main_v68 (F := Ideal) U W B DA = z
  generalize val_main_v57 (F := Ideal) U W B DA = z1
  generalize val_main_v48 (F := Ideal) U W B DA = z2
  pointwise
  have := k.isLt
  split_ifs <;> first | omega | simp

/-! The six results. -/

theorem v78_eq (b : Fin 4) (r : Fin 2048) (c : Fin 2816) :
    val_main_v78 (F := Ideal) U W B DA (ix2 (row b r) c) = gateX U W B DA b c r.val := by
  rw [gateX, ← cot_lo, ← v77_eq]
  unfold val_main_v78 lo
  generalize val_main_v77 (F := Ideal) U W B DA = z
  pointwise

theorem v79_eq (b : Fin 4) (r : Fin 2048) (c : Fin 2816) :
    val_main_v79 (F := Ideal) U W B DA (ix2 (row b r) c) = upX U W B DA b c r.val := by
  rw [upX, ← cot_hi, ← v77_eq]
  unfold val_main_v79 hi
  generalize val_main_v77 (F := Ideal) U W B DA = z
  pointwise

/-- The taps' gradient, all columns. -/
theorem v73_sum (k : Fin 3) (c : Fin 5632) :
    val_main_v73 (F := Ideal) U W B DA (ix2 k c) = ∑ b : Fin 4, dw (2 - k.val) (cot U W B DA b c) (chan U b c) := by
  rw [v73_eq, v48_eq, v57_eq, v68_eq]
  match k with
  | ⟨0, _⟩ => rfl
  | ⟨1, _⟩ => rfl
  | ⟨2, _⟩ => rfl

theorem v80_eq (k : Fin 3) (c : Fin 2816) : val_main_v80 (F := Ideal) U W B DA (ix2 k c) = gateW U W B DA k c := by
  simp only [gateW, ← cot_lo]
  rw [← v73_sum]
  unfold val_main_v80 lo
  generalize val_main_v73 (F := Ideal) U W B DA = z
  pointwise

theorem v81_eq (k : Fin 3) (c : Fin 2816) : val_main_v81 (F := Ideal) U W B DA (ix2 k c) = upW U W B DA k c := by
  simp only [upW, ← cot_hi]
  rw [← v73_sum]
  unfold val_main_v81 hi
  generalize val_main_v73 (F := Ideal) U W B DA = z
  pointwise

theorem v82_eq (c : Fin 2816) : val_main_v82 (F := Ideal) U W B DA (ix2 0 c) = gateB U W B DA c := by
  simp only [gateB, ← cot_lo]
  rw [← v41_eq]
  unfold val_main_v82 val_main_v42 lo
  generalize val_main_v41 (F := Ideal) U W B DA = z
  pointwise

theorem v83_eq (c : Fin 2816) : val_main_v83 (F := Ideal) U W B DA (ix2 0 c) = upB U W B DA c := by
  simp only [upB, ← cot_hi]
  rw [← v41_eq]
  unfold val_main_v83 val_main_v42 hi
  generalize val_main_v41 (F := Ideal) U W B DA = z
  pointwise

end Cert.ReferenceIdeal.Ffn
end
-- ==== Proof.FfnValue.lean ====
/-
  The six arrays the gradient kernel leaves are the reference's six results: the two activation gradients block by block,
  the four parameter gradients summed over the four points of each block of channels.
-/
module

public import proofs.«01_k».proof.Defs
public import proofs.«01_k».proof.Proof.Gen.ReferenceIdeal.Run
public import proofs.«01_k».proof.Proof.FfnRun
public import proofs.«01_k».proof.Proof.FfnRef

@[expose] public section

set_option maxRecDepth 16384

noncomputable section

namespace Cert.KernelIdeal.Ffn

open Cert.KernelIdeal Cert.KernelIdeal.Gen Cert.Ffn Idealize.ShloMosaic Idealize.ShloMosaic.TcCoe Idealize.SL.Sem
open Cert.ReferenceIdeal.Read Cert.ReferenceIdeal.Ffn

variable (m : (ℓ : Loc nD τ sig) → Buf (Elt Ideal) ℓ) (c : Dev nD)

/-! ### The points of a run of four -/

theorem bat_run (t : Fin cfg0.N) (s : Fin 4) (h : 4 * (t.val / 4) + s.val < cfg0.N) : bat ⟨4 * (t.val / 4) + s.val, h⟩ = s := by
  apply Fin.ext
  show (4 * (t.val / 4) + s.val) % 4 = s.val
  have := s.isLt; omega

theorem ch_run (t : Fin cfg0.N) (s : Fin 4) (h : 4 * (t.val / 4) + s.val < cfg0.N) (j : Fin 256) :
    ch ⟨4 * (t.val / 4) + s.val, h⟩ j = ch t j := by
  apply Fin.ext
  show (4 * (t.val / 4) + s.val) / 4 * 256 + j.val = t.val / 4 * 256 + j.val
  have := s.isLt; have : (4 * (t.val / 4) + s.val) / 4 = t.val / 4 := by omega
  rw [this]

theorem sum9 (t : Fin cfg0.N) (ht : t.val % 4 = 3) (k : Fin 3) (j : Fin 256) :
    (outsAt0 m c t.val t.isLt).2.2.1 (ix2 k j) = gateW (argU m c) (argW m c) (argB m c) (argA m c) k (ch t j) := by
  rw [Pipeline.eq_sum_fin_of_reset_step_of_flush (fun n h => (outsAt0 m c n h).2.2.1 (ix2 k j)) 4 0
    (fun t => dw (2 - k.val) (gateD (argU m c) (argW m c) (argB m c) (argA m c) (bat t) (ch t j)) (chan (argU m c) (bat t) (lo (ch t j))))
    (fun t h => out9_A m c t h k j) (fun t h => out9_B m c t h k j) t ht, zero_add]
  unfold gateW
  exact Finset.sum_congr rfl fun s _ => by rw [bat_run, ch_run]

theorem sum10 (t : Fin cfg0.N) (ht : t.val % 4 = 3) (k : Fin 3) (j : Fin 256) :
    (outsAt0 m c t.val t.isLt).2.2.2.1 (ix2 k j) = upW (argU m c) (argW m c) (argB m c) (argA m c) k (ch t j) := by
  rw [Pipeline.eq_sum_fin_of_reset_step_of_flush (fun n h => (outsAt0 m c n h).2.2.2.1 (ix2 k j)) 4 0
    (fun t => dw (2 - k.val) (upD (argU m c) (argW m c) (argB m c) (argA m c) (bat t) (ch t j)) (chan (argU m c) (bat t) (hi (ch t j))))
    (fun t h => out10_A m c t h k j) (fun t h => out10_B m c t h k j) t ht, zero_add]
  unfold upW
  exact Finset.sum_congr rfl fun s _ => by rw [bat_run, ch_run]

theorem sum11 (t : Fin cfg0.N) (ht : t.val % 4 = 3) (q : Fin 1) (j : Fin 256) :
    (outsAt0 m c t.val t.isLt).2.2.2.2.1 (ix2 q j) = gateB (argU m c) (argW m c) (argB m c) (argA m c) (ch t j) := by
  rw [Pipeline.eq_sum_fin_of_reset_step_of_flush (fun n h => (outsAt0 m c n h).2.2.2.2.1 (ix2 q j)) 4 0
    (fun t => db (gateD (argU m c) (argW m c) (argB m c) (argA m c) (bat t) (ch t j))) (fun t h => out11_A m c t h q j) (fun t h => out11_B m c t h q j) t ht, zero_add]
  unfold gateB
  exact Finset.sum_congr rfl fun s _ => by rw [bat_run, ch_run]

theorem sum12 (t : Fin cfg0.N) (ht : t.val % 4 = 3) (q : Fin 1) (j : Fin 256) :
    (outsAt0 m c t.val t.isLt).2.2.2.2.2 (ix2 q j) = upB (argU m c) (argW m c) (argB m c) (argA m c) (ch t j) := by
  rw [Pipeline.eq_sum_fin_of_reset_step_of_flush (fun n h => (outsAt0 m c n h).2.2.2.2.2 (ix2 q j)) 4 0
    (fun t => db (upD (argU m c) (argW m c) (argB m c) (argA m c) (bat t) (ch t j))) (fun t h => out12_A m c t h q j) (fun t h => out12_B m c t h q j) t ht, zero_add]
  unfold upB
  exact Finset.sum_congr rfl fun s _ => by rw [bat_run, ch_run]

/-! ### The arrays -/

theorem final7 : (dats m 0 c).arrAt 7 cfg0.N = val_main_v78 (F := Ideal) (argU m c) (argW m c) (argB m c) (argA m c) := by
  refine (dats m 0 c).arrAt_eq_of_covers 7 _ (by decide +kernel) fun t hf y => ?_
  blk_simp
  obtain ⟨r, j, rfl⟩ : ∃ (r : Fin 2048) (j : Fin 256), y = ix2 r j := ⟨y 0, y 1, eq_ix2 y⟩
  have he : (win0_7.blk t).view.emb (ix2 r j) = ix2 (row (bat t) r) (ch t j) := by
    unfold row bat ch
    blk_ext [idx7 t]
  rw [after0_7, he, v78_eq]
  exact out7 m c t r j

theorem final8 : (dats m 0 c).arrAt 8 cfg0.N = val_main_v79 (F := Ideal) (argU m c) (argW m c) (argB m c) (argA m c) := by
  refine (dats m 0 c).arrAt_eq_of_covers 8 _ (by decide +kernel) fun t hf y => ?_
  blk_simp
  obtain ⟨r, j, rfl⟩ : ∃ (r : Fin 2048) (j : Fin 256), y = ix2 r j := ⟨y 0, y 1, eq_ix2 y⟩
  have he : (win0_8.blk t).view.emb (ix2 r j) = ix2 (row (bat t) r) (ch t j) := by
    unfold row bat ch
    blk_ext [idx8 t]
  rw [after0_8, he, v79_eq]
  exact out8 m c t r j

theorem final9 : (dats m 0 c).arrAt 9 cfg0.N = val_main_v80 (F := Ideal) (argU m c) (argW m c) (argB m c) (argA m c) := by
  refine (dats m 0 c).arrAt_eq_of_covers 9 _ (by decide +kernel) fun t hf y => ?_
  blk_simp
  obtain ⟨k, j, rfl⟩ : ∃ (k : Fin 3) (j : Fin 256), y = ix2 k j := ⟨y 0, y 1, eq_ix2 y⟩
  have he : (win0_9.blk t).view.emb (ix2 k j) = ix2 k (ch t j) := by
    unfold ch
    blk_ext [idx9 t]
  rw [after0_9, he, v80_eq]
  exact sum9 m c t ((flush0_9 t).mp hf) k j

theorem final10 : (dats m 0 c).arrAt 10 cfg0.N = val_main_v81 (F := Ideal) (argU m c) (argW m c) (argB m c) (argA m c) := by
  refine (dats m 0 c).arrAt_eq_of_covers 10 _ (by decide +kernel) fun t hf y => ?_
  blk_simp
  obtain ⟨k, j, rfl⟩ : ∃ (k : Fin 3) (j : Fin 256), y = ix2 k j := ⟨y 0, y 1, eq_ix2 y⟩
  have he : (win0_10.blk t).view.emb (ix2 k j) = ix2 k (ch t j) := by
    unfold ch
    blk_ext [idx10 t]
  rw [after0_10, he, v81_eq]
  exact sum10 m c t ((flush0_10 t).mp hf) k j

theorem final11 : (dats m 0 c).arrAt 11 cfg0.N = val_main_v82 (F := Ideal) (argU m c) (argW m c) (argB m c) (argA m c) := by
  refine (dats m 0 c).arrAt_eq_of_covers 11 _ (by decide +kernel) fun t hf y => ?_
  blk_simp
  obtain ⟨q, j, rfl⟩ : ∃ (q : Fin 1) (j : Fin 256), y = ix2 q j := ⟨y 0, y 1, eq_ix2 y⟩
  have he : (win0_11.blk t).view.emb (ix2 q j) = ix2 (0 : Fin 1) (ch t j) := by
    unfold ch
    blk_ext [idx11 t]
  rw [after0_11, he, v82_eq]
  exact sum11 m c t ((flush0_11 t).mp hf) q j

theorem final12 : (dats m 0 c).arrAt 12 cfg0.N = val_main_v83 (F := Ideal) (argU m c) (argW m c) (argB m c) (argA m c) := by
  refine (dats m 0 c).arrAt_eq_of_covers 12 _ (by decide +kernel) fun t hf y => ?_
  blk_simp
  obtain ⟨q, j, rfl⟩ : ∃ (q : Fin 1) (j : Fin 256), y = ix2 q j := ⟨y 0, y 1, eq_ix2 y⟩
  have he : (win0_12.blk t).view.emb (ix2 q j) = ix2 (0 : Fin 1) (ch t j) := by
    unfold ch
    blk_ext [idx12 t]
  rw [after0_12, he, v83_eq]
  exact sum12 m c t ((flush0_12 t).mp hf) q j

end Cert.KernelIdeal.Ffn

/-! ### The claims -/

namespace Cert.Proof

open Idealize.ShloMosaic Idealize.ShloMosaic.TcCoe Idealize.SL.Sem Cert.KernelIdeal.Ffn

/-- The reference terminates with its arguments unchanged, and leaves no counter, having no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

/-- From equal arguments the reference's results are the kernel's six arrays. -/
theorem reference_values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = argU m c)
    (h1 : m' ((c.tc : Thread Cert.ReferenceIdeal.nD Cert.ReferenceIdeal.τ).loc Cert.ReferenceIdeal.main_arg1) = argW m c)
    (h2 : m' ((c.tc : Thread Cert.ReferenceIdeal.nD Cert.ReferenceIdeal.τ).loc Cert.ReferenceIdeal.main_arg2) = argB m c)
    (h3 : m' ((c.tc : Thread Cert.ReferenceIdeal.nD Cert.ReferenceIdeal.τ).loc Cert.ReferenceIdeal.main_arg3) = argA m c) :
    Cert.ReferenceIdeal.Value.res_main_v78 m' c = (Cert.KernelIdeal.Gen.dats m 0 c).arrAt 7 Cert.KernelIdeal.cfg0.N
    ∧ Cert.ReferenceIdeal.Value.res_main_v79 m' c = (Cert.KernelIdeal.Gen.dats m 0 c).arrAt 8 Cert.KernelIdeal.cfg0.N
    ∧ Cert.ReferenceIdeal.Value.res_main_v80 m' c = (Cert.KernelIdeal.Gen.dats m 0 c).arrAt 9 Cert.KernelIdeal.cfg0.N
    ∧ Cert.ReferenceIdeal.Value.res_main_v81 m' c = (Cert.KernelIdeal.Gen.dats m 0 c).arrAt 10 Cert.KernelIdeal.cfg0.N
    ∧ Cert.ReferenceIdeal.Value.res_main_v82 m' c = (Cert.KernelIdeal.Gen.dats m 0 c).arrAt 11 Cert.KernelIdeal.cfg0.N
    ∧ Cert.ReferenceIdeal.Value.res_main_v83 m' c = (Cert.KernelIdeal.Gen.dats m 0 c).arrAt 12 Cert.KernelIdeal.cfg0.N := by
  rw [final7, final8, final9, final10, final11, final12, Cert.ReferenceIdeal.Read.val_main_v78_eq, Cert.ReferenceIdeal.Read.val_main_v79_eq,
    Cert.ReferenceIdeal.Read.val_main_v80_eq, Cert.ReferenceIdeal.Read.val_main_v81_eq, Cert.ReferenceIdeal.Read.val_main_v82_eq,
    Cert.ReferenceIdeal.Read.val_main_v83_eq, h0, h1, h2, h3]
  exact ⟨rfl, rfl, rfl, rfl, rfl, rfl⟩

end Cert.Proof

end
-- ==== Proof.Product.lean ====
/-
  Products computed tile by tile: the entries a tile of columns leaves, loads of a tile of what earlier tiles left, and
  a contraction over 8192 positions taken 1024 at a time.
-/
module

public import Idealize.ShloMosaic.Lib.Pipeline.ValueKit

@[expose] public section

noncomputable section

namespace Cert.Product

open Idealize.ShloMosaic

/-- Two entries of two arrays, multiplied, depend on the values of their coordinates only. -/
theorem mul_congr {a b c d : ℕ} (x : (⟨2, ![a, b]⟩ : Shape).Idx → EReal) (y : (⟨2, ![c, d]⟩ : Shape).Idx → EReal)
    {p p' : (⟨2, ![a, b]⟩ : Shape).Idx} {q q' : (⟨2, ![c, d]⟩ : Shape).Idx} (h0 : (p' 0).val = (p 0).val) (h1 : (p' 1).val = (p 1).val)
    (h2 : (q' 0).val = (q 0).val) (h3 : (q' 1).val = (q 1).val) : x p * y q = x p' * y q' := by
  have hp : p = p' := funext fun i => Fin.ext (match i with | ⟨0, _⟩ => h0.symm | ⟨1, _⟩ => h1.symm)
  have hq : q = q' := funext fun i => Fin.ext (match i with | ⟨0, _⟩ => h2.symm | ⟨1, _⟩ => h3.symm)
  rw [hp, hq]

/-! ### Tiles of columns -/

variable {M N : ℕ}

/-- An entry after the tile of columns `o … o + n - 1` was stored: the tile's, or what was there before. -/
theorem canon_tile (o n : ℕ) (h : ∀ a, (![0, o] : Fin 2 → ℕ) a + (![M, n] : Fin 2 → ℕ) a ≤ (⟨2, ![M, N]⟩ : Shape).size a)
    (w : (⟨2, ![M, n]⟩ : Shape).Idx → EReal) (L : List (View.Piece (Elt Ideal) (⟨2, ![M, N]⟩ : Shape) .f32)) (r : Fin M) (j : Fin N) (v : EReal)
    (hin : ∀ q : Fin n, o + q.val = j.val → w (ix2 r q) = v)
    (hout : j.val < o ∨ o + n ≤ j.val → View.canon L (ix2 r j) = v) :
    View.canon ((⟨Rect.unit (s := (⟨2, ![M, N]⟩ : Shape)) ![0, o] ![M, n] h, w⟩ : View.Piece (Elt Ideal) (⟨2, ![M, N]⟩ : Shape) .f32) :: L) (ix2 r j) = v := by
  by_cases hj : j.val < o ∨ o + n ≤ j.val
  · rw [View.canon_cons_of_not_mem _ L fun hm => ?_]
    · exact hout hj
    · obtain ⟨i, hi, he⟩ := (LoadRect.mem_set _).mp hm (1 : Fin 2)
      have hi1 : i < n := hi
      have he' : j.val = o + 1 * i := he
      omega
  · have hlt : j.val - o < n := by omega
    have he : (Rect.unit (s := (⟨2, ![M, N]⟩ : Shape)) ![0, o] ![M, n] h).emb (ix2 r (⟨j.val - o, hlt⟩ : Fin n)) = ix2 r j := by
      funext a; apply Fin.ext
      match a with
      | ⟨0, _⟩ => show 0 + 1 * r.val = r.val; omega
      | ⟨1, _⟩ => show o + 1 * (j.val - o) = j.val; omega
    conv_lhs => rw [← he]
    refine (View.canon_cons_emb (Val := Elt Ideal) (e := .f32) (Rect.unit (s := (⟨2, ![M, N]⟩ : Shape)) ![0, o] ![M, n] h) w L _).trans ?_
    exact hin ⟨j.val - o, hlt⟩ (by show o + (j.val - o) = j.val; omega)

/-- An entry of a tile of columns loaded of what stores left. -/
theorem readCov_tile {sig : RefSig} {κ : Kind} {sp : Space} (u : View sig κ sp (⟨2, ![M, N]⟩ : Shape) .f32)
    (L : List (View.Piece (Elt Ideal) (⟨2, ![M, N]⟩ : Shape) .f32)) (o n : ℕ)
    (h : ∀ a, (![0, o] : Fin 2 → ℕ) a + (![M, n] : Fin 2 → ℕ) a ≤ (⟨2, ![M, N]⟩ : Shape).size a) (r : Fin M) (q : Fin n) (j : Fin N)
    (hj : o + q.val = j.val) :
    u.readCov L (Rect.unit (s := (⟨2, ![M, N]⟩ : Shape)) ![0, o] ![M, n] h).toLoadRect (ix2 r q) = View.canon L (ix2 r j) := by
  rw [View.readCov_eq_canon']
  show View.canon L _ = _
  congr 1
  funext a; apply Fin.ext
  match a with
  | ⟨0, _⟩ => show 0 + 1 * r.val = r.val; omega
  | ⟨1, _⟩ => show o + 1 * q.val = j.val; omega

/-! ### Planes, the same one rank up -/

variable {Q : ℕ}

/-- An entry after the planes `o … o + n - 1` were stored: theirs, or what was there before. -/
theorem canon_plane (o n : ℕ) (h : ∀ a, (![o, 0, 0] : Fin 3 → ℕ) a + (![n, M, N] : Fin 3 → ℕ) a ≤ (⟨3, ![Q, M, N]⟩ : Shape).size a)
    (w : (⟨3, ![n, M, N]⟩ : Shape).Idx → EReal) (L : List (View.Piece (Elt Ideal) (⟨3, ![Q, M, N]⟩ : Shape) .f32)) (q : Fin Q) (r : Fin M)
    (j : Fin N) (v : EReal) (hin : ∀ p : Fin n, o + p.val = q.val → w (ix3 p r j) = v)
    (hout : q.val < o ∨ o + n ≤ q.val → View.canon L (ix3 q r j) = v) :
    View.canon ((⟨Rect.unit (s := (⟨3, ![Q, M, N]⟩ : Shape)) ![o, 0, 0] ![n, M, N] h, w⟩ : View.Piece (Elt Ideal) (⟨3, ![Q, M, N]⟩ : Shape) .f32) :: L)
      (ix3 q r j) = v := by
  by_cases hq : q.val < o ∨ o + n ≤ q.val
  · rw [View.canon_cons_of_not_mem _ L fun hm => ?_]
    · exact hout hq
    · obtain ⟨i, hi, he⟩ := (LoadRect.mem_set _).mp hm (0 : Fin 3)
      have hi1 : i < n := hi
      have he' : q.val = o + 1 * i := he
      omega
  · have hlt : q.val - o < n := by omega
    have he : (Rect.unit (s := (⟨3, ![Q, M, N]⟩ : Shape)) ![o, 0, 0] ![n, M, N] h).emb (ix3 (⟨q.val - o, hlt⟩ : Fin n) r j) = ix3 q r j := by
      funext a; apply Fin.ext
      match a with
      | ⟨0, _⟩ => show o + 1 * (q.val - o) = q.val; omega
      | ⟨1, _⟩ => show 0 + 1 * r.val = r.val; omega
      | ⟨2, _⟩ => show 0 + 1 * j.val = j.val; omega
    conv_lhs => rw [← he]
    refine (View.canon_cons_emb (Val := Elt Ideal) (e := .f32) (Rect.unit (s := (⟨3, ![Q, M, N]⟩ : Shape)) ![o, 0, 0] ![n, M, N] h) w L _).trans ?_
    exact hin ⟨q.val - o, hlt⟩ (by show o + (q.val - o) = q.val; omega)

/-- An entry of planes loaded of what stores left. -/
theorem readCov_plane {sig : RefSig} {κ : Kind} {sp : Space} (u : View sig κ sp (⟨3, ![Q, M, N]⟩ : Shape) .f32)
    (L : List (View.Piece (Elt Ideal) (⟨3, ![Q, M, N]⟩ : Shape) .f32)) (o n : ℕ)
    (h : ∀ a, (![o, 0, 0] : Fin 3 → ℕ) a + (![n, M, N] : Fin 3 → ℕ) a ≤ (⟨3, ![Q, M, N]⟩ : Shape).size a) (p : Fin n) (r : Fin M) (j : Fin N)
    (q : Fin Q) (hq : o + p.val = q.val) :
    u.readCov L (Rect.unit (s := (⟨3, ![Q, M, N]⟩ : Shape)) ![o, 0, 0] ![n, M, N] h).toLoadRect (ix3 p r j) = View.canon L (ix3 q r j) := by
  rw [View.readCov_eq_canon']
  show View.canon L _ = _
  congr 1
  funext a; apply Fin.ext
  match a with
  | ⟨0, _⟩ => show o + 1 * p.val = q.val; omega
  | ⟨1, _⟩ => show 0 + 1 * r.val = r.val; omega
  | ⟨2, _⟩ => show 0 + 1 * j.val = j.val; omega

/-- A tile's sum onto what was zeroed. -/
theorem onto_zero {n : ℕ} {b : EReal} {g g' : Fin n → EReal} (hb : b = 0) (hg : ∀ k, g k = g' k) :
    b + ∑ k : Fin n, g k = ∑ k : Fin n, g' k := by
  rw [hb, zero_add, Finset.sum_congr rfl fun k _ => hg k]

/-! ### A contraction taken 1024 positions at a time -/

/-- Position `k` of the 1024 of point `t`, in runs of eight points. -/
def lane (t : ℕ) (k : Fin 1024) : Fin 8192 := ⟨t % 8 * 1024 + k.val, by have := k.isLt; omega⟩

/-- Zeroed at the first of eight points and added into at each, the last point's value is the sum over all positions. -/
theorem run_sum {S : ℕ} (f : (n : ℕ) → n < S → EReal) (P : ℕ → Fin 8192 → EReal)
    (hA : ∀ t : Fin S, t.val % 8 = 0 → f t.val t.isLt = 0 + ∑ k : Fin 1024, P (t.val / 8) (lane t.val k))
    (hB : ∀ t : Fin S, ¬t.val % 8 = 0 →
      f t.val t.isLt = f (t.val - 1) (Nat.lt_of_le_of_lt (Nat.sub_le _ _) t.isLt) + ∑ k : Fin 1024, P (t.val / 8) (lane t.val k))
    (t : Fin S) (ht : t.val % 8 = 7) : f t.val t.isLt = ∑ k : Fin 8192, P (t.val / 8) k := by
  rw [Pipeline.eq_sum_fin_of_reset_step_of_flush f 8 0 (fun t => ∑ k : Fin 1024, P (t.val / 8) (lane t.val k)) hA hB t ht, zero_add]
  refine Fin.sum_mul_add_congr (hL := by decide) fun s k hl => ?_
  have hs := s.isLt
  have h1 : (8 * (t.val / 8) + s.val) / 8 = t.val / 8 := by omega
  have h2 : lane (8 * (t.val / 8) + s.val) k = ⟨s.val * 1024 + k.val, hl⟩ := by
    apply Fin.ext
    show (8 * (t.val / 8) + s.val) % 8 * 1024 + k.val = s.val * 1024 + k.val
    have : (8 * (t.val / 8) + s.val) % 8 = s.val := by omega
    rw [this]
  show P ((8 * (t.val / 8) + s.val) / 8) (lane (8 * (t.val / 8) + s.val) k) = _
  rw [h1, h2]

end Cert.Product

end
-- ==== Proof.DownDx.lean ====
/-
  The product that takes the feed-forward output's cotangent back through the down projection: each grid point holds
  1024 rows of the cotangent and the whole weight, and writes eleven tiles of 256 columns.
-/
module

public import proofs.«01_k».proof.Proof.Gen.DownDxIdeal.Value
public import proofs.«01_k».proof.Proof.Gen.DownDxRefIdeal.Read
public import proofs.«01_k».proof.Proof.Product

@[expose] public section

set_option maxRecDepth 16384

noncomputable section

namespace Cert.DownDxIdeal.Hand

open Cert.DownDxIdeal Cert.DownDxIdeal.Gen Idealize.ShloMosaic Idealize.ShloMosaic.TcCoe Idealize.SL.Sem
open Cert.DownDxRefIdeal.Read Cert.Product

variable (m : (ℓ : Loc nD τ sig) → Buf (Elt Ideal) ℓ) (c : Dev nD)

/-- The arguments as launched. -/
abbrev argL : (⟨2, ![8192, 1024]⟩ : Shape).Idx → EReal := m ((c.tc : Thread nD τ).loc main_arg0)
abbrev argR : (⟨2, ![2816, 1024]⟩ : Shape).Idx → EReal := m ((c.tc : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem lt8 (t : Fin cfg0.N) : t.val < 8 := t.isLt

/-- Row `r` of a point's rows. -/
def row (t : Fin cfg0.N) (r : Fin 1024) : Fin 8192 := ⟨t.val * 1024 + r.val, by have := lt8 t; have := r.isLt; omega⟩

theorem blk0 (t : Fin cfg0.N) (r k : Fin 1024) : iblk m c 0 t (ix2 r k) = argL m c (ix2 (row t r) k) := by
  unfold row
  blk_ext [iblk, V, idx0 t]

theorem blk1 (t : Fin cfg0.N) (j : Fin 2816) (k : Fin 1024) : iblk m c 1 t (ix2 j k) = argR m c (ix2 j k) := by
  blk_ext [iblk, V, idx1 t]

/-- What a point writes is its rows times the weight's. -/
theorem out_eq (x0 : Vec Ideal S1024x1024 .bf16) (x1 : Vec Ideal S2816x1024 .bf16) (r : Fin 1024) (j : Fin 2816) :
    out0_2 x0 x1 (ix2 r j) = ∑ k : Fin 1024, (x0 (ix2 r k) * x1 (ix2 j k) : EReal) := by
  canon_tiles x h using cover0_2 ..
  all_goals
    open_payloads
    pointwise
    exact Finset.sum_congr rfl fun k _ => mul_congr x0 x1 h0 rfl h1 rfl

/-- The reference's result, entry by entry. -/
theorem ref_eq (x0 : (⟨2, ![8192, 1024]⟩ : Shape).Idx → EReal) (x1 : (⟨2, ![2816, 1024]⟩ : Shape).Idx → EReal) (r : Fin 8192)
    (j : Fin 2816) : val_main_v4 (F := Ideal) x0 x1 (ix2 r j) = ∑ k : Fin 1024, x0 (ix2 r k) * x1 (ix2 j k) := by
  rw [val_main_v4_apply]
  exact Finset.sum_congr rfl fun k _ => by
    rw [val_main_v3_apply, val_main_v1_apply]
    simp only [Ideal.extf_def]
    exact mul_congr x0 x1 rfl rfl rfl rfl

theorem final : (dats m 0 c).arrAt 2 cfg0.N = val_main_v4 (F := Ideal) (argL m c) (argR m c) := by
  refine (dats m 0 c).arrAt_eq_of_covers 2 _ (by decide +kernel) fun t hf y => ?_
  blk_simp
  obtain ⟨r, j, rfl⟩ : ∃ (r : Fin 1024) (j : Fin 2816), y = ix2 r j := ⟨y 0, y 1, eq_ix2 y⟩
  have he : (win0_2.blk t).view.emb (ix2 r j) = ix2 (row t r) j := by
    unfold row
    blk_ext [idx2 t]
  rw [after0_2, he, ref_eq]
  refine (out_eq _ _ r j).trans (Finset.sum_congr rfl fun k _ => ?_)
  rw [blk0, blk1]

end Cert.DownDxIdeal.Hand

end
-- ==== Proof.DownDw.lean ====
/-
  The gradient of the down projection's weight: eight points add the products of 1024 rows of the activation and of the
  cotangent into one block, two tiles of 512 columns at a time.
-/
module

public import proofs.«01_k».proof.Proof.Gen.DownDwIdeal.Value
public import proofs.«01_k».proof.Proof.Gen.DownDwRefIdeal.Read
public import proofs.«01_k».proof.Proof.Product

@[expose] public section

set_option maxRecDepth 16384

noncomputable section

namespace Cert.DownDwIdeal.Hand

open Cert.DownDwIdeal Cert.DownDwIdeal.Gen Idealize.ShloMosaic Idealize.ShloMosaic.TcCoe Idealize.SL.Sem
open Cert.DownDwRefIdeal.Read Cert.Product

variable (m : (ℓ : Loc nD τ sig) → Buf (Elt Ideal) ℓ) (c : Dev nD)

/-- The arguments as launched. -/
abbrev argL : (⟨2, ![8192, 2816]⟩ : Shape).Idx → EReal := m ((c.tc : Thread nD τ).loc main_arg0)
abbrev argR : (⟨2, ![8192, 1024]⟩ : Shape).Idx → EReal := m ((c.tc : Thread nD τ).loc main_arg1)

/-- The blocks a point loads. -/
abbrev blkL (t : Fin cfg0.N) : (⟨2, ![1024, 2816]⟩ : Shape).Idx → EReal := iblk m c 0 t
abbrev blkR (t : Fin cfg0.N) : (⟨2, ![1024, 1024]⟩ : Shape).Idx → EReal := iblk m c 1 t

theorem idx0 : ∀ t : Fin cfg0.N, win0_0.index t = ![t.val % 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![0, 0] := (by decide +kernel : ∀ t : Fin grid0.N, _)

theorem blk0 (t : Fin cfg0.N) (k : Fin 1024) (r : Fin 2816) : iblk m c 0 t (ix2 k r) = argL m c (ix2 (lane t.val k) r) := by
  unfold lane
  blk_ext [iblk, V, idx0 t]

theorem blk1 (t : Fin cfg0.N) (k j : Fin 1024) : iblk m c 1 t (ix2 k j) = argR m c (ix2 (lane t.val k) j) := by
  unfold lane
  blk_ext [iblk, V, idx1 t]

/-- What a point adds. -/
theorem part_eq (t : Fin cfg0.N) (r : Fin 2816) (j : Fin 1024) :
    ∑ k : Fin 1024, blkL m c t (ix2 k r) * blkR m c t (ix2 k j)
      = ∑ k : Fin 1024, argL m c (ix2 (lane t.val k) r) * argR m c (ix2 (lane t.val k) j) :=
  Finset.sum_congr rfl fun k _ => congrArg₂ (· * ·) (blk0 m c t k r) (blk1 m c t k j)

theorem out_A (t : Fin cfg0.N) (h : t.val % 8 = 0) (r : Fin 2816) (j : Fin 1024) : outsAt0 m c t.val t.isLt (ix2 r j) =
    0 + ∑ k : Fin 1024, argL m c (ix2 (lane t.val k) r) * argR m c (ix2 (lane t.val k) j) := by
  rw [← part_eq, outsAt0_A m c t h]; frame_out
  have hj := j.isLt
  repeat' refine canon_tile _ _ _ _ _ r j _ (fun q hq => ?_) (fun ho => ?_)
  all_goals try (exfalso; omega)
  all_goals
    open_payloads
    pointwise
    refine onto_zero ?_ fun k => mul_congr (blkL m c t) (blkR m c t) rfl rfl rfl
      (by first | exact hq.symm | exact hq.symm.trans (Nat.zero_add _))
    refine (readCov_tile _ _ _ _ _ r _ j hq).trans ?_
    repeat' refine canon_tile _ _ _ _ _ r j _ (fun q hq => ?_) (fun ho => ?_)
    all_goals first | (exfalso; omega) | pointwise

theorem out_B (t : Fin cfg0.N) (h : ¬t.val % 8 = 0) (r : Fin 2816) (j : Fin 1024) : outsAt0 m c t.val t.isLt (ix2 r j) =
    outsAt0 m c (t.val - 1) (Nat.lt_of_le_of_lt (Nat.sub_le _ _) t.isLt) (ix2 r j)
      + ∑ k : Fin 1024, argL m c (ix2 (lane t.val k) r) * argR m c (ix2 (lane t.val k) j) := by
  rw [← part_eq, outsAt0_B m c t h]; frame_out
  canon_tiles x h'
  all_goals
    open_payloads
    pointwise
    have hr : x 0 = r := Fin.ext h'0.symm
    refine congrArg₂ (· + ·) (congrArg (outsAt0 m c (t.val - 1) _) ?_) (Finset.sum_congr rfl fun k _ => mul_congr _ _ rfl h'0 rfl h'1)
    exact congrArg₂ ix2 hr (Fin.ext h'1.symm)

/-- The reference's result, entry by entry. -/
theorem ref_eq (x0 : (⟨2, ![8192, 2816]⟩ : Shape).Idx → EReal) (x1 : (⟨2, ![8192, 1024]⟩ : Shape).Idx → EReal) (r : Fin 2816)
    (j : Fin 1024) : val_main_v5 (F := Ideal) x0 x1 (ix2 r j) = ∑ k : Fin 8192, x0 (ix2 k r) * x1 (ix2 k j) := by
  rw [val_main_v5_apply, val_main_v4_apply]
  exact Finset.sum_congr rfl fun k _ => by
    rw [val_main_v3_apply, val_main_v1_apply]
    simp only [Ideal.extf_def]
    rw [mul_comm]
    exact mul_congr x0 x1 rfl rfl rfl rfl

theorem final : (dats m 0 c).arrAt 2 cfg0.N = val_main_v5 (F := Ideal) (argL m c) (argR m c) := by
  refine (dats m 0 c).arrAt_eq_of_covers 2 _ (by decide +kernel) fun t hf y => ?_
  blk_simp
  obtain ⟨r, j, rfl⟩ : ∃ (r : Fin 2816) (j : Fin 1024), y = ix2 r j := ⟨y 0, y 1, eq_ix2 y⟩
  have he : (win0_2.blk t).view.emb (ix2 r j) = ix2 r j := by
    blk_ext [idx2 t]
  rw [after0_2, he, ref_eq]
  exact run_sum (fun n h => outsAt0 m c n h (ix2 r j)) (fun _ k => argL m c (ix2 k r) * argR m c (ix2 k j))
    (fun t h => out_A m c t h r j) (fun t h => out_B m c t h r j) t ((flush0_2 t).mp hf)

end Cert.DownDwIdeal.Hand

end
-- ==== Proof.UpDx.lean ====
/-
  The product that takes the gate's and the value's cotangents back through the up projection: each grid point holds 512
  rows of both and the whole weight, and adds, in two tiles of 512 columns, a product over each half of the weight.
-/
module

public import proofs.«01_k».proof.Proof.Gen.UpDxIdeal.Value
public import proofs.«01_k».proof.Proof.Gen.UpDxRefIdeal.Read
public import proofs.«01_k».proof.Proof.Product

@[expose] public section

set_option maxRecDepth 16384

noncomputable section

namespace Cert.UpDxIdeal.Hand

open Cert.UpDxIdeal Cert.UpDxIdeal.Gen Idealize.ShloMosaic Idealize.ShloMosaic.TcCoe Idealize.SL.Sem
open Cert.UpDxRefIdeal.Read Cert.Product

variable (m : (ℓ : Loc nD τ sig) → Buf (Elt Ideal) ℓ) (c : Dev nD)

/-- The arguments as launched. -/
abbrev argG : (⟨2, ![8192, 2816]⟩ : Shape).Idx → EReal := m ((c.tc : Thread nD τ).loc main_arg0)
abbrev argU : (⟨2, ![8192, 2816]⟩ : Shape).Idx → EReal := m ((c.tc : Thread nD τ).loc main_arg1)
abbrev argW : (⟨2, ![1024, 5632]⟩ : Shape).Idx → EReal := m ((c.tc : Thread nD τ).loc main_arg2)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem lt16 (t : Fin cfg0.N) : t.val < 16 := t.isLt

/-- Row `r` of a point's rows. -/
def row (t : Fin cfg0.N) (r : Fin 512) : Fin 8192 := ⟨t.val * 512 + r.val, by have := lt16 t; have := r.isLt; omega⟩

/-- A column of the weight's first half, and of its second. -/
def lo (k : Fin 2816) : Fin 5632 := ⟨k.val, by have := k.isLt; omega⟩
def hi (k : Fin 2816) : Fin 5632 := ⟨2816 + k.val, by have := k.isLt; omega⟩

theorem blk0 (t : Fin cfg0.N) (r : Fin 512) (k : Fin 2816) : iblk m c 0 t (ix2 r k) = argG m c (ix2 (row t r) k) := by
  unfold row
  blk_ext [iblk, V, idx0 t]

theorem blk1 (t : Fin cfg0.N) (r : Fin 512) (k : Fin 2816) : iblk m c 1 t (ix2 r k) = argU m c (ix2 (row t r) k) := by
  unfold row
  blk_ext [iblk, V, idx1 t]

theorem blk2 (t : Fin cfg0.N) (j : Fin 1024) (k : Fin 5632) : iblk m c 2 t (ix2 j k) = argW m c (ix2 j k) := by
  blk_ext [iblk, V, idx2 t]

/-- What a point writes is its rows times the weight's halves. -/
theorem out_eq (x0 x1 : Vec Ideal S512x2816 .bf16) (x2 : Vec Ideal S1024x5632 .bf16) (r : Fin 512) (j : Fin 1024) :
    out0_3 x0 x1 x2 (ix2 r j)
      = (∑ k : Fin 2816, (x0 (ix2 r k) * x2 (ix2 j (lo k)) : EReal)) + ∑ k : Fin 2816, (x1 (ix2 r k) * x2 (ix2 j (hi k)) : EReal) := by
  canon_tiles x h using cover0_3 ..
  all_goals
    open_payloads
    pointwise
    exact congrArg₂ (· + ·) (Finset.sum_congr rfl fun k _ => mul_congr x0 x2 h0 rfl h1 rfl)
      (Finset.sum_congr rfl fun k _ => mul_congr x1 x2 h0 rfl h1 rfl)

/-- The cotangents side by side. -/
theorem cat_lo (x0 x1 : (⟨2, ![8192, 2816]⟩ : Shape).Idx → EReal) (r : Fin 8192) (k : Fin 2816) :
    val_main_v0 (F := Ideal) x0 x1 (ix2 r (lo k)) = x0 (ix2 r k) := by
  unfold val_main_v0
  exact concatenate_pair_apply_left (1 : Fin 2) x0 x1 _ (ix2 r (lo k)) rfl (ix2 r k) fun b => by match b with | ⟨0, _⟩ => rfl | ⟨1, _⟩ => rfl

theorem cat_hi (x0 x1 : (⟨2, ![8192, 2816]⟩ : Shape).Idx → EReal) (r : Fin 8192) (k : Fin 2816) :
    val_main_v0 (F := Ideal) x0 x1 (ix2 r (hi k)) = x1 (ix2 r k) := by
  unfold val_main_v0
  exact concatenate_pair_apply_right (1 : Fin 2) x0 x1 _ (ix2 r (hi k)) rfl rfl (ix2 r k)
    (fun b hb => by match b with | ⟨0, _⟩ => rfl | ⟨1, _⟩ => exact absurd rfl hb) (Nat.add_comm _ _)

/-- The reference's result, entry by entry. -/
theorem ref_eq (x0 x1 : (⟨2, ![8192, 2816]⟩ : Shape).Idx → EReal) (x2 : (⟨2, ![1024, 5632]⟩ : Shape).Idx → EReal) (r : Fin 8192)
    (j : Fin 1024) : val_main_v5 (F := Ideal) x0 x1 x2 (ix2 r j)
      = (∑ k : Fin 2816, x0 (ix2 r k) * x2 (ix2 j (lo k))) + ∑ k : Fin 2816, x1 (ix2 r k) * x2 (ix2 j (hi k)) := by
  rw [val_main_v5_apply]
  refine (Fin.sum_univ_add (a := 2816) (b := 2816) _).trans ?_
  refine congrArg₂ (· + ·) (Finset.sum_congr rfl fun k _ => ?_) (Finset.sum_congr rfl fun k _ => ?_)
  · rw [val_main_v4_apply, val_main_v2_apply, ← cat_lo x0 x1 r k]
    simp only [Ideal.extf_def]
    exact mul_congr (val_main_v0 (F := Ideal) x0 x1) x2 rfl rfl rfl rfl
  · rw [val_main_v4_apply, val_main_v2_apply, ← cat_hi x0 x1 r k]
    simp only [Ideal.extf_def]
    exact mul_congr (val_main_v0 (F := Ideal) x0 x1) x2 rfl rfl rfl rfl

theorem final : (dats m 0 c).arrAt 3 cfg0.N = val_main_v5 (F := Ideal) (argG m c) (argU m c) (argW m c) := by
  refine (dats m 0 c).arrAt_eq_of_covers 3 _ (by decide +kernel) fun t hf y => ?_
  blk_simp
  obtain ⟨r, j, rfl⟩ : ∃ (r : Fin 512) (j : Fin 1024), y = ix2 r j := ⟨y 0, y 1, eq_ix2 y⟩
  have he : (win0_3.blk t).view.emb (ix2 r j) = ix2 (row t r) j := by
    unfold row
    blk_ext [idx3 t]
  rw [after0_3, he, ref_eq]
  refine (out_eq _ _ _ r j).trans (congrArg₂ (· + ·) (Finset.sum_congr rfl fun k _ => ?_) (Finset.sum_congr rfl fun k _ => ?_))
  · rw [blk0, blk2]
  · rw [blk1, blk2]

end Cert.UpDxIdeal.Hand

end
-- ==== Proof.OutDx.lean ====
/-
  The product that takes the mixer output's cotangent back through the output projection: each grid point holds 1024 rows
  of the cotangent and the whole weight, and writes four tiles of 512 columns.
-/
module

public import proofs.«01_k».proof.Proof.Gen.OutDxIdeal.Value
public import proofs.«01_k».proof.Proof.Gen.OutDxRefIdeal.Read
public import proofs.«01_k».proof.Proof.Product

@[expose] public section

set_option maxRecDepth 16384

noncomputable section

namespace Cert.OutDxIdeal.Hand

open Cert.OutDxIdeal Cert.OutDxIdeal.Gen Idealize.ShloMosaic Idealize.ShloMosaic.TcCoe Idealize.SL.Sem
open Cert.OutDxRefIdeal.Read Cert.Product

variable (m : (ℓ : Loc nD τ sig) → Buf (Elt Ideal) ℓ) (c : Dev nD)

/-- The arguments as launched. -/
abbrev argL : (⟨2, ![8192, 1024]⟩ : Shape).Idx → EReal := m ((c.tc : Thread nD τ).loc main_arg0)
abbrev argR : (⟨2, ![2048, 1024]⟩ : Shape).Idx → EReal := m ((c.tc : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem lt8 (t : Fin cfg0.N) : t.val < 8 := t.isLt

/-- Row `r` of a point's rows. -/
def row (t : Fin cfg0.N) (r : Fin 1024) : Fin 8192 := ⟨t.val * 1024 + r.val, by have := lt8 t; have := r.isLt; omega⟩

theorem blk0 (t : Fin cfg0.N) (r k : Fin 1024) : iblk m c 0 t (ix2 r k) = argL m c (ix2 (row t r) k) := by
  unfold row
  blk_ext [iblk, V, idx0 t]

theorem blk1 (t : Fin cfg0.N) (j : Fin 2048) (k : Fin 1024) : iblk m c 1 t (ix2 j k) = argR m c (ix2 j k) := by
  blk_ext [iblk, V, idx1 t]

/-- What a point writes is its rows times the weight's. -/
theorem out_eq (x0 : Vec Ideal S1024x1024 .bf16) (x1 : Vec Ideal S2048x1024 .bf16) (r : Fin 1024) (j : Fin 2048) :
    out0_2 x0 x1 (ix2 r j) = ∑ k : Fin 1024, (x0 (ix2 r k) * x1 (ix2 j k) : EReal) := by
  canon_tiles x h using cover0_2 ..
  all_goals
    open_payloads
    pointwise
    exact Finset.sum_congr rfl fun k _ => mul_congr x0 x1 h0 rfl h1 rfl

/-- The reference's result, entry by entry. -/
theorem ref_eq (x0 : (⟨2, ![8192, 1024]⟩ : Shape).Idx → EReal) (x1 : (⟨2, ![2048, 1024]⟩ : Shape).Idx → EReal) (r : Fin 8192)
    (j : Fin 2048) : val_main_v4 (F := Ideal) x0 x1 (ix2 r j) = ∑ k : Fin 1024, x0 (ix2 r k) * x1 (ix2 j k) := by
  rw [val_main_v4_apply]
  exact Finset.sum_congr rfl fun k _ => by
    rw [val_main_v3_apply, val_main_v1_apply]
    simp only [Ideal.extf_def]
    exact mul_congr x0 x1 rfl rfl rfl rfl

theorem final : (dats m 0 c).arrAt 2 cfg0.N = val_main_v4 (F := Ideal) (argL m c) (argR m c) := by
  refine (dats m 0 c).arrAt_eq_of_covers 2 _ (by decide +kernel) fun t hf y => ?_
  blk_simp
  obtain ⟨r, j, rfl⟩ : ∃ (r : Fin 1024) (j : Fin 2048), y = ix2 r j := ⟨y 0, y 1, eq_ix2 y⟩
  have he : (win0_2.blk t).view.emb (ix2 r j) = ix2 (row t r) j := by
    unfold row
    blk_ext [idx2 t]
  rw [after0_2, he, ref_eq]
  refine (out_eq _ _ r j).trans (Finset.sum_congr rfl fun k _ => ?_)
  rw [blk0, blk1]

end Cert.OutDxIdeal.Hand

end
-- ==== Proof.OutDw.lean ====
/-
  The gradient of the output projection's weight: eight points add the products of 1024 rows of the gated output and of the
  cotangent into one block, two tiles of 512 columns at a time.
-/
module

public import proofs.«01_k».proof.Proof.Gen.OutDwIdeal.Value
public import proofs.«01_k».proof.Proof.Gen.OutDwRefIdeal.Read
public import proofs.«01_k».proof.Proof.Product

@[expose] public section

set_option maxRecDepth 16384

noncomputable section

namespace Cert.OutDwIdeal.Hand

open Cert.OutDwIdeal Cert.OutDwIdeal.Gen Idealize.ShloMosaic Idealize.ShloMosaic.TcCoe Idealize.SL.Sem
open Cert.OutDwRefIdeal.Read Cert.Product

variable (m : (ℓ : Loc nD τ sig) → Buf (Elt Ideal) ℓ) (c : Dev nD)

/-- The arguments as launched. -/
abbrev argL : (⟨2, ![8192, 2048]⟩ : Shape).Idx → EReal := m ((c.tc : Thread nD τ).loc main_arg0)
abbrev argR : (⟨2, ![8192, 1024]⟩ : Shape).Idx → EReal := m ((c.tc : Thread nD τ).loc main_arg1)

/-- The blocks a point loads. -/
abbrev blkL (t : Fin cfg0.N) : (⟨2, ![1024, 2048]⟩ : Shape).Idx → EReal := iblk m c 0 t
abbrev blkR (t : Fin cfg0.N) : (⟨2, ![1024, 1024]⟩ : Shape).Idx → EReal := iblk m c 1 t

theorem idx0 : ∀ t : Fin cfg0.N, win0_0.index t = ![t.val % 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![0, 0] := (by decide +kernel : ∀ t : Fin grid0.N, _)

theorem blk0 (t : Fin cfg0.N) (k : Fin 1024) (r : Fin 2048) : iblk m c 0 t (ix2 k r) = argL m c (ix2 (lane t.val k) r) := by
  unfold lane
  blk_ext [iblk, V, idx0 t]

theorem blk1 (t : Fin cfg0.N) (k j : Fin 1024) : iblk m c 1 t (ix2 k j) = argR m c (ix2 (lane t.val k) j) := by
  unfold lane
  blk_ext [iblk, V, idx1 t]

/-- What a point adds. -/
theorem part_eq (t : Fin cfg0.N) (r : Fin 2048) (j : Fin 1024) :
    ∑ k : Fin 1024, blkL m c t (ix2 k r) * blkR m c t (ix2 k j)
      = ∑ k : Fin 1024, argL m c (ix2 (lane t.val k) r) * argR m c (ix2 (lane t.val k) j) :=
  Finset.sum_congr rfl fun k _ => congrArg₂ (· * ·) (blk0 m c t k r) (blk1 m c t k j)

theorem out_A (t : Fin cfg0.N) (h : t.val % 8 = 0) (r : Fin 2048) (j : Fin 1024) : outsAt0 m c t.val t.isLt (ix2 r j) =
    0 + ∑ k : Fin 1024, argL m c (ix2 (lane t.val k) r) * argR m c (ix2 (lane t.val k) j) := by
  rw [← part_eq, outsAt0_A m c t h]; frame_out
  have hj := j.isLt
  repeat' refine canon_tile _ _ _ _ _ r j _ (fun q hq => ?_) (fun ho => ?_)
  all_goals try (exfalso; omega)
  all_goals
    open_payloads
    pointwise
    refine onto_zero ?_ fun k => mul_congr (blkL m c t) (blkR m c t) rfl rfl rfl
      (by first | exact hq.symm | exact hq.symm.trans (Nat.zero_add _))
    refine (readCov_tile _ _ _ _ _ r _ j hq).trans ?_
    repeat' refine canon_tile _ _ _ _ _ r j _ (fun q hq => ?_) (fun ho => ?_)
    all_goals first | (exfalso; omega) | pointwise

theorem out_B (t : Fin cfg0.N) (h : ¬t.val % 8 = 0) (r : Fin 2048) (j : Fin 1024) : outsAt0 m c t.val t.isLt (ix2 r j) =
    outsAt0 m c (t.val - 1) (Nat.lt_of_le_of_lt (Nat.sub_le _ _) t.isLt) (ix2 r j)
      + ∑ k : Fin 1024, argL m c (ix2 (lane t.val k) r) * argR m c (ix2 (lane t.val k) j) := by
  rw [← part_eq, outsAt0_B m c t h]; frame_out
  canon_tiles x h'
  all_goals
    open_payloads
    pointwise
    have hr : x 0 = r := Fin.ext h'0.symm
    refine congrArg₂ (· + ·) (congrArg (outsAt0 m c (t.val - 1) _) ?_) (Finset.sum_congr rfl fun k _ => mul_congr _ _ rfl h'0 rfl h'1)
    exact congrArg₂ ix2 hr (Fin.ext h'1.symm)

/-- The reference's result, entry by entry. -/
theorem ref_eq (x0 : (⟨2, ![8192, 2048]⟩ : Shape).Idx → EReal) (x1 : (⟨2, ![8192, 1024]⟩ : Shape).Idx → EReal) (r : Fin 2048)
    (j : Fin 1024) : val_main_v5 (F := Ideal) x0 x1 (ix2 r j) = ∑ k : Fin 8192, x0 (ix2 k r) * x1 (ix2 k j) := by
  rw [val_main_v5_apply, val_main_v4_apply]
  exact Finset.sum_congr rfl fun k _ => by
    rw [val_main_v3_apply, val_main_v1_apply]
    simp only [Ideal.extf_def]
    rw [mul_comm]
    exact mul_congr x0 x1 rfl rfl rfl rfl

theorem final : (dats m 0 c).arrAt 2 cfg0.N = val_main_v5 (F := Ideal) (argL m c) (argR m c) := by
  refine (dats m 0 c).arrAt_eq_of_covers 2 _ (by decide +kernel) fun t hf y => ?_
  blk_simp
  obtain ⟨r, j, rfl⟩ : ∃ (r : Fin 2048) (j : Fin 1024), y = ix2 r j := ⟨y 0, y 1, eq_ix2 y⟩
  have he : (win0_2.blk t).view.emb (ix2 r j) = ix2 r j := by
    blk_ext [idx2 t]
  rw [after0_2, he, ref_eq]
  exact run_sum (fun n h => outsAt0 m c n h (ix2 r j)) (fun _ k => argL m c (ix2 k r) * argR m c (ix2 k j))
    (fun t h => out_A m c t h r j) (fun t h => out_B m c t h r j) t ((flush0_2 t).mp hf)

end Cert.OutDwIdeal.Hand

end
-- ==== Proof.UpDw.lean ====
/-
  The gradient of the up-projection's weight: two regions, each adding the products of 1024 rows of the layer's input and of
  one half's cotangent into two of the four planes over eight points; the second region continues the first's array.
-/
module

public import proofs.«01_k».proof.Proof.Gen.UpDwIdeal.Frame
public import proofs.«01_k».proof.Proof.Gen.UpDwRefIdeal.Read
public import proofs.«01_k».proof.Proof.Product

@[expose] public section

set_option maxRecDepth 16384

noncomputable section

namespace Cert.UpDwIdeal.Hand

open Cert.UpDwIdeal Cert.UpDwIdeal.Gen Idealize.ShloMosaic Idealize.ShloMosaic.TcCoe Idealize.SL.Sem
open Cert.UpDwRefIdeal.Read Cert.Product

variable (m : (ℓ : Loc nD τ sig) → Buf (Elt Ideal) ℓ) (c : Dev nD)
variable (V : (c : Dev nD) → (b : Ref sig .tc) → Buf (Elt Ideal) ((c : Thread nD τ).loc b))

/-- Column `j` of plane `q` of a block. -/
def col (q : Fin 2) (j : Fin 1408) : Fin 2816 := ⟨q.val * 1408 + j.val, by have := q.isLt; have := j.isLt; omega⟩

/-- What a region reads: the rows, and the cotangent of the first or of the second half. -/
abbrev inL : (⟨2, ![8192, 1024]⟩ : Shape).Idx → EReal := V c main_arg0
abbrev inG : (⟨2, ![8192, 2816]⟩ : Shape).Idx → EReal := V c main_arg1
abbrev inU : (⟨2, ![8192, 2816]⟩ : Shape).Idx → EReal := V c main_arg2

/-! ### Region 0 -/

/-- The blocks a point loads. -/
abbrev blkL0 (t : Fin cfg0.N) : (⟨2, ![1024, 1024]⟩ : Shape).Idx → EReal := iblk0 V c 0 t
abbrev blkR0 (t : Fin cfg0.N) : (⟨2, ![1024, 2816]⟩ : Shape).Idx → EReal := iblk0 V c 1 t

theorem out0_A (t : Fin cfg0.N) (h : t.val % 8 = 0) (q : Fin 2) (r : Fin 1024) (j : Fin 1408) : outsAt0 V c t.val t.isLt (ix3 q r j)
    = 0 + ∑ k : Fin 1024, blkL0 c V t (ix2 k r) * blkR0 c V t (ix2 k (col q j)) := by
  have hj := q.isLt
  rw [outsAt0_A V c t h]; frame_out
  repeat' refine canon_plane _ _ _ _ _ q r j _ (fun p hq => ?_) (fun ho => ?_)
  all_goals try (exfalso; omega)
  all_goals
    open_payloads
    pointwise
    refine onto_zero ?_ fun k => mul_congr (blkL0 c V t) (blkR0 c V t) rfl rfl rfl (by show q.val * 1408 + j.val = _; simp; omega)
    refine (readCov_plane _ _ _ _ _ 0 r j q (by simp; omega)).trans ?_
    repeat' refine canon_plane _ _ _ _ _ q r j _ (fun p hq => ?_) (fun ho => ?_)
    all_goals first | (exfalso; omega) | pointwise

theorem out0_B (t : Fin cfg0.N) (h : ¬t.val % 8 = 0) (q : Fin 2) (r : Fin 1024) (j : Fin 1408) : outsAt0 V c t.val t.isLt (ix3 q r j)
    = outsAt0 V c (t.val - 1) (Nat.lt_of_le_of_lt (Nat.sub_le _ _) t.isLt) (ix3 q r j)
      + ∑ k : Fin 1024, blkL0 c V t (ix2 k r) * blkR0 c V t (ix2 k (col q j)) := by
  rw [outsAt0_B V c t h]; frame_out
  canon_tiles x h'
  all_goals
    open_payloads
    pointwise
    have hr : x 1 = r := Fin.ext h'1.symm
    have hs : x 2 = j := Fin.ext h'2.symm
    have h'q : q.val = _ := h'0
    refine congrArg₂ (· + ·) (congrArg (outsAt0 V c (t.val - 1) _) ?_)
      (Finset.sum_congr rfl fun k _ => mul_congr _ _ rfl h'1 rfl (by show q.val * 1408 + j.val = _; simp [hs]; omega))
    rw [hr, hs]
    exact congrArg (ix3 · r j) (Fin.ext (by rw [h'q]; simp))

theorem idx0_0 : ∀ t : Fin cfg0.N, win0_0.index t = ![t.val % 8, 0] := (by decide +kernel : ∀ t : Fin grid0.N, _)
theorem idx0_1 : ∀ t : Fin cfg0.N, win0_1.index t = ![t.val % 8, 0] := (by decide +kernel : ∀ t : Fin grid0.N, _)
theorem idx0_2 : ∀ t : Fin cfg0.N, win0_2.index t = ![0, 0, 0] := (by decide +kernel : ∀ t : Fin grid0.N, _)

theorem blkL0_eq (t : Fin cfg0.N) (k r : Fin 1024) : blkL0 c V t (ix2 k r) = inL c V (ix2 (lane t.val k) r) := by
  unfold lane
  blk_ext [blkL0, iblk0, idx0_0 t]

theorem blkR0_eq (t : Fin cfg0.N) (k : Fin 1024) (j : Fin 2816) : blkR0 c V t (ix2 k j) = inG c V (ix2 (lane t.val k) j) := by
  unfold lane
  blk_ext [blkR0, iblk0, idx0_1 t]

/-- What the last point leaves. -/
theorem sum0 (t : Fin cfg0.N) (ht : t.val % 8 = 7) (q : Fin 2) (r : Fin 1024) (j : Fin 1408) :
    outsAt0 V c t.val t.isLt (ix3 q r j) = ∑ k : Fin 8192, inL c V (ix2 k r) * inG c V (ix2 k (col q j)) := by
  refine run_sum (fun n h => outsAt0 V c n h (ix3 q r j)) (fun _ k => inL c V (ix2 k r) * inG c V (ix2 k (col q j)))
    (fun t h => (out0_A c V t h q r j).trans ?_) (fun t h => (out0_B c V t h q r j).trans ?_) t ht
  all_goals exact congrArg (_ + ·) (Finset.sum_congr rfl fun k _ => congrArg₂ (· * ·) (blkL0_eq c V t k r) (blkR0_eq c V t k (col q j)))

/-! ### Region 1 -/

/-- The blocks a point loads. -/
abbrev blkL1 (t : Fin cfg1.N) : (⟨2, ![1024, 1024]⟩ : Shape).Idx → EReal := iblk1 V c 0 t
abbrev blkR1 (t : Fin cfg1.N) : (⟨2, ![1024, 2816]⟩ : Shape).Idx → EReal := iblk1 V c 1 t

theorem out1_A (t : Fin cfg1.N) (h : t.val % 8 = 0) (q : Fin 2) (r : Fin 1024) (j : Fin 1408) : outsAt1 V c t.val t.isLt (ix3 q r j)
    = 0 + ∑ k : Fin 1024, blkL1 c V t (ix2 k r) * blkR1 c V t (ix2 k (col q j)) := by
  have hj := q.isLt
  rw [outsAt1_A V c t h]; frame_out
  repeat' refine canon_plane _ _ _ _ _ q r j _ (fun p hq => ?_) (fun ho => ?_)
  all_goals try (exfalso; omega)
  all_goals
    open_payloads
    pointwise
    refine onto_zero ?_ fun k => mul_congr (blkL1 c V t) (blkR1 c V t) rfl rfl rfl (by show q.val * 1408 + j.val = _; simp; omega)
    refine (readCov_plane _ _ _ _ _ 0 r j q (by simp; omega)).trans ?_
    repeat' refine canon_plane _ _ _ _ _ q r j _ (fun p hq => ?_) (fun ho => ?_)
    all_goals first | (exfalso; omega) | pointwise

theorem out1_B (t : Fin cfg1.N) (h : ¬t.val % 8 = 0) (q : Fin 2) (r : Fin 1024) (j : Fin 1408) : outsAt1 V c t.val t.isLt (ix3 q r j)
    = outsAt1 V c (t.val - 1) (Nat.lt_of_le_of_lt (Nat.sub_le _ _) t.isLt) (ix3 q r j)
      + ∑ k : Fin 1024, blkL1 c V t (ix2 k r) * blkR1 c V t (ix2 k (col q j)) := by
  rw [outsAt1_B V c t h]; frame_out
  canon_tiles x h'
  all_goals
    open_payloads
    pointwise
    have hr : x 1 = r := Fin.ext h'1.symm
    have hs : x 2 = j := Fin.ext h'2.symm
    have h'q : q.val = _ := h'0
    refine congrArg₂ (· + ·) (congrArg (outsAt1 V c (t.val - 1) _) ?_)
      (Finset.sum_congr rfl fun k _ => mul_congr _ _ rfl h'1 rfl (by show q.val * 1408 + j.val = _; simp [hs]; omega))
    rw [hr, hs]
    exact congrArg (ix3 · r j) (Fin.ext (by rw [h'q]; simp))

theorem idx1_0 : ∀ t : Fin cfg1.N, win1_0.index t = ![t.val % 8, 0] := (by decide +kernel : ∀ t : Fin grid1.N, _)
theorem idx1_1 : ∀ t : Fin cfg1.N, win1_1.index t = ![t.val % 8, 0] := (by decide +kernel : ∀ t : Fin grid1.N, _)
theorem idx1_2 : ∀ t : Fin cfg1.N, win1_2.index t = ![1, 0, 0] := (by decide +kernel : ∀ t : Fin grid1.N, _)

theorem blkL1_eq (t : Fin cfg1.N) (k r : Fin 1024) : blkL1 c V t (ix2 k r) = inL c V (ix2 (lane t.val k) r) := by
  unfold lane
  blk_ext [blkL1, iblk1, idx1_0 t]

theorem blkR1_eq (t : Fin cfg1.N) (k : Fin 1024) (j : Fin 2816) : blkR1 c V t (ix2 k j) = inU c V (ix2 (lane t.val k) j) := by
  unfold lane
  blk_ext [blkR1, iblk1, idx1_1 t]

/-- What the last point leaves. -/
theorem sum1 (t : Fin cfg1.N) (ht : t.val % 8 = 7) (q : Fin 2) (r : Fin 1024) (j : Fin 1408) :
    outsAt1 V c t.val t.isLt (ix3 q r j) = ∑ k : Fin 8192, inL c V (ix2 k r) * inU c V (ix2 k (col q j)) := by
  refine run_sum (fun n h => outsAt1 V c n h (ix3 q r j)) (fun _ k => inL c V (ix2 k r) * inU c V (ix2 k (col q j)))
    (fun t h => (out1_A c V t h q r j).trans ?_) (fun t h => (out1_B c V t h q r j).trans ?_) t ht
  all_goals exact congrArg (_ + ·) (Finset.sum_congr rfl fun k _ => congrArg₂ (· * ·) (blkL1_eq c V t k r) (blkR1_eq c V t k (col q j)))

/-! ### The reference and the whole array -/

section
variable (x0 : (⟨2, ![8192, 1024]⟩ : Shape).Idx → EReal) (x1 x2 : (⟨2, ![8192, 2816]⟩ : Shape).Idx → EReal)

/-- The cotangents side by side. -/
theorem cat_lo (k : Fin 8192) (j : Fin 2816) (j' : Fin 5632) (h : j'.val = j.val) :
    val_main_v0 (F := Ideal) x1 x2 (ix2 k j') = x1 (ix2 k j) := by
  unfold val_main_v0
  exact concatenate_pair_apply_left (1 : Fin 2) x1 x2 _ (ix2 k j') rfl (ix2 k j) fun b => by match b with | ⟨0, _⟩ => rfl | ⟨1, _⟩ => exact h.symm

theorem cat_hi (k : Fin 8192) (j : Fin 2816) (j' : Fin 5632) (h : j'.val = 2816 + j.val) :
    val_main_v0 (F := Ideal) x1 x2 (ix2 k j') = x2 (ix2 k j) := by
  unfold val_main_v0
  exact concatenate_pair_apply_right (1 : Fin 2) x1 x2 _ (ix2 k j') rfl rfl (ix2 k j)
    (fun b hb => by match b with | ⟨0, _⟩ => rfl | ⟨1, _⟩ => exact absurd rfl hb) (by rw [Nat.add_comm]; exact h.symm)

/-- The reference's result, entry by entry. -/
theorem ref_eq (p : Fin 4) (r : Fin 1024) (j : Fin 1408) (j' : Fin 5632) (h : j'.val = p.val * 1408 + j.val) :
    val_main_v8 (F := Ideal) x0 x1 x2 (ix3 p r j) = ∑ k : Fin 8192, x0 (ix2 k r) * val_main_v0 (F := Ideal) x1 x2 (ix2 k j') := by
  have hr := r.isLt
  have hj' := j'.isLt
  rw [val_main_v8_apply, val_main_v7_apply, val_main_v6_apply, val_main_v5_apply]
  exact Finset.sum_congr rfl fun k _ => by
    rw [val_main_v4_apply, val_main_v2_apply]
    simp only [Ideal.extf_def]
    rw [mul_comm]
    refine mul_congr x0 (val_main_v0 (F := Ideal) x1 x2) rfl ?_ rfl ?_
    · show r.val = ((r.val * 4 + p.val) * 1408 + j.val) / 5632; omega
    · show j'.val = ((r.val * 4 + p.val) * 1408 + j.val) % 5632; omega

theorem ref_lo (p : Fin 4) (r : Fin 1024) (j : Fin 1408) (q : Fin 2) (h : p.val = q.val) :
    val_main_v8 (F := Ideal) x0 x1 x2 (ix3 p r j) = ∑ k : Fin 8192, x0 (ix2 k r) * x1 (ix2 k (col q j)) := by
  have hj := j.isLt
  have hq := q.isLt
  rw [ref_eq x0 x1 x2 p r j ⟨p.val * 1408 + j.val, by omega⟩ rfl]
  exact Finset.sum_congr rfl fun k _ => by
    rw [cat_lo x1 x2 k (col q j) _ (by show p.val * 1408 + j.val = q.val * 1408 + j.val; omega)]

theorem ref_hi (p : Fin 4) (r : Fin 1024) (j : Fin 1408) (q : Fin 2) (h : p.val = 2 + q.val) :
    val_main_v8 (F := Ideal) x0 x1 x2 (ix3 p r j) = ∑ k : Fin 8192, x0 (ix2 k r) * x2 (ix2 k (col q j)) := by
  have hj := j.isLt
  have hq := q.isLt
  rw [ref_eq x0 x1 x2 p r j ⟨p.val * 1408 + j.val, by omega⟩ rfl]
  exact Finset.sum_congr rfl fun k _ => by
    rw [cat_hi x1 x2 k (col q j) _ (by show p.val * 1408 + j.val = 2816 + (q.val * 1408 + j.val); omega)]

end

/-- Region 0 leaves the first two planes. -/
theorem half0 (x2 : (⟨2, ![8192, 2816]⟩ : Shape).Idx → EReal) (p : Fin 4) (r : Fin 1024) (j : Fin 1408) (hp : p.val < 2) :
    (dat0 V c).arrAt 2 cfg0.N (ix3 p r j) = val_main_v8 (F := Ideal) (inL c V) (inG c V) x2 (ix3 p r j) := by
  refine ((dat0 V c).arrAt_apply_of_coversWhere 2 (val_main_v8 (F := Ideal) (inL c V) (inG c V) x2) (P := fun i => (i 0).val < 2)
    (fun β => β (0 : Fin 3) < 1) (by decide +kernel) (fun t hf y => ?_) (fun i => ?_) (ix3 p r j)).trans (if_pos hp)
  · blk_simp
    obtain ⟨q, r, j, rfl⟩ : ∃ (q : Fin 2) (r : Fin 1024) (j : Fin 1408), y = ix3 q r j := ⟨y 0, y 1, y 2, eq_ix3 y⟩
    have hq := q.isLt
    have he : (win0_2.blk t).view.emb (ix3 q r j) = ix3 (⟨q.val, by omega⟩ : Fin 4) r j := by
      blk_ext [idx0_2 t]
    rw [after0_2, he, ref_lo _ _ _ _ r j q rfl]
    exact sum0 c V t ((flush0_2 t).mp hf) q r j
  · blk_simp [Pipeline.Window.cell_apply]
    omega

/-- Region 1 leaves the other two, and the first two as they were. -/
theorem half1 (x1 : (⟨2, ![8192, 2816]⟩ : Shape).Idx → EReal)
    (hA : ∀ (p : Fin 4) (r : Fin 1024) (j : Fin 1408), p.val < 2 →
      V c main_v1 (ix3 p r j) = val_main_v8 (F := Ideal) (inL c V) x1 (inU c V) (ix3 p r j)) :
    (dat1 V c).arrAt 2 cfg1.N = val_main_v8 (F := Ideal) (inL c V) x1 (inU c V) := by
  refine (dat1 V c).arrAt_eq_of_coversWhere_of_agree 2 _ (fun β => 1 ≤ β (0 : Fin 3)) (by decide +kernel) (fun t hf y => ?_) (fun i hi => ?_)
  · blk_simp
    obtain ⟨q, r, j, rfl⟩ : ∃ (q : Fin 2) (r : Fin 1024) (j : Fin 1408), y = ix3 q r j := ⟨y 0, y 1, y 2, eq_ix3 y⟩
    have hq := q.isLt
    have he : (win1_2.blk t).view.emb (ix3 q r j) = ix3 (⟨2 + q.val, by omega⟩ : Fin 4) r j := by
      blk_ext [idx1_2 t]
    rw [after1_2, he, ref_hi _ _ _ _ r j q rfl]
    exact sum1 c V t ((flush1_2 t).mp hf) q r j
  · blk_simp [Pipeline.Window.cell_apply] at hi
    rw [A_eq1]
    obtain ⟨p, r, j, rfl⟩ : ∃ (p : Fin 4) (r : Fin 1024) (j : Fin 1408), i = ix3 p r j := ⟨i 0, i 1, i 2, eq_ix3 i⟩
    exact hA p r j (by have : ¬ 1 ≤ p.val / 2 := hi; omega)

/-- The array as the run leaves it. -/
theorem final (ρ : Dev nD → PrngReg) : W3 (F := Ideal) m ρ c (Proc.devRef .tc main_v1)
    = val_main_v8 (F := Ideal) (m ((c.tc : Thread nD τ).loc main_arg0)) (m ((c.tc : Thread nD τ).loc main_arg1)) (m ((c.tc : Thread nD τ).loc main_arg2)) := by
  have e0 : V2 (F := Ideal) m ρ c main_arg0 = m ((c.tc : Thread nD τ).loc main_arg0) := W2_args m ρ c main_arg0 (by decide)
  have e2 : V2 (F := Ideal) m ρ c main_arg2 = m ((c.tc : Thread nD τ).loc main_arg2) := W2_args m ρ c main_arg2 (by decide)
  refine (W3_arr m ρ c 2).trans ((half1 c (V2 m ρ) (m ((c.tc : Thread nD τ).loc main_arg1)) fun p r j hp => ?_).trans ?_)
  · have h1 : V2 (F := Ideal) m ρ c main_v1 = W1 m ρ c (Proc.devRef .tc main_v0) := by
      rfl
    rw [h1]
    show _ = val_main_v8 (F := Ideal) (V2 (F := Ideal) m ρ c main_arg0) _ _ _
    rw [e0]
    exact (congrFun (W1_arr m ρ c 2) _).trans (half0 c (V0 m ρ) _ p r j hp)
  · show val_main_v8 (F := Ideal) (V2 (F := Ideal) m ρ c main_arg0) _ (V2 (F := Ideal) m ρ c main_arg2) = _
    rw [e0, e2]

/-! ### The run -/

section Run

open Idealize.SL Idealize.SL.RA Idealize.SL.BI Idealize.SL.BI.BIBase Idealize.SL.BI.Laws Idealize.SL.ProofMode Idealize.ShloMosaic.Rounds

local notation "𝕄" => MT nD τ sig Unit (Elt Ideal) ℕ (UR sig nD τ) ℕ

set_option backward.isDefEq.respectTransparency.types false in
/-- A run ends, with every array as the two regions and the copy between them leave it. -/
theorem run (ρ : Dev nD → PrngReg) : θ_run defs (onTc (τ := τ) (main (F := Ideal))) ⟨m, fun _ => 0, ρ⟩
    (fun r => ∀ c : Dev nD, ∀ b ∈ Pipeline.ucRefs τ sig, r.2.mem ((c : Thread nD τ).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HS⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end Run

end Cert.UpDwIdeal.Hand

end
-- ==== Proof.Up.lean ====
/-
  The up projection's product: each grid point holds 1024 rows of the normed input and half of the weight's columns, and
  writes eleven tiles of 256 columns.
-/
module

public import proofs.«01_k».proof.Proof.Gen.UpIdeal.Value
public import proofs.«01_k».proof.Proof.Gen.UpRefIdeal.Read
public import proofs.«01_k».proof.Proof.Product

@[expose] public section

set_option maxRecDepth 16384

noncomputable section

namespace Cert.UpIdeal.Hand

open Cert.UpIdeal Cert.UpIdeal.Gen Idealize.ShloMosaic Idealize.ShloMosaic.TcCoe Idealize.SL.Sem
open Cert.UpRefIdeal.Read Cert.Product

variable (m : (ℓ : Loc nD τ sig) → Buf (Elt Ideal) ℓ) (c : Dev nD)

/-- The arguments as launched. -/
abbrev argL : (⟨2, ![8192, 1024]⟩ : Shape).Idx → EReal := m ((c.tc : Thread nD τ).loc main_arg0)
abbrev argR : (⟨2, ![1024, 5632]⟩ : Shape).Idx → EReal := m ((c.tc : Thread nD τ).loc main_arg1)

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

theorem lt16 (t : Fin cfg0.N) : t.val < 16 := t.isLt

/-- Row `r` of a point's rows, and column `j` of its columns. -/
def row (t : Fin cfg0.N) (r : Fin 1024) : Fin 8192 := ⟨t.val / 2 * 1024 + r.val, by have := lt16 t; have := r.isLt; omega⟩
def col (t : Fin cfg0.N) (j : Fin 2816) : Fin 5632 := ⟨t.val % 2 * 2816 + j.val, by have := j.isLt; omega⟩

theorem blk0 (t : Fin cfg0.N) (r k : Fin 1024) : iblk m c 0 t (ix2 r k) = argL m c (ix2 (row t r) k) := by
  unfold row
  blk_ext [iblk, V, idx0 t]

theorem blk1 (t : Fin cfg0.N) (k : Fin 1024) (j : Fin 2816) : iblk m c 1 t (ix2 k j) = argR m c (ix2 k (col t j)) := by
  unfold col
  blk_ext [iblk, V, idx1 t]

/-- What a point writes is its rows times its columns. -/
theorem out_eq (x0 : Vec Ideal S1024x1024 .bf16) (x1 : Vec Ideal S1024x2816 .bf16) (r : Fin 1024) (j : Fin 2816) :
    out0_2 x0 x1 (ix2 r j) = ∑ k : Fin 1024, (x0 (ix2 r k) * x1 (ix2 k j) : EReal) := by
  canon_tiles x h using cover0_2 ..
  all_goals
    open_payloads
    pointwise
    exact Finset.sum_congr rfl fun k _ => mul_congr x0 x1 h0 rfl rfl h1

/-- The reference's result, entry by entry. -/
theorem ref_eq (x0 : (⟨2, ![8192, 1024]⟩ : Shape).Idx → EReal) (x1 : (⟨2, ![1024, 5632]⟩ : Shape).Idx → EReal) (r : Fin 8192)
    (j : Fin 5632) : val_main_v3 (F := Ideal) x0 x1 (ix2 r j) = ∑ k : Fin 1024, x0 (ix2 r k) * x1 (ix2 k j) := by
  rw [val_main_v3_apply, val_main_v2_apply]
  simp only [Ideal.truncf_def]
  exact Finset.sum_congr rfl fun k _ => by
    rw [val_main_v0_apply, val_main_v1_apply]
    simp only [Ideal.extf_def]
    exact mul_congr x0 x1 rfl rfl rfl rfl

theorem final : (dats m 0 c).arrAt 2 cfg0.N = val_main_v3 (F := Ideal) (argL m c) (argR m c) := by
  refine (dats m 0 c).arrAt_eq_of_covers 2 _ (by decide +kernel) fun t hf y => ?_
  blk_simp
  obtain ⟨r, j, rfl⟩ : ∃ (r : Fin 1024) (j : Fin 2816), y = ix2 r j := ⟨y 0, y 1, eq_ix2 y⟩
  have he : (win0_2.blk t).view.emb (ix2 r j) = ix2 (row t r) (col t j) := by
    unfold row col
    blk_ext [idx2 t]
  rw [after0_2, he, ref_eq]
  refine (out_eq _ _ r j).trans (Finset.sum_congr rfl fun k _ => ?_)
  rw [blk0, blk1]

end Cert.UpIdeal.Hand

end
-- ==== Proof.Down.lean ====
/-
  The down projection's product: each grid point holds 1024 rows of the activation and the whole weight, and writes two
  tiles of 512 columns.
-/
module

public import proofs.«01_k».proof.Proof.Gen.DownIdeal.Value
public import proofs.«01_k».proof.Proof.Gen.DownRefIdeal.Read
public import proofs.«01_k».proof.Proof.Product

@[expose] public section

set_option maxRecDepth 16384

noncomputable section

namespace Cert.DownIdeal.Hand

open Cert.DownIdeal Cert.DownIdeal.Gen Idealize.ShloMosaic Idealize.ShloMosaic.TcCoe Idealize.SL.Sem
open Cert.DownRefIdeal.Read Cert.Product

variable (m : (ℓ : Loc nD τ sig) → Buf (Elt Ideal) ℓ) (c : Dev nD)

/-- The arguments as launched. -/
abbrev argL : (⟨2, ![8192, 2816]⟩ : Shape).Idx → EReal := m ((c.tc : Thread nD τ).loc main_arg0)
abbrev argR : (⟨2, ![2816, 1024]⟩ : Shape).Idx → EReal := m ((c.tc : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem lt8 (t : Fin cfg0.N) : t.val < 8 := t.isLt

/-- Row `r` of a point's rows. -/
def row (t : Fin cfg0.N) (r : Fin 1024) : Fin 8192 := ⟨t.val * 1024 + r.val, by have := lt8 t; have := r.isLt; omega⟩

theorem blk0 (t : Fin cfg0.N) (r : Fin 1024) (k : Fin 2816) : iblk m c 0 t (ix2 r k) = argL m c (ix2 (row t r) k) := by
  unfold row
  blk_ext [iblk, V, idx0 t]

theorem blk1 (t : Fin cfg0.N) (k : Fin 2816) (j : Fin 1024) : iblk m c 1 t (ix2 k j) = argR m c (ix2 k j) := by
  blk_ext [iblk, V, idx1 t]

/-- What a point writes is its rows times the weight's columns. -/
theorem out_eq (x0 : Vec Ideal S1024x2816 .bf16) (x1 : Vec Ideal S2816x1024 .bf16) (r : Fin 1024) (j : Fin 1024) :
    out0_2 x0 x1 (ix2 r j) = ∑ k : Fin 2816, (x0 (ix2 r k) * x1 (ix2 k j) : EReal) := by
  canon_tiles x h using cover0_2 ..
  all_goals
    open_payloads
    pointwise
    exact Finset.sum_congr rfl fun k _ => mul_congr x0 x1 h0 rfl rfl h1

/-- The reference's result, entry by entry. -/
theorem ref_eq (x0 : (⟨2, ![8192, 2816]⟩ : Shape).Idx → EReal) (x1 : (⟨2, ![2816, 1024]⟩ : Shape).Idx → EReal) (r : Fin 8192)
    (j : Fin 1024) : val_main_v2 (F := Ideal) x0 x1 (ix2 r j) = ∑ k : Fin 2816, x0 (ix2 r k) * x1 (ix2 k j) := by
  rw [val_main_v2_apply]
  exact Finset.sum_congr rfl fun k _ => by
    rw [val_main_v0_apply, val_main_v1_apply]
    simp only [Ideal.extf_def]
    exact mul_congr x0 x1 rfl rfl rfl rfl

theorem final : (dats m 0 c).arrAt 2 cfg0.N = val_main_v2 (F := Ideal) (argL m c) (argR m c) := by
  refine (dats m 0 c).arrAt_eq_of_covers 2 _ (by decide +kernel) fun t hf y => ?_
  blk_simp
  obtain ⟨r, j, rfl⟩ : ∃ (r : Fin 1024) (j : Fin 1024), y = ix2 r j := ⟨y 0, y 1, eq_ix2 y⟩
  have he : (win0_2.blk t).view.emb (ix2 r j) = ix2 (row t r) j := by
    unfold row
    blk_ext [idx2 t]
  rw [after0_2, he, ref_eq]
  refine (out_eq _ _ r j).trans (Finset.sum_congr rfl fun k _ => ?_)
  rw [blk0, blk1]

end Cert.DownIdeal.Hand

end
-- ==== Proof.Out.lean ====
/-
  The output projection's product: each grid point holds 1024 rows of the mixers' output and the whole weight, and writes
  two tiles of 512 columns.
-/
module

public import proofs.«01_k».proof.Proof.Gen.OutIdeal.Value
public import proofs.«01_k».proof.Proof.Gen.OutRefIdeal.Read
public import proofs.«01_k».proof.Proof.Product

@[expose] public section

set_option maxRecDepth 16384

noncomputable section

namespace Cert.OutIdeal.Hand

open Cert.OutIdeal Cert.OutIdeal.Gen Idealize.ShloMosaic Idealize.ShloMosaic.TcCoe Idealize.SL.Sem
open Cert.OutRefIdeal.Read Cert.Product

variable (m : (ℓ : Loc nD τ sig) → Buf (Elt Ideal) ℓ) (c : Dev nD)

/-- The arguments as launched. -/
abbrev argL : (⟨2, ![8192, 2048]⟩ : Shape).Idx → EReal := m ((c.tc : Thread nD τ).loc main_arg0)
abbrev argR : (⟨2, ![2048, 1024]⟩ : Shape).Idx → EReal := m ((c.tc : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem lt8 (t : Fin cfg0.N) : t.val < 8 := t.isLt

/-- Row `r` of a point's rows. -/
def row (t : Fin cfg0.N) (r : Fin 1024) : Fin 8192 := ⟨t.val * 1024 + r.val, by have := lt8 t; have := r.isLt; omega⟩

theorem blk0 (t : Fin cfg0.N) (r : Fin 1024) (k : Fin 2048) : iblk m c 0 t (ix2 r k) = argL m c (ix2 (row t r) k) := by
  unfold row
  blk_ext [iblk, V, idx0 t]

theorem blk1 (t : Fin cfg0.N) (k : Fin 2048) (j : Fin 1024) : iblk m c 1 t (ix2 k j) = argR m c (ix2 k j) := by
  blk_ext [iblk, V, idx1 t]

/-- What a point writes is its rows times the weight's columns. -/
theorem out_eq (x0 : Vec Ideal S1024x2048 .bf16) (x1 : Vec Ideal S2048x1024 .bf16) (r : Fin 1024) (j : Fin 1024) :
    out0_2 x0 x1 (ix2 r j) = ∑ k : Fin 2048, (x0 (ix2 r k) * x1 (ix2 k j) : EReal) := by
  canon_tiles x h using cover0_2 ..
  all_goals
    open_payloads
    pointwise
    exact Finset.sum_congr rfl fun k _ => mul_congr x0 x1 h0 rfl rfl h1

/-- The reference's result, entry by entry. -/
theorem ref_eq (x0 : (⟨2, ![8192, 2048]⟩ : Shape).Idx → EReal) (x1 : (⟨2, ![2048, 1024]⟩ : Shape).Idx → EReal) (r : Fin 8192)
    (j : Fin 1024) : val_main_v2 (F := Ideal) x0 x1 (ix2 r j) = ∑ k : Fin 2048, x0 (ix2 r k) * x1 (ix2 k j) := by
  rw [val_main_v2_apply]
  exact Finset.sum_congr rfl fun k _ => by
    rw [val_main_v0_apply, val_main_v1_apply]
    simp only [Ideal.extf_def]
    exact mul_congr x0 x1 rfl rfl rfl rfl

theorem final : (dats m 0 c).arrAt 2 cfg0.N = val_main_v2 (F := Ideal) (argL m c) (argR m c) := by
  refine (dats m 0 c).arrAt_eq_of_covers 2 _ (by decide +kernel) fun t hf y => ?_
  blk_simp
  obtain ⟨r, j, rfl⟩ : ∃ (r : Fin 1024) (j : Fin 1024), y = ix2 r j := ⟨y 0, y 1, eq_ix2 y⟩
  have he : (win0_2.blk t).view.emb (ix2 r j) = ix2 (row t r) j := by
    unfold row
    blk_ext [idx2 t]
  rw [after0_2, he, ref_eq]
  refine (out_eq _ _ r j).trans (Finset.sum_congr rfl fun k _ => ?_)
  rw [blk0, blk1]

end Cert.OutIdeal.Hand

end
-- ==== Proof.InDw.lean ====
/-
  The gradient of the large input projection's weight: for each half of the columns eight points add the products of 1024
  rows of the input and of the cotangent into one block, thirteen tiles of 256 columns at a time.
-/
module

public import proofs.«01_k».proof.Proof.Gen.InDwIdeal.Value
public import proofs.«01_k».proof.Proof.Gen.InDwRefIdeal.Read
public import proofs.«01_k».proof.Proof.Product

@[expose] public section

set_option maxRecDepth 16384

noncomputable section

namespace Cert.InDwIdeal.Hand

open Cert.InDwIdeal Cert.InDwIdeal.Gen Idealize.ShloMosaic Idealize.ShloMosaic.TcCoe Idealize.SL.Sem
open Cert.InDwRefIdeal.Read Cert.Product

variable (m : (ℓ : Loc nD τ sig) → Buf (Elt Ideal) ℓ) (c : Dev nD)

/-- The arguments as launched. -/
abbrev argL : (⟨2, ![8192, 1024]⟩ : Shape).Idx → EReal := m ((c.tc : Thread nD τ).loc main_arg0)
abbrev argR : (⟨2, ![8192, 6656]⟩ : Shape).Idx → EReal := m ((c.tc : Thread nD τ).loc main_arg1)

/-- The blocks a point loads. -/
abbrev blkL (t : Fin cfg0.N) : (⟨2, ![1024, 1024]⟩ : Shape).Idx → EReal := iblk m c 0 t
abbrev blkR (t : Fin cfg0.N) : (⟨2, ![1024, 3328]⟩ : Shape).Idx → EReal := iblk m c 1 t

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

/-- Column `j` of a half of the columns. -/
def col (s : ℕ) (j : Fin 3328) : Fin 6656 := ⟨s % 2 * 3328 + j.val, by have := j.isLt; omega⟩

theorem half (t : Fin cfg0.N) : t.val / 8 < 2 := by
  have : t.val < 16 := t.isLt
  omega

theorem blk0 (t : Fin cfg0.N) (k : Fin 1024) (r : Fin 1024) : iblk m c 0 t (ix2 k r) = argL m c (ix2 (lane t.val k) r) := by
  unfold lane
  blk_ext [iblk, V, idx0 t]

theorem blk1 (t : Fin cfg0.N) (k : Fin 1024) (j : Fin 3328) : iblk m c 1 t (ix2 k j) = argR m c (ix2 (lane t.val k) (col (t.val / 8) j)) := by
  have ht := half t
  unfold lane col
  blk_ext [iblk, V, idx1 t]

/-- What a point adds. -/
theorem part_eq (t : Fin cfg0.N) (r : Fin 1024) (j : Fin 3328) :
    ∑ k : Fin 1024, blkL m c t (ix2 k r) * blkR m c t (ix2 k j)
      = ∑ k : Fin 1024, argL m c (ix2 (lane t.val k) r) * argR m c (ix2 (lane t.val k) (col (t.val / 8) j)) :=
  Finset.sum_congr rfl fun k _ => congrArg₂ (· * ·) (blk0 m c t k r) (blk1 m c t k j)

theorem out_A (t : Fin cfg0.N) (h : t.val % 8 = 0) (r : Fin 1024) (j : Fin 3328) : outsAt0 m c t.val t.isLt (ix2 r j) =
    0 + ∑ k : Fin 1024, argL m c (ix2 (lane t.val k) r) * argR m c (ix2 (lane t.val k) (col (t.val / 8) j)) := by
  rw [← part_eq, outsAt0_A m c t h]; frame_out
  have hj := j.isLt
  repeat' refine canon_tile _ _ _ _ _ r j _ (fun q hq => ?_) (fun ho => ?_)
  all_goals try (exfalso; omega)
  all_goals
    open_payloads
    pointwise
    refine onto_zero ?_ fun k => mul_congr (blkL m c t) (blkR m c t) rfl rfl rfl
      (by first | exact hq.symm | exact hq.symm.trans (Nat.zero_add _))
    refine (readCov_tile _ _ _ _ _ r _ j hq).trans ?_
    repeat' refine canon_tile _ _ _ _ _ r j _ (fun q hq => ?_) (fun ho => ?_)
    all_goals first | (exfalso; omega) | pointwise

theorem out_B (t : Fin cfg0.N) (h : ¬t.val % 8 = 0) (r : Fin 1024) (j : Fin 3328) : outsAt0 m c t.val t.isLt (ix2 r j) =
    outsAt0 m c (t.val - 1) (Nat.lt_of_le_of_lt (Nat.sub_le _ _) t.isLt) (ix2 r j)
      + ∑ k : Fin 1024, argL m c (ix2 (lane t.val k) r) * argR m c (ix2 (lane t.val k) (col (t.val / 8) j)) := by
  rw [← part_eq, outsAt0_B m c t h]; frame_out
  canon_tiles x h'
  all_goals
    open_payloads
    pointwise
    have hr : x 0 = r := Fin.ext h'0.symm
    refine congrArg₂ (· + ·) (congrArg (outsAt0 m c (t.val - 1) _) ?_) (Finset.sum_congr rfl fun k _ => mul_congr _ _ rfl h'0 rfl h'1)
    exact congrArg₂ ix2 hr (Fin.ext h'1.symm)

/-- The reference's result, entry by entry. -/
theorem ref_eq (x0 : (⟨2, ![8192, 1024]⟩ : Shape).Idx → EReal) (x1 : (⟨2, ![8192, 6656]⟩ : Shape).Idx → EReal) (r : Fin 1024)
    (j : Fin 6656) : val_main_v5 (F := Ideal) x0 x1 (ix2 r j) = ∑ k : Fin 8192, x0 (ix2 k r) * x1 (ix2 k j) := by
  rw [val_main_v5_apply, val_main_v4_apply]
  exact Finset.sum_congr rfl fun k _ => by
    rw [val_main_v3_apply, val_main_v1_apply]
    simp only [Ideal.extf_def]
    rw [mul_comm]
    exact mul_congr x0 x1 rfl rfl rfl rfl

theorem final : (dats m 0 c).arrAt 2 cfg0.N = val_main_v5 (F := Ideal) (argL m c) (argR m c) := by
  refine (dats m 0 c).arrAt_eq_of_covers 2 _ (by decide +kernel) fun t hf y => ?_
  blk_simp
  obtain ⟨r, j, rfl⟩ : ∃ (r : Fin 1024) (j : Fin 3328), y = ix2 r j := ⟨y 0, y 1, eq_ix2 y⟩
  have he : (win0_2.blk t).view.emb (ix2 r j) = ix2 r (col (t.val / 8) j) := by
    have ht := half t
    unfold col
    blk_ext [idx2 t]
  rw [after0_2, he, ref_eq]
  exact run_sum (fun n h => outsAt0 m c n h (ix2 r j)) (fun s k => argL m c (ix2 k r) * argR m c (ix2 k (col s j)))
    (fun t h => out_A m c t h r j) (fun t h => out_B m c t h r j) t ((flush0_2 t).mp hf)

end Cert.InDwIdeal.Hand

end
-- ==== Proof.InSmall.lean ====
/-
  The input projection's product with the narrow columns: each grid point holds 1024 rows of the normed input and the whole
  weight.
-/
module

public import proofs.«01_k».proof.Proof.Gen.InSmallIdeal.Value
public import proofs.«01_k».proof.Proof.Gen.InSmallRefIdeal.Read
public import proofs.«01_k».proof.Proof.Product

@[expose] public section

set_option maxRecDepth 16384

noncomputable section

namespace Cert.InSmallIdeal.Hand

open Cert.InSmallIdeal Cert.InSmallIdeal.Gen Idealize.ShloMosaic Idealize.ShloMosaic.TcCoe Idealize.SL.Sem
open Cert.InSmallRefIdeal.Read Cert.Product

variable (m : (ℓ : Loc nD τ sig) → Buf (Elt Ideal) ℓ) (c : Dev nD)

/-- The arguments as launched. -/
abbrev argL : (⟨2, ![8192, 1024]⟩ : Shape).Idx → EReal := m ((c.tc : Thread nD τ).loc main_arg0)
abbrev argR : (⟨2, ![1024, 128]⟩ : Shape).Idx → EReal := m ((c.tc : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem lt8 (t : Fin cfg0.N) : t.val < 8 := t.isLt

/-- Row `r` of a point's rows. -/
def row (t : Fin cfg0.N) (r : Fin 1024) : Fin 8192 := ⟨t.val * 1024 + r.val, by have := lt8 t; have := r.isLt; omega⟩

theorem blk0 (t : Fin cfg0.N) (r : Fin 1024) (k : Fin 1024) : iblk m c 0 t (ix2 r k) = argL m c (ix2 (row t r) k) := by
  unfold row
  blk_ext [iblk, V, idx0 t]

theorem blk1 (t : Fin cfg0.N) (k : Fin 1024) (j : Fin 128) : iblk m c 1 t (ix2 k j) = argR m c (ix2 k j) := by
  blk_ext [iblk, V, idx1 t]

/-- What a point writes is its rows times the weight's columns. -/
theorem out_eq (x0 : Vec Ideal S1024x1024 .bf16) (x1 : Vec Ideal S1024x128 .bf16) (r : Fin 1024) (j : Fin 128) :
    out0_2 x0 x1 (ix2 r j) = ∑ k : Fin 1024, (x0 (ix2 r k) * x1 (ix2 k j) : EReal) := by
  canon_tiles x h using cover0_2 ..
  all_goals
    open_payloads
    pointwise
    exact Finset.sum_congr rfl fun k _ => mul_congr x0 x1 h0 rfl rfl h1

/-- The reference's result, entry by entry. -/
theorem ref_eq (x0 : (⟨2, ![8192, 1024]⟩ : Shape).Idx → EReal) (x1 : (⟨2, ![1024, 128]⟩ : Shape).Idx → EReal) (r : Fin 8192)
    (j : Fin 128) : val_main_v2 (F := Ideal) x0 x1 (ix2 r j) = ∑ k : Fin 1024, x0 (ix2 r k) * x1 (ix2 k j) := by
  rw [val_main_v2_apply]
  exact Finset.sum_congr rfl fun k _ => by
    rw [val_main_v0_apply, val_main_v1_apply]
    simp only [Ideal.extf_def]
    exact mul_congr x0 x1 rfl rfl rfl rfl

theorem final : (dats m 0 c).arrAt 2 cfg0.N = val_main_v2 (F := Ideal) (argL m c) (argR m c) := by
  refine (dats m 0 c).arrAt_eq_of_covers 2 _ (by decide +kernel) fun t hf y => ?_
  blk_simp
  obtain ⟨r, j, rfl⟩ : ∃ (r : Fin 1024) (j : Fin 128), y = ix2 r j := ⟨y 0, y 1, eq_ix2 y⟩
  have he : (win0_2.blk t).view.emb (ix2 r j) = ix2 (row t r) j := by
    unfold row
    blk_ext [idx2 t]
  rw [after0_2, he, ref_eq]
  refine (out_eq _ _ r j).trans (Finset.sum_congr rfl fun k _ => ?_)
  rw [blk0, blk1]

end Cert.InSmallIdeal.Hand

end
-- ==== Proof.InSmallDx.lean ====
/-
  The product that takes the narrow columns' cotangent back through the input projection: each grid point holds 1024 rows
  of the cotangent and the whole weight, and writes two tiles of 512 columns.
-/
module

public import proofs.«01_k».proof.Proof.Gen.InSmallDxIdeal.Value
public import proofs.«01_k».proof.Proof.Gen.InSmallDxRefIdeal.Read
public import proofs.«01_k».proof.Proof.Product

@[expose] public section

set_option maxRecDepth 16384

noncomputable section

namespace Cert.InSmallDxIdeal.Hand

open Cert.InSmallDxIdeal Cert.InSmallDxIdeal.Gen Idealize.ShloMosaic Idealize.ShloMosaic.TcCoe Idealize.SL.Sem
open Cert.InSmallDxRefIdeal.Read Cert.Product

variable (m : (ℓ : Loc nD τ sig) → Buf (Elt Ideal) ℓ) (c : Dev nD)

/-- The arguments as launched. -/
abbrev argL : (⟨2, ![8192, 128]⟩ : Shape).Idx → EReal := m ((c.tc : Thread nD τ).loc main_arg0)
abbrev argR : (⟨2, ![1024, 128]⟩ : Shape).Idx → EReal := m ((c.tc : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem lt8 (t : Fin cfg0.N) : t.val < 8 := t.isLt

/-- Row `r` of a point's rows. -/
def row (t : Fin cfg0.N) (r : Fin 1024) : Fin 8192 := ⟨t.val * 1024 + r.val, by have := lt8 t; have := r.isLt; omega⟩

theorem blk0 (t : Fin cfg0.N) (r : Fin 1024) (k : Fin 128) : iblk m c 0 t (ix2 r k) = argL m c (ix2 (row t r) k) := by
  unfold row
  blk_ext [iblk, V, idx0 t]

theorem blk1 (t : Fin cfg0.N) (j : Fin 1024) (k : Fin 128) : iblk m c 1 t (ix2 j k) = argR m c (ix2 j k) := by
  blk_ext [iblk, V, idx1 t]

/-- What a point writes is its rows times the weight's. -/
theorem out_eq (x0 : Vec Ideal S1024x128 .bf16) (x1 : Vec Ideal S1024x128 .bf16) (r : Fin 1024) (j : Fin 1024) :
    out0_2 x0 x1 (ix2 r j) = ∑ k : Fin 128, (x0 (ix2 r k) * x1 (ix2 j k) : EReal) := by
  canon_tiles x h using cover0_2 ..
  all_goals
    open_payloads
    pointwise
    exact Finset.sum_congr rfl fun k _ => mul_congr x0 x1 h0 rfl h1 rfl

/-- The reference's result, entry by entry. -/
theorem ref_eq (x0 : (⟨2, ![8192, 128]⟩ : Shape).Idx → EReal) (x1 : (⟨2, ![1024, 128]⟩ : Shape).Idx → EReal) (r : Fin 8192)
    (j : Fin 1024) : val_main_v4 (F := Ideal) x0 x1 (ix2 r j) = ∑ k : Fin 128, x0 (ix2 r k) * x1 (ix2 j k) := by
  rw [val_main_v4_apply]
  exact Finset.sum_congr rfl fun k _ => by
    rw [val_main_v3_apply, val_main_v1_apply]
    simp only [Ideal.extf_def]
    exact mul_congr x0 x1 rfl rfl rfl rfl

theorem final : (dats m 0 c).arrAt 2 cfg0.N = val_main_v4 (F := Ideal) (argL m c) (argR m c) := by
  refine (dats m 0 c).arrAt_eq_of_covers 2 _ (by decide +kernel) fun t hf y => ?_
  blk_simp
  obtain ⟨r, j, rfl⟩ : ∃ (r : Fin 1024) (j : Fin 1024), y = ix2 r j := ⟨y 0, y 1, eq_ix2 y⟩
  have he : (win0_2.blk t).view.emb (ix2 r j) = ix2 (row t r) j := by
    unfold row
    blk_ext [idx2 t]
  rw [after0_2, he, ref_eq]
  refine (out_eq _ _ r j).trans (Finset.sum_congr rfl fun k _ => ?_)
  rw [blk0, blk1]

end Cert.InSmallDxIdeal.Hand

end
-- ==== Proof.InSmallDw.lean ====
/-
  The gradient of the input projection's narrow columns: eight points add the products of 1024 rows of the normed input and
  of the cotangent into one block.
-/
module

public import proofs.«01_k».proof.Proof.Gen.InSmallDwIdeal.Value
public import proofs.«01_k».proof.Proof.Gen.InSmallDwRefIdeal.Read
public import proofs.«01_k».proof.Proof.Product

@[expose] public section

set_option maxRecDepth 16384

noncomputable section

namespace Cert.InSmallDwIdeal.Hand

open Cert.InSmallDwIdeal Cert.InSmallDwIdeal.Gen Idealize.ShloMosaic Idealize.ShloMosaic.TcCoe Idealize.SL.Sem
open Cert.InSmallDwRefIdeal.Read Cert.Product

variable (m : (ℓ : Loc nD τ sig) → Buf (Elt Ideal) ℓ) (c : Dev nD)

/-- The arguments as launched. -/
abbrev argL : (⟨2, ![8192, 1024]⟩ : Shape).Idx → EReal := m ((c.tc : Thread nD τ).loc main_arg0)
abbrev argR : (⟨2, ![8192, 128]⟩ : Shape).Idx → EReal := m ((c.tc : Thread nD τ).loc main_arg1)

/-- The blocks a point loads. -/
abbrev blkL (t : Fin cfg0.N) : (⟨2, ![1024, 1024]⟩ : Shape).Idx → EReal := iblk m c 0 t
abbrev blkR (t : Fin cfg0.N) : (⟨2, ![1024, 128]⟩ : Shape).Idx → EReal := iblk m c 1 t

theorem idx0 : ∀ t : Fin cfg0.N, win0_0.index t = ![t.val % 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![0, 0] := (by decide +kernel : ∀ t : Fin grid0.N, _)

theorem blk0 (t : Fin cfg0.N) (k : Fin 1024) (r : Fin 1024) : iblk m c 0 t (ix2 k r) = argL m c (ix2 (lane t.val k) r) := by
  unfold lane
  blk_ext [iblk, V, idx0 t]

theorem blk1 (t : Fin cfg0.N) (k : Fin 1024) (j : Fin 128) : iblk m c 1 t (ix2 k j) = argR m c (ix2 (lane t.val k) j) := by
  unfold lane
  blk_ext [iblk, V, idx1 t]

/-- What a point adds. -/
theorem part_eq (t : Fin cfg0.N) (r : Fin 1024) (j : Fin 128) :
    ∑ k : Fin 1024, blkL m c t (ix2 k r) * blkR m c t (ix2 k j)
      = ∑ k : Fin 1024, argL m c (ix2 (lane t.val k) r) * argR m c (ix2 (lane t.val k) j) :=
  Finset.sum_congr rfl fun k _ => congrArg₂ (· * ·) (blk0 m c t k r) (blk1 m c t k j)

theorem out_A (t : Fin cfg0.N) (h : t.val % 8 = 0) (r : Fin 1024) (j : Fin 128) : outsAt0 m c t.val t.isLt (ix2 r j) =
    0 + ∑ k : Fin 1024, argL m c (ix2 (lane t.val k) r) * argR m c (ix2 (lane t.val k) j) := by
  rw [← part_eq, outsAt0_A m c t h]; frame_out
  open_payloads
  pointwise

theorem out_B (t : Fin cfg0.N) (h : ¬t.val % 8 = 0) (r : Fin 1024) (j : Fin 128) : outsAt0 m c t.val t.isLt (ix2 r j) =
    outsAt0 m c (t.val - 1) (Nat.lt_of_le_of_lt (Nat.sub_le _ _) t.isLt) (ix2 r j)
      + ∑ k : Fin 1024, argL m c (ix2 (lane t.val k) r) * argR m c (ix2 (lane t.val k) j) := by
  rw [← part_eq, outsAt0_B m c t h]; frame_out
  open_payloads
  pointwise

/-- The reference's result, entry by entry. -/
theorem ref_eq (x0 : (⟨2, ![8192, 1024]⟩ : Shape).Idx → EReal) (x1 : (⟨2, ![8192, 128]⟩ : Shape).Idx → EReal) (r : Fin 1024)
    (j : Fin 128) : val_main_v5 (F := Ideal) x0 x1 (ix2 r j) = ∑ k : Fin 8192, x0 (ix2 k r) * x1 (ix2 k j) := by
  rw [val_main_v5_apply, val_main_v4_apply]
  exact Finset.sum_congr rfl fun k _ => by
    rw [val_main_v3_apply, val_main_v1_apply]
    simp only [Ideal.extf_def]
    rw [mul_comm]
    exact mul_congr x0 x1 rfl rfl rfl rfl

theorem final : (dats m 0 c).arrAt 2 cfg0.N = val_main_v5 (F := Ideal) (argL m c) (argR m c) := by
  refine (dats m 0 c).arrAt_eq_of_covers 2 _ (by decide +kernel) fun t hf y => ?_
  blk_simp
  obtain ⟨r, j, rfl⟩ : ∃ (r : Fin 1024) (j : Fin 128), y = ix2 r j := ⟨y 0, y 1, eq_ix2 y⟩
  have he : (win0_2.blk t).view.emb (ix2 r j) = ix2 r j := by
    blk_ext [idx2 t]
  rw [after0_2, he, ref_eq]
  exact run_sum (fun n h => outsAt0 m c n h (ix2 r j)) (fun _ k => argL m c (ix2 k r) * argR m c (ix2 k j))
    (fun t h => out_A m c t h r j) (fun t h => out_B m c t h r j) t ((flush0_2 t).mp hf)

end Cert.InSmallDwIdeal.Hand

end
-- ==== Proof.ProductClaims.lean ====
/-
  The claims about the products: each reference runs and keeps its arguments, and from equal arguments leaves the array
  its kernel leaves.
-/
module

public import proofs.«01_k».proof.Defs
public import proofs.«01_k».proof.Proof.DownDx
public import proofs.«01_k».proof.Proof.DownDw
public import proofs.«01_k».proof.Proof.UpDx
public import proofs.«01_k».proof.Proof.OutDx
public import proofs.«01_k».proof.Proof.OutDw
public import proofs.«01_k».proof.Proof.UpDw
public import proofs.«01_k».proof.Proof.Up
public import proofs.«01_k».proof.Proof.Down
public import proofs.«01_k».proof.Proof.Out
public import proofs.«01_k».proof.Proof.InDw
public import proofs.«01_k».proof.Proof.InSmall
public import proofs.«01_k».proof.Proof.InSmallDx
public import proofs.«01_k».proof.Proof.InSmallDw

@[expose] public section

noncomputable section

namespace Cert.Proof

open Idealize.ShloMosaic Idealize.SL.Sem

theorem DownDx.reference_frame : Cert.quiescent_DownDxRefIdeal (hDownDxRefIdeal := Cert.DownDxRefIdeal.Gen.facts) := fun m ρ _ =>
  (θ_run Cert.DownDxRefIdeal.defs _ _).mono (fun r h => ⟨fun c => (h c).2, sem_eq_zero_of_no_sems (by decide) r.2⟩)
    (Cert.DownDxRefIdeal.Value.run (F := Ideal) m ρ)

theorem DownDx.value : Cert.algebraic_DownDxIdeal_DownDxRefIdeal (hDownDxIdeal := Cert.DownDxIdeal.Gen.facts) (hDownDxRefIdeal := Cert.DownDxRefIdeal.Gen.facts) := by
  intro m ρ m' ρ' _ hagree
  refine ⟨_, Cert.DownDxIdeal.Value.run_blocks (F := Ideal) m ρ,
    (θ_run Cert.DownDxRefIdeal.defs _ _).mono (fun _ h c => ⟨(h c).1.trans ?_, (h c).2⟩) (Cert.DownDxRefIdeal.Value.run (F := Ideal) m' ρ')⟩
  rw [Cert.DownDxRefIdeal.Read.val_main_v4_eq, (hagree c).1, (hagree c).2]
  exact (Cert.DownDxIdeal.Hand.final m c).symm

theorem DownDw.reference_frame : Cert.quiescent_DownDwRefIdeal (hDownDwRefIdeal := Cert.DownDwRefIdeal.Gen.facts) := fun m ρ _ =>
  (θ_run Cert.DownDwRefIdeal.defs _ _).mono (fun r h => ⟨fun c => (h c).2, sem_eq_zero_of_no_sems (by decide) r.2⟩)
    (Cert.DownDwRefIdeal.Value.run (F := Ideal) m ρ)

theorem DownDw.value : Cert.algebraic_DownDwIdeal_DownDwRefIdeal (hDownDwIdeal := Cert.DownDwIdeal.Gen.facts) (hDownDwRefIdeal := Cert.DownDwRefIdeal.Gen.facts) := by
  intro m ρ m' ρ' _ hagree
  refine ⟨_, Cert.DownDwIdeal.Value.run_blocks (F := Ideal) m ρ,
    (θ_run Cert.DownDwRefIdeal.defs _ _).mono (fun _ h c => ⟨(h c).1.trans ?_, (h c).2⟩) (Cert.DownDwRefIdeal.Value.run (F := Ideal) m' ρ')⟩
  rw [Cert.DownDwRefIdeal.Read.val_main_v5_eq, (hagree c).1, (hagree c).2]
  exact (Cert.DownDwIdeal.Hand.final m c).symm

theorem UpDx.reference_frame : Cert.quiescent_UpDxRefIdeal (hUpDxRefIdeal := Cert.UpDxRefIdeal.Gen.facts) := fun m ρ _ =>
  (θ_run Cert.UpDxRefIdeal.defs _ _).mono (fun r h => ⟨fun c => (h c).2, sem_eq_zero_of_no_sems (by decide) r.2⟩)
    (Cert.UpDxRefIdeal.Value.run (F := Ideal) m ρ)

theorem UpDx.value : Cert.algebraic_UpDxIdeal_UpDxRefIdeal (hUpDxIdeal := Cert.UpDxIdeal.Gen.facts) (hUpDxRefIdeal := Cert.UpDxRefIdeal.Gen.facts) := by
  intro m ρ m' ρ' _ hagree
  refine ⟨_, Cert.UpDxIdeal.Value.run_blocks (F := Ideal) m ρ,
    (θ_run Cert.UpDxRefIdeal.defs _ _).mono (fun _ h c => ⟨(h c).1.trans ?_, (h c).2⟩) (Cert.UpDxRefIdeal.Value.run (F := Ideal) m' ρ')⟩
  rw [Cert.UpDxRefIdeal.Read.val_main_v5_eq, (hagree c).1, (hagree c).2.1, (hagree c).2.2]
  exact (Cert.UpDxIdeal.Hand.final m c).symm

theorem OutDx.reference_frame : Cert.quiescent_OutDxRefIdeal (hOutDxRefIdeal := Cert.OutDxRefIdeal.Gen.facts) := fun m ρ _ =>
  (θ_run Cert.OutDxRefIdeal.defs _ _).mono (fun r h => ⟨fun c => (h c).2, sem_eq_zero_of_no_sems (by decide) r.2⟩)
    (Cert.OutDxRefIdeal.Value.run (F := Ideal) m ρ)

theorem OutDx.value : Cert.algebraic_OutDxIdeal_OutDxRefIdeal (hOutDxIdeal := Cert.OutDxIdeal.Gen.facts) (hOutDxRefIdeal := Cert.OutDxRefIdeal.Gen.facts) := by
  intro m ρ m' ρ' _ hagree
  refine ⟨_, Cert.OutDxIdeal.Value.run_blocks (F := Ideal) m ρ,
    (θ_run Cert.OutDxRefIdeal.defs _ _).mono (fun _ h c => ⟨(h c).1.trans ?_, (h c).2⟩) (Cert.OutDxRefIdeal.Value.run (F := Ideal) m' ρ')⟩
  rw [Cert.OutDxRefIdeal.Read.val_main_v4_eq, (hagree c).1, (hagree c).2]
  exact (Cert.OutDxIdeal.Hand.final m c).symm

theorem OutDw.reference_frame : Cert.quiescent_OutDwRefIdeal (hOutDwRefIdeal := Cert.OutDwRefIdeal.Gen.facts) := fun m ρ _ =>
  (θ_run Cert.OutDwRefIdeal.defs _ _).mono (fun r h => ⟨fun c => (h c).2, sem_eq_zero_of_no_sems (by decide) r.2⟩)
    (Cert.OutDwRefIdeal.Value.run (F := Ideal) m ρ)

theorem OutDw.value : Cert.algebraic_OutDwIdeal_OutDwRefIdeal (hOutDwIdeal := Cert.OutDwIdeal.Gen.facts) (hOutDwRefIdeal := Cert.OutDwRefIdeal.Gen.facts) := by
  intro m ρ m' ρ' _ hagree
  refine ⟨_, Cert.OutDwIdeal.Value.run_blocks (F := Ideal) m ρ,
    (θ_run Cert.OutDwRefIdeal.defs _ _).mono (fun _ h c => ⟨(h c).1.trans ?_, (h c).2⟩) (Cert.OutDwRefIdeal.Value.run (F := Ideal) m' ρ')⟩
  rw [Cert.OutDwRefIdeal.Read.val_main_v5_eq, (hagree c).1, (hagree c).2]
  exact (Cert.OutDwIdeal.Hand.final m c).symm

theorem InDw.reference_frame : Cert.quiescent_InDwRefIdeal (hInDwRefIdeal := Cert.InDwRefIdeal.Gen.facts) := fun m ρ _ =>
  (θ_run Cert.InDwRefIdeal.defs _ _).mono (fun r h => ⟨fun c => (h c).2, sem_eq_zero_of_no_sems (by decide) r.2⟩)
    (Cert.InDwRefIdeal.Value.run (F := Ideal) m ρ)

theorem InDw.value : Cert.algebraic_InDwIdeal_InDwRefIdeal (hInDwIdeal := Cert.InDwIdeal.Gen.facts) (hInDwRefIdeal := Cert.InDwRefIdeal.Gen.facts) := by
  intro m ρ m' ρ' _ hagree
  refine ⟨_, Cert.InDwIdeal.Value.run_blocks (F := Ideal) m ρ,
    (θ_run Cert.InDwRefIdeal.defs _ _).mono (fun _ h c => ⟨(h c).1.trans ?_, (h c).2⟩) (Cert.InDwRefIdeal.Value.run (F := Ideal) m' ρ')⟩
  rw [Cert.InDwRefIdeal.Read.val_main_v5_eq, (hagree c).1, (hagree c).2]
  exact (Cert.InDwIdeal.Hand.final m c).symm

theorem Up.reference_frame : Cert.quiescent_UpRefIdeal (hUpRefIdeal := Cert.UpRefIdeal.Gen.facts) := fun m ρ _ =>
  (θ_run Cert.UpRefIdeal.defs _ _).mono (fun r h => ⟨fun c => (h c).2, sem_eq_zero_of_no_sems (by decide) r.2⟩)
    (Cert.UpRefIdeal.Value.run (F := Ideal) m ρ)

theorem Up.value : Cert.algebraic_UpIdeal_UpRefIdeal (hUpIdeal := Cert.UpIdeal.Gen.facts) (hUpRefIdeal := Cert.UpRefIdeal.Gen.facts) := by
  intro m ρ m' ρ' _ hagree
  refine ⟨_, Cert.UpIdeal.Value.run_blocks (F := Ideal) m ρ,
    (θ_run Cert.UpRefIdeal.defs _ _).mono (fun _ h c => ⟨(h c).1.trans ?_, (h c).2⟩) (Cert.UpRefIdeal.Value.run (F := Ideal) m' ρ')⟩
  rw [Cert.UpRefIdeal.Read.val_main_v3_eq, (hagree c).1, (hagree c).2]
  exact (Cert.UpIdeal.Hand.final m c).symm

theorem Down.reference_frame : Cert.quiescent_DownRefIdeal (hDownRefIdeal := Cert.DownRefIdeal.Gen.facts) := fun m ρ _ =>
  (θ_run Cert.DownRefIdeal.defs _ _).mono (fun r h => ⟨fun c => (h c).2, sem_eq_zero_of_no_sems (by decide) r.2⟩)
    (Cert.DownRefIdeal.Value.run (F := Ideal) m ρ)

theorem Down.value : Cert.algebraic_DownIdeal_DownRefIdeal (hDownIdeal := Cert.DownIdeal.Gen.facts) (hDownRefIdeal := Cert.DownRefIdeal.Gen.facts) := by
  intro m ρ m' ρ' _ hagree
  refine ⟨_, Cert.DownIdeal.Value.run_blocks (F := Ideal) m ρ,
    (θ_run Cert.DownRefIdeal.defs _ _).mono (fun _ h c => ⟨(h c).1.trans ?_, (h c).2⟩) (Cert.DownRefIdeal.Value.run (F := Ideal) m' ρ')⟩
  rw [Cert.DownRefIdeal.Read.val_main_v2_eq, (hagree c).1, (hagree c).2]
  exact (Cert.DownIdeal.Hand.final m c).symm

theorem Out.reference_frame : Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.Value.run (F := Ideal) m ρ)

theorem Out.value : Cert.algebraic_OutIdeal_OutRefIdeal (hOutIdeal := Cert.OutIdeal.Gen.facts) (hOutRefIdeal := Cert.OutRefIdeal.Gen.facts) := by
  intro m ρ m' ρ' _ hagree
  refine ⟨_, Cert.OutIdeal.Value.run_blocks (F := Ideal) m ρ,
    (θ_run Cert.OutRefIdeal.defs _ _).mono (fun _ h c => ⟨(h c).1.trans ?_, (h c).2⟩) (Cert.OutRefIdeal.Value.run (F := Ideal) m' ρ')⟩
  rw [Cert.OutRefIdeal.Read.val_main_v2_eq, (hagree c).1, (hagree c).2]
  exact (Cert.OutIdeal.Hand.final m c).symm

theorem UpDw.reference_frame : Cert.quiescent_UpDwRefIdeal (hUpDwRefIdeal := Cert.UpDwRefIdeal.Gen.facts) := fun m ρ _ =>
  (θ_run Cert.UpDwRefIdeal.defs _ _).mono (fun r h => ⟨fun c => (h c).2, sem_eq_zero_of_no_sems (by decide) r.2⟩)
    (Cert.UpDwRefIdeal.Value.run (F := Ideal) m ρ)

theorem UpDw.value : Cert.algebraic_UpDwIdeal_UpDwRefIdeal (hUpDwIdeal := Cert.UpDwIdeal.Gen.facts) (hUpDwRefIdeal := Cert.UpDwRefIdeal.Gen.facts) := by
  intro m ρ m' ρ' _ hagree
  refine ⟨fun c => Cert.UpDwIdeal.Gen.W3 (F := Ideal) m ρ c (Proc.devRef .tc Cert.UpDwIdeal.main_v1),
    (θ_run Cert.UpDwIdeal.defs _ _).mono (fun _ h c => ⟨h c _ (Cert.UpDwIdeal.Gen.mem_uc Cert.UpDwIdeal.main_v1 (by decide)),
      (h c _ (Cert.UpDwIdeal.Gen.mem_uc Cert.UpDwIdeal.main_arg0 (by decide))).trans (Cert.UpDwIdeal.Gen.W3_main_arg0 m ρ c),
      (h c _ (Cert.UpDwIdeal.Gen.mem_uc Cert.UpDwIdeal.main_arg1 (by decide))).trans (Cert.UpDwIdeal.Gen.W3_main_arg1 m ρ c),
      (h c _ (Cert.UpDwIdeal.Gen.mem_uc Cert.UpDwIdeal.main_arg2 (by decide))).trans (Cert.UpDwIdeal.Gen.W3_main_arg2 m ρ c)⟩)
      (Cert.UpDwIdeal.Hand.run m ρ),
    (θ_run Cert.UpDwRefIdeal.defs _ _).mono (fun _ h c => ⟨(h c).1.trans ?_, (h c).2⟩) (Cert.UpDwRefIdeal.Value.run (F := Ideal) m' ρ')⟩
  rw [Cert.UpDwRefIdeal.Read.val_main_v8_eq, (hagree c).1, (hagree c).2.1, (hagree c).2.2]
  exact (Cert.UpDwIdeal.Hand.final m c ρ).symm

theorem InSmall.reference_frame : Cert.quiescent_InSmallRefIdeal (hInSmallRefIdeal := Cert.InSmallRefIdeal.Gen.facts) := fun m ρ _ =>
  (θ_run Cert.InSmallRefIdeal.defs _ _).mono (fun r h => ⟨fun c => (h c).2, sem_eq_zero_of_no_sems (by decide) r.2⟩)
    (Cert.InSmallRefIdeal.Value.run (F := Ideal) m ρ)

theorem InSmall.value : Cert.algebraic_InSmallIdeal_InSmallRefIdeal (hInSmallIdeal := Cert.InSmallIdeal.Gen.facts) (hInSmallRefIdeal := Cert.InSmallRefIdeal.Gen.facts) := by
  intro m ρ m' ρ' _ hagree
  refine ⟨_, Cert.InSmallIdeal.Value.run_blocks (F := Ideal) m ρ,
    (θ_run Cert.InSmallRefIdeal.defs _ _).mono (fun _ h c => ⟨(h c).1.trans ?_, (h c).2⟩) (Cert.InSmallRefIdeal.Value.run (F := Ideal) m' ρ')⟩
  rw [Cert.InSmallRefIdeal.Read.val_main_v2_eq, (hagree c).1, (hagree c).2]
  exact (Cert.InSmallIdeal.Hand.final m c).symm

theorem InSmallDx.reference_frame : Cert.quiescent_InSmallDxRefIdeal (hInSmallDxRefIdeal := Cert.InSmallDxRefIdeal.Gen.facts) := fun m ρ _ =>
  (θ_run Cert.InSmallDxRefIdeal.defs _ _).mono (fun r h => ⟨fun c => (h c).2, sem_eq_zero_of_no_sems (by decide) r.2⟩)
    (Cert.InSmallDxRefIdeal.Value.run (F := Ideal) m ρ)

theorem InSmallDx.value : Cert.algebraic_InSmallDxIdeal_InSmallDxRefIdeal (hInSmallDxIdeal := Cert.InSmallDxIdeal.Gen.facts) (hInSmallDxRefIdeal := Cert.InSmallDxRefIdeal.Gen.facts) := by
  intro m ρ m' ρ' _ hagree
  refine ⟨_, Cert.InSmallDxIdeal.Value.run_blocks (F := Ideal) m ρ,
    (θ_run Cert.InSmallDxRefIdeal.defs _ _).mono (fun _ h c => ⟨(h c).1.trans ?_, (h c).2⟩) (Cert.InSmallDxRefIdeal.Value.run (F := Ideal) m' ρ')⟩
  rw [Cert.InSmallDxRefIdeal.Read.val_main_v4_eq, (hagree c).1, (hagree c).2]
  exact (Cert.InSmallDxIdeal.Hand.final m c).symm

theorem InSmallDw.reference_frame : Cert.quiescent_InSmallDwRefIdeal (hInSmallDwRefIdeal := Cert.InSmallDwRefIdeal.Gen.facts) := fun m ρ _ =>
  (θ_run Cert.InSmallDwRefIdeal.defs _ _).mono (fun r h => ⟨fun c => (h c).2, sem_eq_zero_of_no_sems (by decide) r.2⟩)
    (Cert.InSmallDwRefIdeal.Value.run (F := Ideal) m ρ)

theorem InSmallDw.value : Cert.algebraic_InSmallDwIdeal_InSmallDwRefIdeal (hInSmallDwIdeal := Cert.InSmallDwIdeal.Gen.facts) (hInSmallDwRefIdeal := Cert.InSmallDwRefIdeal.Gen.facts) := by
  intro m ρ m' ρ' _ hagree
  refine ⟨_, Cert.InSmallDwIdeal.Value.run_blocks (F := Ideal) m ρ,
    (θ_run Cert.InSmallDwRefIdeal.defs _ _).mono (fun _ h c => ⟨(h c).1.trans ?_, (h c).2⟩) (Cert.InSmallDwRefIdeal.Value.run (F := Ideal) m' ρ')⟩
  rw [Cert.InSmallDwRefIdeal.Read.val_main_v5_eq, (hagree c).1, (hagree c).2]
  exact (Cert.InSmallDwIdeal.Hand.final m c).symm

end Cert.Proof

end
-- ==== Proof.RmsSpec.lean ====
/-
  The root-mean-square norm of a row of 1024 and its gradient, over the extended reals; and sums over the 8192 rows taken
  512 at a time.
-/
module

public import Idealize.ShloMosaic.Lib.Pointwise
public import Idealize.ShloMosaic.Lib.Pipeline.ValueKit

@[expose] public section

noncomputable section

namespace Cert.Rms

open Idealize.ShloMosaic

/-- The mean square of a row, with the norm's epsilon. -/
def ms (x : Fin 1024 → EReal) : EReal :=
  Ideal.div (∑ k, x k * x k) (Ideal.ofBits .f32 0x44800000#32) + Ideal.ofBits .f32 0x358637BD#32

/-- The row over its root mean square. -/
def unit (x : Fin 1024 → EReal) (j : Fin 1024) : EReal := x j * Ideal.rsqrt (ms x)

/-- Half the cotangent of the mean square over the row's length, from the cotangent `g` of `unit x`. -/
def slope (x g : Fin 1024 → EReal) : EReal :=
  Ideal.div ((∑ k, x k * g k) * (Ideal.ofBits .f32 0xBF000000#32 * Ideal.div (Ideal.rsqrt (ms x)) (ms x)))
    (Ideal.ofBits .f32 0x44800000#32)

/-- The gradient of the row from the cotangent `g` of `unit x`. -/
def dx (x g : Fin 1024 → EReal) (j : Fin 1024) : EReal := g j * Ideal.rsqrt (ms x) + x j * slope x g + slope x g * x j

/-! ### Rows -/

/-- Row `r` of a matrix. -/
def line {n : ℕ} (X : (⟨2, ![n, 1024]⟩ : Shape).Idx → EReal) (r : Fin n) (j : Fin 1024) : EReal := X (ix2 r j)

/-- Row `r` of the 512 of point `t`. -/
def at512 (t : ℕ) (r : Fin 512) : Fin 8192 := ⟨t % 16 * 512 + r.val, by have := r.isLt; omega⟩

/-- Zeroed at the first of sixteen points and added into at each, the last point's value is the sum over all rows. -/
theorem rows_sum {S : ℕ} (f : (n : ℕ) → n < S → EReal) (P : Fin 8192 → EReal)
    (hA : ∀ t : Fin S, t.val % 16 = 0 → f t.val t.isLt = 0 + ∑ r : Fin 512, P (at512 t.val r))
    (hB : ∀ t : Fin S, ¬t.val % 16 = 0 →
      f t.val t.isLt = f (t.val - 1) (Nat.lt_of_le_of_lt (Nat.sub_le _ _) t.isLt) + ∑ r : Fin 512, P (at512 t.val r))
    (t : Fin S) (ht : t.val % 16 = 15) : f t.val t.isLt = ∑ r : Fin 8192, P r := by
  rw [Pipeline.eq_sum_fin_of_reset_step_of_flush f 16 0 (fun t => ∑ r : Fin 512, P (at512 t.val r)) hA hB t ht, zero_add]
  refine Fin.sum_mul_add_congr (hL := by decide) fun s k hl => ?_
  have hs := s.isLt
  show P (at512 (16 * (t.val / 16) + s.val) k) = _
  congr 1
  apply Fin.ext
  show (16 * (t.val / 16) + s.val) % 16 * 512 + k.val = s.val * 512 + k.val
  have : (16 * (t.val / 16) + s.val) % 16 = s.val := by omega
  rw [this]

end Cert.Rms

end
-- ==== Proof.Norm.lean ====
/-
  The gradient of the first norm: point `t` of the grid takes the 512 rows from `512 t`, leaves their gradient, and adds
  into the weight's.
-/
module

public import proofs.«01_k».proof.Defs
public import proofs.«01_k».proof.Proof.Gen.NormIdeal.Value
public import proofs.«01_k».proof.Proof.Gen.NormRefIdeal.Run
public import proofs.«01_k».proof.Proof.Gen.NormRefIdeal.Read
public import proofs.«01_k».proof.Proof.RmsSpec

@[expose] public section

set_option maxRecDepth 16384

noncomputable section

namespace Cert.NormRefIdeal.Hand

open Cert.NormRefIdeal Cert.NormRefIdeal.Read Cert.Rms Idealize.ShloMosaic Idealize.ShloMosaic.TcCoe Idealize.SL.Sem

variable (X D E Y : FVec Ideal S8192x1024 .f32) (W : FVec Ideal S1x1024 .f32)

/-- The cotangent of a row over its root mean square. -/
def cot (r : Fin 8192) (j : Fin 1024) : EReal := (line D r j + line E r j) * W (ix2 0 j)

theorem v6_eq (r : Fin 8192) (q : Fin 1) : val_main_v6 (F := Ideal) X (ix2 r q) = ms (line X r) := by
  pointwise [val_main_v6, val_main_v5, val_main_cst_1, val_main_v4, val_main_v3, val_main_cst_0, val_main_v2, val_main_v1, val_main_cst, val_main_v0]
  rfl

theorem v7_eq (r : Fin 8192) (q : Fin 1) : val_main_v7 (F := Ideal) X (ix2 r q) = Ideal.rsqrt (ms (line X r)) := by
  rw [← v6_eq X r q]
  unfold val_main_v7
  generalize val_main_v6 (F := Ideal) X = z
  pointwise

theorem v30_eq (r : Fin 8192) (j : Fin 1024) : val_main_v30 (F := Ideal) X W D E (ix2 r j) = slope (line X r) (cot D E W r) := by
  have h7 := v7_eq X r
  have h6 := v6_eq X r
  unfold val_main_v30 val_main_v29 val_main_cst_6 val_main_v28 val_main_v27 val_main_cst_5 val_main_v26 val_main_v23 val_main_v22 val_main_cst_4 val_main_v21 val_main_v20 val_main_v19 val_main_v10 val_main_v9 val_main_cst_2 val_main_v8 val_main_v15
  generalize val_main_v7 (F := Ideal) X = z at h7 ⊢
  generalize val_main_v6 (F := Ideal) X = z' at h6 ⊢
  pointwise
  simp only [h7, h6, Fin.sum_univ_one]
  rfl

theorem v35_eq (r : Fin 8192) (j : Fin 1024) :
    val_main_v35 (F := Ideal) X W D E Y (ix2 r j) = dx (line X r) (cot D E W r) j + line Y r j := by
  have h30 := v30_eq X D E W r
  have h7 := v7_eq X r
  unfold val_main_v35 val_main_v34 val_main_v33 val_main_v32 val_main_v31 val_main_v25 val_main_v24 val_main_v20 val_main_v19 val_main_v15
  generalize val_main_v30 (F := Ideal) X W D E = z at h30 ⊢
  generalize val_main_v7 (F := Ideal) X = z' at h7 ⊢
  pointwise
  simp only [h30, h7]
  rfl

theorem v18_eq (q : Fin 1) (j : Fin 1024) :
    val_main_v18 (F := Ideal) X D E (ix2 q j) = ∑ r : Fin 8192, unit (line X r) j * (line D r j + line E r j) := by
  have h7 := v7_eq X
  unfold val_main_v18 val_main_v17 val_main_cst_3 val_main_v16 val_main_v15 val_main_v12 val_main_v11
  generalize val_main_v7 (F := Ideal) X = z' at h7 ⊢
  pointwise
  simp only [h7]
  rfl

end Cert.NormRefIdeal.Hand

namespace Cert.NormIdeal.Hand

open Cert.NormIdeal Cert.NormIdeal.Gen Cert.Rms Idealize.ShloMosaic Idealize.ShloMosaic.TcCoe Idealize.SL.Sem
open Cert.NormRefIdeal.Read Cert.NormRefIdeal.Hand

/-! ### The body -/

section Body

variable (x d e y : Vec Ideal S512x1024 .f32) (w : Vec Ideal S1x1024 .f32)

/-- The cotangent of a row of the block over its root mean square. -/
def blkCot (r : Fin 512) (j : Fin 1024) : EReal := (line d r j + line e r j) * w (ix2 0 j)

theorem pay4_eq (r : Fin 512) (q : Fin 1) : k0_pay4 (F := Ideal) x (ix2 r q) = ms (line x r) := by
  pointwise [k0_pay4]
  rfl

theorem pay5_eq (r : Fin 512) (q : Fin 1) : k0_pay5 (F := Ideal) x (ix2 r q) = Ideal.rsqrt (ms (line x r)) := by
  rw [← pay4_eq x r q]
  unfold k0_pay5
  generalize k0_pay4 (F := Ideal) x = z
  pointwise

theorem pay9_eq (r : Fin 512) (j : Fin 1024) : k0_pay9 (F := Ideal) x w d e (ix2 r j) = slope (line x r) (blkCot d e w r) := by
  have h5 := pay5_eq x r
  have h4 := pay4_eq x r
  unfold k0_pay9
  generalize k0_pay5 (F := Ideal) x = z at h5 ⊢
  generalize k0_pay4 (F := Ideal) x = z' at h4 ⊢
  pointwise [k0_pay8, k0_pay6]
  simp only [h5, h4, Fin.sum_univ_one]
  rfl

theorem pay1_eq (r : Fin 512) (j : Fin 1024) : k0_pay1 (F := Ideal) (k0_pay10 x w d e) (k0_pay11 x w d e) y (ix2 r j)
    = dx (line x r) (blkCot d e w r) j + line y r j := by
  have h9 := pay9_eq x d e w r
  have h5 := pay5_eq x r
  unfold k0_pay1 k0_pay10 k0_pay11
  generalize k0_pay9 (F := Ideal) x w d e = z at h9 ⊢
  generalize k0_pay5 (F := Ideal) x = z' at h5 ⊢
  pointwise [k0_pay8, k0_pay6]
  simp only [h9, h5]
  rfl

theorem pay2_eq (a : Vec Ideal S1x1024 .f32) (q : Fin 1) (j : Fin 1024) : k0_pay2 (F := Ideal) (k0_pay7 x d e) a (ix2 q j)
    = a (ix2 q j) + ∑ r : Fin 512, unit (line x r) j * (line d r j + line e r j) := by
  have h5 := pay5_eq x
  unfold k0_pay2 k0_pay7
  generalize k0_pay5 (F := Ideal) x = z' at h5 ⊢
  pointwise [k0_pay6]
  simp only [h5]
  rfl

theorem pay3_eq (q : Fin 1) (j : Fin 1024) : k0_pay3 (F := Ideal) (ix2 q j) = 0 := by
  pointwise [k0_pay3]

end Body

variable (m : (ℓ : Loc nD τ sig) → Buf (Elt Ideal) ℓ) (c : Dev nD)

abbrev argX : (⟨2, ![8192, 1024]⟩ : Shape).Idx → EReal := m ((c.tc : Thread nD τ).loc main_arg0)
abbrev argW : (⟨2, ![1, 1024]⟩ : Shape).Idx → EReal := m ((c.tc : Thread nD τ).loc main_arg1)
abbrev argD : (⟨2, ![8192, 1024]⟩ : Shape).Idx → EReal := m ((c.tc : Thread nD τ).loc main_arg2)
abbrev argE : (⟨2, ![8192, 1024]⟩ : Shape).Idx → EReal := m ((c.tc : Thread nD τ).loc main_arg3)
abbrev argY : (⟨2, ![8192, 1024]⟩ : Shape).Idx → EReal := m ((c.tc : Thread nD τ).loc main_arg4)

/-! ### The blocks -/

theorem idx0 : ∀ t : Fin cfg0.N, win0_0.index t = ![t.val % 16, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 16, 0] := (by decide +kernel : ∀ t : Fin grid0.N, _)
theorem idx3 : ∀ t : Fin cfg0.N, win0_3.index t = ![t.val % 16, 0] := (by decide +kernel : ∀ t : Fin grid0.N, _)
theorem idx4 : ∀ t : Fin cfg0.N, win0_4.index t = ![t.val % 16, 0] := (by decide +kernel : ∀ t : Fin grid0.N, _)
theorem idx5 : ∀ t : Fin cfg0.N, win0_5.index t = ![t.val % 16, 0] := (by decide +kernel : ∀ t : Fin grid0.N, _)
theorem idx6 : ∀ t : Fin cfg0.N, win0_6.index t = ![0, 0] := (by decide +kernel : ∀ t : Fin grid0.N, _)

theorem blk0 (t : Fin cfg0.N) (r : Fin 512) : line (n := 512) (iblk m c 0 t) r = line (argX m c) (at512 t.val r) := by
  funext j
  unfold line at512
  blk_ext [iblk, V, idx0 t]

theorem blk2 (t : Fin cfg0.N) (r : Fin 512) : line (n := 512) (iblk m c 2 t) r = line (argD m c) (at512 t.val r) := by
  funext j
  unfold line at512
  blk_ext [iblk, V, idx2 t]

theorem blk3 (t : Fin cfg0.N) (r : Fin 512) : line (n := 512) (iblk m c 3 t) r = line (argE m c) (at512 t.val r) := by
  funext j
  unfold line at512
  blk_ext [iblk, V, idx3 t]

theorem blk4 (t : Fin cfg0.N) (r : Fin 512) : line (n := 512) (iblk m c 4 t) r = line (argY m c) (at512 t.val r) := by
  funext j
  unfold line at512
  blk_ext [iblk, V, idx4 t]

theorem blk1 (t : Fin cfg0.N) (q : Fin 1) (j : Fin 1024) : iblk m c 1 t (ix2 q j) = argW m c (ix2 q j) := by
  blk_ext [iblk, V, idx1 t]

theorem blkCot_eq (t : Fin cfg0.N) (r : Fin 512) :
    blkCot (iblk m c 2 t) (iblk m c 3 t) (iblk m c 1 t) r = cot (argD m c) (argE m c) (argW m c) (at512 t.val r) := by
  funext j
  unfold blkCot cot
  rw [blk2, blk3, blk1]

/-! ### The outputs of a point -/

theorem out5 (t : Fin cfg0.N) (r : Fin 512) (j : Fin 1024) : (outsAt0 m c t.val t.isLt).1 (ix2 r j) =
    dx (line (argX m c) (at512 t.val r)) (cot (argD m c) (argE m c) (argW m c) (at512 t.val r)) j + line (argY m c) (at512 t.val r) j := by
  rw [← blkCot_eq, ← blk0, ← blk4]
  by_cases h : t.val % 16 = 0
  · rw [outsAt0_A m c t h]; frame_out
    exact pay1_eq ..
  · rw [outsAt0_B m c t h]; frame_out
    exact pay1_eq ..

/-- What row `r` adds to the weight's gradient. -/
abbrev dW (j : Fin 1024) (r : Fin 8192) : EReal := unit (line (argX m c) r) j * (line (argD m c) r j + line (argE m c) r j)

theorem out6_A (t : Fin cfg0.N) (h : t.val % 16 = 0) (q : Fin 1) (j : Fin 1024) :
    (outsAt0 m c t.val t.isLt).2 (ix2 q j) = 0 + ∑ r : Fin 512, dW m c j (at512 t.val r) := by
  rw [outsAt0_A m c t h]; frame_out
  refine (pay2_eq ..).trans ?_
  simp only [blk0, blk2, blk3]
  exact congrArg (· + _) (pay3_eq q j)

theorem out6_B (t : Fin cfg0.N) (h : ¬t.val % 16 = 0) (q : Fin 1) (j : Fin 1024) : (outsAt0 m c t.val t.isLt).2 (ix2 q j)
    = (outsAt0 m c (t.val - 1) (Nat.lt_of_le_of_lt (Nat.sub_le _ _) t.isLt)).2 (ix2 q j) + ∑ r : Fin 512, dW m c j (at512 t.val r) := by
  rw [outsAt0_B m c t h]; frame_out
  refine (pay2_eq ..).trans ?_
  simp only [blk0, blk2, blk3]

/-! ### The arrays -/

theorem final5 : (dats m 0 c).arrAt 5 cfg0.N = val_main_v35 (F := Ideal) (argX m c) (argW m c) (argD m c) (argE m c) (argY m c) := by
  refine (dats m 0 c).arrAt_eq_of_covers 5 _ (by decide +kernel) fun t hf y => ?_
  blk_simp
  obtain ⟨r, j, rfl⟩ : ∃ (r : Fin 512) (j : Fin 1024), y = ix2 r j := ⟨y 0, y 1, eq_ix2 y⟩
  have he : (win0_5.blk t).view.emb (ix2 r j) = ix2 (at512 t.val r) j := by
    unfold at512
    blk_ext [idx5 t]
  rw [after0_5, he, v35_eq]
  exact out5 m c t r j

theorem final6 : (dats m 0 c).arrAt 6 cfg0.N = val_main_v18 (F := Ideal) (argX m c) (argD m c) (argE m c) := by
  refine (dats m 0 c).arrAt_eq_of_covers 6 _ (by decide +kernel) fun t hf y => ?_
  blk_simp
  obtain ⟨q, j, rfl⟩ : ∃ (q : Fin 1) (j : Fin 1024), y = ix2 q j := ⟨y 0, y 1, eq_ix2 y⟩
  have he : (win0_6.blk t).view.emb (ix2 q j) = ix2 q j := by
    blk_ext [idx6 t]
  rw [after0_6, he, v18_eq]
  exact rows_sum (fun n h => (outsAt0 m c n h).2 (ix2 q j)) (dW m c j) (fun t h => out6_A m c t h q j) (fun t h => out6_B m c t h q j)
    t ((flush0_6 t).mp hf)

end Cert.NormIdeal.Hand

/-! ### The claims -/

namespace Cert.Proof

open Idealize.ShloMosaic Idealize.ShloMosaic.TcCoe Idealize.SL.Sem Cert.NormIdeal.Hand

theorem Norm.reference_frame : Cert.quiescent_NormRefIdeal (hNormRefIdeal := Cert.NormRefIdeal.Gen.facts) := fun m ρ _ =>
  (θ_run Cert.NormRefIdeal.defs _ _).mono (fun r h => ⟨fun c => (h c).2.2, sem_eq_zero_of_no_sems (by decide) r.2⟩)
    (Cert.NormRefIdeal.Value.run (F := Ideal) m ρ)

theorem Norm.value : Cert.algebraic_NormIdeal_NormRefIdeal (hNormIdeal := Cert.NormIdeal.Gen.facts) (hNormRefIdeal := Cert.NormRefIdeal.Gen.facts) := by
  intro m ρ m' ρ' _ hagree
  refine ⟨_, _, Cert.NormIdeal.Value.run_blocks (F := Ideal) m ρ,
    (θ_run Cert.NormRefIdeal.defs _ _).mono (fun _ h c => ⟨(h c).1.trans ?_, (h c).2.1.trans ?_, (h c).2.2⟩)
      (Cert.NormRefIdeal.Value.run (F := Ideal) m' ρ')⟩
  · rw [Cert.NormRefIdeal.Read.val_main_v35_eq, (hagree c).1, (hagree c).2.1, (hagree c).2.2.1, (hagree c).2.2.2.1, (hagree c).2.2.2.2]
    exact (final5 m c).symm
  · rw [Cert.NormRefIdeal.Read.val_main_v18_eq, (hagree c).1, (hagree c).2.2.1, (hagree c).2.2.2.1]
    exact (final6 m c).symm

end Cert.Proof

end
-- ==== Proof.Head.lean ====
/-
  The loss and the gradient of the last norm: point `t` of the grid takes the 512 rows from `512 t`, leaves the gradients
  of the residual and of the norm's input, and adds into the loss and into the weight's gradient.
-/
module

public import proofs.«01_k».proof.Defs
public import proofs.«01_k».proof.Proof.Gen.HeadIdeal.Value
public import proofs.«01_k».proof.Proof.Gen.HeadRefIdeal.Run
public import proofs.«01_k».proof.Proof.Gen.HeadRefIdeal.Read
public import proofs.«01_k».proof.Proof.RmsSpec

@[expose] public section

set_option maxRecDepth 16384

noncomputable section

namespace Cert.Rms

open Idealize.ShloMosaic

/-- The cotangent of a row's summed squared error: a half over the row's length. -/
def half : EReal := Ideal.div (Ideal.ofBits .f32 0x3F000000#32) (Ideal.ofBits .f32 0x44800000#32)

/-- The error of a row: the residual and the weighted norm, less the target. -/
def err (x f w y : Fin 1024 → EReal) (j : Fin 1024) : EReal := x j + unit f j * w j - y j

/-- The mean squared error of a row. -/
def mse (e : Fin 1024 → EReal) : EReal := Ideal.div (∑ k, e k * e k) (Ideal.ofBits .f32 0x44800000#32)

/-- The cotangent of the error: the product rule on its square. -/
def dErr (e : Fin 1024 → EReal) (j : Fin 1024) : EReal := e j * half + half * e j

theorem ofBits_two : Ideal.ofBits .f32 0x40000000#32 = ((2 : ℝ) : EReal) := by
  simp [Ideal.ofBits, Ideal.ieee, -EReal.coe_mul]; norm_num

theorem ofBits_half : Ideal.ofBits .f32 0x3F000000#32 = (((1 : ℝ) / 2 : ℝ) : EReal) := by
  simp [Ideal.ofBits, Ideal.ieee, -EReal.coe_mul]; norm_num

/-- An extended real added to itself is its double. -/
theorem add_self_eq (x : EReal) : x + x = ((2 : ℝ) : EReal) * x := by
  induction x with
  | bot => rw [EReal.coe_mul_bot_of_pos two_pos]; rfl
  | coe r => rw [← EReal.coe_add, ← EReal.coe_mul, two_mul]
  | top => rw [EReal.coe_mul_top_of_pos two_pos]; rfl

theorem dErr_eq (e : Fin 1024 → EReal) (j : Fin 1024) : half * (Ideal.ofBits .f32 0x40000000#32 * e j) = dErr e j := by
  unfold dErr
  rw [mul_comm (e j), add_self_eq, ofBits_two, mul_left_comm]

/-- A half distributes over a finite sum. -/
theorem half_sum {ι : Type} (s : Finset ι) (f : ι → EReal) :
    Ideal.ofBits .f32 0x3F000000#32 * ∑ i ∈ s, f i = ∑ i ∈ s, Ideal.ofBits .f32 0x3F000000#32 * f i := by
  classical
  rw [ofBits_half]
  induction s using Finset.induction_on with
  | empty => simp
  | insert a s h ih =>
    rw [Finset.sum_insert h, Finset.sum_insert h, ← ih]
    exact EReal.left_distrib_of_nonneg_of_ne_top (EReal.coe_nonneg.mpr (by norm_num)) (EReal.coe_ne_top _) _ _

end Cert.Rms

namespace Cert.HeadRefIdeal.Hand

open Cert.HeadRefIdeal Cert.HeadRefIdeal.Read Cert.Rms Idealize.ShloMosaic Idealize.ShloMosaic.TcCoe Idealize.SL.Sem

variable (X G Y : FVec Ideal S8192x1024 .f32) (W : FVec Ideal S1x1024 .f32)

/-- The error of row `r`. -/
def errR (r : Fin 8192) : Fin 1024 → EReal := err (line X r) (line G r) (line W 0) (line Y r)

/-- The cotangent of row `r` over its root mean square. -/
def cot (r : Fin 8192) (j : Fin 1024) : EReal := dErr (errR X G Y W r) j * line W 0 j

theorem v6_eq (r : Fin 8192) (q : Fin 1) : val_main_v6 (F := Ideal) G (ix2 r q) = ms (line G r) := by
  pointwise [val_main_v6, val_main_v5, val_main_cst_1, val_main_v4, val_main_v3, val_main_cst_0, val_main_v2, val_main_v1, val_main_cst, val_main_v0]
  rfl

theorem v7_eq (r : Fin 8192) (q : Fin 1) : val_main_v7 (F := Ideal) G (ix2 r q) = Ideal.rsqrt (ms (line G r)) := by
  rw [← v6_eq G r q]
  unfold val_main_v7
  generalize val_main_v6 (F := Ideal) G = z
  pointwise

theorem v12_eq (r : Fin 8192) (j : Fin 1024) : val_main_v12 (F := Ideal) G (ix2 r j) = unit (line G r) j := by
  have h7 := v7_eq G r
  unfold val_main_v12 val_main_v11
  generalize val_main_v7 (F := Ideal) G = z at h7 ⊢
  pointwise
  simp only [h7]
  rfl

theorem v16_eq (r : Fin 8192) (j : Fin 1024) : val_main_v16 (F := Ideal) X G W Y (ix2 r j) = errR X G Y W r j := by
  have h12 := v12_eq G r
  unfold val_main_v16 val_main_v15 val_main_v14 val_main_v13
  generalize val_main_v12 (F := Ideal) G = z at h12 ⊢
  pointwise
  simp only [h12]
  rfl

theorem v22_eq (r : Fin 8192) : val_main_v22 (F := Ideal) X G W Y (ix1 r) = mse (errR X G Y W r) := by
  have h16 := v16_eq X G Y W r
  unfold val_main_v22 val_main_v21 val_main_cst_5 val_main_v20 val_main_cst_4 val_main_v17
  generalize val_main_v16 (F := Ideal) X G W Y = z at h16 ⊢
  pointwise
  simp only [h16]
  rfl

theorem v50_eq (p : Fin 8) (q : Fin 128) : val_main_v50 (F := Ideal) X G W Y (ix2 p q)
    = ∑ r : Fin 8192, Ideal.ofBits .f32 0x3F000000#32 * mse (errR X G Y W r) := by
  have h22 := v22_eq X G Y W
  rw [← half_sum]
  unfold val_main_v50 val_main_v24 val_main_cst_7 val_main_v23 val_main_cst_6
  generalize val_main_v22 (F := Ideal) X G W Y = z at h22 ⊢
  pointwise
  simp only [h22]

theorem v29_eq (r : Fin 8192) (j : Fin 1024) : val_main_v29 (F := Ideal) (ix2 r j) = half := by
  pointwise [val_main_v29, val_main_v28, val_main_v27, val_main_cst_10, val_main_v26, val_main_v25, val_main_cst_9, val_main_cst_8]
  rfl

theorem v30_eq (r : Fin 8192) (j : Fin 1024) : val_main_v30 (F := Ideal) X G W Y (ix2 r j) = dErr (errR X G Y W r) j := by
  have h16 := v16_eq X G Y W r
  have h29 := v29_eq r
  unfold val_main_v30 val_main_v19 val_main_v18 val_main_cst_3
  generalize val_main_v16 (F := Ideal) X G W Y = z at h16 ⊢
  generalize val_main_v29 (F := Ideal) = z' at h29 ⊢
  pointwise
  simp only [h16, h29]
  exact dErr_eq _ _

theorem v33_eq (q : Fin 1) (j : Fin 1024) : val_main_v33 (F := Ideal) X G W Y (ix2 q j)
    = ∑ r : Fin 8192, unit (line G r) j * dErr (errR X G Y W r) j := by
  have h12 := v12_eq G
  have h30 := v30_eq X G Y W
  unfold val_main_v33 val_main_v32 val_main_cst_11 val_main_v31
  generalize val_main_v12 (F := Ideal) G = z at h12 ⊢
  generalize val_main_v30 (F := Ideal) X G W Y = z' at h30 ⊢
  pointwise
  simp only [h12, h30]

theorem v35_eq (r : Fin 8192) (j : Fin 1024) : val_main_v35 (F := Ideal) X G W Y (ix2 r j) = cot X G Y W r j := by
  have h30 := v30_eq X G Y W r
  unfold val_main_v35 val_main_v34
  generalize val_main_v30 (F := Ideal) X G W Y = z at h30 ⊢
  pointwise
  simp only [h30]
  rfl

theorem v45_eq (r : Fin 8192) (j : Fin 1024) : val_main_v45 (F := Ideal) X G W Y (ix2 r j) = slope (line G r) (cot X G Y W r) := by
  have h7 := v7_eq G r
  have h6 := v6_eq G r
  have h35 := v35_eq X G Y W r
  unfold val_main_v45 val_main_v44 val_main_cst_14 val_main_v43 val_main_v42 val_main_cst_13 val_main_v41 val_main_v38 val_main_v37 val_main_cst_12 val_main_v36 val_main_v10 val_main_v9 val_main_cst_2 val_main_v8
  generalize val_main_v35 (F := Ideal) X G W Y = y at h35 ⊢
  generalize val_main_v7 (F := Ideal) G = z at h7 ⊢
  generalize val_main_v6 (F := Ideal) G = z' at h6 ⊢
  pointwise
  simp only [h7, h6, h35, Fin.sum_univ_one]
  rfl

theorem v51_eq (r : Fin 8192) (j : Fin 1024) : val_main_v51 (F := Ideal) X G W Y (ix2 r j) = dx (line G r) (cot X G Y W r) j := by
  have h45 := v45_eq X G Y W r
  have h35 := v35_eq X G Y W r
  have h7 := v7_eq G r
  unfold val_main_v51 val_main_v49 val_main_v48 val_main_v47 val_main_v46 val_main_v40 val_main_v39
  generalize val_main_v45 (F := Ideal) X G W Y = y at h45 ⊢
  generalize val_main_v35 (F := Ideal) X G W Y = z at h35 ⊢
  generalize val_main_v7 (F := Ideal) G = z' at h7 ⊢
  pointwise
  simp only [h45, h35, h7]
  rfl

end Cert.HeadRefIdeal.Hand

namespace Cert.HeadIdeal.Hand

open Cert.HeadIdeal Cert.HeadIdeal.Gen Cert.Rms Idealize.ShloMosaic Idealize.ShloMosaic.TcCoe Idealize.SL.Sem
open Cert.HeadRefIdeal.Read Cert.HeadRefIdeal.Hand

/-! ### The body -/

section Body

variable (x f y : Vec Ideal S512x1024 .f32) (w : Vec Ideal S1x1024 .f32)

/-- The error of row `r` of the block. -/
def blkErr (r : Fin 512) : Fin 1024 → EReal := err (line x r) (line f r) (line w 0) (line y r)

theorem pay7_eq (r : Fin 512) (q : Fin 1) : k0_pay7 (F := Ideal) f (ix2 r q) = ms (line f r) := by
  pointwise [k0_pay7]
  rfl

theorem pay8_eq (r : Fin 512) (q : Fin 1) : k0_pay8 (F := Ideal) f (ix2 r q) = Ideal.rsqrt (ms (line f r)) := by
  rw [← pay7_eq f r q]
  unfold k0_pay8
  generalize k0_pay7 (F := Ideal) f = z
  pointwise

theorem pay9_eq (r : Fin 512) (q : Fin 1) : k0_pay9 (F := Ideal) f (ix2 r q)
    = Ideal.ofBits .f32 0xBF000000#32 * Ideal.div (Ideal.rsqrt (ms (line f r))) (ms (line f r)) := by
  have h8 := pay8_eq f r
  have h7 := pay7_eq f r
  unfold k0_pay9
  generalize k0_pay8 (F := Ideal) f = z at h8 ⊢
  generalize k0_pay7 (F := Ideal) f = z' at h7 ⊢
  pointwise
  simp only [h8, h7]

theorem pay10_eq (r : Fin 512) (j : Fin 1024) : k0_pay10 (F := Ideal) f (ix2 r j) = unit (line f r) j := by
  have h8 := pay8_eq f r
  unfold k0_pay10
  generalize k0_pay8 (F := Ideal) f = z at h8 ⊢
  pointwise
  simp only [h8]
  rfl

theorem pay11_eq (r : Fin 512) (j : Fin 1024) : k0_pay11 (F := Ideal) x f w y (ix2 r j) = blkErr x f y w r j := by
  have h10 := pay10_eq f r
  unfold k0_pay11
  generalize k0_pay10 (F := Ideal) f = z at h10 ⊢
  pointwise
  simp only [h10]
  rfl

theorem pay12_eq : k0_pay12 (F := Ideal) x f w y = ∑ r : Fin 512, Ideal.ofBits .f32 0x3F000000#32 * mse (blkErr x f y w r) := by
  have h11 := pay11_eq x f y w
  rw [← half_sum]
  unfold k0_pay12
  generalize k0_pay11 (F := Ideal) x f w y = z at h11 ⊢
  pointwise
  simp only [h11]
  rfl

theorem pay13_eq (r : Fin 512) : k0_pay13 (F := Ideal) (ix1 r) = half := by
  pointwise [k0_pay13]
  rfl

theorem pay1_eq (r : Fin 512) (j : Fin 1024) :
    k0_pay1 (F := Ideal) (k0_pay11 x f w y) k0_pay13 (ix2 r j) = dErr (blkErr x f y w r) j := by
  have h11 := pay11_eq x f y w r
  have h13 := pay13_eq r
  unfold k0_pay1
  generalize k0_pay11 (F := Ideal) x f w y = z at h11 ⊢
  generalize k0_pay13 (F := Ideal) = z' at h13 ⊢
  pointwise
  simp only [h11, h13]
  rfl

theorem pay2_eq (a : Vec Ideal S8x128 .f32) (p : Fin 8) (q : Fin 128) : k0_pay2 (F := Ideal) (k0_pay12 x f w y) a (ix2 p q)
    = a (ix2 p q) + ∑ r : Fin 512, Ideal.ofBits .f32 0x3F000000#32 * mse (blkErr x f y w r) := by
  rw [pay12_eq]
  pointwise [k0_pay2]

theorem pay3_eq (r : Fin 512) (j : Fin 1024) :
    k0_pay3 (F := Ideal) f w (k0_pay8 f) (k0_pay9 f) (k0_pay11 x f w y) k0_pay13 (ix2 r j)
      = dx (line f r) (fun k => dErr (blkErr x f y w r) k * line w 0 k) j := by
  have h1 := pay1_eq x f y w r
  have h8 := pay8_eq f r
  have h9 := pay9_eq f r
  unfold k0_pay3
  generalize k0_pay1 (F := Ideal) (k0_pay11 x f w y) k0_pay13 = z at h1 ⊢
  generalize k0_pay8 (F := Ideal) f = z' at h8 ⊢
  generalize k0_pay9 (F := Ideal) f = z'' at h9 ⊢
  pointwise
  simp only [h1, h8, h9, Fin.sum_univ_one]
  rfl

theorem pay4_eq (a : Vec Ideal S1x1024 .f32) (q : Fin 1) (j : Fin 1024) :
    k0_pay4 (F := Ideal) (k0_pay10 f) (k0_pay11 x f w y) k0_pay13 a (ix2 q j)
      = a (ix2 q j) + ∑ r : Fin 512, unit (line f r) j * dErr (blkErr x f y w r) j := by
  have h1 := pay1_eq x f y w
  have h10 := pay10_eq f
  unfold k0_pay4
  generalize k0_pay1 (F := Ideal) (k0_pay11 x f w y) k0_pay13 = z at h1 ⊢
  generalize k0_pay10 (F := Ideal) f = z' at h10 ⊢
  pointwise
  simp only [h1, h10]

theorem pay5_eq (p : Fin 8) (q : Fin 128) : k0_pay5 (F := Ideal) (ix2 p q) = 0 := by
  pointwise [k0_pay5]

theorem pay6_eq (q : Fin 1) (j : Fin 1024) : k0_pay6 (F := Ideal) (ix2 q j) = 0 := by
  pointwise [k0_pay6]

end Body

variable (m : (ℓ : Loc nD τ sig) → Buf (Elt Ideal) ℓ) (c : Dev nD)

abbrev argX : (⟨2, ![8192, 1024]⟩ : Shape).Idx → EReal := m ((c.tc : Thread nD τ).loc main_arg0)
abbrev argG : (⟨2, ![8192, 1024]⟩ : Shape).Idx → EReal := m ((c.tc : Thread nD τ).loc main_arg1)
abbrev argW : (⟨2, ![1, 1024]⟩ : Shape).Idx → EReal := m ((c.tc : Thread nD τ).loc main_arg2)
abbrev argY : (⟨2, ![8192, 1024]⟩ : Shape).Idx → EReal := m ((c.tc : Thread nD τ).loc main_arg3)

/-! ### The blocks -/

theorem idx0 : ∀ t : Fin cfg0.N, win0_0.index t = ![t.val % 16, 0] := (by decide +kernel : ∀ t : Fin grid0.N, _)
theorem idx1 : ∀ t : Fin cfg0.N, win0_1.index t = ![t.val % 16, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val % 16, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val % 16, 0] := (by decide +kernel : ∀ t : Fin grid0.N, _)
theorem idx6 : ∀ t : Fin cfg0.N, win0_6.index t = ![t.val % 16, 0] := (by decide +kernel : ∀ t : Fin grid0.N, _)
theorem idx7 : ∀ t : Fin cfg0.N, win0_7.index t = ![0, 0] := (by decide +kernel : ∀ t : Fin grid0.N, _)

theorem blk0 (t : Fin cfg0.N) (r : Fin 512) : line (n := 512) (iblk m c 0 t) r = line (argX m c) (at512 t.val r) := by
  funext j
  unfold line at512
  blk_ext [iblk, V, idx0 t]

theorem blk1 (t : Fin cfg0.N) (r : Fin 512) : line (n := 512) (iblk m c 1 t) r = line (argG m c) (at512 t.val r) := by
  funext j
  unfold line at512
  blk_ext [iblk, V, idx1 t]

theorem blk2 (t : Fin cfg0.N) : line (n := 1) (iblk m c 2 t) 0 = line (argW m c) 0 := by
  funext j
  unfold line
  blk_ext [iblk, V, idx2 t]

theorem blk3 (t : Fin cfg0.N) (r : Fin 512) : line (n := 512) (iblk m c 3 t) r = line (argY m c) (at512 t.val r) := by
  funext j
  unfold line at512
  blk_ext [iblk, V, idx3 t]

/-- The error of row `r`. -/
abbrev errA (r : Fin 8192) : Fin 1024 → EReal := errR (argX m c) (argG m c) (argY m c) (argW m c) r

theorem blkErr_eq (t : Fin cfg0.N) (r : Fin 512) :
    blkErr (iblk m c 0 t) (iblk m c 1 t) (iblk m c 3 t) (iblk m c 2 t) r = errA m c (at512 t.val r) := by
  unfold blkErr errA errR
  rw [blk0, blk1, blk2, blk3]

/-! ### The outputs of a point -/

/-- What row `r` adds to the loss. -/
abbrev lossA (r : Fin 8192) : EReal := Ideal.ofBits .f32 0x3F000000#32 * mse (errA m c r)

/-- What row `r` adds to the weight's gradient. -/
abbrev dW (j : Fin 1024) (r : Fin 8192) : EReal := unit (line (argG m c) r) j * dErr (errA m c r) j

theorem out4_A (t : Fin cfg0.N) (h : t.val % 16 = 0) (p : Fin 8) (q : Fin 128) :
    (outsAt0 m c t.val t.isLt).1 (ix2 p q) = 0 + ∑ r : Fin 512, lossA m c (at512 t.val r) := by
  rw [outsAt0_A m c t h]; frame_out
  refine (pay2_eq ..).trans ?_
  simp only [blkErr_eq]
  exact congrArg (· + _) (pay5_eq p q)

theorem out4_B (t : Fin cfg0.N) (h : ¬t.val % 16 = 0) (p : Fin 8) (q : Fin 128) : (outsAt0 m c t.val t.isLt).1 (ix2 p q)
    = (outsAt0 m c (t.val - 1) (Nat.lt_of_le_of_lt (Nat.sub_le _ _) t.isLt)).1 (ix2 p q) + ∑ r : Fin 512, lossA m c (at512 t.val r) := by
  rw [outsAt0_B m c t h]; frame_out
  refine (pay2_eq ..).trans ?_
  simp only [blkErr_eq]

theorem out5 (t : Fin cfg0.N) (r : Fin 512) (j : Fin 1024) :
    (outsAt0 m c t.val t.isLt).2.1 (ix2 r j) = dErr (errA m c (at512 t.val r)) j := by
  rw [← blkErr_eq]
  by_cases h : t.val % 16 = 0
  · rw [outsAt0_A m c t h]; frame_out
    exact pay1_eq ..
  · rw [outsAt0_B m c t h]; frame_out
    exact pay1_eq ..

theorem out6 (t : Fin cfg0.N) (r : Fin 512) (j : Fin 1024) : (outsAt0 m c t.val t.isLt).2.2.1 (ix2 r j)
    = dx (line (argG m c) (at512 t.val r)) (cot (argX m c) (argG m c) (argY m c) (argW m c) (at512 t.val r)) j := by
  show _ = dx _ (fun k => dErr (errA m c (at512 t.val r)) k * line (argW m c) 0 k) j
  rw [← blkErr_eq, ← blk1, ← blk2 m c t]
  by_cases h : t.val % 16 = 0
  · rw [outsAt0_A m c t h]; frame_out
    exact pay3_eq ..
  · rw [outsAt0_B m c t h]; frame_out
    exact pay3_eq ..

theorem out7_A (t : Fin cfg0.N) (h : t.val % 16 = 0) (q : Fin 1) (j : Fin 1024) :
    (outsAt0 m c t.val t.isLt).2.2.2 (ix2 q j) = 0 + ∑ r : Fin 512, dW m c j (at512 t.val r) := by
  rw [outsAt0_A m c t h]; frame_out
  refine (pay4_eq ..).trans ?_
  simp only [blkErr_eq, blk1]
  exact congrArg (· + _) (pay6_eq q j)

theorem out7_B (t : Fin cfg0.N) (h : ¬t.val % 16 = 0) (q : Fin 1) (j : Fin 1024) : (outsAt0 m c t.val t.isLt).2.2.2 (ix2 q j)
    = (outsAt0 m c (t.val - 1) (Nat.lt_of_le_of_lt (Nat.sub_le _ _) t.isLt)).2.2.2 (ix2 q j) + ∑ r : Fin 512, dW m c j (at512 t.val r) := by
  rw [outsAt0_B m c t h]; frame_out
  refine (pay4_eq ..).trans ?_
  simp only [blkErr_eq, blk1]

/-! ### The arrays -/

theorem final4 : (dats m 0 c).arrAt 4 cfg0.N = val_main_v50 (F := Ideal) (argX m c) (argG m c) (argW m c) (argY m c) := by
  refine (dats m 0 c).arrAt_eq_of_covers 4 _ (by decide +kernel) fun t hf y => ?_
  blk_simp
  obtain ⟨p, q, rfl⟩ : ∃ (p : Fin 8) (q : Fin 128), y = ix2 p q := ⟨y 0, y 1, eq_ix2 y⟩
  have he : (win0_4.blk t).view.emb (ix2 p q) = ix2 p q := by
    blk_ext [idx4 t]
  rw [after0_4, he, v50_eq]
  exact rows_sum (fun n h => (outsAt0 m c n h).1 (ix2 p q)) (lossA m c) (fun t h => out4_A m c t h p q) (fun t h => out4_B m c t h p q)
    t ((flush0_4 t).mp hf)

theorem final5 : (dats m 0 c).arrAt 5 cfg0.N = val_main_v30 (F := Ideal) (argX m c) (argG m c) (argW m c) (argY m c) := by
  refine (dats m 0 c).arrAt_eq_of_covers 5 _ (by decide +kernel) fun t hf y => ?_
  blk_simp
  obtain ⟨r, j, rfl⟩ : ∃ (r : Fin 512) (j : Fin 1024), y = ix2 r j := ⟨y 0, y 1, eq_ix2 y⟩
  have he : (win0_5.blk t).view.emb (ix2 r j) = ix2 (at512 t.val r) j := by
    unfold at512
    blk_ext [idx5 t]
  rw [after0_5, he, v30_eq]
  exact out5 m c t r j

theorem final6 : (dats m 0 c).arrAt 6 cfg0.N = val_main_v51 (F := Ideal) (argX m c) (argG m c) (argW m c) (argY m c) := by
  refine (dats m 0 c).arrAt_eq_of_covers 6 _ (by decide +kernel) fun t hf y => ?_
  blk_simp
  obtain ⟨r, j, rfl⟩ : ∃ (r : Fin 512) (j : Fin 1024), y = ix2 r j := ⟨y 0, y 1, eq_ix2 y⟩
  have he : (win0_6.blk t).view.emb (ix2 r j) = ix2 (at512 t.val r) j := by
    unfold at512
    blk_ext [idx6 t]
  rw [after0_6, he, v51_eq]
  exact out6 m c t r j

theorem final7 : (dats m 0 c).arrAt 7 cfg0.N = val_main_v33 (F := Ideal) (argX m c) (argG m c) (argW m c) (argY m c) := by
  refine (dats m 0 c).arrAt_eq_of_covers 7 _ (by decide +kernel) fun t hf y => ?_
  blk_simp
  obtain ⟨q, j, rfl⟩ : ∃ (q : Fin 1) (j : Fin 1024), y = ix2 q j := ⟨y 0, y 1, eq_ix2 y⟩
  have he : (win0_7.blk t).view.emb (ix2 q j) = ix2 q j := by
    blk_ext [idx7 t]
  rw [after0_7, he, v33_eq]
  exact rows_sum (fun n h => (outsAt0 m c n h).2.2.2 (ix2 q j)) (dW m c j) (fun t h => out7_A m c t h q j) (fun t h => out7_B m c t h q j)
    t ((flush0_7 t).mp hf)

end Cert.HeadIdeal.Hand

/-! ### The claims -/

namespace Cert.Proof

open Idealize.ShloMosaic Idealize.ShloMosaic.TcCoe Idealize.SL.Sem Cert.HeadIdeal.Hand

theorem Head.reference_frame : Cert.quiescent_HeadRefIdeal (hHeadRefIdeal := Cert.HeadRefIdeal.Gen.facts) := fun m ρ _ =>
  (θ_run Cert.HeadRefIdeal.defs _ _).mono (fun r h => ⟨fun c => (h c).2.2.2.2, sem_eq_zero_of_no_sems (by decide) r.2⟩)
    (Cert.HeadRefIdeal.Value.run (F := Ideal) m ρ)

theorem Head.value : Cert.algebraic_HeadIdeal_HeadRefIdeal (hHeadIdeal := Cert.HeadIdeal.Gen.facts) (hHeadRefIdeal := Cert.HeadRefIdeal.Gen.facts) := by
  intro m ρ m' ρ' _ hagree
  refine ⟨_, _, _, _, Cert.HeadIdeal.Value.run_blocks (F := Ideal) m ρ,
    (θ_run Cert.HeadRefIdeal.defs _ _).mono
      (fun _ h c => ⟨(h c).1.trans ?_, (h c).2.1.trans ?_, (h c).2.2.1.trans ?_, (h c).2.2.2.1.trans ?_, (h c).2.2.2.2⟩)
      (Cert.HeadRefIdeal.Value.run (F := Ideal) m' ρ')⟩
  · rw [Cert.HeadRefIdeal.Read.val_main_v50_eq, (hagree c).1, (hagree c).2.1, (hagree c).2.2.1, (hagree c).2.2.2]
    exact (final4 m c).symm
  · rw [Cert.HeadRefIdeal.Read.val_main_v30_eq, (hagree c).1, (hagree c).2.1, (hagree c).2.2.1, (hagree c).2.2.2]
    exact (final5 m c).symm
  · rw [Cert.HeadRefIdeal.Read.val_main_v51_eq, (hagree c).1, (hagree c).2.1, (hagree c).2.2.1, (hagree c).2.2.2]
    exact (final6 m c).symm
  · rw [Cert.HeadRefIdeal.Read.val_main_v33_eq, (hagree c).1, (hagree c).2.1, (hagree c).2.2.1, (hagree c).2.2.2]
    exact (final7 m c).symm

end Cert.Proof

end
-- ==== Proof.Act.lean ====
/-
  The gate's forward pass: point `t` of the grid takes sequence `t % 4` and the block of 256 channels `t / 4`, and writes
  that block of the result. The channels are those of `FfnSpec`, where the gate's value is `dUp` of its two halves.
-/
module

public import proofs.«01_k».proof.Defs
public import proofs.«01_k».proof.Proof.Gen.ActIdeal.Value
public import proofs.«01_k».proof.Proof.Gen.ActRefIdeal.Run
public import proofs.«01_k».proof.Proof.Gen.ActRefIdeal.Read
public import proofs.«01_k».proof.Proof.FfnBlk
public import proofs.«01_k».proof.Proof.FfnRef

@[expose] public section

set_option maxRecDepth 16384

noncomputable section

namespace Cert.Ffn

open Idealize.ShloMosaic

/-- A rotation by `s` rows, kept from row `s` on and multiplied by a tap, is the tap times the delayed channel. -/
theorem mul_roll_sh {m : ℕ} (w : EReal) (X : (⟨2, ![2048, m]⟩ : Shape).Idx → EReal) (j : Fin m) (r : Fin 2048) (s : ℕ)
    (hs : s < 2048) (h : (r.val + 2048 - s) % 2048 < 2048) :
    (if s ≤ r.val then w * X (ix2 ⟨(r.val + 2048 - s) % 2048, h⟩ j) else 0) = w * sh s (col X j) r.val := by
  rw [← roll_sh X j r s hs h]
  split <;> simp

end Cert.Ffn

namespace Cert.ActRefIdeal.Hand

open Cert.ActRefIdeal Cert.ActRefIdeal.Read Cert.Ffn Idealize.ShloMosaic Idealize.ShloMosaic.TcCoe Idealize.SL.Sem

variable (U : FVec Ideal S8192x5632 .bf16) (W : FVec Ideal S3x5632 .f32) (B : FVec Ideal S1x5632 .f32)

theorem v3_eq (b : Fin 4) (r : Fin 2050) (c : Fin 5632) :
    val_main_v3 (F := Ideal) U (ix3 b r c) = if r.val < 2 then 0 else chan U b c (r.val - 2) := by
  pointwise [val_main_v3, val_main_v2, val_main_cst, val_main_v1, val_main_v0]
  by_cases h : r.val < 2
  · rw [dif_pos h, if_pos h]
  · rw [dif_neg h, if_neg h, chan, dif_pos (by have := r.isLt; omega)]
    rfl

theorem v28_eq (b : Fin 4) (r : Fin 2048) (c : Fin 5632) : val_main_v28 (F := Ideal) U W B (ix3 b r c) = act U W B b c r.val := by
  have h0 := v3_eq U b
  unfold val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_cst_0
  generalize val_main_v3 (F := Ideal) U = z at h0 ⊢
  pointwise
  simp only [h0]
  rw [ReferenceIdeal.Ffn.pad_sh _ r.val r.val 2 rfl, ReferenceIdeal.Ffn.pad_sh _ r.val (1 + r.val) 1 (by omega),
    ReferenceIdeal.Ffn.pad_sh _ r.val (2 + r.val) 0 (by omega), sh_zero]
  unfold act pre
  rw [add_comm (_ + _) (W (ix2 2 c) * _), ← add_assoc]

theorem v32_eq (b : Fin 4) (r : Fin 2048) (c : Fin 2816) : val_main_v32 (F := Ideal) U W B (ix3 b r c)
    = dUp (act U W B b (lo c) r.val) (act U W B b (hi c) r.val) := by
  have h0 := v28_eq U W B b r
  rw [← h0, ← h0]
  unfold val_main_v32 val_main_v31 val_main_call0_v5 val_main_call0_v4 val_main_call0_cst_0 val_main_call0_v3 val_main_call0_v2 val_main_call0_cst val_main_call0_v1 val_main_call0_v0 val_main_v30 val_main_v29
  generalize val_main_v28 (F := Ideal) U W B = z
  unfold lo hi
  pointwise
  rfl

theorem v34_eq (b : Fin 4) (r : Fin 2048) (c : Fin 2816) : val_main_v34 (F := Ideal) U W B (ix2 (row b r) c)
    = dUp (act U W B b (lo c) r.val) (act U W B b (hi c) r.val) := by
  rw [← v32_eq]
  unfold val_main_v34 val_main_v33
  generalize val_main_v32 (F := Ideal) U W B = z
  unfold row
  pointwise

end Cert.ActRefIdeal.Hand

namespace Cert.ActIdeal.Hand

open Cert.ActIdeal Cert.ActIdeal.Gen Cert.Ffn Idealize.ShloMosaic Idealize.ShloMosaic.TcCoe Idealize.SL.Sem
open Cert.ActRefIdeal.Read Cert.ActRefIdeal.Hand

/-! ### The body -/

section Body

variable (w0 w1 w2 b u0 u1 u2 ub : Vec Ideal S1x256 .f32) (x y : Vec Ideal S2048x256 .bf16)

theorem pay3_eq (r : Fin 2048) (j : Fin 256) : k0_pay3 (F := Ideal) w0 w1 w2 x (ix2 r j)
    = (w2 (ix2 0 j) * col x j r.val + w0 (ix2 0 j) * sh 2 (col x j) r.val) + w1 (ix2 0 j) * sh 1 (col x j) r.val := by
  pointwise [k0_pay3]
  rw [select_sge r.val 2 r.isLt (by omega), select_sge r.val 1 r.isLt (by omega), mul_roll_sh _ x j r 2 (by omega),
    mul_roll_sh _ x j r 1 (by omega), col_val]

theorem pay1_eq (r : Fin 2048) (j : Fin 256) :
    k0_pay1 (F := Ideal) u0 u1 u2 (k0_pay2 y) b ub (k0_pay3 w0 w1 w2 x) (ix2 r j)
      = dUp (pre (w0 (ix2 0 j)) (w1 (ix2 0 j)) (w2 (ix2 0 j)) (b (ix2 0 j)) (col x j) r.val)
        (pre (u0 (ix2 0 j)) (u1 (ix2 0 j)) (u2 (ix2 0 j)) (ub (ix2 0 j)) (col y j) r.val) := by
  have h3 := pay3_eq w0 w1 w2 x r j
  unfold k0_pay1
  generalize k0_pay3 (F := Ideal) w0 w1 w2 x = z at h3 ⊢
  pointwise [k0_pay2]
  rw [select_sge r.val 2 r.isLt (by omega), select_sge r.val 1 r.isLt (by omega), mul_roll_sh _ y j r 2 (by omega),
    mul_roll_sh _ y j r 1 (by omega), h3, ← col_val y j r]
  rfl

end Body

variable (m : (ℓ : Loc nD τ sig) → Buf (Elt Ideal) ℓ) (c : Dev nD)

abbrev argU : (⟨2, ![8192, 5632]⟩ : Shape).Idx → EReal := m ((c.tc : Thread nD τ).loc main_arg0)
abbrev argW : (⟨2, ![3, 5632]⟩ : Shape).Idx → EReal := m ((c.tc : Thread nD τ).loc main_arg1)
abbrev argB : (⟨2, ![1, 5632]⟩ : Shape).Idx → EReal := m ((c.tc : Thread nD τ).loc main_arg2)

/-! ### The blocks -/

theorem idx0 : ∀ t : Fin cfg0.N, win0_0.index t = ![t.val % 4, t.val / 4] := (by decide +kernel : ∀ t : Fin grid0.N, _)
theorem idx1 : ∀ t : Fin cfg0.N, win0_1.index t = ![t.val % 4, 11 + t.val / 4] := (by decide +kernel : ∀ t : Fin grid0.N, _)
theorem idx2 : ∀ t : Fin cfg0.N, win0_2.index t = ![0, t.val / 4] := (by decide +kernel : ∀ t : Fin grid0.N, _)
theorem idx3 : ∀ t : Fin cfg0.N, win0_3.index t = ![0, 11 + t.val / 4] := (by decide +kernel : ∀ t : Fin grid0.N, _)
theorem idx4 : ∀ t : Fin cfg0.N, win0_4.index t = ![0, t.val / 4] := (by decide +kernel : ∀ t : Fin grid0.N, _)
theorem idx5 : ∀ t : Fin cfg0.N, win0_5.index t = ![0, 11 + t.val / 4] := (by decide +kernel : ∀ t : Fin grid0.N, _)
theorem idx6 : ∀ t : Fin cfg0.N, win0_6.index t = ![t.val % 4, t.val / 4] := (by decide +kernel : ∀ t : Fin grid0.N, _)

/-- The sequence of a point. -/
def bat (t : Fin cfg0.N) : Fin 4 := ⟨t.val % 4, by omega⟩

/-- Channel `j` of a point's block. -/
def ch (t : Fin cfg0.N) (j : Fin 256) : Fin 2816 := ⟨t.val / 4 * 256 + j.val, by have h : t.val < 44 := t.isLt; have := j.isLt; omega⟩

theorem blk0 (t : Fin cfg0.N) (j : Fin 256) : col (n := 2048) (iblk m c 0 t) j = chan (argU m c) (bat t) (lo (ch t j)) := by
  funext r
  unfold col chan
  by_cases h : r < 2048
  · rw [dif_pos h, dif_pos h]
    unfold row lo ch bat
    blk_ext [iblk, V, idx0 t]
  · rw [dif_neg h, dif_neg h]

theorem blk1 (t : Fin cfg0.N) (j : Fin 256) : col (n := 2048) (iblk m c 1 t) j = chan (argU m c) (bat t) (hi (ch t j)) := by
  funext r
  unfold col chan
  by_cases h : r < 2048
  · rw [dif_pos h, dif_pos h]
    unfold row hi ch bat
    blk_ext [iblk, V, idx1 t]
  · rw [dif_neg h, dif_neg h]

theorem tap2 (t : Fin cfg0.N) (k : Fin 3) (j : Fin 256) : iblk m c 2 t (ix2 k j) = argW m c (ix2 k (lo (ch t j))) := by
  unfold lo ch
  blk_ext [iblk, V, idx2 t]

theorem tap3 (t : Fin cfg0.N) (k : Fin 3) (j : Fin 256) : iblk m c 3 t (ix2 k j) = argW m c (ix2 k (hi (ch t j))) := by
  unfold hi ch
  blk_ext [iblk, V, idx3 t]

theorem blk4 (t : Fin cfg0.N) (q : Fin 1) (j : Fin 256) : iblk m c 4 t (ix2 q j) = argB m c (ix2 0 (lo (ch t j))) := by
  unfold lo ch
  blk_ext [iblk, V, idx4 t]

theorem blk5 (t : Fin cfg0.N) (q : Fin 1) (j : Fin 256) : iblk m c 5 t (ix2 q j) = argB m c (ix2 0 (hi (ch t j))) := by
  unfold hi ch
  blk_ext [iblk, V, idx5 t]

/-! ### The result -/

theorem out6 (t : Fin cfg0.N) (r : Fin 2048) (j : Fin 256) :
    out0_6 (iblk m c 0 t) (iblk m c 1 t) (iblk m c 2 t) (iblk m c 3 t) (iblk m c 4 t) (iblk m c 5 t) (ix2 r j)
      = dUp (act (argU m c) (argW m c) (argB m c) (bat t) (lo (ch t j)) r.val)
          (act (argU m c) (argW m c) (argB m c) (bat t) (hi (ch t j)) r.val) := by
  unfold act
  rw [← blk0, ← blk1, ← blk4 m c t 0 j, ← blk5 m c t 0 j, ← tap2, ← tap2, ← tap2, ← tap3, ← tap3, ← tap3]
  unfold out0_6
  frame_out
  refine (pay1_eq ..).trans ?_
  have hw := fun k hk h => KernelIdeal.Ffn.ld_row (iblk m c 2 t) k hk h 0 j
  have hu := fun k hk h => KernelIdeal.Ffn.ld_row (iblk m c 3 t) k hk h 0 j
  exact congrArg₂ dUp
    (by rw [hw 0 (by omega), hw 1 (by omega), hw 2 (by omega)]; rfl) (by rw [hu 0 (by omega), hu 1 (by omega), hu 2 (by omega)]; rfl)

theorem final6 : (dats m 0 c).arrAt 6 cfg0.N = val_main_v34 (F := Ideal) (argU m c) (argW m c) (argB m c) := by
  refine (dats m 0 c).arrAt_eq_of_covers 6 _ (by decide +kernel) fun t hf y => ?_
  blk_simp
  obtain ⟨r, j, rfl⟩ : ∃ (r : Fin 2048) (j : Fin 256), y = ix2 r j := ⟨y 0, y 1, eq_ix2 y⟩
  have he : (win0_6.blk t).view.emb (ix2 r j) = ix2 (row (bat t) r) (ch t j) := by
    unfold row bat ch
    blk_ext [idx6 t]
  rw [after0_6, he, v34_eq]
  exact out6 m c t r j

end Cert.ActIdeal.Hand

/-! ### The claims -/

namespace Cert.Proof

open Idealize.ShloMosaic Idealize.ShloMosaic.TcCoe Idealize.SL.Sem Cert.ActIdeal.Hand

theorem Act.reference_frame : Cert.quiescent_ActRefIdeal (hActRefIdeal := Cert.ActRefIdeal.Gen.facts) := fun m ρ _ =>
  (θ_run Cert.ActRefIdeal.defs _ _).mono (fun r h => ⟨fun c => (h c).2, sem_eq_zero_of_no_sems (by decide) r.2⟩)
    (Cert.ActRefIdeal.Value.run (F := Ideal) m ρ)

theorem Act.value : Cert.algebraic_ActIdeal_ActRefIdeal (hActIdeal := Cert.ActIdeal.Gen.facts) (hActRefIdeal := Cert.ActRefIdeal.Gen.facts) := by
  intro m ρ m' ρ' _ hagree
  refine ⟨_, Cert.ActIdeal.Value.run_blocks (F := Ideal) m ρ,
    (θ_run Cert.ActRefIdeal.defs _ _).mono (fun _ h c => ⟨(h c).1.trans ?_, (h c).2⟩) (Cert.ActRefIdeal.Value.run (F := Ideal) m' ρ')⟩
  rw [Cert.ActRefIdeal.Read.val_main_v34_eq, (hagree c).1, (hagree c).2.1, (hagree c).2.2]
  exact (final6 m c).symm

end Cert.Proof

end
-- ==== Proof.ConvSpec.lean ====
/-
  The gradient of a mixer's four-tap convolution and its `silu`, one channel of one sequence at a time, with the channel
  functions of `FfnSpec`; and the rows of a buffer of taps.
-/
module

public import proofs.«01_k».proof.Proof.FfnSpec
public import Idealize.ShloMosaic.Lib.Pipeline.ValueKit

@[expose] public section

noncomputable section

namespace Cert.Conv

open Idealize.ShloMosaic Cert.Ffn

/-- The four-tap convolution. -/
def pre (w0 w1 w2 w3 : EReal) (x : ℕ → EReal) (r : ℕ) : EReal :=
  ((w3 * x r + w0 * sh 3 x r) + w1 * sh 2 x r) + w2 * sh 1 x r

/-- The cotangent `a` of `silu g`, taken back to `g`. -/
def dSilu (g a : EReal) : EReal := a * Ideal.logistic g + g * a * (Ideal.logistic g * (1 - Ideal.logistic g))

/-- The gradient of the channel from the cotangent `D` of its convolution. -/
def dx (w0 w1 w2 w3 : EReal) (D : ℕ → EReal) (r : ℕ) : EReal :=
  ((w2 * ahead 1 D r + w1 * ahead 2 D r) + w0 * ahead 3 D r) + w3 * D r

theorem dx_congr {a0 a1 a2 a3 b0 b1 b2 b3 : EReal} {D E : ℕ → EReal} (r : ℕ) (h0 : a0 = b0) (h1 : a1 = b1) (h2 : a2 = b2) (h3 : a3 = b3)
    (h : D = E) : dx a0 a1 a2 a3 D r = dx b0 b1 b2 b3 E r := by rw [h0, h1, h2, h3, h]

theorem add_dw {a b : EReal} {D E x y : ℕ → EReal} (s : ℕ) (h : a = b) (hD : D = E) (hx : x = y) :
    a + dw s D x = b + dw s E y := by rw [h, hD, hx]

theorem add_db {a b : EReal} {D E : ℕ → EReal} (h : a = b) (hD : D = E) : a + db D = b + db E := by rw [h, hD]

/-- The padded channel read `n` rows in is the channel delayed by the rest of the pad. -/
theorem pad_sh (x : ℕ → EReal) (r n s p : ℕ) (h : n + s = r + p) : (if n < p then 0 else x (n - p)) = sh s x r := by
  unfold sh
  by_cases h2 : n < p
  · rw [if_pos h2, if_neg (by omega)]
  · rw [if_neg h2, if_pos (by omega)]; congr 1; omega

/-! ### Rows of a buffer -/

variable {K N : ℕ}

/-- A row of a buffer, loaded alone. -/
theorem ld_row (X : (⟨2, ![K, N]⟩ : Shape).Idx → EReal) (k : ℕ) (hk : k < K)
    (h : ∀ a, (![k, 0] : Fin 2 → ℕ) a + (![1, N] : Fin 2 → ℕ) a ≤ (⟨2, ![K, N]⟩ : Shape).size a) (q : Fin 1) (j : Fin N) :
    View.ld (Val := Elt Ideal) (e' := .f32) X (Rect.unit (s := (⟨2, ![K, N]⟩ : Shape)) ![k, 0] ![1, N] h) (ix2 q j) = X (ix2 ⟨k, hk⟩ j) := by
  rw [View.ld_apply]
  congr 1
  funext a; apply Fin.ext
  rw [Rect.idx_unit_val]
  match a with
  | ⟨0, _⟩ => show k + q.val = k; omega
  | ⟨1, _⟩ => show 0 + j.val = j.val; omega

/-- The newest piece is the row read. -/
theorem canon_row (k : Fin K) (n : ℕ) (hn : n = k.val)
    (h : ∀ a, (![n, 0] : Fin 2 → ℕ) a + (![1, N] : Fin 2 → ℕ) a ≤ (⟨2, ![K, N]⟩ : Shape).size a) (w : (⟨2, ![1, N]⟩ : Shape).Idx → EReal)
    (L : List (View.Piece (Elt Ideal) (⟨2, ![K, N]⟩ : Shape) .f32)) (j : Fin N) :
    View.canon ((⟨Rect.unit (s := (⟨2, ![K, N]⟩ : Shape)) ![n, 0] ![1, N] h, w⟩ : View.Piece (Elt Ideal) (⟨2, ![K, N]⟩ : Shape) .f32) :: L)
      (ix2 k j) = w (ix2 0 j) := by
  have he : (Rect.unit (s := (⟨2, ![K, N]⟩ : Shape)) ![n, 0] ![1, N] h).emb (ix2 0 j) = ix2 k j := by
    funext a; apply Fin.ext
    match a with
    | ⟨0, _⟩ => show n + 1 * 0 = k.val; omega
    | ⟨1, _⟩ => show 0 + 1 * j.val = j.val; omega
  rw [← he]
  exact View.canon_cons_emb (Rect.unit (s := (⟨2, ![K, N]⟩ : Shape)) ![n, 0] ![1, N] h) w L _

/-- The newest piece is another row. -/
theorem canon_row_ne (k : Fin K) (n : ℕ) (hn : n ≠ k.val)
    (h : ∀ a, (![n, 0] : Fin 2 → ℕ) a + (![1, N] : Fin 2 → ℕ) a ≤ (⟨2, ![K, N]⟩ : Shape).size a) (w : (⟨2, ![1, N]⟩ : Shape).Idx → EReal)
    (L : List (View.Piece (Elt Ideal) (⟨2, ![K, N]⟩ : Shape) .f32)) (j : Fin N) :
    View.canon ((⟨Rect.unit (s := (⟨2, ![K, N]⟩ : Shape)) ![n, 0] ![1, N] h, w⟩ : View.Piece (Elt Ideal) (⟨2, ![K, N]⟩ : Shape) .f32) :: L)
      (ix2 k j) = View.canon L (ix2 k j) := by
  refine View.canon_cons_of_not_mem _ L fun hm => ?_
  obtain ⟨i, hi, he⟩ := (LoadRect.mem_set _).mp hm (0 : Fin 2)
  have hi1 : i < 1 := hi
  have he' : k.val = n + 1 * i := he
  omega

/-- A row loaded of what stores left. -/
theorem readCov_row {sig : RefSig} {κ : Kind} {sp : Space} (v : View sig κ sp (⟨2, ![K, N]⟩ : Shape) .f32)
    (L : List (View.Piece (Elt Ideal) (⟨2, ![K, N]⟩ : Shape) .f32)) (k : Fin K) (n : ℕ) (hn : n = k.val)
    (h : ∀ a, (![n, 0] : Fin 2 → ℕ) a + (![1, N] : Fin 2 → ℕ) a ≤ (⟨2, ![K, N]⟩ : Shape).size a) (q : Fin 1) (j : Fin N) :
    v.readCov L (Rect.unit (s := (⟨2, ![K, N]⟩ : Shape)) ![n, 0] ![1, N] h).toLoadRect (ix2 q j) = View.canon L (ix2 k j) := by
  rw [View.readCov_eq_canon']
  show View.canon L _ = _
  congr 1
  funext a; apply Fin.ext
  match a with
  | ⟨0, _⟩ => show n + 1 * q.val = k.val; omega
  | ⟨1, _⟩ => show 0 + 1 * j.val = j.val; omega

/-- A fill of the whole buffer. -/
theorem canon_fill (h : ∀ a, (![0, 0] : Fin 2 → ℕ) a + (![K, N] : Fin 2 → ℕ) a ≤ (⟨2, ![K, N]⟩ : Shape).size a)
    (w : (⟨2, ![K, N]⟩ : Shape).Idx → EReal) (k : Fin K) (j : Fin N) :
    View.canon [(⟨Rect.unit (s := (⟨2, ![K, N]⟩ : Shape)) ![0, 0] ![K, N] h, w⟩ : View.Piece (Elt Ideal) (⟨2, ![K, N]⟩ : Shape) .f32)] (ix2 k j)
      = w (ix2 k j) := by
  have he : (Rect.unit (s := (⟨2, ![K, N]⟩ : Shape)) ![0, 0] ![K, N] h).emb (ix2 k j) = ix2 k j := by
    funext a; apply Fin.ext
    match a with
    | ⟨0, _⟩ => show 0 + 1 * k.val = k.val; omega
    | ⟨1, _⟩ => show 0 + 1 * j.val = j.val; omega
  conv_lhs => rw [← he]
  exact View.canon_cons_emb (Val := Elt Ideal) (e := .f32) (Rect.unit (s := (⟨2, ![K, N]⟩ : Shape)) ![0, 0] ![K, N] h) w [] _

end Cert.Conv

end
-- ==== Proof.SsdConvPay.lean ====
/-
  What the body of the second mixer's convolution gradient computes for one block of 128 channels of one sequence.
-/
module

public import proofs.«01_k».proof.Proof.Gen.SsdConvIdeal.Skeleton
public import proofs.«01_k».proof.Proof.ConvSpec

@[expose] public section

set_option maxRecDepth 16384

noncomputable section

namespace Cert.SsdConvIdeal.Hand

open Cert.SsdConvIdeal Cert.SsdConvIdeal.Gen Cert.Ffn Idealize.ShloMosaic Idealize.ShloMosaic.TcCoe Idealize.SL.Sem
open Cert.Conv (dSilu)

variable (w0 w1 w2 w3 b : Vec Ideal S1x128 .f32) (x : Vec Ideal S2048x128 .bf16) (da : Vec Ideal S2048x128 .f32)
  (D : FVec Ideal S2048x128 .f32)

theorem pay5_eq (r : Fin 2048) (j : Fin 128) : k0_pay5 (F := Ideal) x (ix2 r j) = sh 3 (col x j) r.val := by
  pointwise [k0_pay5, k0_pay4]
  rw [select_sge r.val 3 r.isLt (by omega), roll_sh x j r 3 (by omega)]

theorem pay6_eq (r : Fin 2048) (j : Fin 128) : k0_pay6 (F := Ideal) x (ix2 r j) = sh 2 (col x j) r.val := by
  pointwise [k0_pay6, k0_pay4]
  rw [select_sge r.val 2 r.isLt (by omega), roll_sh x j r 2 (by omega)]

/-- The channel a row back. -/
abbrev back : FVec Ideal S2048x128 .f32 := k0_pay10 (F := Ideal) (k0_pay8 x) k0_pay9 (Scalar.ofBits .f32 0x00000000#32)

theorem pay10_eq (r : Fin 2048) (j : Fin 128) : back x (ix2 r j) = sh 1 (col x j) r.val := by
  pointwise [k0_pay10, k0_pay8, k0_pay9, k0_pay4]
  rw [select_sge r.val 1 r.isLt (by omega), roll_sh x j r 1 (by omega)]

theorem pay7_eq (r : Fin 2048) (j : Fin 128) : k0_pay7 (F := Ideal) x w0 w1 w3 (ix2 r j)
    = w3 (ix2 0 j) * col x j r.val + w0 (ix2 0 j) * sh 3 (col x j) r.val + w1 (ix2 0 j) * sh 2 (col x j) r.val := by
  rw [← pay5_eq, ← pay6_eq, col_val]
  unfold k0_pay7
  generalize k0_pay5 x = z
  generalize k0_pay6 x = z'
  pointwise [k0_pay4]

/-- The convolved channel with its bias. -/
abbrev preAt (j : Fin 128) (r : ℕ) : EReal :=
  Conv.pre (w0 (ix2 0 j)) (w1 (ix2 0 j)) (w2 (ix2 0 j)) (w3 (ix2 0 j)) (col x j) r + b (ix2 0 j)

/-- The cotangent of the convolved block. -/
abbrev cotAt : FVec Ideal S2048x128 .f32 :=
  k0_pay11 (F := Ideal) b w2 (k0_pay7 x w0 w1 w3) (k0_pay8 x) k0_pay9 (Scalar.ofBits .f32 0x00000000#32) da

theorem pay11_eq (r : Fin 2048) (j : Fin 128) :
    cotAt w0 w1 w2 w3 b x da (ix2 r j) = dSilu (preAt w0 w1 w2 w3 b x j r.val) (da (ix2 r j)) := by
  unfold dSilu preAt Conv.pre
  rw [← pay7_eq, ← pay10_eq]
  unfold cotAt k0_pay11 back
  generalize k0_pay7 (F := Ideal) x w0 w1 w3 = z
  generalize k0_pay10 (F := Ideal) _ _ _ = z'
  pointwise

theorem pay12_eq (q : Fin 1) (j : Fin 128) :
    k0_pay12 (F := Ideal) b w2 (k0_pay7 x w0 w1 w3) (k0_pay8 x) k0_pay9 (Scalar.ofBits .f32 0x00000000#32) da (ix2 q j)
      = db (col (cotAt w0 w1 w2 w3 b x da) j) := by
  unfold db
  simp only [col_val]
  unfold k0_pay12 cotAt
  generalize k0_pay11 (F := Ideal) _ _ _ _ _ _ _ = z
  pointwise

theorem pay13_eq (q : Fin 1) (j : Fin 128) :
    k0_pay13 (F := Ideal) b w2 (k0_pay7 x w0 w1 w3) (k0_pay8 x) k0_pay9 (Scalar.ofBits .f32 0x00000000#32) da (ix2 q j)
      = dw 1 (col (cotAt w0 w1 w2 w3 b x da) j) (col x j) := by
  unfold dw
  simp only [← pay10_eq, col_val]
  unfold k0_pay13 cotAt back
  generalize k0_pay11 (F := Ideal) _ _ _ _ _ _ _ = z
  generalize k0_pay10 (F := Ideal) _ _ _ = z'
  pointwise

theorem pay14_eq (q : Fin 1) (j : Fin 128) :
    k0_pay14 (F := Ideal) b w2 (k0_pay6 x) (k0_pay7 x w0 w1 w3) (k0_pay8 x) k0_pay9 (Scalar.ofBits .f32 0x00000000#32) da (ix2 q j)
      = dw 2 (col (cotAt w0 w1 w2 w3 b x da) j) (col x j) := by
  unfold dw
  simp only [← pay6_eq, col_val]
  unfold k0_pay14 cotAt
  generalize k0_pay11 (F := Ideal) _ _ _ _ _ _ _ = z
  generalize k0_pay6 (F := Ideal) _ = z'
  pointwise

theorem pay17_eq (q : Fin 1) (j : Fin 128) :
    k0_pay17 (F := Ideal) b w2 (k0_pay5 x) (k0_pay7 x w0 w1 w3) (k0_pay8 x) k0_pay9 (Scalar.ofBits .f32 0x00000000#32) da (ix2 q j)
      = dw 3 (col (cotAt w0 w1 w2 w3 b x da) j) (col x j) := by
  unfold dw
  simp only [← pay5_eq, col_val]
  unfold k0_pay17 cotAt
  generalize k0_pay11 (F := Ideal) _ _ _ _ _ _ _ = z
  generalize k0_pay5 (F := Ideal) _ = z'
  pointwise

theorem pay18_eq (q : Fin 1) (j : Fin 128) : k0_pay18 (F := Ideal) (k0_pay4 x) D (ix2 q j) = dw 0 (col D j) (col x j) := by
  unfold dw
  simp only [sh_zero, col_val]
  pointwise [k0_pay18, k0_pay4]

/-- The gradient of the channel. -/
theorem pay19_eq (r : Fin 2048) (j : Fin 128) :
    k0_pay19 (F := Ideal) w3 (cotAt w0 w1 w2 w3 b x da)
      (k0_pay15 b w1 w2 (k0_pay7 x w0 w1 w3) (k0_pay8 x) k0_pay9 (Scalar.ofBits .f32 0x00000000#32) da)
      (k0_pay16 b w0 w2 (k0_pay7 x w0 w1 w3) (k0_pay8 x) k0_pay9 (Scalar.ofBits .f32 0x00000000#32) da) 2045#32 (ix2 r j)
      = Conv.dx (w0 (ix2 0 j)) (w1 (ix2 0 j)) (w2 (ix2 0 j)) (w3 (ix2 0 j)) (col (cotAt w0 w1 w2 w3 b x da) j) r.val := by
  unfold k0_pay19 k0_pay15 k0_pay16 cotAt
  generalize k0_pay11 (F := Ideal) _ _ _ _ _ _ _ = z
  unfold Conv.dx
  pointwise
  rw [select_slt r.val 2047 r.isLt (by omega), select_slt r.val 2046 r.isLt (by omega), select_slt r.val 2045 r.isLt (by omega)]
  rw [mul_roll_ahead _ z j r 1 2047 rfl (by omega), mul_roll_ahead _ z j r 2 2046 rfl (by omega),
    mul_roll_ahead _ z j r 3 2045 rfl (by omega), col_val]

end Cert.SsdConvIdeal.Hand

end
-- ==== Proof.SsdConvRef.lean ====
/-
  The reference of the second mixer's convolution gradient, stage by stage.
-/
module

public import proofs.«01_k».proof.Proof.Gen.SsdConvRefIdeal.Read
public import proofs.«01_k».proof.Proof.ConvSpec
public import proofs.«01_k».proof.Proof.FfnRef

@[expose] public section

set_option maxRecDepth 16384

noncomputable section

namespace Cert.SsdConvRefIdeal.Hand

open Cert.SsdConvRefIdeal Cert.SsdConvRefIdeal.Gen Cert.SsdConvRefIdeal.Read Cert.Ffn Idealize.ShloMosaic Idealize.ShloMosaic.TcCoe
open Cert.ReferenceIdeal.Ffn (hostReduceAdd_01)
open Cert.Conv (dSilu pad_sh)

/-- The column of a convolved channel in the projection. -/
def at' (c : Fin 1536) : Fin 6656 := ⟨5120 + c.val, by have := c.isLt; omega⟩

variable (U : FVec Ideal S8192x6656 .bf16) (W : FVec Ideal S4x1536 .f32) (B : FVec Ideal S1x1536 .f32) (A : FVec Ideal S8192x1536 .f32)
  (P : FVec Ideal S8192x6656 .bf16)

/-- The convolved channel `c` of sequence `b`, with its bias. -/
def act (b : Fin 4) (c : Fin 1536) (r : ℕ) : EReal :=
  Conv.pre (W (ix2 0 c)) (W (ix2 1 c)) (W (ix2 2 c)) (W (ix2 3 c)) (chan U b (at' c)) r + B (ix2 0 c)

/-- Its cotangent. -/
def cot (b : Fin 4) (c : Fin 1536) (r : ℕ) : EReal := if r < 2048 then dSilu (act U W B b c r) (chan A b c r) else 0

theorem v4_eq (b : Fin 4) (r : Fin 2051) (c : Fin 1536) :
    val_main_v4 (F := Ideal) U (ix3 b r c) = if r.val < 3 then 0 else chan U b (at' c) (r.val - 3) := by
  unfold at'
  pointwise [val_main_v4, val_main_v3, val_main_cst, val_main_v2, val_main_v1, val_main_v0]
  by_cases h : r.val < 3
  · rw [dif_pos h, if_pos h]
  · rw [dif_neg h, if_neg h, chan, dif_pos (by have := r.isLt; omega)]
    rfl

theorem v37_eq (b : Fin 4) (r : Fin 2048) (c : Fin 1536) : val_main_v37 (F := Ideal) U W B (ix3 b r c) = act U W B b c r.val := by
  have h0 := v4_eq U b
  unfold val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_cst_1
  generalize val_main_v4 (F := Ideal) U = z at h0 ⊢
  pointwise
  simp only [h0]
  rw [pad_sh _ r.val r.val 3 3 rfl, pad_sh _ r.val (1 + r.val) 2 3 (by omega), pad_sh _ r.val (2 + r.val) 1 3 (by omega),
    pad_sh _ r.val (3 + r.val) 0 3 (by omega), sh_zero]
  unfold act Conv.pre
  rw [add_comm _ (W (ix2 3 c) * _), ← add_assoc, ← add_assoc]

theorem v40_eq (b : Fin 4) (r : Fin 2048) (c : Fin 1536) : val_main_v40 (F := Ideal) U W B A (ix3 b r c) = cot U W B A b c r.val := by
  have h0 := v37_eq U W B b
  unfold val_main_v40 val_main_call1_v2 val_main_call1_v1 val_main_call1_v0 val_main_v39 val_main_v38_1 val_main_call0_v7 val_main_call0_v6 val_main_call0_cst_1 val_main_v38_2 val_main_call0_v4 val_main_call0_cst_0 val_main_call0_v3 val_main_call0_v2 val_main_call0_cst val_main_call0_v1 val_main_call0_v0
  generalize val_main_v37 (F := Ideal) U W B = z at h0 ⊢
  pointwise
  simp only [h0]
  rw [cot, if_pos r.isLt, chan_val]
  rfl

theorem v50_eq (c : Fin 1536) : val_main_v50 (F := Ideal) U W B A (ix1 c) = ∑ b : Fin 4, dw 0 (cot U W B A b c) (chan U b (at' c)) := by
  have h0 := fun b r => v4_eq U b r c
  have h1 := fun b r => v40_eq U W B A b r c
  unfold val_main_v50 val_main_cst_5 val_main_v49 val_main_v48 val_main_cst_4 val_main_v47 val_main_v30
  generalize val_main_v40 (F := Ideal) U W B A = z at h1 ⊢
  generalize val_main_v4 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  exact congrArg _ (pad_sh _ r.val (3 + r.val) 0 3 (by omega))

theorem v59_eq (c : Fin 1536) : val_main_v59 (F := Ideal) U W B A (ix1 c) = ∑ b : Fin 4, dw 1 (cot U W B A b c) (chan U b (at' c)) := by
  have h0 := fun b r => v4_eq U b r c
  have h1 := fun b r => v40_eq U W B A b r c
  unfold val_main_v59 val_main_cst_9 val_main_v58 val_main_v57 val_main_cst_8 val_main_v56 val_main_v23
  generalize val_main_v40 (F := Ideal) U W B A = z at h1 ⊢
  generalize val_main_v4 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  exact congrArg _ (pad_sh _ r.val (2 + r.val) 1 3 (by omega))

theorem v70_eq (c : Fin 1536) : val_main_v70 (F := Ideal) U W B A (ix1 c) = ∑ b : Fin 4, dw 2 (cot U W B A b c) (chan U b (at' c)) := by
  have h0 := fun b r => v4_eq U b r c
  have h1 := fun b r => v40_eq U W B A b r c
  unfold val_main_v70 val_main_cst_13 val_main_v69 val_main_v68 val_main_cst_12 val_main_v67 val_main_v16
  generalize val_main_v40 (F := Ideal) U W B A = z at h1 ⊢
  generalize val_main_v4 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  exact congrArg _ (pad_sh _ r.val (1 + r.val) 2 3 (by omega))

theorem v81_eq (c : Fin 1536) : val_main_v81 (F := Ideal) U W B A (ix1 c) = ∑ b : Fin 4, dw 3 (cot U W B A b c) (chan U b (at' c)) := by
  have h0 := fun b r => v4_eq U b r c
  have h1 := fun b r => v40_eq U W B A b r c
  unfold val_main_v81 val_main_cst_17 val_main_v80 val_main_v79 val_main_cst_16 val_main_v78 val_main_v8
  generalize val_main_v40 (F := Ideal) U W B A = z at h1 ⊢
  generalize val_main_v4 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  exact congrArg _ (pad_sh _ r.val r.val 3 3 (by omega))

/-- The bias's gradient. -/
theorem v44_eq (q : Fin 1) (c : Fin 1536) : val_main_v44 (F := Ideal) U W B A (ix2 q c) = ∑ b : Fin 4, db (cot U W B A b c) := by
  have h1 := fun b r => v40_eq U W B A b r c
  unfold val_main_v44 val_main_v43 val_main_cst_3 val_main_v42 val_main_v41 val_main_cst_2
  generalize val_main_v40 (F := Ideal) U W B A = z at h1 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h1]

/-- The gradient of the convolution's input. -/
theorem v90_eq (b : Fin 4) (r : Fin 2048) (c : Fin 1536) : val_main_v91 (F := Ideal) U W B A (ix2 (row b r) c) =
    Conv.dx (W (ix2 0 c)) (W (ix2 1 c)) (W (ix2 2 c)) (W (ix2 3 c)) (cot U W B A b c) r.val := by
  have h1 := fun b r => v40_eq U W B A b r c
  unfold val_main_v91 val_main_v90 val_main_v88 val_main_v83 val_main_v82 val_main_cst_18 val_main_v77 val_main_v76 val_main_v72 val_main_v71 val_main_cst_14 val_main_v66 val_main_v65 val_main_v61 val_main_v60 val_main_cst_10 val_main_v55 val_main_v54 val_main_v51 val_main_cst_6 val_main_v46 val_main_v45 val_main_v31 val_main_v29 val_main_v28 val_main_v24 val_main_v22 val_main_v21 val_main_v17 val_main_v15 val_main_v14 val_main_v9 val_main_v7 val_main_v6
  generalize val_main_v40 (F := Ideal) U W B A = z at h1 ⊢
  unfold row
  pointwise
  simp only [h1]
  unfold Conv.dx ahead
  have e1 : (2 ≤ 3 + r.val ∧ r.val + 1 < 2048) = (r.val + 1 < 2048) := propext (by omega)
  have e2 : (1 ≤ 3 + r.val ∧ r.val + 2 < 2048) = (r.val + 2 < 2048) := propext (by omega)
  have e3 : 3 + r.val - 2 = r.val + 1 := by omega
  have e4 : 3 + r.val - 1 = r.val + 2 := by omega
  have e5 : 3 + r.val = r.val + 3 := by omega
  simp only [dite_eq_ite, e3, e4, e1, e2]
  simp only [e5]
  rw [mul_ite, mul_ite, mul_ite, mul_zero, mul_zero, mul_zero]
  ac_rfl

/-- The taps' gradient. -/
theorem v86_eq (k : Fin 4) (c : Fin 1536) :
    val_main_v86 (F := Ideal) U W B A (ix2 k c) = ∑ b : Fin 4, dw (3 - k.val) (cot U W B A b c) (chan U b (at' c)) := by
  have h3 := v81_eq U W B A c
  have h2 := v70_eq U W B A c
  have h1 := v59_eq U W B A c
  have h0 := v50_eq U W B A c
  unfold val_main_v86 val_main_v85 val_main_cst_19 val_main_v84 val_main_v75 val_main_v74 val_main_cst_15 val_main_v73 val_main_v64 val_main_v63 val_main_cst_11 val_main_v62 val_main_v53 val_main_cst_7 val_main_v52
  generalize val_main_v81 (F := Ideal) U W B A = z3 at h3 ⊢
  generalize val_main_v70 (F := Ideal) U W B A = z2 at h2 ⊢
  generalize val_main_v59 (F := Ideal) U W B A = z1 at h1 ⊢
  generalize val_main_v50 (F := Ideal) U W B A = z0 at h0 ⊢
  pointwise
  simp only [h0, h1, h2, h3]
  match k with
  | ⟨0, _⟩ => simp
  | ⟨1, _⟩ => simp
  | ⟨2, _⟩ => simp
  | ⟨3, _⟩ => simp

/-- The gradient of the projection: the columns before the convolved channels are those that came in. -/
theorem v92_lo (r : Fin 8192) (c : Fin 6656) (h : c.val < 5120) : val_main_v92 (F := Ideal) U W B A P (ix2 r c) = P (ix2 r c) := by
  unfold val_main_v92 val_main_v89
  generalize val_main_v91 (F := Ideal) U W B A = z
  pointwise
  rw [dif_pos h]

theorem v92_hi (r : Fin 8192) (c : Fin 1536) :
    val_main_v92 (F := Ideal) U W B A P (ix2 r (at' c)) = val_main_v91 (F := Ideal) U W B A (ix2 r c) := by
  unfold val_main_v92 val_main_v89 at'
  generalize val_main_v91 (F := Ideal) U W B A = z
  pointwise

end Cert.SsdConvRefIdeal.Hand

end
-- ==== Proof.SsdConv.lean ====
/-
  What the second mixer's convolution gradient leaves in its outputs: point `t` of the grid takes sequence `t % 4` and the
  block of 128 channels `t / 4`; the channels' gradients are written block by block into the columns from 5120 on, the
  gradients of the taps and of the bias are summed over the four points of a block of channels.
-/
module

public import proofs.«01_k».proof.Defs
public import proofs.«01_k».proof.Proof.Gen.SsdConvIdeal.Value
public import proofs.«01_k».proof.Proof.Gen.SsdConvRefIdeal.Run
public import proofs.«01_k».proof.Proof.SsdConvPay
public import proofs.«01_k».proof.Proof.SsdConvRef

@[expose] public section

set_option maxRecDepth 16384

noncomputable section

namespace Cert.SsdConvIdeal.Hand

open Cert.SsdConvIdeal Cert.SsdConvIdeal.Gen Cert.Ffn Cert.Conv Idealize.ShloMosaic Idealize.ShloMosaic.TcCoe Idealize.SL.Sem
open Cert.SsdConvRefIdeal.Read Cert.SsdConvRefIdeal.Hand

variable (m : (ℓ : Loc nD τ sig) → Buf (Elt Ideal) ℓ) (c : Dev nD)

/-- The arguments as launched. -/
abbrev argU : (⟨2, ![8192, 6656]⟩ : Shape).Idx → EReal := m ((c.tc : Thread nD τ).loc main_arg0)
abbrev argW : (⟨2, ![4, 1536]⟩ : Shape).Idx → EReal := m ((c.tc : Thread nD τ).loc main_arg1)
abbrev argB : (⟨2, ![1, 1536]⟩ : Shape).Idx → EReal := m ((c.tc : Thread nD τ).loc main_arg2)
abbrev argA : (⟨2, ![8192, 1536]⟩ : Shape).Idx → EReal := m ((c.tc : Thread nD τ).loc main_arg3)
abbrev argP : (⟨2, ![8192, 6656]⟩ : Shape).Idx → EReal := m ((c.tc : Thread nD τ).loc main_arg4)

/-! ### Where each point's blocks lie -/

theorem idx0 : ∀ t : Fin cfg0.N, win0_0.index t = ![t.val % 4, 40 + t.val / 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![0, t.val / 4] := (by decide +kernel : ∀ t : Fin grid0.N, _)
theorem idx3 : ∀ t : Fin cfg0.N, win0_3.index t = ![t.val % 4, t.val / 4] := (by decide +kernel : ∀ t : Fin grid0.N, _)
theorem idx4 : ∀ t : Fin cfg0.N, win0_4.index t = ![t.val % 4, 40 + t.val / 4] := (by decide +kernel : ∀ t : Fin grid0.N, _)
theorem idx5 : ∀ t : Fin cfg0.N, win0_5.index t = ![0, t.val / 4] := (by decide +kernel : ∀ t : Fin grid0.N, _)
theorem idx6 : ∀ t : Fin cfg0.N, win0_6.index t = ![0, t.val / 4] := (by decide +kernel : ∀ t : Fin grid0.N, _)

/-- The sequence of a point. -/
def bat (t : Fin cfg0.N) : Fin 4 := ⟨t.val % 4, by omega⟩

theorem lt48 (t : Fin cfg0.N) : t.val < 48 := t.isLt

/-- Channel `j` of a point's block. -/
def ch (t : Fin cfg0.N) (j : Fin 128) : Fin 1536 := ⟨t.val / 4 * 128 + j.val, by have := lt48 t; have := j.isLt; omega⟩

theorem blk0 (t : Fin cfg0.N) (j : Fin 128) : col (n := 2048) (iblk m c 0 t) j = chan (argU m c) (bat t) (at' (ch t j)) := by
  funext r
  unfold col chan
  by_cases h : r < 2048
  · rw [dif_pos h, dif_pos h]
    unfold row at' ch bat
    blk_ext [iblk, V, idx0 t]
  · rw [dif_neg h, dif_neg h]

theorem blk3 (t : Fin cfg0.N) (r : Fin 2048) (j : Fin 128) : iblk m c 3 t (ix2 r j) = chan (argA m c) (bat t) (ch t j) r.val := by
  rw [chan_val]
  unfold row ch bat
  blk_ext [iblk, V, idx3 t]

theorem blk2 (t : Fin cfg0.N) (q : Fin 1) (j : Fin 128) : iblk m c 2 t (ix2 q j) = argB m c (ix2 0 (ch t j)) := by
  unfold ch
  blk_ext [iblk, V, idx2 t]

theorem blk1 (t : Fin cfg0.N) (k : Fin 4) (j : Fin 128) : iblk m c 1 t (ix2 k j) = argW m c (ix2 k (ch t j)) := by
  unfold ch
  blk_ext [iblk, V, idx1 t]

/-- The taps of a point. -/
abbrev tap0 (t : Fin cfg0.N) : Vec Ideal S1x128 .f32 := View.ld (iblk m c 1 t) (Rect.unit ![0, 0] ![1, 128] inb_S4x128_S1x128_0_0)
abbrev tap1 (t : Fin cfg0.N) : Vec Ideal S1x128 .f32 := View.ld (iblk m c 1 t) (Rect.unit ![1, 0] ![1, 128] inb_S4x128_S1x128_1_0)
abbrev tap2 (t : Fin cfg0.N) : Vec Ideal S1x128 .f32 := View.ld (iblk m c 1 t) (Rect.unit ![2, 0] ![1, 128] inb_S4x128_S1x128_2_0)
abbrev tap3 (t : Fin cfg0.N) : Vec Ideal S1x128 .f32 := View.ld (iblk m c 1 t) (Rect.unit ![3, 0] ![1, 128] inb_S4x128_S1x128_3_0)

theorem tap0_eq (t : Fin cfg0.N) (j : Fin 128) : tap0 m c t (ix2 0 j) = argW m c (ix2 0 (ch t j)) := (ld_row _ 0 (by omega) _ _ _).trans (blk1 m c t 0 j)
theorem tap1_eq (t : Fin cfg0.N) (j : Fin 128) : tap1 m c t (ix2 0 j) = argW m c (ix2 1 (ch t j)) := (ld_row _ 1 (by omega) _ _ _).trans (blk1 m c t 1 j)
theorem tap2_eq (t : Fin cfg0.N) (j : Fin 128) : tap2 m c t (ix2 0 j) = argW m c (ix2 2 (ch t j)) := (ld_row _ 2 (by omega) _ _ _).trans (blk1 m c t 2 j)
theorem tap3_eq (t : Fin cfg0.N) (j : Fin 128) : tap3 m c t (ix2 0 j) = argW m c (ix2 3 (ch t j)) := (ld_row _ 3 (by omega) _ _ _).trans (blk1 m c t 3 j)

/-- The cotangent of the convolved block of a point. -/
abbrev blkD (t : Fin cfg0.N) : FVec Ideal S2048x128 .f32 :=
  cotAt (tap0 m c t) (tap1 m c t) (tap2 m c t) (tap3 m c t) (iblk m c 2 t) (iblk m c 0 t) (iblk m c 3 t)

theorem blkD_col (t : Fin cfg0.N) (j : Fin 128) :
    col (n := 2048) (blkD m c t) j = cot (argU m c) (argW m c) (argB m c) (argA m c) (bat t) (ch t j) := by
  funext r
  unfold cot
  by_cases h : r < 2048
  · rw [if_pos h, col, dif_pos h]
    refine (pay11_eq ..).trans ?_
    rw [blk3 m c t ⟨r, h⟩ j]
    unfold preAt SsdConvRefIdeal.Hand.act
    rw [blk0, blk2, tap0_eq, tap1_eq, tap2_eq, tap3_eq]
  · rw [if_neg h, col, dif_neg h]

/-! ### The outputs of a point -/

theorem out4 (t : Fin cfg0.N) (r : Fin 2048) (j : Fin 128) : (outsAt0 m c t.val t.isLt).1 (ix2 r j) =
    Conv.dx (argW m c (ix2 0 (ch t j))) (argW m c (ix2 1 (ch t j))) (argW m c (ix2 2 (ch t j))) (argW m c (ix2 3 (ch t j)))
      (cot (argU m c) (argW m c) (argB m c) (argA m c) (bat t) (ch t j)) r.val := by
  by_cases h : t.val % 4 = 0
  · rw [outsAt0_A m c t h]; frame_out
    exact (pay19_eq ..).trans (Conv.dx_congr _ (tap0_eq m c t j) (tap1_eq m c t j) (tap2_eq m c t j) (tap3_eq m c t j) (blkD_col m c t j))
  · rw [outsAt0_B m c t h]; frame_out
    exact (pay19_eq ..).trans (Conv.dx_congr _ (tap0_eq m c t j) (tap1_eq m c t j) (tap2_eq m c t j) (tap3_eq m c t j) (blkD_col m c t j))

theorem pay1_eq (v a : FVec Ideal S1x128 .f32) (q : Fin 1) (j : Fin 128) : k0_pay1 (F := Ideal) v a (ix2 q j) = a (ix2 q j) + v (ix2 q j) := by
  pointwise [k0_pay1]

theorem pay20_eq (v a : FVec Ideal S1x128 .f32) (q : Fin 1) (j : Fin 128) : k0_pay20 (F := Ideal) v a (ix2 q j) = a (ix2 q j) + v (ix2 q j) := by
  pointwise [k0_pay20]

theorem pay21_eq (v a : FVec Ideal S1x128 .f32) (q : Fin 1) (j : Fin 128) : k0_pay21 (F := Ideal) v a (ix2 q j) = a (ix2 q j) + v (ix2 q j) := by
  pointwise [k0_pay21]

theorem pay22_eq (v a : FVec Ideal S1x128 .f32) (q : Fin 1) (j : Fin 128) : k0_pay22 (F := Ideal) v a (ix2 q j) = a (ix2 q j) + v (ix2 q j) := by
  pointwise [k0_pay22]

theorem pay23_eq (v a : FVec Ideal S1x128 .f32) (q : Fin 1) (j : Fin 128) : k0_pay23 (F := Ideal) v a (ix2 q j) = a (ix2 q j) + v (ix2 q j) := by
  pointwise [k0_pay23]

theorem pay2_eq (k : Fin 4) (j : Fin 128) : k0_pay2 (F := Ideal) (ix2 k j) = 0 := by
  pointwise [k0_pay2]

theorem pay3_eq (q : Fin 1) (j : Fin 128) : k0_pay3 (F := Ideal) (ix2 q j) = 0 := by
  pointwise [k0_pay3]

/-- What a point adds to the taps' gradient. -/
abbrev dTap (k : Fin 4) (j : Fin 128) (t : Fin cfg0.N) : EReal :=
  dw (3 - k.val) (cot (argU m c) (argW m c) (argB m c) (argA m c) (bat t) (ch t j)) (chan (argU m c) (bat t) (at' (ch t j)))

theorem out5_A (t : Fin cfg0.N) (h : t.val % 4 = 0) (k : Fin 4) (j : Fin 128) :
    (outsAt0 m c t.val t.isLt).2.1 (ix2 k j) = 0 + dTap m c k j t := by
  rw [outsAt0_A m c t h]; frame_out
  obtain rfl | rfl | rfl | rfl : k = 0 ∨ k = 1 ∨ k = 2 ∨ k = 3 := by omega
  · rw [canon_row_ne 0 3 (by decide), canon_row_ne 0 2 (by decide), canon_row_ne 0 1 (by decide), canon_row 0 0 rfl, pay21_eq]
    refine (congrArg _ (pay17_eq ..)).trans (add_dw _ ?_ (blkD_col m c t j) (blk0 m c t j))
    rw [readCov_row _ _ 0 0 rfl, canon_fill, pay2_eq]
  · rw [canon_row_ne 1 3 (by decide), canon_row_ne 1 2 (by decide), canon_row 1 1 rfl, pay22_eq]
    refine (congrArg _ (pay14_eq ..)).trans (add_dw _ ?_ (blkD_col m c t j) (blk0 m c t j))
    rw [readCov_row _ _ 1 1 rfl, canon_row_ne 1 0 (by decide), canon_fill, pay2_eq]
  · rw [canon_row_ne 2 3 (by decide), canon_row 2 2 rfl, pay23_eq]
    refine (congrArg _ (pay13_eq ..)).trans (add_dw _ ?_ (blkD_col m c t j) (blk0 m c t j))
    rw [readCov_row _ _ 2 2 rfl, canon_row_ne 2 1 (by decide), canon_row_ne 2 0 (by decide), canon_fill, pay2_eq]
  · rw [canon_row 3 3 rfl, pay1_eq]
    refine (congrArg _ (pay18_eq ..)).trans (add_dw _ ?_ (blkD_col m c t j) (blk0 m c t j))
    rw [readCov_row _ _ 3 3 rfl, canon_row_ne 3 2 (by decide), canon_row_ne 3 1 (by decide), canon_row_ne 3 0 (by decide), canon_fill, pay2_eq]

theorem out5_B (t : Fin cfg0.N) (h : ¬t.val % 4 = 0) (k : Fin 4) (j : Fin 128) : (outsAt0 m c t.val t.isLt).2.1 (ix2 k j)
    = (outsAt0 m c (t.val - 1) (Nat.lt_of_le_of_lt (Nat.sub_le _ _) t.isLt)).2.1 (ix2 k j) + dTap m c k j t := by
  rw [outsAt0_B m c t h]; frame_out
  obtain rfl | rfl | rfl | rfl : k = 0 ∨ k = 1 ∨ k = 2 ∨ k = 3 := by omega
  · rw [canon_row_ne 0 3 (by decide), canon_row_ne 0 2 (by decide), canon_row_ne 0 1 (by decide), canon_row 0 0 rfl, pay21_eq]
    exact (congrArg _ (pay17_eq ..)).trans (add_dw _ (ld_row _ 0 (by omega) _ _ _) (blkD_col m c t j) (blk0 m c t j))
  · rw [canon_row_ne 1 3 (by decide), canon_row_ne 1 2 (by decide), canon_row 1 1 rfl, pay22_eq]
    exact (congrArg _ (pay14_eq ..)).trans (add_dw _ (ld_row _ 1 (by omega) _ _ _) (blkD_col m c t j) (blk0 m c t j))
  · rw [canon_row_ne 2 3 (by decide), canon_row 2 2 rfl, pay23_eq]
    exact (congrArg _ (pay13_eq ..)).trans (add_dw _ (ld_row _ 2 (by omega) _ _ _) (blkD_col m c t j) (blk0 m c t j))
  · rw [canon_row 3 3 rfl, pay1_eq]
    exact (congrArg _ (pay18_eq ..)).trans (add_dw _ (ld_row _ 3 (by omega) _ _ _) (blkD_col m c t j) (blk0 m c t j))

theorem out6_A (t : Fin cfg0.N) (h : t.val % 4 = 0) (q : Fin 1) (j : Fin 128) :
    (outsAt0 m c t.val t.isLt).2.2 (ix2 q j) = 0 + db (cot (argU m c) (argW m c) (argB m c) (argA m c) (bat t) (ch t j)) := by
  rw [outsAt0_A m c t h]; frame_out
  rw [pay20_eq]
  exact (congrArg _ (pay12_eq ..)).trans (add_db (pay3_eq q j) (blkD_col m c t j))

theorem out6_B (t : Fin cfg0.N) (h : ¬t.val % 4 = 0) (q : Fin 1) (j : Fin 128) : (outsAt0 m c t.val t.isLt).2.2 (ix2 q j)
    = (outsAt0 m c (t.val - 1) (Nat.lt_of_le_of_lt (Nat.sub_le _ _) t.isLt)).2.2 (ix2 q j)
      + db (cot (argU m c) (argW m c) (argB m c) (argA m c) (bat t) (ch t j)) := by
  rw [outsAt0_B m c t h]; frame_out
  rw [pay20_eq]
  exact (congrArg _ (pay12_eq ..)).trans (add_db rfl (blkD_col m c t j))

/-! ### The sums over a run of four points -/

theorem bat_run (t : Fin cfg0.N) (s : Fin 4) (h : 4 * (t.val / 4) + s.val < cfg0.N) : bat ⟨4 * (t.val / 4) + s.val, h⟩ = s := by
  apply Fin.ext
  show (4 * (t.val / 4) + s.val) % 4 = s.val
  have := s.isLt; omega

theorem ch_run (t : Fin cfg0.N) (s : Fin 4) (h : 4 * (t.val / 4) + s.val < cfg0.N) (j : Fin 128) :
    ch ⟨4 * (t.val / 4) + s.val, h⟩ j = ch t j := by
  apply Fin.ext
  show (4 * (t.val / 4) + s.val) / 4 * 128 + j.val = t.val / 4 * 128 + j.val
  have := s.isLt; have : (4 * (t.val / 4) + s.val) / 4 = t.val / 4 := by omega
  rw [this]

theorem sum5 (t : Fin cfg0.N) (ht : t.val % 4 = 3) (k : Fin 4) (j : Fin 128) : (outsAt0 m c t.val t.isLt).2.1 (ix2 k j) =
    ∑ b : Fin 4, dw (3 - k.val) (cot (argU m c) (argW m c) (argB m c) (argA m c) b (ch t j)) (chan (argU m c) b (at' (ch t j))) := by
  rw [Pipeline.eq_sum_fin_of_reset_step_of_flush (fun n h => (outsAt0 m c n h).2.1 (ix2 k j)) 4 0 (dTap m c k j)
    (fun t h => out5_A m c t h k j) (fun t h => out5_B m c t h k j) t ht, zero_add]
  exact Finset.sum_congr rfl fun s _ => by unfold dTap; rw [bat_run, ch_run]

theorem sum6 (t : Fin cfg0.N) (ht : t.val % 4 = 3) (q : Fin 1) (j : Fin 128) : (outsAt0 m c t.val t.isLt).2.2 (ix2 q j) =
    ∑ b : Fin 4, db (cot (argU m c) (argW m c) (argB m c) (argA m c) b (ch t j)) := by
  rw [Pipeline.eq_sum_fin_of_reset_step_of_flush (fun n h => (outsAt0 m c n h).2.2 (ix2 q j)) 4 0
    (fun t => db (cot (argU m c) (argW m c) (argB m c) (argA m c) (bat t) (ch t j)))
    (fun t h => out6_A m c t h q j) (fun t h => out6_B m c t h q j) t ht, zero_add]
  exact Finset.sum_congr rfl fun s _ => by rw [bat_run, ch_run]

/-! ### The arrays -/

theorem final4 : (dats m 0 c).arrAt 4 cfg0.N = val_main_v92 (F := Ideal) (argU m c) (argW m c) (argB m c) (argA m c) (argP m c) := by
  refine (dats m 0 c).arrAt_eq_of_coversWhere_of_agree 4 _ (fun β => 40 ≤ β (1 : Fin 2)) (by decide +kernel) (fun t hf y => ?_) (fun i hi => ?_)
  · blk_simp
    obtain ⟨r, j, rfl⟩ : ∃ (r : Fin 2048) (j : Fin 128), y = ix2 r j := ⟨y 0, y 1, eq_ix2 y⟩
    have he : (win0_4.blk t).view.emb (ix2 r j) = ix2 (row (bat t) r) (at' (ch t j)) := by
      unfold row bat at' ch
      blk_ext [idx4 t]
    rw [after0_4, he, v92_hi, v90_eq]
    exact out4 m c t r j
  · blk_simp [Pipeline.Window.cell_apply] at hi
    rw [A_eq]
    obtain ⟨r, j, rfl⟩ : ∃ (r : Fin 8192) (j : Fin 6656), i = ix2 r j := ⟨i 0, i 1, eq_ix2 i⟩
    exact (v92_lo _ _ _ _ _ r j (by have : ¬ 40 ≤ j.val / 128 := hi; omega)).symm

theorem final5 : (dats m 0 c).arrAt 5 cfg0.N = val_main_v86 (F := Ideal) (argU m c) (argW m c) (argB m c) (argA m c) := by
  refine (dats m 0 c).arrAt_eq_of_covers 5 _ (by decide +kernel) fun t hf y => ?_
  blk_simp
  obtain ⟨k, j, rfl⟩ : ∃ (k : Fin 4) (j : Fin 128), y = ix2 k j := ⟨y 0, y 1, eq_ix2 y⟩
  have he : (win0_5.blk t).view.emb (ix2 k j) = ix2 k (ch t j) := by
    unfold ch
    blk_ext [idx5 t]
  rw [after0_5, he, v86_eq]
  exact sum5 m c t ((flush0_5 t).mp hf) k j

theorem final6 : (dats m 0 c).arrAt 6 cfg0.N = val_main_v44 (F := Ideal) (argU m c) (argW m c) (argB m c) (argA m c) := by
  refine (dats m 0 c).arrAt_eq_of_covers 6 _ (by decide +kernel) fun t hf y => ?_
  blk_simp
  obtain ⟨q, j, rfl⟩ : ∃ (q : Fin 1) (j : Fin 128), y = ix2 q j := ⟨y 0, y 1, eq_ix2 y⟩
  have he : (win0_6.blk t).view.emb (ix2 q j) = ix2 (0 : Fin 1) (ch t j) := by
    unfold ch
    blk_ext [idx6 t]
  rw [after0_6, he, v44_eq]
  exact sum6 m c t ((flush0_6 t).mp hf) q j

end Cert.SsdConvIdeal.Hand

/-! ### The claims -/

namespace Cert.Proof

open Idealize.ShloMosaic Idealize.ShloMosaic.TcCoe Idealize.SL.Sem Cert.SsdConvIdeal.Hand

theorem SsdConv.reference_frame : Cert.quiescent_SsdConvRefIdeal (hSsdConvRefIdeal := Cert.SsdConvRefIdeal.Gen.facts) := fun m ρ _ =>
  (θ_run Cert.SsdConvRefIdeal.defs _ _).mono (fun r h => ⟨fun c => (h c).2.2.2, sem_eq_zero_of_no_sems (by decide) r.2⟩)
    (Cert.SsdConvRefIdeal.Value.run (F := Ideal) m ρ)

theorem SsdConv.value : Cert.algebraic_SsdConvIdeal_SsdConvRefIdeal (hSsdConvIdeal := Cert.SsdConvIdeal.Gen.facts) (hSsdConvRefIdeal := Cert.SsdConvRefIdeal.Gen.facts) := by
  intro m ρ m' ρ' _ hagree
  refine ⟨_, _, _, Cert.SsdConvIdeal.Value.run_blocks (F := Ideal) m ρ,
    (θ_run Cert.SsdConvRefIdeal.defs _ _).mono (fun _ h c => ⟨(h c).1.trans ?_, (h c).2.1.trans ?_, (h c).2.2.1.trans ?_, (h c).2.2.2⟩)
      (Cert.SsdConvRefIdeal.Value.run (F := Ideal) m' ρ')⟩
  · rw [Cert.SsdConvRefIdeal.Read.val_main_v92_eq, (hagree c).1, (hagree c).2.1, (hagree c).2.2.1, (hagree c).2.2.2.1, (hagree c).2.2.2.2]
    exact (final4 m c).symm
  · rw [Cert.SsdConvRefIdeal.Read.val_main_v86_eq, (hagree c).1, (hagree c).2.1, (hagree c).2.2.1, (hagree c).2.2.2.1]
    exact (final5 m c).symm
  · rw [Cert.SsdConvRefIdeal.Read.val_main_v44_eq, (hagree c).1, (hagree c).2.1, (hagree c).2.2.1, (hagree c).2.2.2.1]
    exact (final6 m c).symm

end Cert.Proof

end
-- ==== Proof.GdnSpec.lean ====
/-
  The gradient of the delta rule's convolution: `ConvSpec`'s channels for the values, and for the keys and the queries
  the gradient of the normalisation of each head of 128 channels besides. The channels of a third are given by their
  columns in the projection and in the taps.
-/
module

public import proofs.«01_k».proof.Proof.ConvSpec

@[expose] public section

noncomputable section

namespace Cert.Gdn

open Idealize.ShloMosaic Cert.Ffn Cert.Conv

/-- The squared length of a head, kept from zero. -/
def sq (a : Fin 128 → EReal) : EReal := (∑ k, a k * a k) + Ideal.ofBits .f32 0x358637BD#32

/-- What the length's change takes back to each of the head's channels, for the cotangent `e`. -/
def slope (a e : Fin 128 → EReal) : EReal :=
  (∑ k, a k * e k) * (Ideal.ofBits .f32 0xBF000000#32 * Ideal.div (Ideal.rsqrt (sq a)) (sq a))

/-- The gradient of a head from the cotangent `e` of the head at length one. -/
def dUnit (a e : Fin 128 → EReal) (j : Fin 128) : EReal := (e j * Ideal.rsqrt (sq a) + a j * slope a e) + slope a e * a j

theorem dUnit_congr {a b e f : Fin 128 → EReal} (j : Fin 128) (h : ∀ k, a k = b k) (g : ∀ k, e k = f k) : dUnit a e j = dUnit b f j := by
  rw [funext h, funext g]

/-- The scale of the queries. -/
def scale : EReal := Ideal.ofBits .f32 0x3DB504F3#32

/-- `silu`. -/
def silu (g : EReal) : EReal := g * Ideal.logistic g

/-- Lane `k` of head `h`. -/
def lane (h : Fin 8) (k : Fin 128) : Fin 1024 := ⟨h.val * 128 + k.val, by have := h.isLt; have := k.isLt; omega⟩

theorem lane_surj (c : Fin 1024) : ∃ h k, c = lane h k :=
  ⟨⟨c.val / 128, by have := c.isLt; omega⟩, ⟨c.val % 128, by omega⟩, by apply Fin.ext; show c.val = c.val / 128 * 128 + c.val % 128; omega⟩

section third

variable (u : Fin 1024 → Fin 6656) (w : Fin 1024 → Fin 3072)
  (U : (⟨2, ![8192, 6656]⟩ : Shape).Idx → EReal) (W : (⟨2, ![4, 3072]⟩ : Shape).Idx → EReal)
  (A : (⟨2, ![8192, 1024]⟩ : Shape).Idx → EReal)

/-- The convolved channel `c` of sequence `b`. -/
def conv (b : Fin 4) (c : Fin 1024) (r : ℕ) : EReal :=
  Conv.pre (W (ix2 0 (w c))) (W (ix2 1 (w c))) (W (ix2 2 (w c))) (W (ix2 3 (w c))) (chan U b (u c)) r

/-- The cotangent of a convolved channel of the values. -/
def cotV (b : Fin 4) (c : Fin 1024) (r : ℕ) : EReal := if r < 2048 then dSilu (conv u w U W b c r) (chan A b c r) else 0

/-- The cotangent of a convolved channel of the keys. -/
def cotK (b : Fin 4) (h : Fin 8) (j : Fin 128) (r : ℕ) : EReal :=
  if r < 2048 then dSilu (conv u w U W b (lane h j) r)
    (dUnit (fun k => silu (conv u w U W b (lane h k) r)) (fun k => chan A b (lane h k) r) j) else 0

/-- The cotangent of a convolved channel of the queries. -/
def cotQ (b : Fin 4) (h : Fin 8) (j : Fin 128) (r : ℕ) : EReal :=
  if r < 2048 then dSilu (conv u w U W b (lane h j) r)
    (dUnit (fun k => silu (conv u w U W b (lane h k) r)) (fun k => chan A b (lane h k) r * scale) j) else 0

end third

end Cert.Gdn

end
-- ==== Proof.ConvVPay.lean ====
/-
  What the body of the delta rule's convolution gradient computes, the values' third, for one head of one sequence.
-/
module

public import proofs.«01_k».proof.Proof.Gen.ConvVIdeal.Skeleton
public import proofs.«01_k».proof.Proof.GdnSpec

@[expose] public section

set_option maxRecDepth 16384

noncomputable section

namespace Cert.ConvVIdeal.Hand

open Cert.ConvVIdeal Cert.ConvVIdeal.Gen Cert.Ffn Cert.Gdn Idealize.ShloMosaic Idealize.ShloMosaic.TcCoe Idealize.SL.Sem
open Cert.Conv (dSilu)

variable (w0 w1 w2 w3 : Vec Ideal S1x128 .f32) (x : Vec Ideal S2048x128 .bf16) (da : Vec Ideal S2048x128 .f32)
  (D : FVec Ideal S2048x128 .f32) (o : FVec Ideal S1x128 .f32)

theorem sh3_eq (r : Fin 2048) (j : Fin 128) : k0_pay8 (F := Ideal) x (ix2 r j) = sh 3 (col x j) r.val := by
  pointwise [k0_pay8, k0_pay7]
  rw [select_sge r.val 3 r.isLt (by omega), roll_sh x j r 3 (by omega)]

theorem sh2_eq (r : Fin 2048) (j : Fin 128) : k0_pay9 (F := Ideal) x (ix2 r j) = sh 2 (col x j) r.val := by
  pointwise [k0_pay9, k0_pay7]
  rw [select_sge r.val 2 r.isLt (by omega), roll_sh x j r 2 (by omega)]

theorem sh1_eq (r : Fin 2048) (j : Fin 128) : k0_pay11 (F := Ideal) x (ix2 r j) = sh 1 (col x j) r.val := by
  pointwise [k0_pay11, k0_pay7]
  rw [select_sge r.val 1 r.isLt (by omega), roll_sh x j r 1 (by omega)]

theorem part_eq (r : Fin 2048) (j : Fin 128) : k0_pay10 (F := Ideal) x w0 w1 w3 (ix2 r j)
    = w3 (ix2 0 j) * col x j r.val + w0 (ix2 0 j) * sh 3 (col x j) r.val + w1 (ix2 0 j) * sh 2 (col x j) r.val := by
  rw [← sh3_eq, ← sh2_eq, col_val]
  unfold k0_pay10
  generalize k0_pay8 x = z
  generalize k0_pay9 x = z'
  pointwise [k0_pay7]

/-- The convolved channel. -/
abbrev preAt (j : Fin 128) (r : ℕ) : EReal :=
  Conv.pre (w0 (ix2 0 j)) (w1 (ix2 0 j)) (w2 (ix2 0 j)) (w3 (ix2 0 j)) (col x j) r

/-- The cotangent of the convolved block. -/
abbrev cotAt : FVec Ideal S2048x128 .f32 := k0_pay13 (F := Ideal) (k0_pay10 x w0 w1 w3) (k0_pay11 x) (k0_pay12 w2) da

theorem cot_eq (r : Fin 2048) (j : Fin 128) :
    cotAt w0 w1 w2 w3 x da (ix2 r j) = dSilu (preAt w0 w1 w2 w3 x j r.val) (da (ix2 r j)) := by
  unfold dSilu preAt Conv.pre
  simp only [← part_eq w0 w1 w3 x, ← sh1_eq x]
  unfold cotAt k0_pay13 k0_pay12
  generalize k0_pay10 (F := Ideal) x w0 w1 w3 = z
  generalize k0_pay11 (F := Ideal) x = z'
  pointwise

theorem dw1_eq (q : Fin 1) (j : Fin 128) :
    k0_pay14 (F := Ideal) (k0_pay10 x w0 w1 w3) (k0_pay11 x) (k0_pay12 w2) da (ix2 q j) = dw 1 (col (cotAt w0 w1 w2 w3 x da) j) (col x j) := by
  unfold dw
  simp only [← sh1_eq, col_val]
  unfold k0_pay14 cotAt
  generalize k0_pay13 (F := Ideal) _ _ _ _ = z
  generalize k0_pay11 (F := Ideal) _ = z'
  pointwise

theorem dw2_eq (q : Fin 1) (j : Fin 128) :
    k0_pay15 (F := Ideal) (k0_pay9 x) (k0_pay10 x w0 w1 w3) (k0_pay11 x) (k0_pay12 w2) da (ix2 q j) = dw 2 (col (cotAt w0 w1 w2 w3 x da) j) (col x j) := by
  unfold dw
  simp only [← sh2_eq, col_val]
  unfold k0_pay15 cotAt
  generalize k0_pay13 (F := Ideal) _ _ _ _ = z
  generalize k0_pay9 (F := Ideal) _ = z'
  pointwise

theorem dw3_eq (q : Fin 1) (j : Fin 128) :
    k0_pay17 (F := Ideal) (k0_pay8 x) (k0_pay10 x w0 w1 w3) (k0_pay11 x) (k0_pay12 w2) da (ix2 q j) = dw 3 (col (cotAt w0 w1 w2 w3 x da) j) (col x j) := by
  unfold dw
  simp only [← sh3_eq, col_val]
  unfold k0_pay17 cotAt
  generalize k0_pay13 (F := Ideal) _ _ _ _ = z
  generalize k0_pay8 (F := Ideal) _ = z'
  pointwise

theorem dw0_eq (q : Fin 1) (j : Fin 128) : k0_pay5 (F := Ideal) (k0_pay7 x) D o (ix2 q j) = o (ix2 q j) + dw 0 (col D j) (col x j) := by
  unfold dw
  simp only [sh_zero, col_val]
  pointwise [k0_pay5, k0_pay7]

theorem pay2_eq (v a : FVec Ideal S1x128 .f32) (q : Fin 1) (j : Fin 128) : k0_pay2 (F := Ideal) v a (ix2 q j) = a (ix2 q j) + v (ix2 q j) := by
  pointwise [k0_pay2]

theorem pay3_eq (v a : FVec Ideal S1x128 .f32) (q : Fin 1) (j : Fin 128) : k0_pay3 (F := Ideal) v a (ix2 q j) = a (ix2 q j) + v (ix2 q j) := by
  pointwise [k0_pay3]

theorem pay4_eq (v a : FVec Ideal S1x128 .f32) (q : Fin 1) (j : Fin 128) : k0_pay4 (F := Ideal) v a (ix2 q j) = a (ix2 q j) + v (ix2 q j) := by
  pointwise [k0_pay4]

theorem zero_eq (k : Fin 4) (j : Fin 128) : k0_pay6 (F := Ideal) (ix2 k j) = 0 := by
  pointwise [k0_pay6]

/-- The gradient of the channel. -/
theorem dx_eq (r : Fin 2048) (j : Fin 128) :
    k0_pay1 (F := Ideal) w3 (cotAt w0 w1 w2 w3 x da)
      (k0_pay16 w1 w2 (k0_pay10 x w0 w1 w3) (k0_pay11 x) (k0_pay12 w2) da)
      (k0_pay18 w0 (k0_pay10 x w0 w1 w3) (k0_pay11 x) (k0_pay12 w2) da) (ix2 r j)
      = Conv.dx (w0 (ix2 0 j)) (w1 (ix2 0 j)) (w2 (ix2 0 j)) (w3 (ix2 0 j)) (col (cotAt w0 w1 w2 w3 x da) j) r.val := by
  unfold k0_pay1 k0_pay16 k0_pay18 cotAt
  generalize k0_pay13 (F := Ideal) _ _ _ _ = z
  unfold Conv.dx
  pointwise
  rw [select_slt r.val 2047 r.isLt (by omega), select_slt r.val 2046 r.isLt (by omega), select_slt r.val 2045 r.isLt (by omega)]
  rw [mul_roll_ahead _ z j r 1 2047 rfl (by omega), mul_roll_ahead _ z j r 2 2046 rfl (by omega),
    mul_roll_ahead _ z j r 3 2045 rfl (by omega), col_val]

end Cert.ConvVIdeal.Hand

end
-- ==== Proof.ConvVRef.lean ====
/-
  The reference of the delta rule's convolution gradient, the values' third, stage by stage.
-/
module

public import proofs.«01_k».proof.Proof.Gen.ConvVRefIdeal.Read
public import proofs.«01_k».proof.Proof.GdnSpec
public import proofs.«01_k».proof.Proof.FfnRef

@[expose] public section

set_option maxRecDepth 16384

noncomputable section

namespace Cert.ConvVRefIdeal.Hand

open Cert.ConvVRefIdeal Cert.ConvVRefIdeal.Gen Cert.ConvVRefIdeal.Read Cert.Ffn Cert.Gdn Idealize.ShloMosaic Idealize.ShloMosaic.TcCoe
open Cert.ReferenceIdeal.Ffn (hostReduceAdd_01)
open Cert.Conv (dSilu pad_sh)

/-- The column of a channel in the projection. -/
def at' (c : Fin 1024) : Fin 6656 := ⟨2048 + c.val, by have := c.isLt; omega⟩

/-- The column of a channel in the taps. -/
def tap (c : Fin 1024) : Fin 3072 := ⟨2048 + c.val, by have := c.isLt; omega⟩

variable (U : FVec Ideal S8192x6656 .bf16) (W : FVec Ideal S4x3072 .f32) (A : FVec Ideal S8192x1024 .f32) (P : FVec Ideal S8192x6656 .bf16)

/-- The cotangent of a convolved channel. -/
abbrev cot (b : Fin 4) (c : Fin 1024) (r : ℕ) : EReal := cotV at' tap U W A b c r

theorem v5_eq (b : Fin 4) (r : Fin 2051) (c : Fin 1024) :
    val_main_v5 (F := Ideal) U (ix3 b r c) = if r.val < 3 then 0 else chan U b (at' c) (r.val - 3) := by
  unfold at'
  pointwise [val_main_v5, val_main_v4, val_main_cst, val_main_v2, val_main_v1, val_main_v0]
  by_cases h : r.val < 3
  · rw [dif_pos h, if_pos h]
  · rw [dif_neg h, if_neg h, chan, dif_pos (by have := r.isLt; omega)]
    rfl

theorem pre_eq (b : Fin 4) (r : Fin 2048) (c : Fin 1024) : val_main_v35 (F := Ideal) U W (ix3 b r c) = conv at' tap U W b c r.val := by
  have h0 := v5_eq U b
  unfold val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_cst_1 val_main_v12 val_main_v11 val_main_v10 val_main_v9 val_main_v8 val_main_v7 val_main_v3
  generalize val_main_v5 (F := Ideal) U = z at h0 ⊢
  pointwise
  simp only [h0]
  rw [pad_sh _ r.val r.val 3 3 rfl, pad_sh _ r.val (1 + r.val) 2 3 (by omega), pad_sh _ r.val (2 + r.val) 1 3 (by omega),
    pad_sh _ r.val (3 + r.val) 0 3 (by omega), sh_zero]
  unfold conv Conv.pre tap
  rw [add_comm _ (W (ix2 3 _) * _), ← add_assoc, ← add_assoc]

theorem cot_eq (b : Fin 4) (r : Fin 2048) (c : Fin 1024) : val_main_v40 (F := Ideal) U W A (ix3 b r c) = cot U W A b c r.val := by
  have h0 := pre_eq U W b
  unfold val_main_v40 val_main_call1_v2 val_main_call1_v1 val_main_call1_v0 val_main_v39 val_main_v38 val_main_v36_1 val_main_call0_v7 val_main_call0_v6 val_main_call0_cst_1 val_main_v36_2 val_main_call0_v4 val_main_call0_cst_0 val_main_call0_v3 val_main_call0_v2 val_main_call0_cst val_main_call0_v1 val_main_call0_v0
  generalize val_main_v35 (F := Ideal) U W = z at h0 ⊢
  pointwise
  simp only [h0]
  rw [cot, cotV, if_pos r.isLt, chan_val]
  rfl

theorem sum0_eq (c : Fin 1024) : val_main_v46 (F := Ideal) U W A (ix1 c) = ∑ b : Fin 4, dw 0 (cot U W A b c) (chan U b (at' c)) := by
  have h0 := fun b r => v5_eq U b r c
  have h1 := fun b r => cot_eq U W A b r c
  unfold val_main_v46 val_main_cst_3 val_main_v45 val_main_v44 val_main_cst_2 val_main_v43 val_main_v31
  generalize val_main_v40 (F := Ideal) U W A = z at h1 ⊢
  generalize val_main_v5 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  exact congrArg _ (pad_sh _ r.val (3 + r.val) 0 3 (by omega))

theorem sum1_eq (c : Fin 1024) : val_main_v55 (F := Ideal) U W A (ix1 c) = ∑ b : Fin 4, dw 1 (cot U W A b c) (chan U b (at' c)) := by
  have h0 := fun b r => v5_eq U b r c
  have h1 := fun b r => cot_eq U W A b r c
  unfold val_main_v55 val_main_cst_7 val_main_v54 val_main_v53 val_main_cst_6 val_main_v52 val_main_v24
  generalize val_main_v40 (F := Ideal) U W A = z at h1 ⊢
  generalize val_main_v5 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  exact congrArg _ (pad_sh _ r.val (2 + r.val) 1 3 (by omega))

theorem sum2_eq (c : Fin 1024) : val_main_v66 (F := Ideal) U W A (ix1 c) = ∑ b : Fin 4, dw 2 (cot U W A b c) (chan U b (at' c)) := by
  have h0 := fun b r => v5_eq U b r c
  have h1 := fun b r => cot_eq U W A b r c
  unfold val_main_v66 val_main_cst_11 val_main_v65 val_main_v64 val_main_cst_10 val_main_v63 val_main_v17
  generalize val_main_v40 (F := Ideal) U W A = z at h1 ⊢
  generalize val_main_v5 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  exact congrArg _ (pad_sh _ r.val (1 + r.val) 2 3 (by omega))

theorem sum3_eq (c : Fin 1024) : val_main_v77 (F := Ideal) U W A (ix1 c) = ∑ b : Fin 4, dw 3 (cot U W A b c) (chan U b (at' c)) := by
  have h0 := fun b r => v5_eq U b r c
  have h1 := fun b r => cot_eq U W A b r c
  unfold val_main_v77 val_main_cst_15 val_main_v76 val_main_v75 val_main_cst_14 val_main_v74 val_main_v9
  generalize val_main_v40 (F := Ideal) U W A = z at h1 ⊢
  generalize val_main_v5 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  exact congrArg _ (pad_sh _ r.val (r.val) 3 3 rfl)

/-- The gradient of the convolution's input. -/
theorem dx_eq (b : Fin 4) (r : Fin 2048) (c : Fin 1024) : val_main_v86 (F := Ideal) U W A (ix2 (row b r) c) =
    Conv.dx (W (ix2 0 (tap c))) (W (ix2 1 (tap c))) (W (ix2 2 (tap c))) (W (ix2 3 (tap c))) (cot U W A b c) r.val := by
  have h1 := fun b r => cot_eq U W A b r c
  unfold val_main_v86 val_main_v85 val_main_v84 val_main_v79 val_main_v78 val_main_cst_16 val_main_v73 val_main_v72 val_main_v68 val_main_v67 val_main_cst_12 val_main_v62 val_main_v61 val_main_v57 val_main_v56 val_main_cst_8 val_main_v51 val_main_v50 val_main_v47 val_main_cst_4 val_main_v42 val_main_v41 val_main_v32 val_main_v30 val_main_v29 val_main_v25 val_main_v23 val_main_v22 val_main_v18 val_main_v16 val_main_v15 val_main_v10 val_main_v8 val_main_v7 val_main_v3
  generalize val_main_v40 (F := Ideal) U W A = z at h1 ⊢
  unfold row
  pointwise
  simp only [h1]
  unfold Conv.dx ahead tap
  have e1 : (2 ≤ 3 + r.val ∧ r.val + 1 < 2048) = (r.val + 1 < 2048) := propext (by omega)
  have e2 : (1 ≤ 3 + r.val ∧ r.val + 2 < 2048) = (r.val + 2 < 2048) := propext (by omega)
  have e3 : 3 + r.val - 2 = r.val + 1 := by omega
  have e4 : 3 + r.val - 1 = r.val + 2 := by omega
  have e5 : 3 + r.val = r.val + 3 := by omega
  simp only [dite_eq_ite, e3, e4, e1, e2]
  simp only [e5]
  rw [mul_ite, mul_ite, mul_ite, mul_zero, mul_zero, mul_zero]
  ac_rfl

/-- The taps' gradient. -/
theorem dw_eq (k : Fin 4) (c : Fin 1024) :
    val_main_v82 (F := Ideal) U W A (ix2 k c) = ∑ b : Fin 4, dw (3 - k.val) (cot U W A b c) (chan U b (at' c)) := by
  have h3 := sum3_eq U W A c
  have h2 := sum2_eq U W A c
  have h1 := sum1_eq U W A c
  have h0 := sum0_eq U W A c
  unfold val_main_v82 val_main_v81 val_main_cst_17 val_main_v80 val_main_v71 val_main_v70 val_main_cst_13 val_main_v69 val_main_v60 val_main_v59 val_main_cst_9 val_main_v58 val_main_v49 val_main_cst_5 val_main_v48
  generalize val_main_v77 (F := Ideal) U W A = z3 at h3 ⊢
  generalize val_main_v66 (F := Ideal) U W A = z2 at h2 ⊢
  generalize val_main_v55 (F := Ideal) U W A = z1 at h1 ⊢
  generalize val_main_v46 (F := Ideal) U W A = z0 at h0 ⊢
  pointwise
  simp only [h0, h1, h2, h3]
  match k with
  | ⟨0, _⟩ => simp
  | ⟨1, _⟩ => simp
  | ⟨2, _⟩ => simp
  | ⟨3, _⟩ => simp

/-- The gradient of the projection: the columns outside the third are those that came in. -/
theorem fin_out (r : Fin 8192) (c : Fin 6656) (h : ¬(2048 ≤ c.val ∧ c.val < 3072)) :
    val_main_v89 (F := Ideal) U W A P (ix2 r c) = P (ix2 r c) := by
  unfold val_main_v89 val_main_v88 val_main_v87
  generalize val_main_v86 (F := Ideal) U W A = z
  pointwise
  by_cases h1 : c.val < 2048
  · rw [dif_pos h1]
  · rw [dif_neg h1, dif_neg (by omega)]
    congr 2
    apply Fin.ext
    show _ + _ = _
    omega

theorem fin_in (r : Fin 8192) (c : Fin 1024) :
    val_main_v89 (F := Ideal) U W A P (ix2 r (at' c)) = val_main_v86 (F := Ideal) U W A (ix2 r c) := by
  unfold val_main_v89 val_main_v88 val_main_v87 at'
  generalize val_main_v86 (F := Ideal) U W A = z
  pointwise

end Cert.ConvVRefIdeal.Hand

end
-- ==== Proof.ConvV.lean ====
/-
  What the delta rule's convolution gradient leaves in its outputs, the values' third: point `t` of the grid takes sequence
  `t % 4` and head `t / 4`; the channels' gradients are written block by block into the third's columns, the taps' gradient
  is summed over the four points of a head.
-/
module

public import proofs.«01_k».proof.Defs
public import proofs.«01_k».proof.Proof.Gen.ConvVIdeal.Value
public import proofs.«01_k».proof.Proof.Gen.ConvVRefIdeal.Run
public import proofs.«01_k».proof.Proof.ConvVPay
public import proofs.«01_k».proof.Proof.ConvVRef

@[expose] public section

set_option maxRecDepth 16384

noncomputable section

namespace Cert.ConvVIdeal.Hand

open Cert.ConvVIdeal Cert.ConvVIdeal.Gen Cert.Ffn Cert.Conv Cert.Gdn Idealize.ShloMosaic Idealize.ShloMosaic.TcCoe Idealize.SL.Sem
open Cert.ConvVRefIdeal.Read Cert.ConvVRefIdeal.Hand

variable (m : (ℓ : Loc nD τ sig) → Buf (Elt Ideal) ℓ) (c : Dev nD)

/-- The arguments as launched. -/
abbrev argU : (⟨2, ![8192, 6656]⟩ : Shape).Idx → EReal := m ((c.tc : Thread nD τ).loc main_arg0)
abbrev argW : (⟨2, ![4, 3072]⟩ : Shape).Idx → EReal := m ((c.tc : Thread nD τ).loc main_arg1)
abbrev argA : (⟨2, ![8192, 1024]⟩ : Shape).Idx → EReal := m ((c.tc : Thread nD τ).loc main_arg2)
abbrev argP : (⟨2, ![8192, 6656]⟩ : Shape).Idx → EReal := m ((c.tc : Thread nD τ).loc main_arg3)

/-! ### Where each point's blocks lie -/

theorem idx0 : ∀ t : Fin cfg0.N, win0_0.index t = ![t.val % 4, 16 + t.val / 4] := (by decide +kernel : ∀ t : Fin grid0.N, _)
theorem idx1 : ∀ t : Fin cfg0.N, win0_1.index t = ![0, 16 + t.val / 4] := (by decide +kernel : ∀ t : Fin grid0.N, _)
theorem idx2 : ∀ t : Fin cfg0.N, win0_2.index t = ![t.val % 4, t.val / 4] := (by decide +kernel : ∀ t : Fin grid0.N, _)
theorem idx3 : ∀ t : Fin cfg0.N, win0_3.index t = ![t.val % 4, 16 + t.val / 4] := (by decide +kernel : ∀ t : Fin grid0.N, _)
theorem idx4 : ∀ t : Fin cfg0.N, win0_4.index t = ![0, t.val / 4] := (by decide +kernel : ∀ t : Fin grid0.N, _)

/-- The sequence of a point. -/
def bat (t : Fin cfg0.N) : Fin 4 := ⟨t.val % 4, by omega⟩

theorem lt32 (t : Fin cfg0.N) : t.val < 32 := t.isLt

/-- Channel `j` of a point's block. -/
def ch (t : Fin cfg0.N) (j : Fin 128) : Fin 1024 := ⟨t.val / 4 * 128 + j.val, by have := lt32 t; have := j.isLt; omega⟩

theorem blk0 (t : Fin cfg0.N) (j : Fin 128) : col (n := 2048) (iblk m c 0 t) j = chan (argU m c) (bat t) (at' (ch t j)) := by
  funext r
  unfold col chan
  by_cases h : r < 2048
  · rw [dif_pos h, dif_pos h]
    unfold row at' ch bat
    blk_ext [iblk, V, idx0 t]
  · rw [dif_neg h, dif_neg h]

theorem blk1 (t : Fin cfg0.N) (k : Fin 4) (j : Fin 128) : iblk m c 1 t (ix2 k j) = argW m c (ix2 k (tap (ch t j))) := by
  unfold tap ch
  blk_ext [iblk, V, idx1 t]

theorem blk2 (t : Fin cfg0.N) (r : Fin 2048) (j : Fin 128) : iblk m c 2 t (ix2 r j) = chan (argA m c) (bat t) (ch t j) r.val := by
  rw [chan_val]
  unfold row ch bat
  blk_ext [iblk, V, idx2 t]

/-- The taps of a point. -/
abbrev tap0 (t : Fin cfg0.N) : Vec Ideal S1x128 .f32 := View.ld (iblk m c 1 t) (Rect.unit ![0, 0] ![1, 128] inb_S4x128_S1x128_0_0)
abbrev tap1 (t : Fin cfg0.N) : Vec Ideal S1x128 .f32 := View.ld (iblk m c 1 t) (Rect.unit ![1, 0] ![1, 128] inb_S4x128_S1x128_1_0)
abbrev tap2 (t : Fin cfg0.N) : Vec Ideal S1x128 .f32 := View.ld (iblk m c 1 t) (Rect.unit ![2, 0] ![1, 128] inb_S4x128_S1x128_2_0)
abbrev tap3 (t : Fin cfg0.N) : Vec Ideal S1x128 .f32 := View.ld (iblk m c 1 t) (Rect.unit ![3, 0] ![1, 128] inb_S4x128_S1x128_3_0)

theorem tap0_eq (t : Fin cfg0.N) (j : Fin 128) : tap0 m c t (ix2 0 j) = argW m c (ix2 0 (tap (ch t j))) := (ld_row _ 0 (by omega) _ _ _).trans (blk1 m c t 0 j)
theorem tap1_eq (t : Fin cfg0.N) (j : Fin 128) : tap1 m c t (ix2 0 j) = argW m c (ix2 1 (tap (ch t j))) := (ld_row _ 1 (by omega) _ _ _).trans (blk1 m c t 1 j)
theorem tap2_eq (t : Fin cfg0.N) (j : Fin 128) : tap2 m c t (ix2 0 j) = argW m c (ix2 2 (tap (ch t j))) := (ld_row _ 2 (by omega) _ _ _).trans (blk1 m c t 2 j)
theorem tap3_eq (t : Fin cfg0.N) (j : Fin 128) : tap3 m c t (ix2 0 j) = argW m c (ix2 3 (tap (ch t j))) := (ld_row _ 3 (by omega) _ _ _).trans (blk1 m c t 3 j)

/-- The cotangent of the convolved block of a point. -/
abbrev blkD (t : Fin cfg0.N) : FVec Ideal S2048x128 .f32 :=
  cotAt (tap0 m c t) (tap1 m c t) (tap2 m c t) (tap3 m c t) (iblk m c 0 t) (iblk m c 2 t)

theorem blkD_col (t : Fin cfg0.N) (j : Fin 128) :
    col (n := 2048) (blkD m c t) j = cot (argU m c) (argW m c) (argA m c) (bat t) (ch t j) := by
  funext r
  unfold cot cotV
  by_cases h : r < 2048
  · rw [if_pos h, col, dif_pos h]
    refine (Cert.ConvVIdeal.Hand.cot_eq ..).trans ?_
    rw [blk2 m c t ⟨r, h⟩ j]
    unfold preAt conv
    rw [blk0, tap0_eq, tap1_eq, tap2_eq, tap3_eq]
  · rw [if_neg h, col, dif_neg h]

/-! ### The outputs of a point -/

theorem out3 (t : Fin cfg0.N) (r : Fin 2048) (j : Fin 128) : (outsAt0 m c t.val t.isLt).1 (ix2 r j) =
    Conv.dx (argW m c (ix2 0 (tap (ch t j)))) (argW m c (ix2 1 (tap (ch t j)))) (argW m c (ix2 2 (tap (ch t j))))
      (argW m c (ix2 3 (tap (ch t j)))) (cot (argU m c) (argW m c) (argA m c) (bat t) (ch t j)) r.val := by
  by_cases h : t.val % 4 = 0
  · rw [outsAt0_A m c t h]; frame_out
    exact (Cert.ConvVIdeal.Hand.dx_eq ..).trans (Conv.dx_congr _ (tap0_eq m c t j) (tap1_eq m c t j) (tap2_eq m c t j) (tap3_eq m c t j) (blkD_col m c t j))
  · rw [outsAt0_B m c t h]; frame_out
    exact (Cert.ConvVIdeal.Hand.dx_eq ..).trans (Conv.dx_congr _ (tap0_eq m c t j) (tap1_eq m c t j) (tap2_eq m c t j) (tap3_eq m c t j) (blkD_col m c t j))

/-- What a point adds to the taps' gradient. -/
abbrev dTap (k : Fin 4) (j : Fin 128) (t : Fin cfg0.N) : EReal :=
  dw (3 - k.val) (cot (argU m c) (argW m c) (argA m c) (bat t) (ch t j)) (chan (argU m c) (bat t) (at' (ch t j)))

theorem out4_A (t : Fin cfg0.N) (h : t.val % 4 = 0) (k : Fin 4) (j : Fin 128) :
    (outsAt0 m c t.val t.isLt).2 (ix2 k j) = 0 + dTap m c k j t := by
  rw [outsAt0_A m c t h]; frame_out
  obtain rfl | rfl | rfl | rfl : k = 0 ∨ k = 1 ∨ k = 2 ∨ k = 3 := by omega
  · rw [canon_row_ne 0 3 (by decide), canon_row_ne 0 2 (by decide), canon_row_ne 0 1 (by decide), canon_row 0 0 rfl, pay2_eq]
    refine (congrArg _ (dw3_eq ..)).trans (add_dw _ ?_ (blkD_col m c t j) (blk0 m c t j))
    rw [readCov_row _ _ 0 0 rfl, canon_fill, zero_eq]
  · rw [canon_row_ne 1 3 (by decide), canon_row_ne 1 2 (by decide), canon_row 1 1 rfl, pay3_eq]
    refine (congrArg _ (dw2_eq ..)).trans (add_dw _ ?_ (blkD_col m c t j) (blk0 m c t j))
    rw [readCov_row _ _ 1 1 rfl, canon_row_ne 1 0 (by decide), canon_fill, zero_eq]
  · rw [canon_row_ne 2 3 (by decide), canon_row 2 2 rfl, pay4_eq]
    refine (congrArg _ (dw1_eq ..)).trans (add_dw _ ?_ (blkD_col m c t j) (blk0 m c t j))
    rw [readCov_row _ _ 2 2 rfl, canon_row_ne 2 1 (by decide), canon_row_ne 2 0 (by decide), canon_fill, zero_eq]
  · rw [canon_row 3 3 rfl]
    refine (dw0_eq ..).trans (add_dw _ ?_ (blkD_col m c t j) (blk0 m c t j))
    rw [readCov_row _ _ 3 3 rfl, canon_row_ne 3 2 (by decide), canon_row_ne 3 1 (by decide), canon_row_ne 3 0 (by decide), canon_fill, zero_eq]

theorem out4_B (t : Fin cfg0.N) (h : ¬t.val % 4 = 0) (k : Fin 4) (j : Fin 128) : (outsAt0 m c t.val t.isLt).2 (ix2 k j)
    = (outsAt0 m c (t.val - 1) (Nat.lt_of_le_of_lt (Nat.sub_le _ _) t.isLt)).2 (ix2 k j) + dTap m c k j t := by
  rw [outsAt0_B m c t h]; frame_out
  obtain rfl | rfl | rfl | rfl : k = 0 ∨ k = 1 ∨ k = 2 ∨ k = 3 := by omega
  · rw [canon_row_ne 0 3 (by decide), canon_row_ne 0 2 (by decide), canon_row_ne 0 1 (by decide), canon_row 0 0 rfl, pay2_eq]
    exact (congrArg _ (dw3_eq ..)).trans (add_dw _ (ld_row _ 0 (by omega) _ _ _) (blkD_col m c t j) (blk0 m c t j))
  · rw [canon_row_ne 1 3 (by decide), canon_row_ne 1 2 (by decide), canon_row 1 1 rfl, pay3_eq]
    exact (congrArg _ (dw2_eq ..)).trans (add_dw _ (ld_row _ 1 (by omega) _ _ _) (blkD_col m c t j) (blk0 m c t j))
  · rw [canon_row_ne 2 3 (by decide), canon_row 2 2 rfl, pay4_eq]
    exact (congrArg _ (dw1_eq ..)).trans (add_dw _ (ld_row _ 2 (by omega) _ _ _) (blkD_col m c t j) (blk0 m c t j))
  · rw [canon_row 3 3 rfl]
    exact (dw0_eq ..).trans (add_dw _ (ld_row _ 3 (by omega) _ _ _) (blkD_col m c t j) (blk0 m c t j))

/-! ### The sum over a run of four points -/

theorem bat_run (t : Fin cfg0.N) (s : Fin 4) (h : 4 * (t.val / 4) + s.val < cfg0.N) : bat ⟨4 * (t.val / 4) + s.val, h⟩ = s := by
  apply Fin.ext
  show (4 * (t.val / 4) + s.val) % 4 = s.val
  have := s.isLt; omega

theorem ch_run (t : Fin cfg0.N) (s : Fin 4) (h : 4 * (t.val / 4) + s.val < cfg0.N) (j : Fin 128) :
    ch ⟨4 * (t.val / 4) + s.val, h⟩ j = ch t j := by
  apply Fin.ext
  show (4 * (t.val / 4) + s.val) / 4 * 128 + j.val = t.val / 4 * 128 + j.val
  have := s.isLt; have : (4 * (t.val / 4) + s.val) / 4 = t.val / 4 := by omega
  rw [this]

theorem sum4 (t : Fin cfg0.N) (ht : t.val % 4 = 3) (k : Fin 4) (j : Fin 128) : (outsAt0 m c t.val t.isLt).2 (ix2 k j) =
    ∑ b : Fin 4, dw (3 - k.val) (cot (argU m c) (argW m c) (argA m c) b (ch t j)) (chan (argU m c) b (at' (ch t j))) := by
  rw [Pipeline.eq_sum_fin_of_reset_step_of_flush (fun n h => (outsAt0 m c n h).2 (ix2 k j)) 4 0 (dTap m c k j)
    (fun t h => out4_A m c t h k j) (fun t h => out4_B m c t h k j) t ht, zero_add]
  exact Finset.sum_congr rfl fun s _ => by unfold dTap; rw [bat_run, ch_run]

/-! ### The arrays -/

theorem final3 : (dats m 0 c).arrAt 3 cfg0.N = val_main_v89 (F := Ideal) (argU m c) (argW m c) (argA m c) (argP m c) := by
  refine (dats m 0 c).arrAt_eq_of_coversWhere_of_agree 3 _ (fun β => 16 ≤ β (1 : Fin 2) ∧ β (1 : Fin 2) < 24) (by decide +kernel) (fun t hf y => ?_) (fun i hi => ?_)
  · blk_simp
    obtain ⟨r, j, rfl⟩ : ∃ (r : Fin 2048) (j : Fin 128), y = ix2 r j := ⟨y 0, y 1, eq_ix2 y⟩
    have he : (win0_3.blk t).view.emb (ix2 r j) = ix2 (row (bat t) r) (at' (ch t j)) := by
      unfold row bat at' ch
      blk_ext [idx3 t]
    rw [after0_3, he, fin_in, Cert.ConvVRefIdeal.Hand.dx_eq]
    exact out3 m c t r j
  · blk_simp [Pipeline.Window.cell_apply] at hi
    rw [A_eq]
    obtain ⟨r, j, rfl⟩ : ∃ (r : Fin 8192) (j : Fin 6656), i = ix2 r j := ⟨i 0, i 1, eq_ix2 i⟩
    exact (fin_out _ _ _ _ r j (by have : ¬(16 ≤ j.val / 128 ∧ j.val / 128 < 24) := hi; omega)).symm

theorem final4 : (dats m 0 c).arrAt 4 cfg0.N = val_main_v82 (F := Ideal) (argU m c) (argW m c) (argA m c) := by
  refine (dats m 0 c).arrAt_eq_of_covers 4 _ (by decide +kernel) fun t hf y => ?_
  blk_simp
  obtain ⟨k, j, rfl⟩ : ∃ (k : Fin 4) (j : Fin 128), y = ix2 k j := ⟨y 0, y 1, eq_ix2 y⟩
  have he : (win0_4.blk t).view.emb (ix2 k j) = ix2 k (ch t j) := by
    unfold ch
    blk_ext [idx4 t]
  rw [after0_4, he, Cert.ConvVRefIdeal.Hand.dw_eq]
  exact sum4 m c t ((flush0_4 t).mp hf) k j

end Cert.ConvVIdeal.Hand

/-! ### The claims -/

namespace Cert.Proof

open Idealize.ShloMosaic Idealize.ShloMosaic.TcCoe Idealize.SL.Sem Cert.ConvVIdeal.Hand

theorem ConvV.reference_frame : Cert.quiescent_ConvVRefIdeal (hConvVRefIdeal := Cert.ConvVRefIdeal.Gen.facts) := fun m ρ _ =>
  (θ_run Cert.ConvVRefIdeal.defs _ _).mono (fun r h => ⟨fun c => (h c).2.2, sem_eq_zero_of_no_sems (by decide) r.2⟩)
    (Cert.ConvVRefIdeal.Value.run (F := Ideal) m ρ)

theorem ConvV.value : Cert.algebraic_ConvVIdeal_ConvVRefIdeal (hConvVIdeal := Cert.ConvVIdeal.Gen.facts) (hConvVRefIdeal := Cert.ConvVRefIdeal.Gen.facts) := by
  intro m ρ m' ρ' _ hagree
  refine ⟨_, _, Cert.ConvVIdeal.Value.run_blocks (F := Ideal) m ρ,
    (θ_run Cert.ConvVRefIdeal.defs _ _).mono (fun _ h c => ⟨(h c).1.trans ?_, (h c).2.1.trans ?_, (h c).2.2⟩)
      (Cert.ConvVRefIdeal.Value.run (F := Ideal) m' ρ')⟩
  · rw [Cert.ConvVRefIdeal.Read.val_main_v89_eq, (hagree c).1, (hagree c).2.1, (hagree c).2.2.1, (hagree c).2.2.2]
    exact (final3 m c).symm
  · rw [Cert.ConvVRefIdeal.Read.val_main_v82_eq, (hagree c).1, (hagree c).2.1, (hagree c).2.2.1]
    exact (final4 m c).symm

end Cert.Proof

end
-- ==== Proof.ConvKPay.lean ====
/-
  What the body of the delta rule's convolution gradient computes, the keys' third, for one head of one sequence.
-/
module

public import proofs.«01_k».proof.Proof.Gen.ConvKIdeal.Skeleton
public import proofs.«01_k».proof.Proof.GdnSpec

@[expose] public section

set_option maxRecDepth 16384

noncomputable section

namespace Cert.ConvKIdeal.Hand

open Cert.ConvKIdeal Cert.ConvKIdeal.Gen Cert.Ffn Cert.Gdn Idealize.ShloMosaic Idealize.ShloMosaic.TcCoe Idealize.SL.Sem
open Cert.Conv (dSilu)

variable (w0 w1 w2 w3 : Vec Ideal S1x128 .f32) (x : Vec Ideal S2048x128 .bf16) (da : Vec Ideal S2048x128 .f32)
  (D : FVec Ideal S2048x128 .f32) (o : FVec Ideal S1x128 .f32)

theorem sh3_eq (r : Fin 2048) (j : Fin 128) : k0_pay5 (F := Ideal) x (ix2 r j) = sh 3 (col x j) r.val := by
  pointwise [k0_pay5, k0_pay4]
  rw [select_sge r.val 3 r.isLt (by omega), roll_sh x j r 3 (by omega)]

theorem sh2_eq (r : Fin 2048) (j : Fin 128) : k0_pay6 (F := Ideal) x (ix2 r j) = sh 2 (col x j) r.val := by
  pointwise [k0_pay6, k0_pay4]
  rw [select_sge r.val 2 r.isLt (by omega), roll_sh x j r 2 (by omega)]

theorem sh1_eq (r : Fin 2048) (j : Fin 128) : k0_pay8 (F := Ideal) x (ix2 r j) = sh 1 (col x j) r.val := by
  pointwise [k0_pay8, k0_pay4]
  rw [select_sge r.val 1 r.isLt (by omega), roll_sh x j r 1 (by omega)]

theorem part_eq (r : Fin 2048) (j : Fin 128) : k0_pay7 (F := Ideal) x w0 w1 w3 (ix2 r j)
    = w3 (ix2 0 j) * col x j r.val + w0 (ix2 0 j) * sh 3 (col x j) r.val + w1 (ix2 0 j) * sh 2 (col x j) r.val := by
  rw [← sh3_eq, ← sh2_eq, col_val]
  unfold k0_pay7
  generalize k0_pay5 x = z
  generalize k0_pay6 x = z'
  pointwise [k0_pay4]

/-- The convolved channel. -/
abbrev preAt (j : Fin 128) (r : ℕ) : EReal :=
  Conv.pre (w0 (ix2 0 j)) (w1 (ix2 0 j)) (w2 (ix2 0 j)) (w3 (ix2 0 j)) (col x j) r

/-- The cotangent of the convolved block. -/
abbrev cotAt : FVec Ideal S2048x128 .f32 := k0_pay10 (F := Ideal) (k0_pay7 x w0 w1 w3) (k0_pay8 x) (k0_pay9 w2) da

theorem cot_eq (r : Fin 2048) (j : Fin 128) : cotAt w0 w1 w2 w3 x da (ix2 r j) = dSilu (preAt w0 w1 w2 w3 x j r.val)
    (dUnit (fun k => silu (preAt w0 w1 w2 w3 x k r.val)) (fun k => da (ix2 r k)) j) := by
  unfold dSilu preAt Conv.pre
  simp only [← part_eq w0 w1 w3 x, ← sh1_eq x]
  unfold cotAt k0_pay10 k0_pay9
  generalize k0_pay7 (F := Ideal) x w0 w1 w3 = z
  generalize k0_pay8 (F := Ideal) x = z'
  pointwise
  simp only [Fin.sum_univ_one]
  rfl

theorem dw1_eq (q : Fin 1) (j : Fin 128) :
    k0_pay11 (F := Ideal) (k0_pay7 x w0 w1 w3) (k0_pay8 x) (k0_pay9 w2) da (ix2 q j) = dw 1 (col (cotAt w0 w1 w2 w3 x da) j) (col x j) := by
  unfold dw
  simp only [← sh1_eq, col_val]
  unfold k0_pay11 cotAt
  generalize k0_pay10 (F := Ideal) _ _ _ _ = z
  generalize k0_pay8 (F := Ideal) _ = z'
  pointwise

theorem dw0_eq (q : Fin 1) (j : Fin 128) : k0_pay15 (F := Ideal) (k0_pay4 x) D (ix2 q j) = dw 0 (col D j) (col x j) := by
  unfold dw
  simp only [sh_zero, col_val]
  pointwise [k0_pay15, k0_pay4]

theorem dw3_eq (q : Fin 1) (j : Fin 128) : k0_pay17 (F := Ideal) (k0_pay5 x) D o (ix2 q j) = o (ix2 q j) + dw 3 (col D j) (col x j) := by
  unfold dw
  simp only [← sh3_eq, col_val]
  unfold k0_pay17
  generalize k0_pay5 (F := Ideal) _ = z'
  pointwise

theorem dw2_eq (q : Fin 1) (j : Fin 128) : k0_pay18 (F := Ideal) (k0_pay14 (k0_pay6 x) (k0_pay7 x w0 w1 w3) (k0_pay8 x) (k0_pay9 w2) da) o (ix2 q j)
    = o (ix2 q j) + dw 2 (col (cotAt w0 w1 w2 w3 x da) j) (col x j) := by
  unfold dw
  simp only [← sh2_eq, col_val]
  unfold k0_pay18 k0_pay14 cotAt
  generalize k0_pay10 (F := Ideal) _ _ _ _ = z
  generalize k0_pay6 (F := Ideal) _ = z'
  pointwise

theorem pay1_eq (v a : FVec Ideal S1x128 .f32) (q : Fin 1) (j : Fin 128) : k0_pay1 (F := Ideal) v a (ix2 q j) = a (ix2 q j) + v (ix2 q j) := by
  pointwise [k0_pay1]

theorem pay2_eq (v a : FVec Ideal S1x128 .f32) (q : Fin 1) (j : Fin 128) : k0_pay2 (F := Ideal) v a (ix2 q j) = a (ix2 q j) + v (ix2 q j) := by
  pointwise [k0_pay2]

theorem zero_eq (k : Fin 4) (j : Fin 128) : k0_pay3 (F := Ideal) (ix2 k j) = 0 := by
  pointwise [k0_pay3]

/-- The gradient of the channel. -/
theorem dx_eq (r : Fin 2048) (j : Fin 128) :
    k0_pay16 (F := Ideal) w0 w3 (cotAt w0 w1 w2 w3 x da) (k0_pay12 w2 (k0_pay7 x w0 w1 w3) (k0_pay8 x) (k0_pay9 w2) da) (k0_pay13 w1 (k0_pay7 x w0 w1 w3) (k0_pay8 x) (k0_pay9 w2) da) (ix2 r j)
      = Conv.dx (w0 (ix2 0 j)) (w1 (ix2 0 j)) (w2 (ix2 0 j)) (w3 (ix2 0 j)) (col (cotAt w0 w1 w2 w3 x da) j) r.val := by
  unfold k0_pay16 k0_pay12 k0_pay13 cotAt
  generalize k0_pay10 (F := Ideal) _ _ _ _ = z
  unfold Conv.dx
  pointwise
  rw [select_slt r.val 2047 r.isLt (by omega), select_slt r.val 2046 r.isLt (by omega), select_slt r.val 2045 r.isLt (by omega)]
  rw [mul_roll_ahead _ z j r 1 2047 rfl (by omega), mul_roll_ahead _ z j r 2 2046 rfl (by omega),
    mul_roll_ahead _ z j r 3 2045 rfl (by omega), col_val]

end Cert.ConvKIdeal.Hand

end
-- ==== Proof.ConvKRef.lean ====
/-
  The reference of the delta rule's convolution gradient, the keys' third, stage by stage.
-/
module

public import proofs.«01_k».proof.Proof.Gen.ConvKRefIdeal.Read
public import proofs.«01_k».proof.Proof.GdnSpec
public import proofs.«01_k».proof.Proof.FfnRef

@[expose] public section

set_option maxRecDepth 16384

noncomputable section

namespace Cert.ConvKRefIdeal.Hand

open Cert.ConvKRefIdeal Cert.ConvKRefIdeal.Gen Cert.ConvKRefIdeal.Read Cert.Ffn Cert.Gdn Idealize.ShloMosaic Idealize.ShloMosaic.TcCoe
open Cert.ReferenceIdeal.Ffn (hostReduceAdd_01)
open Cert.Conv (dSilu pad_sh)

/-- The column of a channel in the projection. -/
def at' (c : Fin 1024) : Fin 6656 := ⟨1024 + c.val, by have := c.isLt; omega⟩

/-- The column of a channel in the taps. -/
def tap (c : Fin 1024) : Fin 3072 := ⟨1024 + c.val, by have := c.isLt; omega⟩

variable (U : FVec Ideal S8192x6656 .bf16) (W : FVec Ideal S4x3072 .f32) (A : FVec Ideal S8192x1024 .f32) (P : FVec Ideal S8192x6656 .bf16)

/-- The cotangent of a convolved channel. -/
def cot (b : Fin 4) (c : Fin 1024) (r : ℕ) : EReal :=
  cotK at' tap U W A b ⟨c.val / 128, by have := c.isLt; omega⟩ ⟨c.val % 128, by omega⟩ r

theorem cot_lane (b : Fin 4) (h : Fin 8) (j : Fin 128) (r : ℕ) : cot U W A b (lane h j) r = cotK at' tap U W A b h j r := by
  have e1 : (h.val * 128 + j.val) / 128 = h.val := by have := j.isLt; omega
  have e2 : (h.val * 128 + j.val) % 128 = j.val := by have := j.isLt; omega
  unfold cot
  congr 1
  · exact Fin.ext e1
  · exact Fin.ext e2

theorem v5_eq (b : Fin 4) (r : Fin 2051) (c : Fin 1024) :
    val_main_v5 (F := Ideal) U (ix3 b r c) = if r.val < 3 then 0 else chan U b (at' c) (r.val - 3) := by
  unfold at'
  pointwise [val_main_v5, val_main_v4, val_main_cst, val_main_v2, val_main_v1, val_main_v0]
  by_cases h : r.val < 3
  · rw [dif_pos h, if_pos h]
  · rw [dif_neg h, if_neg h, chan, dif_pos (by have := r.isLt; omega)]
    rfl

theorem pre_eq (b : Fin 4) (r : Fin 2048) (c : Fin 1024) : val_main_v35 (F := Ideal) U W (ix3 b r c) = conv at' tap U W b c r.val := by
  have h0 := v5_eq U b
  unfold val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_cst_1 val_main_v12 val_main_v11 val_main_v10 val_main_v9 val_main_v8 val_main_v7 val_main_v3
  generalize val_main_v5 (F := Ideal) U = z at h0 ⊢
  pointwise
  simp only [h0]
  rw [pad_sh _ r.val r.val 3 3 rfl, pad_sh _ r.val (1 + r.val) 2 3 (by omega), pad_sh _ r.val (2 + r.val) 1 3 (by omega),
    pad_sh _ r.val (3 + r.val) 0 3 (by omega), sh_zero]
  unfold conv Conv.pre tap
  rw [add_comm _ (W (ix2 3 _) * _), ← add_assoc, ← add_assoc]

theorem head_eq (b : Fin 4) (r : Fin 2048) (h : Fin 8) (k : Fin 128) :
    val_main_v37 (F := Ideal) U W (ix4 b r h k) = silu (conv at' tap U W b (lane h k) r.val) := by
  have h0 := pre_eq U W b
  unfold val_main_v37 val_main_v36_0 val_main_v36_2 val_main_call0_v4 val_main_call0_cst_0 val_main_call0_v3 val_main_call0_v2 val_main_call0_cst val_main_call0_v1 val_main_call0_v0
  generalize val_main_v35 (F := Ideal) U W = z at h0 ⊢
  pointwise
  simp only [h0]
  rfl

theorem unit_eq (b : Fin 4) (r : Fin 2048) (h : Fin 8) (k : Fin 128) : val_main_v61 (F := Ideal) U W A (ix4 b r h k) =
    dUnit (fun k => silu (conv at' tap U W b (lane h k) r.val)) (fun k => chan A b (lane h k) r.val) k := by
  have h0 := head_eq U W b
  unfold val_main_v61 val_main_v60 val_main_v59 val_main_v58 val_main_v57 val_main_v56 val_main_cst_6 val_main_v55 val_main_v54 val_main_v53 val_main_v52 val_main_v51 val_main_cst_5 val_main_v50 val_main_v49 val_main_v46 val_main_v45 val_main_cst_4 val_main_v44 val_main_v43 val_main_v42 val_main_v41 val_main_cst_3 val_main_v40 val_main_v39 val_main_cst_2 val_main_v38
  generalize val_main_v37 (F := Ideal) U W = z at h0 ⊢
  pointwise
  simp only [h0, chan_val, Fin.sum_univ_one]
  rfl

theorem cot_eq (b : Fin 4) (r : Fin 2048) (c : Fin 1024) : val_main_v63 (F := Ideal) U W A (ix3 b r c) = cot U W A b c r.val := by
  obtain ⟨h, j, rfl⟩ := lane_surj c
  have h0 := pre_eq U W b r (lane h j)
  have h1 := unit_eq U W A b r h j
  unfold val_main_v63 val_main_call1_v2 val_main_call1_v1 val_main_call1_v0 val_main_v62 val_main_v36_1 val_main_call0_v7 val_main_call0_v6 val_main_call0_cst_1 val_main_v36_2 val_main_call0_v4 val_main_call0_cst_0 val_main_call0_v3 val_main_call0_v2 val_main_call0_cst val_main_call0_v1 val_main_call0_v0
  generalize val_main_v35 (F := Ideal) U W = z at h0 ⊢
  generalize val_main_v61 (F := Ideal) U W A = z1 at h1 ⊢
  rw [cot_lane, cotK, if_pos r.isLt, ← h0, ← h1]
  unfold lane
  pointwise
  rfl

theorem sum0_eq (c : Fin 1024) : val_main_v69 (F := Ideal) U W A (ix1 c) = ∑ b : Fin 4, dw 0 (cot U W A b c) (chan U b (at' c)) := by
  have h0 := fun b r => v5_eq U b r c
  have h1 := fun b r => cot_eq U W A b r c
  unfold val_main_v69 val_main_cst_8 val_main_v68 val_main_v67 val_main_cst_7 val_main_v66 val_main_v31
  generalize val_main_v63 (F := Ideal) U W A = z at h1 ⊢
  generalize val_main_v5 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  exact congrArg _ (pad_sh _ r.val (3 + r.val) 0 3 (by omega))

theorem sum1_eq (c : Fin 1024) : val_main_v78 (F := Ideal) U W A (ix1 c) = ∑ b : Fin 4, dw 1 (cot U W A b c) (chan U b (at' c)) := by
  have h0 := fun b r => v5_eq U b r c
  have h1 := fun b r => cot_eq U W A b r c
  unfold val_main_v78 val_main_cst_12 val_main_v77 val_main_v76 val_main_cst_11 val_main_v75 val_main_v24
  generalize val_main_v63 (F := Ideal) U W A = z at h1 ⊢
  generalize val_main_v5 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  exact congrArg _ (pad_sh _ r.val (2 + r.val) 1 3 (by omega))

theorem sum2_eq (c : Fin 1024) : val_main_v89 (F := Ideal) U W A (ix1 c) = ∑ b : Fin 4, dw 2 (cot U W A b c) (chan U b (at' c)) := by
  have h0 := fun b r => v5_eq U b r c
  have h1 := fun b r => cot_eq U W A b r c
  unfold val_main_v89 val_main_cst_16 val_main_v88 val_main_v87 val_main_cst_15 val_main_v86 val_main_v17
  generalize val_main_v63 (F := Ideal) U W A = z at h1 ⊢
  generalize val_main_v5 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  exact congrArg _ (pad_sh _ r.val (1 + r.val) 2 3 (by omega))

theorem sum3_eq (c : Fin 1024) : val_main_v100 (F := Ideal) U W A (ix1 c) = ∑ b : Fin 4, dw 3 (cot U W A b c) (chan U b (at' c)) := by
  have h0 := fun b r => v5_eq U b r c
  have h1 := fun b r => cot_eq U W A b r c
  unfold val_main_v100 val_main_cst_20 val_main_v99 val_main_v98 val_main_cst_19 val_main_v97 val_main_v9
  generalize val_main_v63 (F := Ideal) U W A = z at h1 ⊢
  generalize val_main_v5 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  exact congrArg _ (pad_sh _ r.val (r.val) 3 3 rfl)

/-- The gradient of the convolution's input. -/
theorem dx_eq (b : Fin 4) (r : Fin 2048) (c : Fin 1024) : val_main_v109 (F := Ideal) U W A (ix2 (row b r) c) =
    Conv.dx (W (ix2 0 (tap c))) (W (ix2 1 (tap c))) (W (ix2 2 (tap c))) (W (ix2 3 (tap c))) (cot U W A b c) r.val := by
  have h1 := fun b r => cot_eq U W A b r c
  unfold val_main_v109 val_main_v108 val_main_v107 val_main_v102 val_main_v101 val_main_cst_21 val_main_v96 val_main_v95 val_main_v91 val_main_v90 val_main_cst_17 val_main_v85 val_main_v84 val_main_v80 val_main_v79 val_main_cst_13 val_main_v74 val_main_v73 val_main_v70 val_main_cst_9 val_main_v65 val_main_v64 val_main_v32 val_main_v30 val_main_v29 val_main_v25 val_main_v23 val_main_v22 val_main_v18 val_main_v16 val_main_v15 val_main_v10 val_main_v8 val_main_v7 val_main_v3
  generalize val_main_v63 (F := Ideal) U W A = z at h1 ⊢
  unfold row
  pointwise
  simp only [h1]
  unfold Conv.dx ahead tap
  have e1 : (2 ≤ 3 + r.val ∧ r.val + 1 < 2048) = (r.val + 1 < 2048) := propext (by omega)
  have e2 : (1 ≤ 3 + r.val ∧ r.val + 2 < 2048) = (r.val + 2 < 2048) := propext (by omega)
  have e3 : 3 + r.val - 2 = r.val + 1 := by omega
  have e4 : 3 + r.val - 1 = r.val + 2 := by omega
  have e5 : 3 + r.val = r.val + 3 := by omega
  simp only [dite_eq_ite, e3, e4, e1, e2]
  simp only [e5]
  rw [mul_ite, mul_ite, mul_ite, mul_zero, mul_zero, mul_zero]
  ac_rfl

/-- The taps' gradient. -/
theorem dw_eq (k : Fin 4) (c : Fin 1024) :
    val_main_v105 (F := Ideal) U W A (ix2 k c) = ∑ b : Fin 4, dw (3 - k.val) (cot U W A b c) (chan U b (at' c)) := by
  have h3 := sum3_eq U W A c
  have h2 := sum2_eq U W A c
  have h1 := sum1_eq U W A c
  have h0 := sum0_eq U W A c
  unfold val_main_v105 val_main_v104 val_main_cst_22 val_main_v103 val_main_v94 val_main_v93 val_main_cst_18 val_main_v92 val_main_v83 val_main_v82 val_main_cst_14 val_main_v81 val_main_v72 val_main_cst_10 val_main_v71
  generalize val_main_v100 (F := Ideal) U W A = z3 at h3 ⊢
  generalize val_main_v89 (F := Ideal) U W A = z2 at h2 ⊢
  generalize val_main_v78 (F := Ideal) U W A = z1 at h1 ⊢
  generalize val_main_v69 (F := Ideal) U W A = z0 at h0 ⊢
  pointwise
  simp only [h0, h1, h2, h3]
  match k with
  | ⟨0, _⟩ => simp
  | ⟨1, _⟩ => simp
  | ⟨2, _⟩ => simp
  | ⟨3, _⟩ => simp

/-- The gradient of the projection: the columns outside the third are those that came in. -/
theorem fin_out (r : Fin 8192) (c : Fin 6656) (h : ¬(1024 ≤ c.val ∧ c.val < 2048)) :
    val_main_v112 (F := Ideal) U W A P (ix2 r c) = P (ix2 r c) := by
  unfold val_main_v112 val_main_v111 val_main_v110
  generalize val_main_v109 (F := Ideal) U W A = z
  pointwise
  by_cases h1 : c.val < 1024
  · rw [dif_pos h1]
  · rw [dif_neg h1, dif_neg (by omega)]
    congr 2
    apply Fin.ext
    show _ + _ = _
    omega

theorem fin_in (r : Fin 8192) (c : Fin 1024) :
    val_main_v112 (F := Ideal) U W A P (ix2 r (at' c)) = val_main_v109 (F := Ideal) U W A (ix2 r c) := by
  unfold val_main_v112 val_main_v111 val_main_v110 at'
  generalize val_main_v109 (F := Ideal) U W A = z
  pointwise

end Cert.ConvKRefIdeal.Hand

end
-- ==== Proof.ConvK.lean ====
/-
  What the delta rule's convolution gradient leaves in its outputs, the keys' third: point `t` of the grid takes sequence
  `t % 4` and head `t / 4`; the channels' gradients are written block by block into the third's columns, the taps' gradient
  is summed over the four points of a head.
-/
module

public import proofs.«01_k».proof.Defs
public import proofs.«01_k».proof.Proof.Gen.ConvKIdeal.Value
public import proofs.«01_k».proof.Proof.Gen.ConvKRefIdeal.Run
public import proofs.«01_k».proof.Proof.ConvKPay
public import proofs.«01_k».proof.Proof.ConvKRef

@[expose] public section

set_option maxRecDepth 16384

noncomputable section

namespace Cert.ConvKIdeal.Hand

open Cert.ConvKIdeal Cert.ConvKIdeal.Gen Cert.Ffn Cert.Conv Cert.Gdn Idealize.ShloMosaic Idealize.ShloMosaic.TcCoe Idealize.SL.Sem
open Cert.ConvKRefIdeal.Read Cert.ConvKRefIdeal.Hand

variable (m : (ℓ : Loc nD τ sig) → Buf (Elt Ideal) ℓ) (c : Dev nD)

/-- The arguments as launched. -/
abbrev argU : (⟨2, ![8192, 6656]⟩ : Shape).Idx → EReal := m ((c.tc : Thread nD τ).loc main_arg0)
abbrev argW : (⟨2, ![4, 3072]⟩ : Shape).Idx → EReal := m ((c.tc : Thread nD τ).loc main_arg1)
abbrev argA : (⟨2, ![8192, 1024]⟩ : Shape).Idx → EReal := m ((c.tc : Thread nD τ).loc main_arg2)
abbrev argP : (⟨2, ![8192, 6656]⟩ : Shape).Idx → EReal := m ((c.tc : Thread nD τ).loc main_arg3)

/-! ### Where each point's blocks lie -/

theorem idx0 : ∀ t : Fin cfg0.N, win0_0.index t = ![t.val % 4, 8 + t.val / 4] := (by decide +kernel : ∀ t : Fin grid0.N, _)
theorem idx1 : ∀ t : Fin cfg0.N, win0_1.index t = ![0, 8 + t.val / 4] := (by decide +kernel : ∀ t : Fin grid0.N, _)
theorem idx2 : ∀ t : Fin cfg0.N, win0_2.index t = ![t.val % 4, t.val / 4] := (by decide +kernel : ∀ t : Fin grid0.N, _)
theorem idx3 : ∀ t : Fin cfg0.N, win0_3.index t = ![t.val % 4, 8 + t.val / 4] := (by decide +kernel : ∀ t : Fin grid0.N, _)
theorem idx4 : ∀ t : Fin cfg0.N, win0_4.index t = ![0, t.val / 4] := (by decide +kernel : ∀ t : Fin grid0.N, _)

/-- The sequence of a point. -/
def bat (t : Fin cfg0.N) : Fin 4 := ⟨t.val % 4, by omega⟩

theorem lt32 (t : Fin cfg0.N) : t.val < 32 := t.isLt

/-- Channel `j` of a point's block. -/
def ch (t : Fin cfg0.N) (j : Fin 128) : Fin 1024 := ⟨t.val / 4 * 128 + j.val, by have := lt32 t; have := j.isLt; omega⟩

theorem blk0 (t : Fin cfg0.N) (j : Fin 128) : col (n := 2048) (iblk m c 0 t) j = chan (argU m c) (bat t) (at' (ch t j)) := by
  funext r
  unfold col chan
  by_cases h : r < 2048
  · rw [dif_pos h, dif_pos h]
    unfold row at' ch bat
    blk_ext [iblk, V, idx0 t]
  · rw [dif_neg h, dif_neg h]

theorem blk1 (t : Fin cfg0.N) (k : Fin 4) (j : Fin 128) : iblk m c 1 t (ix2 k j) = argW m c (ix2 k (tap (ch t j))) := by
  unfold tap ch
  blk_ext [iblk, V, idx1 t]

theorem blk2 (t : Fin cfg0.N) (r : Fin 2048) (j : Fin 128) : iblk m c 2 t (ix2 r j) = chan (argA m c) (bat t) (ch t j) r.val := by
  rw [chan_val]
  unfold row ch bat
  blk_ext [iblk, V, idx2 t]

/-- The taps of a point. -/
abbrev tap0 (t : Fin cfg0.N) : Vec Ideal S1x128 .f32 := View.ld (iblk m c 1 t) (Rect.unit ![0, 0] ![1, 128] inb_S4x128_S1x128_0_0)
abbrev tap1 (t : Fin cfg0.N) : Vec Ideal S1x128 .f32 := View.ld (iblk m c 1 t) (Rect.unit ![1, 0] ![1, 128] inb_S4x128_S1x128_1_0)
abbrev tap2 (t : Fin cfg0.N) : Vec Ideal S1x128 .f32 := View.ld (iblk m c 1 t) (Rect.unit ![2, 0] ![1, 128] inb_S4x128_S1x128_2_0)
abbrev tap3 (t : Fin cfg0.N) : Vec Ideal S1x128 .f32 := View.ld (iblk m c 1 t) (Rect.unit ![3, 0] ![1, 128] inb_S4x128_S1x128_3_0)

theorem tap0_eq (t : Fin cfg0.N) (j : Fin 128) : tap0 m c t (ix2 0 j) = argW m c (ix2 0 (tap (ch t j))) := (ld_row _ 0 (by omega) _ _ _).trans (blk1 m c t 0 j)
theorem tap1_eq (t : Fin cfg0.N) (j : Fin 128) : tap1 m c t (ix2 0 j) = argW m c (ix2 1 (tap (ch t j))) := (ld_row _ 1 (by omega) _ _ _).trans (blk1 m c t 1 j)
theorem tap2_eq (t : Fin cfg0.N) (j : Fin 128) : tap2 m c t (ix2 0 j) = argW m c (ix2 2 (tap (ch t j))) := (ld_row _ 2 (by omega) _ _ _).trans (blk1 m c t 2 j)
theorem tap3_eq (t : Fin cfg0.N) (j : Fin 128) : tap3 m c t (ix2 0 j) = argW m c (ix2 3 (tap (ch t j))) := (ld_row _ 3 (by omega) _ _ _).trans (blk1 m c t 3 j)

/-- The cotangent of the convolved block of a point. -/
abbrev blkD (t : Fin cfg0.N) : FVec Ideal S2048x128 .f32 :=
  cotAt (tap0 m c t) (tap1 m c t) (tap2 m c t) (tap3 m c t) (iblk m c 0 t) (iblk m c 2 t)

theorem ch_lane (t : Fin cfg0.N) (j : Fin 128) : ch t j = lane ⟨t.val / 4, by have := lt32 t; omega⟩ j := rfl

theorem pre_at (t : Fin cfg0.N) (j : Fin 128) (r : ℕ) : preAt (tap0 m c t) (tap1 m c t) (tap2 m c t) (tap3 m c t) (iblk m c 0 t) j r
    = conv at' tap (argU m c) (argW m c) (bat t) (ch t j) r := by
  unfold preAt conv
  rw [blk0, tap0_eq, tap1_eq, tap2_eq, tap3_eq]

theorem blkD_col (t : Fin cfg0.N) (j : Fin 128) :
    col (n := 2048) (blkD m c t) j = cot (argU m c) (argW m c) (argA m c) (bat t) (ch t j) := by
  funext r
  rw [ch_lane, cot_lane]
  unfold cotK
  by_cases h : r < 2048
  · rw [if_pos h, col, dif_pos h]
    refine (Cert.ConvKIdeal.Hand.cot_eq ..).trans ?_
    rw [pre_at m c t j r]
    refine congrArg (dSilu _) (dUnit_congr j (fun k => congrArg silu (pre_at m c t k r)) fun k => ?_)
    rw [blk2 m c t ⟨r, h⟩ k]
    rfl
  · rw [if_neg h, col, dif_neg h]

/-! ### The outputs of a point -/

theorem out3 (t : Fin cfg0.N) (r : Fin 2048) (j : Fin 128) : (outsAt0 m c t.val t.isLt).1 (ix2 r j) =
    Conv.dx (argW m c (ix2 0 (tap (ch t j)))) (argW m c (ix2 1 (tap (ch t j)))) (argW m c (ix2 2 (tap (ch t j))))
      (argW m c (ix2 3 (tap (ch t j)))) (cot (argU m c) (argW m c) (argA m c) (bat t) (ch t j)) r.val := by
  by_cases h : t.val % 4 = 0
  · rw [outsAt0_A m c t h]; frame_out
    exact (Cert.ConvKIdeal.Hand.dx_eq ..).trans (Conv.dx_congr _ (tap0_eq m c t j) (tap1_eq m c t j) (tap2_eq m c t j) (tap3_eq m c t j) (blkD_col m c t j))
  · rw [outsAt0_B m c t h]; frame_out
    exact (Cert.ConvKIdeal.Hand.dx_eq ..).trans (Conv.dx_congr _ (tap0_eq m c t j) (tap1_eq m c t j) (tap2_eq m c t j) (tap3_eq m c t j) (blkD_col m c t j))

/-- What a point adds to the taps' gradient. -/
abbrev dTap (k : Fin 4) (j : Fin 128) (t : Fin cfg0.N) : EReal :=
  dw (3 - k.val) (cot (argU m c) (argW m c) (argA m c) (bat t) (ch t j)) (chan (argU m c) (bat t) (at' (ch t j)))

theorem out4_A (t : Fin cfg0.N) (h : t.val % 4 = 0) (k : Fin 4) (j : Fin 128) :
    (outsAt0 m c t.val t.isLt).2 (ix2 k j) = 0 + dTap m c k j t := by
  rw [outsAt0_A m c t h]; frame_out
  obtain rfl | rfl | rfl | rfl : k = 0 ∨ k = 1 ∨ k = 2 ∨ k = 3 := by omega
  · rw [canon_row_ne 0 3 (by decide), canon_row_ne 0 2 (by decide), canon_row_ne 0 1 (by decide), canon_row 0 0 rfl]
    refine (dw3_eq ..).trans (add_dw _ ?_ (blkD_col m c t j) (blk0 m c t j))
    rw [readCov_row _ _ 0 0 rfl, canon_fill, zero_eq]
  · rw [canon_row_ne 1 3 (by decide), canon_row_ne 1 2 (by decide), canon_row 1 1 rfl]
    refine (dw2_eq ..).trans (add_dw _ ?_ (blkD_col m c t j) (blk0 m c t j))
    rw [readCov_row _ _ 1 1 rfl, canon_row_ne 1 0 (by decide), canon_fill, zero_eq]
  · rw [canon_row_ne 2 3 (by decide), canon_row 2 2 rfl, pay1_eq]
    refine (congrArg _ (dw1_eq ..)).trans (add_dw _ ?_ (blkD_col m c t j) (blk0 m c t j))
    rw [readCov_row _ _ 2 2 rfl, canon_row_ne 2 1 (by decide), canon_row_ne 2 0 (by decide), canon_fill, zero_eq]
  · rw [canon_row 3 3 rfl, pay2_eq]
    refine (congrArg _ (dw0_eq ..)).trans (add_dw _ ?_ (blkD_col m c t j) (blk0 m c t j))
    rw [readCov_row _ _ 3 3 rfl, canon_row_ne 3 2 (by decide), canon_row_ne 3 1 (by decide), canon_row_ne 3 0 (by decide), canon_fill, zero_eq]

theorem out4_B (t : Fin cfg0.N) (h : ¬t.val % 4 = 0) (k : Fin 4) (j : Fin 128) : (outsAt0 m c t.val t.isLt).2 (ix2 k j)
    = (outsAt0 m c (t.val - 1) (Nat.lt_of_le_of_lt (Nat.sub_le _ _) t.isLt)).2 (ix2 k j) + dTap m c k j t := by
  rw [outsAt0_B m c t h]; frame_out
  obtain rfl | rfl | rfl | rfl : k = 0 ∨ k = 1 ∨ k = 2 ∨ k = 3 := by omega
  · rw [canon_row_ne 0 3 (by decide), canon_row_ne 0 2 (by decide), canon_row_ne 0 1 (by decide), canon_row 0 0 rfl]
    exact (dw3_eq ..).trans (add_dw _ (ld_row _ 0 (by omega) _ _ _) (blkD_col m c t j) (blk0 m c t j))
  · rw [canon_row_ne 1 3 (by decide), canon_row_ne 1 2 (by decide), canon_row 1 1 rfl]
    exact (dw2_eq ..).trans (add_dw _ (ld_row _ 1 (by omega) _ _ _) (blkD_col m c t j) (blk0 m c t j))
  · rw [canon_row_ne 2 3 (by decide), canon_row 2 2 rfl, pay1_eq]
    exact (congrArg _ (dw1_eq ..)).trans (add_dw _ (ld_row _ 2 (by omega) _ _ _) (blkD_col m c t j) (blk0 m c t j))
  · rw [canon_row 3 3 rfl, pay2_eq]
    exact (congrArg _ (dw0_eq ..)).trans (add_dw _ (ld_row _ 3 (by omega) _ _ _) (blkD_col m c t j) (blk0 m c t j))

/-! ### The sum over a run of four points -/

theorem bat_run (t : Fin cfg0.N) (s : Fin 4) (h : 4 * (t.val / 4) + s.val < cfg0.N) : bat ⟨4 * (t.val / 4) + s.val, h⟩ = s := by
  apply Fin.ext
  show (4 * (t.val / 4) + s.val) % 4 = s.val
  have := s.isLt; omega

theorem ch_run (t : Fin cfg0.N) (s : Fin 4) (h : 4 * (t.val / 4) + s.val < cfg0.N) (j : Fin 128) :
    ch ⟨4 * (t.val / 4) + s.val, h⟩ j = ch t j := by
  apply Fin.ext
  show (4 * (t.val / 4) + s.val) / 4 * 128 + j.val = t.val / 4 * 128 + j.val
  have := s.isLt; have : (4 * (t.val / 4) + s.val) / 4 = t.val / 4 := by omega
  rw [this]

theorem sum4 (t : Fin cfg0.N) (ht : t.val % 4 = 3) (k : Fin 4) (j : Fin 128) : (outsAt0 m c t.val t.isLt).2 (ix2 k j) =
    ∑ b : Fin 4, dw (3 - k.val) (cot (argU m c) (argW m c) (argA m c) b (ch t j)) (chan (argU m c) b (at' (ch t j))) := by
  rw [Pipeline.eq_sum_fin_of_reset_step_of_flush (fun n h => (outsAt0 m c n h).2 (ix2 k j)) 4 0 (dTap m c k j)
    (fun t h => out4_A m c t h k j) (fun t h => out4_B m c t h k j) t ht, zero_add]
  exact Finset.sum_congr rfl fun s _ => by unfold dTap; rw [bat_run, ch_run]

/-! ### The arrays -/

theorem final3 : (dats m 0 c).arrAt 3 cfg0.N = val_main_v112 (F := Ideal) (argU m c) (argW m c) (argA m c) (argP m c) := by
  refine (dats m 0 c).arrAt_eq_of_coversWhere_of_agree 3 _ (fun β => 8 ≤ β (1 : Fin 2) ∧ β (1 : Fin 2) < 16) (by decide +kernel) (fun t hf y => ?_) (fun i hi => ?_)
  · blk_simp
    obtain ⟨r, j, rfl⟩ : ∃ (r : Fin 2048) (j : Fin 128), y = ix2 r j := ⟨y 0, y 1, eq_ix2 y⟩
    have he : (win0_3.blk t).view.emb (ix2 r j) = ix2 (row (bat t) r) (at' (ch t j)) := by
      unfold row bat at' ch
      blk_ext [idx3 t]
    rw [after0_3, he, fin_in, Cert.ConvKRefIdeal.Hand.dx_eq]
    exact out3 m c t r j
  · blk_simp [Pipeline.Window.cell_apply] at hi
    rw [A_eq]
    obtain ⟨r, j, rfl⟩ : ∃ (r : Fin 8192) (j : Fin 6656), i = ix2 r j := ⟨i 0, i 1, eq_ix2 i⟩
    exact (fin_out _ _ _ _ r j (by have : ¬(8 ≤ j.val / 128 ∧ j.val / 128 < 16) := hi; omega)).symm

theorem final4 : (dats m 0 c).arrAt 4 cfg0.N = val_main_v105 (F := Ideal) (argU m c) (argW m c) (argA m c) := by
  refine (dats m 0 c).arrAt_eq_of_covers 4 _ (by decide +kernel) fun t hf y => ?_
  blk_simp
  obtain ⟨k, j, rfl⟩ : ∃ (k : Fin 4) (j : Fin 128), y = ix2 k j := ⟨y 0, y 1, eq_ix2 y⟩
  have he : (win0_4.blk t).view.emb (ix2 k j) = ix2 k (ch t j) := by
    unfold ch
    blk_ext [idx4 t]
  rw [after0_4, he, Cert.ConvKRefIdeal.Hand.dw_eq]
  exact sum4 m c t ((flush0_4 t).mp hf) k j

end Cert.ConvKIdeal.Hand

/-! ### The claims -/

namespace Cert.Proof

open Idealize.ShloMosaic Idealize.ShloMosaic.TcCoe Idealize.SL.Sem Cert.ConvKIdeal.Hand

theorem ConvK.reference_frame : Cert.quiescent_ConvKRefIdeal (hConvKRefIdeal := Cert.ConvKRefIdeal.Gen.facts) := fun m ρ _ =>
  (θ_run Cert.ConvKRefIdeal.defs _ _).mono (fun r h => ⟨fun c => (h c).2.2, sem_eq_zero_of_no_sems (by decide) r.2⟩)
    (Cert.ConvKRefIdeal.Value.run (F := Ideal) m ρ)

theorem ConvK.value : Cert.algebraic_ConvKIdeal_ConvKRefIdeal (hConvKIdeal := Cert.ConvKIdeal.Gen.facts) (hConvKRefIdeal := Cert.ConvKRefIdeal.Gen.facts) := by
  intro m ρ m' ρ' _ hagree
  refine ⟨_, _, Cert.ConvKIdeal.Value.run_blocks (F := Ideal) m ρ,
    (θ_run Cert.ConvKRefIdeal.defs _ _).mono (fun _ h c => ⟨(h c).1.trans ?_, (h c).2.1.trans ?_, (h c).2.2⟩)
      (Cert.ConvKRefIdeal.Value.run (F := Ideal) m' ρ')⟩
  · exact (Cert.ConvKRefIdeal.Read.val_main_v112_eq _).trans ((congr (congr (congr (congrArg Cert.ConvKRefIdeal.Read.val_main_v112 (hagree c).1) (hagree c).2.1) (hagree c).2.2.1) (hagree c).2.2.2).trans
      (final3 m c).symm)
  · exact (Cert.ConvKRefIdeal.Read.val_main_v105_eq _).trans ((congr (congr (congrArg Cert.ConvKRefIdeal.Read.val_main_v105 (hagree c).1) (hagree c).2.1) (hagree c).2.2.1).trans (final4 m c).symm)

end Cert.Proof

end
-- ==== Proof.ConvQPay.lean ====
/-
  What the body of the delta rule's convolution gradient computes, the queries' third, for one head of one sequence.
-/
module

public import proofs.«01_k».proof.Proof.Gen.ConvQIdeal.Skeleton
public import proofs.«01_k».proof.Proof.GdnSpec

@[expose] public section

set_option maxRecDepth 16384

noncomputable section

namespace Cert.ConvQIdeal.Hand

open Cert.ConvQIdeal Cert.ConvQIdeal.Gen Cert.Ffn Cert.Gdn Idealize.ShloMosaic Idealize.ShloMosaic.TcCoe Idealize.SL.Sem
open Cert.Conv (dSilu)

variable (w0 w1 w2 w3 : Vec Ideal S1x128 .f32) (x : Vec Ideal S2048x128 .bf16) (da : Vec Ideal S2048x128 .f32)
  (D : FVec Ideal S2048x128 .f32) (o : FVec Ideal S1x128 .f32)

theorem sh3_eq (r : Fin 2048) (j : Fin 128) : k0_pay5 (F := Ideal) x (ix2 r j) = sh 3 (col x j) r.val := by
  pointwise [k0_pay5, k0_pay4]
  rw [select_sge r.val 3 r.isLt (by omega), roll_sh x j r 3 (by omega)]

theorem sh2_eq (r : Fin 2048) (j : Fin 128) : k0_pay6 (F := Ideal) x (ix2 r j) = sh 2 (col x j) r.val := by
  pointwise [k0_pay6, k0_pay4]
  rw [select_sge r.val 2 r.isLt (by omega), roll_sh x j r 2 (by omega)]

theorem sh1_eq (r : Fin 2048) (j : Fin 128) : k0_pay8 (F := Ideal) x (ix2 r j) = sh 1 (col x j) r.val := by
  pointwise [k0_pay8, k0_pay4]
  rw [select_sge r.val 1 r.isLt (by omega), roll_sh x j r 1 (by omega)]

theorem part_eq (r : Fin 2048) (j : Fin 128) : k0_pay7 (F := Ideal) x w0 w1 w3 (ix2 r j)
    = w3 (ix2 0 j) * col x j r.val + w0 (ix2 0 j) * sh 3 (col x j) r.val + w1 (ix2 0 j) * sh 2 (col x j) r.val := by
  rw [← sh3_eq, ← sh2_eq, col_val]
  unfold k0_pay7
  generalize k0_pay5 x = z
  generalize k0_pay6 x = z'
  pointwise [k0_pay4]

/-- The convolved channel. -/
abbrev preAt (j : Fin 128) (r : ℕ) : EReal :=
  Conv.pre (w0 (ix2 0 j)) (w1 (ix2 0 j)) (w2 (ix2 0 j)) (w3 (ix2 0 j)) (col x j) r

/-- The cotangent of the convolved block. -/
abbrev cotAt : FVec Ideal S2048x128 .f32 := k0_pay10 (F := Ideal) (k0_pay7 x w0 w1 w3) (k0_pay8 x) (k0_pay9 w2) da

theorem cot_eq (r : Fin 2048) (j : Fin 128) : cotAt w0 w1 w2 w3 x da (ix2 r j) = dSilu (preAt w0 w1 w2 w3 x j r.val)
    (dUnit (fun k => silu (preAt w0 w1 w2 w3 x k r.val)) (fun k => da (ix2 r k) * scale) j) := by
  unfold dSilu preAt Conv.pre
  simp only [← part_eq w0 w1 w3 x, ← sh1_eq x]
  unfold cotAt k0_pay10 k0_pay9
  generalize k0_pay7 (F := Ideal) x w0 w1 w3 = z
  generalize k0_pay8 (F := Ideal) x = z'
  pointwise
  simp only [Fin.sum_univ_one]
  rfl

theorem dw1_eq (q : Fin 1) (j : Fin 128) :
    k0_pay11 (F := Ideal) (k0_pay7 x w0 w1 w3) (k0_pay8 x) (k0_pay9 w2) da (ix2 q j) = dw 1 (col (cotAt w0 w1 w2 w3 x da) j) (col x j) := by
  unfold dw
  simp only [← sh1_eq, col_val]
  unfold k0_pay11 cotAt
  generalize k0_pay10 (F := Ideal) _ _ _ _ = z
  generalize k0_pay8 (F := Ideal) _ = z'
  pointwise

theorem dw0_eq (q : Fin 1) (j : Fin 128) : k0_pay13 (F := Ideal) (k0_pay4 x) D (ix2 q j) = dw 0 (col D j) (col x j) := by
  unfold dw
  simp only [sh_zero, col_val]
  pointwise [k0_pay13, k0_pay4]

theorem dw3_eq (q : Fin 1) (j : Fin 128) : k0_pay15 (F := Ideal) (k0_pay5 x) D o (ix2 q j) = o (ix2 q j) + dw 3 (col D j) (col x j) := by
  unfold dw
  simp only [← sh3_eq, col_val]
  unfold k0_pay15
  generalize k0_pay5 (F := Ideal) _ = z'
  pointwise

theorem dw2_eq (q : Fin 1) (j : Fin 128) : k0_pay16 (F := Ideal) (k0_pay6 x) D o (ix2 q j) = o (ix2 q j) + dw 2 (col D j) (col x j) := by
  unfold dw
  simp only [← sh2_eq, col_val]
  unfold k0_pay16
  generalize k0_pay6 (F := Ideal) _ = z'
  pointwise

theorem pay1_eq (v a : FVec Ideal S1x128 .f32) (q : Fin 1) (j : Fin 128) : k0_pay1 (F := Ideal) v a (ix2 q j) = a (ix2 q j) + v (ix2 q j) := by
  pointwise [k0_pay1]

theorem pay2_eq (v a : FVec Ideal S1x128 .f32) (q : Fin 1) (j : Fin 128) : k0_pay2 (F := Ideal) v a (ix2 q j) = a (ix2 q j) + v (ix2 q j) := by
  pointwise [k0_pay2]

theorem zero_eq (k : Fin 4) (j : Fin 128) : k0_pay3 (F := Ideal) (ix2 k j) = 0 := by
  pointwise [k0_pay3]

/-- The gradient of the channel. -/
theorem dx_eq (r : Fin 2048) (j : Fin 128) :
    k0_pay14 (F := Ideal) w0 w1 w3 (cotAt w0 w1 w2 w3 x da) (k0_pay12 w2 (k0_pay7 x w0 w1 w3) (k0_pay8 x) (k0_pay9 w2) da) (ix2 r j)
      = Conv.dx (w0 (ix2 0 j)) (w1 (ix2 0 j)) (w2 (ix2 0 j)) (w3 (ix2 0 j)) (col (cotAt w0 w1 w2 w3 x da) j) r.val := by
  unfold k0_pay14 k0_pay12 cotAt
  generalize k0_pay10 (F := Ideal) _ _ _ _ = z
  unfold Conv.dx
  pointwise
  rw [select_slt r.val 2047 r.isLt (by omega), select_slt r.val 2046 r.isLt (by omega), select_slt r.val 2045 r.isLt (by omega)]
  rw [mul_roll_ahead _ z j r 1 2047 rfl (by omega), mul_roll_ahead _ z j r 2 2046 rfl (by omega),
    mul_roll_ahead _ z j r 3 2045 rfl (by omega), col_val]

end Cert.ConvQIdeal.Hand

end
-- ==== Proof.ConvQRef.lean ====
/-
  The reference of the delta rule's convolution gradient, the queries' third, stage by stage.
-/
module

public import proofs.«01_k».proof.Proof.Gen.ConvQRefIdeal.Read
public import proofs.«01_k».proof.Proof.GdnSpec
public import proofs.«01_k».proof.Proof.FfnRef

@[expose] public section

set_option maxRecDepth 16384

noncomputable section

namespace Cert.ConvQRefIdeal.Hand

open Cert.ConvQRefIdeal Cert.ConvQRefIdeal.Gen Cert.ConvQRefIdeal.Read Cert.Ffn Cert.Gdn Idealize.ShloMosaic Idealize.ShloMosaic.TcCoe
open Cert.ReferenceIdeal.Ffn (hostReduceAdd_01)
open Cert.Conv (dSilu pad_sh)

/-- The column of a channel in the projection. -/
def at' (c : Fin 1024) : Fin 6656 := ⟨c.val, by have := c.isLt; omega⟩

/-- The column of a channel in the taps. -/
def tap (c : Fin 1024) : Fin 3072 := ⟨c.val, by have := c.isLt; omega⟩

variable (U : FVec Ideal S8192x6656 .bf16) (W : FVec Ideal S4x3072 .f32) (A : FVec Ideal S8192x1024 .f32) (P : FVec Ideal S8192x6656 .bf16)

/-- The cotangent of a convolved channel. -/
def cot (b : Fin 4) (c : Fin 1024) (r : ℕ) : EReal :=
  cotQ at' tap U W A b ⟨c.val / 128, by have := c.isLt; omega⟩ ⟨c.val % 128, by omega⟩ r

theorem cot_lane (b : Fin 4) (h : Fin 8) (j : Fin 128) (r : ℕ) : cot U W A b (lane h j) r = cotQ at' tap U W A b h j r := by
  have e1 : (h.val * 128 + j.val) / 128 = h.val := by have := j.isLt; omega
  have e2 : (h.val * 128 + j.val) % 128 = j.val := by have := j.isLt; omega
  unfold cot
  congr 1
  · exact Fin.ext e1
  · exact Fin.ext e2

theorem v5_eq (b : Fin 4) (r : Fin 2051) (c : Fin 1024) :
    val_main_v5 (F := Ideal) U (ix3 b r c) = if r.val < 3 then 0 else chan U b (at' c) (r.val - 3) := by
  unfold at'
  pointwise [val_main_v5, val_main_v4, val_main_cst, val_main_v2, val_main_v1, val_main_v0]
  by_cases h : r.val < 3
  · rw [dif_pos h, if_pos h]
  · rw [dif_neg h, if_neg h, chan, dif_pos (by have := r.isLt; omega)]
    rfl

theorem pre_eq (b : Fin 4) (r : Fin 2048) (c : Fin 1024) : val_main_v35 (F := Ideal) U W (ix3 b r c) = conv at' tap U W b c r.val := by
  have h0 := v5_eq U b
  unfold val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_cst_1 val_main_v12 val_main_v11 val_main_v10 val_main_v9 val_main_v8 val_main_v7 val_main_v3
  generalize val_main_v5 (F := Ideal) U = z at h0 ⊢
  pointwise
  simp only [h0]
  rw [pad_sh _ r.val r.val 3 3 rfl, pad_sh _ r.val (1 + r.val) 2 3 (by omega), pad_sh _ r.val (2 + r.val) 1 3 (by omega),
    pad_sh _ r.val (3 + r.val) 0 3 (by omega), sh_zero]
  unfold conv Conv.pre tap
  rw [add_comm _ (W (ix2 3 _) * _), ← add_assoc, ← add_assoc]

theorem head_eq (b : Fin 4) (r : Fin 2048) (h : Fin 8) (k : Fin 128) :
    val_main_v37 (F := Ideal) U W (ix4 b r h k) = silu (conv at' tap U W b (lane h k) r.val) := by
  have h0 := pre_eq U W b
  unfold val_main_v37 val_main_v36_0 val_main_v36_2 val_main_call0_v4 val_main_call0_cst_0 val_main_call0_v3 val_main_call0_v2 val_main_call0_cst val_main_call0_v1 val_main_call0_v0
  generalize val_main_v35 (F := Ideal) U W = z at h0 ⊢
  pointwise
  simp only [h0]
  rfl

theorem unit_eq (b : Fin 4) (r : Fin 2048) (h : Fin 8) (k : Fin 128) : val_main_v65 (F := Ideal) U W A (ix4 b r h k) =
    dUnit (fun k => silu (conv at' tap U W b (lane h k) r.val)) (fun k => chan A b (lane h k) r.val * scale) k := by
  have h0 := head_eq U W b
  unfold val_main_v65 val_main_v64 val_main_v63 val_main_v62 val_main_v61 val_main_v60 val_main_cst_8 val_main_v59 val_main_v58 val_main_v57 val_main_v56 val_main_v55 val_main_cst_7 val_main_v54 val_main_v53 val_main_v52 val_main_cst_6 val_main_v51 val_main_v46 val_main_v45 val_main_cst_4 val_main_v44 val_main_v43 val_main_v42 val_main_v41 val_main_cst_3 val_main_v40 val_main_v39 val_main_cst_2 val_main_v38
  generalize val_main_v37 (F := Ideal) U W = z at h0 ⊢
  pointwise
  simp only [h0, chan_val, Fin.sum_univ_one]
  rfl

theorem cot_eq (b : Fin 4) (r : Fin 2048) (c : Fin 1024) : val_main_v67 (F := Ideal) U W A (ix3 b r c) = cot U W A b c r.val := by
  obtain ⟨h, j, rfl⟩ := lane_surj c
  have h0 := pre_eq U W b r (lane h j)
  have h1 := unit_eq U W A b r h j
  unfold val_main_v67 val_main_call1_v2 val_main_call1_v1 val_main_call1_v0 val_main_v66 val_main_v36_1 val_main_call0_v7 val_main_call0_v6 val_main_call0_cst_1 val_main_v36_2 val_main_call0_v4 val_main_call0_cst_0 val_main_call0_v3 val_main_call0_v2 val_main_call0_cst val_main_call0_v1 val_main_call0_v0
  generalize val_main_v35 (F := Ideal) U W = z at h0 ⊢
  generalize val_main_v65 (F := Ideal) U W A = z1 at h1 ⊢
  rw [cot_lane, cotQ, if_pos r.isLt, ← h0, ← h1]
  unfold lane
  pointwise
  rfl

theorem sum0_eq (c : Fin 1024) : val_main_v73 (F := Ideal) U W A (ix1 c) = ∑ b : Fin 4, dw 0 (cot U W A b c) (chan U b (at' c)) := by
  have h0 := fun b r => v5_eq U b r c
  have h1 := fun b r => cot_eq U W A b r c
  unfold val_main_v73 val_main_cst_10 val_main_v72 val_main_v71 val_main_cst_9 val_main_v70 val_main_v31
  generalize val_main_v67 (F := Ideal) U W A = z at h1 ⊢
  generalize val_main_v5 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  exact congrArg _ (pad_sh _ r.val (3 + r.val) 0 3 (by omega))

theorem sum1_eq (c : Fin 1024) : val_main_v82 (F := Ideal) U W A (ix1 c) = ∑ b : Fin 4, dw 1 (cot U W A b c) (chan U b (at' c)) := by
  have h0 := fun b r => v5_eq U b r c
  have h1 := fun b r => cot_eq U W A b r c
  unfold val_main_v82 val_main_cst_14 val_main_v81 val_main_v80 val_main_cst_13 val_main_v79 val_main_v24
  generalize val_main_v67 (F := Ideal) U W A = z at h1 ⊢
  generalize val_main_v5 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  exact congrArg _ (pad_sh _ r.val (2 + r.val) 1 3 (by omega))

theorem sum2_eq (c : Fin 1024) : val_main_v93 (F := Ideal) U W A (ix1 c) = ∑ b : Fin 4, dw 2 (cot U W A b c) (chan U b (at' c)) := by
  have h0 := fun b r => v5_eq U b r c
  have h1 := fun b r => cot_eq U W A b r c
  unfold val_main_v93 val_main_cst_18 val_main_v92 val_main_v91 val_main_cst_17 val_main_v90 val_main_v17
  generalize val_main_v67 (F := Ideal) U W A = z at h1 ⊢
  generalize val_main_v5 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  exact congrArg _ (pad_sh _ r.val (1 + r.val) 2 3 (by omega))

theorem sum3_eq (c : Fin 1024) : val_main_v104 (F := Ideal) U W A (ix1 c) = ∑ b : Fin 4, dw 3 (cot U W A b c) (chan U b (at' c)) := by
  have h0 := fun b r => v5_eq U b r c
  have h1 := fun b r => cot_eq U W A b r c
  unfold val_main_v104 val_main_cst_22 val_main_v103 val_main_v102 val_main_cst_21 val_main_v101 val_main_v9
  generalize val_main_v67 (F := Ideal) U W A = z at h1 ⊢
  generalize val_main_v5 (F := Ideal) U = z1 at h0 ⊢
  pointwise
  simp only [hostReduceAdd_01]
  pointwise
  simp only [hostReduceAdd_01]
  pointwise
  rw [Fin.sum_univ_one, Fin.sum_univ_one]
  refine Finset.sum_congr rfl fun b _ => Finset.sum_congr rfl fun r _ => ?_
  rw [h0, h1]
  exact congrArg _ (pad_sh _ r.val (r.val) 3 3 rfl)

/-- The gradient of the convolution's input. -/
theorem dx_eq (b : Fin 4) (r : Fin 2048) (c : Fin 1024) : val_main_v113 (F := Ideal) U W A (ix2 (row b r) c) =
    Conv.dx (W (ix2 0 (tap c))) (W (ix2 1 (tap c))) (W (ix2 2 (tap c))) (W (ix2 3 (tap c))) (cot U W A b c) r.val := by
  have h1 := fun b r => cot_eq U W A b r c
  unfold val_main_v113 val_main_v112 val_main_v111 val_main_v106 val_main_v105 val_main_cst_23 val_main_v100 val_main_v99 val_main_v95 val_main_v94 val_main_cst_19 val_main_v89 val_main_v88 val_main_v84 val_main_v83 val_main_cst_15 val_main_v78 val_main_v77 val_main_v74 val_main_cst_11 val_main_v69 val_main_v68 val_main_v32 val_main_v30 val_main_v29 val_main_v25 val_main_v23 val_main_v22 val_main_v18 val_main_v16 val_main_v15 val_main_v10 val_main_v8 val_main_v7 val_main_v3
  generalize val_main_v67 (F := Ideal) U W A = z at h1 ⊢
  unfold row
  pointwise
  simp only [h1]
  unfold Conv.dx ahead tap
  have e1 : (2 ≤ 3 + r.val ∧ r.val + 1 < 2048) = (r.val + 1 < 2048) := propext (by omega)
  have e2 : (1 ≤ 3 + r.val ∧ r.val + 2 < 2048) = (r.val + 2 < 2048) := propext (by omega)
  have e3 : 3 + r.val - 2 = r.val + 1 := by omega
  have e4 : 3 + r.val - 1 = r.val + 2 := by omega
  have e5 : 3 + r.val = r.val + 3 := by omega
  simp only [dite_eq_ite, e3, e4, e1, e2]
  simp only [e5]
  rw [mul_ite, mul_ite, mul_ite, mul_zero, mul_zero, mul_zero]
  ac_rfl

/-- The taps' gradient. -/
theorem dw_eq (k : Fin 4) (c : Fin 1024) :
    val_main_v109 (F := Ideal) U W A (ix2 k c) = ∑ b : Fin 4, dw (3 - k.val) (cot U W A b c) (chan U b (at' c)) := by
  have h3 := sum3_eq U W A c
  have h2 := sum2_eq U W A c
  have h1 := sum1_eq U W A c
  have h0 := sum0_eq U W A c
  unfold val_main_v109 val_main_v108 val_main_cst_24 val_main_v107 val_main_v98 val_main_v97 val_main_cst_20 val_main_v96 val_main_v87 val_main_v86 val_main_cst_16 val_main_v85 val_main_v76 val_main_cst_12 val_main_v75
  generalize val_main_v104 (F := Ideal) U W A = z3 at h3 ⊢
  generalize val_main_v93 (F := Ideal) U W A = z2 at h2 ⊢
  generalize val_main_v82 (F := Ideal) U W A = z1 at h1 ⊢
  generalize val_main_v73 (F := Ideal) U W A = z0 at h0 ⊢
  pointwise
  simp only [h0, h1, h2, h3]
  match k with
  | ⟨0, _⟩ => simp
  | ⟨1, _⟩ => simp
  | ⟨2, _⟩ => simp
  | ⟨3, _⟩ => simp

/-- The gradient of the projection: the columns outside the third are those that came in. -/
theorem fin_out (r : Fin 8192) (c : Fin 6656) (h : ¬(0 ≤ c.val ∧ c.val < 1024)) :
    val_main_v116 (F := Ideal) U W A P (ix2 r c) = P (ix2 r c) := by
  unfold val_main_v116 val_main_v115 val_main_v114
  generalize val_main_v113 (F := Ideal) U W A = z
  pointwise
  by_cases h1 : c.val < 0
  · rw [dif_pos h1]
  · rw [dif_neg h1, dif_neg (by omega)]
    congr 2
    apply Fin.ext
    show _ + _ = _
    omega

theorem fin_in (r : Fin 8192) (c : Fin 1024) :
    val_main_v116 (F := Ideal) U W A P (ix2 r (at' c)) = val_main_v113 (F := Ideal) U W A (ix2 r c) := by
  unfold val_main_v116 val_main_v115 val_main_v114 at'
  generalize val_main_v113 (F := Ideal) U W A = z
  pointwise
  rw [dif_neg (Nat.not_lt_zero _)]

end Cert.ConvQRefIdeal.Hand

end
-- ==== Proof.ConvQ.lean ====
/-
  What the delta rule's convolution gradient leaves in its outputs, the queries' third: point `t` of the grid takes sequence
  `t % 4` and head `t / 4`; the channels' gradients are written block by block into the third's columns, the taps' gradient
  is summed over the four points of a head.
-/
module

public import proofs.«01_k».proof.Defs
public import proofs.«01_k».proof.Proof.Gen.ConvQIdeal.Value
public import proofs.«01_k».proof.Proof.Gen.ConvQRefIdeal.Run
public import proofs.«01_k».proof.Proof.ConvQPay
public import proofs.«01_k».proof.Proof.ConvQRef

@[expose] public section

set_option maxRecDepth 16384

noncomputable section

namespace Cert.ConvQIdeal.Hand

open Cert.ConvQIdeal Cert.ConvQIdeal.Gen Cert.Ffn Cert.Conv Cert.Gdn Idealize.ShloMosaic Idealize.ShloMosaic.TcCoe Idealize.SL.Sem
open Cert.ConvQRefIdeal.Read Cert.ConvQRefIdeal.Hand

variable (m : (ℓ : Loc nD τ sig) → Buf (Elt Ideal) ℓ) (c : Dev nD)

/-- The arguments as launched. -/
abbrev argU : (⟨2, ![8192, 6656]⟩ : Shape).Idx → EReal := m ((c.tc : Thread nD τ).loc main_arg0)
abbrev argW : (⟨2, ![4, 3072]⟩ : Shape).Idx → EReal := m ((c.tc : Thread nD τ).loc main_arg1)
abbrev argA : (⟨2, ![8192, 1024]⟩ : Shape).Idx → EReal := m ((c.tc : Thread nD τ).loc main_arg2)
abbrev argP : (⟨2, ![8192, 6656]⟩ : Shape).Idx → EReal := m ((c.tc : Thread nD τ).loc main_arg3)

/-! ### Where each point's blocks lie -/

theorem idx0 : ∀ t : Fin cfg0.N, win0_0.index t = ![t.val % 4, t.val / 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![t.val % 4, t.val / 4] := (by decide +kernel : ∀ t : Fin grid0.N, _)
theorem idx3 : ∀ t : Fin cfg0.N, win0_3.index t = ![t.val % 4, t.val / 4] := (by decide +kernel : ∀ t : Fin grid0.N, _)
theorem idx4 : ∀ t : Fin cfg0.N, win0_4.index t = ![0, t.val / 4] := (by decide +kernel : ∀ t : Fin grid0.N, _)

/-- The sequence of a point. -/
def bat (t : Fin cfg0.N) : Fin 4 := ⟨t.val % 4, by omega⟩

theorem lt32 (t : Fin cfg0.N) : t.val < 32 := t.isLt

/-- Channel `j` of a point's block. -/
def ch (t : Fin cfg0.N) (j : Fin 128) : Fin 1024 := ⟨t.val / 4 * 128 + j.val, by have := lt32 t; have := j.isLt; omega⟩

theorem blk0 (t : Fin cfg0.N) (j : Fin 128) : col (n := 2048) (iblk m c 0 t) j = chan (argU m c) (bat t) (at' (ch t j)) := by
  funext r
  unfold col chan
  by_cases h : r < 2048
  · rw [dif_pos h, dif_pos h]
    unfold row at' ch bat
    blk_ext [iblk, V, idx0 t]
  · rw [dif_neg h, dif_neg h]

theorem blk1 (t : Fin cfg0.N) (k : Fin 4) (j : Fin 128) : iblk m c 1 t (ix2 k j) = argW m c (ix2 k (tap (ch t j))) := by
  unfold tap ch
  blk_ext [iblk, V, idx1 t]

theorem blk2 (t : Fin cfg0.N) (r : Fin 2048) (j : Fin 128) : iblk m c 2 t (ix2 r j) = chan (argA m c) (bat t) (ch t j) r.val := by
  rw [chan_val]
  unfold row ch bat
  blk_ext [iblk, V, idx2 t]

/-- The taps of a point. -/
abbrev tap0 (t : Fin cfg0.N) : Vec Ideal S1x128 .f32 := View.ld (iblk m c 1 t) (Rect.unit ![0, 0] ![1, 128] inb_S4x128_S1x128_0_0)
abbrev tap1 (t : Fin cfg0.N) : Vec Ideal S1x128 .f32 := View.ld (iblk m c 1 t) (Rect.unit ![1, 0] ![1, 128] inb_S4x128_S1x128_1_0)
abbrev tap2 (t : Fin cfg0.N) : Vec Ideal S1x128 .f32 := View.ld (iblk m c 1 t) (Rect.unit ![2, 0] ![1, 128] inb_S4x128_S1x128_2_0)
abbrev tap3 (t : Fin cfg0.N) : Vec Ideal S1x128 .f32 := View.ld (iblk m c 1 t) (Rect.unit ![3, 0] ![1, 128] inb_S4x128_S1x128_3_0)

theorem tap0_eq (t : Fin cfg0.N) (j : Fin 128) : tap0 m c t (ix2 0 j) = argW m c (ix2 0 (tap (ch t j))) := (ld_row _ 0 (by omega) _ _ _).trans (blk1 m c t 0 j)
theorem tap1_eq (t : Fin cfg0.N) (j : Fin 128) : tap1 m c t (ix2 0 j) = argW m c (ix2 1 (tap (ch t j))) := (ld_row _ 1 (by omega) _ _ _).trans (blk1 m c t 1 j)
theorem tap2_eq (t : Fin cfg0.N) (j : Fin 128) : tap2 m c t (ix2 0 j) = argW m c (ix2 2 (tap (ch t j))) := (ld_row _ 2 (by omega) _ _ _).trans (blk1 m c t 2 j)
theorem tap3_eq (t : Fin cfg0.N) (j : Fin 128) : tap3 m c t (ix2 0 j) = argW m c (ix2 3 (tap (ch t j))) := (ld_row _ 3 (by omega) _ _ _).trans (blk1 m c t 3 j)

/-- The cotangent of the convolved block of a point. -/
abbrev blkD (t : Fin cfg0.N) : FVec Ideal S2048x128 .f32 :=
  cotAt (tap0 m c t) (tap1 m c t) (tap2 m c t) (tap3 m c t) (iblk m c 0 t) (iblk m c 2 t)

theorem ch_lane (t : Fin cfg0.N) (j : Fin 128) : ch t j = lane ⟨t.val / 4, by have := lt32 t; omega⟩ j := rfl

theorem pre_at (t : Fin cfg0.N) (j : Fin 128) (r : ℕ) : preAt (tap0 m c t) (tap1 m c t) (tap2 m c t) (tap3 m c t) (iblk m c 0 t) j r
    = conv at' tap (argU m c) (argW m c) (bat t) (ch t j) r := by
  unfold preAt conv
  rw [blk0, tap0_eq, tap1_eq, tap2_eq, tap3_eq]

theorem blkD_col (t : Fin cfg0.N) (j : Fin 128) :
    col (n := 2048) (blkD m c t) j = cot (argU m c) (argW m c) (argA m c) (bat t) (ch t j) := by
  funext r
  rw [ch_lane, cot_lane]
  unfold cotQ
  by_cases h : r < 2048
  · rw [if_pos h, col, dif_pos h]
    refine (Cert.ConvQIdeal.Hand.cot_eq ..).trans ?_
    rw [pre_at m c t j r]
    refine congrArg (dSilu _) (dUnit_congr j (fun k => congrArg silu (pre_at m c t k r)) fun k => ?_)
    rw [blk2 m c t ⟨r, h⟩ k]
    rfl
  · rw [if_neg h, col, dif_neg h]

/-! ### The outputs of a point -/

theorem out3 (t : Fin cfg0.N) (r : Fin 2048) (j : Fin 128) : (outsAt0 m c t.val t.isLt).1 (ix2 r j) =
    Conv.dx (argW m c (ix2 0 (tap (ch t j)))) (argW m c (ix2 1 (tap (ch t j)))) (argW m c (ix2 2 (tap (ch t j))))
      (argW m c (ix2 3 (tap (ch t j)))) (cot (argU m c) (argW m c) (argA m c) (bat t) (ch t j)) r.val := by
  by_cases h : t.val % 4 = 0
  · rw [outsAt0_A m c t h]; frame_out
    exact (Cert.ConvQIdeal.Hand.dx_eq ..).trans (Conv.dx_congr _ (tap0_eq m c t j) (tap1_eq m c t j) (tap2_eq m c t j) (tap3_eq m c t j) (blkD_col m c t j))
  · rw [outsAt0_B m c t h]; frame_out
    exact (Cert.ConvQIdeal.Hand.dx_eq ..).trans (Conv.dx_congr _ (tap0_eq m c t j) (tap1_eq m c t j) (tap2_eq m c t j) (tap3_eq m c t j) (blkD_col m c t j))

/-- What a point adds to the taps' gradient. -/
abbrev dTap (k : Fin 4) (j : Fin 128) (t : Fin cfg0.N) : EReal :=
  dw (3 - k.val) (cot (argU m c) (argW m c) (argA m c) (bat t) (ch t j)) (chan (argU m c) (bat t) (at' (ch t j)))

theorem out4_A (t : Fin cfg0.N) (h : t.val % 4 = 0) (k : Fin 4) (j : Fin 128) :
    (outsAt0 m c t.val t.isLt).2 (ix2 k j) = 0 + dTap m c k j t := by
  rw [outsAt0_A m c t h]; frame_out
  obtain rfl | rfl | rfl | rfl : k = 0 ∨ k = 1 ∨ k = 2 ∨ k = 3 := by omega
  · rw [canon_row_ne 0 3 (by decide), canon_row_ne 0 2 (by decide), canon_row_ne 0 1 (by decide), canon_row 0 0 rfl]
    refine (dw3_eq ..).trans (add_dw _ ?_ (blkD_col m c t j) (blk0 m c t j))
    rw [readCov_row _ _ 0 0 rfl, canon_fill, zero_eq]
  · rw [canon_row_ne 1 3 (by decide), canon_row_ne 1 2 (by decide), canon_row 1 1 rfl]
    refine (dw2_eq ..).trans (add_dw _ ?_ (blkD_col m c t j) (blk0 m c t j))
    rw [readCov_row _ _ 1 1 rfl, canon_row_ne 1 0 (by decide), canon_fill, zero_eq]
  · rw [canon_row_ne 2 3 (by decide), canon_row 2 2 rfl, pay1_eq]
    refine (congrArg _ (dw1_eq ..)).trans (add_dw _ ?_ (blkD_col m c t j) (blk0 m c t j))
    rw [readCov_row _ _ 2 2 rfl, canon_row_ne 2 1 (by decide), canon_row_ne 2 0 (by decide), canon_fill, zero_eq]
  · rw [canon_row 3 3 rfl, pay2_eq]
    refine (congrArg _ (dw0_eq ..)).trans (add_dw _ ?_ (blkD_col m c t j) (blk0 m c t j))
    rw [readCov_row _ _ 3 3 rfl, canon_row_ne 3 2 (by decide), canon_row_ne 3 1 (by decide), canon_row_ne 3 0 (by decide), canon_fill, zero_eq]

theorem out4_B (t : Fin cfg0.N) (h : ¬t.val % 4 = 0) (k : Fin 4) (j : Fin 128) : (outsAt0 m c t.val t.isLt).2 (ix2 k j)
    = (outsAt0 m c (t.val - 1) (Nat.lt_of_le_of_lt (Nat.sub_le _ _) t.isLt)).2 (ix2 k j) + dTap m c k j t := by
  rw [outsAt0_B m c t h]; frame_out
  obtain rfl | rfl | rfl | rfl : k = 0 ∨ k = 1 ∨ k = 2 ∨ k = 3 := by omega
  · rw [canon_row_ne 0 3 (by decide), canon_row_ne 0 2 (by decide), canon_row_ne 0 1 (by decide), canon_row 0 0 rfl]
    exact (dw3_eq ..).trans (add_dw _ (ld_row _ 0 (by omega) _ _ _) (blkD_col m c t j) (blk0 m c t j))
  · rw [canon_row_ne 1 3 (by decide), canon_row_ne 1 2 (by decide), canon_row 1 1 rfl]
    exact (dw2_eq ..).trans (add_dw _ (ld_row _ 1 (by omega) _ _ _) (blkD_col m c t j) (blk0 m c t j))
  · rw [canon_row_ne 2 3 (by decide), canon_row 2 2 rfl, pay1_eq]
    exact (congrArg _ (dw1_eq ..)).trans (add_dw _ (ld_row _ 2 (by omega) _ _ _) (blkD_col m c t j) (blk0 m c t j))
  · rw [canon_row 3 3 rfl, pay2_eq]
    exact (congrArg _ (dw0_eq ..)).trans (add_dw _ (ld_row _ 3 (by omega) _ _ _) (blkD_col m c t j) (blk0 m c t j))

/-! ### The sum over a run of four points -/

theorem bat_run (t : Fin cfg0.N) (s : Fin 4) (h : 4 * (t.val / 4) + s.val < cfg0.N) : bat ⟨4 * (t.val / 4) + s.val, h⟩ = s := by
  apply Fin.ext
  show (4 * (t.val / 4) + s.val) % 4 = s.val
  have := s.isLt; omega

theorem ch_run (t : Fin cfg0.N) (s : Fin 4) (h : 4 * (t.val / 4) + s.val < cfg0.N) (j : Fin 128) :
    ch ⟨4 * (t.val / 4) + s.val, h⟩ j = ch t j := by
  apply Fin.ext
  show (4 * (t.val / 4) + s.val) / 4 * 128 + j.val = t.val / 4 * 128 + j.val
  have := s.isLt; have : (4 * (t.val / 4) + s.val) / 4 = t.val / 4 := by omega
  rw [this]

theorem sum4 (t : Fin cfg0.N) (ht : t.val % 4 = 3) (k : Fin 4) (j : Fin 128) : (outsAt0 m c t.val t.isLt).2 (ix2 k j) =
    ∑ b : Fin 4, dw (3 - k.val) (cot (argU m c) (argW m c) (argA m c) b (ch t j)) (chan (argU m c) b (at' (ch t j))) := by
  rw [Pipeline.eq_sum_fin_of_reset_step_of_flush (fun n h => (outsAt0 m c n h).2 (ix2 k j)) 4 0 (dTap m c k j)
    (fun t h => out4_A m c t h k j) (fun t h => out4_B m c t h k j) t ht, zero_add]
  exact Finset.sum_congr rfl fun s _ => by unfold dTap; rw [bat_run, ch_run]

/-! ### The arrays -/

theorem final3 : (dats m 0 c).arrAt 3 cfg0.N = val_main_v116 (F := Ideal) (argU m c) (argW m c) (argA m c) (argP m c) := by
  refine (dats m 0 c).arrAt_eq_of_coversWhere_of_agree 3 _ (fun β => 0 ≤ β (1 : Fin 2) ∧ β (1 : Fin 2) < 8) (by decide +kernel) (fun t hf y => ?_) (fun i hi => ?_)
  · blk_simp
    obtain ⟨r, j, rfl⟩ : ∃ (r : Fin 2048) (j : Fin 128), y = ix2 r j := ⟨y 0, y 1, eq_ix2 y⟩
    have he : (win0_3.blk t).view.emb (ix2 r j) = ix2 (row (bat t) r) (at' (ch t j)) := by
      unfold row bat at' ch
      blk_ext [idx3 t]
    rw [after0_3, he, fin_in, Cert.ConvQRefIdeal.Hand.dx_eq]
    exact out3 m c t r j
  · blk_simp [Pipeline.Window.cell_apply] at hi
    rw [A_eq]
    obtain ⟨r, j, rfl⟩ : ∃ (r : Fin 8192) (j : Fin 6656), i = ix2 r j := ⟨i 0, i 1, eq_ix2 i⟩
    exact (fin_out _ _ _ _ r j (by have : ¬(0 ≤ j.val / 128 ∧ j.val / 128 < 8) := hi; omega)).symm

theorem final4 : (dats m 0 c).arrAt 4 cfg0.N = val_main_v109 (F := Ideal) (argU m c) (argW m c) (argA m c) := by
  refine (dats m 0 c).arrAt_eq_of_covers 4 _ (by decide +kernel) fun t hf y => ?_
  blk_simp
  obtain ⟨k, j, rfl⟩ : ∃ (k : Fin 4) (j : Fin 128), y = ix2 k j := ⟨y 0, y 1, eq_ix2 y⟩
  have he : (win0_4.blk t).view.emb (ix2 k j) = ix2 k (ch t j) := by
    unfold ch
    blk_ext [idx4 t]
  rw [after0_4, he, Cert.ConvQRefIdeal.Hand.dw_eq]
  exact sum4 m c t ((flush0_4 t).mp hf) k j

end Cert.ConvQIdeal.Hand

/-! ### The claims -/

namespace Cert.Proof

open Idealize.ShloMosaic Idealize.ShloMosaic.TcCoe Idealize.SL.Sem Cert.ConvQIdeal.Hand

theorem ConvQ.reference_frame : Cert.quiescent_ConvQRefIdeal (hConvQRefIdeal := Cert.ConvQRefIdeal.Gen.facts) := fun m ρ _ =>
  (θ_run Cert.ConvQRefIdeal.defs _ _).mono (fun r h => ⟨fun c => (h c).2.2, sem_eq_zero_of_no_sems (by decide) r.2⟩)
    (Cert.ConvQRefIdeal.Value.run (F := Ideal) m ρ)

theorem ConvQ.value : Cert.algebraic_ConvQIdeal_ConvQRefIdeal (hConvQIdeal := Cert.ConvQIdeal.Gen.facts) (hConvQRefIdeal := Cert.ConvQRefIdeal.Gen.facts) := by
  intro m ρ m' ρ' _ hagree
  refine ⟨_, _, Cert.ConvQIdeal.Value.run_blocks (F := Ideal) m ρ,
    (θ_run Cert.ConvQRefIdeal.defs _ _).mono (fun _ h c => ⟨(h c).1.trans ?_, (h c).2.1.trans ?_, (h c).2.2⟩)
      (Cert.ConvQRefIdeal.Value.run (F := Ideal) m' ρ')⟩
  · exact (Cert.ConvQRefIdeal.Read.val_main_v116_eq _).trans ((congr (congr (congr (congrArg Cert.ConvQRefIdeal.Read.val_main_v116 (hagree c).1) (hagree c).2.1) (hagree c).2.2.1) (hagree c).2.2.2).trans
      (final3 m c).symm)
  · exact (Cert.ConvQRefIdeal.Read.val_main_v109_eq _).trans ((congr (congr (congrArg Cert.ConvQRefIdeal.Read.val_main_v109 (hagree c).1) (hagree c).2.1) (hagree c).2.2.1).trans (final4 m c).symm)

end Cert.Proof

end
-- ==== Proof.ConvVFwd.lean ====
/-
  The forward pass of the delta rule's convolution, the values' third: point `t` of the grid takes sequence `t % 4` and head
  `t / 4`, and writes the head's block of the result.
-/
module

public import proofs.«01_k».proof.Defs
public import proofs.«01_k».proof.Proof.Gen.ConvVFwdIdeal.Value
public import proofs.«01_k».proof.Proof.Gen.ConvVFwdRefIdeal.Run
public import proofs.«01_k».proof.Proof.Gen.ConvVFwdRefIdeal.Read
public import proofs.«01_k».proof.Proof.GdnSpec
public import proofs.«01_k».proof.Proof.Act

@[expose] public section

set_option maxRecDepth 16384

noncomputable section

namespace Cert.ConvVFwdRefIdeal.Hand

open Cert.ConvVFwdRefIdeal Cert.ConvVFwdRefIdeal.Gen Cert.ConvVFwdRefIdeal.Read Cert.Ffn Cert.Gdn Idealize.ShloMosaic Idealize.ShloMosaic.TcCoe
open Cert.Conv (pad_sh)

/-- The column of a channel in the projection. -/
def at' (c : Fin 1024) : Fin 6656 := ⟨2048 + c.val, by have := c.isLt; omega⟩

/-- The column of a channel in the taps. -/
def tap (c : Fin 1024) : Fin 3072 := ⟨2048 + c.val, by have := c.isLt; omega⟩

variable (U : FVec Ideal S8192x6656 .bf16) (W : FVec Ideal S4x3072 .f32)

theorem v5_eq (b : Fin 4) (r : Fin 2051) (c : Fin 1024) :
    val_main_v5 (F := Ideal) U (ix3 b r c) = if r.val < 3 then 0 else chan U b (at' c) (r.val - 3) := by
  unfold at'
  pointwise [val_main_v5, val_main_v4, val_main_cst, val_main_v2, val_main_v1, val_main_v0]
  by_cases h : r.val < 3
  · rw [dif_pos h, if_pos h]
  · rw [dif_neg h, if_neg h, chan, dif_pos (by have := r.isLt; omega)]
    rfl

theorem pre_eq (b : Fin 4) (r : Fin 2048) (c : Fin 1024) : val_main_v34 (F := Ideal) U W (ix3 b r c) = conv at' tap U W b c r.val := by
  have h0 := v5_eq U b
  unfold val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_cst_0 val_main_v11 val_main_v10 val_main_v9 val_main_v8 val_main_v7 val_main_v6 val_main_v3
  generalize val_main_v5 (F := Ideal) U = z at h0 ⊢
  pointwise
  simp only [h0]
  rw [pad_sh _ r.val r.val 3 3 rfl, pad_sh _ r.val (1 + r.val) 2 3 (by omega), pad_sh _ r.val (2 + r.val) 1 3 (by omega),
    pad_sh _ r.val (3 + r.val) 0 3 (by omega), sh_zero]
  unfold conv Conv.pre tap
  rw [add_comm _ (W (ix2 3 _) * _), ← add_assoc, ← add_assoc]

theorem head_eq (b : Fin 4) (r : Fin 2048) (h : Fin 8) (k : Fin 128) :
    val_main_v36 (F := Ideal) U W (ix4 b r h k) = silu (conv at' tap U W b (lane h k) r.val) := by
  have h0 := pre_eq U W b
  unfold val_main_v36 val_main_v35 val_main_call0_v5 val_main_call0_v4 val_main_call0_cst_0 val_main_call0_v3 val_main_call0_v2 val_main_call0_cst val_main_call0_v1 val_main_call0_v0
  generalize val_main_v34 (F := Ideal) U W = z at h0 ⊢
  pointwise
  simp only [h0]
  rfl

theorem res_eq (b : Fin 4) (r : Fin 2048) (h : Fin 8) (k : Fin 128) : val_main_v37 (F := Ideal) U W (ix2 (row b r) (lane h k))
    = silu (conv at' tap U W b (lane h k) r.val) := by
  rw [← head_eq]
  unfold val_main_v37
  generalize val_main_v36 (F := Ideal) U W = z
  unfold row lane
  pointwise

end Cert.ConvVFwdRefIdeal.Hand

namespace Cert.ConvVFwdIdeal.Hand

open Cert.ConvVFwdIdeal Cert.ConvVFwdIdeal.Gen Cert.Ffn Cert.Conv Cert.Gdn Idealize.ShloMosaic Idealize.ShloMosaic.TcCoe Idealize.SL.Sem
open Cert.ConvVFwdRefIdeal.Read Cert.ConvVFwdRefIdeal.Hand

/-! ### The body -/

section Body

variable (w0 w1 w2 w3 : Vec Ideal S1x128 .f32) (x : Vec Ideal S2048x128 .bf16)

/-- The convolved channel. -/
abbrev preAt (j : Fin 128) (r : ℕ) : EReal :=
  Conv.pre (w0 (ix2 0 j)) (w1 (ix2 0 j)) (w2 (ix2 0 j)) (w3 (ix2 0 j)) (col x j) r

theorem silu_eq (r : Fin 2048) (j : Fin 128) : k0_pay1 (F := Ideal) x w0 w1 w2 w3 (ix2 r j) = silu (preAt w0 w1 w2 w3 x j r.val) := by
  pointwise [k0_pay1]
  rw [select_sge r.val 3 r.isLt (by omega), select_sge r.val 2 r.isLt (by omega), select_sge r.val 1 r.isLt (by omega),
    mul_roll_sh _ x j r 3 (by omega), mul_roll_sh _ x j r 2 (by omega), mul_roll_sh _ x j r 1 (by omega), ← col_val x j r]
  rfl

end Body

theorem pre_congr {a0 a1 a2 a3 b0 b1 b2 b3 : EReal} {x y : ℕ → EReal} (r : ℕ) (h0 : a0 = b0) (h1 : a1 = b1) (h2 : a2 = b2) (h3 : a3 = b3)
    (h : x = y) : silu (Conv.pre a0 a1 a2 a3 x r) = silu (Conv.pre b0 b1 b2 b3 y r) := by rw [h0, h1, h2, h3, h]

variable (m : (ℓ : Loc nD τ sig) → Buf (Elt Ideal) ℓ) (c : Dev nD)

/-- The arguments as launched. -/
abbrev argU : (⟨2, ![8192, 6656]⟩ : Shape).Idx → EReal := m ((c.tc : Thread nD τ).loc main_arg0)
abbrev argW : (⟨2, ![4, 3072]⟩ : Shape).Idx → EReal := m ((c.tc : Thread nD τ).loc main_arg1)

/-! ### The blocks -/

theorem idx0 : ∀ t : Fin cfg0.N, win0_0.index t = ![t.val % 4, 16 + t.val / 4] := (by decide +kernel : ∀ t : Fin grid0.N, _)
theorem idx1 : ∀ t : Fin cfg0.N, win0_1.index t = ![0, 16 + t.val / 4] := (by decide +kernel : ∀ t : Fin grid0.N, _)
theorem idx2 : ∀ t : Fin cfg0.N, win0_2.index t = ![t.val % 4, t.val / 4] := (by decide +kernel : ∀ t : Fin grid0.N, _)

/-- The sequence and the head of a point. -/
def bat (t : Fin cfg0.N) : Fin 4 := ⟨t.val % 4, by omega⟩
def hd (t : Fin cfg0.N) : Fin 8 := ⟨t.val / 4, by have h : t.val < 32 := t.isLt; omega⟩

theorem blk0 (t : Fin cfg0.N) (j : Fin 128) : col (n := 2048) (iblk m c 0 t) j = chan (argU m c) (bat t) (at' (lane (hd t) j)) := by
  funext r
  unfold col chan
  by_cases h : r < 2048
  · rw [dif_pos h, dif_pos h]
    unfold row at' lane hd bat
    blk_ext [iblk, V, idx0 t]
  · rw [dif_neg h, dif_neg h]

theorem blk1 (t : Fin cfg0.N) (k : Fin 4) (j : Fin 128) : iblk m c 1 t (ix2 k j) = argW m c (ix2 k (tap (lane (hd t) j))) := by
  unfold tap lane hd
  blk_ext [iblk, V, idx1 t]

/-- A row of the taps of a point. -/
theorem tap_eq (t : Fin cfg0.N) (k : Fin 4) (j : Fin 128) {h} :
    View.ld (Val := Elt Ideal) (e' := .f32) (iblk m c 1 t) (Rect.unit (s := S4x128) ![k.val, 0] ![1, 128] h) (ix2 0 j)
      = argW m c (ix2 k (tap (lane (hd t) j))) :=
  (ld_row _ k.val k.isLt _ _ _).trans (blk1 m c t k j)

/-! ### The result -/

theorem out2 (t : Fin cfg0.N) (r : Fin 2048) (j : Fin 128) : out0_2 (iblk m c 0 t) (iblk m c 1 t) (ix2 r j)
    = silu (conv at' tap (argU m c) (argW m c) (bat t) (lane (hd t) j) r.val) := by
  unfold out0_2
  frame_out
  refine (silu_eq ..).trans ?_
  exact (pre_congr r.val (tap_eq m c t 0 j) (tap_eq m c t 1 j) (tap_eq m c t 2 j) (tap_eq m c t 3 j) (blk0 m c t j))

theorem final2 : (dats m 0 c).arrAt 2 cfg0.N = val_main_v37 (F := Ideal) (argU m c) (argW m c) := by
  refine (dats m 0 c).arrAt_eq_of_covers 2 _ (by decide +kernel) fun t hf y => ?_
  blk_simp
  obtain ⟨r, j, rfl⟩ : ∃ (r : Fin 2048) (j : Fin 128), y = ix2 r j := ⟨y 0, y 1, eq_ix2 y⟩
  have he : (win0_2.blk t).view.emb (ix2 r j) = ix2 (row (bat t) r) (lane (hd t) j) := by
    unfold row bat lane hd
    blk_ext [idx2 t]
  rw [after0_2, he, res_eq]
  exact out2 m c t r j

end Cert.ConvVFwdIdeal.Hand

/-! ### The claims -/

namespace Cert.Proof

open Idealize.ShloMosaic Idealize.ShloMosaic.TcCoe Idealize.SL.Sem Cert.ConvVFwdIdeal.Hand

theorem ConvVFwd.reference_frame : Cert.quiescent_ConvVFwdRefIdeal (hConvVFwdRefIdeal := Cert.ConvVFwdRefIdeal.Gen.facts) := fun m ρ _ =>
  (θ_run Cert.ConvVFwdRefIdeal.defs _ _).mono (fun r h => ⟨fun c => (h c).2, sem_eq_zero_of_no_sems (by decide) r.2⟩)
    (Cert.ConvVFwdRefIdeal.Value.run (F := Ideal) m ρ)

theorem ConvVFwd.value : Cert.algebraic_ConvVFwdIdeal_ConvVFwdRefIdeal (hConvVFwdIdeal := Cert.ConvVFwdIdeal.Gen.facts) (hConvVFwdRefIdeal := Cert.ConvVFwdRefIdeal.Gen.facts) := by
  intro m ρ m' ρ' _ hagree
  refine ⟨_, Cert.ConvVFwdIdeal.Value.run_blocks (F := Ideal) m ρ,
    (θ_run Cert.ConvVFwdRefIdeal.defs _ _).mono (fun _ h c => ⟨(h c).1.trans ?_, (h c).2⟩) (Cert.ConvVFwdRefIdeal.Value.run (F := Ideal) m' ρ')⟩
  exact (Cert.ConvVFwdRefIdeal.Read.val_main_v37_eq _ _).trans
    ((congr (congrArg (Cert.ConvVFwdRefIdeal.Read.val_main_v37 (F := Ideal)) (hagree c).1) (hagree c).2).trans (final2 m c).symm)

end Cert.Proof

end
-- ==== Proof.ConvKFwd.lean ====
/-
  The forward pass of the delta rule's convolution, the keys' third: point `t` of the grid takes sequence `t % 4` and head
  `t / 4`, and writes the head's block of the result.
-/
module

public import proofs.«01_k».proof.Defs
public import proofs.«01_k».proof.Proof.Gen.ConvKFwdIdeal.Value
public import proofs.«01_k».proof.Proof.Gen.ConvKFwdRefIdeal.Run
public import proofs.«01_k».proof.Proof.Gen.ConvKFwdRefIdeal.Read
public import proofs.«01_k».proof.Proof.GdnSpec
public import proofs.«01_k».proof.Proof.Act

@[expose] public section

set_option maxRecDepth 16384

noncomputable section

namespace Cert.ConvKFwdRefIdeal.Hand

open Cert.ConvKFwdRefIdeal Cert.ConvKFwdRefIdeal.Gen Cert.ConvKFwdRefIdeal.Read Cert.Ffn Cert.Gdn Idealize.ShloMosaic Idealize.ShloMosaic.TcCoe
open Cert.Conv (pad_sh)

/-- The column of a channel in the projection. -/
def at' (c : Fin 1024) : Fin 6656 := ⟨1024 + c.val, by have := c.isLt; omega⟩

/-- The column of a channel in the taps. -/
def tap (c : Fin 1024) : Fin 3072 := ⟨1024 + c.val, by have := c.isLt; omega⟩

variable (U : FVec Ideal S8192x6656 .bf16) (W : FVec Ideal S4x3072 .f32)

/-- A head at length one. -/
def unitAt (a : Fin 128 → EReal) (j : Fin 128) : EReal := a j * Ideal.rsqrt (sq a)

theorem v5_eq (b : Fin 4) (r : Fin 2051) (c : Fin 1024) :
    val_main_v5 (F := Ideal) U (ix3 b r c) = if r.val < 3 then 0 else chan U b (at' c) (r.val - 3) := by
  unfold at'
  pointwise [val_main_v5, val_main_v4, val_main_cst, val_main_v2, val_main_v1, val_main_v0]
  by_cases h : r.val < 3
  · rw [dif_pos h, if_pos h]
  · rw [dif_neg h, if_neg h, chan, dif_pos (by have := r.isLt; omega)]
    rfl

theorem pre_eq (b : Fin 4) (r : Fin 2048) (c : Fin 1024) : val_main_v34 (F := Ideal) U W (ix3 b r c) = conv at' tap U W b c r.val := by
  have h0 := v5_eq U b
  unfold val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_cst_0 val_main_v11 val_main_v10 val_main_v9 val_main_v8 val_main_v7 val_main_v6 val_main_v3
  generalize val_main_v5 (F := Ideal) U = z at h0 ⊢
  pointwise
  simp only [h0]
  rw [pad_sh _ r.val r.val 3 3 rfl, pad_sh _ r.val (1 + r.val) 2 3 (by omega), pad_sh _ r.val (2 + r.val) 1 3 (by omega),
    pad_sh _ r.val (3 + r.val) 0 3 (by omega), sh_zero]
  unfold conv Conv.pre tap
  rw [add_comm _ (W (ix2 3 _) * _), ← add_assoc, ← add_assoc]

theorem head_eq (b : Fin 4) (r : Fin 2048) (h : Fin 8) (k : Fin 128) :
    val_main_v36 (F := Ideal) U W (ix4 b r h k) = silu (conv at' tap U W b (lane h k) r.val) := by
  have h0 := pre_eq U W b
  unfold val_main_v36 val_main_v35 val_main_call0_v5 val_main_call0_v4 val_main_call0_cst_0 val_main_call0_v3 val_main_call0_v2 val_main_call0_cst val_main_call0_v1 val_main_call0_v0
  generalize val_main_v34 (F := Ideal) U W = z at h0 ⊢
  pointwise
  simp only [h0]
  rfl

theorem unit_eq (b : Fin 4) (r : Fin 2048) (h : Fin 8) (k : Fin 128) : val_main_v44 (F := Ideal) U W (ix4 b r h k)
    = unitAt (fun k => silu (conv at' tap U W b (lane h k) r.val)) k := by
  have h0 := head_eq U W b
  unfold val_main_v44 val_main_v43 val_main_v42 val_main_v41 val_main_v40 val_main_cst_2 val_main_v39 val_main_v38 val_main_cst_1 val_main_v37
  generalize val_main_v36 (F := Ideal) U W = z at h0 ⊢
  pointwise
  simp only [h0, Fin.sum_univ_one]
  rfl

theorem res_eq (b : Fin 4) (r : Fin 2048) (h : Fin 8) (k : Fin 128) : val_main_v45 (F := Ideal) U W (ix2 (row b r) (lane h k))
    = unitAt (fun k => silu (conv at' tap U W b (lane h k) r.val)) k := by
  rw [← unit_eq]
  unfold val_main_v45
  generalize val_main_v44 (F := Ideal) U W = z
  unfold row lane
  pointwise

end Cert.ConvKFwdRefIdeal.Hand

namespace Cert.ConvKFwdIdeal.Hand

open Cert.ConvKFwdIdeal Cert.ConvKFwdIdeal.Gen Cert.Ffn Cert.Conv Cert.Gdn Idealize.ShloMosaic Idealize.ShloMosaic.TcCoe Idealize.SL.Sem
open Cert.ConvKFwdRefIdeal.Read Cert.ConvKFwdRefIdeal.Hand

/-! ### The body -/

section Body

variable (w0 w1 w2 w3 : Vec Ideal S1x128 .f32) (x : Vec Ideal S2048x128 .bf16)

/-- The convolved channel. -/
abbrev preAt (j : Fin 128) (r : ℕ) : EReal :=
  Conv.pre (w0 (ix2 0 j)) (w1 (ix2 0 j)) (w2 (ix2 0 j)) (w3 (ix2 0 j)) (col x j) r

theorem silu_eq (r : Fin 2048) (j : Fin 128) : k0_pay2 (F := Ideal) x w0 w1 w2 w3 (ix2 r j) = silu (preAt w0 w1 w2 w3 x j r.val) := by
  pointwise [k0_pay2]
  rw [select_sge r.val 3 r.isLt (by omega), select_sge r.val 2 r.isLt (by omega), select_sge r.val 1 r.isLt (by omega),
    mul_roll_sh _ x j r 3 (by omega), mul_roll_sh _ x j r 2 (by omega), mul_roll_sh _ x j r 1 (by omega), ← col_val x j r]
  rfl

theorem pay1_eq (r : Fin 2048) (j : Fin 128) : k0_pay1 (F := Ideal) (k0_pay2 x w0 w1 w2 w3) (k0_pay3 x w0 w1 w2 w3) (ix2 r j)
    = unitAt (fun k => silu (preAt w0 w1 w2 w3 x k r.val)) j := by
  have h2 := silu_eq w0 w1 w2 w3 x r
  unfold k0_pay1 k0_pay3
  generalize k0_pay2 (F := Ideal) x w0 w1 w2 w3 = z at h2 ⊢
  pointwise
  simp only [h2]
  rfl

end Body

theorem pre_congr {a0 a1 a2 a3 b0 b1 b2 b3 : EReal} {x y : ℕ → EReal} (r : ℕ) (h0 : a0 = b0) (h1 : a1 = b1) (h2 : a2 = b2) (h3 : a3 = b3)
    (h : x = y) : silu (Conv.pre a0 a1 a2 a3 x r) = silu (Conv.pre b0 b1 b2 b3 y r) := by rw [h0, h1, h2, h3, h]

variable (m : (ℓ : Loc nD τ sig) → Buf (Elt Ideal) ℓ) (c : Dev nD)

/-- The arguments as launched. -/
abbrev argU : (⟨2, ![8192, 6656]⟩ : Shape).Idx → EReal := m ((c.tc : Thread nD τ).loc main_arg0)
abbrev argW : (⟨2, ![4, 3072]⟩ : Shape).Idx → EReal := m ((c.tc : Thread nD τ).loc main_arg1)

/-! ### The blocks -/

theorem idx0 : ∀ t : Fin cfg0.N, win0_0.index t = ![t.val % 4, 8 + t.val / 4] := (by decide +kernel : ∀ t : Fin grid0.N, _)
theorem idx1 : ∀ t : Fin cfg0.N, win0_1.index t = ![0, 8 + t.val / 4] := (by decide +kernel : ∀ t : Fin grid0.N, _)
theorem idx2 : ∀ t : Fin cfg0.N, win0_2.index t = ![t.val % 4, t.val / 4] := (by decide +kernel : ∀ t : Fin grid0.N, _)

/-- The sequence and the head of a point. -/
def bat (t : Fin cfg0.N) : Fin 4 := ⟨t.val % 4, by omega⟩
def hd (t : Fin cfg0.N) : Fin 8 := ⟨t.val / 4, by have h : t.val < 32 := t.isLt; omega⟩

theorem blk0 (t : Fin cfg0.N) (j : Fin 128) : col (n := 2048) (iblk m c 0 t) j = chan (argU m c) (bat t) (at' (lane (hd t) j)) := by
  funext r
  unfold col chan
  by_cases h : r < 2048
  · rw [dif_pos h, dif_pos h]
    unfold row at' lane hd bat
    blk_ext [iblk, V, idx0 t]
  · rw [dif_neg h, dif_neg h]

theorem blk1 (t : Fin cfg0.N) (k : Fin 4) (j : Fin 128) : iblk m c 1 t (ix2 k j) = argW m c (ix2 k (tap (lane (hd t) j))) := by
  unfold tap lane hd
  blk_ext [iblk, V, idx1 t]

/-- A row of the taps of a point. -/
theorem tap_eq (t : Fin cfg0.N) (k : Fin 4) (j : Fin 128) {h} :
    View.ld (Val := Elt Ideal) (e' := .f32) (iblk m c 1 t) (Rect.unit (s := S4x128) ![k.val, 0] ![1, 128] h) (ix2 0 j)
      = argW m c (ix2 k (tap (lane (hd t) j))) :=
  (ld_row _ k.val k.isLt _ _ _).trans (blk1 m c t k j)

/-! ### The result -/

theorem out2 (t : Fin cfg0.N) (r : Fin 2048) (j : Fin 128) : out0_2 (iblk m c 0 t) (iblk m c 1 t) (ix2 r j)
    = unitAt (fun k => silu (conv at' tap (argU m c) (argW m c) (bat t) (lane (hd t) k) r.val)) j := by
  unfold out0_2
  frame_out
  refine (pay1_eq ..).trans ?_
  exact congrFun (congrArg unitAt (funext fun j => (pre_congr r.val (tap_eq m c t 0 j) (tap_eq m c t 1 j) (tap_eq m c t 2 j) (tap_eq m c t 3 j) (blk0 m c t j)))) j

theorem final2 : (dats m 0 c).arrAt 2 cfg0.N = val_main_v45 (F := Ideal) (argU m c) (argW m c) := by
  refine (dats m 0 c).arrAt_eq_of_covers 2 _ (by decide +kernel) fun t hf y => ?_
  blk_simp
  obtain ⟨r, j, rfl⟩ : ∃ (r : Fin 2048) (j : Fin 128), y = ix2 r j := ⟨y 0, y 1, eq_ix2 y⟩
  have he : (win0_2.blk t).view.emb (ix2 r j) = ix2 (row (bat t) r) (lane (hd t) j) := by
    unfold row bat lane hd
    blk_ext [idx2 t]
  rw [after0_2, he, res_eq]
  exact out2 m c t r j

end Cert.ConvKFwdIdeal.Hand

/-! ### The claims -/

namespace Cert.Proof

open Idealize.ShloMosaic Idealize.ShloMosaic.TcCoe Idealize.SL.Sem Cert.ConvKFwdIdeal.Hand

theorem ConvKFwd.reference_frame : Cert.quiescent_ConvKFwdRefIdeal (hConvKFwdRefIdeal := Cert.ConvKFwdRefIdeal.Gen.facts) := fun m ρ _ =>
  (θ_run Cert.ConvKFwdRefIdeal.defs _ _).mono (fun r h => ⟨fun c => (h c).2, sem_eq_zero_of_no_sems (by decide) r.2⟩)
    (Cert.ConvKFwdRefIdeal.Value.run (F := Ideal) m ρ)

theorem ConvKFwd.value : Cert.algebraic_ConvKFwdIdeal_ConvKFwdRefIdeal (hConvKFwdIdeal := Cert.ConvKFwdIdeal.Gen.facts) (hConvKFwdRefIdeal := Cert.ConvKFwdRefIdeal.Gen.facts) := by
  intro m ρ m' ρ' _ hagree
  refine ⟨_, Cert.ConvKFwdIdeal.Value.run_blocks (F := Ideal) m ρ,
    (θ_run Cert.ConvKFwdRefIdeal.defs _ _).mono (fun _ h c => ⟨(h c).1.trans ?_, (h c).2⟩) (Cert.ConvKFwdRefIdeal.Value.run (F := Ideal) m' ρ')⟩
  exact (Cert.ConvKFwdRefIdeal.Read.val_main_v45_eq _ _).trans
    ((congr (congrArg (Cert.ConvKFwdRefIdeal.Read.val_main_v45 (F := Ideal)) (hagree c).1) (hagree c).2).trans (final2 m c).symm)

end Cert.Proof

end
-- ==== Proof.ConvQFwd.lean ====
/-
  The forward pass of the delta rule's convolution, the queries' third: point `t` of the grid takes sequence `t % 4` and head
  `t / 4`, and writes the head's block of the result.
-/
module

public import proofs.«01_k».proof.Defs
public import proofs.«01_k».proof.Proof.Gen.ConvQFwdIdeal.Value
public import proofs.«01_k».proof.Proof.Gen.ConvQFwdRefIdeal.Run
public import proofs.«01_k».proof.Proof.Gen.ConvQFwdRefIdeal.Read
public import proofs.«01_k».proof.Proof.GdnSpec
public import proofs.«01_k».proof.Proof.Act

@[expose] public section

set_option maxRecDepth 16384

noncomputable section

namespace Cert.ConvQFwdRefIdeal.Hand

open Cert.ConvQFwdRefIdeal Cert.ConvQFwdRefIdeal.Gen Cert.ConvQFwdRefIdeal.Read Cert.Ffn Cert.Gdn Idealize.ShloMosaic Idealize.ShloMosaic.TcCoe
open Cert.Conv (pad_sh)

/-- The column of a channel in the projection. -/
def at' (c : Fin 1024) : Fin 6656 := ⟨c.val, by have := c.isLt; omega⟩

/-- The column of a channel in the taps. -/
def tap (c : Fin 1024) : Fin 3072 := ⟨c.val, by have := c.isLt; omega⟩

variable (U : FVec Ideal S8192x6656 .bf16) (W : FVec Ideal S4x3072 .f32)

/-- A head at length one, scaled. -/
def unitAt (a : Fin 128 → EReal) (j : Fin 128) : EReal := a j * Ideal.rsqrt (sq a) * scale

theorem v5_eq (b : Fin 4) (r : Fin 2051) (c : Fin 1024) :
    val_main_v5 (F := Ideal) U (ix3 b r c) = if r.val < 3 then 0 else chan U b (at' c) (r.val - 3) := by
  unfold at'
  pointwise [val_main_v5, val_main_v4, val_main_cst, val_main_v2, val_main_v1, val_main_v0]
  by_cases h : r.val < 3
  · rw [dif_pos h, if_pos h]
  · rw [dif_neg h, if_neg h, chan, dif_pos (by have := r.isLt; omega)]
    rfl

theorem pre_eq (b : Fin 4) (r : Fin 2048) (c : Fin 1024) : val_main_v34 (F := Ideal) U W (ix3 b r c) = conv at' tap U W b c r.val := by
  have h0 := v5_eq U b
  unfold val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_cst_0 val_main_v11 val_main_v10 val_main_v9 val_main_v8 val_main_v7 val_main_v6 val_main_v3
  generalize val_main_v5 (F := Ideal) U = z at h0 ⊢
  pointwise
  simp only [h0]
  rw [pad_sh _ r.val r.val 3 3 rfl, pad_sh _ r.val (1 + r.val) 2 3 (by omega), pad_sh _ r.val (2 + r.val) 1 3 (by omega),
    pad_sh _ r.val (3 + r.val) 0 3 (by omega), sh_zero]
  unfold conv Conv.pre tap
  rw [add_comm _ (W (ix2 3 _) * _), ← add_assoc, ← add_assoc]

theorem head_eq (b : Fin 4) (r : Fin 2048) (h : Fin 8) (k : Fin 128) :
    val_main_v36 (F := Ideal) U W (ix4 b r h k) = silu (conv at' tap U W b (lane h k) r.val) := by
  have h0 := pre_eq U W b
  unfold val_main_v36 val_main_v35 val_main_call0_v5 val_main_call0_v4 val_main_call0_cst_0 val_main_call0_v3 val_main_call0_v2 val_main_call0_cst val_main_call0_v1 val_main_call0_v0
  generalize val_main_v34 (F := Ideal) U W = z at h0 ⊢
  pointwise
  simp only [h0]
  rfl

theorem unit_eq (b : Fin 4) (r : Fin 2048) (h : Fin 8) (k : Fin 128) : val_main_v46 (F := Ideal) U W (ix4 b r h k)
    = unitAt (fun k => silu (conv at' tap U W b (lane h k) r.val)) k := by
  have h0 := head_eq U W b
  unfold val_main_v46 val_main_v45 val_main_cst_3 val_main_v44 val_main_v43 val_main_v42 val_main_v41 val_main_v40 val_main_cst_2 val_main_v39 val_main_v38 val_main_cst_1 val_main_v37
  generalize val_main_v36 (F := Ideal) U W = z at h0 ⊢
  pointwise
  simp only [h0, Fin.sum_univ_one]
  rfl

theorem res_eq (b : Fin 4) (r : Fin 2048) (h : Fin 8) (k : Fin 128) : val_main_v47 (F := Ideal) U W (ix2 (row b r) (lane h k))
    = unitAt (fun k => silu (conv at' tap U W b (lane h k) r.val)) k := by
  rw [← unit_eq]
  unfold val_main_v47
  generalize val_main_v46 (F := Ideal) U W = z
  unfold row lane
  pointwise

end Cert.ConvQFwdRefIdeal.Hand

namespace Cert.ConvQFwdIdeal.Hand

open Cert.ConvQFwdIdeal Cert.ConvQFwdIdeal.Gen Cert.Ffn Cert.Conv Cert.Gdn Idealize.ShloMosaic Idealize.ShloMosaic.TcCoe Idealize.SL.Sem
open Cert.ConvQFwdRefIdeal.Read Cert.ConvQFwdRefIdeal.Hand

/-! ### The body -/

section Body

variable (w0 w1 w2 w3 : Vec Ideal S1x128 .f32) (x : Vec Ideal S2048x128 .bf16)

/-- The convolved channel. -/
abbrev preAt (j : Fin 128) (r : ℕ) : EReal :=
  Conv.pre (w0 (ix2 0 j)) (w1 (ix2 0 j)) (w2 (ix2 0 j)) (w3 (ix2 0 j)) (col x j) r

theorem silu_eq (r : Fin 2048) (j : Fin 128) : k0_pay2 (F := Ideal) x w0 w1 w2 w3 (ix2 r j) = silu (preAt w0 w1 w2 w3 x j r.val) := by
  pointwise [k0_pay2]
  rw [select_sge r.val 3 r.isLt (by omega), select_sge r.val 2 r.isLt (by omega), select_sge r.val 1 r.isLt (by omega),
    mul_roll_sh _ x j r 3 (by omega), mul_roll_sh _ x j r 2 (by omega), mul_roll_sh _ x j r 1 (by omega), ← col_val x j r]
  rfl

theorem pay1_eq (r : Fin 2048) (j : Fin 128) : k0_pay1 (F := Ideal) (k0_pay2 x w0 w1 w2 w3) (k0_pay3 x w0 w1 w2 w3) (ix2 r j)
    = unitAt (fun k => silu (preAt w0 w1 w2 w3 x k r.val)) j := by
  have h2 := silu_eq w0 w1 w2 w3 x r
  unfold k0_pay1 k0_pay3
  generalize k0_pay2 (F := Ideal) x w0 w1 w2 w3 = z at h2 ⊢
  pointwise
  simp only [h2]
  rfl

end Body

theorem pre_congr {a0 a1 a2 a3 b0 b1 b2 b3 : EReal} {x y : ℕ → EReal} (r : ℕ) (h0 : a0 = b0) (h1 : a1 = b1) (h2 : a2 = b2) (h3 : a3 = b3)
    (h : x = y) : silu (Conv.pre a0 a1 a2 a3 x r) = silu (Conv.pre b0 b1 b2 b3 y r) := by rw [h0, h1, h2, h3, h]

variable (m : (ℓ : Loc nD τ sig) → Buf (Elt Ideal) ℓ) (c : Dev nD)

/-- The arguments as launched. -/
abbrev argU : (⟨2, ![8192, 6656]⟩ : Shape).Idx → EReal := m ((c.tc : Thread nD τ).loc main_arg0)
abbrev argW : (⟨2, ![4, 3072]⟩ : Shape).Idx → EReal := m ((c.tc : Thread nD τ).loc main_arg1)

/-! ### The blocks -/

theorem idx0 : ∀ t : Fin cfg0.N, win0_0.index t = ![t.val % 4, t.val / 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![t.val % 4, t.val / 4] := (by decide +kernel : ∀ t : Fin grid0.N, _)

/-- The sequence and the head of a point. -/
def bat (t : Fin cfg0.N) : Fin 4 := ⟨t.val % 4, by omega⟩
def hd (t : Fin cfg0.N) : Fin 8 := ⟨t.val / 4, by have h : t.val < 32 := t.isLt; omega⟩

theorem blk0 (t : Fin cfg0.N) (j : Fin 128) : col (n := 2048) (iblk m c 0 t) j = chan (argU m c) (bat t) (at' (lane (hd t) j)) := by
  funext r
  unfold col chan
  by_cases h : r < 2048
  · rw [dif_pos h, dif_pos h]
    unfold row at' lane hd bat
    blk_ext [iblk, V, idx0 t]
  · rw [dif_neg h, dif_neg h]

theorem blk1 (t : Fin cfg0.N) (k : Fin 4) (j : Fin 128) : iblk m c 1 t (ix2 k j) = argW m c (ix2 k (tap (lane (hd t) j))) := by
  unfold tap lane hd
  blk_ext [iblk, V, idx1 t]

/-- A row of the taps of a point. -/
theorem tap_eq (t : Fin cfg0.N) (k : Fin 4) (j : Fin 128) {h} :
    View.ld (Val := Elt Ideal) (e' := .f32) (iblk m c 1 t) (Rect.unit (s := S4x128) ![k.val, 0] ![1, 128] h) (ix2 0 j)
      = argW m c (ix2 k (tap (lane (hd t) j))) :=
  (ld_row _ k.val k.isLt _ _ _).trans (blk1 m c t k j)

/-! ### The result -/

theorem out2 (t : Fin cfg0.N) (r : Fin 2048) (j : Fin 128) : out0_2 (iblk m c 0 t) (iblk m c 1 t) (ix2 r j)
    = unitAt (fun k => silu (conv at' tap (argU m c) (argW m c) (bat t) (lane (hd t) k) r.val)) j := by
  unfold out0_2
  frame_out
  refine (pay1_eq ..).trans ?_
  exact congrFun (congrArg unitAt (funext fun j => (pre_congr r.val (tap_eq m c t 0 j) (tap_eq m c t 1 j) (tap_eq m c t 2 j) (tap_eq m c t 3 j) (blk0 m c t j)))) j

theorem final2 : (dats m 0 c).arrAt 2 cfg0.N = val_main_v47 (F := Ideal) (argU m c) (argW m c) := by
  refine (dats m 0 c).arrAt_eq_of_covers 2 _ (by decide +kernel) fun t hf y => ?_
  blk_simp
  obtain ⟨r, j, rfl⟩ : ∃ (r : Fin 2048) (j : Fin 128), y = ix2 r j := ⟨y 0, y 1, eq_ix2 y⟩
  have he : (win0_2.blk t).view.emb (ix2 r j) = ix2 (row (bat t) r) (lane (hd t) j) := by
    unfold row bat lane hd
    blk_ext [idx2 t]
  rw [after0_2, he, res_eq]
  exact out2 m c t r j

end Cert.ConvQFwdIdeal.Hand

/-! ### The claims -/

namespace Cert.Proof

open Idealize.ShloMosaic Idealize.ShloMosaic.TcCoe Idealize.SL.Sem Cert.ConvQFwdIdeal.Hand

theorem ConvQFwd.reference_frame : Cert.quiescent_ConvQFwdRefIdeal (hConvQFwdRefIdeal := Cert.ConvQFwdRefIdeal.Gen.facts) := fun m ρ _ =>
  (θ_run Cert.ConvQFwdRefIdeal.defs _ _).mono (fun r h => ⟨fun c => (h c).2, sem_eq_zero_of_no_sems (by decide) r.2⟩)
    (Cert.ConvQFwdRefIdeal.Value.run (F := Ideal) m ρ)

theorem ConvQFwd.value : Cert.algebraic_ConvQFwdIdeal_ConvQFwdRefIdeal (hConvQFwdIdeal := Cert.ConvQFwdIdeal.Gen.facts) (hConvQFwdRefIdeal := Cert.ConvQFwdRefIdeal.Gen.facts) := by
  intro m ρ m' ρ' _ hagree
  refine ⟨_, Cert.ConvQFwdIdeal.Value.run_blocks (F := Ideal) m ρ,
    (θ_run Cert.ConvQFwdRefIdeal.defs _ _).mono (fun _ h c => ⟨(h c).1.trans ?_, (h c).2⟩) (Cert.ConvQFwdRefIdeal.Value.run (F := Ideal) m' ρ')⟩
  exact (Cert.ConvQFwdRefIdeal.Read.val_main_v47_eq _ _).trans
    ((congr (congrArg (Cert.ConvQFwdRefIdeal.Read.val_main_v47 (F := Ideal)) (hagree c).1) (hagree c).2).trans (final2 m c).symm)

end Cert.Proof

end
-- ==== Proof.SsdConvFwd.lean ====
/-
  The forward pass of the second mixer's convolution: point `t` of the grid takes sequence `t % 4` and the block of 128
  channels `t / 4`, and writes that block of the result.
-/
module

public import proofs.«01_k».proof.Defs
public import proofs.«01_k».proof.Proof.Gen.SsdConvFwdIdeal.Value
public import proofs.«01_k».proof.Proof.Gen.SsdConvFwdRefIdeal.Run
public import proofs.«01_k».proof.Proof.Gen.SsdConvFwdRefIdeal.Read
public import proofs.«01_k».proof.Proof.GdnSpec
public import proofs.«01_k».proof.Proof.Act

@[expose] public section

set_option maxRecDepth 16384

noncomputable section

namespace Cert.SsdConvFwdRefIdeal.Hand

open Cert.SsdConvFwdRefIdeal Cert.SsdConvFwdRefIdeal.Gen Cert.SsdConvFwdRefIdeal.Read Cert.Ffn Idealize.ShloMosaic Idealize.ShloMosaic.TcCoe
open Cert.Conv (pad_sh)
open Cert.Gdn (silu)

/-- The column of a convolved channel in the projection. -/
def at' (c : Fin 1536) : Fin 6656 := ⟨5120 + c.val, by have := c.isLt; omega⟩

variable (U : FVec Ideal S8192x6656 .bf16) (W : FVec Ideal S4x1536 .f32) (B : FVec Ideal S1x1536 .f32)

/-- The convolved channel `c` of sequence `b`, with its bias. -/
def act (b : Fin 4) (c : Fin 1536) (r : ℕ) : EReal :=
  Conv.pre (W (ix2 0 c)) (W (ix2 1 c)) (W (ix2 2 c)) (W (ix2 3 c)) (chan U b (at' c)) r + B (ix2 0 c)

theorem v4_eq (b : Fin 4) (r : Fin 2051) (c : Fin 1536) :
    val_main_v4 (F := Ideal) U (ix3 b r c) = if r.val < 3 then 0 else chan U b (at' c) (r.val - 3) := by
  unfold at'
  pointwise [val_main_v4, val_main_v3, val_main_cst, val_main_v2, val_main_v1, val_main_v0]
  by_cases h : r.val < 3
  · rw [dif_pos h, if_pos h]
  · rw [dif_neg h, if_neg h, chan, dif_pos (by have := r.isLt; omega)]
    rfl

theorem v36_eq (b : Fin 4) (r : Fin 2048) (c : Fin 1536) : val_main_v36 (F := Ideal) U W B (ix3 b r c) = act U W B b c r.val := by
  have h0 := v4_eq U b
  unfold val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_cst_0 val_main_v10 val_main_v9 val_main_v8 val_main_v7 val_main_v6 val_main_v5
  generalize val_main_v4 (F := Ideal) U = z at h0 ⊢
  pointwise
  simp only [h0]
  rw [pad_sh _ r.val r.val 3 3 rfl, pad_sh _ r.val (1 + r.val) 2 3 (by omega), pad_sh _ r.val (2 + r.val) 1 3 (by omega),
    pad_sh _ r.val (3 + r.val) 0 3 (by omega), sh_zero]
  unfold act Conv.pre
  rw [add_comm _ (W (ix2 3 c) * _), ← add_assoc, ← add_assoc]

theorem v37_eq (b : Fin 4) (r : Fin 2048) (c : Fin 1536) : val_main_v37 (F := Ideal) U W B (ix3 b r c) = silu (act U W B b c r.val) := by
  rw [← v36_eq]
  unfold val_main_v37 val_main_call0_v5 val_main_call0_v4 val_main_call0_cst_0 val_main_call0_v3 val_main_call0_v2 val_main_call0_cst val_main_call0_v1 val_main_call0_v0
  generalize val_main_v36 (F := Ideal) U W B = z
  pointwise
  rfl

theorem v38_eq (b : Fin 4) (r : Fin 2048) (c : Fin 1536) : val_main_v38 (F := Ideal) U W B (ix2 (row b r) c) = silu (act U W B b c r.val) := by
  rw [← v37_eq]
  unfold val_main_v38
  generalize val_main_v37 (F := Ideal) U W B = z
  unfold row
  pointwise

end Cert.SsdConvFwdRefIdeal.Hand

namespace Cert.SsdConvFwdIdeal.Hand

open Cert.SsdConvFwdIdeal Cert.SsdConvFwdIdeal.Gen Cert.Ffn Cert.Conv Idealize.ShloMosaic Idealize.ShloMosaic.TcCoe Idealize.SL.Sem
open Cert.SsdConvFwdRefIdeal.Read Cert.SsdConvFwdRefIdeal.Hand
open Cert.Gdn (silu)

/-! ### The body -/

section Body

variable (w0 w1 w2 w3 b : Vec Ideal S1x128 .f32) (x : Vec Ideal S2048x128 .bf16)

/-- The convolved channel. -/
abbrev preAt (j : Fin 128) (r : ℕ) : EReal :=
  Conv.pre (w0 (ix2 0 j)) (w1 (ix2 0 j)) (w2 (ix2 0 j)) (w3 (ix2 0 j)) (col x j) r

theorem pay2_eq (r : Fin 2048) (j : Fin 128) : k0_pay2 (F := Ideal) x w0 w1 w2 w3 (ix2 r j) = preAt w0 w1 w2 w3 x j r.val := by
  pointwise [k0_pay2]
  rw [select_sge r.val 3 r.isLt (by omega), select_sge r.val 2 r.isLt (by omega), select_sge r.val 1 r.isLt (by omega),
    mul_roll_sh _ x j r 3 (by omega), mul_roll_sh _ x j r 2 (by omega), mul_roll_sh _ x j r 1 (by omega), ← col_val x j r]
  rfl

theorem pay1_eq (r : Fin 2048) (j : Fin 128) : k0_pay1 (F := Ideal) (k0_pay2 x w0 w1 w2 w3) (k0_pay3 b) (ix2 r j)
    = silu (preAt w0 w1 w2 w3 x j r.val + b (ix2 0 j)) := by
  rw [← pay2_eq]
  unfold k0_pay1
  generalize k0_pay2 (F := Ideal) x w0 w1 w2 w3 = z
  pointwise [k0_pay3]
  rfl

end Body

theorem pre_congr {a0 a1 a2 a3 a b0 b1 b2 b3 b : EReal} {x y : ℕ → EReal} (r : ℕ) (h0 : a0 = b0) (h1 : a1 = b1) (h2 : a2 = b2) (h3 : a3 = b3)
    (h : x = y) (hb : a = b) : silu (Conv.pre a0 a1 a2 a3 x r + a) = silu (Conv.pre b0 b1 b2 b3 y r + b) := by
  rw [h0, h1, h2, h3, h, hb]

variable (m : (ℓ : Loc nD τ sig) → Buf (Elt Ideal) ℓ) (c : Dev nD)

/-- The arguments as launched. -/
abbrev argU : (⟨2, ![8192, 6656]⟩ : Shape).Idx → EReal := m ((c.tc : Thread nD τ).loc main_arg0)
abbrev argW : (⟨2, ![4, 1536]⟩ : Shape).Idx → EReal := m ((c.tc : Thread nD τ).loc main_arg1)
abbrev argB : (⟨2, ![1, 1536]⟩ : Shape).Idx → EReal := m ((c.tc : Thread nD τ).loc main_arg2)

/-! ### The blocks -/

theorem idx0 : ∀ t : Fin cfg0.N, win0_0.index t = ![t.val % 4, 40 + t.val / 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![0, t.val / 4] := (by decide +kernel : ∀ t : Fin grid0.N, _)
theorem idx3 : ∀ t : Fin cfg0.N, win0_3.index t = ![t.val % 4, t.val / 4] := (by decide +kernel : ∀ t : Fin grid0.N, _)

/-- The sequence of a point. -/
def bat (t : Fin cfg0.N) : Fin 4 := ⟨t.val % 4, by omega⟩

/-- Channel `j` of a point's block. -/
def ch (t : Fin cfg0.N) (j : Fin 128) : Fin 1536 := ⟨t.val / 4 * 128 + j.val, by have h : t.val < 48 := t.isLt; have := j.isLt; omega⟩

theorem blk0 (t : Fin cfg0.N) (j : Fin 128) : col (n := 2048) (iblk m c 0 t) j = chan (argU m c) (bat t) (at' (ch t j)) := by
  funext r
  unfold col chan
  by_cases h : r < 2048
  · rw [dif_pos h, dif_pos h]
    unfold row at' ch bat
    blk_ext [iblk, V, idx0 t]
  · rw [dif_neg h, dif_neg h]

theorem blk1 (t : Fin cfg0.N) (k : Fin 4) (j : Fin 128) : iblk m c 1 t (ix2 k j) = argW m c (ix2 k (ch t j)) := by
  unfold ch
  blk_ext [iblk, V, idx1 t]

theorem blk2 (t : Fin cfg0.N) (q : Fin 1) (j : Fin 128) : iblk m c 2 t (ix2 q j) = argB m c (ix2 0 (ch t j)) := by
  unfold ch
  blk_ext [iblk, V, idx2 t]

/-- A row of the taps of a point. -/
theorem tap_eq (t : Fin cfg0.N) (k : Fin 4) (j : Fin 128) {h} :
    View.ld (Val := Elt Ideal) (e' := .f32) (iblk m c 1 t) (Rect.unit (s := S4x128) ![k.val, 0] ![1, 128] h) (ix2 0 j)
      = argW m c (ix2 k (ch t j)) :=
  (ld_row _ k.val k.isLt _ _ _).trans (blk1 m c t k j)

/-! ### The result -/

theorem out3 (t : Fin cfg0.N) (r : Fin 2048) (j : Fin 128) : out0_3 (iblk m c 0 t) (iblk m c 1 t) (iblk m c 2 t) (ix2 r j)
    = silu (act (argU m c) (argW m c) (argB m c) (bat t) (ch t j) r.val) := by
  unfold out0_3
  frame_out
  refine (pay1_eq ..).trans ?_
  exact pre_congr r.val (tap_eq m c t 0 j) (tap_eq m c t 1 j) (tap_eq m c t 2 j) (tap_eq m c t 3 j) (blk0 m c t j) (blk2 m c t 0 j)

theorem final3 : (dats m 0 c).arrAt 3 cfg0.N = val_main_v38 (F := Ideal) (argU m c) (argW m c) (argB m c) := by
  refine (dats m 0 c).arrAt_eq_of_covers 3 _ (by decide +kernel) fun t hf y => ?_
  blk_simp
  obtain ⟨r, j, rfl⟩ : ∃ (r : Fin 2048) (j : Fin 128), y = ix2 r j := ⟨y 0, y 1, eq_ix2 y⟩
  have he : (win0_3.blk t).view.emb (ix2 r j) = ix2 (row (bat t) r) (ch t j) := by
    unfold row bat ch
    blk_ext [idx3 t]
  rw [after0_3, he, v38_eq]
  exact out3 m c t r j

end Cert.SsdConvFwdIdeal.Hand

/-! ### The claims -/

namespace Cert.Proof

open Idealize.ShloMosaic Idealize.ShloMosaic.TcCoe Idealize.SL.Sem Cert.SsdConvFwdIdeal.Hand

theorem SsdConvFwd.reference_frame : Cert.quiescent_SsdConvFwdRefIdeal (hSsdConvFwdRefIdeal := Cert.SsdConvFwdRefIdeal.Gen.facts) := fun m ρ _ =>
  (θ_run Cert.SsdConvFwdRefIdeal.defs _ _).mono (fun r h => ⟨fun c => (h c).2, sem_eq_zero_of_no_sems (by decide) r.2⟩)
    (Cert.SsdConvFwdRefIdeal.Value.run (F := Ideal) m ρ)

theorem SsdConvFwd.value : Cert.algebraic_SsdConvFwdIdeal_SsdConvFwdRefIdeal (hSsdConvFwdIdeal := Cert.SsdConvFwdIdeal.Gen.facts) (hSsdConvFwdRefIdeal := Cert.SsdConvFwdRefIdeal.Gen.facts) := by
  intro m ρ m' ρ' _ hagree
  refine ⟨_, Cert.SsdConvFwdIdeal.Value.run_blocks (F := Ideal) m ρ,
    (θ_run Cert.SsdConvFwdRefIdeal.defs _ _).mono (fun _ h c => ⟨(h c).1.trans ?_, (h c).2⟩) (Cert.SsdConvFwdRefIdeal.Value.run (F := Ideal) m' ρ')⟩
  refine (Cert.SsdConvFwdRefIdeal.Read.val_main_v38_eq _ _).trans (Eq.trans ?_ (final3 m c).symm)
  exact congr (congr (congrArg (Cert.SsdConvFwdRefIdeal.Read.val_main_v38 (F := Ideal)) (hagree c).1) (hagree c).2.1) (hagree c).2.2

end Cert.Proof

end
-- ==== Proof.Res.lean ====
/-
  The norm between the halves, forwards: point `t` of the grid takes the 512 rows from `512 t`, adds the mixers' normed
  rows to the residual, and norms the sum for the second half.
-/
module

public import proofs.«01_k».proof.Defs
public import proofs.«01_k».proof.Proof.Gen.ResIdeal.Value
public import proofs.«01_k».proof.Proof.Gen.ResRefIdeal.Run
public import proofs.«01_k».proof.Proof.Gen.ResRefIdeal.Read
public import proofs.«01_k».proof.Proof.RmsSpec

@[expose] public section

set_option maxRecDepth 16384

noncomputable section

namespace Cert.ResRefIdeal.Hand

open Cert.ResRefIdeal Cert.ResRefIdeal.Read Cert.Rms Idealize.ShloMosaic Idealize.ShloMosaic.TcCoe Idealize.SL.Sem

/-- The residual row `x` and the normed row `y` under the weight `w`. -/
def res (x y w : Fin 1024 → EReal) (j : Fin 1024) : EReal := x j + unit y j * w j

variable (X Y : FVec Ideal S8192x1024 .f32) (W V : FVec Ideal S1x1024 .f32)

theorem v6_eq (r : Fin 8192) (q : Fin 1) : val_main_v6 (F := Ideal) Y (ix2 r q) = ms (line Y r) := by
  pointwise [val_main_v6, val_main_v5, val_main_cst_1, val_main_v4, val_main_v3, val_main_cst_0, val_main_v2, val_main_v1, val_main_cst, val_main_v0]
  rfl

theorem v7_eq (r : Fin 8192) (q : Fin 1) : val_main_v7 (F := Ideal) Y (ix2 r q) = Ideal.rsqrt (ms (line Y r)) := by
  rw [← v6_eq Y r q]
  unfold val_main_v7
  generalize val_main_v6 (F := Ideal) Y = z
  pointwise

theorem v12_eq (r : Fin 8192) (j : Fin 1024) : val_main_v12 (F := Ideal) X Y W (ix2 r j) = res (line X r) (line Y r) (line W 0) j := by
  have h7 := v7_eq Y r
  unfold val_main_v12 val_main_v11 val_main_v10 val_main_v9 val_main_v8
  generalize val_main_v7 (F := Ideal) Y = z at h7 ⊢
  pointwise
  simp only [h7]
  rfl

theorem v19_eq (r : Fin 8192) (q : Fin 1) : val_main_v19 (F := Ideal) X Y W (ix2 r q) = ms (res (line X r) (line Y r) (line W 0)) := by
  have h12 := v12_eq X Y W r
  unfold val_main_v19 val_main_v18 val_main_cst_4 val_main_v17 val_main_v16 val_main_cst_3 val_main_v15 val_main_v14 val_main_cst_2 val_main_v13
  generalize val_main_v12 (F := Ideal) X Y W = z at h12 ⊢
  pointwise
  simp only [h12]
  rfl

theorem v20_eq (r : Fin 8192) (q : Fin 1) :
    val_main_v20 (F := Ideal) X Y W (ix2 r q) = Ideal.rsqrt (ms (res (line X r) (line Y r) (line W 0))) := by
  rw [← v19_eq X Y W r q]
  unfold val_main_v20
  generalize val_main_v19 (F := Ideal) X Y W = z
  pointwise

theorem v25_eq (r : Fin 8192) (j : Fin 1024) :
    val_main_v25 (F := Ideal) X Y W V (ix2 r j) = unit (res (line X r) (line Y r) (line W 0)) j * line V 0 j := by
  have h12 := v12_eq X Y W r
  have h20 := v20_eq X Y W r
  unfold val_main_v25 val_main_v24 val_main_v23 val_main_v22 val_main_v21
  generalize val_main_v20 (F := Ideal) X Y W = z at h20 ⊢
  generalize val_main_v12 (F := Ideal) X Y W = z' at h12 ⊢
  pointwise
  simp only [h12, h20]
  rfl

end Cert.ResRefIdeal.Hand

namespace Cert.ResIdeal.Hand

open Cert.ResIdeal Cert.ResIdeal.Gen Cert.Rms Idealize.ShloMosaic Idealize.ShloMosaic.TcCoe Idealize.SL.Sem
open Cert.ResRefIdeal.Read Cert.ResRefIdeal.Hand

/-! ### The body -/

section Body

variable (x y : Vec Ideal S512x1024 .f32) (w v : Vec Ideal S1x1024 .f32)

theorem pay1_eq (r : Fin 512) (j : Fin 1024) : k0_pay1 (F := Ideal) x y w (ix2 r j) = res (line x r) (line y r) (line w 0) j := by
  pointwise [k0_pay1]
  rfl

theorem pay2_eq (r : Fin 512) (j : Fin 1024) : k0_pay2 (F := Ideal) x y w v (ix2 r j)
    = unit (res (line x r) (line y r) (line w 0)) j * line v 0 j := by
  have h1 := pay1_eq x y w r
  unfold k0_pay2
  generalize k0_pay1 (F := Ideal) x y w = z at h1 ⊢
  pointwise
  simp only [h1]
  rfl

end Body

variable (m : (ℓ : Loc nD τ sig) → Buf (Elt Ideal) ℓ) (c : Dev nD)

abbrev argX : (⟨2, ![8192, 1024]⟩ : Shape).Idx → EReal := m ((c.tc : Thread nD τ).loc main_arg0)
abbrev argY : (⟨2, ![8192, 1024]⟩ : Shape).Idx → EReal := m ((c.tc : Thread nD τ).loc main_arg1)
abbrev argW : (⟨2, ![1, 1024]⟩ : Shape).Idx → EReal := m ((c.tc : Thread nD τ).loc main_arg2)
abbrev argV : (⟨2, ![1, 1024]⟩ : Shape).Idx → EReal := m ((c.tc : Thread nD τ).loc main_arg3)

/-! ### The blocks -/

theorem idx0 : ∀ t : Fin cfg0.N, win0_0.index t = ![t.val % 16, 0] := (by decide +kernel : ∀ t : Fin grid0.N, _)
theorem idx1 : ∀ t : Fin cfg0.N, win0_1.index t = ![t.val % 16, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val % 16, 0] := (by decide +kernel : ∀ t : Fin grid0.N, _)
theorem idx5 : ∀ t : Fin cfg0.N, win0_5.index t = ![t.val % 16, 0] := (by decide +kernel : ∀ t : Fin grid0.N, _)

theorem blk0 (t : Fin cfg0.N) (r : Fin 512) : line (n := 512) (iblk m c 0 t) r = line (argX m c) (at512 t.val r) := by
  funext j
  unfold line at512
  blk_ext [iblk, V, idx0 t]

theorem blk1 (t : Fin cfg0.N) (r : Fin 512) : line (n := 512) (iblk m c 1 t) r = line (argY m c) (at512 t.val r) := by
  funext j
  unfold line at512
  blk_ext [iblk, V, idx1 t]

theorem blk2 (t : Fin cfg0.N) : line (n := 1) (iblk m c 2 t) 0 = line (argW m c) 0 := by
  funext j
  unfold line
  blk_ext [iblk, V, idx2 t]

theorem blk3 (t : Fin cfg0.N) : line (n := 1) (iblk m c 3 t) 0 = line (argV m c) 0 := by
  funext j
  unfold line
  blk_ext [iblk, V, idx3 t]

/-! ### The results -/

theorem out4 (t : Fin cfg0.N) (r : Fin 512) (j : Fin 1024) : out0_4 (iblk m c 0 t) (iblk m c 1 t) (iblk m c 2 t) (iblk m c 3 t) (ix2 r j)
    = res (line (argX m c) (at512 t.val r)) (line (argY m c) (at512 t.val r)) (line (argW m c) 0) j := by
  rw [← blk0, ← blk1, ← blk2 m c t]
  unfold out0_4
  frame_out
  exact pay1_eq ..

theorem out5 (t : Fin cfg0.N) (r : Fin 512) (j : Fin 1024) : out0_5 (iblk m c 0 t) (iblk m c 1 t) (iblk m c 2 t) (iblk m c 3 t) (ix2 r j)
    = unit (res (line (argX m c) (at512 t.val r)) (line (argY m c) (at512 t.val r)) (line (argW m c) 0)) j * line (argV m c) 0 j := by
  rw [← blk0, ← blk1, ← blk2 m c t, ← blk3 m c t]
  unfold out0_5
  frame_out
  exact pay2_eq ..

theorem final4 : (dats m 0 c).arrAt 4 cfg0.N = val_main_v12 (F := Ideal) (argX m c) (argY m c) (argW m c) := by
  refine (dats m 0 c).arrAt_eq_of_covers 4 _ (by decide +kernel) fun t hf y => ?_
  blk_simp
  obtain ⟨r, j, rfl⟩ : ∃ (r : Fin 512) (j : Fin 1024), y = ix2 r j := ⟨y 0, y 1, eq_ix2 y⟩
  have he : (win0_4.blk t).view.emb (ix2 r j) = ix2 (at512 t.val r) j := by
    unfold at512
    blk_ext [idx4 t]
  rw [after0_4, he, v12_eq]
  exact out4 m c t r j

theorem final5 : (dats m 0 c).arrAt 5 cfg0.N = val_main_v25 (F := Ideal) (argX m c) (argY m c) (argW m c) (argV m c) := by
  refine (dats m 0 c).arrAt_eq_of_covers 5 _ (by decide +kernel) fun t hf y => ?_
  blk_simp
  obtain ⟨r, j, rfl⟩ : ∃ (r : Fin 512) (j : Fin 1024), y = ix2 r j := ⟨y 0, y 1, eq_ix2 y⟩
  have he : (win0_5.blk t).view.emb (ix2 r j) = ix2 (at512 t.val r) j := by
    unfold at512
    blk_ext [idx5 t]
  rw [after0_5, he, v25_eq]
  exact out5 m c t r j

end Cert.ResIdeal.Hand

/-! ### The claims -/

namespace Cert.Proof

open Idealize.ShloMosaic Idealize.ShloMosaic.TcCoe Idealize.SL.Sem Cert.ResIdeal.Hand

theorem Res.reference_frame : Cert.quiescent_ResRefIdeal (hResRefIdeal := Cert.ResRefIdeal.Gen.facts) := fun m ρ _ =>
  (θ_run Cert.ResRefIdeal.defs _ _).mono (fun r h => ⟨fun c => (h c).2.2, sem_eq_zero_of_no_sems (by decide) r.2⟩)
    (Cert.ResRefIdeal.Value.run (F := Ideal) m ρ)

theorem Res.value : Cert.algebraic_ResIdeal_ResRefIdeal (hResIdeal := Cert.ResIdeal.Gen.facts) (hResRefIdeal := Cert.ResRefIdeal.Gen.facts) := by
  intro m ρ m' ρ' _ hagree
  refine ⟨_, _, Cert.ResIdeal.Value.run_blocks (F := Ideal) m ρ,
    (θ_run Cert.ResRefIdeal.defs _ _).mono (fun _ h c => ⟨(h c).1.trans ?_, (h c).2.1.trans ?_, (h c).2.2⟩)
      (Cert.ResRefIdeal.Value.run (F := Ideal) m' ρ')⟩
  · rw [Cert.ResRefIdeal.Read.val_main_v12_eq, (hagree c).1, (hagree c).2.1, (hagree c).2.2.1]
    exact (final4 m c).symm
  · rw [Cert.ResRefIdeal.Read.val_main_v25_eq, (hagree c).1, (hagree c).2.1, (hagree c).2.2.1, (hagree c).2.2.2]
    exact (final5 m c).symm

end Cert.Proof

end
-- ==== Proof.SsdOutSpec.lean ====
/-
  The gradient of the second mixer's output: the skip connection, the gate and the root-mean-square norm of each group of
  512 channels, one row of a group at a time; and the two halves of a buffer of 1024 columns.
-/
module

public import proofs.«01_k».proof.Proof.GdnSpec
public import proofs.«01_k».proof.Proof.RmsSpec

@[expose] public section

noncomputable section

namespace Cert.SsdOut

open Idealize.ShloMosaic Cert.Gdn Cert.Conv

/-! ### One row of a group -/

/-- The mean square of a row, with the norm's epsilon. -/
def ms (p : Fin 512 → EReal) : EReal :=
  Ideal.div (∑ k, p k * p k) (Ideal.ofBits .f32 0x44000000#32) + Ideal.ofBits .f32 0x358637BD#32

/-- The root mean square's slope in the mean square. -/
def half (p : Fin 512 → EReal) : EReal := Ideal.ofBits .f32 0xBF000000#32 * Ideal.div (Ideal.rsqrt (ms p)) (ms p)

/-- Half the cotangent of the mean square over the row's length, from the cotangent `e` of the normed row. -/
def slope (p e : Fin 512 → EReal) : EReal := Ideal.div ((∑ k, p k * e k) * half p) (Ideal.ofBits .f32 0x44000000#32)

/-- The gradient of the row from the cotangent `e` of the normed row. -/
def dRms (p e : Fin 512 → EReal) (j : Fin 512) : EReal := e j * Ideal.rsqrt (ms p) + p j * slope p e + slope p e * p j

section Row

variable (y x z d w o : Fin 512 → EReal)

/-- The recurrence's row with its skip connection. -/
def skip (j : Fin 512) : EReal := y j + d j * x j

/-- The gated row. -/
def gated (j : Fin 512) : EReal := skip y x d j * silu (z j)

/-- The cotangent of the gated row. -/
def dGated (j : Fin 512) : EReal := dRms (gated y x z d) (fun k => o k * w k) j

/-- The cotangent of the recurrence's row. -/
def dY (j : Fin 512) : EReal := dGated y x z d w o j * silu (z j)

/-- The gradient of the gate's row. -/
def dZ (j : Fin 512) : EReal := dSilu (z j) (skip y x d j * dGated y x z d w o j)

/-- What the row adds to the skip's and to the norm weight's gradient. -/
def addD (j : Fin 512) : EReal := dY y x z d w o j * x j
def addW (j : Fin 512) : EReal := gated y x z d j * Ideal.rsqrt (ms (gated y x z d)) * o j

end Row

/-! ### Groups of columns -/

/-- Column `k` of group `g`. -/
def grp (g : Fin 2) (k : Fin 512) : Fin 1024 := ⟨g.val * 512 + k.val, by have := g.isLt; have := k.isLt; omega⟩

theorem grp_surj (c : Fin 1024) : ∃ g k, c = grp g k :=
  ⟨⟨c.val / 512, by have := c.isLt; omega⟩, ⟨c.val % 512, by omega⟩, by apply Fin.ext; show c.val = c.val / 512 * 512 + c.val % 512; omega⟩

/-- Row `r` of a group's matrix. -/
def ln {n : ℕ} (X : (⟨2, ![n, 512]⟩ : Shape).Idx → EReal) (r : Fin n) (k : Fin 512) : EReal := X (ix2 r k)

variable {n : ℕ} {e : EltTy}

/-- A group of a buffer's columns, loaded alone. -/
theorem ld_grp (X : (⟨2, ![n, 1024]⟩ : Shape).Idx → Elt Ideal e) (g : Fin 2) (o : ℕ) (ho : o = g.val * 512)
    (h : ∀ a, (![0, o] : Fin 2 → ℕ) a + (![n, 512] : Fin 2 → ℕ) a ≤ (⟨2, ![n, 1024]⟩ : Shape).size a) (r : Fin n) (k : Fin 512) :
    View.ld (Val := Elt Ideal) (e' := e) X (Rect.unit (s := (⟨2, ![n, 1024]⟩ : Shape)) ![0, o] ![n, 512] h) (ix2 r k) = X (ix2 r (grp g k)) := by
  rw [View.ld_apply]
  congr 1
  funext a; apply Fin.ext
  rw [Rect.idx_unit_val]
  match a with
  | ⟨0, _⟩ => show 0 + r.val = r.val; omega
  | ⟨1, _⟩ => show o + k.val = g.val * 512 + k.val; omega

/-- The newest piece is the group read. -/
theorem canon_grp (g : Fin 2) (o : ℕ) (ho : o = g.val * 512)
    (h : ∀ a, (![0, o] : Fin 2 → ℕ) a + (![n, 512] : Fin 2 → ℕ) a ≤ (⟨2, ![n, 1024]⟩ : Shape).size a) (w : (⟨2, ![n, 512]⟩ : Shape).Idx → Elt Ideal e)
    (L : List (View.Piece (Elt Ideal) (⟨2, ![n, 1024]⟩ : Shape) e)) (r : Fin n) (k : Fin 512) :
    View.canon ((⟨Rect.unit (s := (⟨2, ![n, 1024]⟩ : Shape)) ![0, o] ![n, 512] h, w⟩ : View.Piece (Elt Ideal) (⟨2, ![n, 1024]⟩ : Shape) e) :: L)
      (ix2 r (grp g k)) = w (ix2 r k) := by
  have he : (Rect.unit (s := (⟨2, ![n, 1024]⟩ : Shape)) ![0, o] ![n, 512] h).emb (ix2 r k) = ix2 r (grp g k) := by
    funext a; apply Fin.ext
    match a with
    | ⟨0, _⟩ => show 0 + 1 * r.val = r.val; omega
    | ⟨1, _⟩ => show o + 1 * k.val = g.val * 512 + k.val; omega
  rw [← he]
  exact View.canon_cons_emb (Rect.unit (s := (⟨2, ![n, 1024]⟩ : Shape)) ![0, o] ![n, 512] h) w L _

/-- The newest piece is the other group. -/
theorem canon_grp_ne (g g' : Fin 2) (o : ℕ) (ho : o = g'.val * 512) (hg : g ≠ g')
    (h : ∀ a, (![0, o] : Fin 2 → ℕ) a + (![n, 512] : Fin 2 → ℕ) a ≤ (⟨2, ![n, 1024]⟩ : Shape).size a) (w : (⟨2, ![n, 512]⟩ : Shape).Idx → Elt Ideal e)
    (L : List (View.Piece (Elt Ideal) (⟨2, ![n, 1024]⟩ : Shape) e)) (r : Fin n) (k : Fin 512) :
    View.canon ((⟨Rect.unit (s := (⟨2, ![n, 1024]⟩ : Shape)) ![0, o] ![n, 512] h, w⟩ : View.Piece (Elt Ideal) (⟨2, ![n, 1024]⟩ : Shape) e) :: L)
      (ix2 r (grp g k)) = View.canon L (ix2 r (grp g k)) := by
  refine View.canon_cons_of_not_mem _ L fun hm => ?_
  obtain ⟨i, hi, he⟩ := (LoadRect.mem_set _).mp hm (1 : Fin 2)
  have hi1 : i < 512 := hi
  have he' : g.val * 512 + k.val = o + 1 * i := he
  have := k.isLt
  exact hg (Fin.ext (by omega))

/-- A group loaded of what stores left. -/
theorem readCov_grp {sig : RefSig} {κ : Kind} {sp : Space} (v : View sig κ sp (⟨2, ![n, 1024]⟩ : Shape) e)
    (L : List (View.Piece (Elt Ideal) (⟨2, ![n, 1024]⟩ : Shape) e)) (g : Fin 2) (o : ℕ) (ho : o = g.val * 512)
    (h : ∀ a, (![0, o] : Fin 2 → ℕ) a + (![n, 512] : Fin 2 → ℕ) a ≤ (⟨2, ![n, 1024]⟩ : Shape).size a) (r : Fin n) (k : Fin 512) :
    v.readCov L (Rect.unit (s := (⟨2, ![n, 1024]⟩ : Shape)) ![0, o] ![n, 512] h).toLoadRect (ix2 r k) = View.canon L (ix2 r (grp g k)) := by
  rw [View.readCov_eq_canon']
  show View.canon L _ = _
  congr 1
  funext a; apply Fin.ext
  match a with
  | ⟨0, _⟩ => show 0 + 1 * r.val = r.val; omega
  | ⟨1, _⟩ => show o + 1 * k.val = g.val * 512 + k.val; omega

end Cert.SsdOut

end
-- ==== Proof.SsdOutPay.lean ====
/-
  The body of the second mixer's output gradient, at a point of a block: each of the two groups of columns computes a row's
  gradient as `SsdOutSpec` has it.
-/
module

public import proofs.«01_k».proof.Proof.Gen.SsdOutIdeal.Skeleton
public import proofs.«01_k».proof.Proof.SsdOutSpec

@[expose] public section

set_option maxRecDepth 16384

noncomputable section

namespace Cert.SsdOutIdeal.Hand

open Cert.SsdOutIdeal Cert.SsdOutIdeal.Gen Cert.SsdOut Cert.Gdn Idealize.ShloMosaic Idealize.ShloMosaic.TcCoe Idealize.SL.Sem

/-! ### Group 0 -/

namespace G0

variable (y x : Vec Ideal S512x512 .f32) (z : Vec Ideal S512x512 .bf16) (d w : Vec Ideal S1x512 .f32) (o : Vec Ideal S512x512 .f32) (a : Vec Ideal S1x512 .f32)

theorem silu_eq (r : Fin 512) (j : Fin 512) : k0_pay13 (F := Ideal) z (ix2 r j) = silu (ln z r j) := by
  pointwise [k0_pay13, k0_pay9, k0_pay11]
  rfl

theorem skip_eq (r : Fin 512) (j : Fin 512) : k0_pay10 (F := Ideal) y x d (ix2 r j) = skip (ln y r) (ln x r) (ln d 0) j := by
  pointwise [k0_pay10]
  rfl

theorem gated_eq (r : Fin 512) (j : Fin 512) : k0_pay14 (F := Ideal) y x z d (ix2 r j) = gated (ln y r) (ln x r) (ln z r) (ln d 0) j := by
  have h0 := silu_eq z r j
  have h1 := skip_eq y x d r j
  unfold k0_pay14
  generalize k0_pay13 (F := Ideal) z = s at h0 ⊢
  generalize k0_pay10 (F := Ideal) y x d = s' at h1 ⊢
  pointwise
  rw [h0, h1]
  rfl

theorem ms_eq (r : Fin 512) (q : Fin 1) : k0_pay15 (F := Ideal) y x z d (ix2 r q) = ms (gated (ln y r) (ln x r) (ln z r) (ln d 0)) := by
  have h0 := gated_eq y x z d r
  unfold k0_pay15
  generalize k0_pay14 (F := Ideal) y x z d = s at h0 ⊢
  pointwise
  simp only [h0]
  rfl

theorem rs_eq (r : Fin 512) (q : Fin 1) : k0_pay16 (F := Ideal) y x z d (ix2 r q) = Ideal.rsqrt (ms (gated (ln y r) (ln x r) (ln z r) (ln d 0))) := by
  rw [← ms_eq y x z d r q]
  unfold k0_pay16
  generalize k0_pay15 (F := Ideal) y x z d = s
  pointwise

theorem cot_eq (r : Fin 512) (j : Fin 512) : k0_pay19 (F := Ideal) w o (ix2 r j) = ln o r j * ln w 0 j := by
  pointwise [k0_pay19]
  rfl

theorem half_eq (r : Fin 512) (q : Fin 1) : k0_pay17 (F := Ideal) y x z d (ix2 r q) = half (gated (ln y r) (ln x r) (ln z r) (ln d 0)) := by
  have h0 := rs_eq y x z d r q
  have h1 := ms_eq y x z d r q
  unfold k0_pay17
  generalize k0_pay16 (F := Ideal) y x z d = s at h0 ⊢
  generalize k0_pay15 (F := Ideal) y x z d = s' at h1 ⊢
  pointwise
  rw [h0, h1]
  rfl

theorem prod_eq (r : Fin 512) (j : Fin 512) : k0_pay20 (F := Ideal) y x z d w o (ix2 r j) = gated (ln y r) (ln x r) (ln z r) (ln d 0) j * (ln o r j * ln w 0 j) := by
  have h0 := gated_eq y x z d r j
  have h1 := cot_eq w o r j
  unfold k0_pay20
  generalize k0_pay14 (F := Ideal) y x z d = s at h0 ⊢
  generalize k0_pay19 (F := Ideal) w o = s' at h1 ⊢
  pointwise
  rw [h0, h1]

/-- The cotangent of the gated block. -/
abbrev cotAt : FVec Ideal S512x512 .f32 := k0_pay21 (F := Ideal) (k0_pay14 y x z d) (k0_pay16 y x z d) (k0_pay17 y x z d) (k0_pay19 w o) (k0_pay20 y x z d w o)

theorem dGated_eq (r : Fin 512) (j : Fin 512) : cotAt y x z d w o (ix2 r j) = dGated (ln y r) (ln x r) (ln z r) (ln d 0) (ln w 0) (ln o r) j := by
  have h0 := gated_eq y x z d r
  have h1 := rs_eq y x z d r
  have h2 := half_eq y x z d r
  have h3 := cot_eq w o r
  have h4 := prod_eq y x z d w o r
  unfold cotAt k0_pay21
  generalize k0_pay20 (F := Ideal) y x z d w o = s4 at h4 ⊢
  generalize k0_pay19 (F := Ideal) w o = s3 at h3 ⊢
  generalize k0_pay17 (F := Ideal) y x z d = s2 at h2 ⊢
  generalize k0_pay16 (F := Ideal) y x z d = s1 at h1 ⊢
  generalize k0_pay14 (F := Ideal) y x z d = s0 at h0 ⊢
  pointwise
  simp only [h0, h1, h2, h3, h4, Fin.sum_univ_one]
  rfl

theorem dY_eq (r : Fin 512) (j : Fin 512) : k0_pay22 (F := Ideal) (k0_pay13 z) (k0_pay14 y x z d) (k0_pay16 y x z d) (k0_pay17 y x z d) (k0_pay19 w o) (k0_pay20 y x z d w o) (ix2 r j) = dY (ln y r) (ln x r) (ln z r) (ln d 0) (ln w 0) (ln o r) j := by
  have h0 := dGated_eq y x z d w o r j
  have h1 := silu_eq z r j
  unfold cotAt at h0
  unfold k0_pay22
  generalize k0_pay21 (F := Ideal) (k0_pay14 y x z d) (k0_pay16 y x z d) (k0_pay17 y x z d) (k0_pay19 w o) (k0_pay20 y x z d w o) = s at h0 ⊢
  generalize k0_pay13 (F := Ideal) z = s' at h1 ⊢
  pointwise
  rw [h0, h1]
  rfl

theorem dX_eq (r : Fin 512) (j : Fin 512) : k0_pay23 (F := Ideal) d (k0_pay13 z) (k0_pay14 y x z d) (k0_pay16 y x z d) (k0_pay17 y x z d) (k0_pay19 w o) (k0_pay20 y x z d w o) (ix2 r j) = ln d 0 j * dY (ln y r) (ln x r) (ln z r) (ln d 0) (ln w 0) (ln o r) j := by
  have h0 := dY_eq y x z d w o r j
  unfold k0_pay23
  generalize k0_pay22 (F := Ideal) (k0_pay13 z) (k0_pay14 y x z d) (k0_pay16 y x z d) (k0_pay17 y x z d) (k0_pay19 w o) (k0_pay20 y x z d w o) = s at h0 ⊢
  pointwise
  rw [h0]
  rfl

theorem dZ_eq (r : Fin 512) (j : Fin 512) : k0_pay24 (F := Ideal) (k0_pay9 z) (k0_pay10 y x d) (k0_pay11 z) (k0_pay12 z) (k0_pay14 y x z d) (k0_pay16 y x z d) (k0_pay17 y x z d) (k0_pay19 w o) (k0_pay20 y x z d w o) (ix2 r j) = dZ (ln y r) (ln x r) (ln z r) (ln d 0) (ln w 0) (ln o r) j := by
  have h0 := dGated_eq y x z d w o r j
  have h1 := skip_eq y x d r j
  unfold cotAt at h0
  unfold k0_pay24
  generalize k0_pay21 (F := Ideal) (k0_pay14 y x z d) (k0_pay16 y x z d) (k0_pay17 y x z d) (k0_pay19 w o) (k0_pay20 y x z d w o) = s at h0 ⊢
  generalize k0_pay10 (F := Ideal) y x d = s' at h1 ⊢
  pointwise [k0_pay12, k0_pay11, k0_pay9]
  rw [h0, h1]
  unfold dZ Conv.dSilu
  rfl

theorem addD_eq (q : Fin 1) (j : Fin 512) : k0_pay25 (F := Ideal) x (k0_pay13 z) (k0_pay14 y x z d) (k0_pay16 y x z d) (k0_pay17 y x z d) (k0_pay19 w o) (k0_pay20 y x z d w o) a (ix2 q j) = a (ix2 q j) + ∑ r : Fin 512, addD (ln y r) (ln x r) (ln z r) (ln d 0) (ln w 0) (ln o r) j := by
  have h0 := fun r => dY_eq y x z d w o r j
  unfold k0_pay25
  generalize k0_pay22 (F := Ideal) (k0_pay13 z) (k0_pay14 y x z d) (k0_pay16 y x z d) (k0_pay17 y x z d) (k0_pay19 w o) (k0_pay20 y x z d w o) = s at h0 ⊢
  pointwise
  simp only [h0]
  rfl

theorem addW_eq (q : Fin 1) (j : Fin 512) : k0_pay26 (F := Ideal) (k0_pay18 y x z d o) a (ix2 q j) = a (ix2 q j) + ∑ r : Fin 512, addW (ln y r) (ln x r) (ln z r) (ln d 0) (ln o r) j := by
  have h0 := fun r => gated_eq y x z d r j
  have h1 := rs_eq y x z d
  unfold k0_pay26 k0_pay18
  generalize k0_pay16 (F := Ideal) y x z d = s1 at h1 ⊢
  generalize k0_pay14 (F := Ideal) y x z d = s0 at h0 ⊢
  pointwise
  simp only [h0, h1]
  rfl

end G0

/-! ### Group 1 -/

namespace G1

variable (y x : Vec Ideal S512x512 .f32) (z : Vec Ideal S512x512 .bf16) (d w : Vec Ideal S1x512 .f32) (o : Vec Ideal S512x512 .f32) (a : Vec Ideal S1x512 .f32)

theorem silu_eq (r : Fin 512) (j : Fin 512) : k0_pay31 (F := Ideal) z (ix2 r j) = silu (ln z r j) := by
  pointwise [k0_pay31, k0_pay27, k0_pay29]
  rfl

theorem skip_eq (r : Fin 512) (j : Fin 512) : k0_pay28 (F := Ideal) y x d (ix2 r j) = skip (ln y r) (ln x r) (ln d 0) j := by
  pointwise [k0_pay28]
  rfl

theorem gated_eq (r : Fin 512) (j : Fin 512) : k0_pay32 (F := Ideal) y x z d (ix2 r j) = gated (ln y r) (ln x r) (ln z r) (ln d 0) j := by
  have h0 := silu_eq z r j
  have h1 := skip_eq y x d r j
  unfold k0_pay32
  generalize k0_pay31 (F := Ideal) z = s at h0 ⊢
  generalize k0_pay28 (F := Ideal) y x d = s' at h1 ⊢
  pointwise
  rw [h0, h1]
  rfl

theorem ms_eq (r : Fin 512) (q : Fin 1) : k0_pay33 (F := Ideal) y x z d (ix2 r q) = ms (gated (ln y r) (ln x r) (ln z r) (ln d 0)) := by
  have h0 := gated_eq y x z d r
  unfold k0_pay33
  generalize k0_pay32 (F := Ideal) y x z d = s at h0 ⊢
  pointwise
  simp only [h0]
  rfl

theorem rs_eq (r : Fin 512) (q : Fin 1) : k0_pay34 (F := Ideal) y x z d (ix2 r q) = Ideal.rsqrt (ms (gated (ln y r) (ln x r) (ln z r) (ln d 0))) := by
  rw [← ms_eq y x z d r q]
  unfold k0_pay34
  generalize k0_pay33 (F := Ideal) y x z d = s
  pointwise

theorem cot_eq (r : Fin 512) (j : Fin 512) : k0_pay36 (F := Ideal) w o (ix2 r j) = ln o r j * ln w 0 j := by
  pointwise [k0_pay36]
  rfl

theorem part_eq (r : Fin 512) (j : Fin 512) : k0_pay37 (F := Ideal) y x z d w o (ix2 r j) = ln o r j * ln w 0 j * Ideal.rsqrt (ms (gated (ln y r) (ln x r) (ln z r) (ln d 0))) := by
  have h0 := rs_eq y x z d r
  have h1 := cot_eq w o r j
  unfold k0_pay37
  generalize k0_pay34 (F := Ideal) y x z d = s at h0 ⊢
  generalize k0_pay36 (F := Ideal) w o = s' at h1 ⊢
  pointwise
  rw [h0, h1]

theorem sum_eq (r : Fin 512) (q : Fin 1) : k0_pay38 (F := Ideal) y x z d w o (ix2 r q)
    = (∑ k, gated (ln y r) (ln x r) (ln z r) (ln d 0) k * (ln o r k * ln w 0 k)) * half (gated (ln y r) (ln x r) (ln z r) (ln d 0)) := by
  have h0 := gated_eq y x z d r
  have h1 := rs_eq y x z d r
  have h2 := ms_eq y x z d r
  have h3 := cot_eq w o r
  unfold k0_pay38
  generalize k0_pay36 (F := Ideal) w o = s3 at h3 ⊢
  generalize k0_pay33 (F := Ideal) y x z d = s2 at h2 ⊢
  generalize k0_pay34 (F := Ideal) y x z d = s1 at h1 ⊢
  generalize k0_pay32 (F := Ideal) y x z d = s0 at h0 ⊢
  pointwise
  simp only [h0, h1, h2, h3]
  rfl

/-- The cotangent of the gated block. -/
abbrev cotAt : FVec Ideal S512x512 .f32 := k0_pay1 (F := Ideal) (k0_pay32 y x z d) (k0_pay37 y x z d w o) (k0_pay38 y x z d w o) (Scalar.ofBits .f32 0x44000000#32)

theorem dGated_eq (r : Fin 512) (j : Fin 512) : cotAt y x z d w o (ix2 r j) = dGated (ln y r) (ln x r) (ln z r) (ln d 0) (ln w 0) (ln o r) j := by
  have h0 := gated_eq y x z d r
  have h1 := part_eq y x z d w o r
  have h2 := sum_eq y x z d w o r
  unfold cotAt k0_pay1
  generalize k0_pay38 (F := Ideal) y x z d w o = s2 at h2 ⊢
  generalize k0_pay37 (F := Ideal) y x z d w o = s1 at h1 ⊢
  generalize k0_pay32 (F := Ideal) y x z d = s0 at h0 ⊢
  pointwise
  simp only [h0, h1, h2, Fin.sum_univ_one]
  rfl

theorem dY_eq (r : Fin 512) (j : Fin 512) : k0_pay2 (F := Ideal) (k0_pay31 z) (k0_pay32 y x z d) (k0_pay37 y x z d w o) (k0_pay38 y x z d w o) (Scalar.ofBits .f32 0x44000000#32) (ix2 r j) = dY (ln y r) (ln x r) (ln z r) (ln d 0) (ln w 0) (ln o r) j := by
  have h0 := dGated_eq y x z d w o r j
  have h1 := silu_eq z r j
  unfold cotAt at h0
  unfold k0_pay2
  generalize k0_pay1 (F := Ideal) (k0_pay32 y x z d) (k0_pay37 y x z d w o) (k0_pay38 y x z d w o) (Scalar.ofBits .f32 0x44000000#32) = s at h0 ⊢
  generalize k0_pay31 (F := Ideal) z = s' at h1 ⊢
  pointwise
  rw [h0, h1]
  rfl

theorem dX_eq (r : Fin 512) (j : Fin 512) : k0_pay3 (F := Ideal) d (k0_pay31 z) (k0_pay32 y x z d) (k0_pay37 y x z d w o) (k0_pay38 y x z d w o) (Scalar.ofBits .f32 0x44000000#32) (ix2 r j) = ln d 0 j * dY (ln y r) (ln x r) (ln z r) (ln d 0) (ln w 0) (ln o r) j := by
  have h0 := dY_eq y x z d w o r j
  unfold k0_pay3
  generalize k0_pay2 (F := Ideal) (k0_pay31 z) (k0_pay32 y x z d) (k0_pay37 y x z d w o) (k0_pay38 y x z d w o) (Scalar.ofBits .f32 0x44000000#32) = s at h0 ⊢
  pointwise
  rw [h0]
  rfl

theorem dZ_eq (r : Fin 512) (j : Fin 512) : k0_pay4 (F := Ideal) (k0_pay27 z) (k0_pay28 y x d) (k0_pay29 z) (k0_pay30 z) (k0_pay32 y x z d) (k0_pay37 y x z d w o) (k0_pay38 y x z d w o) (Scalar.ofBits .f32 0x44000000#32) (ix2 r j) = dZ (ln y r) (ln x r) (ln z r) (ln d 0) (ln w 0) (ln o r) j := by
  have h0 := dGated_eq y x z d w o r j
  have h1 := skip_eq y x d r j
  unfold cotAt at h0
  unfold k0_pay4
  generalize k0_pay1 (F := Ideal) (k0_pay32 y x z d) (k0_pay37 y x z d w o) (k0_pay38 y x z d w o) (Scalar.ofBits .f32 0x44000000#32) = s at h0 ⊢
  generalize k0_pay28 (F := Ideal) y x d = s' at h1 ⊢
  pointwise [k0_pay30, k0_pay29, k0_pay27]
  rw [h0, h1]
  unfold dZ Conv.dSilu
  rfl

theorem addD_eq (q : Fin 1) (j : Fin 512) : k0_pay5 (F := Ideal) x (k0_pay31 z) (k0_pay32 y x z d) (k0_pay37 y x z d w o) (k0_pay38 y x z d w o) (Scalar.ofBits .f32 0x44000000#32) a (ix2 q j) = a (ix2 q j) + ∑ r : Fin 512, addD (ln y r) (ln x r) (ln z r) (ln d 0) (ln w 0) (ln o r) j := by
  have h0 := fun r => dY_eq y x z d w o r j
  unfold k0_pay5
  generalize k0_pay2 (F := Ideal) (k0_pay31 z) (k0_pay32 y x z d) (k0_pay37 y x z d w o) (k0_pay38 y x z d w o) (Scalar.ofBits .f32 0x44000000#32) = s at h0 ⊢
  pointwise
  simp only [h0]
  rfl

theorem addW_eq (q : Fin 1) (j : Fin 512) : k0_pay6 (F := Ideal) (k0_pay35 y x z d o) a (ix2 q j) = a (ix2 q j) + ∑ r : Fin 512, addW (ln y r) (ln x r) (ln z r) (ln d 0) (ln o r) j := by
  have h0 := fun r => gated_eq y x z d r j
  have h1 := rs_eq y x z d
  unfold k0_pay6 k0_pay35
  generalize k0_pay34 (F := Ideal) y x z d = s1 at h1 ⊢
  generalize k0_pay32 (F := Ideal) y x z d = s0 at h0 ⊢
  pointwise
  simp only [h0, h1]
  rfl

end G1

end Cert.SsdOutIdeal.Hand

end
-- ==== Proof.SsdOutRef.lean ====
/-
  The reference of the second mixer's output gradient, entry by entry: the two groups of a row as `SsdOutSpec` has them.
-/
module

public import proofs.«01_k».proof.Proof.Gen.SsdOutRefIdeal.Read
public import proofs.«01_k».proof.Proof.SsdOutSpec

@[expose] public section

set_option maxRecDepth 65536

noncomputable section

namespace Cert.SsdOutRefIdeal.Hand

open Cert.SsdOutRefIdeal Cert.SsdOutRefIdeal.Gen Cert.SsdOutRefIdeal.Read Cert.SsdOut Cert.Gdn Idealize.ShloMosaic Idealize.ShloMosaic.TcCoe

/-! ### The columns of a group in each array -/

/-- A column among the recurrence's inputs, the projection's and the cotangent's columns. -/
def atX (c : Fin 1024) : Fin 1536 := ⟨c.val, by have := c.isLt; omega⟩
def atZ (c : Fin 1024) : Fin 6656 := ⟨4096 + c.val, by have := c.isLt; omega⟩
def atO (c : Fin 1024) : Fin 2048 := ⟨1024 + c.val, by have := c.isLt; omega⟩

def colsY (Y : (⟨2, ![8192, 1024]⟩ : Shape).Idx → EReal) (r : Fin 8192) (g : Fin 2) (k : Fin 512) : EReal := Y (ix2 r (grp g k))
def colsX (X : (⟨2, ![8192, 1536]⟩ : Shape).Idx → EReal) (r : Fin 8192) (g : Fin 2) (k : Fin 512) : EReal := X (ix2 r (atX (grp g k)))
def colsZ (Z : (⟨2, ![8192, 6656]⟩ : Shape).Idx → EReal) (r : Fin 8192) (g : Fin 2) (k : Fin 512) : EReal := Z (ix2 r (atZ (grp g k)))
def colsO (O : (⟨2, ![8192, 2048]⟩ : Shape).Idx → EReal) (r : Fin 8192) (g : Fin 2) (k : Fin 512) : EReal := O (ix2 r (atO (grp g k)))
def rowD (D : (⟨2, ![1, 1024]⟩ : Shape).Idx → EReal) (g : Fin 2) (k : Fin 512) : EReal := D (ix2 0 (grp g k))

variable (Y : (⟨2, ![8192, 1024]⟩ : Shape).Idx → EReal) (X : (⟨2, ![8192, 1536]⟩ : Shape).Idx → EReal)
  (Z : (⟨2, ![8192, 6656]⟩ : Shape).Idx → EReal) (D W : (⟨2, ![1, 1024]⟩ : Shape).Idx → EReal)
  (O : (⟨2, ![8192, 2048]⟩ : Shape).Idx → EReal) (P : (⟨2, ![8192, 6656]⟩ : Shape).Idx → EReal)

/-! ### The gated row -/

theorem x_eq (r : Fin 8192) (g : Fin 2) (k : Fin 512) : val_main_v2 (F := Ideal) X (ix2 r (grp g k)) = colsX X r g k := by
  pointwise [val_main_v2]
  unfold colsX
  congr 2

theorem skip_eq (r : Fin 8192) (g : Fin 2) (k : Fin 512) :
    val_main_v5 (F := Ideal) Y X D (ix2 r (grp g k)) = skip (colsY Y r g) (colsX X r g) (rowD D g) k := by
  have h0 := x_eq X r g k
  unfold val_main_v5 val_main_v4 val_main_v3
  generalize val_main_v2 (F := Ideal) X = s at h0 ⊢
  pointwise
  rw [h0]
  rfl

theorem silu_eq (r : Fin 8192) (g : Fin 2) (k : Fin 512) : val_main_v6_0 (F := Ideal) Z (ix2 r (grp g k)) = silu (colsZ Z r g k) := by
  unfold val_main_v6_0 val_main_v6_2 val_main_call0_v4 val_main_call0_cst_0 val_main_call0_v3 val_main_call0_v2 val_main_call0_cst val_main_call0_v1 val_main_call0_v0 val_main_v1 val_main_v0
  pointwise
  rfl

theorem gated_eq (r : Fin 8192) (g : Fin 2) (k : Fin 512) : val_main_v8 (F := Ideal) Y X Z D (ix3 r g k) = gated (colsY Y r g) (colsX X r g) (colsZ Z r g) (rowD D g) k := by
  have h0 := skip_eq Y X D r g k
  have h1 := silu_eq Z r g k
  unfold val_main_v8 val_main_v7
  generalize val_main_v5 (F := Ideal) Y X D = s at h0 ⊢
  generalize val_main_v6_0 (F := Ideal) Z = s' at h1 ⊢
  pointwise
  exact congrArg₂ (· * ·) h0 h1

theorem ms_eq (r : Fin 8192) (g : Fin 2) (q : Fin 1) : val_main_v16 (F := Ideal) Y X Z D (ix3 r g q) = ms (gated (colsY Y r g) (colsX X r g) (colsZ Z r g) (rowD D g)) := by
  have h0 := gated_eq Y X Z D r g
  unfold val_main_v16 val_main_v15 val_main_cst_1 val_main_v14 val_main_v13 val_main_cst_0 val_main_v12 val_main_v11 val_main_cst val_main_v10
  generalize val_main_v8 (F := Ideal) Y X Z D = s at h0 ⊢
  pointwise
  simp only [h0]
  rfl

theorem rs_eq (r : Fin 8192) (g : Fin 2) (q : Fin 1) : val_main_v17 (F := Ideal) Y X Z D (ix3 r g q) = Ideal.rsqrt (ms (gated (colsY Y r g) (colsX X r g) (colsZ Z r g) (rowD D g))) := by
  rw [← ms_eq Y X Z D r g q]
  unfold val_main_v17
  generalize val_main_v16 (F := Ideal) Y X Z D = s
  pointwise

theorem half_eq (r : Fin 8192) (g : Fin 2) (q : Fin 1) : val_main_v20 (F := Ideal) Y X Z D (ix3 r g q) = half (gated (colsY Y r g) (colsX X r g) (colsZ Z r g) (rowD D g)) := by
  have h0 := rs_eq Y X Z D r g q
  have h1 := ms_eq Y X Z D r g q
  unfold val_main_v20 val_main_v19 val_main_cst_2 val_main_v18
  generalize val_main_v17 (F := Ideal) Y X Z D = s at h0 ⊢
  generalize val_main_v16 (F := Ideal) Y X Z D = s' at h1 ⊢
  pointwise
  rw [h0, h1]
  rfl

/-! ### The cotangents -/

theorem o_eq (r : Fin 8192) (g : Fin 2) (k : Fin 512) : val_main_v28 (F := Ideal) O (ix3 r g k) = colsO O r g k := by
  unfold val_main_v28 val_main_v27
  pointwise
  rfl

theorem cot_eq (r : Fin 8192) (g : Fin 2) (k : Fin 512) : val_main_v33 (F := Ideal) W O (ix3 r g k) = colsO O r g k * rowD W g k := by
  have h0 := o_eq O r g k
  unfold val_main_v33 val_main_v32 val_main_v23 val_main_v9
  generalize val_main_v28 (F := Ideal) O = s at h0 ⊢
  pointwise
  rw [h0]
  rfl

theorem dRms_eq (r : Fin 8192) (g : Fin 2) (k : Fin 512) : val_main_v48 (F := Ideal) Y X Z D W O (ix3 r g k) = dGated (colsY Y r g) (colsX X r g) (colsZ Z r g) (rowD D g) (rowD W g) (colsO O r g) k := by
  have h0 := gated_eq Y X Z D r g
  have h1 := rs_eq Y X Z D r g
  have h2 := half_eq Y X Z D r g
  have h3 := cot_eq W O r g
  unfold val_main_v48 val_main_v47 val_main_v46 val_main_v45 val_main_v44 val_main_v43 val_main_cst_7 val_main_v42 val_main_v41 val_main_cst_6 val_main_v40 val_main_v39 val_main_v38 val_main_v37 val_main_v36 val_main_cst_5 val_main_v35
  generalize val_main_v33 (F := Ideal) W O = s3 at h3 ⊢
  generalize val_main_v20 (F := Ideal) Y X Z D = s2 at h2 ⊢
  generalize val_main_v17 (F := Ideal) Y X Z D = s1 at h1 ⊢
  generalize val_main_v8 (F := Ideal) Y X Z D = s0 at h0 ⊢
  pointwise
  simp only [h0, h1, h2, h3, Fin.sum_univ_one]
  rfl

theorem dGated_eq (r : Fin 8192) (g : Fin 2) (k : Fin 512) : val_main_v50 (F := Ideal) Y X Z D W O (ix2 r (grp g k)) = dGated (colsY Y r g) (colsX X r g) (colsZ Z r g) (rowD D g) (rowD W g) (colsO O r g) k := by
  rw [← dRms_eq Y X Z D W O r g k]
  unfold val_main_v50
  generalize val_main_v48 (F := Ideal) Y X Z D W O = s
  unfold grp
  pointwise

theorem dY_eq (r : Fin 8192) (g : Fin 2) (k : Fin 512) : val_main_v52 (F := Ideal) Y X Z D W O (ix2 r (grp g k)) = dY (colsY Y r g) (colsX X r g) (colsZ Z r g) (rowD D g) (rowD W g) (colsO O r g) k := by
  have h0 := dGated_eq Y X Z D W O r g k
  have h1 := silu_eq Z r g k
  unfold val_main_v52
  generalize val_main_v50 (F := Ideal) Y X Z D W O = s at h0 ⊢
  generalize val_main_v6_0 (F := Ideal) Z = s' at h1 ⊢
  pointwise
  exact congrArg₂ (· * ·) h0 h1

theorem dX_eq (r : Fin 8192) (g : Fin 2) (k : Fin 512) : val_main_v55 (F := Ideal) Y X Z D W O (ix2 r (grp g k)) = rowD D g k * dY (colsY Y r g) (colsX X r g) (colsZ Z r g) (rowD D g) (rowD W g) (colsO O r g) k := by
  have h0 := dY_eq Y X Z D W O r g k
  unfold val_main_v55 val_main_v54
  generalize val_main_v52 (F := Ideal) Y X Z D W O = s at h0 ⊢
  pointwise
  rw [h0]
  rfl

theorem dZ_eq (r : Fin 8192) (g : Fin 2) (k : Fin 512) : val_main_v53 (F := Ideal) Y X Z D W O (ix2 r (grp g k)) = dZ (colsY Y r g) (colsX X r g) (colsZ Z r g) (rowD D g) (rowD W g) (colsO O r g) k := by
  have h0 := dGated_eq Y X Z D W O r g k
  have h1 := skip_eq Y X D r g k
  unfold val_main_v53 val_main_call1_v2 val_main_call1_v1 val_main_call1_v0 val_main_v51 val_main_v6_1 val_main_call0_v7 val_main_call0_v6 val_main_call0_cst_1 val_main_v6_2 val_main_call0_v4 val_main_call0_cst_0 val_main_call0_v3 val_main_call0_v2 val_main_call0_cst val_main_call0_v1 val_main_call0_v0 val_main_v1 val_main_v0
  generalize val_main_v50 (F := Ideal) Y X Z D W O = s at h0 ⊢
  generalize val_main_v5 (F := Ideal) Y X D = s' at h1 ⊢
  pointwise
  rw [h0, h1]
  rfl

/-! ### The sums over the rows -/

theorem dD_eq (g : Fin 2) (k : Fin 512) : val_main_v58 (F := Ideal) Y X Z D W O (ix2 0 (grp g k)) = ∑ r : Fin 8192, addD (colsY Y r g) (colsX X r g) (colsZ Z r g) (rowD D g) (rowD W g) (colsO O r g) k := by
  have h0 := fun r => dY_eq Y X Z D W O r g k
  have h1 := fun r => x_eq X r g k
  unfold val_main_v58 val_main_v57 val_main_cst_8 val_main_v56
  generalize val_main_v52 (F := Ideal) Y X Z D W O = s at h0 ⊢
  generalize val_main_v2 (F := Ideal) X = s' at h1 ⊢
  pointwise
  simp only [h0, h1]
  rfl

theorem dW_eq (g : Fin 2) (k : Fin 512) : val_main_v49 (F := Ideal) Y X Z D O (ix2 0 (grp g k)) = ∑ r : Fin 8192, addW (colsY Y r g) (colsX X r g) (colsZ Z r g) (rowD D g) (colsO O r g) k := by
  have h0 := fun r => gated_eq Y X Z D r g k
  have h1 := fun r => rs_eq Y X Z D r g
  have h2 := fun r => o_eq O r g k
  unfold val_main_v49 val_main_v34 val_main_cst_4 val_main_v31 val_main_v30 val_main_cst_3 val_main_v29 val_main_v22 val_main_v21
  generalize val_main_v28 (F := Ideal) O = s2 at h2 ⊢
  generalize val_main_v17 (F := Ideal) Y X Z D = s1 at h1 ⊢
  generalize val_main_v8 (F := Ideal) Y X Z D = s0 at h0 ⊢
  unfold grp
  pointwise
  simp only [h0, h1, h2, Fin.sum_univ_one]
  rfl

/-! ### The projection's gradient -/

/-- The columns outside the gate are those that came in. -/
theorem fin_out (r : Fin 8192) (c : Fin 6656) (h : ¬(4096 ≤ c.val ∧ c.val < 5120)) :
    val_main_v62 (F := Ideal) Y X Z D W O P (ix2 r c) = P (ix2 r c) := by
  unfold val_main_v62 val_main_v61 val_main_v60 val_main_v59
  generalize val_main_v53 (F := Ideal) Y X Z D W O = z
  pointwise
  by_cases h1 : c.val < 4096
  · rw [dif_pos h1]
  · rw [dif_neg h1, dif_neg (by omega)]
    congr 2
    apply Fin.ext
    show _ + _ = _
    omega

theorem fin_in (r : Fin 8192) (c : Fin 1024) :
    val_main_v62 (F := Ideal) Y X Z D W O P (ix2 r (atZ c)) = val_main_v53 (F := Ideal) Y X Z D W O (ix2 r c) := by
  unfold val_main_v62 val_main_v61 val_main_v60 val_main_v59 atZ
  generalize val_main_v53 (F := Ideal) Y X Z D W O = z
  pointwise

end Cert.SsdOutRefIdeal.Hand

end
-- ==== Proof.SsdOut.lean ====
/-
  What the second mixer's output gradient leaves in its outputs: point `t` of the grid takes rows `512 t` to `512 t + 511`;
  the gate's gradient is written into its columns of the projection's, the skip's and the norm weight's gradients are summed
  over the sixteen points.
-/
module

public import proofs.«01_k».proof.Defs
public import proofs.«01_k».proof.Proof.Gen.SsdOutIdeal.Value
public import proofs.«01_k».proof.Proof.Gen.SsdOutRefIdeal.Run
public import proofs.«01_k».proof.Proof.SsdOutPay
public import proofs.«01_k».proof.Proof.SsdOutRef

@[expose] public section

set_option maxRecDepth 65536

noncomputable section

namespace Cert.SsdOutIdeal.Hand

open Cert.SsdOutIdeal Cert.SsdOutIdeal.Gen Cert.SsdOut Cert.Rms Idealize.ShloMosaic Idealize.ShloMosaic.TcCoe Idealize.SL.Sem
open Cert.Conv (canon_fill)
open Cert.SsdOutRefIdeal.Read
open Cert.SsdOutRefIdeal.Hand (colsY colsX colsZ colsO rowD atX atZ atO fin_in fin_out)

variable (m : (ℓ : Loc nD τ sig) → Buf (Elt Ideal) ℓ) (c : Dev nD)

/-- The arguments as launched. -/
abbrev argY : (⟨2, ![8192, 1024]⟩ : Shape).Idx → EReal := m ((c.tc : Thread nD τ).loc main_arg0)
abbrev argX : (⟨2, ![8192, 1536]⟩ : Shape).Idx → EReal := m ((c.tc : Thread nD τ).loc main_arg1)
abbrev argZ : (⟨2, ![8192, 6656]⟩ : Shape).Idx → EReal := m ((c.tc : Thread nD τ).loc main_arg2)
abbrev argD : (⟨2, ![1, 1024]⟩ : Shape).Idx → EReal := m ((c.tc : Thread nD τ).loc main_arg3)
abbrev argW : (⟨2, ![1, 1024]⟩ : Shape).Idx → EReal := m ((c.tc : Thread nD τ).loc main_arg4)
abbrev argO : (⟨2, ![8192, 2048]⟩ : Shape).Idx → EReal := m ((c.tc : Thread nD τ).loc main_arg5)
abbrev argP : (⟨2, ![8192, 6656]⟩ : Shape).Idx → EReal := m ((c.tc : Thread nD τ).loc main_arg6)

/-! ### Where each point's blocks lie -/

theorem idx0 : ∀ t : Fin cfg0.N, win0_0.index t = ![t.val % 16, 0] := (by decide +kernel : ∀ t : Fin grid0.N, _)
theorem idx1 : ∀ t : Fin cfg0.N, win0_1.index t = ![t.val % 16, 0] := (by decide +kernel : ∀ t : Fin grid0.N, _)
theorem idx2 : ∀ t : Fin cfg0.N, win0_2.index t = ![t.val % 16, 4] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val % 16, 1] := (by decide +kernel : ∀ t : Fin grid0.N, _)
theorem idx6 : ∀ t : Fin cfg0.N, win0_6.index t = ![t.val % 16, 0] := (by decide +kernel : ∀ t : Fin grid0.N, _)
theorem idx7 : ∀ t : Fin cfg0.N, win0_7.index t = ![t.val % 16, 0] := (by decide +kernel : ∀ t : Fin grid0.N, _)
theorem idx8 : ∀ t : Fin cfg0.N, win0_8.index t = ![t.val % 16, 4] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)

theorem blk0 (t : Fin cfg0.N) (r : Fin 512) (j : Fin 1024) : iblk m c 0 t (ix2 r j) = argY m c (ix2 (at512 t.val r) j) := by
  unfold at512
  blk_ext [iblk, V, idx0 t]

theorem blk1 (t : Fin cfg0.N) (r : Fin 512) (j : Fin 1024) : X0_1 m c t (ix2 r j) = argX m c (ix2 (at512 t.val r) (atX j)) := by
  unfold X0_1 Pipeline.Window.fill
  rw [dif_pos (moved0_1 t _)]
  unfold at512 atX
  blk_ext [iblk, V, idx1 t]

theorem blk2 (t : Fin cfg0.N) (r : Fin 512) (j : Fin 1024) : X0_2 m c t (ix2 r j) = argZ m c (ix2 (at512 t.val r) (atZ j)) := by
  unfold X0_2 Pipeline.Window.fill
  rw [dif_pos (moved0_2 t _)]
  unfold at512 atZ
  blk_ext [iblk, V, idx2 t]

theorem blk3 (t : Fin cfg0.N) (j : Fin 1024) : iblk m c 3 t (ix2 0 j) = argD m c (ix2 0 j) := by
  blk_ext [iblk, V, idx3 t]

theorem blk4 (t : Fin cfg0.N) (j : Fin 1024) : iblk m c 4 t (ix2 0 j) = argW m c (ix2 0 j) := by
  blk_ext [iblk, V, idx4 t]

theorem blk5 (t : Fin cfg0.N) (r : Fin 512) (j : Fin 1024) : iblk m c 5 t (ix2 r j) = argO m c (ix2 (at512 t.val r) (atO j)) := by
  unfold at512 atO
  blk_ext [iblk, V, idx5 t]

/-! ### The groups of a point -/

abbrev y0 (t : Fin cfg0.N) : Vec Ideal S512x512 .f32 := View.ld (iblk m c 0 t) (Rect.unit ![0, 0] ![512, 512] inb_S512x1024_S512x512_0_0)
abbrev x0 (t : Fin cfg0.N) : Vec Ideal S512x512 .f32 := View.ld (X0_1 m c t) (Rect.unit ![0, 0] ![512, 512] inb_S512x1024_S512x512_0_0)
abbrev z0 (t : Fin cfg0.N) : Vec Ideal S512x512 .bf16 := View.ld (X0_2 m c t) (Rect.unit ![0, 0] ![512, 512] inb_S512x1024_S512x512_0_0)
abbrev d0 (t : Fin cfg0.N) : Vec Ideal S1x512 .f32 := View.ld (iblk m c 3 t) (Rect.unit ![0, 0] ![1, 512] inb_S1x1024_S1x512_0_0)
abbrev w0 (t : Fin cfg0.N) : Vec Ideal S1x512 .f32 := View.ld (iblk m c 4 t) (Rect.unit ![0, 0] ![1, 512] inb_S1x1024_S1x512_0_0)
abbrev o0 (t : Fin cfg0.N) : Vec Ideal S512x512 .f32 := View.ld (iblk m c 5 t) (Rect.unit ![0, 0] ![512, 512] inb_S512x1024_S512x512_0_0)
abbrev y1 (t : Fin cfg0.N) : Vec Ideal S512x512 .f32 := View.ld (iblk m c 0 t) (Rect.unit ![0, 512] ![512, 512] inb_S512x1024_S512x512_0_512)
abbrev x1 (t : Fin cfg0.N) : Vec Ideal S512x512 .f32 := View.ld (X0_1 m c t) (Rect.unit ![0, 512] ![512, 512] inb_S512x1024_S512x512_0_512)
abbrev z1 (t : Fin cfg0.N) : Vec Ideal S512x512 .bf16 := View.ld (X0_2 m c t) (Rect.unit ![0, 512] ![512, 512] inb_S512x1024_S512x512_0_512)
abbrev d1 (t : Fin cfg0.N) : Vec Ideal S1x512 .f32 := View.ld (iblk m c 3 t) (Rect.unit ![0, 512] ![1, 512] inb_S1x1024_S1x512_0_512)
abbrev w1 (t : Fin cfg0.N) : Vec Ideal S1x512 .f32 := View.ld (iblk m c 4 t) (Rect.unit ![0, 512] ![1, 512] inb_S1x1024_S1x512_0_512)
abbrev o1 (t : Fin cfg0.N) : Vec Ideal S512x512 .f32 := View.ld (iblk m c 5 t) (Rect.unit ![0, 512] ![512, 512] inb_S512x1024_S512x512_0_512)

theorem y0_eq (t : Fin cfg0.N) (r : Fin 512) : ln (y0 m c t) r = colsY (argY m c) (at512 t.val r) 0 :=
  funext fun k => (ld_grp _ 0 0 rfl _ r k).trans (blk0 m c t r (grp 0 k))
theorem x0_eq (t : Fin cfg0.N) (r : Fin 512) : ln (x0 m c t) r = colsX (argX m c) (at512 t.val r) 0 :=
  funext fun k => (ld_grp _ 0 0 rfl _ r k).trans (blk1 m c t r (grp 0 k))
theorem z0_eq (t : Fin cfg0.N) (r : Fin 512) : ln (z0 m c t) r = colsZ (argZ m c) (at512 t.val r) 0 :=
  funext fun k => (ld_grp _ 0 0 rfl _ r k).trans (blk2 m c t r (grp 0 k))
theorem o0_eq (t : Fin cfg0.N) (r : Fin 512) : ln (o0 m c t) r = colsO (argO m c) (at512 t.val r) 0 :=
  funext fun k => (ld_grp _ 0 0 rfl _ r k).trans (blk5 m c t r (grp 0 k))
theorem d0_eq (t : Fin cfg0.N) : ln (d0 m c t) 0 = rowD (argD m c) 0 :=
  funext fun k => (ld_grp _ 0 0 rfl _ 0 k).trans (blk3 m c t (grp 0 k))
theorem w0_eq (t : Fin cfg0.N) : ln (w0 m c t) 0 = rowD (argW m c) 0 :=
  funext fun k => (ld_grp _ 0 0 rfl _ 0 k).trans (blk4 m c t (grp 0 k))

theorem y1_eq (t : Fin cfg0.N) (r : Fin 512) : ln (y1 m c t) r = colsY (argY m c) (at512 t.val r) 1 :=
  funext fun k => (ld_grp _ 1 512 rfl _ r k).trans (blk0 m c t r (grp 1 k))
theorem x1_eq (t : Fin cfg0.N) (r : Fin 512) : ln (x1 m c t) r = colsX (argX m c) (at512 t.val r) 1 :=
  funext fun k => (ld_grp _ 1 512 rfl _ r k).trans (blk1 m c t r (grp 1 k))
theorem z1_eq (t : Fin cfg0.N) (r : Fin 512) : ln (z1 m c t) r = colsZ (argZ m c) (at512 t.val r) 1 :=
  funext fun k => (ld_grp _ 1 512 rfl _ r k).trans (blk2 m c t r (grp 1 k))
theorem o1_eq (t : Fin cfg0.N) (r : Fin 512) : ln (o1 m c t) r = colsO (argO m c) (at512 t.val r) 1 :=
  funext fun k => (ld_grp _ 1 512 rfl _ r k).trans (blk5 m c t r (grp 1 k))
theorem d1_eq (t : Fin cfg0.N) : ln (d1 m c t) 0 = rowD (argD m c) 1 :=
  funext fun k => (ld_grp _ 1 512 rfl _ 0 k).trans (blk3 m c t (grp 1 k))
theorem w1_eq (t : Fin cfg0.N) : ln (w1 m c t) 0 = rowD (argW m c) 1 :=
  funext fun k => (ld_grp _ 1 512 rfl _ 0 k).trans (blk4 m c t (grp 1 k))

/-! ### The outputs of a point -/

theorem out6 (t : Fin cfg0.N) (r : Fin 512) (g : Fin 2) (k : Fin 512) : (outsAt0 m c t.val t.isLt).1 (ix2 r (grp g k)) =
    dY (colsY (argY m c) (at512 t.val r) g) (colsX (argX m c) (at512 t.val r) g) (colsZ (argZ m c) (at512 t.val r) g) (rowD (argD m c) g) (rowD (argW m c) g) (colsO (argO m c) (at512 t.val r) g) k := by
  by_cases h : t.val % 16 = 0
  · rw [outsAt0_A m c t h]; frame_out
    obtain rfl | rfl : g = 0 ∨ g = 1 := by omega
    · rw [canon_grp_ne 0 1 512 rfl (by decide), canon_grp 0 0 rfl]
      exact (G0.dY_eq ..).trans (by simp only [y0_eq, x0_eq, z0_eq, d0_eq, w0_eq, o0_eq])
    · rw [canon_grp 1 512 rfl]
      exact (G1.dY_eq ..).trans (by simp only [y1_eq, x1_eq, z1_eq, d1_eq, w1_eq, o1_eq])
  · rw [outsAt0_B m c t h]; frame_out
    obtain rfl | rfl : g = 0 ∨ g = 1 := by omega
    · rw [canon_grp_ne 0 1 512 rfl (by decide), canon_grp 0 0 rfl]
      exact (G0.dY_eq ..).trans (by simp only [y0_eq, x0_eq, z0_eq, d0_eq, w0_eq, o0_eq])
    · rw [canon_grp 1 512 rfl]
      exact (G1.dY_eq ..).trans (by simp only [y1_eq, x1_eq, z1_eq, d1_eq, w1_eq, o1_eq])

theorem out7 (t : Fin cfg0.N) (r : Fin 512) (g : Fin 2) (k : Fin 512) : (outsAt0 m c t.val t.isLt).2.1 (ix2 r (grp g k)) =
    rowD (argD m c) g k * dY (colsY (argY m c) (at512 t.val r) g) (colsX (argX m c) (at512 t.val r) g) (colsZ (argZ m c) (at512 t.val r) g) (rowD (argD m c) g) (rowD (argW m c) g) (colsO (argO m c) (at512 t.val r) g) k := by
  by_cases h : t.val % 16 = 0
  · rw [outsAt0_A m c t h]; frame_out
    obtain rfl | rfl : g = 0 ∨ g = 1 := by omega
    · rw [canon_grp_ne 0 1 512 rfl (by decide), canon_grp 0 0 rfl]
      exact (G0.dX_eq ..).trans (by simp only [y0_eq, x0_eq, z0_eq, d0_eq, w0_eq, o0_eq])
    · rw [canon_grp 1 512 rfl]
      exact (G1.dX_eq ..).trans (by simp only [y1_eq, x1_eq, z1_eq, d1_eq, w1_eq, o1_eq])
  · rw [outsAt0_B m c t h]; frame_out
    obtain rfl | rfl : g = 0 ∨ g = 1 := by omega
    · rw [canon_grp_ne 0 1 512 rfl (by decide), canon_grp 0 0 rfl]
      exact (G0.dX_eq ..).trans (by simp only [y0_eq, x0_eq, z0_eq, d0_eq, w0_eq, o0_eq])
    · rw [canon_grp 1 512 rfl]
      exact (G1.dX_eq ..).trans (by simp only [y1_eq, x1_eq, z1_eq, d1_eq, w1_eq, o1_eq])

theorem out8 (t : Fin cfg0.N) (r : Fin 512) (g : Fin 2) (k : Fin 512) : (outsAt0 m c t.val t.isLt).2.2.1 (ix2 r (grp g k)) =
    dZ (colsY (argY m c) (at512 t.val r) g) (colsX (argX m c) (at512 t.val r) g) (colsZ (argZ m c) (at512 t.val r) g) (rowD (argD m c) g) (rowD (argW m c) g) (colsO (argO m c) (at512 t.val r) g) k := by
  by_cases h : t.val % 16 = 0
  · rw [outsAt0_A m c t h]; frame_out
    obtain rfl | rfl : g = 0 ∨ g = 1 := by omega
    · rw [canon_grp_ne 0 1 512 rfl (by decide), canon_grp 0 0 rfl]
      exact (G0.dZ_eq ..).trans (by simp only [y0_eq, x0_eq, z0_eq, d0_eq, w0_eq, o0_eq])
    · rw [canon_grp 1 512 rfl]
      exact (G1.dZ_eq ..).trans (by simp only [y1_eq, x1_eq, z1_eq, d1_eq, w1_eq, o1_eq])
  · rw [outsAt0_B m c t h]; frame_out
    obtain rfl | rfl : g = 0 ∨ g = 1 := by omega
    · rw [canon_grp_ne 0 1 512 rfl (by decide), canon_grp 0 0 rfl]
      exact (G0.dZ_eq ..).trans (by simp only [y0_eq, x0_eq, z0_eq, d0_eq, w0_eq, o0_eq])
    · rw [canon_grp 1 512 rfl]
      exact (G1.dZ_eq ..).trans (by simp only [y1_eq, x1_eq, z1_eq, d1_eq, w1_eq, o1_eq])

theorem zero7 (q : Fin 1) (j : Fin 1024) : k0_pay7 (F := Ideal) (ix2 q j) = 0 := by
  pointwise [k0_pay7]

theorem zero8 (q : Fin 1) (j : Fin 1024) : k0_pay8 (F := Ideal) (ix2 q j) = 0 := by
  pointwise [k0_pay8]

/-- What row `r` adds. -/
abbrev row9 (g : Fin 2) (k : Fin 512) (r : Fin 8192) : EReal := addD (colsY (argY m c) r g) (colsX (argX m c) r g) (colsZ (argZ m c) r g) (rowD (argD m c) g) (rowD (argW m c) g) (colsO (argO m c) r g) k

theorem out9_A (t : Fin cfg0.N) (h : t.val % 16 = 0) (g : Fin 2) (k : Fin 512) :
    (outsAt0 m c t.val t.isLt).2.2.2.1 (ix2 0 (grp g k)) = 0 + ∑ r : Fin 512, row9 m c g k (at512 t.val r) := by
  rw [outsAt0_A m c t h]; frame_out
  obtain rfl | rfl : g = 0 ∨ g = 1 := by omega
  · rw [canon_grp_ne 0 1 512 rfl (by decide), canon_grp 0 0 rfl]
    refine (G0.addD_eq ..).trans (congrArg₂ (· + ·) ?_ (Finset.sum_congr rfl fun r _ => by simp only [y0_eq, x0_eq, z0_eq, d0_eq, w0_eq, o0_eq]))
    rw [readCov_grp _ _ 0 0 rfl, canon_fill, zero7]
  · rw [canon_grp 1 512 rfl]
    refine (G1.addD_eq ..).trans (congrArg₂ (· + ·) ?_ (Finset.sum_congr rfl fun r _ => by simp only [y1_eq, x1_eq, z1_eq, d1_eq, w1_eq, o1_eq]))
    rw [readCov_grp _ _ 1 512 rfl, canon_grp_ne 1 0 0 rfl (by decide), canon_fill, zero7]

theorem out9_B (t : Fin cfg0.N) (h : ¬t.val % 16 = 0) (g : Fin 2) (k : Fin 512) :
    (outsAt0 m c t.val t.isLt).2.2.2.1 (ix2 0 (grp g k)) = (outsAt0 m c (t.val - 1) (Nat.lt_of_le_of_lt (Nat.sub_le _ _) t.isLt)).2.2.2.1 (ix2 0 (grp g k))
      + ∑ r : Fin 512, row9 m c g k (at512 t.val r) := by
  rw [outsAt0_B m c t h]; frame_out
  obtain rfl | rfl : g = 0 ∨ g = 1 := by omega
  · rw [canon_grp_ne 0 1 512 rfl (by decide), canon_grp 0 0 rfl]
    exact (G0.addD_eq ..).trans (congrArg₂ (· + ·) (ld_grp _ 0 0 rfl _ 0 k) (Finset.sum_congr rfl fun r _ => by simp only [y0_eq, x0_eq, z0_eq, d0_eq, w0_eq, o0_eq]))
  · rw [canon_grp 1 512 rfl]
    exact (G1.addD_eq ..).trans (congrArg₂ (· + ·) (ld_grp _ 1 512 rfl _ 0 k) (Finset.sum_congr rfl fun r _ => by simp only [y1_eq, x1_eq, z1_eq, d1_eq, w1_eq, o1_eq]))

theorem sum9 (t : Fin cfg0.N) (ht : t.val % 16 = 15) (g : Fin 2) (k : Fin 512) :
    (outsAt0 m c t.val t.isLt).2.2.2.1 (ix2 0 (grp g k)) = ∑ r : Fin 8192, row9 m c g k r :=
  rows_sum (fun n h => (outsAt0 m c n h).2.2.2.1 (ix2 0 (grp g k))) (row9 m c g k) (fun t h => out9_A m c t h g k) (fun t h => out9_B m c t h g k) t ht

/-- What row `r` adds. -/
abbrev row10 (g : Fin 2) (k : Fin 512) (r : Fin 8192) : EReal := addW (colsY (argY m c) r g) (colsX (argX m c) r g) (colsZ (argZ m c) r g) (rowD (argD m c) g) (colsO (argO m c) r g) k

theorem out10_A (t : Fin cfg0.N) (h : t.val % 16 = 0) (g : Fin 2) (k : Fin 512) :
    (outsAt0 m c t.val t.isLt).2.2.2.2 (ix2 0 (grp g k)) = 0 + ∑ r : Fin 512, row10 m c g k (at512 t.val r) := by
  rw [outsAt0_A m c t h]; frame_out
  obtain rfl | rfl : g = 0 ∨ g = 1 := by omega
  · rw [canon_grp_ne 0 1 512 rfl (by decide), canon_grp 0 0 rfl]
    refine (G0.addW_eq ..).trans (congrArg₂ (· + ·) ?_ (Finset.sum_congr rfl fun r _ => by simp only [y0_eq, x0_eq, z0_eq, d0_eq, w0_eq, o0_eq]))
    rw [readCov_grp _ _ 0 0 rfl, canon_fill, zero8]
  · rw [canon_grp 1 512 rfl]
    refine (G1.addW_eq ..).trans (congrArg₂ (· + ·) ?_ (Finset.sum_congr rfl fun r _ => by simp only [y1_eq, x1_eq, z1_eq, d1_eq, w1_eq, o1_eq]))
    rw [readCov_grp _ _ 1 512 rfl, canon_grp_ne 1 0 0 rfl (by decide), canon_fill, zero8]

theorem out10_B (t : Fin cfg0.N) (h : ¬t.val % 16 = 0) (g : Fin 2) (k : Fin 512) :
    (outsAt0 m c t.val t.isLt).2.2.2.2 (ix2 0 (grp g k)) = (outsAt0 m c (t.val - 1) (Nat.lt_of_le_of_lt (Nat.sub_le _ _) t.isLt)).2.2.2.2 (ix2 0 (grp g k))
      + ∑ r : Fin 512, row10 m c g k (at512 t.val r) := by
  rw [outsAt0_B m c t h]; frame_out
  obtain rfl | rfl : g = 0 ∨ g = 1 := by omega
  · rw [canon_grp_ne 0 1 512 rfl (by decide), canon_grp 0 0 rfl]
    exact (G0.addW_eq ..).trans (congrArg₂ (· + ·) (ld_grp _ 0 0 rfl _ 0 k) (Finset.sum_congr rfl fun r _ => by simp only [y0_eq, x0_eq, z0_eq, d0_eq, w0_eq, o0_eq]))
  · rw [canon_grp 1 512 rfl]
    exact (G1.addW_eq ..).trans (congrArg₂ (· + ·) (ld_grp _ 1 512 rfl _ 0 k) (Finset.sum_congr rfl fun r _ => by simp only [y1_eq, x1_eq, z1_eq, d1_eq, w1_eq, o1_eq]))

theorem sum10 (t : Fin cfg0.N) (ht : t.val % 16 = 15) (g : Fin 2) (k : Fin 512) :
    (outsAt0 m c t.val t.isLt).2.2.2.2 (ix2 0 (grp g k)) = ∑ r : Fin 8192, row10 m c g k r :=
  rows_sum (fun n h => (outsAt0 m c n h).2.2.2.2 (ix2 0 (grp g k))) (row10 m c g k) (fun t h => out10_A m c t h g k) (fun t h => out10_B m c t h g k) t ht

/-! ### The arrays -/

theorem final6 : (dats m 0 c).arrAt 6 cfg0.N = val_main_v52 (F := Ideal) (argY m c) (argX m c) (argZ m c) (argD m c) (argW m c) (argO m c) := by
  refine (dats m 0 c).arrAt_eq_of_covers 6 _ (by decide +kernel) fun t hf y => ?_
  blk_simp
  obtain ⟨r, j, rfl⟩ : ∃ (r : Fin 512) (j : Fin 1024), y = ix2 r j := ⟨y 0, y 1, eq_ix2 y⟩
  have he : (win0_6.blk t).view.emb (ix2 r j) = ix2 (at512 t.val r) j := by
    unfold at512
    blk_ext [idx6 t]
  obtain ⟨g, k, rfl⟩ := grp_surj j
  rw [after0_6, he, Cert.SsdOutRefIdeal.Hand.dY_eq]
  exact out6 m c t r g k

theorem final7 : (dats m 0 c).arrAt 7 cfg0.N = val_main_v55 (F := Ideal) (argY m c) (argX m c) (argZ m c) (argD m c) (argW m c) (argO m c) := by
  refine (dats m 0 c).arrAt_eq_of_covers 7 _ (by decide +kernel) fun t hf y => ?_
  blk_simp
  obtain ⟨r, j, rfl⟩ : ∃ (r : Fin 512) (j : Fin 1024), y = ix2 r j := ⟨y 0, y 1, eq_ix2 y⟩
  have he : (win0_7.blk t).view.emb (ix2 r j) = ix2 (at512 t.val r) j := by
    unfold at512
    blk_ext [idx7 t]
  obtain ⟨g, k, rfl⟩ := grp_surj j
  rw [after0_7, he, Cert.SsdOutRefIdeal.Hand.dX_eq]
  exact out7 m c t r g k

theorem final8 : (dats m 0 c).arrAt 8 cfg0.N = val_main_v62 (F := Ideal) (argY m c) (argX m c) (argZ m c) (argD m c) (argW m c) (argO m c) (argP m c) := by
  refine (dats m 0 c).arrAt_eq_of_coversWhere_of_agree 8 _ (fun β => β (1 : Fin 2) = 4) (by decide +kernel) (fun t hf y => ?_) (fun i hi => ?_)
  · blk_simp
    obtain ⟨r, j, hz⟩ : ∃ (r : Fin 512) (j : Fin 1024), (cfg0.win 8).xinj (cfg0.grid.coords t) y = ix2 r j := ⟨_, _, eq_ix2 _⟩
    have h0 : (y (0 : Fin 2)).val = r.val := congrArg (fun z : (⟨2, ![512, 1024]⟩ : Shape).Idx => (z 0).val) hz
    have h1 : (y (1 : Fin 2)).val = j.val := congrArg (fun z : (⟨2, ![512, 1024]⟩ : Shape).Idx => (z 1).val) hz
    have he : (win0_8.blk t).view.emb y = ix2 (at512 t.val r) (atZ j) := by
      unfold at512 atZ
      blk_ext [idx8 t]
      all_goals omega
    obtain ⟨g, k, rfl⟩ := grp_surj j
    rw [hz, after0_8, he, fin_in, Cert.SsdOutRefIdeal.Hand.dZ_eq]
    exact out8 m c t r g k
  · blk_simp [Pipeline.Window.cell_apply] at hi
    rw [A_eq]
    obtain ⟨r, j, rfl⟩ : ∃ (r : Fin 8192) (j : Fin 6656), i = ix2 r j := ⟨i 0, i 1, eq_ix2 i⟩
    exact (fin_out _ _ _ _ _ _ _ r j (by have : ¬(j.val / 1024 = 4) := hi; omega)).symm

theorem final9 : (dats m 0 c).arrAt 9 cfg0.N = val_main_v58 (F := Ideal) (argY m c) (argX m c) (argZ m c) (argD m c) (argW m c) (argO m c) := by
  refine (dats m 0 c).arrAt_eq_of_covers 9 _ (by decide +kernel) fun t hf y => ?_
  blk_simp
  obtain ⟨q, j, rfl⟩ : ∃ (q : Fin 1) (j : Fin 1024), y = ix2 q j := ⟨y 0, y 1, eq_ix2 y⟩
  obtain rfl : q = 0 := Subsingleton.elim _ _
  have he : (win0_9.blk t).view.emb (ix2 0 j) = ix2 0 j := by
    blk_ext [idx9 t]
  obtain ⟨g, k, rfl⟩ := grp_surj j
  rw [after0_9, he, Cert.SsdOutRefIdeal.Hand.dD_eq]
  exact sum9 m c t ((flush0_9 t).mp hf) g k

theorem final10 : (dats m 0 c).arrAt 10 cfg0.N = val_main_v49 (F := Ideal) (argY m c) (argX m c) (argZ m c) (argD m c) (argO m c) := by
  refine (dats m 0 c).arrAt_eq_of_covers 10 _ (by decide +kernel) fun t hf y => ?_
  blk_simp
  obtain ⟨q, j, rfl⟩ : ∃ (q : Fin 1) (j : Fin 1024), y = ix2 q j := ⟨y 0, y 1, eq_ix2 y⟩
  obtain rfl : q = 0 := Subsingleton.elim _ _
  have he : (win0_10.blk t).view.emb (ix2 0 j) = ix2 0 j := by
    blk_ext [idx10 t]
  obtain ⟨g, k, rfl⟩ := grp_surj j
  rw [after0_10, he, Cert.SsdOutRefIdeal.Hand.dW_eq]
  exact sum10 m c t ((flush0_10 t).mp hf) g k

end Cert.SsdOutIdeal.Hand

/-! ### The claims -/

namespace Cert.Proof

open Idealize.ShloMosaic Idealize.ShloMosaic.TcCoe Idealize.SL.Sem Cert.SsdOutIdeal.Hand

theorem SsdOut.reference_frame : Cert.quiescent_SsdOutRefIdeal (hSsdOutRefIdeal := Cert.SsdOutRefIdeal.Gen.facts) := fun m ρ _ =>
  (θ_run Cert.SsdOutRefIdeal.defs _ _).mono (fun r h => ⟨fun c => (h c).2.2.2.2.2, sem_eq_zero_of_no_sems (by decide) r.2⟩)
    (Cert.SsdOutRefIdeal.Value.run (F := Ideal) m ρ)

theorem SsdOut.value : Cert.algebraic_SsdOutIdeal_SsdOutRefIdeal (hSsdOutIdeal := Cert.SsdOutIdeal.Gen.facts) (hSsdOutRefIdeal := Cert.SsdOutRefIdeal.Gen.facts) := by
  intro m ρ m' ρ' _ hagree
  refine ⟨_, _, _, _, _, Cert.SsdOutIdeal.Value.run_blocks (F := Ideal) m ρ,
    (θ_run Cert.SsdOutRefIdeal.defs _ _).mono (fun _ h c => ⟨(h c).1.trans ?_, (h c).2.1.trans ?_, (h c).2.2.1.trans ?_, (h c).2.2.2.1.trans ?_,
      (h c).2.2.2.2.1.trans ?_, (h c).2.2.2.2.2⟩)
      (Cert.SsdOutRefIdeal.Value.run (F := Ideal) m' ρ')⟩
  · exact (Cert.SsdOutRefIdeal.Read.val_main_v52_eq ..).trans ((congr (congr (congr (congr (congr (congrArg Cert.SsdOutRefIdeal.Read.val_main_v52 (hagree c).1) (hagree c).2.1) (hagree c).2.2.1) (hagree c).2.2.2.1) (hagree c).2.2.2.2.1) (hagree c).2.2.2.2.2.1).trans (final6 m c).symm)
  · exact (Cert.SsdOutRefIdeal.Read.val_main_v55_eq ..).trans ((congr (congr (congr (congr (congr (congrArg Cert.SsdOutRefIdeal.Read.val_main_v55 (hagree c).1) (hagree c).2.1) (hagree c).2.2.1) (hagree c).2.2.2.1) (hagree c).2.2.2.2.1) (hagree c).2.2.2.2.2.1).trans (final7 m c).symm)
  · exact (Cert.SsdOutRefIdeal.Read.val_main_v62_eq ..).trans ((congr (congr (congr (congr (congr (congr (congrArg Cert.SsdOutRefIdeal.Read.val_main_v62 (hagree c).1) (hagree c).2.1) (hagree c).2.2.1) (hagree c).2.2.2.1) (hagree c).2.2.2.2.1) (hagree c).2.2.2.2.2.1) (hagree c).2.2.2.2.2.2).trans (final8 m c).symm)
  · exact (Cert.SsdOutRefIdeal.Read.val_main_v58_eq ..).trans ((congr (congr (congr (congr (congr (congrArg Cert.SsdOutRefIdeal.Read.val_main_v58 (hagree c).1) (hagree c).2.1) (hagree c).2.2.1) (hagree c).2.2.2.1) (hagree c).2.2.2.2.1) (hagree c).2.2.2.2.2.1).trans (final9 m c).symm)
  · exact (Cert.SsdOutRefIdeal.Read.val_main_v49_eq ..).trans ((congr (congr (congr (congr (congrArg Cert.SsdOutRefIdeal.Read.val_main_v49 (hagree c).1) (hagree c).2.1) (hagree c).2.2.1) (hagree c).2.2.2.1) (hagree c).2.2.2.2.2.1).trans (final10 m c).symm)

end Cert.Proof

end
-- ==== Proof.SsdOutFwd.lean ====
/-
  The state-space mixer's output forward: the skip connection, the gate and the norm of each group of 512 channels, with the
  functions of a group's row that its gradient uses; the half of the buffer that holds the other mixer's output stays.
-/
module

public import proofs.«01_k».proof.Defs
public import proofs.«01_k».proof.Proof.Gen.SsdOutFwdIdeal.Value
public import proofs.«01_k».proof.Proof.Gen.SsdOutFwdRefIdeal.Run
public import proofs.«01_k».proof.Proof.Gen.SsdOutFwdRefIdeal.Read
public import proofs.«01_k».proof.Proof.RmsSpec
public import proofs.«01_k».proof.Proof.SsdOutRef

@[expose] public section

set_option maxRecDepth 65536

noncomputable section

namespace Cert.SsdOut

/-- The normed row. -/
def normed (y x z d w : Fin 512 → EReal) (j : Fin 512) : EReal :=
  gated y x z d j * Idealize.ShloMosaic.Ideal.rsqrt (ms (gated y x z d)) * w j

end Cert.SsdOut

namespace Cert.SsdOutFwdRefIdeal.Hand

open Cert.SsdOutFwdRefIdeal Cert.SsdOutFwdRefIdeal.Gen Cert.SsdOutFwdRefIdeal.Read Cert.SsdOut Cert.Gdn Idealize.ShloMosaic Idealize.ShloMosaic.TcCoe
open Cert.SsdOutRefIdeal.Hand (colsY colsX colsZ rowD atX atZ atO)

variable (Y : (⟨2, ![8192, 1024]⟩ : Shape).Idx → EReal) (X : (⟨2, ![8192, 1536]⟩ : Shape).Idx → EReal)
  (Z : (⟨2, ![8192, 6656]⟩ : Shape).Idx → EReal) (D W : (⟨2, ![1, 1024]⟩ : Shape).Idx → EReal)
  (O : (⟨2, ![8192, 2048]⟩ : Shape).Idx → EReal)

theorem x_eq (r : Fin 8192) (g : Fin 2) (k : Fin 512) : val_main_v0 (F := Ideal) X (ix2 r (grp g k)) = colsX X r g k := by
  pointwise [val_main_v0]
  unfold colsX
  congr 2

theorem skip_eq (r : Fin 8192) (g : Fin 2) (k : Fin 512) :
    val_main_v5 (F := Ideal) Y X D (ix2 r (grp g k)) = skip (colsY Y r g) (colsX X r g) (rowD D g) k := by
  have h0 := x_eq X r g k
  unfold val_main_v5 val_main_v4 val_main_v3
  generalize val_main_v0 (F := Ideal) X = s at h0 ⊢
  pointwise
  rw [h0]
  rfl

theorem silu_eq (r : Fin 8192) (g : Fin 2) (k : Fin 512) : val_main_v6 (F := Ideal) Z (ix2 r (grp g k)) = silu (colsZ Z r g k) := by
  unfold val_main_v6 val_main_call0_v5 val_main_call0_v4 val_main_call0_cst_0 val_main_call0_v3 val_main_call0_v2 val_main_call0_cst val_main_call0_v1 val_main_call0_v0 val_main_v2 val_main_v1
  pointwise
  rfl

theorem gated_eq (r : Fin 8192) (g : Fin 2) (k : Fin 512) : val_main_v8 (F := Ideal) Y X Z D (ix3 r g k) = gated (colsY Y r g) (colsX X r g) (colsZ Z r g) (rowD D g) k := by
  have h0 := skip_eq Y X D r g k
  have h1 := silu_eq Z r g k
  unfold val_main_v8 val_main_v7
  generalize val_main_v5 (F := Ideal) Y X D = s at h0 ⊢
  generalize val_main_v6 (F := Ideal) Z = s' at h1 ⊢
  pointwise
  exact congrArg₂ (· * ·) h0 h1

theorem normed_eq (r : Fin 8192) (g : Fin 2) (k : Fin 512) :
    val_main_v22 (F := Ideal) Y X Z D W (ix3 r g k) = normed (colsY Y r g) (colsX X r g) (colsZ Z r g) (rowD D g) (rowD W g) k := by
  have h0 := gated_eq Y X Z D r g
  unfold val_main_v22 val_main_v21 val_main_v20 val_main_v19 val_main_v18 val_main_v17 val_main_v16 val_main_v15 val_main_cst_1 val_main_v14 val_main_v13 val_main_cst_0 val_main_v12 val_main_v11 val_main_cst val_main_v10 val_main_v9
  generalize val_main_v8 (F := Ideal) Y X Z D = s at h0 ⊢
  pointwise
  simp only [h0]
  rfl

theorem flat_eq (r : Fin 8192) (g : Fin 2) (k : Fin 512) :
    val_main_v23 (F := Ideal) Y X Z D W (ix2 r (grp g k)) = normed (colsY Y r g) (colsX X r g) (colsZ Z r g) (rowD D g) (rowD W g) k := by
  rw [← normed_eq Y X Z D W r g k]
  unfold val_main_v23
  generalize val_main_v22 (F := Ideal) Y X Z D W = s
  unfold grp
  pointwise

/-- The other mixer's half is what came in. -/
theorem fin_out (r : Fin 8192) (c : Fin 2048) (h : ¬1024 ≤ c.val) : val_main_v26 (F := Ideal) Y X Z D W O (ix2 r c) = O (ix2 r c) := by
  unfold val_main_v26 val_main_v25 val_main_v24
  generalize val_main_v23 (F := Ideal) Y X Z D W = z
  pointwise
  rw [dif_pos (by omega)]

theorem fin_in (r : Fin 8192) (c : Fin 1024) : val_main_v26 (F := Ideal) Y X Z D W O (ix2 r (atO c)) = val_main_v23 (F := Ideal) Y X Z D W (ix2 r c) := by
  unfold val_main_v26 val_main_v25 val_main_v24 atO
  generalize val_main_v23 (F := Ideal) Y X Z D W = z
  pointwise

end Cert.SsdOutFwdRefIdeal.Hand

namespace Cert.SsdOutFwdIdeal.Hand

open Cert.SsdOutFwdIdeal Cert.SsdOutFwdIdeal.Gen Cert.SsdOut Cert.Rms Cert.Gdn Idealize.ShloMosaic Idealize.ShloMosaic.TcCoe Idealize.SL.Sem
open Cert.SsdOutFwdRefIdeal.Read
open Cert.SsdOutFwdRefIdeal.Hand (fin_in fin_out flat_eq)
open Cert.SsdOutRefIdeal.Hand (colsY colsX colsZ rowD atX atZ atO)

/-! ### The body -/

section Body

variable (y x : Vec Ideal S512x512 .f32) (z : Vec Ideal S512x512 .bf16) (d w : Vec Ideal S1x512 .f32)

theorem group0_eq (r : Fin 512) (j : Fin 512) : k0_pay2 (F := Ideal) y x z d w (ix2 r j) = normed (ln y r) (ln x r) (ln z r) (ln d 0) (ln w 0) j := by
  pointwise [k0_pay2]
  rfl

theorem group1_eq (r : Fin 512) (j : Fin 512) : k0_pay1 (F := Ideal) y x (k0_pay3 z) w (k0_pay4 d) (ix2 r j)
    = normed (ln y r) (ln x r) (ln z r) (ln d 0) (ln w 0) j := by
  pointwise [k0_pay1, k0_pay3, k0_pay4]
  rfl

end Body

variable (m : (ℓ : Loc nD τ sig) → Buf (Elt Ideal) ℓ) (c : Dev nD)

/-- The arguments as launched. -/
abbrev argY : (⟨2, ![8192, 1024]⟩ : Shape).Idx → EReal := m ((c.tc : Thread nD τ).loc main_arg0)
abbrev argX : (⟨2, ![8192, 1536]⟩ : Shape).Idx → EReal := m ((c.tc : Thread nD τ).loc main_arg1)
abbrev argZ : (⟨2, ![8192, 6656]⟩ : Shape).Idx → EReal := m ((c.tc : Thread nD τ).loc main_arg2)
abbrev argD : (⟨2, ![1, 1024]⟩ : Shape).Idx → EReal := m ((c.tc : Thread nD τ).loc main_arg3)
abbrev argW : (⟨2, ![1, 1024]⟩ : Shape).Idx → EReal := m ((c.tc : Thread nD τ).loc main_arg4)
abbrev argO : (⟨2, ![8192, 2048]⟩ : Shape).Idx → EReal := m ((c.tc : Thread nD τ).loc main_arg5)

/-! ### Where each point's blocks lie -/

theorem idx0 : ∀ t : Fin cfg0.N, win0_0.index t = ![t.val % 16, 0] := (by decide +kernel : ∀ t : Fin grid0.N, _)
theorem idx1 : ∀ t : Fin cfg0.N, win0_1.index t = ![t.val % 16, 0] := (by decide +kernel : ∀ t : Fin grid0.N, _)
theorem idx2 : ∀ t : Fin cfg0.N, win0_2.index t = ![t.val % 16, 4] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val % 16, 1] := (by decide +kernel : ∀ t : Fin grid0.N, _)

theorem blk0 (t : Fin cfg0.N) (r : Fin 512) (j : Fin 1024) : iblk m c 0 t (ix2 r j) = argY m c (ix2 (at512 t.val r) j) := by
  unfold at512
  blk_ext [iblk, V, idx0 t]

theorem blk1 (t : Fin cfg0.N) (r : Fin 512) (j : Fin 1024) : X0_1 m c t (ix2 r j) = argX m c (ix2 (at512 t.val r) (atX j)) := by
  unfold X0_1 Pipeline.Window.fill
  rw [dif_pos (moved0_1 t _)]
  unfold at512 atX
  blk_ext [iblk, V, idx1 t]

theorem blk2 (t : Fin cfg0.N) (r : Fin 512) (j : Fin 1024) : X0_2 m c t (ix2 r j) = argZ m c (ix2 (at512 t.val r) (atZ j)) := by
  unfold X0_2 Pipeline.Window.fill
  rw [dif_pos (moved0_2 t _)]
  unfold at512 atZ
  blk_ext [iblk, V, idx2 t]

theorem blk3 (t : Fin cfg0.N) (j : Fin 1024) : iblk m c 3 t (ix2 0 j) = argD m c (ix2 0 j) := by
  blk_ext [iblk, V, idx3 t]

theorem blk4 (t : Fin cfg0.N) (j : Fin 1024) : iblk m c 4 t (ix2 0 j) = argW m c (ix2 0 j) := by
  blk_ext [iblk, V, idx4 t]

/-! ### The groups of a point -/

abbrev y0 (t : Fin cfg0.N) : Vec Ideal S512x512 .f32 := View.ld (iblk m c 0 t) (Rect.unit ![0, 0] ![512, 512] inb_S512x1024_S512x512_0_0)
abbrev x0 (t : Fin cfg0.N) : Vec Ideal S512x512 .f32 := View.ld (X0_1 m c t) (Rect.unit ![0, 0] ![512, 512] inb_S512x1024_S512x512_0_0)
abbrev z0 (t : Fin cfg0.N) : Vec Ideal S512x512 .bf16 := View.ld (X0_2 m c t) (Rect.unit ![0, 0] ![512, 512] inb_S512x1024_S512x512_0_0)
abbrev d0 (t : Fin cfg0.N) : Vec Ideal S1x512 .f32 := View.ld (iblk m c 3 t) (Rect.unit ![0, 0] ![1, 512] inb_S1x1024_S1x512_0_0)
abbrev w0 (t : Fin cfg0.N) : Vec Ideal S1x512 .f32 := View.ld (iblk m c 4 t) (Rect.unit ![0, 0] ![1, 512] inb_S1x1024_S1x512_0_0)
abbrev y1 (t : Fin cfg0.N) : Vec Ideal S512x512 .f32 := View.ld (iblk m c 0 t) (Rect.unit ![0, 512] ![512, 512] inb_S512x1024_S512x512_0_512)
abbrev x1 (t : Fin cfg0.N) : Vec Ideal S512x512 .f32 := View.ld (X0_1 m c t) (Rect.unit ![0, 512] ![512, 512] inb_S512x1024_S512x512_0_512)
abbrev z1 (t : Fin cfg0.N) : Vec Ideal S512x512 .bf16 := View.ld (X0_2 m c t) (Rect.unit ![0, 512] ![512, 512] inb_S512x1024_S512x512_0_512)
abbrev d1 (t : Fin cfg0.N) : Vec Ideal S1x512 .f32 := View.ld (iblk m c 3 t) (Rect.unit ![0, 512] ![1, 512] inb_S1x1024_S1x512_0_512)
abbrev w1 (t : Fin cfg0.N) : Vec Ideal S1x512 .f32 := View.ld (iblk m c 4 t) (Rect.unit ![0, 512] ![1, 512] inb_S1x1024_S1x512_0_512)

theorem y0_eq (t : Fin cfg0.N) (r : Fin 512) : ln (y0 m c t) r = colsY (argY m c) (at512 t.val r) 0 :=
  funext fun k => (ld_grp _ 0 0 rfl _ r k).trans (blk0 m c t r (grp 0 k))
theorem x0_eq (t : Fin cfg0.N) (r : Fin 512) : ln (x0 m c t) r = colsX (argX m c) (at512 t.val r) 0 :=
  funext fun k => (ld_grp _ 0 0 rfl _ r k).trans (blk1 m c t r (grp 0 k))
theorem z0_eq (t : Fin cfg0.N) (r : Fin 512) : ln (z0 m c t) r = colsZ (argZ m c) (at512 t.val r) 0 :=
  funext fun k => (ld_grp _ 0 0 rfl _ r k).trans (blk2 m c t r (grp 0 k))
theorem d0_eq (t : Fin cfg0.N) : ln (d0 m c t) 0 = rowD (argD m c) 0 :=
  funext fun k => (ld_grp _ 0 0 rfl _ 0 k).trans (blk3 m c t (grp 0 k))
theorem w0_eq (t : Fin cfg0.N) : ln (w0 m c t) 0 = rowD (argW m c) 0 :=
  funext fun k => (ld_grp _ 0 0 rfl _ 0 k).trans (blk4 m c t (grp 0 k))

theorem y1_eq (t : Fin cfg0.N) (r : Fin 512) : ln (y1 m c t) r = colsY (argY m c) (at512 t.val r) 1 :=
  funext fun k => (ld_grp _ 1 512 rfl _ r k).trans (blk0 m c t r (grp 1 k))
theorem x1_eq (t : Fin cfg0.N) (r : Fin 512) : ln (x1 m c t) r = colsX (argX m c) (at512 t.val r) 1 :=
  funext fun k => (ld_grp _ 1 512 rfl _ r k).trans (blk1 m c t r (grp 1 k))
theorem z1_eq (t : Fin cfg0.N) (r : Fin 512) : ln (z1 m c t) r = colsZ (argZ m c) (at512 t.val r) 1 :=
  funext fun k => (ld_grp _ 1 512 rfl _ r k).trans (blk2 m c t r (grp 1 k))
theorem d1_eq (t : Fin cfg0.N) : ln (d1 m c t) 0 = rowD (argD m c) 1 :=
  funext fun k => (ld_grp _ 1 512 rfl _ 0 k).trans (blk3 m c t (grp 1 k))
theorem w1_eq (t : Fin cfg0.N) : ln (w1 m c t) 0 = rowD (argW m c) 1 :=
  funext fun k => (ld_grp _ 1 512 rfl _ 0 k).trans (blk4 m c t (grp 1 k))

/-! ### The result -/

theorem out5 (t : Fin cfg0.N) (r : Fin 512) (g : Fin 2) (k : Fin 512) : outsAt0 m c t (ix2 r (grp g k)) =
    normed (colsY (argY m c) (at512 t.val r) g) (colsX (argX m c) (at512 t.val r) g) (colsZ (argZ m c) (at512 t.val r) g) (rowD (argD m c) g)
      (rowD (argW m c) g) k := by
  unfold outsAt0
  frame_out
  obtain rfl | rfl : g = 0 ∨ g = 1 := by omega
  · rw [canon_grp_ne 0 1 512 rfl (by decide), canon_grp 0 0 rfl]
    exact (group0_eq ..).trans (by simp only [y0_eq, x0_eq, z0_eq, d0_eq, w0_eq])
  · rw [canon_grp 1 512 rfl]
    exact (group1_eq ..).trans (by simp only [y1_eq, x1_eq, z1_eq, d1_eq, w1_eq])

theorem final5 : (dats m 0 c).arrAt 5 cfg0.N = val_main_v26 (F := Ideal) (argY m c) (argX m c) (argZ m c) (argD m c) (argW m c) (argO m c) := by
  refine (dats m 0 c).arrAt_eq_of_coversWhere_of_agree 5 _ (fun β => β (1 : Fin 2) = 1) (by decide +kernel) (fun t hf y => ?_) (fun i hi => ?_)
  · blk_simp
    obtain ⟨r, j, rfl⟩ : ∃ (r : Fin 512) (j : Fin 1024), y = ix2 r j := ⟨y 0, y 1, eq_ix2 y⟩
    have he : (win0_5.blk t).view.emb (ix2 r j) = ix2 (at512 t.val r) (atO j) := by
      unfold at512 atO
      blk_ext [idx5 t]
    obtain ⟨g, k, rfl⟩ := grp_surj j
    rw [after0_5, he, fin_in, flat_eq]
    exact out5 m c t r g k
  · blk_simp [Pipeline.Window.cell_apply] at hi
    rw [A_eq]
    obtain ⟨r, j, rfl⟩ : ∃ (r : Fin 8192) (j : Fin 2048), i = ix2 r j := ⟨i 0, i 1, eq_ix2 i⟩
    exact (fin_out _ _ _ _ _ _ r j (by have : ¬(j.val / 1024 = 1) := hi; have := j.isLt; omega)).symm

end Cert.SsdOutFwdIdeal.Hand

/-! ### The claims -/

namespace Cert.Proof

open Idealize.ShloMosaic Idealize.ShloMosaic.TcCoe Idealize.SL.Sem Cert.SsdOutFwdIdeal.Hand

theorem SsdOutFwd.reference_frame : Cert.quiescent_SsdOutFwdRefIdeal (hSsdOutFwdRefIdeal := Cert.SsdOutFwdRefIdeal.Gen.facts) := fun m ρ _ =>
  (θ_run Cert.SsdOutFwdRefIdeal.defs _ _).mono (fun r h => ⟨fun c => (h c).2, sem_eq_zero_of_no_sems (by decide) r.2⟩)
    (Cert.SsdOutFwdRefIdeal.Value.run (F := Ideal) m ρ)

theorem SsdOutFwd.value : Cert.algebraic_SsdOutFwdIdeal_SsdOutFwdRefIdeal (hSsdOutFwdIdeal := Cert.SsdOutFwdIdeal.Gen.facts) (hSsdOutFwdRefIdeal := Cert.SsdOutFwdRefIdeal.Gen.facts) := by
  intro m ρ m' ρ' _ hagree
  refine ⟨_, Cert.SsdOutFwdIdeal.Value.run_blocks (F := Ideal) m ρ,
    (θ_run Cert.SsdOutFwdRefIdeal.defs _ _).mono (fun _ h c => ⟨(h c).1.trans ?_, (h c).2⟩) (Cert.SsdOutFwdRefIdeal.Value.run (F := Ideal) m' ρ')⟩
  exact (Cert.SsdOutFwdRefIdeal.Read.val_main_v26_eq ..).trans ((congr (congr (congr (congr (congr (congrArg Cert.SsdOutFwdRefIdeal.Read.val_main_v26 (hagree c).1) (hagree c).2.1) (hagree c).2.2.1) (hagree c).2.2.2.1) (hagree c).2.2.2.2.1) (hagree c).2.2.2.2.2).trans (final5 m c).symm)

end Cert.Proof

end
-- ==== Proof.lean ====
/-
  The claims of the certificate. The frames are the generated ones; the values of the gated convolution's gradient are
  proved in Proof/FfnValue.lean, those of the products in Proof/ProductClaims.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.FfnValue
public import proofs.«01_k».proof.Proof.ProductClaims
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadIdeal.Value
public import proofs.«01_k».proof.Proof.Gen.HeadRefIdeal
public import proofs.«01_k».proof.Proof.Gen.HeadRefIdeal.Run
public import proofs.«01_k».proof.Proof.Gen.HeadRefIdeal.Read
public import proofs.«01_k».proof.Proof.Gen.Act
public import proofs.«01_k».proof.Proof.Gen.Act.Frame
public import proofs.«01_k».proof.Proof.Gen.ActIdeal
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.ActRefIdeal.Read
public import proofs.«01_k».proof.Proof.Gen.SsdConv
public import proofs.«01_k».proof.Proof.Gen.SsdConv.Frame
public import proofs.«01_k».proof.Proof.Gen.SsdConvIdeal
public import proofs.«01_k».proof.Proof.Gen.SsdConvIdeal.Frame
public import proofs.«01_k».proof.Proof.Gen.SsdConvIdeal.Value
public import proofs.«01_k».proof.Proof.Gen.SsdConvRefIdeal
public import proofs.«01_k».proof.Proof.Gen.SsdConvRefIdeal.Run
public import proofs.«01_k».proof.Proof.Gen.SsdConvRefIdeal.Read
public import proofs.«01_k».proof.Proof.Gen.ConvV
public import proofs.«01_k».proof.Proof.Gen.ConvV.Frame
public import proofs.«01_k».proof.Proof.Gen.ConvVIdeal
public import proofs.«01_k».proof.Proof.Gen.ConvVIdeal.Frame
public import proofs.«01_k».proof.Proof.Gen.ConvVIdeal.Value
public import proofs.«01_k».proof.Proof.Gen.ConvVRefIdeal
public import proofs.«01_k».proof.Proof.Gen.ConvVRefIdeal.Run
public import proofs.«01_k».proof.Proof.Gen.ConvVRefIdeal.Read
public import proofs.«01_k».proof.Proof.Gen.ConvK
public import proofs.«01_k».proof.Proof.Gen.ConvK.Frame
public import proofs.«01_k».proof.Proof.Gen.ConvKIdeal
public import proofs.«01_k».proof.Proof.Gen.ConvKIdeal.Frame
public import proofs.«01_k».proof.Proof.Gen.ConvKIdeal.Value
public import proofs.«01_k».proof.Proof.Gen.ConvKRefIdeal
public import proofs.«01_k».proof.Proof.Gen.ConvKRefIdeal.Run
public import proofs.«01_k».proof.Proof.Gen.ConvKRefIdeal.Read
public import proofs.«01_k».proof.Proof.Gen.ConvQ
public import proofs.«01_k».proof.Proof.Gen.ConvQ.Frame
public import proofs.«01_k».proof.Proof.Gen.ConvQIdeal
public import proofs.«01_k».proof.Proof.Gen.ConvQIdeal.Frame
public import proofs.«01_k».proof.Proof.Gen.ConvQIdeal.Value
public import proofs.«01_k».proof.Proof.Gen.ConvQRefIdeal
public import proofs.«01_k».proof.Proof.Gen.ConvQRefIdeal.Run
public import proofs.«01_k».proof.Proof.Gen.ConvQRefIdeal.Read
public import proofs.«01_k».proof.Proof.Gen.InSmall
public import proofs.«01_k».proof.Proof.Gen.InSmall.Frame
public import proofs.«01_k».proof.Proof.Gen.InSmallIdeal
public import proofs.«01_k».proof.Proof.Gen.InSmallIdeal.Frame
public import proofs.«01_k».proof.Proof.Gen.InSmallIdeal.Value
public import proofs.«01_k».proof.Proof.Gen.InSmallRefIdeal
public import proofs.«01_k».proof.Proof.Gen.InSmallRefIdeal.Run
public import proofs.«01_k».proof.Proof.Gen.InSmallRefIdeal.Read
public import proofs.«01_k».proof.Proof.Gen.InSmallDx
public import proofs.«01_k».proof.Proof.Gen.InSmallDx.Frame
public import proofs.«01_k».proof.Proof.Gen.InSmallDxIdeal
public import proofs.«01_k».proof.Proof.Gen.InSmallDxIdeal.Frame
public import proofs.«01_k».proof.Proof.Gen.InSmallDxIdeal.Value
public import proofs.«01_k».proof.Proof.Gen.InSmallDxRefIdeal
public import proofs.«01_k».proof.Proof.Gen.InSmallDxRefIdeal.Run
public import proofs.«01_k».proof.Proof.Gen.InSmallDxRefIdeal.Read
public import proofs.«01_k».proof.Proof.Gen.InSmallDw
public import proofs.«01_k».proof.Proof.Gen.InSmallDw.Frame
public import proofs.«01_k».proof.Proof.Gen.InSmallDwIdeal
public import proofs.«01_k».proof.Proof.Gen.InSmallDwIdeal.Frame
public import proofs.«01_k».proof.Proof.Gen.InSmallDwIdeal.Value
public import proofs.«01_k».proof.Proof.Gen.InSmallDwRefIdeal
public import proofs.«01_k».proof.Proof.Gen.InSmallDwRefIdeal.Run
public import proofs.«01_k».proof.Proof.Gen.InSmallDwRefIdeal.Read
public import proofs.«01_k».proof.Proof.Gen.ConvVFwd
public import proofs.«01_k».proof.Proof.Gen.ConvVFwd.Frame
public import proofs.«01_k».proof.Proof.Gen.ConvVFwdIdeal
public import proofs.«01_k».proof.Proof.Gen.ConvVFwdIdeal.Frame
public import proofs.«01_k».proof.Proof.Gen.ConvVFwdIdeal.Value
public import proofs.«01_k».proof.Proof.Gen.ConvVFwdRefIdeal
public import proofs.«01_k».proof.Proof.Gen.ConvVFwdRefIdeal.Run
public import proofs.«01_k».proof.Proof.Gen.ConvVFwdRefIdeal.Read
public import proofs.«01_k».proof.Proof.Gen.ConvKFwd
public import proofs.«01_k».proof.Proof.Gen.ConvKFwd.Frame
public import proofs.«01_k».proof.Proof.Gen.ConvKFwdIdeal
public import proofs.«01_k».proof.Proof.Gen.ConvKFwdIdeal.Frame
public import proofs.«01_k».proof.Proof.Gen.ConvKFwdIdeal.Value
public import proofs.«01_k».proof.Proof.Gen.ConvKFwdRefIdeal
public import proofs.«01_k».proof.Proof.Gen.ConvKFwdRefIdeal.Run
public import proofs.«01_k».proof.Proof.Gen.ConvKFwdRefIdeal.Read
public import proofs.«01_k».proof.Proof.Gen.ConvQFwd
public import proofs.«01_k».proof.Proof.Gen.ConvQFwd.Frame
public import proofs.«01_k».proof.Proof.Gen.ConvQFwdIdeal
public import proofs.«01_k».proof.Proof.Gen.ConvQFwdIdeal.Frame
public import proofs.«01_k».proof.Proof.Gen.ConvQFwdIdeal.Value
public import proofs.«01_k».proof.Proof.Gen.ConvQFwdRefIdeal
public import proofs.«01_k».proof.Proof.Gen.ConvQFwdRefIdeal.Run
public import proofs.«01_k».proof.Proof.Gen.ConvQFwdRefIdeal.Read
public import proofs.«01_k».proof.Proof.Gen.SsdConvFwd
public import proofs.«01_k».proof.Proof.Gen.SsdConvFwd.Frame
public import proofs.«01_k».proof.Proof.Gen.SsdConvFwdIdeal
public import proofs.«01_k».proof.Proof.Gen.SsdConvFwdIdeal.Frame
public import proofs.«01_k».proof.Proof.Gen.SsdConvFwdIdeal.Value
public import proofs.«01_k».proof.Proof.Gen.SsdConvFwdRefIdeal
public import proofs.«01_k».proof.Proof.Gen.SsdConvFwdRefIdeal.Run
public import proofs.«01_k».proof.Proof.Gen.SsdConvFwdRefIdeal.Read
public import proofs.«01_k».proof.Proof.Gen.Res
public import proofs.«01_k».proof.Proof.Gen.Res.Frame
public import proofs.«01_k».proof.Proof.Gen.ResIdeal
public import proofs.«01_k».proof.Proof.Gen.ResIdeal.Frame
public import proofs.«01_k».proof.Proof.Gen.ResIdeal.Value
public import proofs.«01_k».proof.Proof.Gen.ResRefIdeal
public import proofs.«01_k».proof.Proof.Gen.ResRefIdeal.Run
public import proofs.«01_k».proof.Proof.Gen.ResRefIdeal.Read
public import proofs.«01_k».proof.Proof.Gen.SsdOut
public import proofs.«01_k».proof.Proof.Gen.SsdOut.Frame
public import proofs.«01_k».proof.Proof.Gen.SsdOutIdeal
public import proofs.«01_k».proof.Proof.Gen.SsdOutIdeal.Frame
public import proofs.«01_k».proof.Proof.Gen.SsdOutIdeal.Value
public import proofs.«01_k».proof.Proof.Gen.SsdOutRefIdeal
public import proofs.«01_k».proof.Proof.Gen.SsdOutRefIdeal.Run
public import proofs.«01_k».proof.Proof.Gen.SsdOutRefIdeal.Read
public import proofs.«01_k».proof.Proof.Gen.SsdOutFwd
public import proofs.«01_k».proof.Proof.Gen.SsdOutFwd.Frame
public import proofs.«01_k».proof.Proof.Gen.SsdOutFwdIdeal
public import proofs.«01_k».proof.Proof.Gen.SsdOutFwdIdeal.Frame
public import proofs.«01_k».proof.Proof.Gen.SsdOutFwdIdeal.Value
public import proofs.«01_k».proof.Proof.Gen.SsdOutFwdRefIdeal
public import proofs.«01_k».proof.Proof.Gen.SsdOutFwdRefIdeal.Run
public import proofs.«01_k».proof.Proof.Gen.SsdOutFwdRefIdeal.Read
public import proofs.«01_k».proof.Proof.Norm
public import proofs.«01_k».proof.Proof.Head
public import proofs.«01_k».proof.Proof.Act
public import proofs.«01_k».proof.Proof.SsdConv
public import proofs.«01_k».proof.Proof.ConvV
public import proofs.«01_k».proof.Proof.ConvK
public import proofs.«01_k».proof.Proof.ConvQ
public import proofs.«01_k».proof.Proof.ConvVFwd
public import proofs.«01_k».proof.Proof.ConvKFwd
public import proofs.«01_k».proof.Proof.ConvQFwd
public import proofs.«01_k».proof.Proof.SsdConvFwd
public import proofs.«01_k».proof.Proof.Res
public import proofs.«01_k».proof.Proof.SsdOut
public import proofs.«01_k».proof.Proof.SsdOutFwd
public import Idealize.ShloMosaic.Adequacy
public import Idealize.ShloMosaic.Init

@[expose] public section

noncomputable section

namespace Cert.Proof

open Idealize.ShloMosaic Idealize.SL.Sem Cert.Kernel

theorem ffn_value :
    Cert.algebraic_KernelIdeal_ReferenceIdeal (hKernelIdeal := Cert.KernelIdeal.Gen.facts) (hReferenceIdeal := Cert.ReferenceIdeal.Gen.facts) := by
  intro m ρ m' ρ' _ hagree
  refine ⟨_, _, _, _, _, _, Cert.KernelIdeal.Value.run_blocks (F := Ideal) m ρ, ?_⟩
  refine (θ_run Cert.ReferenceIdeal.defs _ _).mono (fun _ h c => ?_) (Cert.ReferenceIdeal.Value.run (F := Ideal) m' ρ')
  obtain ⟨e0, e1, e2, e3, e4, e5⟩ := reference_values m m' c (hagree c).1 (hagree c).2.1 (hagree c).2.2.1 (hagree c).2.2.2
  exact ⟨(h c).1.trans e0, (h c).2.1.trans e1, (h c).2.2.1.trans e2, (h c).2.2.2.1.trans e3, (h c).2.2.2.2.1.trans e4,
    (h c).2.2.2.2.2.1.trans e5, (h c).2.2.2.2.2.2⟩

theorem claim : Cert.Claim := ⟨Cert.Kernel.Gen.facts, Cert.KernelIdeal.Gen.facts, Cert.ReferenceIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.UpDx.Gen.facts, Cert.UpDxIdeal.Gen.facts, Cert.UpDxRefIdeal.Gen.facts,
  Cert.UpDw.Gen.facts, Cert.UpDwIdeal.Gen.facts, Cert.UpDwRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.InDw.Gen.facts, Cert.InDwIdeal.Gen.facts, Cert.InDwRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Out.Gen.facts, Cert.OutIdeal.Gen.facts, Cert.OutRefIdeal.Gen.facts,
  Cert.Norm.Gen.facts, Cert.NormIdeal.Gen.facts, Cert.NormRefIdeal.Gen.facts,
  Cert.Head.Gen.facts, Cert.HeadIdeal.Gen.facts, Cert.HeadRefIdeal.Gen.facts,
  Cert.Act.Gen.facts, Cert.ActIdeal.Gen.facts, Cert.ActRefIdeal.Gen.facts,
  Cert.SsdConv.Gen.facts, Cert.SsdConvIdeal.Gen.facts, Cert.SsdConvRefIdeal.Gen.facts,
  Cert.ConvV.Gen.facts, Cert.ConvVIdeal.Gen.facts, Cert.ConvVRefIdeal.Gen.facts,
  Cert.ConvK.Gen.facts, Cert.ConvKIdeal.Gen.facts, Cert.ConvKRefIdeal.Gen.facts,
  Cert.ConvQ.Gen.facts, Cert.ConvQIdeal.Gen.facts, Cert.ConvQRefIdeal.Gen.facts,
  Cert.InSmall.Gen.facts, Cert.InSmallIdeal.Gen.facts, Cert.InSmallRefIdeal.Gen.facts,
  Cert.InSmallDx.Gen.facts, Cert.InSmallDxIdeal.Gen.facts, Cert.InSmallDxRefIdeal.Gen.facts,
  Cert.InSmallDw.Gen.facts, Cert.InSmallDwIdeal.Gen.facts, Cert.InSmallDwRefIdeal.Gen.facts,
  Cert.ConvVFwd.Gen.facts, Cert.ConvVFwdIdeal.Gen.facts, Cert.ConvVFwdRefIdeal.Gen.facts,
  Cert.ConvKFwd.Gen.facts, Cert.ConvKFwdIdeal.Gen.facts, Cert.ConvKFwdRefIdeal.Gen.facts,
  Cert.ConvQFwd.Gen.facts, Cert.ConvQFwdIdeal.Gen.facts, Cert.ConvQFwdRefIdeal.Gen.facts,
  Cert.SsdConvFwd.Gen.facts, Cert.SsdConvFwdIdeal.Gen.facts, Cert.SsdConvFwdRefIdeal.Gen.facts,
  Cert.Res.Gen.facts, Cert.ResIdeal.Gen.facts, Cert.ResRefIdeal.Gen.facts,
  Cert.SsdOut.Gen.facts, Cert.SsdOutIdeal.Gen.facts, Cert.SsdOutRefIdeal.Gen.facts,
  Cert.SsdOutFwd.Gen.facts, Cert.SsdOutFwdIdeal.Gen.facts, Cert.SsdOutFwdRefIdeal.Gen.facts,
  fun m ρ _ => Cert.Kernel.Gen.frame m ρ, fun m ρ _ => Cert.KernelIdeal.Gen.frame m ρ, reference_frame,
  fun m ρ _ => Cert.DownDx.Gen.frame m ρ, fun m ρ _ => Cert.DownDxIdeal.Gen.frame m ρ, DownDx.reference_frame,
  fun m ρ _ => Cert.DownDw.Gen.frame m ρ, fun m ρ _ => Cert.DownDwIdeal.Gen.frame m ρ, DownDw.reference_frame,
  fun m ρ _ => Cert.UpDx.Gen.frame m ρ, fun m ρ _ => Cert.UpDxIdeal.Gen.frame m ρ, UpDx.reference_frame,
  fun m ρ _ => Cert.UpDw.Gen.frame m ρ, fun m ρ _ => Cert.UpDwIdeal.Gen.frame m ρ, UpDw.reference_frame,
  fun m ρ _ => Cert.OutDx.Gen.frame m ρ, fun m ρ _ => Cert.OutDxIdeal.Gen.frame m ρ, OutDx.reference_frame,
  fun m ρ _ => Cert.OutDw.Gen.frame m ρ, fun m ρ _ => Cert.OutDwIdeal.Gen.frame m ρ, OutDw.reference_frame,
  fun m ρ _ => Cert.InDw.Gen.frame m ρ, fun m ρ _ => Cert.InDwIdeal.Gen.frame m ρ, InDw.reference_frame,
  fun m ρ _ => Cert.Up.Gen.frame m ρ, fun m ρ _ => Cert.UpIdeal.Gen.frame m ρ, Up.reference_frame,
  fun m ρ _ => Cert.Down.Gen.frame m ρ, fun m ρ _ => Cert.DownIdeal.Gen.frame m ρ, Down.reference_frame,
  fun m ρ _ => Cert.Out.Gen.frame m ρ, fun m ρ _ => Cert.OutIdeal.Gen.frame m ρ, Out.reference_frame,
  fun m ρ _ => Cert.Norm.Gen.frame m ρ, fun m ρ _ => Cert.NormIdeal.Gen.frame m ρ, Norm.reference_frame,
  fun m ρ _ => Cert.Head.Gen.frame m ρ, fun m ρ _ => Cert.HeadIdeal.Gen.frame m ρ, Head.reference_frame,
  fun m ρ _ => Cert.Act.Gen.frame m ρ, fun m ρ _ => Cert.ActIdeal.Gen.frame m ρ, Act.reference_frame,
  fun m ρ _ => Cert.SsdConv.Gen.frame m ρ, fun m ρ _ => Cert.SsdConvIdeal.Gen.frame m ρ, SsdConv.reference_frame,
  fun m ρ _ => Cert.ConvV.Gen.frame m ρ, fun m ρ _ => Cert.ConvVIdeal.Gen.frame m ρ, ConvV.reference_frame,
  fun m ρ _ => Cert.ConvK.Gen.frame m ρ, fun m ρ _ => Cert.ConvKIdeal.Gen.frame m ρ, ConvK.reference_frame,
  fun m ρ _ => Cert.ConvQ.Gen.frame m ρ, fun m ρ _ => Cert.ConvQIdeal.Gen.frame m ρ, ConvQ.reference_frame,
  fun m ρ _ => Cert.InSmall.Gen.frame m ρ, fun m ρ _ => Cert.InSmallIdeal.Gen.frame m ρ, InSmall.reference_frame,
  fun m ρ _ => Cert.InSmallDx.Gen.frame m ρ, fun m ρ _ => Cert.InSmallDxIdeal.Gen.frame m ρ, InSmallDx.reference_frame,
  fun m ρ _ => Cert.InSmallDw.Gen.frame m ρ, fun m ρ _ => Cert.InSmallDwIdeal.Gen.frame m ρ, InSmallDw.reference_frame,
  fun m ρ _ => Cert.ConvVFwd.Gen.frame m ρ, fun m ρ _ => Cert.ConvVFwdIdeal.Gen.frame m ρ, ConvVFwd.reference_frame,
  fun m ρ _ => Cert.ConvKFwd.Gen.frame m ρ, fun m ρ _ => Cert.ConvKFwdIdeal.Gen.frame m ρ, ConvKFwd.reference_frame,
  fun m ρ _ => Cert.ConvQFwd.Gen.frame m ρ, fun m ρ _ => Cert.ConvQFwdIdeal.Gen.frame m ρ, ConvQFwd.reference_frame,
  fun m ρ _ => Cert.SsdConvFwd.Gen.frame m ρ, fun m ρ _ => Cert.SsdConvFwdIdeal.Gen.frame m ρ, SsdConvFwd.reference_frame,
  fun m ρ _ => Cert.Res.Gen.frame m ρ, fun m ρ _ => Cert.ResIdeal.Gen.frame m ρ, Res.reference_frame,
  fun m ρ _ => Cert.SsdOut.Gen.frame m ρ, fun m ρ _ => Cert.SsdOutIdeal.Gen.frame m ρ, SsdOut.reference_frame,
  fun m ρ _ => Cert.SsdOutFwd.Gen.frame m ρ, fun m ρ _ => Cert.SsdOutFwdIdeal.Gen.frame m ρ, SsdOutFwd.reference_frame,
  trivial, ffn_value, trivial, DownDx.value, trivial, DownDw.value, trivial, UpDx.value, trivial, UpDw.value, trivial, OutDx.value, trivial, OutDw.value,
  trivial, InDw.value, trivial, Up.value, trivial, Down.value, trivial, Out.value,
  trivial, Norm.value, trivial, Head.value, trivial, Act.value, trivial, SsdConv.value,
  trivial, ConvV.value, trivial, ConvK.value, trivial, ConvQ.value,
  trivial, InSmall.value, trivial, InSmallDx.value, trivial, InSmallDw.value,
  trivial, ConvVFwd.value, trivial, ConvKFwd.value, trivial, ConvQFwd.value,
  trivial, SsdConvFwd.value, trivial, Res.value, trivial, SsdOut.value,
  trivial, SsdOutFwd.value⟩

end Cert.Proof

end
